-- ==== Defs.lean ====
def Pre_KernelLoss (m : (ℓ : Loc Cert.KernelLoss.nD Cert.KernelLoss.τ Cert.KernelLoss.sig) → Buf (Elt Bits) ℓ) : Prop :=
  True

def Pre_KernelLossIdeal (m : (ℓ : Loc Cert.KernelLossIdeal.nD Cert.KernelLossIdeal.τ Cert.KernelLossIdeal.sig) → Buf (Elt Ideal) ℓ) : Prop :=
  True

def Pre_ReferenceLossIdeal (m : (ℓ : Loc Cert.ReferenceLossIdeal.nD Cert.ReferenceLossIdeal.τ Cert.ReferenceLossIdeal.sig) → Buf (Elt Ideal) ℓ) : Prop :=
  True

def Pre_KernelSgu (m : (ℓ : Loc Cert.KernelSgu.nD Cert.KernelSgu.τ Cert.KernelSgu.sig) → Buf (Elt Bits) ℓ) : Prop :=
  True

def Pre_KernelSguIdeal (m : (ℓ : Loc Cert.KernelSguIdeal.nD Cert.KernelSguIdeal.τ Cert.KernelSguIdeal.sig) → Buf (Elt Ideal) ℓ) : Prop :=
  True

def Pre_KernelSguIdeal_finite_sgu [hPre_finite_sgu : Cert.Pre_finite_sgu.Facts] (m : (ℓ : Loc Cert.KernelSguIdeal.nD Cert.KernelSguIdeal.τ Cert.KernelSguIdeal.sig) → Buf (Elt Ideal) ℓ) : Prop :=
  ∀ c : Dev Cert.KernelSguIdeal.nD,
    (Cert.Pre_finite_sgu.fn (F := Ideal) (m ((c.tc : Thread Cert.KernelSguIdeal.nD Cert.KernelSguIdeal.τ).loc Cert.KernelSguIdeal.main_arg0)) (m ((c.tc : Thread Cert.KernelSguIdeal.nD Cert.KernelSguIdeal.τ).loc Cert.KernelSguIdeal.main_arg1)) (m ((c.tc : Thread Cert.KernelSguIdeal.nD Cert.KernelSguIdeal.τ).loc Cert.KernelSguIdeal.main_arg2)) (m ((c.tc : Thread Cert.KernelSguIdeal.nD Cert.KernelSguIdeal.τ).loc Cert.KernelSguIdeal.main_arg3)) (m ((c.tc : Thread Cert.KernelSguIdeal.nD Cert.KernelSguIdeal.τ).loc Cert.KernelSguIdeal.main_arg4)) (m ((c.tc : Thread Cert.KernelSguIdeal.nD Cert.KernelSguIdeal.τ).loc Cert.KernelSguIdeal.main_arg5)) (m ((c.tc : Thread Cert.KernelSguIdeal.nD Cert.KernelSguIdeal.τ).loc Cert.KernelSguIdeal.main_arg6))) = (fun _ => 1#1)

def Pre_ReferenceSguIdeal (m : (ℓ : Loc Cert.ReferenceSguIdeal.nD Cert.ReferenceSguIdeal.τ Cert.ReferenceSguIdeal.sig) → Buf (Elt Ideal) ℓ) : Prop :=
  True

def Pre_ReferenceSguIdeal_finite_sgu [hPre_finite_sgu : Cert.Pre_finite_sgu.Facts] (m : (ℓ : Loc Cert.ReferenceSguIdeal.nD Cert.ReferenceSguIdeal.τ Cert.ReferenceSguIdeal.sig) → Buf (Elt Ideal) ℓ) : Prop :=
  ∀ c : Dev Cert.ReferenceSguIdeal.nD,
    (Cert.Pre_finite_sgu.fn (F := Ideal) (m ((c.tc : Thread Cert.ReferenceSguIdeal.nD Cert.ReferenceSguIdeal.τ).loc Cert.ReferenceSguIdeal.main_arg0)) (m ((c.tc : Thread Cert.ReferenceSguIdeal.nD Cert.ReferenceSguIdeal.τ).loc Cert.ReferenceSguIdeal.main_arg1)) (m ((c.tc : Thread Cert.ReferenceSguIdeal.nD Cert.ReferenceSguIdeal.τ).loc Cert.ReferenceSguIdeal.main_arg2)) (m ((c.tc : Thread Cert.ReferenceSguIdeal.nD Cert.ReferenceSguIdeal.τ).loc Cert.ReferenceSguIdeal.main_arg3)) (m ((c.tc : Thread Cert.ReferenceSguIdeal.nD Cert.ReferenceSguIdeal.τ).loc Cert.ReferenceSguIdeal.main_arg4)) (m ((c.tc : Thread Cert.ReferenceSguIdeal.nD Cert.ReferenceSguIdeal.τ).loc Cert.ReferenceSguIdeal.main_arg5)) (m ((c.tc : Thread Cert.ReferenceSguIdeal.nD Cert.ReferenceSguIdeal.τ).loc Cert.ReferenceSguIdeal.main_arg6))) = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_KernelDxIdeal_finite_dx [hPre_finite_dx : Cert.Pre_finite_dx.Facts] (m : (ℓ : Loc Cert.KernelDxIdeal.nD Cert.KernelDxIdeal.τ Cert.KernelDxIdeal.sig) → Buf (Elt Ideal) ℓ) : Prop :=
  ∀ c : Dev Cert.KernelDxIdeal.nD,
    (Cert.Pre_finite_dx.fn (F := Ideal) (m ((c.tc : Thread Cert.KernelDxIdeal.nD Cert.KernelDxIdeal.τ).loc Cert.KernelDxIdeal.main_arg0)) (m ((c.tc : Thread Cert.KernelDxIdeal.nD Cert.KernelDxIdeal.τ).loc Cert.KernelDxIdeal.main_arg1)) (m ((c.tc : Thread Cert.KernelDxIdeal.nD Cert.KernelDxIdeal.τ).loc Cert.KernelDxIdeal.main_arg2)) (m ((c.tc : Thread Cert.KernelDxIdeal.nD Cert.KernelDxIdeal.τ).loc Cert.KernelDxIdeal.main_arg3)) (m ((c.tc : Thread Cert.KernelDxIdeal.nD Cert.KernelDxIdeal.τ).loc Cert.KernelDxIdeal.main_arg4)) (m ((c.tc : Thread Cert.KernelDxIdeal.nD Cert.KernelDxIdeal.τ).loc Cert.KernelDxIdeal.main_arg5)) (m ((c.tc : Thread Cert.KernelDxIdeal.nD Cert.KernelDxIdeal.τ).loc Cert.KernelDxIdeal.main_arg6)) (m ((c.tc : Thread Cert.KernelDxIdeal.nD Cert.KernelDxIdeal.τ).loc Cert.KernelDxIdeal.main_arg7))) = (fun _ => 1#1)

def Pre_ReferenceDxIdeal (m : (ℓ : Loc Cert.ReferenceDxIdeal.nD Cert.ReferenceDxIdeal.τ Cert.ReferenceDxIdeal.sig) → Buf (Elt Ideal) ℓ) : Prop :=
  True

def Pre_ReferenceDxIdeal_finite_dx [hPre_finite_dx : Cert.Pre_finite_dx.Facts] (m : (ℓ : Loc Cert.ReferenceDxIdeal.nD Cert.ReferenceDxIdeal.τ Cert.ReferenceDxIdeal.sig) → Buf (Elt Ideal) ℓ) : Prop :=
  ∀ c : Dev Cert.ReferenceDxIdeal.nD,
    (Cert.Pre_finite_dx.fn (F := Ideal) (m ((c.tc : Thread Cert.ReferenceDxIdeal.nD Cert.ReferenceDxIdeal.τ).loc Cert.ReferenceDxIdeal.main_arg0)) (m ((c.tc : Thread Cert.ReferenceDxIdeal.nD Cert.ReferenceDxIdeal.τ).loc Cert.ReferenceDxIdeal.main_arg1)) (m ((c.tc : Thread Cert.ReferenceDxIdeal.nD Cert.ReferenceDxIdeal.τ).loc Cert.ReferenceDxIdeal.main_arg2)) (m ((c.tc : Thread Cert.ReferenceDxIdeal.nD Cert.ReferenceDxIdeal.τ).loc Cert.ReferenceDxIdeal.main_arg3)) (m ((c.tc : Thread Cert.ReferenceDxIdeal.nD Cert.ReferenceDxIdeal.τ).loc Cert.ReferenceDxIdeal.main_arg4)) (m ((c.tc : Thread Cert.ReferenceDxIdeal.nD Cert.ReferenceDxIdeal.τ).loc Cert.ReferenceDxIdeal.main_arg5)) (m ((c.tc : Thread Cert.ReferenceDxIdeal.nD Cert.ReferenceDxIdeal.τ).loc Cert.ReferenceDxIdeal.main_arg6)) (m ((c.tc : Thread Cert.ReferenceDxIdeal.nD Cert.ReferenceDxIdeal.τ).loc Cert.ReferenceDxIdeal.main_arg7))) = (fun _ => 1#1)

def Pre_KernelDxM (m : (ℓ : Loc Cert.KernelDxM.nD Cert.KernelDxM.τ Cert.KernelDxM.sig) → Buf (Elt Bits) ℓ) : Prop :=
  True

def Pre_KernelDxMIdeal (m : (ℓ : Loc Cert.KernelDxMIdeal.nD Cert.KernelDxMIdeal.τ Cert.KernelDxMIdeal.sig) → Buf (Elt Ideal) ℓ) : Prop :=
  True

def Pre_KernelDxMIdeal_finite_dxm [hPre_finite_dxm : Cert.Pre_finite_dxm.Facts] (m : (ℓ : Loc Cert.KernelDxMIdeal.nD Cert.KernelDxMIdeal.τ Cert.KernelDxMIdeal.sig) → Buf (Elt Ideal) ℓ) : Prop :=
  ∀ c : Dev Cert.KernelDxMIdeal.nD,
    (Cert.Pre_finite_dxm.fn (F := Ideal) (m ((c.tc : Thread Cert.KernelDxMIdeal.nD Cert.KernelDxMIdeal.τ).loc Cert.KernelDxMIdeal.main_arg0)) (m ((c.tc : Thread Cert.KernelDxMIdeal.nD Cert.KernelDxMIdeal.τ).loc Cert.KernelDxMIdeal.main_arg1)) (m ((c.tc : Thread Cert.KernelDxMIdeal.nD Cert.KernelDxMIdeal.τ).loc Cert.KernelDxMIdeal.main_arg2)) (m ((c.tc : Thread Cert.KernelDxMIdeal.nD Cert.KernelDxMIdeal.τ).loc Cert.KernelDxMIdeal.main_arg3)) (m ((c.tc : Thread Cert.KernelDxMIdeal.nD Cert.KernelDxMIdeal.τ).loc Cert.KernelDxMIdeal.main_arg4)) (m ((c.tc : Thread Cert.KernelDxMIdeal.nD Cert.KernelDxMIdeal.τ).loc Cert.KernelDxMIdeal.main_arg5)) (m ((c.tc : Thread Cert.KernelDxMIdeal.nD Cert.KernelDxMIdeal.τ).loc Cert.KernelDxMIdeal.main_arg6)) (m ((c.tc : Thread Cert.KernelDxMIdeal.nD Cert.KernelDxMIdeal.τ).loc Cert.KernelDxMIdeal.main_arg7))) = (fun _ => 1#1)

def Pre_ReferenceDxMIdeal (m : (ℓ : Loc Cert.ReferenceDxMIdeal.nD Cert.ReferenceDxMIdeal.τ Cert.ReferenceDxMIdeal.sig) → Buf (Elt Ideal) ℓ) : Prop :=
  True

def Pre_ReferenceDxMIdeal_finite_dxm [hPre_finite_dxm : Cert.Pre_finite_dxm.Facts] (m : (ℓ : Loc Cert.ReferenceDxMIdeal.nD Cert.ReferenceDxMIdeal.τ Cert.ReferenceDxMIdeal.sig) → Buf (Elt Ideal) ℓ) : Prop :=
  ∀ c : Dev Cert.ReferenceDxMIdeal.nD,
    (Cert.Pre_finite_dxm.fn (F := Ideal) (m ((c.tc : Thread Cert.ReferenceDxMIdeal.nD Cert.ReferenceDxMIdeal.τ).loc Cert.ReferenceDxMIdeal.main_arg0)) (m ((c.tc : Thread Cert.ReferenceDxMIdeal.nD Cert.ReferenceDxMIdeal.τ).loc Cert.ReferenceDxMIdeal.main_arg1)) (m ((c.tc : Thread Cert.ReferenceDxMIdeal.nD Cert.ReferenceDxMIdeal.τ).loc Cert.ReferenceDxMIdeal.main_arg2)) (m ((c.tc : Thread Cert.ReferenceDxMIdeal.nD Cert.ReferenceDxMIdeal.τ).loc Cert.ReferenceDxMIdeal.main_arg3)) (m ((c.tc : Thread Cert.ReferenceDxMIdeal.nD Cert.ReferenceDxMIdeal.τ).loc Cert.ReferenceDxMIdeal.main_arg4)) (m ((c.tc : Thread Cert.ReferenceDxMIdeal.nD Cert.ReferenceDxMIdeal.τ).loc Cert.ReferenceDxMIdeal.main_arg5)) (m ((c.tc : Thread Cert.ReferenceDxMIdeal.nD Cert.ReferenceDxMIdeal.τ).loc Cert.ReferenceDxMIdeal.main_arg6)) (m ((c.tc : Thread Cert.ReferenceDxMIdeal.nD Cert.ReferenceDxMIdeal.τ).loc Cert.ReferenceDxMIdeal.main_arg7))) = (fun _ => 1#1)

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_KernelMixIdeal_finite_mix [hPre_finite_mix : Cert.Pre_finite_mix.Facts] (m : (ℓ : Loc Cert.KernelMixIdeal.nD Cert.KernelMixIdeal.τ Cert.KernelMixIdeal.sig) → Buf (Elt Ideal) ℓ) : Prop :=
  ∀ c : Dev Cert.KernelMixIdeal.nD,
    (Cert.Pre_finite_mix.fn (F := Ideal) (m ((c.tc : Thread Cert.KernelMixIdeal.nD Cert.KernelMixIdeal.τ).loc Cert.KernelMixIdeal.main_arg0)) (m ((c.tc : Thread Cert.KernelMixIdeal.nD Cert.KernelMixIdeal.τ).loc Cert.KernelMixIdeal.main_arg1)) (m ((c.tc : Thread Cert.KernelMixIdeal.nD Cert.KernelMixIdeal.τ).loc Cert.KernelMixIdeal.main_arg2)) (m ((c.tc : Thread Cert.KernelMixIdeal.nD Cert.KernelMixIdeal.τ).loc Cert.KernelMixIdeal.main_arg3)) (m ((c.tc : Thread Cert.KernelMixIdeal.nD Cert.KernelMixIdeal.τ).loc Cert.KernelMixIdeal.main_arg4)) (m ((c.tc : Thread Cert.KernelMixIdeal.nD Cert.KernelMixIdeal.τ).loc Cert.KernelMixIdeal.main_arg5)) (m ((c.tc : Thread Cert.KernelMixIdeal.nD Cert.KernelMixIdeal.τ).loc Cert.KernelMixIdeal.main_arg6)) (m ((c.tc : Thread Cert.KernelMixIdeal.nD Cert.KernelMixIdeal.τ).loc Cert.KernelMixIdeal.main_arg7)) (m ((c.tc : Thread Cert.KernelMixIdeal.nD Cert.KernelMixIdeal.τ).loc Cert.KernelMixIdeal.main_arg8))) = (fun _ => 1#1)

def Pre_ReferenceMixIdeal (m : (ℓ : Loc Cert.ReferenceMixIdeal.nD Cert.ReferenceMixIdeal.τ Cert.ReferenceMixIdeal.sig) → Buf (Elt Ideal) ℓ) : Prop :=
  True

def Pre_ReferenceMixIdeal_finite_mix [hPre_finite_mix : Cert.Pre_finite_mix.Facts] (m : (ℓ : Loc Cert.ReferenceMixIdeal.nD Cert.ReferenceMixIdeal.τ Cert.ReferenceMixIdeal.sig) → Buf (Elt Ideal) ℓ) : Prop :=
  ∀ c : Dev Cert.ReferenceMixIdeal.nD,
    (Cert.Pre_finite_mix.fn (F := Ideal) (m ((c.tc : Thread Cert.ReferenceMixIdeal.nD Cert.ReferenceMixIdeal.τ).loc Cert.ReferenceMixIdeal.main_arg0)) (m ((c.tc : Thread Cert.ReferenceMixIdeal.nD Cert.ReferenceMixIdeal.τ).loc Cert.ReferenceMixIdeal.main_arg1)) (m ((c.tc : Thread Cert.ReferenceMixIdeal.nD Cert.ReferenceMixIdeal.τ).loc Cert.ReferenceMixIdeal.main_arg2)) (m ((c.tc : Thread Cert.ReferenceMixIdeal.nD Cert.ReferenceMixIdeal.τ).loc Cert.ReferenceMixIdeal.main_arg3)) (m ((c.tc : Thread Cert.ReferenceMixIdeal.nD Cert.ReferenceMixIdeal.τ).loc Cert.ReferenceMixIdeal.main_arg4)) (m ((c.tc : Thread Cert.ReferenceMixIdeal.nD Cert.ReferenceMixIdeal.τ).loc Cert.ReferenceMixIdeal.main_arg5)) (m ((c.tc : Thread Cert.ReferenceMixIdeal.nD Cert.ReferenceMixIdeal.τ).loc Cert.ReferenceMixIdeal.main_arg6)) (m ((c.tc : Thread Cert.ReferenceMixIdeal.nD Cert.ReferenceMixIdeal.τ).loc Cert.ReferenceMixIdeal.main_arg7)) (m ((c.tc : Thread Cert.ReferenceMixIdeal.nD Cert.ReferenceMixIdeal.τ).loc Cert.ReferenceMixIdeal.main_arg8))) = (fun _ => 1#1)

def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite_ffn [hPre_finite_ffn : Cert.Pre_finite_ffn.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite_ffn.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite_ffn [hPre_finite_ffn : Cert.Pre_finite_ffn.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite_ffn.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))) = (fun _ => 1#1)

def Pre_KernelAda (m : (ℓ : Loc Cert.KernelAda.nD Cert.KernelAda.τ Cert.KernelAda.sig) → Buf (Elt Bits) ℓ) : Prop :=
  True

def Pre_KernelAdaIdeal (m : (ℓ : Loc Cert.KernelAdaIdeal.nD Cert.KernelAdaIdeal.τ Cert.KernelAdaIdeal.sig) → Buf (Elt Ideal) ℓ) : Prop :=
  True

def Pre_ReferenceAdaIdeal (m : (ℓ : Loc Cert.ReferenceAdaIdeal.nD Cert.ReferenceAdaIdeal.τ Cert.ReferenceAdaIdeal.sig) → Buf (Elt Ideal) ℓ) : Prop :=
  True

def Pre_KernelNorm (m : (ℓ : Loc Cert.KernelNorm.nD Cert.KernelNorm.τ Cert.KernelNorm.sig) → Buf (Elt Bits) ℓ) : Prop :=
  True

def Pre_KernelNormIdeal (m : (ℓ : Loc Cert.KernelNormIdeal.nD Cert.KernelNormIdeal.τ Cert.KernelNormIdeal.sig) → Buf (Elt Ideal) ℓ) : Prop :=
  True

def Pre_ReferenceNormIdeal (m : (ℓ : Loc Cert.ReferenceNormIdeal.nD Cert.ReferenceNormIdeal.τ Cert.ReferenceNormIdeal.sig) → Buf (Elt Ideal) ℓ) : Prop :=
  True

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_KernelUpIdeal_finite_up [hPre_finite_up : Cert.Pre_finite_up.Facts] (m : (ℓ : Loc Cert.KernelUpIdeal.nD Cert.KernelUpIdeal.τ Cert.KernelUpIdeal.sig) → Buf (Elt Ideal) ℓ) : Prop :=
  ∀ c : Dev Cert.KernelUpIdeal.nD,
    (Cert.Pre_finite_up.fn (F := Ideal) (m ((c.tc : Thread Cert.KernelUpIdeal.nD Cert.KernelUpIdeal.τ).loc Cert.KernelUpIdeal.main_arg0)) (m ((c.tc : Thread Cert.KernelUpIdeal.nD Cert.KernelUpIdeal.τ).loc Cert.KernelUpIdeal.main_arg1)) (m ((c.tc : Thread Cert.KernelUpIdeal.nD Cert.KernelUpIdeal.τ).loc Cert.KernelUpIdeal.main_arg2))) = (fun _ => 1#1)

def Pre_ReferenceUpIdeal (m : (ℓ : Loc Cert.ReferenceUpIdeal.nD Cert.ReferenceUpIdeal.τ Cert.ReferenceUpIdeal.sig) → Buf (Elt Ideal) ℓ) : Prop :=
  True

def Pre_ReferenceUpIdeal_finite_up [hPre_finite_up : Cert.Pre_finite_up.Facts] (m : (ℓ : Loc Cert.ReferenceUpIdeal.nD Cert.ReferenceUpIdeal.τ Cert.ReferenceUpIdeal.sig) → Buf (Elt Ideal) ℓ) : Prop :=
  ∀ c : Dev Cert.ReferenceUpIdeal.nD,
    (Cert.Pre_finite_up.fn (F := Ideal) (m ((c.tc : Thread Cert.ReferenceUpIdeal.nD Cert.ReferenceUpIdeal.τ).loc Cert.ReferenceUpIdeal.main_arg0)) (m ((c.tc : Thread Cert.ReferenceUpIdeal.nD Cert.ReferenceUpIdeal.τ).loc Cert.ReferenceUpIdeal.main_arg1)) (m ((c.tc : Thread Cert.ReferenceUpIdeal.nD Cert.ReferenceUpIdeal.τ).loc Cert.ReferenceUpIdeal.main_arg2))) = (fun _ => 1#1)

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelMixF (m : (ℓ : Loc Cert.KernelMixF.nD Cert.KernelMixF.τ Cert.KernelMixF.sig) → Buf (Elt Bits) ℓ) : Prop :=
  True

def Pre_KernelMixFIdeal (m : (ℓ : Loc Cert.KernelMixFIdeal.nD Cert.KernelMixFIdeal.τ Cert.KernelMixFIdeal.sig) → Buf (Elt Ideal) ℓ) : Prop :=
  True

def Pre_ReferenceMixFIdeal (m : (ℓ : Loc Cert.ReferenceMixFIdeal.nD Cert.ReferenceMixFIdeal.τ Cert.ReferenceMixFIdeal.sig) → Buf (Elt Ideal) ℓ) : Prop :=
  True

def Pre_KernelSguF (m : (ℓ : Loc Cert.KernelSguF.nD Cert.KernelSguF.τ Cert.KernelSguF.sig) → Buf (Elt Bits) ℓ) : Prop :=
  True

def Pre_KernelSguFIdeal (m : (ℓ : Loc Cert.KernelSguFIdeal.nD Cert.KernelSguFIdeal.τ Cert.KernelSguFIdeal.sig) → Buf (Elt Ideal) ℓ) : Prop :=
  True

def Pre_ReferenceSguFIdeal (m : (ℓ : Loc Cert.ReferenceSguFIdeal.nD Cert.ReferenceSguFIdeal.τ Cert.ReferenceSguFIdeal.sig) → Buf (Elt Ideal) ℓ) : Prop :=
  True

def Pre_KernelAdaF (m : (ℓ : Loc Cert.KernelAdaF.nD Cert.KernelAdaF.τ Cert.KernelAdaF.sig) → Buf (Elt Bits) ℓ) : Prop :=
  True

def Pre_KernelAdaFIdeal (m : (ℓ : Loc Cert.KernelAdaFIdeal.nD Cert.KernelAdaFIdeal.τ Cert.KernelAdaFIdeal.sig) → Buf (Elt Ideal) ℓ) : Prop :=
  True

def Pre_ReferenceAdaFIdeal (m : (ℓ : Loc Cert.ReferenceAdaFIdeal.nD Cert.ReferenceAdaFIdeal.τ Cert.ReferenceAdaFIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelMmTn (m : (ℓ : Loc Cert.KernelMmTn.nD Cert.KernelMmTn.τ Cert.KernelMmTn.sig) → Buf (Elt Bits) ℓ) : Prop :=
  True

def Pre_KernelMmTnIdeal (m : (ℓ : Loc Cert.KernelMmTnIdeal.nD Cert.KernelMmTnIdeal.τ Cert.KernelMmTnIdeal.sig) → Buf (Elt Ideal) ℓ) : Prop :=
  True

def Pre_ReferenceMmTnIdeal (m : (ℓ : Loc Cert.ReferenceMmTnIdeal.nD Cert.ReferenceMmTnIdeal.τ Cert.ReferenceMmTnIdeal.sig) → Buf (Elt Ideal) ℓ) : Prop :=
  True

def Pre_KernelAdamW (m : (ℓ : Loc Cert.KernelAdamW.nD Cert.KernelAdamW.τ Cert.KernelAdamW.sig) → Buf (Elt Bits) ℓ) : Prop :=
  True

def Pre_KernelAdamWIdeal (m : (ℓ : Loc Cert.KernelAdamWIdeal.nD Cert.KernelAdamWIdeal.τ Cert.KernelAdamWIdeal.sig) → Buf (Elt Ideal) ℓ) : Prop :=
  True

def Pre_ReferenceAdamWIdeal (m : (ℓ : Loc Cert.ReferenceAdamWIdeal.nD Cert.ReferenceAdamWIdeal.τ Cert.ReferenceAdamWIdeal.sig) → Buf (Elt Ideal) ℓ) : Prop :=
  True

def Pre_KernelSum (m : (ℓ : Loc Cert.KernelSum.nD Cert.KernelSum.τ Cert.KernelSum.sig) → Buf (Elt Bits) ℓ) : Prop :=
  True

def Pre_KernelSumIdeal (m : (ℓ : Loc Cert.KernelSumIdeal.nD Cert.KernelSumIdeal.τ Cert.KernelSumIdeal.sig) → Buf (Elt Ideal) ℓ) : Prop :=
  True

def Pre_ReferenceSumIdeal (m : (ℓ : Loc Cert.ReferenceSumIdeal.nD Cert.ReferenceSumIdeal.τ Cert.ReferenceSumIdeal.sig) → Buf (Elt Ideal) ℓ) : Prop :=
  True

def Pre_KernelPair [hPre_half_pairs : Cert.Pre_half_pairs.Facts] (m : (ℓ : Loc Cert.KernelPair.nD Cert.KernelPair.τ Cert.KernelPair.sig) → Buf (Elt Bits) ℓ) : Prop :=
  ∀ c : Dev Cert.KernelPair.nD,
    (Cert.Pre_half_pairs.fn (F := Bits) (m ((c.tc : Thread Cert.KernelPair.nD Cert.KernelPair.τ).loc Cert.KernelPair.main_arg0)) (m ((c.tc : Thread Cert.KernelPair.nD Cert.KernelPair.τ).loc Cert.KernelPair.main_arg1)) (m ((c.tc : Thread Cert.KernelPair.nD Cert.KernelPair.τ).loc Cert.KernelPair.main_arg2))) = (fun _ => 1#1)

def Pre_KernelPairIdeal [hPre_half_pairs : Cert.Pre_half_pairs.Facts] (m : (ℓ : Loc Cert.KernelPairIdeal.nD Cert.KernelPairIdeal.τ Cert.KernelPairIdeal.sig) → Buf (Elt Ideal) ℓ) : Prop :=
  ∀ c : Dev Cert.KernelPairIdeal.nD,
    (Cert.Pre_half_pairs.fn (F := Ideal) (m ((c.tc : Thread Cert.KernelPairIdeal.nD Cert.KernelPairIdeal.τ).loc Cert.KernelPairIdeal.main_arg0)) (m ((c.tc : Thread Cert.KernelPairIdeal.nD Cert.KernelPairIdeal.τ).loc Cert.KernelPairIdeal.main_arg1)) (m ((c.tc : Thread Cert.KernelPairIdeal.nD Cert.KernelPairIdeal.τ).loc Cert.KernelPairIdeal.main_arg2))) = (fun _ => 1#1)

def Pre_ReferencePairIdeal [hPre_half_pairs : Cert.Pre_half_pairs.Facts] (m : (ℓ : Loc Cert.ReferencePairIdeal.nD Cert.ReferencePairIdeal.τ Cert.ReferencePairIdeal.sig) → Buf (Elt Ideal) ℓ) : Prop :=
  ∀ c : Dev Cert.ReferencePairIdeal.nD,
    (Cert.Pre_half_pairs.fn (F := Ideal) (m ((c.tc : Thread Cert.ReferencePairIdeal.nD Cert.ReferencePairIdeal.τ).loc Cert.ReferencePairIdeal.main_arg0)) (m ((c.tc : Thread Cert.ReferencePairIdeal.nD Cert.ReferencePairIdeal.τ).loc Cert.ReferencePairIdeal.main_arg1)) (m ((c.tc : Thread Cert.ReferencePairIdeal.nD Cert.ReferencePairIdeal.τ).loc Cert.ReferencePairIdeal.main_arg2))) = (fun _ => 1#1)

def Pre_KernelAttB (m : (ℓ : Loc Cert.KernelAttB.nD Cert.KernelAttB.τ Cert.KernelAttB.sig) → Buf (Elt Bits) ℓ) : Prop :=
  True

def Pre_KernelAttBIdeal (m : (ℓ : Loc Cert.KernelAttBIdeal.nD Cert.KernelAttBIdeal.τ Cert.KernelAttBIdeal.sig) → Buf (Elt Ideal) ℓ) : Prop :=
  True

def Pre_KernelAttF (m : (ℓ : Loc Cert.KernelAttF.nD Cert.KernelAttF.τ Cert.KernelAttF.sig) → Buf (Elt Bits) ℓ) : Prop :=
  True

def Pre_KernelAttFIdeal (m : (ℓ : Loc Cert.KernelAttFIdeal.nD Cert.KernelAttFIdeal.τ Cert.KernelAttFIdeal.sig) → Buf (Elt Ideal) ℓ) : Prop :=
  True

def quiescent_KernelLoss [hKernelLoss : Cert.KernelLoss.Facts] : Prop :=
  ∀ (m : (ℓ : Loc Cert.KernelLoss.nD Cert.KernelLoss.τ Cert.KernelLoss.sig) → Buf (Elt Bits) ℓ) (g : Dev Cert.KernelLoss.nD → PrngReg), Pre_KernelLoss m →
    θ_run (Cert.KernelLoss.defs (F := Bits)) (onTc (τ := Cert.KernelLoss.τ) (Cert.KernelLoss.main (F := Bits))) ⟨m, fun _ => 0, g⟩ (fun r => (∀ c : Dev Cert.KernelLoss.nD,
      r.2.mem ((c.tc : Thread Cert.KernelLoss.nD Cert.KernelLoss.τ).loc Cert.KernelLoss.main_arg0) = m ((c.tc : Thread Cert.KernelLoss.nD Cert.KernelLoss.τ).loc Cert.KernelLoss.main_arg0)
      ∧ r.2.mem ((c.tc : Thread Cert.KernelLoss.nD Cert.KernelLoss.τ).loc Cert.KernelLoss.main_arg1) = m ((c.tc : Thread Cert.KernelLoss.nD Cert.KernelLoss.τ).loc Cert.KernelLoss.main_arg1)
      ∧ r.2.mem ((c.tc : Thread Cert.KernelLoss.nD Cert.KernelLoss.τ).loc Cert.KernelLoss.main_arg2) = m ((c.tc : Thread Cert.KernelLoss.nD Cert.KernelLoss.τ).loc Cert.KernelLoss.main_arg2)
      ∧ r.2.mem ((c.tc : Thread Cert.KernelLoss.nD Cert.KernelLoss.τ).loc Cert.KernelLoss.main_arg3) = m ((c.tc : Thread Cert.KernelLoss.nD Cert.KernelLoss.τ).loc Cert.KernelLoss.main_arg3)
      ∧ r.2.mem ((c.tc : Thread Cert.KernelLoss.nD Cert.KernelLoss.τ).loc Cert.KernelLoss.main_arg4) = m ((c.tc : Thread Cert.KernelLoss.nD Cert.KernelLoss.τ).loc Cert.KernelLoss.main_arg4))
      ∧ r.2.sem = fun _ => 0)

def quiescent_KernelLossIdeal [hKernelLossIdeal : Cert.KernelLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg), Pre_KernelLossIdeal m →
    θ_run (Cert.KernelLossIdeal.defs (F := Ideal)) (onTc (τ := Cert.KernelLossIdeal.τ) (Cert.KernelLossIdeal.main (F := Ideal))) ⟨m, fun _ => 0, g⟩ (fun r => (∀ c : Dev Cert.KernelLossIdeal.nD,
      r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
      ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
      ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
      ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
      ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ r.2.sem = fun _ => 0)

def quiescent_ReferenceLossIdeal [hReferenceLossIdeal : Cert.ReferenceLossIdeal.Facts] : Prop :=
  ∀ (m : (ℓ : Loc Cert.ReferenceLossIdeal.nD Cert.ReferenceLossIdeal.τ Cert.ReferenceLossIdeal.sig) → Buf (Elt Ideal) ℓ) (g : Dev Cert.ReferenceLossIdeal.nD → PrngReg), Pre_ReferenceLossIdeal m →
    θ_run (Cert.ReferenceLossIdeal.defs (F := Ideal)) (onTc (τ := Cert.ReferenceLossIdeal.τ) (Cert.ReferenceLossIdeal.main (F := Ideal))) ⟨m, fun _ => 0, g⟩ (fun r => (∀ c : Dev Cert.ReferenceLossIdeal.nD,
      r.2.mem ((c.tc : Thread Cert.ReferenceLossIdeal.nD Cert.ReferenceLossIdeal.τ).loc Cert.ReferenceLossIdeal.main_arg0) = m ((c.tc : Thread Cert.ReferenceLossIdeal.nD Cert.ReferenceLossIdeal.τ).loc Cert.ReferenceLossIdeal.main_arg0)
      ∧ r.2.mem ((c.tc : Thread Cert.ReferenceLossIdeal.nD Cert.ReferenceLossIdeal.τ).loc Cert.ReferenceLossIdeal.main_arg1) = m ((c.tc : Thread Cert.ReferenceLossIdeal.nD Cert.ReferenceLossIdeal.τ).loc Cert.ReferenceLossIdeal.main_arg1)
      ∧ r.2.mem ((c.tc : Thread Cert.ReferenceLossIdeal.nD Cert.ReferenceLossIdeal.τ).loc Cert.ReferenceLossIdeal.main_arg2) = m ((c.tc : Thread Cert.ReferenceLossIdeal.nD Cert.ReferenceLossIdeal.τ).loc Cert.ReferenceLossIdeal.main_arg2)
      ∧ r.2.mem ((c.tc : Thread Cert.ReferenceLossIdeal.nD Cert.ReferenceLossIdeal.τ).loc Cert.ReferenceLossIdeal.main_arg3) = m ((c.tc : Thread Cert.ReferenceLossIdeal.nD Cert.ReferenceLossIdeal.τ).loc Cert.ReferenceLossIdeal.main_arg3)
      ∧ r.2.mem ((c.tc : Thread Cert.ReferenceLossIdeal.nD Cert.ReferenceLossIdeal.τ).loc Cert.ReferenceLossIdeal.main_arg4) = m ((c.tc : Thread Cert.ReferenceLossIdeal.nD Cert.ReferenceLossIdeal.τ).loc Cert.ReferenceLossIdeal.main_arg4))
      ∧ r.2.sem = fun _ => 0)

def quiescent_KernelSgu [hKernelSgu : Cert.KernelSgu.Facts] : Prop :=
  ∀ (m : (ℓ : Loc Cert.KernelSgu.nD Cert.KernelSgu.τ Cert.KernelSgu.sig) → Buf (Elt Bits) ℓ) (g : Dev Cert.KernelSgu.nD → PrngReg), Pre_KernelSgu m →
    θ_run (Cert.KernelSgu.defs (F := Bits)) (onTc (τ := Cert.KernelSgu.τ) (Cert.KernelSgu.main (F := Bits))) ⟨m, fun _ => 0, g⟩ (fun r => (∀ c : Dev Cert.KernelSgu.nD,
      r.2.mem ((c.tc : Thread Cert.KernelSgu.nD Cert.KernelSgu.τ).loc Cert.KernelSgu.main_arg0) = m ((c.tc : Thread Cert.KernelSgu.nD Cert.KernelSgu.τ).loc Cert.KernelSgu.main_arg0)
      ∧ r.2.mem ((c.tc : Thread Cert.KernelSgu.nD Cert.KernelSgu.τ).loc Cert.KernelSgu.main_arg1) = m ((c.tc : Thread Cert.KernelSgu.nD Cert.KernelSgu.τ).loc Cert.KernelSgu.main_arg1)
      ∧ r.2.mem ((c.tc : Thread Cert.KernelSgu.nD Cert.KernelSgu.τ).loc Cert.KernelSgu.main_arg2) = m ((c.tc : Thread Cert.KernelSgu.nD Cert.KernelSgu.τ).loc Cert.KernelSgu.main_arg2)
      ∧ r.2.mem ((c.tc : Thread Cert.KernelSgu.nD Cert.KernelSgu.τ).loc Cert.KernelSgu.main_arg3) = m ((c.tc : Thread Cert.KernelSgu.nD Cert.KernelSgu.τ).loc Cert.KernelSgu.main_arg3)
      ∧ r.2.mem ((c.tc : Thread Cert.KernelSgu.nD Cert.KernelSgu.τ).loc Cert.KernelSgu.main_arg4) = m ((c.tc : Thread Cert.KernelSgu.nD Cert.KernelSgu.τ).loc Cert.KernelSgu.main_arg4)
      ∧ r.2.mem ((c.tc : Thread Cert.KernelSgu.nD Cert.KernelSgu.τ).loc Cert.KernelSgu.main_arg5) = m ((c.tc : Thread Cert.KernelSgu.nD Cert.KernelSgu.τ).loc Cert.KernelSgu.main_arg5)
      ∧ r.2.mem ((c.tc : Thread Cert.KernelSgu.nD Cert.KernelSgu.τ).loc Cert.KernelSgu.main_arg6) = m ((c.tc : Thread Cert.KernelSgu.nD Cert.KernelSgu.τ).loc Cert.KernelSgu.main_arg6))
      ∧ r.2.sem = fun _ => 0)

def quiescent_KernelSguIdeal [hKernelSguIdeal : Cert.KernelSguIdeal.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
      ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
      ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6))
      ∧ r.2.sem = fun _ => 0)

def quiescent_KernelSguIdeal_pre_finite_sgu [hKernelSguIdeal : Cert.KernelSguIdeal.Facts] [hPre_finite_sgu : Cert.Pre_finite_sgu.Facts] : Prop :=
  ∀ (m : (ℓ : Loc Cert.KernelSguIdeal.nD Cert.KernelSguIdeal.τ Cert.KernelSguIdeal.sig) → Buf (Elt Ideal) ℓ) (g : Dev Cert.KernelSguIdeal.nD → PrngReg), Pre_KernelSguIdeal_finite_sgu m →
    θ_run (Cert.KernelSguIdeal.defs (F := Ideal)) (onTc (τ := Cert.KernelSguIdeal.τ) (Cert.KernelSguIdeal.main (F := Ideal))) ⟨m, fun _ => 0, g⟩ (fun r => (∀ c : Dev Cert.KernelSguIdeal.nD,
      r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
      ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
      ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
      ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
      ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
      ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
      ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6))
      ∧ r.2.sem = fun _ => 0)

def quiescent_ReferenceSguIdeal [hReferenceSguIdeal : Cert.ReferenceSguIdeal.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4)
      ∧ r.2.mem ((c.tc : Thread Cert.ReferenceSguIdeal.nD Cert.ReferenceSguIdeal.τ).loc Cert.ReferenceSguIdeal.main_arg5) = m ((c.tc : Thread Cert.ReferenceSguIdeal.nD Cert.ReferenceSguIdeal.τ).loc Cert.ReferenceSguIdeal.main_arg5)
      ∧ r.2.mem ((c.tc : Thread Cert.ReferenceSguIdeal.nD Cert.ReferenceSguIdeal.τ).loc Cert.ReferenceSguIdeal.main_arg6) = m ((c.tc : Thread Cert.ReferenceSguIdeal.nD Cert.ReferenceSguIdeal.τ).loc Cert.ReferenceSguIdeal.main_arg6))
      ∧ r.2.sem = fun _ => 0)

def quiescent_ReferenceSguIdeal_pre_finite_sgu [hReferenceSguIdeal : Cert.ReferenceSguIdeal.Facts] [hPre_finite_sgu : Cert.Pre_finite_sgu.Facts] : Prop :=
  ∀ (m : (ℓ : Loc Cert.ReferenceSguIdeal.nD Cert.ReferenceSguIdeal.τ Cert.ReferenceSguIdeal.sig) → Buf (Elt Ideal) ℓ) (g : Dev Cert.ReferenceSguIdeal.nD → PrngReg), Pre_ReferenceSguIdeal_finite_sgu m →
    θ_run (Cert.ReferenceSguIdeal.defs (F := Ideal)) (onTc (τ := Cert.ReferenceSguIdeal.τ) (Cert.ReferenceSguIdeal.main (F := Ideal))) ⟨m, fun _ => 0, g⟩ (fun r => (∀ c : Dev Cert.ReferenceSguIdeal.nD,
      r.2.mem ((c.tc : Thread Cert.ReferenceSguIdeal.nD Cert.ReferenceSguIdeal.τ).loc Cert.ReferenceSguIdeal.main_arg0) = m ((c.tc : Thread Cert.ReferenceSguIdeal.nD Cert.ReferenceSguIdeal.τ).loc Cert.ReferenceSguIdeal.main_arg0)
      ∧ r.2.mem ((c.tc : Thread Cert.ReferenceSguIdeal.nD Cert.ReferenceSguIdeal.τ).loc Cert.ReferenceSguIdeal.main_arg1) = m ((c.tc : Thread Cert.ReferenceSguIdeal.nD Cert.ReferenceSguIdeal.τ).loc Cert.ReferenceSguIdeal.main_arg1)
      ∧ r.2.mem ((c.tc : Thread Cert.ReferenceSguIdeal.nD Cert.ReferenceSguIdeal.τ).loc Cert.ReferenceSguIdeal.main_arg2) = m ((c.tc : Thread Cert.ReferenceSguIdeal.nD Cert.ReferenceSguIdeal.τ).loc Cert.ReferenceSguIdeal.main_arg2)
      ∧ r.2.mem ((c.tc : Thread Cert.ReferenceSguIdeal.nD Cert.ReferenceSguIdeal.τ).loc Cert.ReferenceSguIdeal.main_arg3) = m ((c.tc : Thread Cert.ReferenceSguIdeal.nD Cert.ReferenceSguIdeal.τ).loc Cert.ReferenceSguIdeal.main_arg3)
      ∧ r.2.mem ((c.tc : Thread Cert.ReferenceSguIdeal.nD Cert.ReferenceSguIdeal.τ).loc Cert.ReferenceSguIdeal.main_arg4) = m ((c.tc : Thread Cert.ReferenceSguIdeal.nD Cert.ReferenceSguIdeal.τ).loc Cert.ReferenceSguIdeal.main_arg4)
      ∧ r.2.mem ((c.tc : Thread Cert.ReferenceSguIdeal.nD Cert.ReferenceSguIdeal.τ).loc Cert.ReferenceSguIdeal.main_arg5) = m ((c.tc : Thread Cert.ReferenceSguIdeal.nD Cert.ReferenceSguIdeal.τ).loc Cert.ReferenceSguIdeal.main_arg5)
      ∧ r.2.mem ((c.tc : Thread Cert.ReferenceSguIdeal.nD Cert.ReferenceSguIdeal.τ).loc Cert.ReferenceSguIdeal.main_arg6) = m ((c.tc : Thread Cert.ReferenceSguIdeal.nD Cert.ReferenceSguIdeal.τ).loc Cert.ReferenceSguIdeal.main_arg6))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3)
      ∧ r.2.mem ((c.tc : Thread Cert.KernelDx.nD Cert.KernelDx.τ).loc Cert.KernelDx.main_arg4) = m ((c.tc : Thread Cert.KernelDx.nD Cert.KernelDx.τ).loc Cert.KernelDx.main_arg4)
      ∧ r.2.mem ((c.tc : Thread Cert.KernelDx.nD Cert.KernelDx.τ).loc Cert.KernelDx.main_arg5) = m ((c.tc : Thread Cert.KernelDx.nD Cert.KernelDx.τ).loc Cert.KernelDx.main_arg5)
      ∧ r.2.mem ((c.tc : Thread Cert.KernelDx.nD Cert.KernelDx.τ).loc Cert.KernelDx.main_arg6) = m ((c.tc : Thread Cert.KernelDx.nD Cert.KernelDx.τ).loc Cert.KernelDx.main_arg6)
      ∧ r.2.mem ((c.tc : Thread Cert.KernelDx.nD Cert.KernelDx.τ).loc Cert.KernelDx.main_arg7) = m ((c.tc : Thread Cert.KernelDx.nD Cert.KernelDx.τ).loc Cert.KernelDx.main_arg7))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
      ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7))
      ∧ r.2.sem = fun _ => 0)

def quiescent_KernelDxIdeal_pre_finite_dx [hKernelDxIdeal : Cert.KernelDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal_finite_dx m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
      ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
      ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
      ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
      ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6)
      ∧ r.2.mem ((c.tc : Thread Cert.ReferenceDxIdeal.nD Cert.ReferenceDxIdeal.τ).loc Cert.ReferenceDxIdeal.main_arg7) = m ((c.tc : Thread Cert.ReferenceDxIdeal.nD Cert.ReferenceDxIdeal.τ).loc Cert.ReferenceDxIdeal.main_arg7))
      ∧ r.2.sem = fun _ => 0)

def quiescent_ReferenceDxIdeal_pre_finite_dx [hReferenceDxIdeal : Cert.ReferenceDxIdeal.Facts] [hPre_finite_dx : Cert.Pre_finite_dx.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal_finite_dx m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3)
      ∧ r.2.mem ((c.tc : Thread Cert.ReferenceDxIdeal.nD Cert.ReferenceDxIdeal.τ).loc Cert.ReferenceDxIdeal.main_arg4) = m ((c.tc : Thread Cert.ReferenceDxIdeal.nD Cert.ReferenceDxIdeal.τ).loc Cert.ReferenceDxIdeal.main_arg4)
      ∧ r.2.mem ((c.tc : Thread Cert.ReferenceDxIdeal.nD Cert.ReferenceDxIdeal.τ).loc Cert.ReferenceDxIdeal.main_arg5) = m ((c.tc : Thread Cert.ReferenceDxIdeal.nD Cert.ReferenceDxIdeal.τ).loc Cert.ReferenceDxIdeal.main_arg5)
      ∧ r.2.mem ((c.tc : Thread Cert.ReferenceDxIdeal.nD Cert.ReferenceDxIdeal.τ).loc Cert.ReferenceDxIdeal.main_arg6) = m ((c.tc : Thread Cert.ReferenceDxIdeal.nD Cert.ReferenceDxIdeal.τ).loc Cert.ReferenceDxIdeal.main_arg6)
      ∧ r.2.mem ((c.tc : Thread Cert.ReferenceDxIdeal.nD Cert.ReferenceDxIdeal.τ).loc Cert.ReferenceDxIdeal.main_arg7) = m ((c.tc : Thread Cert.ReferenceDxIdeal.nD Cert.ReferenceDxIdeal.τ).loc Cert.ReferenceDxIdeal.main_arg7))
      ∧ r.2.sem = fun _ => 0)

def quiescent_KernelDxM [hKernelDxM : Cert.KernelDxM.Facts] : Prop :=
  ∀ (m : (ℓ : Loc Cert.KernelDxM.nD Cert.KernelDxM.τ Cert.KernelDxM.sig) → Buf (Elt Bits) ℓ) (g : Dev Cert.KernelDxM.nD → PrngReg), Pre_KernelDxM m →
    θ_run (Cert.KernelDxM.defs (F := Bits)) (onTc (τ := Cert.KernelDxM.τ) (Cert.KernelDxM.main (F := Bits))) ⟨m, fun _ => 0, g⟩ (fun r => (∀ c : Dev Cert.KernelDxM.nD,
      r.2.mem ((c.tc : Thread Cert.KernelDxM.nD Cert.KernelDxM.τ).loc Cert.KernelDxM.main_arg0) = m ((c.tc : Thread Cert.KernelDxM.nD Cert.KernelDxM.τ).loc Cert.KernelDxM.main_arg0)
      ∧ r.2.mem ((c.tc : Thread Cert.KernelDxM.nD Cert.KernelDxM.τ).loc Cert.KernelDxM.main_arg1) = m ((c.tc : Thread Cert.KernelDxM.nD Cert.KernelDxM.τ).loc Cert.KernelDxM.main_arg1)
      ∧ r.2.mem ((c.tc : Thread Cert.KernelDxM.nD Cert.KernelDxM.τ).loc Cert.KernelDxM.main_arg2) = m ((c.tc : Thread Cert.KernelDxM.nD Cert.KernelDxM.τ).loc Cert.KernelDxM.main_arg2)
      ∧ r.2.mem ((c.tc : Thread Cert.KernelDxM.nD Cert.KernelDxM.τ).loc Cert.KernelDxM.main_arg3) = m ((c.tc : Thread Cert.KernelDxM.nD Cert.KernelDxM.τ).loc Cert.KernelDxM.main_arg3)
      ∧ r.2.mem ((c.tc : Thread Cert.KernelDxM.nD Cert.KernelDxM.τ).loc Cert.KernelDxM.main_arg4) = m ((c.tc : Thread Cert.KernelDxM.nD Cert.KernelDxM.τ).loc Cert.KernelDxM.main_arg4)
      ∧ r.2.mem ((c.tc : Thread Cert.KernelDxM.nD Cert.KernelDxM.τ).loc Cert.KernelDxM.main_arg5) = m ((c.tc : Thread Cert.KernelDxM.nD Cert.KernelDxM.τ).loc Cert.KernelDxM.main_arg5)
      ∧ r.2.mem ((c.tc : Thread Cert.KernelDxM.nD Cert.KernelDxM.τ).loc Cert.KernelDxM.main_arg6) = m ((c.tc : Thread Cert.KernelDxM.nD Cert.KernelDxM.τ).loc Cert.KernelDxM.main_arg6)
      ∧ r.2.mem ((c.tc : Thread Cert.KernelDxM.nD Cert.KernelDxM.τ).loc Cert.KernelDxM.main_arg7) = m ((c.tc : Thread Cert.KernelDxM.nD Cert.KernelDxM.τ).loc Cert.KernelDxM.main_arg7))
      ∧ r.2.sem = fun _ => 0)

def quiescent_KernelDxMIdeal [hKernelDxMIdeal : Cert.KernelDxMIdeal.Facts] : Prop :=
  ∀ (m : (ℓ : Loc Cert.KernelDxMIdeal.nD Cert.KernelDxMIdeal.τ Cert.KernelDxMIdeal.sig) → Buf (Elt Ideal) ℓ) (g : Dev Cert.KernelDxMIdeal.nD → PrngReg), Pre_KernelDxMIdeal m →
    θ_run (Cert.KernelDxMIdeal.defs (F := Ideal)) (onTc (τ := Cert.KernelDxMIdeal.τ) (Cert.KernelDxMIdeal.main (F := Ideal))) ⟨m, fun _ => 0, g⟩ (fun r => (∀ c : Dev Cert.KernelDxMIdeal.nD,
      r.2.mem ((c.tc : Thread Cert.KernelDxMIdeal.nD Cert.KernelDxMIdeal.τ).loc Cert.KernelDxMIdeal.main_arg0) = m ((c.tc : Thread Cert.KernelDxMIdeal.nD Cert.KernelDxMIdeal.τ).loc Cert.KernelDxMIdeal.main_arg0)
      ∧ r.2.mem ((c.tc : Thread Cert.KernelDxMIdeal.nD Cert.KernelDxMIdeal.τ).loc Cert.KernelDxMIdeal.main_arg1) = m ((c.tc : Thread Cert.KernelDxMIdeal.nD Cert.KernelDxMIdeal.τ).loc Cert.KernelDxMIdeal.main_arg1)
      ∧ r.2.mem ((c.tc : Thread Cert.KernelDxMIdeal.nD Cert.KernelDxMIdeal.τ).loc Cert.KernelDxMIdeal.main_arg2) = m ((c.tc : Thread Cert.KernelDxMIdeal.nD Cert.KernelDxMIdeal.τ).loc Cert.KernelDxMIdeal.main_arg2)
      ∧ r.2.mem ((c.tc : Thread Cert.KernelDxMIdeal.nD Cert.KernelDxMIdeal.τ).loc Cert.KernelDxMIdeal.main_arg3) = m ((c.tc : Thread Cert.KernelDxMIdeal.nD Cert.KernelDxMIdeal.τ).loc Cert.KernelDxMIdeal.main_arg3)
      ∧ r.2.mem ((c.tc : Thread Cert.KernelDxMIdeal.nD Cert.KernelDxMIdeal.τ).loc Cert.KernelDxMIdeal.main_arg4) = m ((c.tc : Thread Cert.KernelDxMIdeal.nD Cert.KernelDxMIdeal.τ).loc Cert.KernelDxMIdeal.main_arg4)
      ∧ r.2.mem ((c.tc : Thread Cert.KernelDxMIdeal.nD Cert.KernelDxMIdeal.τ).loc Cert.KernelDxMIdeal.main_arg5) = m ((c.tc : Thread Cert.KernelDxMIdeal.nD Cert.KernelDxMIdeal.τ).loc Cert.KernelDxMIdeal.main_arg5)
      ∧ r.2.mem ((c.tc : Thread Cert.KernelDxMIdeal.nD Cert.KernelDxMIdeal.τ).loc Cert.KernelDxMIdeal.main_arg6) = m ((c.tc : Thread Cert.KernelDxMIdeal.nD Cert.KernelDxMIdeal.τ).loc Cert.KernelDxMIdeal.main_arg6)
      ∧ r.2.mem ((c.tc : Thread Cert.KernelDxMIdeal.nD Cert.KernelDxMIdeal.τ).loc Cert.KernelDxMIdeal.main_arg7) = m ((c.tc : Thread Cert.KernelDxMIdeal.nD Cert.KernelDxMIdeal.τ).loc Cert.KernelDxMIdeal.main_arg7))
      ∧ r.2.sem = fun _ => 0)

def quiescent_KernelDxMIdeal_pre_finite_dxm [hKernelDxMIdeal : Cert.KernelDxMIdeal.Facts] [hPre_finite_dxm : Cert.Pre_finite_dxm.Facts] : Prop :=
  ∀ (m : (ℓ : Loc Cert.KernelDxMIdeal.nD Cert.KernelDxMIdeal.τ Cert.KernelDxMIdeal.sig) → Buf (Elt Ideal) ℓ) (g : Dev Cert.KernelDxMIdeal.nD → PrngReg), Pre_KernelDxMIdeal_finite_dxm m →
    θ_run (Cert.KernelDxMIdeal.defs (F := Ideal)) (onTc (τ := Cert.KernelDxMIdeal.τ) (Cert.KernelDxMIdeal.main (F := Ideal))) ⟨m, fun _ => 0, g⟩ (fun r => (∀ c : Dev Cert.KernelDxMIdeal.nD,
      r.2.mem ((c.tc : Thread Cert.KernelDxMIdeal.nD Cert.KernelDxMIdeal.τ).loc Cert.KernelDxMIdeal.main_arg0) = m ((c.tc : Thread Cert.KernelDxMIdeal.nD Cert.KernelDxMIdeal.τ).loc Cert.KernelDxMIdeal.main_arg0)
      ∧ r.2.mem ((c.tc : Thread Cert.KernelDxMIdeal.nD Cert.KernelDxMIdeal.τ).loc Cert.KernelDxMIdeal.main_arg1) = m ((c.tc : Thread Cert.KernelDxMIdeal.nD Cert.KernelDxMIdeal.τ).loc Cert.KernelDxMIdeal.main_arg1)
      ∧ r.2.mem ((c.tc : Thread Cert.KernelDxMIdeal.nD Cert.KernelDxMIdeal.τ).loc Cert.KernelDxMIdeal.main_arg2) = m ((c.tc : Thread Cert.KernelDxMIdeal.nD Cert.KernelDxMIdeal.τ).loc Cert.KernelDxMIdeal.main_arg2)
      ∧ r.2.mem ((c.tc : Thread Cert.KernelDxMIdeal.nD Cert.KernelDxMIdeal.τ).loc Cert.KernelDxMIdeal.main_arg3) = m ((c.tc : Thread Cert.KernelDxMIdeal.nD Cert.KernelDxMIdeal.τ).loc Cert.KernelDxMIdeal.main_arg3)
      ∧ r.2.mem ((c.tc : Thread Cert.KernelDxMIdeal.nD Cert.KernelDxMIdeal.τ).loc Cert.KernelDxMIdeal.main_arg4) = m ((c.tc : Thread Cert.KernelDxMIdeal.nD Cert.KernelDxMIdeal.τ).loc Cert.KernelDxMIdeal.main_arg4)
      ∧ r.2.mem ((c.tc : Thread Cert.KernelDxMIdeal.nD Cert.KernelDxMIdeal.τ).loc Cert.KernelDxMIdeal.main_arg5) = m ((c.tc : Thread Cert.KernelDxMIdeal.nD Cert.KernelDxMIdeal.τ).loc Cert.KernelDxMIdeal.main_arg5)
      ∧ r.2.mem ((c.tc : Thread Cert.KernelDxMIdeal.nD Cert.KernelDxMIdeal.τ).loc Cert.KernelDxMIdeal.main_arg6) = m ((c.tc : Thread Cert.KernelDxMIdeal.nD Cert.KernelDxMIdeal.τ).loc Cert.KernelDxMIdeal.main_arg6)
      ∧ r.2.mem ((c.tc : Thread Cert.KernelDxMIdeal.nD Cert.KernelDxMIdeal.τ).loc Cert.KernelDxMIdeal.main_arg7) = m ((c.tc : Thread Cert.KernelDxMIdeal.nD Cert.KernelDxMIdeal.τ).loc Cert.KernelDxMIdeal.main_arg7))
      ∧ r.2.sem = fun _ => 0)

def quiescent_ReferenceDxMIdeal [hReferenceDxMIdeal : Cert.ReferenceDxMIdeal.Facts] : Prop :=
  ∀ (m : (ℓ : Loc Cert.ReferenceDxMIdeal.nD Cert.ReferenceDxMIdeal.τ Cert.ReferenceDxMIdeal.sig) → Buf (Elt Ideal) ℓ) (g : Dev Cert.ReferenceDxMIdeal.nD → PrngReg), Pre_ReferenceDxMIdeal m →
    θ_run (Cert.ReferenceDxMIdeal.defs (F := Ideal)) (onTc (τ := Cert.ReferenceDxMIdeal.τ) (Cert.ReferenceDxMIdeal.main (F := Ideal))) ⟨m, fun _ => 0, g⟩ (fun r => (∀ c : Dev Cert.ReferenceDxMIdeal.nD,
      r.2.mem ((c.tc : Thread Cert.ReferenceDxMIdeal.nD Cert.ReferenceDxMIdeal.τ).loc Cert.ReferenceDxMIdeal.main_arg0) = m ((c.tc : Thread Cert.ReferenceDxMIdeal.nD Cert.ReferenceDxMIdeal.τ).loc Cert.ReferenceDxMIdeal.main_arg0)
      ∧ r.2.mem ((c.tc : Thread Cert.ReferenceDxMIdeal.nD Cert.ReferenceDxMIdeal.τ).loc Cert.ReferenceDxMIdeal.main_arg1) = m ((c.tc : Thread Cert.ReferenceDxMIdeal.nD Cert.ReferenceDxMIdeal.τ).loc Cert.ReferenceDxMIdeal.main_arg1)
      ∧ r.2.mem ((c.tc : Thread Cert.ReferenceDxMIdeal.nD Cert.ReferenceDxMIdeal.τ).loc Cert.ReferenceDxMIdeal.main_arg2) = m ((c.tc : Thread Cert.ReferenceDxMIdeal.nD Cert.ReferenceDxMIdeal.τ).loc Cert.ReferenceDxMIdeal.main_arg2)
      ∧ r.2.mem ((c.tc : Thread Cert.ReferenceDxMIdeal.nD Cert.ReferenceDxMIdeal.τ).loc Cert.ReferenceDxMIdeal.main_arg3) = m ((c.tc : Thread Cert.ReferenceDxMIdeal.nD Cert.ReferenceDxMIdeal.τ).loc Cert.ReferenceDxMIdeal.main_arg3)
      ∧ r.2.mem ((c.tc : Thread Cert.ReferenceDxMIdeal.nD Cert.ReferenceDxMIdeal.τ).loc Cert.ReferenceDxMIdeal.main_arg4) = m ((c.tc : Thread Cert.ReferenceDxMIdeal.nD Cert.ReferenceDxMIdeal.τ).loc Cert.ReferenceDxMIdeal.main_arg4)
      ∧ r.2.mem ((c.tc : Thread Cert.ReferenceDxMIdeal.nD Cert.ReferenceDxMIdeal.τ).loc Cert.ReferenceDxMIdeal.main_arg5) = m ((c.tc : Thread Cert.ReferenceDxMIdeal.nD Cert.ReferenceDxMIdeal.τ).loc Cert.ReferenceDxMIdeal.main_arg5)
      ∧ r.2.mem ((c.tc : Thread Cert.ReferenceDxMIdeal.nD Cert.ReferenceDxMIdeal.τ).loc Cert.ReferenceDxMIdeal.main_arg6) = m ((c.tc : Thread Cert.ReferenceDxMIdeal.nD Cert.ReferenceDxMIdeal.τ).loc Cert.ReferenceDxMIdeal.main_arg6)
      ∧ r.2.mem ((c.tc : Thread Cert.ReferenceDxMIdeal.nD Cert.ReferenceDxMIdeal.τ).loc Cert.ReferenceDxMIdeal.main_arg7) = m ((c.tc : Thread Cert.ReferenceDxMIdeal.nD Cert.ReferenceDxMIdeal.τ).loc Cert.ReferenceDxMIdeal.main_arg7))
      ∧ r.2.sem = fun _ => 0)

def quiescent_ReferenceDxMIdeal_pre_finite_dxm [hReferenceDxMIdeal : Cert.ReferenceDxMIdeal.Facts] [hPre_finite_dxm : Cert.Pre_finite_dxm.Facts] : Prop :=
  ∀ (m : (ℓ : Loc Cert.ReferenceDxMIdeal.nD Cert.ReferenceDxMIdeal.τ Cert.ReferenceDxMIdeal.sig) → Buf (Elt Ideal) ℓ) (g : Dev Cert.ReferenceDxMIdeal.nD → PrngReg), Pre_ReferenceDxMIdeal_finite_dxm m →
    θ_run (Cert.ReferenceDxMIdeal.defs (F := Ideal)) (onTc (τ := Cert.ReferenceDxMIdeal.τ) (Cert.ReferenceDxMIdeal.main (F := Ideal))) ⟨m, fun _ => 0, g⟩ (fun r => (∀ c : Dev Cert.ReferenceDxMIdeal.nD,
      r.2.mem ((c.tc : Thread Cert.ReferenceDxMIdeal.nD Cert.ReferenceDxMIdeal.τ).loc Cert.ReferenceDxMIdeal.main_arg0) = m ((c.tc : Thread Cert.ReferenceDxMIdeal.nD Cert.ReferenceDxMIdeal.τ).loc Cert.ReferenceDxMIdeal.main_arg0)
      ∧ r.2.mem ((c.tc : Thread Cert.ReferenceDxMIdeal.nD Cert.ReferenceDxMIdeal.τ).loc Cert.ReferenceDxMIdeal.main_arg1) = m ((c.tc : Thread Cert.ReferenceDxMIdeal.nD Cert.ReferenceDxMIdeal.τ).loc Cert.ReferenceDxMIdeal.main_arg1)
      ∧ r.2.mem ((c.tc : Thread Cert.ReferenceDxMIdeal.nD Cert.ReferenceDxMIdeal.τ).loc Cert.ReferenceDxMIdeal.main_arg2) = m ((c.tc : Thread Cert.ReferenceDxMIdeal.nD Cert.ReferenceDxMIdeal.τ).loc Cert.ReferenceDxMIdeal.main_arg2)
      ∧ r.2.mem ((c.tc : Thread Cert.ReferenceDxMIdeal.nD Cert.ReferenceDxMIdeal.τ).loc Cert.ReferenceDxMIdeal.main_arg3) = m ((c.tc : Thread Cert.ReferenceDxMIdeal.nD Cert.ReferenceDxMIdeal.τ).loc Cert.ReferenceDxMIdeal.main_arg3)
      ∧ r.2.mem ((c.tc : Thread Cert.ReferenceDxMIdeal.nD Cert.ReferenceDxMIdeal.τ).loc Cert.ReferenceDxMIdeal.main_arg4) = m ((c.tc : Thread Cert.ReferenceDxMIdeal.nD Cert.ReferenceDxMIdeal.τ).loc Cert.ReferenceDxMIdeal.main_arg4)
      ∧ r.2.mem ((c.tc : Thread Cert.ReferenceDxMIdeal.nD Cert.ReferenceDxMIdeal.τ).loc Cert.ReferenceDxMIdeal.main_arg5) = m ((c.tc : Thread Cert.ReferenceDxMIdeal.nD Cert.ReferenceDxMIdeal.τ).loc Cert.ReferenceDxMIdeal.main_arg5)
      ∧ r.2.mem ((c.tc : Thread Cert.ReferenceDxMIdeal.nD Cert.ReferenceDxMIdeal.τ).loc Cert.ReferenceDxMIdeal.main_arg6) = m ((c.tc : Thread Cert.ReferenceDxMIdeal.nD Cert.ReferenceDxMIdeal.τ).loc Cert.ReferenceDxMIdeal.main_arg6)
      ∧ r.2.mem ((c.tc : Thread Cert.ReferenceDxMIdeal.nD Cert.ReferenceDxMIdeal.τ).loc Cert.ReferenceDxMIdeal.main_arg7) = m ((c.tc : Thread Cert.ReferenceDxMIdeal.nD Cert.ReferenceDxMIdeal.τ).loc Cert.ReferenceDxMIdeal.main_arg7))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7)
      ∧ r.2.mem ((c.tc : Thread Cert.KernelMix.nD Cert.KernelMix.τ).loc Cert.KernelMix.main_arg8) = m ((c.tc : Thread Cert.KernelMix.nD Cert.KernelMix.τ).loc Cert.KernelMix.main_arg8))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ r.2.sem = fun _ => 0)

def quiescent_KernelMixIdeal_pre_finite_mix [hKernelMixIdeal : Cert.KernelMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal_finite_mix m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
      ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8))
      ∧ r.2.sem = fun _ => 0)

def quiescent_ReferenceMixIdeal_pre_finite_mix [hReferenceMixIdeal : Cert.ReferenceMixIdeal.Facts] [hPre_finite_mix : Cert.Pre_finite_mix.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal_finite_mix m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7)
      ∧ r.2.mem ((c.tc : Thread Cert.ReferenceMixIdeal.nD Cert.ReferenceMixIdeal.τ).loc Cert.ReferenceMixIdeal.main_arg8) = m ((c.tc : Thread Cert.ReferenceMixIdeal.nD Cert.ReferenceMixIdeal.τ).loc Cert.ReferenceMixIdeal.main_arg8))
      ∧ r.2.sem = fun _ => 0)

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_finite_ffn [hKernelFfnIdeal : Cert.KernelFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite_ffn m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_finite_ffn [hReferenceFfnIdeal : Cert.ReferenceFfnIdeal.Facts] [hPre_finite_ffn : Cert.Pre_finite_ffn.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite_ffn m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelAda [hKernelAda : Cert.KernelAda.Facts] : Prop :=
  ∀ (m : (ℓ : Loc Cert.KernelAda.nD Cert.KernelAda.τ Cert.KernelAda.sig) → Buf (Elt Bits) ℓ) (g : Dev Cert.KernelAda.nD → PrngReg), Pre_KernelAda m →
    θ_run (Cert.KernelAda.defs (F := Bits)) (onTc (τ := Cert.KernelAda.τ) (Cert.KernelAda.main (F := Bits))) ⟨m, fun _ => 0, g⟩ (fun r => (∀ c : Dev Cert.KernelAda.nD,
      r.2.mem ((c.tc : Thread Cert.KernelAda.nD Cert.KernelAda.τ).loc Cert.KernelAda.main_arg0) = m ((c.tc : Thread Cert.KernelAda.nD Cert.KernelAda.τ).loc Cert.KernelAda.main_arg0)
      ∧ r.2.mem ((c.tc : Thread Cert.KernelAda.nD Cert.KernelAda.τ).loc Cert.KernelAda.main_arg1) = m ((c.tc : Thread Cert.KernelAda.nD Cert.KernelAda.τ).loc Cert.KernelAda.main_arg1)
      ∧ r.2.mem ((c.tc : Thread Cert.KernelAda.nD Cert.KernelAda.τ).loc Cert.KernelAda.main_arg2) = m ((c.tc : Thread Cert.KernelAda.nD Cert.KernelAda.τ).loc Cert.KernelAda.main_arg2)
      ∧ r.2.mem ((c.tc : Thread Cert.KernelAda.nD Cert.KernelAda.τ).loc Cert.KernelAda.main_arg3) = m ((c.tc : Thread Cert.KernelAda.nD Cert.KernelAda.τ).loc Cert.KernelAda.main_arg3)
      ∧ r.2.mem ((c.tc : Thread Cert.KernelAda.nD Cert.KernelAda.τ).loc Cert.KernelAda.main_arg4) = m ((c.tc : Thread Cert.KernelAda.nD Cert.KernelAda.τ).loc Cert.KernelAda.main_arg4)
      ∧ r.2.mem ((c.tc : Thread Cert.KernelAda.nD Cert.KernelAda.τ).loc Cert.KernelAda.main_arg5) = m ((c.tc : Thread Cert.KernelAda.nD Cert.KernelAda.τ).loc Cert.KernelAda.main_arg5))
      ∧ r.2.sem = fun _ => 0)

def quiescent_KernelAdaIdeal [hKernelAdaIdeal : Cert.KernelAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg), Pre_KernelAdaIdeal m →
    θ_run (Cert.KernelAdaIdeal.defs (F := Ideal)) (onTc (τ := Cert.KernelAdaIdeal.τ) (Cert.KernelAdaIdeal.main (F := Ideal))) ⟨m, fun _ => 0, g⟩ (fun r => (∀ c : Dev Cert.KernelAdaIdeal.nD,
      r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
      ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
      ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
      ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
      ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4)
      ∧ r.2.mem ((c.tc : Thread Cert.KernelAdaIdeal.nD Cert.KernelAdaIdeal.τ).loc Cert.KernelAdaIdeal.main_arg5) = m ((c.tc : Thread Cert.KernelAdaIdeal.nD Cert.KernelAdaIdeal.τ).loc Cert.KernelAdaIdeal.main_arg5))
      ∧ r.2.sem = fun _ => 0)

def quiescent_ReferenceAdaIdeal [hReferenceAdaIdeal : Cert.ReferenceAdaIdeal.Facts] : Prop :=
  ∀ (m : (ℓ : Loc Cert.ReferenceAdaIdeal.nD Cert.ReferenceAdaIdeal.τ Cert.ReferenceAdaIdeal.sig) → Buf (Elt Ideal) ℓ) (g : Dev Cert.ReferenceAdaIdeal.nD → PrngReg), Pre_ReferenceAdaIdeal m →
    θ_run (Cert.ReferenceAdaIdeal.defs (F := Ideal)) (onTc (τ := Cert.ReferenceAdaIdeal.τ) (Cert.ReferenceAdaIdeal.main (F := Ideal))) ⟨m, fun _ => 0, g⟩ (fun r => (∀ c : Dev Cert.ReferenceAdaIdeal.nD,
      r.2.mem ((c.tc : Thread Cert.ReferenceAdaIdeal.nD Cert.ReferenceAdaIdeal.τ).loc Cert.ReferenceAdaIdeal.main_arg0) = m ((c.tc : Thread Cert.ReferenceAdaIdeal.nD Cert.ReferenceAdaIdeal.τ).loc Cert.ReferenceAdaIdeal.main_arg0)
      ∧ r.2.mem ((c.tc : Thread Cert.ReferenceAdaIdeal.nD Cert.ReferenceAdaIdeal.τ).loc Cert.ReferenceAdaIdeal.main_arg1) = m ((c.tc : Thread Cert.ReferenceAdaIdeal.nD Cert.ReferenceAdaIdeal.τ).loc Cert.ReferenceAdaIdeal.main_arg1)
      ∧ r.2.mem ((c.tc : Thread Cert.ReferenceAdaIdeal.nD Cert.ReferenceAdaIdeal.τ).loc Cert.ReferenceAdaIdeal.main_arg2) = m ((c.tc : Thread Cert.ReferenceAdaIdeal.nD Cert.ReferenceAdaIdeal.τ).loc Cert.ReferenceAdaIdeal.main_arg2)
      ∧ r.2.mem ((c.tc : Thread Cert.ReferenceAdaIdeal.nD Cert.ReferenceAdaIdeal.τ).loc Cert.ReferenceAdaIdeal.main_arg3) = m ((c.tc : Thread Cert.ReferenceAdaIdeal.nD Cert.ReferenceAdaIdeal.τ).loc Cert.ReferenceAdaIdeal.main_arg3)
      ∧ r.2.mem ((c.tc : Thread Cert.ReferenceAdaIdeal.nD Cert.ReferenceAdaIdeal.τ).loc Cert.ReferenceAdaIdeal.main_arg4) = m ((c.tc : Thread Cert.ReferenceAdaIdeal.nD Cert.ReferenceAdaIdeal.τ).loc Cert.ReferenceAdaIdeal.main_arg4)
      ∧ r.2.mem ((c.tc : Thread Cert.ReferenceAdaIdeal.nD Cert.ReferenceAdaIdeal.τ).loc Cert.ReferenceAdaIdeal.main_arg5) = m ((c.tc : Thread Cert.ReferenceAdaIdeal.nD Cert.ReferenceAdaIdeal.τ).loc Cert.ReferenceAdaIdeal.main_arg5))
      ∧ r.2.sem = fun _ => 0)

def quiescent_KernelNorm [hKernelNorm : Cert.KernelNorm.Facts] : Prop :=
  ∀ (m : (ℓ : Loc Cert.KernelNorm.nD Cert.KernelNorm.τ Cert.KernelNorm.sig) → Buf (Elt Bits) ℓ) (g : Dev Cert.KernelNorm.nD → PrngReg), Pre_KernelNorm m →
    θ_run (Cert.KernelNorm.defs (F := Bits)) (onTc (τ := Cert.KernelNorm.τ) (Cert.KernelNorm.main (F := Bits))) ⟨m, fun _ => 0, g⟩ (fun r => (∀ c : Dev Cert.KernelNorm.nD,
      r.2.mem ((c.tc : Thread Cert.KernelNorm.nD Cert.KernelNorm.τ).loc Cert.KernelNorm.main_arg0) = m ((c.tc : Thread Cert.KernelNorm.nD Cert.KernelNorm.τ).loc Cert.KernelNorm.main_arg0)
      ∧ r.2.mem ((c.tc : Thread Cert.KernelNorm.nD Cert.KernelNorm.τ).loc Cert.KernelNorm.main_arg1) = m ((c.tc : Thread Cert.KernelNorm.nD Cert.KernelNorm.τ).loc Cert.KernelNorm.main_arg1)
      ∧ r.2.mem ((c.tc : Thread Cert.KernelNorm.nD Cert.KernelNorm.τ).loc Cert.KernelNorm.main_arg2) = m ((c.tc : Thread Cert.KernelNorm.nD Cert.KernelNorm.τ).loc Cert.KernelNorm.main_arg2))
      ∧ r.2.sem = fun _ => 0)

def quiescent_KernelNormIdeal [hKernelNormIdeal : Cert.KernelNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg), Pre_KernelNormIdeal m →
    θ_run (Cert.KernelNormIdeal.defs (F := Ideal)) (onTc (τ := Cert.KernelNormIdeal.τ) (Cert.KernelNormIdeal.main (F := Ideal))) ⟨m, fun _ => 0, g⟩ (fun r => (∀ c : Dev Cert.KernelNormIdeal.nD,
      r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
      ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
      ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ r.2.sem = fun _ => 0)

def quiescent_ReferenceNormIdeal [hReferenceNormIdeal : Cert.ReferenceNormIdeal.Facts] : Prop :=
  ∀ (m : (ℓ : Loc Cert.ReferenceNormIdeal.nD Cert.ReferenceNormIdeal.τ Cert.ReferenceNormIdeal.sig) → Buf (Elt Ideal) ℓ) (g : Dev Cert.ReferenceNormIdeal.nD → PrngReg), Pre_ReferenceNormIdeal m →
    θ_run (Cert.ReferenceNormIdeal.defs (F := Ideal)) (onTc (τ := Cert.ReferenceNormIdeal.τ) (Cert.ReferenceNormIdeal.main (F := Ideal))) ⟨m, fun _ => 0, g⟩ (fun r => (∀ c : Dev Cert.ReferenceNormIdeal.nD,
      r.2.mem ((c.tc : Thread Cert.ReferenceNormIdeal.nD Cert.ReferenceNormIdeal.τ).loc Cert.ReferenceNormIdeal.main_arg0) = m ((c.tc : Thread Cert.ReferenceNormIdeal.nD Cert.ReferenceNormIdeal.τ).loc Cert.ReferenceNormIdeal.main_arg0)
      ∧ r.2.mem ((c.tc : Thread Cert.ReferenceNormIdeal.nD Cert.ReferenceNormIdeal.τ).loc Cert.ReferenceNormIdeal.main_arg1) = m ((c.tc : Thread Cert.ReferenceNormIdeal.nD Cert.ReferenceNormIdeal.τ).loc Cert.ReferenceNormIdeal.main_arg1)
      ∧ r.2.mem ((c.tc : Thread Cert.ReferenceNormIdeal.nD Cert.ReferenceNormIdeal.τ).loc Cert.ReferenceNormIdeal.main_arg2) = m ((c.tc : Thread Cert.ReferenceNormIdeal.nD Cert.ReferenceNormIdeal.τ).loc Cert.ReferenceNormIdeal.main_arg2))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1)
      ∧ r.2.mem ((c.tc : Thread Cert.KernelUp.nD Cert.KernelUp.τ).loc Cert.KernelUp.main_arg2) = m ((c.tc : Thread Cert.KernelUp.nD Cert.KernelUp.τ).loc Cert.KernelUp.main_arg2))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_KernelUpIdeal_pre_finite_up [hKernelUpIdeal : Cert.KernelUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal_finite_up m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
      ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_ReferenceUpIdeal_pre_finite_up [hReferenceUpIdeal : Cert.ReferenceUpIdeal.Facts] [hPre_finite_up : Cert.Pre_finite_up.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal_finite_up m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1)
      ∧ r.2.mem ((c.tc : Thread Cert.ReferenceUpIdeal.nD Cert.ReferenceUpIdeal.τ).loc Cert.ReferenceUpIdeal.main_arg2) = m ((c.tc : Thread Cert.ReferenceUpIdeal.nD Cert.ReferenceUpIdeal.τ).loc Cert.ReferenceUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1)
      ∧ r.2.mem ((c.tc : Thread Cert.KernelDown.nD Cert.KernelDown.τ).loc Cert.KernelDown.main_arg2) = m ((c.tc : Thread Cert.KernelDown.nD Cert.KernelDown.τ).loc Cert.KernelDown.main_arg2)
      ∧ r.2.mem ((c.tc : Thread Cert.KernelDown.nD Cert.KernelDown.τ).loc Cert.KernelDown.main_arg3) = m ((c.tc : Thread Cert.KernelDown.nD Cert.KernelDown.τ).loc Cert.KernelDown.main_arg3)
      ∧ r.2.mem ((c.tc : Thread Cert.KernelDown.nD Cert.KernelDown.τ).loc Cert.KernelDown.main_arg4) = m ((c.tc : Thread Cert.KernelDown.nD Cert.KernelDown.τ).loc Cert.KernelDown.main_arg4))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
      ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
      ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
      ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1)
      ∧ r.2.mem ((c.tc : Thread Cert.ReferenceDownIdeal.nD Cert.ReferenceDownIdeal.τ).loc Cert.ReferenceDownIdeal.main_arg2) = m ((c.tc : Thread Cert.ReferenceDownIdeal.nD Cert.ReferenceDownIdeal.τ).loc Cert.ReferenceDownIdeal.main_arg2)
      ∧ r.2.mem ((c.tc : Thread Cert.ReferenceDownIdeal.nD Cert.ReferenceDownIdeal.τ).loc Cert.ReferenceDownIdeal.main_arg3) = m ((c.tc : Thread Cert.ReferenceDownIdeal.nD Cert.ReferenceDownIdeal.τ).loc Cert.ReferenceDownIdeal.main_arg3)
      ∧ r.2.mem ((c.tc : Thread Cert.ReferenceDownIdeal.nD Cert.ReferenceDownIdeal.τ).loc Cert.ReferenceDownIdeal.main_arg4) = m ((c.tc : Thread Cert.ReferenceDownIdeal.nD Cert.ReferenceDownIdeal.τ).loc Cert.ReferenceDownIdeal.main_arg4))
      ∧ r.2.sem = fun _ => 0)

def quiescent_KernelMixF [hKernelMixF : Cert.KernelMixF.Facts] : Prop :=
  ∀ (m : (ℓ : Loc Cert.KernelMixF.nD Cert.KernelMixF.τ Cert.KernelMixF.sig) → Buf (Elt Bits) ℓ) (g : Dev Cert.KernelMixF.nD → PrngReg), Pre_KernelMixF m →
    θ_run (Cert.KernelMixF.defs (F := Bits)) (onTc (τ := Cert.KernelMixF.τ) (Cert.KernelMixF.main (F := Bits))) ⟨m, fun _ => 0, g⟩ (fun r => (∀ c : Dev Cert.KernelMixF.nD,
      r.2.mem ((c.tc : Thread Cert.KernelMixF.nD Cert.KernelMixF.τ).loc Cert.KernelMixF.main_arg0) = m ((c.tc : Thread Cert.KernelMixF.nD Cert.KernelMixF.τ).loc Cert.KernelMixF.main_arg0)
      ∧ r.2.mem ((c.tc : Thread Cert.KernelMixF.nD Cert.KernelMixF.τ).loc Cert.KernelMixF.main_arg1) = m ((c.tc : Thread Cert.KernelMixF.nD Cert.KernelMixF.τ).loc Cert.KernelMixF.main_arg1)
      ∧ r.2.mem ((c.tc : Thread Cert.KernelMixF.nD Cert.KernelMixF.τ).loc Cert.KernelMixF.main_arg2) = m ((c.tc : Thread Cert.KernelMixF.nD Cert.KernelMixF.τ).loc Cert.KernelMixF.main_arg2)
      ∧ r.2.mem ((c.tc : Thread Cert.KernelMixF.nD Cert.KernelMixF.τ).loc Cert.KernelMixF.main_arg3) = m ((c.tc : Thread Cert.KernelMixF.nD Cert.KernelMixF.τ).loc Cert.KernelMixF.main_arg3)
      ∧ r.2.mem ((c.tc : Thread Cert.KernelMixF.nD Cert.KernelMixF.τ).loc Cert.KernelMixF.main_arg4) = m ((c.tc : Thread Cert.KernelMixF.nD Cert.KernelMixF.τ).loc Cert.KernelMixF.main_arg4)
      ∧ r.2.mem ((c.tc : Thread Cert.KernelMixF.nD Cert.KernelMixF.τ).loc Cert.KernelMixF.main_arg5) = m ((c.tc : Thread Cert.KernelMixF.nD Cert.KernelMixF.τ).loc Cert.KernelMixF.main_arg5)
      ∧ r.2.mem ((c.tc : Thread Cert.KernelMixF.nD Cert.KernelMixF.τ).loc Cert.KernelMixF.main_arg6) = m ((c.tc : Thread Cert.KernelMixF.nD Cert.KernelMixF.τ).loc Cert.KernelMixF.main_arg6)
      ∧ r.2.mem ((c.tc : Thread Cert.KernelMixF.nD Cert.KernelMixF.τ).loc Cert.KernelMixF.main_arg7) = m ((c.tc : Thread Cert.KernelMixF.nD Cert.KernelMixF.τ).loc Cert.KernelMixF.main_arg7)
      ∧ r.2.mem ((c.tc : Thread Cert.KernelMixF.nD Cert.KernelMixF.τ).loc Cert.KernelMixF.main_arg8) = m ((c.tc : Thread Cert.KernelMixF.nD Cert.KernelMixF.τ).loc Cert.KernelMixF.main_arg8)
      ∧ r.2.mem ((c.tc : Thread Cert.KernelMixF.nD Cert.KernelMixF.τ).loc Cert.KernelMixF.main_arg9) = m ((c.tc : Thread Cert.KernelMixF.nD Cert.KernelMixF.τ).loc Cert.KernelMixF.main_arg9))
      ∧ r.2.sem = fun _ => 0)

def quiescent_KernelMixFIdeal [hKernelMixFIdeal : Cert.KernelMixFIdeal.Facts] : Prop :=
  ∀ (m : (ℓ : Loc Cert.KernelMixFIdeal.nD Cert.KernelMixFIdeal.τ Cert.KernelMixFIdeal.sig) → Buf (Elt Ideal) ℓ) (g : Dev Cert.KernelMixFIdeal.nD → PrngReg), Pre_KernelMixFIdeal m →
    θ_run (Cert.KernelMixFIdeal.defs (F := Ideal)) (onTc (τ := Cert.KernelMixFIdeal.τ) (Cert.KernelMixFIdeal.main (F := Ideal))) ⟨m, fun _ => 0, g⟩ (fun r => (∀ c : Dev Cert.KernelMixFIdeal.nD,
      r.2.mem ((c.tc : Thread Cert.KernelMixFIdeal.nD Cert.KernelMixFIdeal.τ).loc Cert.KernelMixFIdeal.main_arg0) = m ((c.tc : Thread Cert.KernelMixFIdeal.nD Cert.KernelMixFIdeal.τ).loc Cert.KernelMixFIdeal.main_arg0)
      ∧ r.2.mem ((c.tc : Thread Cert.KernelMixFIdeal.nD Cert.KernelMixFIdeal.τ).loc Cert.KernelMixFIdeal.main_arg1) = m ((c.tc : Thread Cert.KernelMixFIdeal.nD Cert.KernelMixFIdeal.τ).loc Cert.KernelMixFIdeal.main_arg1)
      ∧ r.2.mem ((c.tc : Thread Cert.KernelMixFIdeal.nD Cert.KernelMixFIdeal.τ).loc Cert.KernelMixFIdeal.main_arg2) = m ((c.tc : Thread Cert.KernelMixFIdeal.nD Cert.KernelMixFIdeal.τ).loc Cert.KernelMixFIdeal.main_arg2)
      ∧ r.2.mem ((c.tc : Thread Cert.KernelMixFIdeal.nD Cert.KernelMixFIdeal.τ).loc Cert.KernelMixFIdeal.main_arg3) = m ((c.tc : Thread Cert.KernelMixFIdeal.nD Cert.KernelMixFIdeal.τ).loc Cert.KernelMixFIdeal.main_arg3)
      ∧ r.2.mem ((c.tc : Thread Cert.KernelMixFIdeal.nD Cert.KernelMixFIdeal.τ).loc Cert.KernelMixFIdeal.main_arg4) = m ((c.tc : Thread Cert.KernelMixFIdeal.nD Cert.KernelMixFIdeal.τ).loc Cert.KernelMixFIdeal.main_arg4)
      ∧ r.2.mem ((c.tc : Thread Cert.KernelMixFIdeal.nD Cert.KernelMixFIdeal.τ).loc Cert.KernelMixFIdeal.main_arg5) = m ((c.tc : Thread Cert.KernelMixFIdeal.nD Cert.KernelMixFIdeal.τ).loc Cert.KernelMixFIdeal.main_arg5)
      ∧ r.2.mem ((c.tc : Thread Cert.KernelMixFIdeal.nD Cert.KernelMixFIdeal.τ).loc Cert.KernelMixFIdeal.main_arg6) = m ((c.tc : Thread Cert.KernelMixFIdeal.nD Cert.KernelMixFIdeal.τ).loc Cert.KernelMixFIdeal.main_arg6)
      ∧ r.2.mem ((c.tc : Thread Cert.KernelMixFIdeal.nD Cert.KernelMixFIdeal.τ).loc Cert.KernelMixFIdeal.main_arg7) = m ((c.tc : Thread Cert.KernelMixFIdeal.nD Cert.KernelMixFIdeal.τ).loc Cert.KernelMixFIdeal.main_arg7)
      ∧ r.2.mem ((c.tc : Thread Cert.KernelMixFIdeal.nD Cert.KernelMixFIdeal.τ).loc Cert.KernelMixFIdeal.main_arg8) = m ((c.tc : Thread Cert.KernelMixFIdeal.nD Cert.KernelMixFIdeal.τ).loc Cert.KernelMixFIdeal.main_arg8)
      ∧ r.2.mem ((c.tc : Thread Cert.KernelMixFIdeal.nD Cert.KernelMixFIdeal.τ).loc Cert.KernelMixFIdeal.main_arg9) = m ((c.tc : Thread Cert.KernelMixFIdeal.nD Cert.KernelMixFIdeal.τ).loc Cert.KernelMixFIdeal.main_arg9))
      ∧ r.2.sem = fun _ => 0)

def quiescent_ReferenceMixFIdeal [hReferenceMixFIdeal : Cert.ReferenceMixFIdeal.Facts] : Prop :=
  ∀ (m : (ℓ : Loc Cert.ReferenceMixFIdeal.nD Cert.ReferenceMixFIdeal.τ Cert.ReferenceMixFIdeal.sig) → Buf (Elt Ideal) ℓ) (g : Dev Cert.ReferenceMixFIdeal.nD → PrngReg), Pre_ReferenceMixFIdeal m →
    θ_run (Cert.ReferenceMixFIdeal.defs (F := Ideal)) (onTc (τ := Cert.ReferenceMixFIdeal.τ) (Cert.ReferenceMixFIdeal.main (F := Ideal))) ⟨m, fun _ => 0, g⟩ (fun r => (∀ c : Dev Cert.ReferenceMixFIdeal.nD,
      r.2.mem ((c.tc : Thread Cert.ReferenceMixFIdeal.nD Cert.ReferenceMixFIdeal.τ).loc Cert.ReferenceMixFIdeal.main_arg0) = m ((c.tc : Thread Cert.ReferenceMixFIdeal.nD Cert.ReferenceMixFIdeal.τ).loc Cert.ReferenceMixFIdeal.main_arg0)
      ∧ r.2.mem ((c.tc : Thread Cert.ReferenceMixFIdeal.nD Cert.ReferenceMixFIdeal.τ).loc Cert.ReferenceMixFIdeal.main_arg1) = m ((c.tc : Thread Cert.ReferenceMixFIdeal.nD Cert.ReferenceMixFIdeal.τ).loc Cert.ReferenceMixFIdeal.main_arg1)
      ∧ r.2.mem ((c.tc : Thread Cert.ReferenceMixFIdeal.nD Cert.ReferenceMixFIdeal.τ).loc Cert.ReferenceMixFIdeal.main_arg2) = m ((c.tc : Thread Cert.ReferenceMixFIdeal.nD Cert.ReferenceMixFIdeal.τ).loc Cert.ReferenceMixFIdeal.main_arg2)
      ∧ r.2.mem ((c.tc : Thread Cert.ReferenceMixFIdeal.nD Cert.ReferenceMixFIdeal.τ).loc Cert.ReferenceMixFIdeal.main_arg3) = m ((c.tc : Thread Cert.ReferenceMixFIdeal.nD Cert.ReferenceMixFIdeal.τ).loc Cert.ReferenceMixFIdeal.main_arg3)
      ∧ r.2.mem ((c.tc : Thread Cert.ReferenceMixFIdeal.nD Cert.ReferenceMixFIdeal.τ).loc Cert.ReferenceMixFIdeal.main_arg4) = m ((c.tc : Thread Cert.ReferenceMixFIdeal.nD Cert.ReferenceMixFIdeal.τ).loc Cert.ReferenceMixFIdeal.main_arg4)
      ∧ r.2.mem ((c.tc : Thread Cert.ReferenceMixFIdeal.nD Cert.ReferenceMixFIdeal.τ).loc Cert.ReferenceMixFIdeal.main_arg5) = m ((c.tc : Thread Cert.ReferenceMixFIdeal.nD Cert.ReferenceMixFIdeal.τ).loc Cert.ReferenceMixFIdeal.main_arg5)
      ∧ r.2.mem ((c.tc : Thread Cert.ReferenceMixFIdeal.nD Cert.ReferenceMixFIdeal.τ).loc Cert.ReferenceMixFIdeal.main_arg6) = m ((c.tc : Thread Cert.ReferenceMixFIdeal.nD Cert.ReferenceMixFIdeal.τ).loc Cert.ReferenceMixFIdeal.main_arg6)
      ∧ r.2.mem ((c.tc : Thread Cert.ReferenceMixFIdeal.nD Cert.ReferenceMixFIdeal.τ).loc Cert.ReferenceMixFIdeal.main_arg7) = m ((c.tc : Thread Cert.ReferenceMixFIdeal.nD Cert.ReferenceMixFIdeal.τ).loc Cert.ReferenceMixFIdeal.main_arg7)
      ∧ r.2.mem ((c.tc : Thread Cert.ReferenceMixFIdeal.nD Cert.ReferenceMixFIdeal.τ).loc Cert.ReferenceMixFIdeal.main_arg8) = m ((c.tc : Thread Cert.ReferenceMixFIdeal.nD Cert.ReferenceMixFIdeal.τ).loc Cert.ReferenceMixFIdeal.main_arg8)
      ∧ r.2.mem ((c.tc : Thread Cert.ReferenceMixFIdeal.nD Cert.ReferenceMixFIdeal.τ).loc Cert.ReferenceMixFIdeal.main_arg9) = m ((c.tc : Thread Cert.ReferenceMixFIdeal.nD Cert.ReferenceMixFIdeal.τ).loc Cert.ReferenceMixFIdeal.main_arg9))
      ∧ r.2.sem = fun _ => 0)

def quiescent_KernelSguF [hKernelSguF : Cert.KernelSguF.Facts] : Prop :=
  ∀ (m : (ℓ : Loc Cert.KernelSguF.nD Cert.KernelSguF.τ Cert.KernelSguF.sig) → Buf (Elt Bits) ℓ) (g : Dev Cert.KernelSguF.nD → PrngReg), Pre_KernelSguF m →
    θ_run (Cert.KernelSguF.defs (F := Bits)) (onTc (τ := Cert.KernelSguF.τ) (Cert.KernelSguF.main (F := Bits))) ⟨m, fun _ => 0, g⟩ (fun r => (∀ c : Dev Cert.KernelSguF.nD,
      r.2.mem ((c.tc : Thread Cert.KernelSguF.nD Cert.KernelSguF.τ).loc Cert.KernelSguF.main_arg0) = m ((c.tc : Thread Cert.KernelSguF.nD Cert.KernelSguF.τ).loc Cert.KernelSguF.main_arg0)
      ∧ r.2.mem ((c.tc : Thread Cert.KernelSguF.nD Cert.KernelSguF.τ).loc Cert.KernelSguF.main_arg1) = m ((c.tc : Thread Cert.KernelSguF.nD Cert.KernelSguF.τ).loc Cert.KernelSguF.main_arg1)
      ∧ r.2.mem ((c.tc : Thread Cert.KernelSguF.nD Cert.KernelSguF.τ).loc Cert.KernelSguF.main_arg2) = m ((c.tc : Thread Cert.KernelSguF.nD Cert.KernelSguF.τ).loc Cert.KernelSguF.main_arg2)
      ∧ r.2.mem ((c.tc : Thread Cert.KernelSguF.nD Cert.KernelSguF.τ).loc Cert.KernelSguF.main_arg3) = m ((c.tc : Thread Cert.KernelSguF.nD Cert.KernelSguF.τ).loc Cert.KernelSguF.main_arg3)
      ∧ r.2.mem ((c.tc : Thread Cert.KernelSguF.nD Cert.KernelSguF.τ).loc Cert.KernelSguF.main_arg4) = m ((c.tc : Thread Cert.KernelSguF.nD Cert.KernelSguF.τ).loc Cert.KernelSguF.main_arg4)
      ∧ r.2.mem ((c.tc : Thread Cert.KernelSguF.nD Cert.KernelSguF.τ).loc Cert.KernelSguF.main_arg5) = m ((c.tc : Thread Cert.KernelSguF.nD Cert.KernelSguF.τ).loc Cert.KernelSguF.main_arg5))
      ∧ r.2.sem = fun _ => 0)

def quiescent_KernelSguFIdeal [hKernelSguFIdeal : Cert.KernelSguFIdeal.Facts] : Prop :=
  ∀ (m : (ℓ : Loc Cert.KernelSguFIdeal.nD Cert.KernelSguFIdeal.τ Cert.KernelSguFIdeal.sig) → Buf (Elt Ideal) ℓ) (g : Dev Cert.KernelSguFIdeal.nD → PrngReg), Pre_KernelSguFIdeal m →
    θ_run (Cert.KernelSguFIdeal.defs (F := Ideal)) (onTc (τ := Cert.KernelSguFIdeal.τ) (Cert.KernelSguFIdeal.main (F := Ideal))) ⟨m, fun _ => 0, g⟩ (fun r => (∀ c : Dev Cert.KernelSguFIdeal.nD,
      r.2.mem ((c.tc : Thread Cert.KernelSguFIdeal.nD Cert.KernelSguFIdeal.τ).loc Cert.KernelSguFIdeal.main_arg0) = m ((c.tc : Thread Cert.KernelSguFIdeal.nD Cert.KernelSguFIdeal.τ).loc Cert.KernelSguFIdeal.main_arg0)
      ∧ r.2.mem ((c.tc : Thread Cert.KernelSguFIdeal.nD Cert.KernelSguFIdeal.τ).loc Cert.KernelSguFIdeal.main_arg1) = m ((c.tc : Thread Cert.KernelSguFIdeal.nD Cert.KernelSguFIdeal.τ).loc Cert.KernelSguFIdeal.main_arg1)
      ∧ r.2.mem ((c.tc : Thread Cert.KernelSguFIdeal.nD Cert.KernelSguFIdeal.τ).loc Cert.KernelSguFIdeal.main_arg2) = m ((c.tc : Thread Cert.KernelSguFIdeal.nD Cert.KernelSguFIdeal.τ).loc Cert.KernelSguFIdeal.main_arg2)
      ∧ r.2.mem ((c.tc : Thread Cert.KernelSguFIdeal.nD Cert.KernelSguFIdeal.τ).loc Cert.KernelSguFIdeal.main_arg3) = m ((c.tc : Thread Cert.KernelSguFIdeal.nD Cert.KernelSguFIdeal.τ).loc Cert.KernelSguFIdeal.main_arg3)
      ∧ r.2.mem ((c.tc : Thread Cert.KernelSguFIdeal.nD Cert.KernelSguFIdeal.τ).loc Cert.KernelSguFIdeal.main_arg4) = m ((c.tc : Thread Cert.KernelSguFIdeal.nD Cert.KernelSguFIdeal.τ).loc Cert.KernelSguFIdeal.main_arg4)
      ∧ r.2.mem ((c.tc : Thread Cert.KernelSguFIdeal.nD Cert.KernelSguFIdeal.τ).loc Cert.KernelSguFIdeal.main_arg5) = m ((c.tc : Thread Cert.KernelSguFIdeal.nD Cert.KernelSguFIdeal.τ).loc Cert.KernelSguFIdeal.main_arg5))
      ∧ r.2.sem = fun _ => 0)

def quiescent_ReferenceSguFIdeal [hReferenceSguFIdeal : Cert.ReferenceSguFIdeal.Facts] : Prop :=
  ∀ (m : (ℓ : Loc Cert.ReferenceSguFIdeal.nD Cert.ReferenceSguFIdeal.τ Cert.ReferenceSguFIdeal.sig) → Buf (Elt Ideal) ℓ) (g : Dev Cert.ReferenceSguFIdeal.nD → PrngReg), Pre_ReferenceSguFIdeal m →
    θ_run (Cert.ReferenceSguFIdeal.defs (F := Ideal)) (onTc (τ := Cert.ReferenceSguFIdeal.τ) (Cert.ReferenceSguFIdeal.main (F := Ideal))) ⟨m, fun _ => 0, g⟩ (fun r => (∀ c : Dev Cert.ReferenceSguFIdeal.nD,
      r.2.mem ((c.tc : Thread Cert.ReferenceSguFIdeal.nD Cert.ReferenceSguFIdeal.τ).loc Cert.ReferenceSguFIdeal.main_arg0) = m ((c.tc : Thread Cert.ReferenceSguFIdeal.nD Cert.ReferenceSguFIdeal.τ).loc Cert.ReferenceSguFIdeal.main_arg0)
      ∧ r.2.mem ((c.tc : Thread Cert.ReferenceSguFIdeal.nD Cert.ReferenceSguFIdeal.τ).loc Cert.ReferenceSguFIdeal.main_arg1) = m ((c.tc : Thread Cert.ReferenceSguFIdeal.nD Cert.ReferenceSguFIdeal.τ).loc Cert.ReferenceSguFIdeal.main_arg1)
      ∧ r.2.mem ((c.tc : Thread Cert.ReferenceSguFIdeal.nD Cert.ReferenceSguFIdeal.τ).loc Cert.ReferenceSguFIdeal.main_arg2) = m ((c.tc : Thread Cert.ReferenceSguFIdeal.nD Cert.ReferenceSguFIdeal.τ).loc Cert.ReferenceSguFIdeal.main_arg2)
      ∧ r.2.mem ((c.tc : Thread Cert.ReferenceSguFIdeal.nD Cert.ReferenceSguFIdeal.τ).loc Cert.ReferenceSguFIdeal.main_arg3) = m ((c.tc : Thread Cert.ReferenceSguFIdeal.nD Cert.ReferenceSguFIdeal.τ).loc Cert.ReferenceSguFIdeal.main_arg3)
      ∧ r.2.mem ((c.tc : Thread Cert.ReferenceSguFIdeal.nD Cert.ReferenceSguFIdeal.τ).loc Cert.ReferenceSguFIdeal.main_arg4) = m ((c.tc : Thread Cert.ReferenceSguFIdeal.nD Cert.ReferenceSguFIdeal.τ).loc Cert.ReferenceSguFIdeal.main_arg4)
      ∧ r.2.mem ((c.tc : Thread Cert.ReferenceSguFIdeal.nD Cert.ReferenceSguFIdeal.τ).loc Cert.ReferenceSguFIdeal.main_arg5) = m ((c.tc : Thread Cert.ReferenceSguFIdeal.nD Cert.ReferenceSguFIdeal.τ).loc Cert.ReferenceSguFIdeal.main_arg5))
      ∧ r.2.sem = fun _ => 0)

def quiescent_KernelAdaF [hKernelAdaF : Cert.KernelAdaF.Facts] : Prop :=
  ∀ (m : (ℓ : Loc Cert.KernelAdaF.nD Cert.KernelAdaF.τ Cert.KernelAdaF.sig) → Buf (Elt Bits) ℓ) (g : Dev Cert.KernelAdaF.nD → PrngReg), Pre_KernelAdaF m →
    θ_run (Cert.KernelAdaF.defs (F := Bits)) (onTc (τ := Cert.KernelAdaF.τ) (Cert.KernelAdaF.main (F := Bits))) ⟨m, fun _ => 0, g⟩ (fun r => (∀ c : Dev Cert.KernelAdaF.nD,
      r.2.mem ((c.tc : Thread Cert.KernelAdaF.nD Cert.KernelAdaF.τ).loc Cert.KernelAdaF.main_arg0) = m ((c.tc : Thread Cert.KernelAdaF.nD Cert.KernelAdaF.τ).loc Cert.KernelAdaF.main_arg0)
      ∧ r.2.mem ((c.tc : Thread Cert.KernelAdaF.nD Cert.KernelAdaF.τ).loc Cert.KernelAdaF.main_arg1) = m ((c.tc : Thread Cert.KernelAdaF.nD Cert.KernelAdaF.τ).loc Cert.KernelAdaF.main_arg1)
      ∧ r.2.mem ((c.tc : Thread Cert.KernelAdaF.nD Cert.KernelAdaF.τ).loc Cert.KernelAdaF.main_arg2) = m ((c.tc : Thread Cert.KernelAdaF.nD Cert.KernelAdaF.τ).loc Cert.KernelAdaF.main_arg2))
      ∧ r.2.sem = fun _ => 0)

def quiescent_KernelAdaFIdeal [hKernelAdaFIdeal : Cert.KernelAdaFIdeal.Facts] : Prop :=
  ∀ (m : (ℓ : Loc Cert.KernelAdaFIdeal.nD Cert.KernelAdaFIdeal.τ Cert.KernelAdaFIdeal.sig) → Buf (Elt Ideal) ℓ) (g : Dev Cert.KernelAdaFIdeal.nD → PrngReg), Pre_KernelAdaFIdeal m →
    θ_run (Cert.KernelAdaFIdeal.defs (F := Ideal)) (onTc (τ := Cert.KernelAdaFIdeal.τ) (Cert.KernelAdaFIdeal.main (F := Ideal))) ⟨m, fun _ => 0, g⟩ (fun r => (∀ c : Dev Cert.KernelAdaFIdeal.nD,
      r.2.mem ((c.tc : Thread Cert.KernelAdaFIdeal.nD Cert.KernelAdaFIdeal.τ).loc Cert.KernelAdaFIdeal.main_arg0) = m ((c.tc : Thread Cert.KernelAdaFIdeal.nD Cert.KernelAdaFIdeal.τ).loc Cert.KernelAdaFIdeal.main_arg0)
      ∧ r.2.mem ((c.tc : Thread Cert.KernelAdaFIdeal.nD Cert.KernelAdaFIdeal.τ).loc Cert.KernelAdaFIdeal.main_arg1) = m ((c.tc : Thread Cert.KernelAdaFIdeal.nD Cert.KernelAdaFIdeal.τ).loc Cert.KernelAdaFIdeal.main_arg1)
      ∧ r.2.mem ((c.tc : Thread Cert.KernelAdaFIdeal.nD Cert.KernelAdaFIdeal.τ).loc Cert.KernelAdaFIdeal.main_arg2) = m ((c.tc : Thread Cert.KernelAdaFIdeal.nD Cert.KernelAdaFIdeal.τ).loc Cert.KernelAdaFIdeal.main_arg2))
      ∧ r.2.sem = fun _ => 0)

def quiescent_ReferenceAdaFIdeal [hReferenceAdaFIdeal : Cert.ReferenceAdaFIdeal.Facts] : Prop :=
  ∀ (m : (ℓ : Loc Cert.ReferenceAdaFIdeal.nD Cert.ReferenceAdaFIdeal.τ Cert.ReferenceAdaFIdeal.sig) → Buf (Elt Ideal) ℓ) (g : Dev Cert.ReferenceAdaFIdeal.nD → PrngReg), Pre_ReferenceAdaFIdeal m →
    θ_run (Cert.ReferenceAdaFIdeal.defs (F := Ideal)) (onTc (τ := Cert.ReferenceAdaFIdeal.τ) (Cert.ReferenceAdaFIdeal.main (F := Ideal))) ⟨m, fun _ => 0, g⟩ (fun r => (∀ c : Dev Cert.ReferenceAdaFIdeal.nD,
      r.2.mem ((c.tc : Thread Cert.ReferenceAdaFIdeal.nD Cert.ReferenceAdaFIdeal.τ).loc Cert.ReferenceAdaFIdeal.main_arg0) = m ((c.tc : Thread Cert.ReferenceAdaFIdeal.nD Cert.ReferenceAdaFIdeal.τ).loc Cert.ReferenceAdaFIdeal.main_arg0)
      ∧ r.2.mem ((c.tc : Thread Cert.ReferenceAdaFIdeal.nD Cert.ReferenceAdaFIdeal.τ).loc Cert.ReferenceAdaFIdeal.main_arg1) = m ((c.tc : Thread Cert.ReferenceAdaFIdeal.nD Cert.ReferenceAdaFIdeal.τ).loc Cert.ReferenceAdaFIdeal.main_arg1)
      ∧ r.2.mem ((c.tc : Thread Cert.ReferenceAdaFIdeal.nD Cert.ReferenceAdaFIdeal.τ).loc Cert.ReferenceAdaFIdeal.main_arg2) = m ((c.tc : Thread Cert.ReferenceAdaFIdeal.nD Cert.ReferenceAdaFIdeal.τ).loc Cert.ReferenceAdaFIdeal.main_arg2))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelMmTn [hKernelMmTn : Cert.KernelMmTn.Facts] : Prop :=
  ∀ (m : (ℓ : Loc Cert.KernelMmTn.nD Cert.KernelMmTn.τ Cert.KernelMmTn.sig) → Buf (Elt Bits) ℓ) (g : Dev Cert.KernelMmTn.nD → PrngReg), Pre_KernelMmTn m →
    θ_run (Cert.KernelMmTn.defs (F := Bits)) (onTc (τ := Cert.KernelMmTn.τ) (Cert.KernelMmTn.main (F := Bits))) ⟨m, fun _ => 0, g⟩ (fun r => (∀ c : Dev Cert.KernelMmTn.nD,
      r.2.mem ((c.tc : Thread Cert.KernelMmTn.nD Cert.KernelMmTn.τ).loc Cert.KernelMmTn.main_arg0) = m ((c.tc : Thread Cert.KernelMmTn.nD Cert.KernelMmTn.τ).loc Cert.KernelMmTn.main_arg0)
      ∧ r.2.mem ((c.tc : Thread Cert.KernelMmTn.nD Cert.KernelMmTn.τ).loc Cert.KernelMmTn.main_arg1) = m ((c.tc : Thread Cert.KernelMmTn.nD Cert.KernelMmTn.τ).loc Cert.KernelMmTn.main_arg1)
      ∧ r.2.mem ((c.tc : Thread Cert.KernelMmTn.nD Cert.KernelMmTn.τ).loc Cert.KernelMmTn.main_arg2) = m ((c.tc : Thread Cert.KernelMmTn.nD Cert.KernelMmTn.τ).loc Cert.KernelMmTn.main_arg2)
      ∧ r.2.mem ((c.tc : Thread Cert.KernelMmTn.nD Cert.KernelMmTn.τ).loc Cert.KernelMmTn.main_arg3) = m ((c.tc : Thread Cert.KernelMmTn.nD Cert.KernelMmTn.τ).loc Cert.KernelMmTn.main_arg3)
      ∧ r.2.mem ((c.tc : Thread Cert.KernelMmTn.nD Cert.KernelMmTn.τ).loc Cert.KernelMmTn.main_arg4) = m ((c.tc : Thread Cert.KernelMmTn.nD Cert.KernelMmTn.τ).loc Cert.KernelMmTn.main_arg4))
      ∧ r.2.sem = fun _ => 0)

def quiescent_KernelMmTnIdeal [hKernelMmTnIdeal : Cert.KernelMmTnIdeal.Facts] : Prop :=
  ∀ (m : (ℓ : Loc Cert.KernelMmTnIdeal.nD Cert.KernelMmTnIdeal.τ Cert.KernelMmTnIdeal.sig) → Buf (Elt Ideal) ℓ) (g : Dev Cert.KernelMmTnIdeal.nD → PrngReg), Pre_KernelMmTnIdeal m →
    θ_run (Cert.KernelMmTnIdeal.defs (F := Ideal)) (onTc (τ := Cert.KernelMmTnIdeal.τ) (Cert.KernelMmTnIdeal.main (F := Ideal))) ⟨m, fun _ => 0, g⟩ (fun r => (∀ c : Dev Cert.KernelMmTnIdeal.nD,
      r.2.mem ((c.tc : Thread Cert.KernelMmTnIdeal.nD Cert.KernelMmTnIdeal.τ).loc Cert.KernelMmTnIdeal.main_arg0) = m ((c.tc : Thread Cert.KernelMmTnIdeal.nD Cert.KernelMmTnIdeal.τ).loc Cert.KernelMmTnIdeal.main_arg0)
      ∧ r.2.mem ((c.tc : Thread Cert.KernelMmTnIdeal.nD Cert.KernelMmTnIdeal.τ).loc Cert.KernelMmTnIdeal.main_arg1) = m ((c.tc : Thread Cert.KernelMmTnIdeal.nD Cert.KernelMmTnIdeal.τ).loc Cert.KernelMmTnIdeal.main_arg1)
      ∧ r.2.mem ((c.tc : Thread Cert.KernelMmTnIdeal.nD Cert.KernelMmTnIdeal.τ).loc Cert.KernelMmTnIdeal.main_arg2) = m ((c.tc : Thread Cert.KernelMmTnIdeal.nD Cert.KernelMmTnIdeal.τ).loc Cert.KernelMmTnIdeal.main_arg2)
      ∧ r.2.mem ((c.tc : Thread Cert.KernelMmTnIdeal.nD Cert.KernelMmTnIdeal.τ).loc Cert.KernelMmTnIdeal.main_arg3) = m ((c.tc : Thread Cert.KernelMmTnIdeal.nD Cert.KernelMmTnIdeal.τ).loc Cert.KernelMmTnIdeal.main_arg3)
      ∧ r.2.mem ((c.tc : Thread Cert.KernelMmTnIdeal.nD Cert.KernelMmTnIdeal.τ).loc Cert.KernelMmTnIdeal.main_arg4) = m ((c.tc : Thread Cert.KernelMmTnIdeal.nD Cert.KernelMmTnIdeal.τ).loc Cert.KernelMmTnIdeal.main_arg4))
      ∧ r.2.sem = fun _ => 0)

def quiescent_ReferenceMmTnIdeal [hReferenceMmTnIdeal : Cert.ReferenceMmTnIdeal.Facts] : Prop :=
  ∀ (m : (ℓ : Loc Cert.ReferenceMmTnIdeal.nD Cert.ReferenceMmTnIdeal.τ Cert.ReferenceMmTnIdeal.sig) → Buf (Elt Ideal) ℓ) (g : Dev Cert.ReferenceMmTnIdeal.nD → PrngReg), Pre_ReferenceMmTnIdeal m →
    θ_run (Cert.ReferenceMmTnIdeal.defs (F := Ideal)) (onTc (τ := Cert.ReferenceMmTnIdeal.τ) (Cert.ReferenceMmTnIdeal.main (F := Ideal))) ⟨m, fun _ => 0, g⟩ (fun r => (∀ c : Dev Cert.ReferenceMmTnIdeal.nD,
      r.2.mem ((c.tc : Thread Cert.ReferenceMmTnIdeal.nD Cert.ReferenceMmTnIdeal.τ).loc Cert.ReferenceMmTnIdeal.main_arg0) = m ((c.tc : Thread Cert.ReferenceMmTnIdeal.nD Cert.ReferenceMmTnIdeal.τ).loc Cert.ReferenceMmTnIdeal.main_arg0)
      ∧ r.2.mem ((c.tc : Thread Cert.ReferenceMmTnIdeal.nD Cert.ReferenceMmTnIdeal.τ).loc Cert.ReferenceMmTnIdeal.main_arg1) = m ((c.tc : Thread Cert.ReferenceMmTnIdeal.nD Cert.ReferenceMmTnIdeal.τ).loc Cert.ReferenceMmTnIdeal.main_arg1)
      ∧ r.2.mem ((c.tc : Thread Cert.ReferenceMmTnIdeal.nD Cert.ReferenceMmTnIdeal.τ).loc Cert.ReferenceMmTnIdeal.main_arg2) = m ((c.tc : Thread Cert.ReferenceMmTnIdeal.nD Cert.ReferenceMmTnIdeal.τ).loc Cert.ReferenceMmTnIdeal.main_arg2)
      ∧ r.2.mem ((c.tc : Thread Cert.ReferenceMmTnIdeal.nD Cert.ReferenceMmTnIdeal.τ).loc Cert.ReferenceMmTnIdeal.main_arg3) = m ((c.tc : Thread Cert.ReferenceMmTnIdeal.nD Cert.ReferenceMmTnIdeal.τ).loc Cert.ReferenceMmTnIdeal.main_arg3)
      ∧ r.2.mem ((c.tc : Thread Cert.ReferenceMmTnIdeal.nD Cert.ReferenceMmTnIdeal.τ).loc Cert.ReferenceMmTnIdeal.main_arg4) = m ((c.tc : Thread Cert.ReferenceMmTnIdeal.nD Cert.ReferenceMmTnIdeal.τ).loc Cert.ReferenceMmTnIdeal.main_arg4))
      ∧ r.2.sem = fun _ => 0)

def quiescent_KernelAdamW [hKernelAdamW : Cert.KernelAdamW.Facts] : Prop :=
  ∀ (m : (ℓ : Loc Cert.KernelAdamW.nD Cert.KernelAdamW.τ Cert.KernelAdamW.sig) → Buf (Elt Bits) ℓ) (g : Dev Cert.KernelAdamW.nD → PrngReg), Pre_KernelAdamW m →
    θ_run (Cert.KernelAdamW.defs (F := Bits)) (onTc (τ := Cert.KernelAdamW.τ) (Cert.KernelAdamW.main (F := Bits))) ⟨m, fun _ => 0, g⟩ (fun r => (∀ c : Dev Cert.KernelAdamW.nD,
      r.2.mem ((c.tc : Thread Cert.KernelAdamW.nD Cert.KernelAdamW.τ).loc Cert.KernelAdamW.main_arg0) = m ((c.tc : Thread Cert.KernelAdamW.nD Cert.KernelAdamW.τ).loc Cert.KernelAdamW.main_arg0)
      ∧ r.2.mem ((c.tc : Thread Cert.KernelAdamW.nD Cert.KernelAdamW.τ).loc Cert.KernelAdamW.main_arg1) = m ((c.tc : Thread Cert.KernelAdamW.nD Cert.KernelAdamW.τ).loc Cert.KernelAdamW.main_arg1)
      ∧ r.2.mem ((c.tc : Thread Cert.KernelAdamW.nD Cert.KernelAdamW.τ).loc Cert.KernelAdamW.main_arg2) = m ((c.tc : Thread Cert.KernelAdamW.nD Cert.KernelAdamW.τ).loc Cert.KernelAdamW.main_arg2)
      ∧ r.2.mem ((c.tc : Thread Cert.KernelAdamW.nD Cert.KernelAdamW.τ).loc Cert.KernelAdamW.main_arg3) = m ((c.tc : Thread Cert.KernelAdamW.nD Cert.KernelAdamW.τ).loc Cert.KernelAdamW.main_arg3))
      ∧ r.2.sem = fun _ => 0)

def quiescent_KernelAdamWIdeal [hKernelAdamWIdeal : Cert.KernelAdamWIdeal.Facts] : Prop :=
  ∀ (m : (ℓ : Loc Cert.KernelAdamWIdeal.nD Cert.KernelAdamWIdeal.τ Cert.KernelAdamWIdeal.sig) → Buf (Elt Ideal) ℓ) (g : Dev Cert.KernelAdamWIdeal.nD → PrngReg), Pre_KernelAdamWIdeal m →
    θ_run (Cert.KernelAdamWIdeal.defs (F := Ideal)) (onTc (τ := Cert.KernelAdamWIdeal.τ) (Cert.KernelAdamWIdeal.main (F := Ideal))) ⟨m, fun _ => 0, g⟩ (fun r => (∀ c : Dev Cert.KernelAdamWIdeal.nD,
      r.2.mem ((c.tc : Thread Cert.KernelAdamWIdeal.nD Cert.KernelAdamWIdeal.τ).loc Cert.KernelAdamWIdeal.main_arg0) = m ((c.tc : Thread Cert.KernelAdamWIdeal.nD Cert.KernelAdamWIdeal.τ).loc Cert.KernelAdamWIdeal.main_arg0)
      ∧ r.2.mem ((c.tc : Thread Cert.KernelAdamWIdeal.nD Cert.KernelAdamWIdeal.τ).loc Cert.KernelAdamWIdeal.main_arg1) = m ((c.tc : Thread Cert.KernelAdamWIdeal.nD Cert.KernelAdamWIdeal.τ).loc Cert.KernelAdamWIdeal.main_arg1)
      ∧ r.2.mem ((c.tc : Thread Cert.KernelAdamWIdeal.nD Cert.KernelAdamWIdeal.τ).loc Cert.KernelAdamWIdeal.main_arg2) = m ((c.tc : Thread Cert.KernelAdamWIdeal.nD Cert.KernelAdamWIdeal.τ).loc Cert.KernelAdamWIdeal.main_arg2)
      ∧ r.2.mem ((c.tc : Thread Cert.KernelAdamWIdeal.nD Cert.KernelAdamWIdeal.τ).loc Cert.KernelAdamWIdeal.main_arg3) = m ((c.tc : Thread Cert.KernelAdamWIdeal.nD Cert.KernelAdamWIdeal.τ).loc Cert.KernelAdamWIdeal.main_arg3))
      ∧ r.2.sem = fun _ => 0)

def quiescent_ReferenceAdamWIdeal [hReferenceAdamWIdeal : Cert.ReferenceAdamWIdeal.Facts] : Prop :=
  ∀ (m : (ℓ : Loc Cert.ReferenceAdamWIdeal.nD Cert.ReferenceAdamWIdeal.τ Cert.ReferenceAdamWIdeal.sig) → Buf (Elt Ideal) ℓ) (g : Dev Cert.ReferenceAdamWIdeal.nD → PrngReg), Pre_ReferenceAdamWIdeal m →
    θ_run (Cert.ReferenceAdamWIdeal.defs (F := Ideal)) (onTc (τ := Cert.ReferenceAdamWIdeal.τ) (Cert.ReferenceAdamWIdeal.main (F := Ideal))) ⟨m, fun _ => 0, g⟩ (fun r => (∀ c : Dev Cert.ReferenceAdamWIdeal.nD,
      r.2.mem ((c.tc : Thread Cert.ReferenceAdamWIdeal.nD Cert.ReferenceAdamWIdeal.τ).loc Cert.ReferenceAdamWIdeal.main_arg0) = m ((c.tc : Thread Cert.ReferenceAdamWIdeal.nD Cert.ReferenceAdamWIdeal.τ).loc Cert.ReferenceAdamWIdeal.main_arg0)
      ∧ r.2.mem ((c.tc : Thread Cert.ReferenceAdamWIdeal.nD Cert.ReferenceAdamWIdeal.τ).loc Cert.ReferenceAdamWIdeal.main_arg1) = m ((c.tc : Thread Cert.ReferenceAdamWIdeal.nD Cert.ReferenceAdamWIdeal.τ).loc Cert.ReferenceAdamWIdeal.main_arg1)
      ∧ r.2.mem ((c.tc : Thread Cert.ReferenceAdamWIdeal.nD Cert.ReferenceAdamWIdeal.τ).loc Cert.ReferenceAdamWIdeal.main_arg2) = m ((c.tc : Thread Cert.ReferenceAdamWIdeal.nD Cert.ReferenceAdamWIdeal.τ).loc Cert.ReferenceAdamWIdeal.main_arg2)
      ∧ r.2.mem ((c.tc : Thread Cert.ReferenceAdamWIdeal.nD Cert.ReferenceAdamWIdeal.τ).loc Cert.ReferenceAdamWIdeal.main_arg3) = m ((c.tc : Thread Cert.ReferenceAdamWIdeal.nD Cert.ReferenceAdamWIdeal.τ).loc Cert.ReferenceAdamWIdeal.main_arg3))
      ∧ r.2.sem = fun _ => 0)

def quiescent_KernelSum [hKernelSum : Cert.KernelSum.Facts] : Prop :=
  ∀ (m : (ℓ : Loc Cert.KernelSum.nD Cert.KernelSum.τ Cert.KernelSum.sig) → Buf (Elt Bits) ℓ) (g : Dev Cert.KernelSum.nD → PrngReg), Pre_KernelSum m →
    θ_run (Cert.KernelSum.defs (F := Bits)) (onTc (τ := Cert.KernelSum.τ) (Cert.KernelSum.main (F := Bits))) ⟨m, fun _ => 0, g⟩ (fun r => (∀ c : Dev Cert.KernelSum.nD,
      r.2.mem ((c.tc : Thread Cert.KernelSum.nD Cert.KernelSum.τ).loc Cert.KernelSum.main_arg0) = m ((c.tc : Thread Cert.KernelSum.nD Cert.KernelSum.τ).loc Cert.KernelSum.main_arg0))
      ∧ r.2.sem = fun _ => 0)

def quiescent_KernelSumIdeal [hKernelSumIdeal : Cert.KernelSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg), Pre_KernelSumIdeal m →
    θ_run (Cert.KernelSumIdeal.defs (F := Ideal)) (onTc (τ := Cert.KernelSumIdeal.τ) (Cert.KernelSumIdeal.main (F := Ideal))) ⟨m, fun _ => 0, g⟩ (fun r => (∀ c : Dev Cert.KernelSumIdeal.nD,
      r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ r.2.sem = fun _ => 0)

def quiescent_ReferenceSumIdeal [hReferenceSumIdeal : Cert.ReferenceSumIdeal.Facts] : Prop :=
  ∀ (m : (ℓ : Loc Cert.ReferenceSumIdeal.nD Cert.ReferenceSumIdeal.τ Cert.ReferenceSumIdeal.sig) → Buf (Elt Ideal) ℓ) (g : Dev Cert.ReferenceSumIdeal.nD → PrngReg), Pre_ReferenceSumIdeal m →
    θ_run (Cert.ReferenceSumIdeal.defs (F := Ideal)) (onTc (τ := Cert.ReferenceSumIdeal.τ) (Cert.ReferenceSumIdeal.main (F := Ideal))) ⟨m, fun _ => 0, g⟩ (fun r => (∀ c : Dev Cert.ReferenceSumIdeal.nD,
      r.2.mem ((c.tc : Thread Cert.ReferenceSumIdeal.nD Cert.ReferenceSumIdeal.τ).loc Cert.ReferenceSumIdeal.main_arg0) = m ((c.tc : Thread Cert.ReferenceSumIdeal.nD Cert.ReferenceSumIdeal.τ).loc Cert.ReferenceSumIdeal.main_arg0))
      ∧ r.2.sem = fun _ => 0)

def quiescent_KernelPair [hKernelPair : Cert.KernelPair.Facts] [hPre_half_pairs : Cert.Pre_half_pairs.Facts] : Prop :=
  ∀ (m : (ℓ : Loc Cert.KernelPair.nD Cert.KernelPair.τ Cert.KernelPair.sig) → Buf (Elt Bits) ℓ) (g : Dev Cert.KernelPair.nD → PrngReg), Pre_KernelPair m →
    θ_run (Cert.KernelPair.defs (F := Bits)) (onTc (τ := Cert.KernelPair.τ) (Cert.KernelPair.main (F := Bits))) ⟨m, fun _ => 0, g⟩ (fun r => (∀ c : Dev Cert.KernelPair.nD,
      r.2.mem ((c.tc : Thread Cert.KernelPair.nD Cert.KernelPair.τ).loc Cert.KernelPair.main_arg0) = m ((c.tc : Thread Cert.KernelPair.nD Cert.KernelPair.τ).loc Cert.KernelPair.main_arg0)
      ∧ r.2.mem ((c.tc : Thread Cert.KernelPair.nD Cert.KernelPair.τ).loc Cert.KernelPair.main_arg1) = m ((c.tc : Thread Cert.KernelPair.nD Cert.KernelPair.τ).loc Cert.KernelPair.main_arg1)
      ∧ r.2.mem ((c.tc : Thread Cert.KernelPair.nD Cert.KernelPair.τ).loc Cert.KernelPair.main_arg2) = m ((c.tc : Thread Cert.KernelPair.nD Cert.KernelPair.τ).loc Cert.KernelPair.main_arg2))
      ∧ r.2.sem = fun _ => 0)

def quiescent_KernelPairIdeal [hKernelPairIdeal : Cert.KernelPairIdeal.Facts] [hPre_half_pairs : Cert.Pre_half_pairs.Facts] : Prop :=
  ∀ (m : (ℓ : Loc Cert.KernelPairIdeal.nD Cert.KernelPairIdeal.τ Cert.KernelPairIdeal.sig) → Buf (Elt Ideal) ℓ) (g : Dev Cert.KernelPairIdeal.nD → PrngReg), Pre_KernelPairIdeal m →
    θ_run (Cert.KernelPairIdeal.defs (F := Ideal)) (onTc (τ := Cert.KernelPairIdeal.τ) (Cert.KernelPairIdeal.main (F := Ideal))) ⟨m, fun _ => 0, g⟩ (fun r => (∀ c : Dev Cert.KernelPairIdeal.nD,
      r.2.mem ((c.tc : Thread Cert.KernelPairIdeal.nD Cert.KernelPairIdeal.τ).loc Cert.KernelPairIdeal.main_arg0) = m ((c.tc : Thread Cert.KernelPairIdeal.nD Cert.KernelPairIdeal.τ).loc Cert.KernelPairIdeal.main_arg0)
      ∧ r.2.mem ((c.tc : Thread Cert.KernelPairIdeal.nD Cert.KernelPairIdeal.τ).loc Cert.KernelPairIdeal.main_arg1) = m ((c.tc : Thread Cert.KernelPairIdeal.nD Cert.KernelPairIdeal.τ).loc Cert.KernelPairIdeal.main_arg1)
      ∧ r.2.mem ((c.tc : Thread Cert.KernelPairIdeal.nD Cert.KernelPairIdeal.τ).loc Cert.KernelPairIdeal.main_arg2) = m ((c.tc : Thread Cert.KernelPairIdeal.nD Cert.KernelPairIdeal.τ).loc Cert.KernelPairIdeal.main_arg2))
      ∧ r.2.sem = fun _ => 0)

def quiescent_ReferencePairIdeal [hReferencePairIdeal : Cert.ReferencePairIdeal.Facts] [hPre_half_pairs : Cert.Pre_half_pairs.Facts] : Prop :=
  ∀ (m : (ℓ : Loc Cert.ReferencePairIdeal.nD Cert.ReferencePairIdeal.τ Cert.ReferencePairIdeal.sig) → Buf (Elt Ideal) ℓ) (g : Dev Cert.ReferencePairIdeal.nD → PrngReg), Pre_ReferencePairIdeal m →
    θ_run (Cert.ReferencePairIdeal.defs (F := Ideal)) (onTc (τ := Cert.ReferencePairIdeal.τ) (Cert.ReferencePairIdeal.main (F := Ideal))) ⟨m, fun _ => 0, g⟩ (fun r => (∀ c : Dev Cert.ReferencePairIdeal.nD,
      r.2.mem ((c.tc : Thread Cert.ReferencePairIdeal.nD Cert.ReferencePairIdeal.τ).loc Cert.ReferencePairIdeal.main_arg0) = m ((c.tc : Thread Cert.ReferencePairIdeal.nD Cert.ReferencePairIdeal.τ).loc Cert.ReferencePairIdeal.main_arg0)
      ∧ r.2.mem ((c.tc : Thread Cert.ReferencePairIdeal.nD Cert.ReferencePairIdeal.τ).loc Cert.ReferencePairIdeal.main_arg1) = m ((c.tc : Thread Cert.ReferencePairIdeal.nD Cert.ReferencePairIdeal.τ).loc Cert.ReferencePairIdeal.main_arg1)
      ∧ r.2.mem ((c.tc : Thread Cert.ReferencePairIdeal.nD Cert.ReferencePairIdeal.τ).loc Cert.ReferencePairIdeal.main_arg2) = m ((c.tc : Thread Cert.ReferencePairIdeal.nD Cert.ReferencePairIdeal.τ).loc Cert.ReferencePairIdeal.main_arg2))
      ∧ r.2.sem = fun _ => 0)

def quiescent_KernelAttB [hKernelAttB : Cert.KernelAttB.Facts] : Prop :=
  ∀ (m : (ℓ : Loc Cert.KernelAttB.nD Cert.KernelAttB.τ Cert.KernelAttB.sig) → Buf (Elt Bits) ℓ) (g : Dev Cert.KernelAttB.nD → PrngReg), Pre_KernelAttB m →
    θ_run (Cert.KernelAttB.defs (F := Bits)) (onTc (τ := Cert.KernelAttB.τ) (Cert.KernelAttB.main (F := Bits))) ⟨m, fun _ => 0, g⟩ (fun r => (∀ c : Dev Cert.KernelAttB.nD,
      r.2.mem ((c.tc : Thread Cert.KernelAttB.nD Cert.KernelAttB.τ).loc Cert.KernelAttB.main_arg0) = m ((c.tc : Thread Cert.KernelAttB.nD Cert.KernelAttB.τ).loc Cert.KernelAttB.main_arg0)
      ∧ r.2.mem ((c.tc : Thread Cert.KernelAttB.nD Cert.KernelAttB.τ).loc Cert.KernelAttB.main_arg1) = m ((c.tc : Thread Cert.KernelAttB.nD Cert.KernelAttB.τ).loc Cert.KernelAttB.main_arg1)
      ∧ r.2.mem ((c.tc : Thread Cert.KernelAttB.nD Cert.KernelAttB.τ).loc Cert.KernelAttB.main_arg2) = m ((c.tc : Thread Cert.KernelAttB.nD Cert.KernelAttB.τ).loc Cert.KernelAttB.main_arg2)
      ∧ r.2.mem ((c.tc : Thread Cert.KernelAttB.nD Cert.KernelAttB.τ).loc Cert.KernelAttB.main_arg3) = m ((c.tc : Thread Cert.KernelAttB.nD Cert.KernelAttB.τ).loc Cert.KernelAttB.main_arg3)
      ∧ r.2.mem ((c.tc : Thread Cert.KernelAttB.nD Cert.KernelAttB.τ).loc Cert.KernelAttB.main_arg4) = m ((c.tc : Thread Cert.KernelAttB.nD Cert.KernelAttB.τ).loc Cert.KernelAttB.main_arg4)
      ∧ r.2.mem ((c.tc : Thread Cert.KernelAttB.nD Cert.KernelAttB.τ).loc Cert.KernelAttB.main_arg5) = m ((c.tc : Thread Cert.KernelAttB.nD Cert.KernelAttB.τ).loc Cert.KernelAttB.main_arg5)
      ∧ r.2.mem ((c.tc : Thread Cert.KernelAttB.nD Cert.KernelAttB.τ).loc Cert.KernelAttB.main_arg6) = m ((c.tc : Thread Cert.KernelAttB.nD Cert.KernelAttB.τ).loc Cert.KernelAttB.main_arg6))
      ∧ r.2.sem = fun _ => 0)

def quiescent_KernelAttBIdeal [hKernelAttBIdeal : Cert.KernelAttBIdeal.Facts] : Prop :=
  ∀ (m : (ℓ : Loc Cert.KernelAttBIdeal.nD Cert.KernelAttBIdeal.τ Cert.KernelAttBIdeal.sig) → Buf (Elt Ideal) ℓ) (g : Dev Cert.KernelAttBIdeal.nD → PrngReg), Pre_KernelAttBIdeal m →
    θ_run (Cert.KernelAttBIdeal.defs (F := Ideal)) (onTc (τ := Cert.KernelAttBIdeal.τ) (Cert.KernelAttBIdeal.main (F := Ideal))) ⟨m, fun _ => 0, g⟩ (fun r => (∀ c : Dev Cert.KernelAttBIdeal.nD,
      r.2.mem ((c.tc : Thread Cert.KernelAttBIdeal.nD Cert.KernelAttBIdeal.τ).loc Cert.KernelAttBIdeal.main_arg0) = m ((c.tc : Thread Cert.KernelAttBIdeal.nD Cert.KernelAttBIdeal.τ).loc Cert.KernelAttBIdeal.main_arg0)
      ∧ r.2.mem ((c.tc : Thread Cert.KernelAttBIdeal.nD Cert.KernelAttBIdeal.τ).loc Cert.KernelAttBIdeal.main_arg1) = m ((c.tc : Thread Cert.KernelAttBIdeal.nD Cert.KernelAttBIdeal.τ).loc Cert.KernelAttBIdeal.main_arg1)
      ∧ r.2.mem ((c.tc : Thread Cert.KernelAttBIdeal.nD Cert.KernelAttBIdeal.τ).loc Cert.KernelAttBIdeal.main_arg2) = m ((c.tc : Thread Cert.KernelAttBIdeal.nD Cert.KernelAttBIdeal.τ).loc Cert.KernelAttBIdeal.main_arg2)
      ∧ r.2.mem ((c.tc : Thread Cert.KernelAttBIdeal.nD Cert.KernelAttBIdeal.τ).loc Cert.KernelAttBIdeal.main_arg3) = m ((c.tc : Thread Cert.KernelAttBIdeal.nD Cert.KernelAttBIdeal.τ).loc Cert.KernelAttBIdeal.main_arg3)
      ∧ r.2.mem ((c.tc : Thread Cert.KernelAttBIdeal.nD Cert.KernelAttBIdeal.τ).loc Cert.KernelAttBIdeal.main_arg4) = m ((c.tc : Thread Cert.KernelAttBIdeal.nD Cert.KernelAttBIdeal.τ).loc Cert.KernelAttBIdeal.main_arg4)
      ∧ r.2.mem ((c.tc : Thread Cert.KernelAttBIdeal.nD Cert.KernelAttBIdeal.τ).loc Cert.KernelAttBIdeal.main_arg5) = m ((c.tc : Thread Cert.KernelAttBIdeal.nD Cert.KernelAttBIdeal.τ).loc Cert.KernelAttBIdeal.main_arg5)
      ∧ r.2.mem ((c.tc : Thread Cert.KernelAttBIdeal.nD Cert.KernelAttBIdeal.τ).loc Cert.KernelAttBIdeal.main_arg6) = m ((c.tc : Thread Cert.KernelAttBIdeal.nD Cert.KernelAttBIdeal.τ).loc Cert.KernelAttBIdeal.main_arg6))
      ∧ r.2.sem = fun _ => 0)

def quiescent_KernelAttF [hKernelAttF : Cert.KernelAttF.Facts] : Prop :=
  ∀ (m : (ℓ : Loc Cert.KernelAttF.nD Cert.KernelAttF.τ Cert.KernelAttF.sig) → Buf (Elt Bits) ℓ) (g : Dev Cert.KernelAttF.nD → PrngReg), Pre_KernelAttF m →
    θ_run (Cert.KernelAttF.defs (F := Bits)) (onTc (τ := Cert.KernelAttF.τ) (Cert.KernelAttF.main (F := Bits))) ⟨m, fun _ => 0, g⟩ (fun r => (∀ c : Dev Cert.KernelAttF.nD,
      r.2.mem ((c.tc : Thread Cert.KernelAttF.nD Cert.KernelAttF.τ).loc Cert.KernelAttF.main_arg0) = m ((c.tc : Thread Cert.KernelAttF.nD Cert.KernelAttF.τ).loc Cert.KernelAttF.main_arg0)
      ∧ r.2.mem ((c.tc : Thread Cert.KernelAttF.nD Cert.KernelAttF.τ).loc Cert.KernelAttF.main_arg1) = m ((c.tc : Thread Cert.KernelAttF.nD Cert.KernelAttF.τ).loc Cert.KernelAttF.main_arg1)
      ∧ r.2.mem ((c.tc : Thread Cert.KernelAttF.nD Cert.KernelAttF.τ).loc Cert.KernelAttF.main_arg2) = m ((c.tc : Thread Cert.KernelAttF.nD Cert.KernelAttF.τ).loc Cert.KernelAttF.main_arg2)
      ∧ r.2.mem ((c.tc : Thread Cert.KernelAttF.nD Cert.KernelAttF.τ).loc Cert.KernelAttF.main_arg3) = m ((c.tc : Thread Cert.KernelAttF.nD Cert.KernelAttF.τ).loc Cert.KernelAttF.main_arg3)
      ∧ r.2.mem ((c.tc : Thread Cert.KernelAttF.nD Cert.KernelAttF.τ).loc Cert.KernelAttF.main_arg4) = m ((c.tc : Thread Cert.KernelAttF.nD Cert.KernelAttF.τ).loc Cert.KernelAttF.main_arg4)
      ∧ r.2.mem ((c.tc : Thread Cert.KernelAttF.nD Cert.KernelAttF.τ).loc Cert.KernelAttF.main_arg5) = m ((c.tc : Thread Cert.KernelAttF.nD Cert.KernelAttF.τ).loc Cert.KernelAttF.main_arg5))
      ∧ r.2.sem = fun _ => 0)

def quiescent_KernelAttFIdeal [hKernelAttFIdeal : Cert.KernelAttFIdeal.Facts] : Prop :=
  ∀ (m : (ℓ : Loc Cert.KernelAttFIdeal.nD Cert.KernelAttFIdeal.τ Cert.KernelAttFIdeal.sig) → Buf (Elt Ideal) ℓ) (g : Dev Cert.KernelAttFIdeal.nD → PrngReg), Pre_KernelAttFIdeal m →
    θ_run (Cert.KernelAttFIdeal.defs (F := Ideal)) (onTc (τ := Cert.KernelAttFIdeal.τ) (Cert.KernelAttFIdeal.main (F := Ideal))) ⟨m, fun _ => 0, g⟩ (fun r => (∀ c : Dev Cert.KernelAttFIdeal.nD,
      r.2.mem ((c.tc : Thread Cert.KernelAttFIdeal.nD Cert.KernelAttFIdeal.τ).loc Cert.KernelAttFIdeal.main_arg0) = m ((c.tc : Thread Cert.KernelAttFIdeal.nD Cert.KernelAttFIdeal.τ).loc Cert.KernelAttFIdeal.main_arg0)
      ∧ r.2.mem ((c.tc : Thread Cert.KernelAttFIdeal.nD Cert.KernelAttFIdeal.τ).loc Cert.KernelAttFIdeal.main_arg1) = m ((c.tc : Thread Cert.KernelAttFIdeal.nD Cert.KernelAttFIdeal.τ).loc Cert.KernelAttFIdeal.main_arg1)
      ∧ r.2.mem ((c.tc : Thread Cert.KernelAttFIdeal.nD Cert.KernelAttFIdeal.τ).loc Cert.KernelAttFIdeal.main_arg2) = m ((c.tc : Thread Cert.KernelAttFIdeal.nD Cert.KernelAttFIdeal.τ).loc Cert.KernelAttFIdeal.main_arg2)
      ∧ r.2.mem ((c.tc : Thread Cert.KernelAttFIdeal.nD Cert.KernelAttFIdeal.τ).loc Cert.KernelAttFIdeal.main_arg3) = m ((c.tc : Thread Cert.KernelAttFIdeal.nD Cert.KernelAttFIdeal.τ).loc Cert.KernelAttFIdeal.main_arg3)
      ∧ r.2.mem ((c.tc : Thread Cert.KernelAttFIdeal.nD Cert.KernelAttFIdeal.τ).loc Cert.KernelAttFIdeal.main_arg4) = m ((c.tc : Thread Cert.KernelAttFIdeal.nD Cert.KernelAttFIdeal.τ).loc Cert.KernelAttFIdeal.main_arg4)
      ∧ r.2.mem ((c.tc : Thread Cert.KernelAttFIdeal.nD Cert.KernelAttFIdeal.τ).loc Cert.KernelAttFIdeal.main_arg5) = m ((c.tc : Thread Cert.KernelAttFIdeal.nD Cert.KernelAttFIdeal.τ).loc Cert.KernelAttFIdeal.main_arg5))
      ∧ r.2.sem = fun _ => 0)

def preserves_KernelLoss_KernelLossIdeal : Prop :=
  True

def algebraic_KernelLossIdeal_ReferenceLossIdeal [hKernelLossIdeal : Cert.KernelLossIdeal.Facts] [hReferenceLossIdeal : Cert.ReferenceLossIdeal.Facts] : Prop :=
  ∀ (m : (ℓ : Loc Cert.KernelLossIdeal.nD Cert.KernelLossIdeal.τ Cert.KernelLossIdeal.sig) → Buf (Elt Ideal) ℓ) (g : Dev Cert.KernelLossIdeal.nD → PrngReg)
    (m' : (ℓ : Loc Cert.ReferenceLossIdeal.nD Cert.ReferenceLossIdeal.τ Cert.ReferenceLossIdeal.sig) → Buf (Elt Ideal) ℓ) (g' : Dev Cert.ReferenceLossIdeal.nD → PrngReg), Pre_KernelLossIdeal m →
    (∀ c : Dev Cert.KernelLossIdeal.nD,
      m' ((c.tc : Thread Cert.ReferenceLossIdeal.nD Cert.ReferenceLossIdeal.τ).loc Cert.ReferenceLossIdeal.main_arg0) = m ((c.tc : Thread Cert.KernelLossIdeal.nD Cert.KernelLossIdeal.τ).loc Cert.KernelLossIdeal.main_arg0)
      ∧ m' ((c.tc : Thread Cert.ReferenceLossIdeal.nD Cert.ReferenceLossIdeal.τ).loc Cert.ReferenceLossIdeal.main_arg1) = m ((c.tc : Thread Cert.KernelLossIdeal.nD Cert.KernelLossIdeal.τ).loc Cert.KernelLossIdeal.main_arg1)
      ∧ m' ((c.tc : Thread Cert.ReferenceLossIdeal.nD Cert.ReferenceLossIdeal.τ).loc Cert.ReferenceLossIdeal.main_arg2) = m ((c.tc : Thread Cert.KernelLossIdeal.nD Cert.KernelLossIdeal.τ).loc Cert.KernelLossIdeal.main_arg2)
      ∧ m' ((c.tc : Thread Cert.ReferenceLossIdeal.nD Cert.ReferenceLossIdeal.τ).loc Cert.ReferenceLossIdeal.main_arg3) = m ((c.tc : Thread Cert.KernelLossIdeal.nD Cert.KernelLossIdeal.τ).loc Cert.KernelLossIdeal.main_arg3)
      ∧ m' ((c.tc : Thread Cert.ReferenceLossIdeal.nD Cert.ReferenceLossIdeal.τ).loc Cert.ReferenceLossIdeal.main_arg4) = m ((c.tc : Thread Cert.KernelLossIdeal.nD Cert.KernelLossIdeal.τ).loc Cert.KernelLossIdeal.main_arg4)) →
    ∃ (v0 : (c : Dev Cert.KernelLossIdeal.nD) → Buf (Elt Ideal) ((c.tc : Thread Cert.KernelLossIdeal.nD Cert.KernelLossIdeal.τ).loc Cert.KernelLossIdeal.main_v11)) (v1 : (c : Dev Cert.KernelLossIdeal.nD) → Buf (Elt Ideal) ((c.tc : Thread Cert.KernelLossIdeal.nD Cert.KernelLossIdeal.τ).loc Cert.KernelLossIdeal.main_v8_0)) (v2 : (c : Dev Cert.KernelLossIdeal.nD) → Buf (Elt Ideal) ((c.tc : Thread Cert.KernelLossIdeal.nD Cert.KernelLossIdeal.τ).loc Cert.KernelLossIdeal.main_v8_1)),
      θ_run (Cert.KernelLossIdeal.defs (F := Ideal)) (onTc (τ := Cert.KernelLossIdeal.τ) (Cert.KernelLossIdeal.main (F := Ideal))) ⟨m, fun _ => 0, g⟩ (fun r => ∀ c : Dev Cert.KernelLossIdeal.nD,
          r.2.mem ((c.tc : Thread Cert.KernelLossIdeal.nD Cert.KernelLossIdeal.τ).loc Cert.KernelLossIdeal.main_v11) = v0 c
          ∧ r.2.mem ((c.tc : Thread Cert.KernelLossIdeal.nD Cert.KernelLossIdeal.τ).loc Cert.KernelLossIdeal.main_v8_0) = v1 c
          ∧ r.2.mem ((c.tc : Thread Cert.KernelLossIdeal.nD Cert.KernelLossIdeal.τ).loc Cert.KernelLossIdeal.main_v8_1) = v2 c
          ∧ r.2.mem ((c.tc : Thread Cert.KernelLossIdeal.nD Cert.KernelLossIdeal.τ).loc Cert.KernelLossIdeal.main_arg0) = m ((c.tc : Thread Cert.KernelLossIdeal.nD Cert.KernelLossIdeal.τ).loc Cert.KernelLossIdeal.main_arg0)
          ∧ r.2.mem ((c.tc : Thread Cert.KernelLossIdeal.nD Cert.KernelLossIdeal.τ).loc Cert.KernelLossIdeal.main_arg1) = m ((c.tc : Thread Cert.KernelLossIdeal.nD Cert.KernelLossIdeal.τ).loc Cert.KernelLossIdeal.main_arg1)
          ∧ r.2.mem ((c.tc : Thread Cert.KernelLossIdeal.nD Cert.KernelLossIdeal.τ).loc Cert.KernelLossIdeal.main_arg2) = m ((c.tc : Thread Cert.KernelLossIdeal.nD Cert.KernelLossIdeal.τ).loc Cert.KernelLossIdeal.main_arg2)
          ∧ r.2.mem ((c.tc : Thread Cert.KernelLossIdeal.nD Cert.KernelLossIdeal.τ).loc Cert.KernelLossIdeal.main_arg3) = m ((c.tc : Thread Cert.KernelLossIdeal.nD Cert.KernelLossIdeal.τ).loc Cert.KernelLossIdeal.main_arg3)
          ∧ r.2.mem ((c.tc : Thread Cert.KernelLossIdeal.nD Cert.KernelLossIdeal.τ).loc Cert.KernelLossIdeal.main_arg4) = m ((c.tc : Thread Cert.KernelLossIdeal.nD Cert.KernelLossIdeal.τ).loc Cert.KernelLossIdeal.main_arg4))
      ∧ θ_run (Cert.ReferenceLossIdeal.defs (F := Ideal)) (onTc (τ := Cert.ReferenceLossIdeal.τ) (Cert.ReferenceLossIdeal.main (F := Ideal))) ⟨m', fun _ => 0, g'⟩ (fun r => ∀ c : Dev Cert.ReferenceLossIdeal.nD,
          r.2.mem ((c.tc : Thread Cert.ReferenceLossIdeal.nD Cert.ReferenceLossIdeal.τ).loc Cert.ReferenceLossIdeal.main_v24) = v0 c
          ∧ r.2.mem ((c.tc : Thread Cert.ReferenceLossIdeal.nD Cert.ReferenceLossIdeal.τ).loc Cert.ReferenceLossIdeal.main_v31) = v1 c
          ∧ r.2.mem ((c.tc : Thread Cert.ReferenceLossIdeal.nD Cert.ReferenceLossIdeal.τ).loc Cert.ReferenceLossIdeal.main_v33) = v2 c
          ∧ r.2.mem ((c.tc : Thread Cert.ReferenceLossIdeal.nD Cert.ReferenceLossIdeal.τ).loc Cert.ReferenceLossIdeal.main_arg0) = m' ((c.tc : Thread Cert.ReferenceLossIdeal.nD Cert.ReferenceLossIdeal.τ).loc Cert.ReferenceLossIdeal.main_arg0)
          ∧ r.2.mem ((c.tc : Thread Cert.ReferenceLossIdeal.nD Cert.ReferenceLossIdeal.τ).loc Cert.ReferenceLossIdeal.main_arg1) = m' ((c.tc : Thread Cert.ReferenceLossIdeal.nD Cert.ReferenceLossIdeal.τ).loc Cert.ReferenceLossIdeal.main_arg1)
          ∧ r.2.mem ((c.tc : Thread Cert.ReferenceLossIdeal.nD Cert.ReferenceLossIdeal.τ).loc Cert.ReferenceLossIdeal.main_arg2) = m' ((c.tc : Thread Cert.ReferenceLossIdeal.nD Cert.ReferenceLossIdeal.τ).loc Cert.ReferenceLossIdeal.main_arg2)
          ∧ r.2.mem ((c.tc : Thread Cert.ReferenceLossIdeal.nD Cert.ReferenceLossIdeal.τ).loc Cert.ReferenceLossIdeal.main_arg3) = m' ((c.tc : Thread Cert.ReferenceLossIdeal.nD Cert.ReferenceLossIdeal.τ).loc Cert.ReferenceLossIdeal.main_arg3)
          ∧ r.2.mem ((c.tc : Thread Cert.ReferenceLossIdeal.nD Cert.ReferenceLossIdeal.τ).loc Cert.ReferenceLossIdeal.main_arg4) = m' ((c.tc : Thread Cert.ReferenceLossIdeal.nD Cert.ReferenceLossIdeal.τ).loc Cert.ReferenceLossIdeal.main_arg4))

def preserves_KernelSgu_KernelSguIdeal : Prop :=
  IdealRules.named_const.Statement Cert.KernelSguIdeal.κ "gelu_c" .f32 0x3D372713#32 ((8943 / 200000 : ℝ) : EReal)
  ∧ IdealRules.named_const.Statement Cert.KernelSguIdeal.κ "three_gelu_c" .f32 0x3E095D4F#32 ((26829 / 200000 : ℝ) : EReal)

def algebraic_KernelSguIdeal_ReferenceSguIdeal_pre_finite_sgu [hKernelSguIdeal : Cert.KernelSguIdeal.Facts] [hReferenceSguIdeal : Cert.ReferenceSguIdeal.Facts] [hPre_finite_sgu : Cert.Pre_finite_sgu.Facts] : Prop :=
  ∀ (m : (ℓ : Loc Cert.KernelSguIdeal.nD Cert.KernelSguIdeal.τ Cert.KernelSguIdeal.sig) → Buf (Elt Ideal) ℓ) (g : Dev Cert.KernelSguIdeal.nD → PrngReg)
    (m' : (ℓ : Loc Cert.ReferenceSguIdeal.nD Cert.ReferenceSguIdeal.τ Cert.ReferenceSguIdeal.sig) → Buf (Elt Ideal) ℓ) (g' : Dev Cert.ReferenceSguIdeal.nD → PrngReg), Pre_KernelSguIdeal_finite_sgu m →
    (∀ c : Dev Cert.KernelSguIdeal.nD,
      m' ((c.tc : Thread Cert.ReferenceSguIdeal.nD Cert.ReferenceSguIdeal.τ).loc Cert.ReferenceSguIdeal.main_arg0) = m ((c.tc : Thread Cert.KernelSguIdeal.nD Cert.KernelSguIdeal.τ).loc Cert.KernelSguIdeal.main_arg0)
      ∧ m' ((c.tc : Thread Cert.ReferenceSguIdeal.nD Cert.ReferenceSguIdeal.τ).loc Cert.ReferenceSguIdeal.main_arg1) = m ((c.tc : Thread Cert.KernelSguIdeal.nD Cert.KernelSguIdeal.τ).loc Cert.KernelSguIdeal.main_arg1)
      ∧ m' ((c.tc : Thread Cert.ReferenceSguIdeal.nD Cert.ReferenceSguIdeal.τ).loc Cert.ReferenceSguIdeal.main_arg2) = m ((c.tc : Thread Cert.KernelSguIdeal.nD Cert.KernelSguIdeal.τ).loc Cert.KernelSguIdeal.main_arg2)
      ∧ m' ((c.tc : Thread Cert.ReferenceSguIdeal.nD Cert.ReferenceSguIdeal.τ).loc Cert.ReferenceSguIdeal.main_arg3) = m ((c.tc : Thread Cert.KernelSguIdeal.nD Cert.KernelSguIdeal.τ).loc Cert.KernelSguIdeal.main_arg3)
      ∧ m' ((c.tc : Thread Cert.ReferenceSguIdeal.nD Cert.ReferenceSguIdeal.τ).loc Cert.ReferenceSguIdeal.main_arg4) = m ((c.tc : Thread Cert.KernelSguIdeal.nD Cert.KernelSguIdeal.τ).loc Cert.KernelSguIdeal.main_arg4)
      ∧ m' ((c.tc : Thread Cert.ReferenceSguIdeal.nD Cert.ReferenceSguIdeal.τ).loc Cert.ReferenceSguIdeal.main_arg5) = m ((c.tc : Thread Cert.KernelSguIdeal.nD Cert.KernelSguIdeal.τ).loc Cert.KernelSguIdeal.main_arg5)
      ∧ m' ((c.tc : Thread Cert.ReferenceSguIdeal.nD Cert.ReferenceSguIdeal.τ).loc Cert.ReferenceSguIdeal.main_arg6) = m ((c.tc : Thread Cert.KernelSguIdeal.nD Cert.KernelSguIdeal.τ).loc Cert.KernelSguIdeal.main_arg6)) →
    ∃ (v0 : (c : Dev Cert.KernelSguIdeal.nD) → Buf (Elt Ideal) ((c.tc : Thread Cert.KernelSguIdeal.nD Cert.KernelSguIdeal.τ).loc Cert.KernelSguIdeal.main_v8_0)) (v1 : (c : Dev Cert.KernelSguIdeal.nD) → Buf (Elt Ideal) ((c.tc : Thread Cert.KernelSguIdeal.nD Cert.KernelSguIdeal.τ).loc Cert.KernelSguIdeal.main_v8_1)) (v2 : (c : Dev Cert.KernelSguIdeal.nD) → Buf (Elt Ideal) ((c.tc : Thread Cert.KernelSguIdeal.nD Cert.KernelSguIdeal.τ).loc Cert.KernelSguIdeal.main_v11)) (v3 : (c : Dev Cert.KernelSguIdeal.nD) → Buf (Elt Ideal) ((c.tc : Thread Cert.KernelSguIdeal.nD Cert.KernelSguIdeal.τ).loc Cert.KernelSguIdeal.main_v8_3)) (v4 : (c : Dev Cert.KernelSguIdeal.nD) → Buf (Elt Ideal) ((c.tc : Thread Cert.KernelSguIdeal.nD Cert.KernelSguIdeal.τ).loc Cert.KernelSguIdeal.main_v8_4)),
      θ_run (Cert.KernelSguIdeal.defs (F := Ideal)) (onTc (τ := Cert.KernelSguIdeal.τ) (Cert.KernelSguIdeal.main (F := Ideal))) ⟨m, fun _ => 0, g⟩ (fun r => ∀ c : Dev Cert.KernelSguIdeal.nD,
          r.2.mem ((c.tc : Thread Cert.KernelSguIdeal.nD Cert.KernelSguIdeal.τ).loc Cert.KernelSguIdeal.main_v8_0) = v0 c
          ∧ r.2.mem ((c.tc : Thread Cert.KernelSguIdeal.nD Cert.KernelSguIdeal.τ).loc Cert.KernelSguIdeal.main_v8_1) = v1 c
          ∧ r.2.mem ((c.tc : Thread Cert.KernelSguIdeal.nD Cert.KernelSguIdeal.τ).loc Cert.KernelSguIdeal.main_v11) = v2 c
          ∧ r.2.mem ((c.tc : Thread Cert.KernelSguIdeal.nD Cert.KernelSguIdeal.τ).loc Cert.KernelSguIdeal.main_v8_3) = v3 c
          ∧ r.2.mem ((c.tc : Thread Cert.KernelSguIdeal.nD Cert.KernelSguIdeal.τ).loc Cert.KernelSguIdeal.main_v8_4) = v4 c
          ∧ r.2.mem ((c.tc : Thread Cert.KernelSguIdeal.nD Cert.KernelSguIdeal.τ).loc Cert.KernelSguIdeal.main_arg0) = m ((c.tc : Thread Cert.KernelSguIdeal.nD Cert.KernelSguIdeal.τ).loc Cert.KernelSguIdeal.main_arg0)
          ∧ r.2.mem ((c.tc : Thread Cert.KernelSguIdeal.nD Cert.KernelSguIdeal.τ).loc Cert.KernelSguIdeal.main_arg1) = m ((c.tc : Thread Cert.KernelSguIdeal.nD Cert.KernelSguIdeal.τ).loc Cert.KernelSguIdeal.main_arg1)
          ∧ r.2.mem ((c.tc : Thread Cert.KernelSguIdeal.nD Cert.KernelSguIdeal.τ).loc Cert.KernelSguIdeal.main_arg2) = m ((c.tc : Thread Cert.KernelSguIdeal.nD Cert.KernelSguIdeal.τ).loc Cert.KernelSguIdeal.main_arg2)
          ∧ r.2.mem ((c.tc : Thread Cert.KernelSguIdeal.nD Cert.KernelSguIdeal.τ).loc Cert.KernelSguIdeal.main_arg3) = m ((c.tc : Thread Cert.KernelSguIdeal.nD Cert.KernelSguIdeal.τ).loc Cert.KernelSguIdeal.main_arg3)
          ∧ r.2.mem ((c.tc : Thread Cert.KernelSguIdeal.nD Cert.KernelSguIdeal.τ).loc Cert.KernelSguIdeal.main_arg4) = m ((c.tc : Thread Cert.KernelSguIdeal.nD Cert.KernelSguIdeal.τ).loc Cert.KernelSguIdeal.main_arg4)
          ∧ r.2.mem ((c.tc : Thread Cert.KernelSguIdeal.nD Cert.KernelSguIdeal.τ).loc Cert.KernelSguIdeal.main_arg5) = m ((c.tc : Thread Cert.KernelSguIdeal.nD Cert.KernelSguIdeal.τ).loc Cert.KernelSguIdeal.main_arg5)
          ∧ r.2.mem ((c.tc : Thread Cert.KernelSguIdeal.nD Cert.KernelSguIdeal.τ).loc Cert.KernelSguIdeal.main_arg6) = m ((c.tc : Thread Cert.KernelSguIdeal.nD Cert.KernelSguIdeal.τ).loc Cert.KernelSguIdeal.main_arg6))
      ∧ θ_run (Cert.ReferenceSguIdeal.defs (F := Ideal)) (onTc (τ := Cert.ReferenceSguIdeal.τ) (Cert.ReferenceSguIdeal.main (F := Ideal))) ⟨m', fun _ => 0, g'⟩ (fun r => ∀ c : Dev Cert.ReferenceSguIdeal.nD,
          r.2.mem ((c.tc : Thread Cert.ReferenceSguIdeal.nD Cert.ReferenceSguIdeal.τ).loc Cert.ReferenceSguIdeal.main_v163) = v0 c
          ∧ r.2.mem ((c.tc : Thread Cert.ReferenceSguIdeal.nD Cert.ReferenceSguIdeal.τ).loc Cert.ReferenceSguIdeal.main_v102) = v1 c
          ∧ r.2.mem ((c.tc : Thread Cert.ReferenceSguIdeal.nD Cert.ReferenceSguIdeal.τ).loc Cert.ReferenceSguIdeal.main_v97) = v2 c
          ∧ r.2.mem ((c.tc : Thread Cert.ReferenceSguIdeal.nD Cert.ReferenceSguIdeal.τ).loc Cert.ReferenceSguIdeal.main_v164) = v3 c
          ∧ r.2.mem ((c.tc : Thread Cert.ReferenceSguIdeal.nD Cert.ReferenceSguIdeal.τ).loc Cert.ReferenceSguIdeal.main_v165) = v4 c
          ∧ r.2.mem ((c.tc : Thread Cert.ReferenceSguIdeal.nD Cert.ReferenceSguIdeal.τ).loc Cert.ReferenceSguIdeal.main_arg0) = m' ((c.tc : Thread Cert.ReferenceSguIdeal.nD Cert.ReferenceSguIdeal.τ).loc Cert.ReferenceSguIdeal.main_arg0)
          ∧ r.2.mem ((c.tc : Thread Cert.ReferenceSguIdeal.nD Cert.ReferenceSguIdeal.τ).loc Cert.ReferenceSguIdeal.main_arg1) = m' ((c.tc : Thread Cert.ReferenceSguIdeal.nD Cert.ReferenceSguIdeal.τ).loc Cert.ReferenceSguIdeal.main_arg1)
          ∧ r.2.mem ((c.tc : Thread Cert.ReferenceSguIdeal.nD Cert.ReferenceSguIdeal.τ).loc Cert.ReferenceSguIdeal.main_arg2) = m' ((c.tc : Thread Cert.ReferenceSguIdeal.nD Cert.ReferenceSguIdeal.τ).loc Cert.ReferenceSguIdeal.main_arg2)
          ∧ r.2.mem ((c.tc : Thread Cert.ReferenceSguIdeal.nD Cert.ReferenceSguIdeal.τ).loc Cert.ReferenceSguIdeal.main_arg3) = m' ((c.tc : Thread Cert.ReferenceSguIdeal.nD Cert.ReferenceSguIdeal.τ).loc Cert.ReferenceSguIdeal.main_arg3)
          ∧ r.2.mem ((c.tc : Thread Cert.ReferenceSguIdeal.nD Cert.ReferenceSguIdeal.τ).loc Cert.ReferenceSguIdeal.main_arg4) = m' ((c.tc : Thread Cert.ReferenceSguIdeal.nD Cert.ReferenceSguIdeal.τ).loc Cert.ReferenceSguIdeal.main_arg4)
          ∧ r.2.mem ((c.tc : Thread Cert.ReferenceSguIdeal.nD Cert.ReferenceSguIdeal.τ).loc Cert.ReferenceSguIdeal.main_arg5) = m' ((c.tc : Thread Cert.ReferenceSguIdeal.nD Cert.ReferenceSguIdeal.τ).loc Cert.ReferenceSguIdeal.main_arg5)
          ∧ r.2.mem ((c.tc : Thread Cert.ReferenceSguIdeal.nD Cert.ReferenceSguIdeal.τ).loc Cert.ReferenceSguIdeal.main_arg6) = m' ((c.tc : Thread Cert.ReferenceSguIdeal.nD Cert.ReferenceSguIdeal.τ).loc Cert.ReferenceSguIdeal.main_arg6))

def preserves_KernelDx_KernelDxIdeal : Prop :=
  True

def algebraic_KernelDxIdeal_ReferenceDxIdeal_pre_finite_dx [hKernelDxIdeal : Cert.KernelDxIdeal.Facts] [hReferenceDxIdeal : Cert.ReferenceDxIdeal.Facts] [hPre_finite_dx : Cert.Pre_finite_dx.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal_finite_dx m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)
      ∧ m' ((c.tc : Thread Cert.ReferenceDxIdeal.nD Cert.ReferenceDxIdeal.τ).loc Cert.ReferenceDxIdeal.main_arg4) = m ((c.tc : Thread Cert.KernelDxIdeal.nD Cert.KernelDxIdeal.τ).loc Cert.KernelDxIdeal.main_arg4)
      ∧ m' ((c.tc : Thread Cert.ReferenceDxIdeal.nD Cert.ReferenceDxIdeal.τ).loc Cert.ReferenceDxIdeal.main_arg5) = m ((c.tc : Thread Cert.KernelDxIdeal.nD Cert.KernelDxIdeal.τ).loc Cert.KernelDxIdeal.main_arg5)
      ∧ m' ((c.tc : Thread Cert.ReferenceDxIdeal.nD Cert.ReferenceDxIdeal.τ).loc Cert.ReferenceDxIdeal.main_arg6) = m ((c.tc : Thread Cert.KernelDxIdeal.nD Cert.KernelDxIdeal.τ).loc Cert.KernelDxIdeal.main_arg6)
      ∧ m' ((c.tc : Thread Cert.ReferenceDxIdeal.nD Cert.ReferenceDxIdeal.τ).loc Cert.ReferenceDxIdeal.main_arg7) = m ((c.tc : Thread Cert.KernelDxIdeal.nD Cert.KernelDxIdeal.τ).loc Cert.KernelDxIdeal.main_arg7)) →
    ∃ (v0 : (c : Dev Cert.KernelDxIdeal.nD) → Buf (Elt Ideal) ((c.tc : Thread Cert.KernelDxIdeal.nD Cert.KernelDxIdeal.τ).loc Cert.KernelDxIdeal.main_v15_0)) (v1 : (c : Dev Cert.KernelDxIdeal.nD) → Buf (Elt Ideal) ((c.tc : Thread Cert.KernelDxIdeal.nD Cert.KernelDxIdeal.τ).loc Cert.KernelDxIdeal.main_v15_1)) (v2 : (c : Dev Cert.KernelDxIdeal.nD) → Buf (Elt Ideal) ((c.tc : Thread Cert.KernelDxIdeal.nD Cert.KernelDxIdeal.τ).loc Cert.KernelDxIdeal.main_v15_2)) (v3 : (c : Dev Cert.KernelDxIdeal.nD) → Buf (Elt Ideal) ((c.tc : Thread Cert.KernelDxIdeal.nD Cert.KernelDxIdeal.τ).loc Cert.KernelDxIdeal.main_v15_3)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v15_0) = v0 c
          ∧ r.2.mem ((c.tc : Thread Cert.KernelDxIdeal.nD Cert.KernelDxIdeal.τ).loc Cert.KernelDxIdeal.main_v15_1) = v1 c
          ∧ r.2.mem ((c.tc : Thread Cert.KernelDxIdeal.nD Cert.KernelDxIdeal.τ).loc Cert.KernelDxIdeal.main_v15_2) = v2 c
          ∧ r.2.mem ((c.tc : Thread Cert.KernelDxIdeal.nD Cert.KernelDxIdeal.τ).loc Cert.KernelDxIdeal.main_v15_3) = v3 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3)
          ∧ r.2.mem ((c.tc : Thread Cert.KernelDxIdeal.nD Cert.KernelDxIdeal.τ).loc Cert.KernelDxIdeal.main_arg4) = m ((c.tc : Thread Cert.KernelDxIdeal.nD Cert.KernelDxIdeal.τ).loc Cert.KernelDxIdeal.main_arg4)
          ∧ r.2.mem ((c.tc : Thread Cert.KernelDxIdeal.nD Cert.KernelDxIdeal.τ).loc Cert.KernelDxIdeal.main_arg5) = m ((c.tc : Thread Cert.KernelDxIdeal.nD Cert.KernelDxIdeal.τ).loc Cert.KernelDxIdeal.main_arg5)
          ∧ r.2.mem ((c.tc : Thread Cert.KernelDxIdeal.nD Cert.KernelDxIdeal.τ).loc Cert.KernelDxIdeal.main_arg6) = m ((c.tc : Thread Cert.KernelDxIdeal.nD Cert.KernelDxIdeal.τ).loc Cert.KernelDxIdeal.main_arg6)
          ∧ r.2.mem ((c.tc : Thread Cert.KernelDxIdeal.nD Cert.KernelDxIdeal.τ).loc Cert.KernelDxIdeal.main_arg7) = m ((c.tc : Thread Cert.KernelDxIdeal.nD Cert.KernelDxIdeal.τ).loc Cert.KernelDxIdeal.main_arg7))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v69) = v0 c
          ∧ r.2.mem ((c.tc : Thread Cert.ReferenceDxIdeal.nD Cert.ReferenceDxIdeal.τ).loc Cert.ReferenceDxIdeal.main_v70) = v1 c
          ∧ r.2.mem ((c.tc : Thread Cert.ReferenceDxIdeal.nD Cert.ReferenceDxIdeal.τ).loc Cert.ReferenceDxIdeal.main_v71) = v2 c
          ∧ r.2.mem ((c.tc : Thread Cert.ReferenceDxIdeal.nD Cert.ReferenceDxIdeal.τ).loc Cert.ReferenceDxIdeal.main_v72) = v3 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3)
          ∧ r.2.mem ((c.tc : Thread Cert.ReferenceDxIdeal.nD Cert.ReferenceDxIdeal.τ).loc Cert.ReferenceDxIdeal.main_arg4) = m' ((c.tc : Thread Cert.ReferenceDxIdeal.nD Cert.ReferenceDxIdeal.τ).loc Cert.ReferenceDxIdeal.main_arg4)
          ∧ r.2.mem ((c.tc : Thread Cert.ReferenceDxIdeal.nD Cert.ReferenceDxIdeal.τ).loc Cert.ReferenceDxIdeal.main_arg5) = m' ((c.tc : Thread Cert.ReferenceDxIdeal.nD Cert.ReferenceDxIdeal.τ).loc Cert.ReferenceDxIdeal.main_arg5)
          ∧ r.2.mem ((c.tc : Thread Cert.ReferenceDxIdeal.nD Cert.ReferenceDxIdeal.τ).loc Cert.ReferenceDxIdeal.main_arg6) = m' ((c.tc : Thread Cert.ReferenceDxIdeal.nD Cert.ReferenceDxIdeal.τ).loc Cert.ReferenceDxIdeal.main_arg6)
          ∧ r.2.mem ((c.tc : Thread Cert.ReferenceDxIdeal.nD Cert.ReferenceDxIdeal.τ).loc Cert.ReferenceDxIdeal.main_arg7) = m' ((c.tc : Thread Cert.ReferenceDxIdeal.nD Cert.ReferenceDxIdeal.τ).loc Cert.ReferenceDxIdeal.main_arg7))

def preserves_KernelDxM_KernelDxMIdeal : Prop :=
  True

def algebraic_KernelDxMIdeal_ReferenceDxMIdeal_pre_finite_dxm [hKernelDxMIdeal : Cert.KernelDxMIdeal.Facts] [hReferenceDxMIdeal : Cert.ReferenceDxMIdeal.Facts] [hPre_finite_dxm : Cert.Pre_finite_dxm.Facts] : Prop :=
  ∀ (m : (ℓ : Loc Cert.KernelDxMIdeal.nD Cert.KernelDxMIdeal.τ Cert.KernelDxMIdeal.sig) → Buf (Elt Ideal) ℓ) (g : Dev Cert.KernelDxMIdeal.nD → PrngReg)
    (m' : (ℓ : Loc Cert.ReferenceDxMIdeal.nD Cert.ReferenceDxMIdeal.τ Cert.ReferenceDxMIdeal.sig) → Buf (Elt Ideal) ℓ) (g' : Dev Cert.ReferenceDxMIdeal.nD → PrngReg), Pre_KernelDxMIdeal_finite_dxm m →
    (∀ c : Dev Cert.KernelDxMIdeal.nD,
      m' ((c.tc : Thread Cert.ReferenceDxMIdeal.nD Cert.ReferenceDxMIdeal.τ).loc Cert.ReferenceDxMIdeal.main_arg0) = m ((c.tc : Thread Cert.KernelDxMIdeal.nD Cert.KernelDxMIdeal.τ).loc Cert.KernelDxMIdeal.main_arg0)
      ∧ m' ((c.tc : Thread Cert.ReferenceDxMIdeal.nD Cert.ReferenceDxMIdeal.τ).loc Cert.ReferenceDxMIdeal.main_arg1) = m ((c.tc : Thread Cert.KernelDxMIdeal.nD Cert.KernelDxMIdeal.τ).loc Cert.KernelDxMIdeal.main_arg1)
      ∧ m' ((c.tc : Thread Cert.ReferenceDxMIdeal.nD Cert.ReferenceDxMIdeal.τ).loc Cert.ReferenceDxMIdeal.main_arg2) = m ((c.tc : Thread Cert.KernelDxMIdeal.nD Cert.KernelDxMIdeal.τ).loc Cert.KernelDxMIdeal.main_arg2)
      ∧ m' ((c.tc : Thread Cert.ReferenceDxMIdeal.nD Cert.ReferenceDxMIdeal.τ).loc Cert.ReferenceDxMIdeal.main_arg3) = m ((c.tc : Thread Cert.KernelDxMIdeal.nD Cert.KernelDxMIdeal.τ).loc Cert.KernelDxMIdeal.main_arg3)
      ∧ m' ((c.tc : Thread Cert.ReferenceDxMIdeal.nD Cert.ReferenceDxMIdeal.τ).loc Cert.ReferenceDxMIdeal.main_arg4) = m ((c.tc : Thread Cert.KernelDxMIdeal.nD Cert.KernelDxMIdeal.τ).loc Cert.KernelDxMIdeal.main_arg4)
      ∧ m' ((c.tc : Thread Cert.ReferenceDxMIdeal.nD Cert.ReferenceDxMIdeal.τ).loc Cert.ReferenceDxMIdeal.main_arg5) = m ((c.tc : Thread Cert.KernelDxMIdeal.nD Cert.KernelDxMIdeal.τ).loc Cert.KernelDxMIdeal.main_arg5)
      ∧ m' ((c.tc : Thread Cert.ReferenceDxMIdeal.nD Cert.ReferenceDxMIdeal.τ).loc Cert.ReferenceDxMIdeal.main_arg6) = m ((c.tc : Thread Cert.KernelDxMIdeal.nD Cert.KernelDxMIdeal.τ).loc Cert.KernelDxMIdeal.main_arg6)
      ∧ m' ((c.tc : Thread Cert.ReferenceDxMIdeal.nD Cert.ReferenceDxMIdeal.τ).loc Cert.ReferenceDxMIdeal.main_arg7) = m ((c.tc : Thread Cert.KernelDxMIdeal.nD Cert.KernelDxMIdeal.τ).loc Cert.KernelDxMIdeal.main_arg7)) →
    ∃ (v0 : (c : Dev Cert.KernelDxMIdeal.nD) → Buf (Elt Ideal) ((c.tc : Thread Cert.KernelDxMIdeal.nD Cert.KernelDxMIdeal.τ).loc Cert.KernelDxMIdeal.main_v11_0)) (v1 : (c : Dev Cert.KernelDxMIdeal.nD) → Buf (Elt Ideal) ((c.tc : Thread Cert.KernelDxMIdeal.nD Cert.KernelDxMIdeal.τ).loc Cert.KernelDxMIdeal.main_v11_1)) (v2 : (c : Dev Cert.KernelDxMIdeal.nD) → Buf (Elt Ideal) ((c.tc : Thread Cert.KernelDxMIdeal.nD Cert.KernelDxMIdeal.τ).loc Cert.KernelDxMIdeal.main_v11_2)) (v3 : (c : Dev Cert.KernelDxMIdeal.nD) → Buf (Elt Ideal) ((c.tc : Thread Cert.KernelDxMIdeal.nD Cert.KernelDxMIdeal.τ).loc Cert.KernelDxMIdeal.main_v11_3)),
      θ_run (Cert.KernelDxMIdeal.defs (F := Ideal)) (onTc (τ := Cert.KernelDxMIdeal.τ) (Cert.KernelDxMIdeal.main (F := Ideal))) ⟨m, fun _ => 0, g⟩ (fun r => ∀ c : Dev Cert.KernelDxMIdeal.nD,
          r.2.mem ((c.tc : Thread Cert.KernelDxMIdeal.nD Cert.KernelDxMIdeal.τ).loc Cert.KernelDxMIdeal.main_v11_0) = v0 c
          ∧ r.2.mem ((c.tc : Thread Cert.KernelDxMIdeal.nD Cert.KernelDxMIdeal.τ).loc Cert.KernelDxMIdeal.main_v11_1) = v1 c
          ∧ r.2.mem ((c.tc : Thread Cert.KernelDxMIdeal.nD Cert.KernelDxMIdeal.τ).loc Cert.KernelDxMIdeal.main_v11_2) = v2 c
          ∧ r.2.mem ((c.tc : Thread Cert.KernelDxMIdeal.nD Cert.KernelDxMIdeal.τ).loc Cert.KernelDxMIdeal.main_v11_3) = v3 c
          ∧ r.2.mem ((c.tc : Thread Cert.KernelDxMIdeal.nD Cert.KernelDxMIdeal.τ).loc Cert.KernelDxMIdeal.main_arg0) = m ((c.tc : Thread Cert.KernelDxMIdeal.nD Cert.KernelDxMIdeal.τ).loc Cert.KernelDxMIdeal.main_arg0)
          ∧ r.2.mem ((c.tc : Thread Cert.KernelDxMIdeal.nD Cert.KernelDxMIdeal.τ).loc Cert.KernelDxMIdeal.main_arg1) = m ((c.tc : Thread Cert.KernelDxMIdeal.nD Cert.KernelDxMIdeal.τ).loc Cert.KernelDxMIdeal.main_arg1)
          ∧ r.2.mem ((c.tc : Thread Cert.KernelDxMIdeal.nD Cert.KernelDxMIdeal.τ).loc Cert.KernelDxMIdeal.main_arg2) = m ((c.tc : Thread Cert.KernelDxMIdeal.nD Cert.KernelDxMIdeal.τ).loc Cert.KernelDxMIdeal.main_arg2)
          ∧ r.2.mem ((c.tc : Thread Cert.KernelDxMIdeal.nD Cert.KernelDxMIdeal.τ).loc Cert.KernelDxMIdeal.main_arg3) = m ((c.tc : Thread Cert.KernelDxMIdeal.nD Cert.KernelDxMIdeal.τ).loc Cert.KernelDxMIdeal.main_arg3)
          ∧ r.2.mem ((c.tc : Thread Cert.KernelDxMIdeal.nD Cert.KernelDxMIdeal.τ).loc Cert.KernelDxMIdeal.main_arg4) = m ((c.tc : Thread Cert.KernelDxMIdeal.nD Cert.KernelDxMIdeal.τ).loc Cert.KernelDxMIdeal.main_arg4)
          ∧ r.2.mem ((c.tc : Thread Cert.KernelDxMIdeal.nD Cert.KernelDxMIdeal.τ).loc Cert.KernelDxMIdeal.main_arg5) = m ((c.tc : Thread Cert.KernelDxMIdeal.nD Cert.KernelDxMIdeal.τ).loc Cert.KernelDxMIdeal.main_arg5)
          ∧ r.2.mem ((c.tc : Thread Cert.KernelDxMIdeal.nD Cert.KernelDxMIdeal.τ).loc Cert.KernelDxMIdeal.main_arg6) = m ((c.tc : Thread Cert.KernelDxMIdeal.nD Cert.KernelDxMIdeal.τ).loc Cert.KernelDxMIdeal.main_arg6)
          ∧ r.2.mem ((c.tc : Thread Cert.KernelDxMIdeal.nD Cert.KernelDxMIdeal.τ).loc Cert.KernelDxMIdeal.main_arg7) = m ((c.tc : Thread Cert.KernelDxMIdeal.nD Cert.KernelDxMIdeal.τ).loc Cert.KernelDxMIdeal.main_arg7))
      ∧ θ_run (Cert.ReferenceDxMIdeal.defs (F := Ideal)) (onTc (τ := Cert.ReferenceDxMIdeal.τ) (Cert.ReferenceDxMIdeal.main (F := Ideal))) ⟨m', fun _ => 0, g'⟩ (fun r => ∀ c : Dev Cert.ReferenceDxMIdeal.nD,
          r.2.mem ((c.tc : Thread Cert.ReferenceDxMIdeal.nD Cert.ReferenceDxMIdeal.τ).loc Cert.ReferenceDxMIdeal.main_v70) = v0 c
          ∧ r.2.mem ((c.tc : Thread Cert.ReferenceDxMIdeal.nD Cert.ReferenceDxMIdeal.τ).loc Cert.ReferenceDxMIdeal.main_v71) = v1 c
          ∧ r.2.mem ((c.tc : Thread Cert.ReferenceDxMIdeal.nD Cert.ReferenceDxMIdeal.τ).loc Cert.ReferenceDxMIdeal.main_v72) = v2 c
          ∧ r.2.mem ((c.tc : Thread Cert.ReferenceDxMIdeal.nD Cert.ReferenceDxMIdeal.τ).loc Cert.ReferenceDxMIdeal.main_v73) = v3 c
          ∧ r.2.mem ((c.tc : Thread Cert.ReferenceDxMIdeal.nD Cert.ReferenceDxMIdeal.τ).loc Cert.ReferenceDxMIdeal.main_arg0) = m' ((c.tc : Thread Cert.ReferenceDxMIdeal.nD Cert.ReferenceDxMIdeal.τ).loc Cert.ReferenceDxMIdeal.main_arg0)
          ∧ r.2.mem ((c.tc : Thread Cert.ReferenceDxMIdeal.nD Cert.ReferenceDxMIdeal.τ).loc Cert.ReferenceDxMIdeal.main_arg1) = m' ((c.tc : Thread Cert.ReferenceDxMIdeal.nD Cert.ReferenceDxMIdeal.τ).loc Cert.ReferenceDxMIdeal.main_arg1)
          ∧ r.2.mem ((c.tc : Thread Cert.ReferenceDxMIdeal.nD Cert.ReferenceDxMIdeal.τ).loc Cert.ReferenceDxMIdeal.main_arg2) = m' ((c.tc : Thread Cert.ReferenceDxMIdeal.nD Cert.ReferenceDxMIdeal.τ).loc Cert.ReferenceDxMIdeal.main_arg2)
          ∧ r.2.mem ((c.tc : Thread Cert.ReferenceDxMIdeal.nD Cert.ReferenceDxMIdeal.τ).loc Cert.ReferenceDxMIdeal.main_arg3) = m' ((c.tc : Thread Cert.ReferenceDxMIdeal.nD Cert.ReferenceDxMIdeal.τ).loc Cert.ReferenceDxMIdeal.main_arg3)
          ∧ r.2.mem ((c.tc : Thread Cert.ReferenceDxMIdeal.nD Cert.ReferenceDxMIdeal.τ).loc Cert.ReferenceDxMIdeal.main_arg4) = m' ((c.tc : Thread Cert.ReferenceDxMIdeal.nD Cert.ReferenceDxMIdeal.τ).loc Cert.ReferenceDxMIdeal.main_arg4)
          ∧ r.2.mem ((c.tc : Thread Cert.ReferenceDxMIdeal.nD Cert.ReferenceDxMIdeal.τ).loc Cert.ReferenceDxMIdeal.main_arg5) = m' ((c.tc : Thread Cert.ReferenceDxMIdeal.nD Cert.ReferenceDxMIdeal.τ).loc Cert.ReferenceDxMIdeal.main_arg5)
          ∧ r.2.mem ((c.tc : Thread Cert.ReferenceDxMIdeal.nD Cert.ReferenceDxMIdeal.τ).loc Cert.ReferenceDxMIdeal.main_arg6) = m' ((c.tc : Thread Cert.ReferenceDxMIdeal.nD Cert.ReferenceDxMIdeal.τ).loc Cert.ReferenceDxMIdeal.main_arg6)
          ∧ r.2.mem ((c.tc : Thread Cert.ReferenceDxMIdeal.nD Cert.ReferenceDxMIdeal.τ).loc Cert.ReferenceDxMIdeal.main_arg7) = m' ((c.tc : Thread Cert.ReferenceDxMIdeal.nD Cert.ReferenceDxMIdeal.τ).loc Cert.ReferenceDxMIdeal.main_arg7))

def preserves_KernelMix_KernelMixIdeal : Prop :=
  True

def algebraic_KernelMixIdeal_ReferenceMixIdeal_pre_finite_mix [hKernelMixIdeal : Cert.KernelMixIdeal.Facts] [hReferenceMixIdeal : Cert.ReferenceMixIdeal.Facts] [hPre_finite_mix : Cert.Pre_finite_mix.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal_finite_mix m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)
      ∧ m' ((c.tc : Thread Cert.ReferenceMixIdeal.nD Cert.ReferenceMixIdeal.τ).loc Cert.ReferenceMixIdeal.main_arg8) = m ((c.tc : Thread Cert.KernelMixIdeal.nD Cert.KernelMixIdeal.τ).loc Cert.KernelMixIdeal.main_arg8)) →
    ∃ (v0 : (c : Dev Cert.KernelMixIdeal.nD) → Buf (Elt Ideal) ((c.tc : Thread Cert.KernelMixIdeal.nD Cert.KernelMixIdeal.τ).loc Cert.KernelMixIdeal.main_v38_0)) (v1 : (c : Dev Cert.KernelMixIdeal.nD) → Buf (Elt Ideal) ((c.tc : Thread Cert.KernelMixIdeal.nD Cert.KernelMixIdeal.τ).loc Cert.KernelMixIdeal.main_v38_1)) (v2 : (c : Dev Cert.KernelMixIdeal.nD) → Buf (Elt Ideal) ((c.tc : Thread Cert.KernelMixIdeal.nD Cert.KernelMixIdeal.τ).loc Cert.KernelMixIdeal.main_v38_2)) (v3 : (c : Dev Cert.KernelMixIdeal.nD) → Buf (Elt Ideal) ((c.tc : Thread Cert.KernelMixIdeal.nD Cert.KernelMixIdeal.τ).loc Cert.KernelMixIdeal.main_v38_3)) (v4 : (c : Dev Cert.KernelMixIdeal.nD) → Buf (Elt Ideal) ((c.tc : Thread Cert.KernelMixIdeal.nD Cert.KernelMixIdeal.τ).loc Cert.KernelMixIdeal.main_v38_4)) (v5 : (c : Dev Cert.KernelMixIdeal.nD) → Buf (Elt Ideal) ((c.tc : Thread Cert.KernelMixIdeal.nD Cert.KernelMixIdeal.τ).loc Cert.KernelMixIdeal.main_v38_5)) (v6 : (c : Dev Cert.KernelMixIdeal.nD) → Buf (Elt Ideal) ((c.tc : Thread Cert.KernelMixIdeal.nD Cert.KernelMixIdeal.τ).loc Cert.KernelMixIdeal.main_v38_6)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v38_0) = v0 c
          ∧ r.2.mem ((c.tc : Thread Cert.KernelMixIdeal.nD Cert.KernelMixIdeal.τ).loc Cert.KernelMixIdeal.main_v38_1) = v1 c
          ∧ r.2.mem ((c.tc : Thread Cert.KernelMixIdeal.nD Cert.KernelMixIdeal.τ).loc Cert.KernelMixIdeal.main_v38_2) = v2 c
          ∧ r.2.mem ((c.tc : Thread Cert.KernelMixIdeal.nD Cert.KernelMixIdeal.τ).loc Cert.KernelMixIdeal.main_v38_3) = v3 c
          ∧ r.2.mem ((c.tc : Thread Cert.KernelMixIdeal.nD Cert.KernelMixIdeal.τ).loc Cert.KernelMixIdeal.main_v38_4) = v4 c
          ∧ r.2.mem ((c.tc : Thread Cert.KernelMixIdeal.nD Cert.KernelMixIdeal.τ).loc Cert.KernelMixIdeal.main_v38_5) = v5 c
          ∧ r.2.mem ((c.tc : Thread Cert.KernelMixIdeal.nD Cert.KernelMixIdeal.τ).loc Cert.KernelMixIdeal.main_v38_6) = v6 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7)
          ∧ r.2.mem ((c.tc : Thread Cert.KernelMixIdeal.nD Cert.KernelMixIdeal.τ).loc Cert.KernelMixIdeal.main_arg8) = m ((c.tc : Thread Cert.KernelMixIdeal.nD Cert.KernelMixIdeal.τ).loc Cert.KernelMixIdeal.main_arg8))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v57) = v0 c
          ∧ r.2.mem ((c.tc : Thread Cert.ReferenceMixIdeal.nD Cert.ReferenceMixIdeal.τ).loc Cert.ReferenceMixIdeal.main_v59) = v1 c
          ∧ r.2.mem ((c.tc : Thread Cert.ReferenceMixIdeal.nD Cert.ReferenceMixIdeal.τ).loc Cert.ReferenceMixIdeal.main_v61) = v2 c
          ∧ r.2.mem ((c.tc : Thread Cert.ReferenceMixIdeal.nD Cert.ReferenceMixIdeal.τ).loc Cert.ReferenceMixIdeal.main_v63) = v3 c
          ∧ r.2.mem ((c.tc : Thread Cert.ReferenceMixIdeal.nD Cert.ReferenceMixIdeal.τ).loc Cert.ReferenceMixIdeal.main_v65) = v4 c
          ∧ r.2.mem ((c.tc : Thread Cert.ReferenceMixIdeal.nD Cert.ReferenceMixIdeal.τ).loc Cert.ReferenceMixIdeal.main_v67) = v5 c
          ∧ r.2.mem ((c.tc : Thread Cert.ReferenceMixIdeal.nD Cert.ReferenceMixIdeal.τ).loc Cert.ReferenceMixIdeal.main_v68) = v6 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7)
          ∧ r.2.mem ((c.tc : Thread Cert.ReferenceMixIdeal.nD Cert.ReferenceMixIdeal.τ).loc Cert.ReferenceMixIdeal.main_arg8) = m' ((c.tc : Thread Cert.ReferenceMixIdeal.nD Cert.ReferenceMixIdeal.τ).loc Cert.ReferenceMixIdeal.main_arg8))

def preserves_KernelFfn_KernelFfnIdeal : Prop :=
  True

def algebraic_KernelFfnIdeal_ReferenceFfnIdeal_pre_finite_ffn [hKernelFfnIdeal : Cert.KernelFfnIdeal.Facts] [hReferenceFfnIdeal : Cert.ReferenceFfnIdeal.Facts] [hPre_finite_ffn : Cert.Pre_finite_ffn.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite_ffn m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v33_0)) (v1 : (c : Dev Cert.KernelFfnIdeal.nD) → Buf (Elt Ideal) ((c.tc : Thread Cert.KernelFfnIdeal.nD Cert.KernelFfnIdeal.τ).loc Cert.KernelFfnIdeal.main_v33_1)) (v2 : (c : Dev Cert.KernelFfnIdeal.nD) → Buf (Elt Ideal) ((c.tc : Thread Cert.KernelFfnIdeal.nD Cert.KernelFfnIdeal.τ).loc Cert.KernelFfnIdeal.main_v33_2)) (v3 : (c : Dev Cert.KernelFfnIdeal.nD) → Buf (Elt Ideal) ((c.tc : Thread Cert.KernelFfnIdeal.nD Cert.KernelFfnIdeal.τ).loc Cert.KernelFfnIdeal.main_v33_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v33_0) = v0 c
          ∧ r.2.mem ((c.tc : Thread Cert.KernelFfnIdeal.nD Cert.KernelFfnIdeal.τ).loc Cert.KernelFfnIdeal.main_v33_1) = v1 c
          ∧ r.2.mem ((c.tc : Thread Cert.KernelFfnIdeal.nD Cert.KernelFfnIdeal.τ).loc Cert.KernelFfnIdeal.main_v33_2) = v2 c
          ∧ r.2.mem ((c.tc : Thread Cert.KernelFfnIdeal.nD Cert.KernelFfnIdeal.τ).loc Cert.KernelFfnIdeal.main_v33_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v35) = v0 c
          ∧ r.2.mem ((c.tc : Thread Cert.ReferenceFfnIdeal.nD Cert.ReferenceFfnIdeal.τ).loc Cert.ReferenceFfnIdeal.main_v38) = v1 c
          ∧ r.2.mem ((c.tc : Thread Cert.ReferenceFfnIdeal.nD Cert.ReferenceFfnIdeal.τ).loc Cert.ReferenceFfnIdeal.main_v40) = v2 c
          ∧ r.2.mem ((c.tc : Thread Cert.ReferenceFfnIdeal.nD Cert.ReferenceFfnIdeal.τ).loc Cert.ReferenceFfnIdeal.main_v41) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelAda_KernelAdaIdeal : Prop :=
  True

def algebraic_KernelAdaIdeal_ReferenceAdaIdeal [hKernelAdaIdeal : Cert.KernelAdaIdeal.Facts] [hReferenceAdaIdeal : Cert.ReferenceAdaIdeal.Facts] : Prop :=
  ∀ (m : (ℓ : Loc Cert.KernelAdaIdeal.nD Cert.KernelAdaIdeal.τ Cert.KernelAdaIdeal.sig) → Buf (Elt Ideal) ℓ) (g : Dev Cert.KernelAdaIdeal.nD → PrngReg)
    (m' : (ℓ : Loc Cert.ReferenceAdaIdeal.nD Cert.ReferenceAdaIdeal.τ Cert.ReferenceAdaIdeal.sig) → Buf (Elt Ideal) ℓ) (g' : Dev Cert.ReferenceAdaIdeal.nD → PrngReg), Pre_KernelAdaIdeal m →
    (∀ c : Dev Cert.KernelAdaIdeal.nD,
      m' ((c.tc : Thread Cert.ReferenceAdaIdeal.nD Cert.ReferenceAdaIdeal.τ).loc Cert.ReferenceAdaIdeal.main_arg0) = m ((c.tc : Thread Cert.KernelAdaIdeal.nD Cert.KernelAdaIdeal.τ).loc Cert.KernelAdaIdeal.main_arg0)
      ∧ m' ((c.tc : Thread Cert.ReferenceAdaIdeal.nD Cert.ReferenceAdaIdeal.τ).loc Cert.ReferenceAdaIdeal.main_arg1) = m ((c.tc : Thread Cert.KernelAdaIdeal.nD Cert.KernelAdaIdeal.τ).loc Cert.KernelAdaIdeal.main_arg1)
      ∧ m' ((c.tc : Thread Cert.ReferenceAdaIdeal.nD Cert.ReferenceAdaIdeal.τ).loc Cert.ReferenceAdaIdeal.main_arg2) = m ((c.tc : Thread Cert.KernelAdaIdeal.nD Cert.KernelAdaIdeal.τ).loc Cert.KernelAdaIdeal.main_arg2)
      ∧ m' ((c.tc : Thread Cert.ReferenceAdaIdeal.nD Cert.ReferenceAdaIdeal.τ).loc Cert.ReferenceAdaIdeal.main_arg3) = m ((c.tc : Thread Cert.KernelAdaIdeal.nD Cert.KernelAdaIdeal.τ).loc Cert.KernelAdaIdeal.main_arg3)
      ∧ m' ((c.tc : Thread Cert.ReferenceAdaIdeal.nD Cert.ReferenceAdaIdeal.τ).loc Cert.ReferenceAdaIdeal.main_arg4) = m ((c.tc : Thread Cert.KernelAdaIdeal.nD Cert.KernelAdaIdeal.τ).loc Cert.KernelAdaIdeal.main_arg4)
      ∧ m' ((c.tc : Thread Cert.ReferenceAdaIdeal.nD Cert.ReferenceAdaIdeal.τ).loc Cert.ReferenceAdaIdeal.main_arg5) = m ((c.tc : Thread Cert.KernelAdaIdeal.nD Cert.KernelAdaIdeal.τ).loc Cert.KernelAdaIdeal.main_arg5)) →
    ∃ (v0 : (c : Dev Cert.KernelAdaIdeal.nD) → Buf (Elt Ideal) ((c.tc : Thread Cert.KernelAdaIdeal.nD Cert.KernelAdaIdeal.τ).loc Cert.KernelAdaIdeal.main_v0_0)) (v1 : (c : Dev Cert.KernelAdaIdeal.nD) → Buf (Elt Ideal) ((c.tc : Thread Cert.KernelAdaIdeal.nD Cert.KernelAdaIdeal.τ).loc Cert.KernelAdaIdeal.main_v0_1)) (v2 : (c : Dev Cert.KernelAdaIdeal.nD) → Buf (Elt Ideal) ((c.tc : Thread Cert.KernelAdaIdeal.nD Cert.KernelAdaIdeal.τ).loc Cert.KernelAdaIdeal.main_v0_2)),
      θ_run (Cert.KernelAdaIdeal.defs (F := Ideal)) (onTc (τ := Cert.KernelAdaIdeal.τ) (Cert.KernelAdaIdeal.main (F := Ideal))) ⟨m, fun _ => 0, g⟩ (fun r => ∀ c : Dev Cert.KernelAdaIdeal.nD,
          r.2.mem ((c.tc : Thread Cert.KernelAdaIdeal.nD Cert.KernelAdaIdeal.τ).loc Cert.KernelAdaIdeal.main_v0_0) = v0 c
          ∧ r.2.mem ((c.tc : Thread Cert.KernelAdaIdeal.nD Cert.KernelAdaIdeal.τ).loc Cert.KernelAdaIdeal.main_v0_1) = v1 c
          ∧ r.2.mem ((c.tc : Thread Cert.KernelAdaIdeal.nD Cert.KernelAdaIdeal.τ).loc Cert.KernelAdaIdeal.main_v0_2) = v2 c
          ∧ r.2.mem ((c.tc : Thread Cert.KernelAdaIdeal.nD Cert.KernelAdaIdeal.τ).loc Cert.KernelAdaIdeal.main_arg0) = m ((c.tc : Thread Cert.KernelAdaIdeal.nD Cert.KernelAdaIdeal.τ).loc Cert.KernelAdaIdeal.main_arg0)
          ∧ r.2.mem ((c.tc : Thread Cert.KernelAdaIdeal.nD Cert.KernelAdaIdeal.τ).loc Cert.KernelAdaIdeal.main_arg1) = m ((c.tc : Thread Cert.KernelAdaIdeal.nD Cert.KernelAdaIdeal.τ).loc Cert.KernelAdaIdeal.main_arg1)
          ∧ r.2.mem ((c.tc : Thread Cert.KernelAdaIdeal.nD Cert.KernelAdaIdeal.τ).loc Cert.KernelAdaIdeal.main_arg2) = m ((c.tc : Thread Cert.KernelAdaIdeal.nD Cert.KernelAdaIdeal.τ).loc Cert.KernelAdaIdeal.main_arg2)
          ∧ r.2.mem ((c.tc : Thread Cert.KernelAdaIdeal.nD Cert.KernelAdaIdeal.τ).loc Cert.KernelAdaIdeal.main_arg3) = m ((c.tc : Thread Cert.KernelAdaIdeal.nD Cert.KernelAdaIdeal.τ).loc Cert.KernelAdaIdeal.main_arg3)
          ∧ r.2.mem ((c.tc : Thread Cert.KernelAdaIdeal.nD Cert.KernelAdaIdeal.τ).loc Cert.KernelAdaIdeal.main_arg4) = m ((c.tc : Thread Cert.KernelAdaIdeal.nD Cert.KernelAdaIdeal.τ).loc Cert.KernelAdaIdeal.main_arg4)
          ∧ r.2.mem ((c.tc : Thread Cert.KernelAdaIdeal.nD Cert.KernelAdaIdeal.τ).loc Cert.KernelAdaIdeal.main_arg5) = m ((c.tc : Thread Cert.KernelAdaIdeal.nD Cert.KernelAdaIdeal.τ).loc Cert.KernelAdaIdeal.main_arg5))
      ∧ θ_run (Cert.ReferenceAdaIdeal.defs (F := Ideal)) (onTc (τ := Cert.ReferenceAdaIdeal.τ) (Cert.ReferenceAdaIdeal.main (F := Ideal))) ⟨m', fun _ => 0, g'⟩ (fun r => ∀ c : Dev Cert.ReferenceAdaIdeal.nD,
          r.2.mem ((c.tc : Thread Cert.ReferenceAdaIdeal.nD Cert.ReferenceAdaIdeal.τ).loc Cert.ReferenceAdaIdeal.main_v3) = v0 c
          ∧ r.2.mem ((c.tc : Thread Cert.ReferenceAdaIdeal.nD Cert.ReferenceAdaIdeal.τ).loc Cert.ReferenceAdaIdeal.main_v6) = v1 c
          ∧ r.2.mem ((c.tc : Thread Cert.ReferenceAdaIdeal.nD Cert.ReferenceAdaIdeal.τ).loc Cert.ReferenceAdaIdeal.main_v8) = v2 c
          ∧ r.2.mem ((c.tc : Thread Cert.ReferenceAdaIdeal.nD Cert.ReferenceAdaIdeal.τ).loc Cert.ReferenceAdaIdeal.main_arg0) = m' ((c.tc : Thread Cert.ReferenceAdaIdeal.nD Cert.ReferenceAdaIdeal.τ).loc Cert.ReferenceAdaIdeal.main_arg0)
          ∧ r.2.mem ((c.tc : Thread Cert.ReferenceAdaIdeal.nD Cert.ReferenceAdaIdeal.τ).loc Cert.ReferenceAdaIdeal.main_arg1) = m' ((c.tc : Thread Cert.ReferenceAdaIdeal.nD Cert.ReferenceAdaIdeal.τ).loc Cert.ReferenceAdaIdeal.main_arg1)
          ∧ r.2.mem ((c.tc : Thread Cert.ReferenceAdaIdeal.nD Cert.ReferenceAdaIdeal.τ).loc Cert.ReferenceAdaIdeal.main_arg2) = m' ((c.tc : Thread Cert.ReferenceAdaIdeal.nD Cert.ReferenceAdaIdeal.τ).loc Cert.ReferenceAdaIdeal.main_arg2)
          ∧ r.2.mem ((c.tc : Thread Cert.ReferenceAdaIdeal.nD Cert.ReferenceAdaIdeal.τ).loc Cert.ReferenceAdaIdeal.main_arg3) = m' ((c.tc : Thread Cert.ReferenceAdaIdeal.nD Cert.ReferenceAdaIdeal.τ).loc Cert.ReferenceAdaIdeal.main_arg3)
          ∧ r.2.mem ((c.tc : Thread Cert.ReferenceAdaIdeal.nD Cert.ReferenceAdaIdeal.τ).loc Cert.ReferenceAdaIdeal.main_arg4) = m' ((c.tc : Thread Cert.ReferenceAdaIdeal.nD Cert.ReferenceAdaIdeal.τ).loc Cert.ReferenceAdaIdeal.main_arg4)
          ∧ r.2.mem ((c.tc : Thread Cert.ReferenceAdaIdeal.nD Cert.ReferenceAdaIdeal.τ).loc Cert.ReferenceAdaIdeal.main_arg5) = m' ((c.tc : Thread Cert.ReferenceAdaIdeal.nD Cert.ReferenceAdaIdeal.τ).loc Cert.ReferenceAdaIdeal.main_arg5))

def preserves_KernelNorm_KernelNormIdeal : Prop :=
  True

def algebraic_KernelNormIdeal_ReferenceNormIdeal [hKernelNormIdeal : Cert.KernelNormIdeal.Facts] [hReferenceNormIdeal : Cert.ReferenceNormIdeal.Facts] : Prop :=
  ∀ (m : (ℓ : Loc Cert.KernelNormIdeal.nD Cert.KernelNormIdeal.τ Cert.KernelNormIdeal.sig) → Buf (Elt Ideal) ℓ) (g : Dev Cert.KernelNormIdeal.nD → PrngReg)
    (m' : (ℓ : Loc Cert.ReferenceNormIdeal.nD Cert.ReferenceNormIdeal.τ Cert.ReferenceNormIdeal.sig) → Buf (Elt Ideal) ℓ) (g' : Dev Cert.ReferenceNormIdeal.nD → PrngReg), Pre_KernelNormIdeal m →
    (∀ c : Dev Cert.KernelNormIdeal.nD,
      m' ((c.tc : Thread Cert.ReferenceNormIdeal.nD Cert.ReferenceNormIdeal.τ).loc Cert.ReferenceNormIdeal.main_arg0) = m ((c.tc : Thread Cert.KernelNormIdeal.nD Cert.KernelNormIdeal.τ).loc Cert.KernelNormIdeal.main_arg0)
      ∧ m' ((c.tc : Thread Cert.ReferenceNormIdeal.nD Cert.ReferenceNormIdeal.τ).loc Cert.ReferenceNormIdeal.main_arg1) = m ((c.tc : Thread Cert.KernelNormIdeal.nD Cert.KernelNormIdeal.τ).loc Cert.KernelNormIdeal.main_arg1)
      ∧ m' ((c.tc : Thread Cert.ReferenceNormIdeal.nD Cert.ReferenceNormIdeal.τ).loc Cert.ReferenceNormIdeal.main_arg2) = m ((c.tc : Thread Cert.KernelNormIdeal.nD Cert.KernelNormIdeal.τ).loc Cert.KernelNormIdeal.main_arg2)) →
    ∃ (v0 : (c : Dev Cert.KernelNormIdeal.nD) → Buf (Elt Ideal) ((c.tc : Thread Cert.KernelNormIdeal.nD Cert.KernelNormIdeal.τ).loc Cert.KernelNormIdeal.main_v2)),
      θ_run (Cert.KernelNormIdeal.defs (F := Ideal)) (onTc (τ := Cert.KernelNormIdeal.τ) (Cert.KernelNormIdeal.main (F := Ideal))) ⟨m, fun _ => 0, g⟩ (fun r => ∀ c : Dev Cert.KernelNormIdeal.nD,
          r.2.mem ((c.tc : Thread Cert.KernelNormIdeal.nD Cert.KernelNormIdeal.τ).loc Cert.KernelNormIdeal.main_v2) = v0 c
          ∧ r.2.mem ((c.tc : Thread Cert.KernelNormIdeal.nD Cert.KernelNormIdeal.τ).loc Cert.KernelNormIdeal.main_arg0) = m ((c.tc : Thread Cert.KernelNormIdeal.nD Cert.KernelNormIdeal.τ).loc Cert.KernelNormIdeal.main_arg0)
          ∧ r.2.mem ((c.tc : Thread Cert.KernelNormIdeal.nD Cert.KernelNormIdeal.τ).loc Cert.KernelNormIdeal.main_arg1) = m ((c.tc : Thread Cert.KernelNormIdeal.nD Cert.KernelNormIdeal.τ).loc Cert.KernelNormIdeal.main_arg1)
          ∧ r.2.mem ((c.tc : Thread Cert.KernelNormIdeal.nD Cert.KernelNormIdeal.τ).loc Cert.KernelNormIdeal.main_arg2) = m ((c.tc : Thread Cert.KernelNormIdeal.nD Cert.KernelNormIdeal.τ).loc Cert.KernelNormIdeal.main_arg2))
      ∧ θ_run (Cert.ReferenceNormIdeal.defs (F := Ideal)) (onTc (τ := Cert.ReferenceNormIdeal.τ) (Cert.ReferenceNormIdeal.main (F := Ideal))) ⟨m', fun _ => 0, g'⟩ (fun r => ∀ c : Dev Cert.ReferenceNormIdeal.nD,
          r.2.mem ((c.tc : Thread Cert.ReferenceNormIdeal.nD Cert.ReferenceNormIdeal.τ).loc Cert.ReferenceNormIdeal.main_v32) = v0 c
          ∧ r.2.mem ((c.tc : Thread Cert.ReferenceNormIdeal.nD Cert.ReferenceNormIdeal.τ).loc Cert.ReferenceNormIdeal.main_arg0) = m' ((c.tc : Thread Cert.ReferenceNormIdeal.nD Cert.ReferenceNormIdeal.τ).loc Cert.ReferenceNormIdeal.main_arg0)
          ∧ r.2.mem ((c.tc : Thread Cert.ReferenceNormIdeal.nD Cert.ReferenceNormIdeal.τ).loc Cert.ReferenceNormIdeal.main_arg1) = m' ((c.tc : Thread Cert.ReferenceNormIdeal.nD Cert.ReferenceNormIdeal.τ).loc Cert.ReferenceNormIdeal.main_arg1)
          ∧ r.2.mem ((c.tc : Thread Cert.ReferenceNormIdeal.nD Cert.ReferenceNormIdeal.τ).loc Cert.ReferenceNormIdeal.main_arg2) = m' ((c.tc : Thread Cert.ReferenceNormIdeal.nD Cert.ReferenceNormIdeal.τ).loc Cert.ReferenceNormIdeal.main_arg2))

def preserves_KernelUp_KernelUpIdeal : Prop :=
  True

def algebraic_KernelUpIdeal_ReferenceUpIdeal_pre_finite_up [hKernelUpIdeal : Cert.KernelUpIdeal.Facts] [hReferenceUpIdeal : Cert.ReferenceUpIdeal.Facts] [hPre_finite_up : Cert.Pre_finite_up.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal_finite_up m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)
      ∧ m' ((c.tc : Thread Cert.ReferenceUpIdeal.nD Cert.ReferenceUpIdeal.τ).loc Cert.ReferenceUpIdeal.main_arg2) = m ((c.tc : Thread Cert.KernelUpIdeal.nD Cert.KernelUpIdeal.τ).loc Cert.KernelUpIdeal.main_arg2)) →
    ∃ (v0 : (c : Dev Cert.KernelUpIdeal.nD) → Buf (Elt Ideal) ((c.tc : Thread Cert.KernelUpIdeal.nD Cert.KernelUpIdeal.τ).loc Cert.KernelUpIdeal.main_v8_0)) (v1 : (c : Dev Cert.KernelUpIdeal.nD) → Buf (Elt Ideal) ((c.tc : Thread Cert.KernelUpIdeal.nD Cert.KernelUpIdeal.τ).loc Cert.KernelUpIdeal.main_v8_1)) (v2 : (c : Dev Cert.KernelUpIdeal.nD) → Buf (Elt Ideal) ((c.tc : Thread Cert.KernelUpIdeal.nD Cert.KernelUpIdeal.τ).loc Cert.KernelUpIdeal.main_v8_2)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v8_0) = v0 c
          ∧ r.2.mem ((c.tc : Thread Cert.KernelUpIdeal.nD Cert.KernelUpIdeal.τ).loc Cert.KernelUpIdeal.main_v8_1) = v1 c
          ∧ r.2.mem ((c.tc : Thread Cert.KernelUpIdeal.nD Cert.KernelUpIdeal.τ).loc Cert.KernelUpIdeal.main_v8_2) = v2 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1)
          ∧ r.2.mem ((c.tc : Thread Cert.KernelUpIdeal.nD Cert.KernelUpIdeal.τ).loc Cert.KernelUpIdeal.main_arg2) = m ((c.tc : Thread Cert.KernelUpIdeal.nD Cert.KernelUpIdeal.τ).loc Cert.KernelUpIdeal.main_arg2))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v10) = v0 c
          ∧ r.2.mem ((c.tc : Thread Cert.ReferenceUpIdeal.nD Cert.ReferenceUpIdeal.τ).loc Cert.ReferenceUpIdeal.main_v13) = v1 c
          ∧ r.2.mem ((c.tc : Thread Cert.ReferenceUpIdeal.nD Cert.ReferenceUpIdeal.τ).loc Cert.ReferenceUpIdeal.main_v17) = v2 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1)
          ∧ r.2.mem ((c.tc : Thread Cert.ReferenceUpIdeal.nD Cert.ReferenceUpIdeal.τ).loc Cert.ReferenceUpIdeal.main_arg2) = m' ((c.tc : Thread Cert.ReferenceUpIdeal.nD Cert.ReferenceUpIdeal.τ).loc Cert.ReferenceUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)
      ∧ m' ((c.tc : Thread Cert.ReferenceDownIdeal.nD Cert.ReferenceDownIdeal.τ).loc Cert.ReferenceDownIdeal.main_arg2) = m ((c.tc : Thread Cert.KernelDownIdeal.nD Cert.KernelDownIdeal.τ).loc Cert.KernelDownIdeal.main_arg2)
      ∧ m' ((c.tc : Thread Cert.ReferenceDownIdeal.nD Cert.ReferenceDownIdeal.τ).loc Cert.ReferenceDownIdeal.main_arg3) = m ((c.tc : Thread Cert.KernelDownIdeal.nD Cert.KernelDownIdeal.τ).loc Cert.KernelDownIdeal.main_arg3)
      ∧ m' ((c.tc : Thread Cert.ReferenceDownIdeal.nD Cert.ReferenceDownIdeal.τ).loc Cert.ReferenceDownIdeal.main_arg4) = m ((c.tc : Thread Cert.KernelDownIdeal.nD Cert.KernelDownIdeal.τ).loc Cert.KernelDownIdeal.main_arg4)) →
    ∃ (v0 : (c : Dev Cert.KernelDownIdeal.nD) → Buf (Elt Ideal) ((c.tc : Thread Cert.KernelDownIdeal.nD Cert.KernelDownIdeal.τ).loc Cert.KernelDownIdeal.main_v7_0)) (v1 : (c : Dev Cert.KernelDownIdeal.nD) → Buf (Elt Ideal) ((c.tc : Thread Cert.KernelDownIdeal.nD Cert.KernelDownIdeal.τ).loc Cert.KernelDownIdeal.main_v7_1)) (v2 : (c : Dev Cert.KernelDownIdeal.nD) → Buf (Elt Ideal) ((c.tc : Thread Cert.KernelDownIdeal.nD Cert.KernelDownIdeal.τ).loc Cert.KernelDownIdeal.main_v7_2)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v7_0) = v0 c
          ∧ r.2.mem ((c.tc : Thread Cert.KernelDownIdeal.nD Cert.KernelDownIdeal.τ).loc Cert.KernelDownIdeal.main_v7_1) = v1 c
          ∧ r.2.mem ((c.tc : Thread Cert.KernelDownIdeal.nD Cert.KernelDownIdeal.τ).loc Cert.KernelDownIdeal.main_v7_2) = v2 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1)
          ∧ r.2.mem ((c.tc : Thread Cert.KernelDownIdeal.nD Cert.KernelDownIdeal.τ).loc Cert.KernelDownIdeal.main_arg2) = m ((c.tc : Thread Cert.KernelDownIdeal.nD Cert.KernelDownIdeal.τ).loc Cert.KernelDownIdeal.main_arg2)
          ∧ r.2.mem ((c.tc : Thread Cert.KernelDownIdeal.nD Cert.KernelDownIdeal.τ).loc Cert.KernelDownIdeal.main_arg3) = m ((c.tc : Thread Cert.KernelDownIdeal.nD Cert.KernelDownIdeal.τ).loc Cert.KernelDownIdeal.main_arg3)
          ∧ r.2.mem ((c.tc : Thread Cert.KernelDownIdeal.nD Cert.KernelDownIdeal.τ).loc Cert.KernelDownIdeal.main_arg4) = m ((c.tc : Thread Cert.KernelDownIdeal.nD Cert.KernelDownIdeal.τ).loc Cert.KernelDownIdeal.main_arg4))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v38) = v0 c
          ∧ r.2.mem ((c.tc : Thread Cert.ReferenceDownIdeal.nD Cert.ReferenceDownIdeal.τ).loc Cert.ReferenceDownIdeal.main_v40) = v1 c
          ∧ r.2.mem ((c.tc : Thread Cert.ReferenceDownIdeal.nD Cert.ReferenceDownIdeal.τ).loc Cert.ReferenceDownIdeal.main_v42) = v2 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1)
          ∧ r.2.mem ((c.tc : Thread Cert.ReferenceDownIdeal.nD Cert.ReferenceDownIdeal.τ).loc Cert.ReferenceDownIdeal.main_arg2) = m' ((c.tc : Thread Cert.ReferenceDownIdeal.nD Cert.ReferenceDownIdeal.τ).loc Cert.ReferenceDownIdeal.main_arg2)
          ∧ r.2.mem ((c.tc : Thread Cert.ReferenceDownIdeal.nD Cert.ReferenceDownIdeal.τ).loc Cert.ReferenceDownIdeal.main_arg3) = m' ((c.tc : Thread Cert.ReferenceDownIdeal.nD Cert.ReferenceDownIdeal.τ).loc Cert.ReferenceDownIdeal.main_arg3)
          ∧ r.2.mem ((c.tc : Thread Cert.ReferenceDownIdeal.nD Cert.ReferenceDownIdeal.τ).loc Cert.ReferenceDownIdeal.main_arg4) = m' ((c.tc : Thread Cert.ReferenceDownIdeal.nD Cert.ReferenceDownIdeal.τ).loc Cert.ReferenceDownIdeal.main_arg4))

def preserves_KernelMixF_KernelMixFIdeal : Prop :=
  True

def algebraic_KernelMixFIdeal_ReferenceMixFIdeal [hKernelMixFIdeal : Cert.KernelMixFIdeal.Facts] [hReferenceMixFIdeal : Cert.ReferenceMixFIdeal.Facts] : Prop :=
  ∀ (m : (ℓ : Loc Cert.KernelMixFIdeal.nD Cert.KernelMixFIdeal.τ Cert.KernelMixFIdeal.sig) → Buf (Elt Ideal) ℓ) (g : Dev Cert.KernelMixFIdeal.nD → PrngReg)
    (m' : (ℓ : Loc Cert.ReferenceMixFIdeal.nD Cert.ReferenceMixFIdeal.τ Cert.ReferenceMixFIdeal.sig) → Buf (Elt Ideal) ℓ) (g' : Dev Cert.ReferenceMixFIdeal.nD → PrngReg), Pre_KernelMixFIdeal m →
    (∀ c : Dev Cert.KernelMixFIdeal.nD,
      m' ((c.tc : Thread Cert.ReferenceMixFIdeal.nD Cert.ReferenceMixFIdeal.τ).loc Cert.ReferenceMixFIdeal.main_arg0) = m ((c.tc : Thread Cert.KernelMixFIdeal.nD Cert.KernelMixFIdeal.τ).loc Cert.KernelMixFIdeal.main_arg0)
      ∧ m' ((c.tc : Thread Cert.ReferenceMixFIdeal.nD Cert.ReferenceMixFIdeal.τ).loc Cert.ReferenceMixFIdeal.main_arg1) = m ((c.tc : Thread Cert.KernelMixFIdeal.nD Cert.KernelMixFIdeal.τ).loc Cert.KernelMixFIdeal.main_arg1)
      ∧ m' ((c.tc : Thread Cert.ReferenceMixFIdeal.nD Cert.ReferenceMixFIdeal.τ).loc Cert.ReferenceMixFIdeal.main_arg2) = m ((c.tc : Thread Cert.KernelMixFIdeal.nD Cert.KernelMixFIdeal.τ).loc Cert.KernelMixFIdeal.main_arg2)
      ∧ m' ((c.tc : Thread Cert.ReferenceMixFIdeal.nD Cert.ReferenceMixFIdeal.τ).loc Cert.ReferenceMixFIdeal.main_arg3) = m ((c.tc : Thread Cert.KernelMixFIdeal.nD Cert.KernelMixFIdeal.τ).loc Cert.KernelMixFIdeal.main_arg3)
      ∧ m' ((c.tc : Thread Cert.ReferenceMixFIdeal.nD Cert.ReferenceMixFIdeal.τ).loc Cert.ReferenceMixFIdeal.main_arg4) = m ((c.tc : Thread Cert.KernelMixFIdeal.nD Cert.KernelMixFIdeal.τ).loc Cert.KernelMixFIdeal.main_arg4)
      ∧ m' ((c.tc : Thread Cert.ReferenceMixFIdeal.nD Cert.ReferenceMixFIdeal.τ).loc Cert.ReferenceMixFIdeal.main_arg5) = m ((c.tc : Thread Cert.KernelMixFIdeal.nD Cert.KernelMixFIdeal.τ).loc Cert.KernelMixFIdeal.main_arg5)
      ∧ m' ((c.tc : Thread Cert.ReferenceMixFIdeal.nD Cert.ReferenceMixFIdeal.τ).loc Cert.ReferenceMixFIdeal.main_arg6) = m ((c.tc : Thread Cert.KernelMixFIdeal.nD Cert.KernelMixFIdeal.τ).loc Cert.KernelMixFIdeal.main_arg6)
      ∧ m' ((c.tc : Thread Cert.ReferenceMixFIdeal.nD Cert.ReferenceMixFIdeal.τ).loc Cert.ReferenceMixFIdeal.main_arg7) = m ((c.tc : Thread Cert.KernelMixFIdeal.nD Cert.KernelMixFIdeal.τ).loc Cert.KernelMixFIdeal.main_arg7)
      ∧ m' ((c.tc : Thread Cert.ReferenceMixFIdeal.nD Cert.ReferenceMixFIdeal.τ).loc Cert.ReferenceMixFIdeal.main_arg8) = m ((c.tc : Thread Cert.KernelMixFIdeal.nD Cert.KernelMixFIdeal.τ).loc Cert.KernelMixFIdeal.main_arg8)
      ∧ m' ((c.tc : Thread Cert.ReferenceMixFIdeal.nD Cert.ReferenceMixFIdeal.τ).loc Cert.ReferenceMixFIdeal.main_arg9) = m ((c.tc : Thread Cert.KernelMixFIdeal.nD Cert.KernelMixFIdeal.τ).loc Cert.KernelMixFIdeal.main_arg9)) →
    ∃ (v0 : (c : Dev Cert.KernelMixFIdeal.nD) → Buf (Elt Ideal) ((c.tc : Thread Cert.KernelMixFIdeal.nD Cert.KernelMixFIdeal.τ).loc Cert.KernelMixFIdeal.main_v12_0)) (v1 : (c : Dev Cert.KernelMixFIdeal.nD) → Buf (Elt Ideal) ((c.tc : Thread Cert.KernelMixFIdeal.nD Cert.KernelMixFIdeal.τ).loc Cert.KernelMixFIdeal.main_v12_1)) (v2 : (c : Dev Cert.KernelMixFIdeal.nD) → Buf (Elt Ideal) ((c.tc : Thread Cert.KernelMixFIdeal.nD Cert.KernelMixFIdeal.τ).loc Cert.KernelMixFIdeal.main_v12_2)) (v3 : (c : Dev Cert.KernelMixFIdeal.nD) → Buf (Elt Ideal) ((c.tc : Thread Cert.KernelMixFIdeal.nD Cert.KernelMixFIdeal.τ).loc Cert.KernelMixFIdeal.main_v12_3)) (v4 : (c : Dev Cert.KernelMixFIdeal.nD) → Buf (Elt Ideal) ((c.tc : Thread Cert.KernelMixFIdeal.nD Cert.KernelMixFIdeal.τ).loc Cert.KernelMixFIdeal.main_v12_4)) (v5 : (c : Dev Cert.KernelMixFIdeal.nD) → Buf (Elt Ideal) ((c.tc : Thread Cert.KernelMixFIdeal.nD Cert.KernelMixFIdeal.τ).loc Cert.KernelMixFIdeal.main_v12_5)),
      θ_run (Cert.KernelMixFIdeal.defs (F := Ideal)) (onTc (τ := Cert.KernelMixFIdeal.τ) (Cert.KernelMixFIdeal.main (F := Ideal))) ⟨m, fun _ => 0, g⟩ (fun r => ∀ c : Dev Cert.KernelMixFIdeal.nD,
          r.2.mem ((c.tc : Thread Cert.KernelMixFIdeal.nD Cert.KernelMixFIdeal.τ).loc Cert.KernelMixFIdeal.main_v12_0) = v0 c
          ∧ r.2.mem ((c.tc : Thread Cert.KernelMixFIdeal.nD Cert.KernelMixFIdeal.τ).loc Cert.KernelMixFIdeal.main_v12_1) = v1 c
          ∧ r.2.mem ((c.tc : Thread Cert.KernelMixFIdeal.nD Cert.KernelMixFIdeal.τ).loc Cert.KernelMixFIdeal.main_v12_2) = v2 c
          ∧ r.2.mem ((c.tc : Thread Cert.KernelMixFIdeal.nD Cert.KernelMixFIdeal.τ).loc Cert.KernelMixFIdeal.main_v12_3) = v3 c
          ∧ r.2.mem ((c.tc : Thread Cert.KernelMixFIdeal.nD Cert.KernelMixFIdeal.τ).loc Cert.KernelMixFIdeal.main_v12_4) = v4 c
          ∧ r.2.mem ((c.tc : Thread Cert.KernelMixFIdeal.nD Cert.KernelMixFIdeal.τ).loc Cert.KernelMixFIdeal.main_v12_5) = v5 c
          ∧ r.2.mem ((c.tc : Thread Cert.KernelMixFIdeal.nD Cert.KernelMixFIdeal.τ).loc Cert.KernelMixFIdeal.main_arg0) = m ((c.tc : Thread Cert.KernelMixFIdeal.nD Cert.KernelMixFIdeal.τ).loc Cert.KernelMixFIdeal.main_arg0)
          ∧ r.2.mem ((c.tc : Thread Cert.KernelMixFIdeal.nD Cert.KernelMixFIdeal.τ).loc Cert.KernelMixFIdeal.main_arg1) = m ((c.tc : Thread Cert.KernelMixFIdeal.nD Cert.KernelMixFIdeal.τ).loc Cert.KernelMixFIdeal.main_arg1)
          ∧ r.2.mem ((c.tc : Thread Cert.KernelMixFIdeal.nD Cert.KernelMixFIdeal.τ).loc Cert.KernelMixFIdeal.main_arg2) = m ((c.tc : Thread Cert.KernelMixFIdeal.nD Cert.KernelMixFIdeal.τ).loc Cert.KernelMixFIdeal.main_arg2)
          ∧ r.2.mem ((c.tc : Thread Cert.KernelMixFIdeal.nD Cert.KernelMixFIdeal.τ).loc Cert.KernelMixFIdeal.main_arg3) = m ((c.tc : Thread Cert.KernelMixFIdeal.nD Cert.KernelMixFIdeal.τ).loc Cert.KernelMixFIdeal.main_arg3)
          ∧ r.2.mem ((c.tc : Thread Cert.KernelMixFIdeal.nD Cert.KernelMixFIdeal.τ).loc Cert.KernelMixFIdeal.main_arg4) = m ((c.tc : Thread Cert.KernelMixFIdeal.nD Cert.KernelMixFIdeal.τ).loc Cert.KernelMixFIdeal.main_arg4)
          ∧ r.2.mem ((c.tc : Thread Cert.KernelMixFIdeal.nD Cert.KernelMixFIdeal.τ).loc Cert.KernelMixFIdeal.main_arg5) = m ((c.tc : Thread Cert.KernelMixFIdeal.nD Cert.KernelMixFIdeal.τ).loc Cert.KernelMixFIdeal.main_arg5)
          ∧ r.2.mem ((c.tc : Thread Cert.KernelMixFIdeal.nD Cert.KernelMixFIdeal.τ).loc Cert.KernelMixFIdeal.main_arg6) = m ((c.tc : Thread Cert.KernelMixFIdeal.nD Cert.KernelMixFIdeal.τ).loc Cert.KernelMixFIdeal.main_arg6)
          ∧ r.2.mem ((c.tc : Thread Cert.KernelMixFIdeal.nD Cert.KernelMixFIdeal.τ).loc Cert.KernelMixFIdeal.main_arg7) = m ((c.tc : Thread Cert.KernelMixFIdeal.nD Cert.KernelMixFIdeal.τ).loc Cert.KernelMixFIdeal.main_arg7)
          ∧ r.2.mem ((c.tc : Thread Cert.KernelMixFIdeal.nD Cert.KernelMixFIdeal.τ).loc Cert.KernelMixFIdeal.main_arg8) = m ((c.tc : Thread Cert.KernelMixFIdeal.nD Cert.KernelMixFIdeal.τ).loc Cert.KernelMixFIdeal.main_arg8)
          ∧ r.2.mem ((c.tc : Thread Cert.KernelMixFIdeal.nD Cert.KernelMixFIdeal.τ).loc Cert.KernelMixFIdeal.main_arg9) = m ((c.tc : Thread Cert.KernelMixFIdeal.nD Cert.KernelMixFIdeal.τ).loc Cert.KernelMixFIdeal.main_arg9))
      ∧ θ_run (Cert.ReferenceMixFIdeal.defs (F := Ideal)) (onTc (τ := Cert.ReferenceMixFIdeal.τ) (Cert.ReferenceMixFIdeal.main (F := Ideal))) ⟨m', fun _ => 0, g'⟩ (fun r => ∀ c : Dev Cert.ReferenceMixFIdeal.nD,
          r.2.mem ((c.tc : Thread Cert.ReferenceMixFIdeal.nD Cert.ReferenceMixFIdeal.τ).loc Cert.ReferenceMixFIdeal.main_v54) = v0 c
          ∧ r.2.mem ((c.tc : Thread Cert.ReferenceMixFIdeal.nD Cert.ReferenceMixFIdeal.τ).loc Cert.ReferenceMixFIdeal.main_v56) = v1 c
          ∧ r.2.mem ((c.tc : Thread Cert.ReferenceMixFIdeal.nD Cert.ReferenceMixFIdeal.τ).loc Cert.ReferenceMixFIdeal.main_v58) = v2 c
          ∧ r.2.mem ((c.tc : Thread Cert.ReferenceMixFIdeal.nD Cert.ReferenceMixFIdeal.τ).loc Cert.ReferenceMixFIdeal.main_v60) = v3 c
          ∧ r.2.mem ((c.tc : Thread Cert.ReferenceMixFIdeal.nD Cert.ReferenceMixFIdeal.τ).loc Cert.ReferenceMixFIdeal.main_v61) = v4 c
          ∧ r.2.mem ((c.tc : Thread Cert.ReferenceMixFIdeal.nD Cert.ReferenceMixFIdeal.τ).loc Cert.ReferenceMixFIdeal.main_v63) = v5 c
          ∧ r.2.mem ((c.tc : Thread Cert.ReferenceMixFIdeal.nD Cert.ReferenceMixFIdeal.τ).loc Cert.ReferenceMixFIdeal.main_arg0) = m' ((c.tc : Thread Cert.ReferenceMixFIdeal.nD Cert.ReferenceMixFIdeal.τ).loc Cert.ReferenceMixFIdeal.main_arg0)
          ∧ r.2.mem ((c.tc : Thread Cert.ReferenceMixFIdeal.nD Cert.ReferenceMixFIdeal.τ).loc Cert.ReferenceMixFIdeal.main_arg1) = m' ((c.tc : Thread Cert.ReferenceMixFIdeal.nD Cert.ReferenceMixFIdeal.τ).loc Cert.ReferenceMixFIdeal.main_arg1)
          ∧ r.2.mem ((c.tc : Thread Cert.ReferenceMixFIdeal.nD Cert.ReferenceMixFIdeal.τ).loc Cert.ReferenceMixFIdeal.main_arg2) = m' ((c.tc : Thread Cert.ReferenceMixFIdeal.nD Cert.ReferenceMixFIdeal.τ).loc Cert.ReferenceMixFIdeal.main_arg2)
          ∧ r.2.mem ((c.tc : Thread Cert.ReferenceMixFIdeal.nD Cert.ReferenceMixFIdeal.τ).loc Cert.ReferenceMixFIdeal.main_arg3) = m' ((c.tc : Thread Cert.ReferenceMixFIdeal.nD Cert.ReferenceMixFIdeal.τ).loc Cert.ReferenceMixFIdeal.main_arg3)
          ∧ r.2.mem ((c.tc : Thread Cert.ReferenceMixFIdeal.nD Cert.ReferenceMixFIdeal.τ).loc Cert.ReferenceMixFIdeal.main_arg4) = m' ((c.tc : Thread Cert.ReferenceMixFIdeal.nD Cert.ReferenceMixFIdeal.τ).loc Cert.ReferenceMixFIdeal.main_arg4)
          ∧ r.2.mem ((c.tc : Thread Cert.ReferenceMixFIdeal.nD Cert.ReferenceMixFIdeal.τ).loc Cert.ReferenceMixFIdeal.main_arg5) = m' ((c.tc : Thread Cert.ReferenceMixFIdeal.nD Cert.ReferenceMixFIdeal.τ).loc Cert.ReferenceMixFIdeal.main_arg5)
          ∧ r.2.mem ((c.tc : Thread Cert.ReferenceMixFIdeal.nD Cert.ReferenceMixFIdeal.τ).loc Cert.ReferenceMixFIdeal.main_arg6) = m' ((c.tc : Thread Cert.ReferenceMixFIdeal.nD Cert.ReferenceMixFIdeal.τ).loc Cert.ReferenceMixFIdeal.main_arg6)
          ∧ r.2.mem ((c.tc : Thread Cert.ReferenceMixFIdeal.nD Cert.ReferenceMixFIdeal.τ).loc Cert.ReferenceMixFIdeal.main_arg7) = m' ((c.tc : Thread Cert.ReferenceMixFIdeal.nD Cert.ReferenceMixFIdeal.τ).loc Cert.ReferenceMixFIdeal.main_arg7)
          ∧ r.2.mem ((c.tc : Thread Cert.ReferenceMixFIdeal.nD Cert.ReferenceMixFIdeal.τ).loc Cert.ReferenceMixFIdeal.main_arg8) = m' ((c.tc : Thread Cert.ReferenceMixFIdeal.nD Cert.ReferenceMixFIdeal.τ).loc Cert.ReferenceMixFIdeal.main_arg8)
          ∧ r.2.mem ((c.tc : Thread Cert.ReferenceMixFIdeal.nD Cert.ReferenceMixFIdeal.τ).loc Cert.ReferenceMixFIdeal.main_arg9) = m' ((c.tc : Thread Cert.ReferenceMixFIdeal.nD Cert.ReferenceMixFIdeal.τ).loc Cert.ReferenceMixFIdeal.main_arg9))

def preserves_KernelSguF_KernelSguFIdeal : Prop :=
  IdealRules.named_const.Statement Cert.KernelSguFIdeal.κ "gelu_c" .f32 0x3D372713#32 ((8943 / 200000 : ℝ) : EReal)

def algebraic_KernelSguFIdeal_ReferenceSguFIdeal [hKernelSguFIdeal : Cert.KernelSguFIdeal.Facts] [hReferenceSguFIdeal : Cert.ReferenceSguFIdeal.Facts] : Prop :=
  ∀ (m : (ℓ : Loc Cert.KernelSguFIdeal.nD Cert.KernelSguFIdeal.τ Cert.KernelSguFIdeal.sig) → Buf (Elt Ideal) ℓ) (g : Dev Cert.KernelSguFIdeal.nD → PrngReg)
    (m' : (ℓ : Loc Cert.ReferenceSguFIdeal.nD Cert.ReferenceSguFIdeal.τ Cert.ReferenceSguFIdeal.sig) → Buf (Elt Ideal) ℓ) (g' : Dev Cert.ReferenceSguFIdeal.nD → PrngReg), Pre_KernelSguFIdeal m →
    (∀ c : Dev Cert.KernelSguFIdeal.nD,
      m' ((c.tc : Thread Cert.ReferenceSguFIdeal.nD Cert.ReferenceSguFIdeal.τ).loc Cert.ReferenceSguFIdeal.main_arg0) = m ((c.tc : Thread Cert.KernelSguFIdeal.nD Cert.KernelSguFIdeal.τ).loc Cert.KernelSguFIdeal.main_arg0)
      ∧ m' ((c.tc : Thread Cert.ReferenceSguFIdeal.nD Cert.ReferenceSguFIdeal.τ).loc Cert.ReferenceSguFIdeal.main_arg1) = m ((c.tc : Thread Cert.KernelSguFIdeal.nD Cert.KernelSguFIdeal.τ).loc Cert.KernelSguFIdeal.main_arg1)
      ∧ m' ((c.tc : Thread Cert.ReferenceSguFIdeal.nD Cert.ReferenceSguFIdeal.τ).loc Cert.ReferenceSguFIdeal.main_arg2) = m ((c.tc : Thread Cert.KernelSguFIdeal.nD Cert.KernelSguFIdeal.τ).loc Cert.KernelSguFIdeal.main_arg2)
      ∧ m' ((c.tc : Thread Cert.ReferenceSguFIdeal.nD Cert.ReferenceSguFIdeal.τ).loc Cert.ReferenceSguFIdeal.main_arg3) = m ((c.tc : Thread Cert.KernelSguFIdeal.nD Cert.KernelSguFIdeal.τ).loc Cert.KernelSguFIdeal.main_arg3)
      ∧ m' ((c.tc : Thread Cert.ReferenceSguFIdeal.nD Cert.ReferenceSguFIdeal.τ).loc Cert.ReferenceSguFIdeal.main_arg4) = m ((c.tc : Thread Cert.KernelSguFIdeal.nD Cert.KernelSguFIdeal.τ).loc Cert.KernelSguFIdeal.main_arg4)
      ∧ m' ((c.tc : Thread Cert.ReferenceSguFIdeal.nD Cert.ReferenceSguFIdeal.τ).loc Cert.ReferenceSguFIdeal.main_arg5) = m ((c.tc : Thread Cert.KernelSguFIdeal.nD Cert.KernelSguFIdeal.τ).loc Cert.KernelSguFIdeal.main_arg5)) →
    ∃ (v0 : (c : Dev Cert.KernelSguFIdeal.nD) → Buf (Elt Ideal) ((c.tc : Thread Cert.KernelSguFIdeal.nD Cert.KernelSguFIdeal.τ).loc Cert.KernelSguFIdeal.main_v6)),
      θ_run (Cert.KernelSguFIdeal.defs (F := Ideal)) (onTc (τ := Cert.KernelSguFIdeal.τ) (Cert.KernelSguFIdeal.main (F := Ideal))) ⟨m, fun _ => 0, g⟩ (fun r => ∀ c : Dev Cert.KernelSguFIdeal.nD,
          r.2.mem ((c.tc : Thread Cert.KernelSguFIdeal.nD Cert.KernelSguFIdeal.τ).loc Cert.KernelSguFIdeal.main_v6) = v0 c
          ∧ r.2.mem ((c.tc : Thread Cert.KernelSguFIdeal.nD Cert.KernelSguFIdeal.τ).loc Cert.KernelSguFIdeal.main_arg0) = m ((c.tc : Thread Cert.KernelSguFIdeal.nD Cert.KernelSguFIdeal.τ).loc Cert.KernelSguFIdeal.main_arg0)
          ∧ r.2.mem ((c.tc : Thread Cert.KernelSguFIdeal.nD Cert.KernelSguFIdeal.τ).loc Cert.KernelSguFIdeal.main_arg1) = m ((c.tc : Thread Cert.KernelSguFIdeal.nD Cert.KernelSguFIdeal.τ).loc Cert.KernelSguFIdeal.main_arg1)
          ∧ r.2.mem ((c.tc : Thread Cert.KernelSguFIdeal.nD Cert.KernelSguFIdeal.τ).loc Cert.KernelSguFIdeal.main_arg2) = m ((c.tc : Thread Cert.KernelSguFIdeal.nD Cert.KernelSguFIdeal.τ).loc Cert.KernelSguFIdeal.main_arg2)
          ∧ r.2.mem ((c.tc : Thread Cert.KernelSguFIdeal.nD Cert.KernelSguFIdeal.τ).loc Cert.KernelSguFIdeal.main_arg3) = m ((c.tc : Thread Cert.KernelSguFIdeal.nD Cert.KernelSguFIdeal.τ).loc Cert.KernelSguFIdeal.main_arg3)
          ∧ r.2.mem ((c.tc : Thread Cert.KernelSguFIdeal.nD Cert.KernelSguFIdeal.τ).loc Cert.KernelSguFIdeal.main_arg4) = m ((c.tc : Thread Cert.KernelSguFIdeal.nD Cert.KernelSguFIdeal.τ).loc Cert.KernelSguFIdeal.main_arg4)
          ∧ r.2.mem ((c.tc : Thread Cert.KernelSguFIdeal.nD Cert.KernelSguFIdeal.τ).loc Cert.KernelSguFIdeal.main_arg5) = m ((c.tc : Thread Cert.KernelSguFIdeal.nD Cert.KernelSguFIdeal.τ).loc Cert.KernelSguFIdeal.main_arg5))
      ∧ θ_run (Cert.ReferenceSguFIdeal.defs (F := Ideal)) (onTc (τ := Cert.ReferenceSguFIdeal.τ) (Cert.ReferenceSguFIdeal.main (F := Ideal))) ⟨m', fun _ => 0, g'⟩ (fun r => ∀ c : Dev Cert.ReferenceSguFIdeal.nD,
          r.2.mem ((c.tc : Thread Cert.ReferenceSguFIdeal.nD Cert.ReferenceSguFIdeal.τ).loc Cert.ReferenceSguFIdeal.main_v71) = v0 c
          ∧ r.2.mem ((c.tc : Thread Cert.ReferenceSguFIdeal.nD Cert.ReferenceSguFIdeal.τ).loc Cert.ReferenceSguFIdeal.main_arg0) = m' ((c.tc : Thread Cert.ReferenceSguFIdeal.nD Cert.ReferenceSguFIdeal.τ).loc Cert.ReferenceSguFIdeal.main_arg0)
          ∧ r.2.mem ((c.tc : Thread Cert.ReferenceSguFIdeal.nD Cert.ReferenceSguFIdeal.τ).loc Cert.ReferenceSguFIdeal.main_arg1) = m' ((c.tc : Thread Cert.ReferenceSguFIdeal.nD Cert.ReferenceSguFIdeal.τ).loc Cert.ReferenceSguFIdeal.main_arg1)
          ∧ r.2.mem ((c.tc : Thread Cert.ReferenceSguFIdeal.nD Cert.ReferenceSguFIdeal.τ).loc Cert.ReferenceSguFIdeal.main_arg2) = m' ((c.tc : Thread Cert.ReferenceSguFIdeal.nD Cert.ReferenceSguFIdeal.τ).loc Cert.ReferenceSguFIdeal.main_arg2)
          ∧ r.2.mem ((c.tc : Thread Cert.ReferenceSguFIdeal.nD Cert.ReferenceSguFIdeal.τ).loc Cert.ReferenceSguFIdeal.main_arg3) = m' ((c.tc : Thread Cert.ReferenceSguFIdeal.nD Cert.ReferenceSguFIdeal.τ).loc Cert.ReferenceSguFIdeal.main_arg3)
          ∧ r.2.mem ((c.tc : Thread Cert.ReferenceSguFIdeal.nD Cert.ReferenceSguFIdeal.τ).loc Cert.ReferenceSguFIdeal.main_arg4) = m' ((c.tc : Thread Cert.ReferenceSguFIdeal.nD Cert.ReferenceSguFIdeal.τ).loc Cert.ReferenceSguFIdeal.main_arg4)
          ∧ r.2.mem ((c.tc : Thread Cert.ReferenceSguFIdeal.nD Cert.ReferenceSguFIdeal.τ).loc Cert.ReferenceSguFIdeal.main_arg5) = m' ((c.tc : Thread Cert.ReferenceSguFIdeal.nD Cert.ReferenceSguFIdeal.τ).loc Cert.ReferenceSguFIdeal.main_arg5))

def preserves_KernelAdaF_KernelAdaFIdeal : Prop :=
  True

def algebraic_KernelAdaFIdeal_ReferenceAdaFIdeal [hKernelAdaFIdeal : Cert.KernelAdaFIdeal.Facts] [hReferenceAdaFIdeal : Cert.ReferenceAdaFIdeal.Facts] : Prop :=
  ∀ (m : (ℓ : Loc Cert.KernelAdaFIdeal.nD Cert.KernelAdaFIdeal.τ Cert.KernelAdaFIdeal.sig) → Buf (Elt Ideal) ℓ) (g : Dev Cert.KernelAdaFIdeal.nD → PrngReg)
    (m' : (ℓ : Loc Cert.ReferenceAdaFIdeal.nD Cert.ReferenceAdaFIdeal.τ Cert.ReferenceAdaFIdeal.sig) → Buf (Elt Ideal) ℓ) (g' : Dev Cert.ReferenceAdaFIdeal.nD → PrngReg), Pre_KernelAdaFIdeal m →
    (∀ c : Dev Cert.KernelAdaFIdeal.nD,
      m' ((c.tc : Thread Cert.ReferenceAdaFIdeal.nD Cert.ReferenceAdaFIdeal.τ).loc Cert.ReferenceAdaFIdeal.main_arg0) = m ((c.tc : Thread Cert.KernelAdaFIdeal.nD Cert.KernelAdaFIdeal.τ).loc Cert.KernelAdaFIdeal.main_arg0)
      ∧ m' ((c.tc : Thread Cert.ReferenceAdaFIdeal.nD Cert.ReferenceAdaFIdeal.τ).loc Cert.ReferenceAdaFIdeal.main_arg1) = m ((c.tc : Thread Cert.KernelAdaFIdeal.nD Cert.KernelAdaFIdeal.τ).loc Cert.KernelAdaFIdeal.main_arg1)
      ∧ m' ((c.tc : Thread Cert.ReferenceAdaFIdeal.nD Cert.ReferenceAdaFIdeal.τ).loc Cert.ReferenceAdaFIdeal.main_arg2) = m ((c.tc : Thread Cert.KernelAdaFIdeal.nD Cert.KernelAdaFIdeal.τ).loc Cert.KernelAdaFIdeal.main_arg2)) →
    ∃ (v0 : (c : Dev Cert.KernelAdaFIdeal.nD) → Buf (Elt Ideal) ((c.tc : Thread Cert.KernelAdaFIdeal.nD Cert.KernelAdaFIdeal.τ).loc Cert.KernelAdaFIdeal.main_v0)),
      θ_run (Cert.KernelAdaFIdeal.defs (F := Ideal)) (onTc (τ := Cert.KernelAdaFIdeal.τ) (Cert.KernelAdaFIdeal.main (F := Ideal))) ⟨m, fun _ => 0, g⟩ (fun r => ∀ c : Dev Cert.KernelAdaFIdeal.nD,
          r.2.mem ((c.tc : Thread Cert.KernelAdaFIdeal.nD Cert.KernelAdaFIdeal.τ).loc Cert.KernelAdaFIdeal.main_v0) = v0 c
          ∧ r.2.mem ((c.tc : Thread Cert.KernelAdaFIdeal.nD Cert.KernelAdaFIdeal.τ).loc Cert.KernelAdaFIdeal.main_arg0) = m ((c.tc : Thread Cert.KernelAdaFIdeal.nD Cert.KernelAdaFIdeal.τ).loc Cert.KernelAdaFIdeal.main_arg0)
          ∧ r.2.mem ((c.tc : Thread Cert.KernelAdaFIdeal.nD Cert.KernelAdaFIdeal.τ).loc Cert.KernelAdaFIdeal.main_arg1) = m ((c.tc : Thread Cert.KernelAdaFIdeal.nD Cert.KernelAdaFIdeal.τ).loc Cert.KernelAdaFIdeal.main_arg1)
          ∧ r.2.mem ((c.tc : Thread Cert.KernelAdaFIdeal.nD Cert.KernelAdaFIdeal.τ).loc Cert.KernelAdaFIdeal.main_arg2) = m ((c.tc : Thread Cert.KernelAdaFIdeal.nD Cert.KernelAdaFIdeal.τ).loc Cert.KernelAdaFIdeal.main_arg2))
      ∧ θ_run (Cert.ReferenceAdaFIdeal.defs (F := Ideal)) (onTc (τ := Cert.ReferenceAdaFIdeal.τ) (Cert.ReferenceAdaFIdeal.main (F := Ideal))) ⟨m', fun _ => 0, g'⟩ (fun r => ∀ c : Dev Cert.ReferenceAdaFIdeal.nD,
          r.2.mem ((c.tc : Thread Cert.ReferenceAdaFIdeal.nD Cert.ReferenceAdaFIdeal.τ).loc Cert.ReferenceAdaFIdeal.main_v3) = v0 c
          ∧ r.2.mem ((c.tc : Thread Cert.ReferenceAdaFIdeal.nD Cert.ReferenceAdaFIdeal.τ).loc Cert.ReferenceAdaFIdeal.main_arg0) = m' ((c.tc : Thread Cert.ReferenceAdaFIdeal.nD Cert.ReferenceAdaFIdeal.τ).loc Cert.ReferenceAdaFIdeal.main_arg0)
          ∧ r.2.mem ((c.tc : Thread Cert.ReferenceAdaFIdeal.nD Cert.ReferenceAdaFIdeal.τ).loc Cert.ReferenceAdaFIdeal.main_arg1) = m' ((c.tc : Thread Cert.ReferenceAdaFIdeal.nD Cert.ReferenceAdaFIdeal.τ).loc Cert.ReferenceAdaFIdeal.main_arg1)
          ∧ r.2.mem ((c.tc : Thread Cert.ReferenceAdaFIdeal.nD Cert.ReferenceAdaFIdeal.τ).loc Cert.ReferenceAdaFIdeal.main_arg2) = m' ((c.tc : Thread Cert.ReferenceAdaFIdeal.nD Cert.ReferenceAdaFIdeal.τ).loc Cert.ReferenceAdaFIdeal.main_arg2))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v4_0)) (v1 : (c : Dev Cert.KernelProjIdeal.nD) → Buf (Elt Ideal) ((c.tc : Thread Cert.KernelProjIdeal.nD Cert.KernelProjIdeal.τ).loc Cert.KernelProjIdeal.main_v4_1)) (v2 : (c : Dev Cert.KernelProjIdeal.nD) → Buf (Elt Ideal) ((c.tc : Thread Cert.KernelProjIdeal.nD Cert.KernelProjIdeal.τ).loc Cert.KernelProjIdeal.main_v4_2)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v4_0) = v0 c
          ∧ r.2.mem ((c.tc : Thread Cert.KernelProjIdeal.nD Cert.KernelProjIdeal.τ).loc Cert.KernelProjIdeal.main_v4_1) = v1 c
          ∧ r.2.mem ((c.tc : Thread Cert.KernelProjIdeal.nD Cert.KernelProjIdeal.τ).loc Cert.KernelProjIdeal.main_v4_2) = v2 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v3) = v0 c
          ∧ r.2.mem ((c.tc : Thread Cert.ReferenceProjIdeal.nD Cert.ReferenceProjIdeal.τ).loc Cert.ReferenceProjIdeal.main_v4) = v1 c
          ∧ r.2.mem ((c.tc : Thread Cert.ReferenceProjIdeal.nD Cert.ReferenceProjIdeal.τ).loc Cert.ReferenceProjIdeal.main_v5) = v2 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelMmTn_KernelMmTnIdeal : Prop :=
  True

def algebraic_KernelMmTnIdeal_ReferenceMmTnIdeal [hKernelMmTnIdeal : Cert.KernelMmTnIdeal.Facts] [hReferenceMmTnIdeal : Cert.ReferenceMmTnIdeal.Facts] : Prop :=
  ∀ (m : (ℓ : Loc Cert.KernelMmTnIdeal.nD Cert.KernelMmTnIdeal.τ Cert.KernelMmTnIdeal.sig) → Buf (Elt Ideal) ℓ) (g : Dev Cert.KernelMmTnIdeal.nD → PrngReg)
    (m' : (ℓ : Loc Cert.ReferenceMmTnIdeal.nD Cert.ReferenceMmTnIdeal.τ Cert.ReferenceMmTnIdeal.sig) → Buf (Elt Ideal) ℓ) (g' : Dev Cert.ReferenceMmTnIdeal.nD → PrngReg), Pre_KernelMmTnIdeal m →
    (∀ c : Dev Cert.KernelMmTnIdeal.nD,
      m' ((c.tc : Thread Cert.ReferenceMmTnIdeal.nD Cert.ReferenceMmTnIdeal.τ).loc Cert.ReferenceMmTnIdeal.main_arg0) = m ((c.tc : Thread Cert.KernelMmTnIdeal.nD Cert.KernelMmTnIdeal.τ).loc Cert.KernelMmTnIdeal.main_arg0)
      ∧ m' ((c.tc : Thread Cert.ReferenceMmTnIdeal.nD Cert.ReferenceMmTnIdeal.τ).loc Cert.ReferenceMmTnIdeal.main_arg1) = m ((c.tc : Thread Cert.KernelMmTnIdeal.nD Cert.KernelMmTnIdeal.τ).loc Cert.KernelMmTnIdeal.main_arg1)
      ∧ m' ((c.tc : Thread Cert.ReferenceMmTnIdeal.nD Cert.ReferenceMmTnIdeal.τ).loc Cert.ReferenceMmTnIdeal.main_arg2) = m ((c.tc : Thread Cert.KernelMmTnIdeal.nD Cert.KernelMmTnIdeal.τ).loc Cert.KernelMmTnIdeal.main_arg2)
      ∧ m' ((c.tc : Thread Cert.ReferenceMmTnIdeal.nD Cert.ReferenceMmTnIdeal.τ).loc Cert.ReferenceMmTnIdeal.main_arg3) = m ((c.tc : Thread Cert.KernelMmTnIdeal.nD Cert.KernelMmTnIdeal.τ).loc Cert.KernelMmTnIdeal.main_arg3)
      ∧ m' ((c.tc : Thread Cert.ReferenceMmTnIdeal.nD Cert.ReferenceMmTnIdeal.τ).loc Cert.ReferenceMmTnIdeal.main_arg4) = m ((c.tc : Thread Cert.KernelMmTnIdeal.nD Cert.KernelMmTnIdeal.τ).loc Cert.KernelMmTnIdeal.main_arg4)) →
    ∃ (v0 : (c : Dev Cert.KernelMmTnIdeal.nD) → Buf (Elt Ideal) ((c.tc : Thread Cert.KernelMmTnIdeal.nD Cert.KernelMmTnIdeal.τ).loc Cert.KernelMmTnIdeal.main_v8_0)) (v1 : (c : Dev Cert.KernelMmTnIdeal.nD) → Buf (Elt Ideal) ((c.tc : Thread Cert.KernelMmTnIdeal.nD Cert.KernelMmTnIdeal.τ).loc Cert.KernelMmTnIdeal.main_v8_1)),
      θ_run (Cert.KernelMmTnIdeal.defs (F := Ideal)) (onTc (τ := Cert.KernelMmTnIdeal.τ) (Cert.KernelMmTnIdeal.main (F := Ideal))) ⟨m, fun _ => 0, g⟩ (fun r => ∀ c : Dev Cert.KernelMmTnIdeal.nD,
          r.2.mem ((c.tc : Thread Cert.KernelMmTnIdeal.nD Cert.KernelMmTnIdeal.τ).loc Cert.KernelMmTnIdeal.main_v8_0) = v0 c
          ∧ r.2.mem ((c.tc : Thread Cert.KernelMmTnIdeal.nD Cert.KernelMmTnIdeal.τ).loc Cert.KernelMmTnIdeal.main_v8_1) = v1 c
          ∧ r.2.mem ((c.tc : Thread Cert.KernelMmTnIdeal.nD Cert.KernelMmTnIdeal.τ).loc Cert.KernelMmTnIdeal.main_arg0) = m ((c.tc : Thread Cert.KernelMmTnIdeal.nD Cert.KernelMmTnIdeal.τ).loc Cert.KernelMmTnIdeal.main_arg0)
          ∧ r.2.mem ((c.tc : Thread Cert.KernelMmTnIdeal.nD Cert.KernelMmTnIdeal.τ).loc Cert.KernelMmTnIdeal.main_arg1) = m ((c.tc : Thread Cert.KernelMmTnIdeal.nD Cert.KernelMmTnIdeal.τ).loc Cert.KernelMmTnIdeal.main_arg1)
          ∧ r.2.mem ((c.tc : Thread Cert.KernelMmTnIdeal.nD Cert.KernelMmTnIdeal.τ).loc Cert.KernelMmTnIdeal.main_arg2) = m ((c.tc : Thread Cert.KernelMmTnIdeal.nD Cert.KernelMmTnIdeal.τ).loc Cert.KernelMmTnIdeal.main_arg2)
          ∧ r.2.mem ((c.tc : Thread Cert.KernelMmTnIdeal.nD Cert.KernelMmTnIdeal.τ).loc Cert.KernelMmTnIdeal.main_arg3) = m ((c.tc : Thread Cert.KernelMmTnIdeal.nD Cert.KernelMmTnIdeal.τ).loc Cert.KernelMmTnIdeal.main_arg3)
          ∧ r.2.mem ((c.tc : Thread Cert.KernelMmTnIdeal.nD Cert.KernelMmTnIdeal.τ).loc Cert.KernelMmTnIdeal.main_arg4) = m ((c.tc : Thread Cert.KernelMmTnIdeal.nD Cert.KernelMmTnIdeal.τ).loc Cert.KernelMmTnIdeal.main_arg4))
      ∧ θ_run (Cert.ReferenceMmTnIdeal.defs (F := Ideal)) (onTc (τ := Cert.ReferenceMmTnIdeal.τ) (Cert.ReferenceMmTnIdeal.main (F := Ideal))) ⟨m', fun _ => 0, g'⟩ (fun r => ∀ c : Dev Cert.ReferenceMmTnIdeal.nD,
          r.2.mem ((c.tc : Thread Cert.ReferenceMmTnIdeal.nD Cert.ReferenceMmTnIdeal.τ).loc Cert.ReferenceMmTnIdeal.main_v8) = v0 c
          ∧ r.2.mem ((c.tc : Thread Cert.ReferenceMmTnIdeal.nD Cert.ReferenceMmTnIdeal.τ).loc Cert.ReferenceMmTnIdeal.main_v11) = v1 c
          ∧ r.2.mem ((c.tc : Thread Cert.ReferenceMmTnIdeal.nD Cert.ReferenceMmTnIdeal.τ).loc Cert.ReferenceMmTnIdeal.main_arg0) = m' ((c.tc : Thread Cert.ReferenceMmTnIdeal.nD Cert.ReferenceMmTnIdeal.τ).loc Cert.ReferenceMmTnIdeal.main_arg0)
          ∧ r.2.mem ((c.tc : Thread Cert.ReferenceMmTnIdeal.nD Cert.ReferenceMmTnIdeal.τ).loc Cert.ReferenceMmTnIdeal.main_arg1) = m' ((c.tc : Thread Cert.ReferenceMmTnIdeal.nD Cert.ReferenceMmTnIdeal.τ).loc Cert.ReferenceMmTnIdeal.main_arg1)
          ∧ r.2.mem ((c.tc : Thread Cert.ReferenceMmTnIdeal.nD Cert.ReferenceMmTnIdeal.τ).loc Cert.ReferenceMmTnIdeal.main_arg2) = m' ((c.tc : Thread Cert.ReferenceMmTnIdeal.nD Cert.ReferenceMmTnIdeal.τ).loc Cert.ReferenceMmTnIdeal.main_arg2)
          ∧ r.2.mem ((c.tc : Thread Cert.ReferenceMmTnIdeal.nD Cert.ReferenceMmTnIdeal.τ).loc Cert.ReferenceMmTnIdeal.main_arg3) = m' ((c.tc : Thread Cert.ReferenceMmTnIdeal.nD Cert.ReferenceMmTnIdeal.τ).loc Cert.ReferenceMmTnIdeal.main_arg3)
          ∧ r.2.mem ((c.tc : Thread Cert.ReferenceMmTnIdeal.nD Cert.ReferenceMmTnIdeal.τ).loc Cert.ReferenceMmTnIdeal.main_arg4) = m' ((c.tc : Thread Cert.ReferenceMmTnIdeal.nD Cert.ReferenceMmTnIdeal.τ).loc Cert.ReferenceMmTnIdeal.main_arg4))

def preserves_KernelAdamW_KernelAdamWIdeal : Prop :=
  IdealRules.named_const.Statement Cert.KernelAdamWIdeal.κ "one_over_f1" .f32 0x3FC48605#32 ((8388608 / 5463681 : ℝ) : EReal)
  ∧ IdealRules.named_const.Statement Cert.KernelAdamWIdeal.κ "one_over_f2" .f32 0x42C8E6D3#32 ((268435456 / 2672307 : ℝ) : EReal)

def algebraic_KernelAdamWIdeal_ReferenceAdamWIdeal [hKernelAdamWIdeal : Cert.KernelAdamWIdeal.Facts] [hReferenceAdamWIdeal : Cert.ReferenceAdamWIdeal.Facts] : Prop :=
  ∀ (m : (ℓ : Loc Cert.KernelAdamWIdeal.nD Cert.KernelAdamWIdeal.τ Cert.KernelAdamWIdeal.sig) → Buf (Elt Ideal) ℓ) (g : Dev Cert.KernelAdamWIdeal.nD → PrngReg)
    (m' : (ℓ : Loc Cert.ReferenceAdamWIdeal.nD Cert.ReferenceAdamWIdeal.τ Cert.ReferenceAdamWIdeal.sig) → Buf (Elt Ideal) ℓ) (g' : Dev Cert.ReferenceAdamWIdeal.nD → PrngReg), Pre_KernelAdamWIdeal m →
    (∀ c : Dev Cert.KernelAdamWIdeal.nD,
      m' ((c.tc : Thread Cert.ReferenceAdamWIdeal.nD Cert.ReferenceAdamWIdeal.τ).loc Cert.ReferenceAdamWIdeal.main_arg0) = m ((c.tc : Thread Cert.KernelAdamWIdeal.nD Cert.KernelAdamWIdeal.τ).loc Cert.KernelAdamWIdeal.main_arg0)
      ∧ m' ((c.tc : Thread Cert.ReferenceAdamWIdeal.nD Cert.ReferenceAdamWIdeal.τ).loc Cert.ReferenceAdamWIdeal.main_arg1) = m ((c.tc : Thread Cert.KernelAdamWIdeal.nD Cert.KernelAdamWIdeal.τ).loc Cert.KernelAdamWIdeal.main_arg1)
      ∧ m' ((c.tc : Thread Cert.ReferenceAdamWIdeal.nD Cert.ReferenceAdamWIdeal.τ).loc Cert.ReferenceAdamWIdeal.main_arg2) = m ((c.tc : Thread Cert.KernelAdamWIdeal.nD Cert.KernelAdamWIdeal.τ).loc Cert.KernelAdamWIdeal.main_arg2)
      ∧ m' ((c.tc : Thread Cert.ReferenceAdamWIdeal.nD Cert.ReferenceAdamWIdeal.τ).loc Cert.ReferenceAdamWIdeal.main_arg3) = m ((c.tc : Thread Cert.KernelAdamWIdeal.nD Cert.KernelAdamWIdeal.τ).loc Cert.KernelAdamWIdeal.main_arg3)) →
    ∃ (v0 : (c : Dev Cert.KernelAdamWIdeal.nD) → Buf (Elt Ideal) ((c.tc : Thread Cert.KernelAdamWIdeal.nD Cert.KernelAdamWIdeal.τ).loc Cert.KernelAdamWIdeal.main_v4_0)) (v1 : (c : Dev Cert.KernelAdamWIdeal.nD) → Buf (Elt Ideal) ((c.tc : Thread Cert.KernelAdamWIdeal.nD Cert.KernelAdamWIdeal.τ).loc Cert.KernelAdamWIdeal.main_v4_1)) (v2 : (c : Dev Cert.KernelAdamWIdeal.nD) → Buf (Elt Ideal) ((c.tc : Thread Cert.KernelAdamWIdeal.nD Cert.KernelAdamWIdeal.τ).loc Cert.KernelAdamWIdeal.main_v4_2)) (v3 : (c : Dev Cert.KernelAdamWIdeal.nD) → Buf (Elt Ideal) ((c.tc : Thread Cert.KernelAdamWIdeal.nD Cert.KernelAdamWIdeal.τ).loc Cert.KernelAdamWIdeal.main_v4_3)),
      θ_run (Cert.KernelAdamWIdeal.defs (F := Ideal)) (onTc (τ := Cert.KernelAdamWIdeal.τ) (Cert.KernelAdamWIdeal.main (F := Ideal))) ⟨m, fun _ => 0, g⟩ (fun r => ∀ c : Dev Cert.KernelAdamWIdeal.nD,
          r.2.mem ((c.tc : Thread Cert.KernelAdamWIdeal.nD Cert.KernelAdamWIdeal.τ).loc Cert.KernelAdamWIdeal.main_v4_0) = v0 c
          ∧ r.2.mem ((c.tc : Thread Cert.KernelAdamWIdeal.nD Cert.KernelAdamWIdeal.τ).loc Cert.KernelAdamWIdeal.main_v4_1) = v1 c
          ∧ r.2.mem ((c.tc : Thread Cert.KernelAdamWIdeal.nD Cert.KernelAdamWIdeal.τ).loc Cert.KernelAdamWIdeal.main_v4_2) = v2 c
          ∧ r.2.mem ((c.tc : Thread Cert.KernelAdamWIdeal.nD Cert.KernelAdamWIdeal.τ).loc Cert.KernelAdamWIdeal.main_v4_3) = v3 c
          ∧ r.2.mem ((c.tc : Thread Cert.KernelAdamWIdeal.nD Cert.KernelAdamWIdeal.τ).loc Cert.KernelAdamWIdeal.main_arg0) = m ((c.tc : Thread Cert.KernelAdamWIdeal.nD Cert.KernelAdamWIdeal.τ).loc Cert.KernelAdamWIdeal.main_arg0)
          ∧ r.2.mem ((c.tc : Thread Cert.KernelAdamWIdeal.nD Cert.KernelAdamWIdeal.τ).loc Cert.KernelAdamWIdeal.main_arg1) = m ((c.tc : Thread Cert.KernelAdamWIdeal.nD Cert.KernelAdamWIdeal.τ).loc Cert.KernelAdamWIdeal.main_arg1)
          ∧ r.2.mem ((c.tc : Thread Cert.KernelAdamWIdeal.nD Cert.KernelAdamWIdeal.τ).loc Cert.KernelAdamWIdeal.main_arg2) = m ((c.tc : Thread Cert.KernelAdamWIdeal.nD Cert.KernelAdamWIdeal.τ).loc Cert.KernelAdamWIdeal.main_arg2)
          ∧ r.2.mem ((c.tc : Thread Cert.KernelAdamWIdeal.nD Cert.KernelAdamWIdeal.τ).loc Cert.KernelAdamWIdeal.main_arg3) = m ((c.tc : Thread Cert.KernelAdamWIdeal.nD Cert.KernelAdamWIdeal.τ).loc Cert.KernelAdamWIdeal.main_arg3))
      ∧ θ_run (Cert.ReferenceAdamWIdeal.defs (F := Ideal)) (onTc (τ := Cert.ReferenceAdamWIdeal.τ) (Cert.ReferenceAdamWIdeal.main (F := Ideal))) ⟨m', fun _ => 0, g'⟩ (fun r => ∀ c : Dev Cert.ReferenceAdamWIdeal.nD,
          r.2.mem ((c.tc : Thread Cert.ReferenceAdamWIdeal.nD Cert.ReferenceAdamWIdeal.τ).loc Cert.ReferenceAdamWIdeal.main_v24) = v0 c
          ∧ r.2.mem ((c.tc : Thread Cert.ReferenceAdamWIdeal.nD Cert.ReferenceAdamWIdeal.τ).loc Cert.ReferenceAdamWIdeal.main_v25) = v1 c
          ∧ r.2.mem ((c.tc : Thread Cert.ReferenceAdamWIdeal.nD Cert.ReferenceAdamWIdeal.τ).loc Cert.ReferenceAdamWIdeal.main_v26) = v2 c
          ∧ r.2.mem ((c.tc : Thread Cert.ReferenceAdamWIdeal.nD Cert.ReferenceAdamWIdeal.τ).loc Cert.ReferenceAdamWIdeal.main_v27) = v3 c
          ∧ r.2.mem ((c.tc : Thread Cert.ReferenceAdamWIdeal.nD Cert.ReferenceAdamWIdeal.τ).loc Cert.ReferenceAdamWIdeal.main_arg0) = m' ((c.tc : Thread Cert.ReferenceAdamWIdeal.nD Cert.ReferenceAdamWIdeal.τ).loc Cert.ReferenceAdamWIdeal.main_arg0)
          ∧ r.2.mem ((c.tc : Thread Cert.ReferenceAdamWIdeal.nD Cert.ReferenceAdamWIdeal.τ).loc Cert.ReferenceAdamWIdeal.main_arg1) = m' ((c.tc : Thread Cert.ReferenceAdamWIdeal.nD Cert.ReferenceAdamWIdeal.τ).loc Cert.ReferenceAdamWIdeal.main_arg1)
          ∧ r.2.mem ((c.tc : Thread Cert.ReferenceAdamWIdeal.nD Cert.ReferenceAdamWIdeal.τ).loc Cert.ReferenceAdamWIdeal.main_arg2) = m' ((c.tc : Thread Cert.ReferenceAdamWIdeal.nD Cert.ReferenceAdamWIdeal.τ).loc Cert.ReferenceAdamWIdeal.main_arg2)
          ∧ r.2.mem ((c.tc : Thread Cert.ReferenceAdamWIdeal.nD Cert.ReferenceAdamWIdeal.τ).loc Cert.ReferenceAdamWIdeal.main_arg3) = m' ((c.tc : Thread Cert.ReferenceAdamWIdeal.nD Cert.ReferenceAdamWIdeal.τ).loc Cert.ReferenceAdamWIdeal.main_arg3))

def preserves_KernelSum_KernelSumIdeal : Prop :=
  True

def algebraic_KernelSumIdeal_ReferenceSumIdeal [hKernelSumIdeal : Cert.KernelSumIdeal.Facts] [hReferenceSumIdeal : Cert.ReferenceSumIdeal.Facts] : Prop :=
  ∀ (m : (ℓ : Loc Cert.KernelSumIdeal.nD Cert.KernelSumIdeal.τ Cert.KernelSumIdeal.sig) → Buf (Elt Ideal) ℓ) (g : Dev Cert.KernelSumIdeal.nD → PrngReg)
    (m' : (ℓ : Loc Cert.ReferenceSumIdeal.nD Cert.ReferenceSumIdeal.τ Cert.ReferenceSumIdeal.sig) → Buf (Elt Ideal) ℓ) (g' : Dev Cert.ReferenceSumIdeal.nD → PrngReg), Pre_KernelSumIdeal m →
    (∀ c : Dev Cert.KernelSumIdeal.nD,
      m' ((c.tc : Thread Cert.ReferenceSumIdeal.nD Cert.ReferenceSumIdeal.τ).loc Cert.ReferenceSumIdeal.main_arg0) = m ((c.tc : Thread Cert.KernelSumIdeal.nD Cert.KernelSumIdeal.τ).loc Cert.KernelSumIdeal.main_arg0)) →
    ∃ (v0 : (c : Dev Cert.KernelSumIdeal.nD) → Buf (Elt Ideal) ((c.tc : Thread Cert.KernelSumIdeal.nD Cert.KernelSumIdeal.τ).loc Cert.KernelSumIdeal.main_v0)),
      θ_run (Cert.KernelSumIdeal.defs (F := Ideal)) (onTc (τ := Cert.KernelSumIdeal.τ) (Cert.KernelSumIdeal.main (F := Ideal))) ⟨m, fun _ => 0, g⟩ (fun r => ∀ c : Dev Cert.KernelSumIdeal.nD,
          r.2.mem ((c.tc : Thread Cert.KernelSumIdeal.nD Cert.KernelSumIdeal.τ).loc Cert.KernelSumIdeal.main_v0) = v0 c
          ∧ r.2.mem ((c.tc : Thread Cert.KernelSumIdeal.nD Cert.KernelSumIdeal.τ).loc Cert.KernelSumIdeal.main_arg0) = m ((c.tc : Thread Cert.KernelSumIdeal.nD Cert.KernelSumIdeal.τ).loc Cert.KernelSumIdeal.main_arg0))
      ∧ θ_run (Cert.ReferenceSumIdeal.defs (F := Ideal)) (onTc (τ := Cert.ReferenceSumIdeal.τ) (Cert.ReferenceSumIdeal.main (F := Ideal))) ⟨m', fun _ => 0, g'⟩ (fun r => ∀ c : Dev Cert.ReferenceSumIdeal.nD,
          r.2.mem ((c.tc : Thread Cert.ReferenceSumIdeal.nD Cert.ReferenceSumIdeal.τ).loc Cert.ReferenceSumIdeal.main_v0) = v0 c
          ∧ r.2.mem ((c.tc : Thread Cert.ReferenceSumIdeal.nD Cert.ReferenceSumIdeal.τ).loc Cert.ReferenceSumIdeal.main_arg0) = m' ((c.tc : Thread Cert.ReferenceSumIdeal.nD Cert.ReferenceSumIdeal.τ).loc Cert.ReferenceSumIdeal.main_arg0))

def preserves_KernelPair_KernelPairIdeal : Prop :=
  True

def algebraic_KernelPairIdeal_ReferencePairIdeal [hKernelPairIdeal : Cert.KernelPairIdeal.Facts] [hReferencePairIdeal : Cert.ReferencePairIdeal.Facts] [hPre_half_pairs : Cert.Pre_half_pairs.Facts] : Prop :=
  ∀ (m : (ℓ : Loc Cert.KernelPairIdeal.nD Cert.KernelPairIdeal.τ Cert.KernelPairIdeal.sig) → Buf (Elt Ideal) ℓ) (g : Dev Cert.KernelPairIdeal.nD → PrngReg)
    (m' : (ℓ : Loc Cert.ReferencePairIdeal.nD Cert.ReferencePairIdeal.τ Cert.ReferencePairIdeal.sig) → Buf (Elt Ideal) ℓ) (g' : Dev Cert.ReferencePairIdeal.nD → PrngReg), Pre_KernelPairIdeal m →
    (∀ c : Dev Cert.KernelPairIdeal.nD,
      m' ((c.tc : Thread Cert.ReferencePairIdeal.nD Cert.ReferencePairIdeal.τ).loc Cert.ReferencePairIdeal.main_arg0) = m ((c.tc : Thread Cert.KernelPairIdeal.nD Cert.KernelPairIdeal.τ).loc Cert.KernelPairIdeal.main_arg0)
      ∧ m' ((c.tc : Thread Cert.ReferencePairIdeal.nD Cert.ReferencePairIdeal.τ).loc Cert.ReferencePairIdeal.main_arg1) = m ((c.tc : Thread Cert.KernelPairIdeal.nD Cert.KernelPairIdeal.τ).loc Cert.KernelPairIdeal.main_arg1)
      ∧ m' ((c.tc : Thread Cert.ReferencePairIdeal.nD Cert.ReferencePairIdeal.τ).loc Cert.ReferencePairIdeal.main_arg2) = m ((c.tc : Thread Cert.KernelPairIdeal.nD Cert.KernelPairIdeal.τ).loc Cert.KernelPairIdeal.main_arg2)) →
    ∃ (v0 : (c : Dev Cert.KernelPairIdeal.nD) → Buf (Elt Ideal) ((c.tc : Thread Cert.KernelPairIdeal.nD Cert.KernelPairIdeal.τ).loc Cert.KernelPairIdeal.main_v0)),
      θ_run (Cert.KernelPairIdeal.defs (F := Ideal)) (onTc (τ := Cert.KernelPairIdeal.τ) (Cert.KernelPairIdeal.main (F := Ideal))) ⟨m, fun _ => 0, g⟩ (fun r => ∀ c : Dev Cert.KernelPairIdeal.nD,
          r.2.mem ((c.tc : Thread Cert.KernelPairIdeal.nD Cert.KernelPairIdeal.τ).loc Cert.KernelPairIdeal.main_v0) = v0 c
          ∧ r.2.mem ((c.tc : Thread Cert.KernelPairIdeal.nD Cert.KernelPairIdeal.τ).loc Cert.KernelPairIdeal.main_arg0) = m ((c.tc : Thread Cert.KernelPairIdeal.nD Cert.KernelPairIdeal.τ).loc Cert.KernelPairIdeal.main_arg0)
          ∧ r.2.mem ((c.tc : Thread Cert.KernelPairIdeal.nD Cert.KernelPairIdeal.τ).loc Cert.KernelPairIdeal.main_arg1) = m ((c.tc : Thread Cert.KernelPairIdeal.nD Cert.KernelPairIdeal.τ).loc Cert.KernelPairIdeal.main_arg1)
          ∧ r.2.mem ((c.tc : Thread Cert.KernelPairIdeal.nD Cert.KernelPairIdeal.τ).loc Cert.KernelPairIdeal.main_arg2) = m ((c.tc : Thread Cert.KernelPairIdeal.nD Cert.KernelPairIdeal.τ).loc Cert.KernelPairIdeal.main_arg2))
      ∧ θ_run (Cert.ReferencePairIdeal.defs (F := Ideal)) (onTc (τ := Cert.ReferencePairIdeal.τ) (Cert.ReferencePairIdeal.main (F := Ideal))) ⟨m', fun _ => 0, g'⟩ (fun r => ∀ c : Dev Cert.ReferencePairIdeal.nD,
          r.2.mem ((c.tc : Thread Cert.ReferencePairIdeal.nD Cert.ReferencePairIdeal.τ).loc Cert.ReferencePairIdeal.main_v5) = v0 c
          ∧ r.2.mem ((c.tc : Thread Cert.ReferencePairIdeal.nD Cert.ReferencePairIdeal.τ).loc Cert.ReferencePairIdeal.main_arg0) = m' ((c.tc : Thread Cert.ReferencePairIdeal.nD Cert.ReferencePairIdeal.τ).loc Cert.ReferencePairIdeal.main_arg0)
          ∧ r.2.mem ((c.tc : Thread Cert.ReferencePairIdeal.nD Cert.ReferencePairIdeal.τ).loc Cert.ReferencePairIdeal.main_arg1) = m' ((c.tc : Thread Cert.ReferencePairIdeal.nD Cert.ReferencePairIdeal.τ).loc Cert.ReferencePairIdeal.main_arg1)
          ∧ r.2.mem ((c.tc : Thread Cert.ReferencePairIdeal.nD Cert.ReferencePairIdeal.τ).loc Cert.ReferencePairIdeal.main_arg2) = m' ((c.tc : Thread Cert.ReferencePairIdeal.nD Cert.ReferencePairIdeal.τ).loc Cert.ReferencePairIdeal.main_arg2))

def preserves_KernelAttB_KernelAttBIdeal : Prop :=
  True

def preserves_KernelAttF_KernelAttFIdeal : Prop :=
  True

def Claim : Prop :=
  ∃ (hKernelLoss : Cert.KernelLoss.Facts) (hKernelLossIdeal : Cert.KernelLossIdeal.Facts) (hReferenceLossIdeal : Cert.ReferenceLossIdeal.Facts) (hKernelSgu : Cert.KernelSgu.Facts) (hKernelSguIdeal : Cert.KernelSguIdeal.Facts) (hReferenceSguIdeal : Cert.ReferenceSguIdeal.Facts) (hKernelDx : Cert.KernelDx.Facts) (hKernelDxIdeal : Cert.KernelDxIdeal.Facts) (hReferenceDxIdeal : Cert.ReferenceDxIdeal.Facts) (hKernelDxM : Cert.KernelDxM.Facts) (hKernelDxMIdeal : Cert.KernelDxMIdeal.Facts) (hReferenceDxMIdeal : Cert.ReferenceDxMIdeal.Facts) (hKernelMix : Cert.KernelMix.Facts) (hKernelMixIdeal : Cert.KernelMixIdeal.Facts) (hReferenceMixIdeal : Cert.ReferenceMixIdeal.Facts) (hKernelFfn : Cert.KernelFfn.Facts) (hKernelFfnIdeal : Cert.KernelFfnIdeal.Facts) (hReferenceFfnIdeal : Cert.ReferenceFfnIdeal.Facts) (hKernelAda : Cert.KernelAda.Facts) (hKernelAdaIdeal : Cert.KernelAdaIdeal.Facts) (hReferenceAdaIdeal : Cert.ReferenceAdaIdeal.Facts) (hKernelNorm : Cert.KernelNorm.Facts) (hKernelNormIdeal : Cert.KernelNormIdeal.Facts) (hReferenceNormIdeal : Cert.ReferenceNormIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelMixF : Cert.KernelMixF.Facts) (hKernelMixFIdeal : Cert.KernelMixFIdeal.Facts) (hReferenceMixFIdeal : Cert.ReferenceMixFIdeal.Facts) (hKernelSguF : Cert.KernelSguF.Facts) (hKernelSguFIdeal : Cert.KernelSguFIdeal.Facts) (hReferenceSguFIdeal : Cert.ReferenceSguFIdeal.Facts) (hKernelAdaF : Cert.KernelAdaF.Facts) (hKernelAdaFIdeal : Cert.KernelAdaFIdeal.Facts) (hReferenceAdaFIdeal : Cert.ReferenceAdaFIdeal.Facts) (hKernelProj : Cert.KernelProj.Facts) (hKernelProjIdeal : Cert.KernelProjIdeal.Facts) (hReferenceProjIdeal : Cert.ReferenceProjIdeal.Facts) (hKernelMmTn : Cert.KernelMmTn.Facts) (hKernelMmTnIdeal : Cert.KernelMmTnIdeal.Facts) (hReferenceMmTnIdeal : Cert.ReferenceMmTnIdeal.Facts) (hKernelAdamW : Cert.KernelAdamW.Facts) (hKernelAdamWIdeal : Cert.KernelAdamWIdeal.Facts) (hReferenceAdamWIdeal : Cert.ReferenceAdamWIdeal.Facts) (hKernelSum : Cert.KernelSum.Facts) (hKernelSumIdeal : Cert.KernelSumIdeal.Facts) (hReferenceSumIdeal : Cert.ReferenceSumIdeal.Facts) (hKernelPair : Cert.KernelPair.Facts) (hKernelPairIdeal : Cert.KernelPairIdeal.Facts) (hReferencePairIdeal : Cert.ReferencePairIdeal.Facts) (hKernelAttB : Cert.KernelAttB.Facts) (hKernelAttBIdeal : Cert.KernelAttBIdeal.Facts) (hKernelAttF : Cert.KernelAttF.Facts) (hKernelAttFIdeal : Cert.KernelAttFIdeal.Facts) (hPre_finite_sgu : Cert.Pre_finite_sgu.Facts) (hPre_finite_dx : Cert.Pre_finite_dx.Facts) (hPre_finite_dxm : Cert.Pre_finite_dxm.Facts) (hPre_finite_mix : Cert.Pre_finite_mix.Facts) (hPre_finite_ffn : Cert.Pre_finite_ffn.Facts) (hPre_finite_up : Cert.Pre_finite_up.Facts) (hPre_half_pairs : Cert.Pre_half_pairs.Facts),
    quiescent_KernelLoss (hKernelLoss := hKernelLoss)
    ∧ quiescent_KernelLossIdeal (hKernelLossIdeal := hKernelLossIdeal)
    ∧ quiescent_ReferenceLossIdeal (hReferenceLossIdeal := hReferenceLossIdeal)
    ∧ quiescent_KernelSgu (hKernelSgu := hKernelSgu)
    ∧ quiescent_KernelSguIdeal (hKernelSguIdeal := hKernelSguIdeal)
    ∧ quiescent_KernelSguIdeal_pre_finite_sgu (hKernelSguIdeal := hKernelSguIdeal) (hPre_finite_sgu := hPre_finite_sgu)
    ∧ quiescent_ReferenceSguIdeal (hReferenceSguIdeal := hReferenceSguIdeal)
    ∧ quiescent_ReferenceSguIdeal_pre_finite_sgu (hReferenceSguIdeal := hReferenceSguIdeal) (hPre_finite_sgu := hPre_finite_sgu)
    ∧ quiescent_KernelDx (hKernelDx := hKernelDx)
    ∧ quiescent_KernelDxIdeal (hKernelDxIdeal := hKernelDxIdeal)
    ∧ quiescent_KernelDxIdeal_pre_finite_dx (hKernelDxIdeal := hKernelDxIdeal) (hPre_finite_dx := hPre_finite_dx)
    ∧ quiescent_ReferenceDxIdeal (hReferenceDxIdeal := hReferenceDxIdeal)
    ∧ quiescent_ReferenceDxIdeal_pre_finite_dx (hReferenceDxIdeal := hReferenceDxIdeal) (hPre_finite_dx := hPre_finite_dx)
    ∧ quiescent_KernelDxM (hKernelDxM := hKernelDxM)
    ∧ quiescent_KernelDxMIdeal (hKernelDxMIdeal := hKernelDxMIdeal)
    ∧ quiescent_KernelDxMIdeal_pre_finite_dxm (hKernelDxMIdeal := hKernelDxMIdeal) (hPre_finite_dxm := hPre_finite_dxm)
    ∧ quiescent_ReferenceDxMIdeal (hReferenceDxMIdeal := hReferenceDxMIdeal)
    ∧ quiescent_ReferenceDxMIdeal_pre_finite_dxm (hReferenceDxMIdeal := hReferenceDxMIdeal) (hPre_finite_dxm := hPre_finite_dxm)
    ∧ quiescent_KernelMix (hKernelMix := hKernelMix)
    ∧ quiescent_KernelMixIdeal (hKernelMixIdeal := hKernelMixIdeal)
    ∧ quiescent_KernelMixIdeal_pre_finite_mix (hKernelMixIdeal := hKernelMixIdeal) (hPre_finite_mix := hPre_finite_mix)
    ∧ quiescent_ReferenceMixIdeal (hReferenceMixIdeal := hReferenceMixIdeal)
    ∧ quiescent_ReferenceMixIdeal_pre_finite_mix (hReferenceMixIdeal := hReferenceMixIdeal) (hPre_finite_mix := hPre_finite_mix)
    ∧ quiescent_KernelFfn (hKernelFfn := hKernelFfn)
    ∧ quiescent_KernelFfnIdeal (hKernelFfnIdeal := hKernelFfnIdeal)
    ∧ quiescent_KernelFfnIdeal_pre_finite_ffn (hKernelFfnIdeal := hKernelFfnIdeal) (hPre_finite_ffn := hPre_finite_ffn)
    ∧ quiescent_ReferenceFfnIdeal (hReferenceFfnIdeal := hReferenceFfnIdeal)
    ∧ quiescent_ReferenceFfnIdeal_pre_finite_ffn (hReferenceFfnIdeal := hReferenceFfnIdeal) (hPre_finite_ffn := hPre_finite_ffn)
    ∧ quiescent_KernelAda (hKernelAda := hKernelAda)
    ∧ quiescent_KernelAdaIdeal (hKernelAdaIdeal := hKernelAdaIdeal)
    ∧ quiescent_ReferenceAdaIdeal (hReferenceAdaIdeal := hReferenceAdaIdeal)
    ∧ quiescent_KernelNorm (hKernelNorm := hKernelNorm)
    ∧ quiescent_KernelNormIdeal (hKernelNormIdeal := hKernelNormIdeal)
    ∧ quiescent_ReferenceNormIdeal (hReferenceNormIdeal := hReferenceNormIdeal)
    ∧ quiescent_KernelUp (hKernelUp := hKernelUp)
    ∧ quiescent_KernelUpIdeal (hKernelUpIdeal := hKernelUpIdeal)
    ∧ quiescent_KernelUpIdeal_pre_finite_up (hKernelUpIdeal := hKernelUpIdeal) (hPre_finite_up := hPre_finite_up)
    ∧ quiescent_ReferenceUpIdeal (hReferenceUpIdeal := hReferenceUpIdeal)
    ∧ quiescent_ReferenceUpIdeal_pre_finite_up (hReferenceUpIdeal := hReferenceUpIdeal) (hPre_finite_up := hPre_finite_up)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelMixF (hKernelMixF := hKernelMixF)
    ∧ quiescent_KernelMixFIdeal (hKernelMixFIdeal := hKernelMixFIdeal)
    ∧ quiescent_ReferenceMixFIdeal (hReferenceMixFIdeal := hReferenceMixFIdeal)
    ∧ quiescent_KernelSguF (hKernelSguF := hKernelSguF)
    ∧ quiescent_KernelSguFIdeal (hKernelSguFIdeal := hKernelSguFIdeal)
    ∧ quiescent_ReferenceSguFIdeal (hReferenceSguFIdeal := hReferenceSguFIdeal)
    ∧ quiescent_KernelAdaF (hKernelAdaF := hKernelAdaF)
    ∧ quiescent_KernelAdaFIdeal (hKernelAdaFIdeal := hKernelAdaFIdeal)
    ∧ quiescent_ReferenceAdaFIdeal (hReferenceAdaFIdeal := hReferenceAdaFIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelMmTn (hKernelMmTn := hKernelMmTn)
    ∧ quiescent_KernelMmTnIdeal (hKernelMmTnIdeal := hKernelMmTnIdeal)
    ∧ quiescent_ReferenceMmTnIdeal (hReferenceMmTnIdeal := hReferenceMmTnIdeal)
    ∧ quiescent_KernelAdamW (hKernelAdamW := hKernelAdamW)
    ∧ quiescent_KernelAdamWIdeal (hKernelAdamWIdeal := hKernelAdamWIdeal)
    ∧ quiescent_ReferenceAdamWIdeal (hReferenceAdamWIdeal := hReferenceAdamWIdeal)
    ∧ quiescent_KernelSum (hKernelSum := hKernelSum)
    ∧ quiescent_KernelSumIdeal (hKernelSumIdeal := hKernelSumIdeal)
    ∧ quiescent_ReferenceSumIdeal (hReferenceSumIdeal := hReferenceSumIdeal)
    ∧ quiescent_KernelPair (hKernelPair := hKernelPair) (hPre_half_pairs := hPre_half_pairs)
    ∧ quiescent_KernelPairIdeal (hKernelPairIdeal := hKernelPairIdeal) (hPre_half_pairs := hPre_half_pairs)
    ∧ quiescent_ReferencePairIdeal (hReferencePairIdeal := hReferencePairIdeal) (hPre_half_pairs := hPre_half_pairs)
    ∧ quiescent_KernelAttB (hKernelAttB := hKernelAttB)
    ∧ quiescent_KernelAttBIdeal (hKernelAttBIdeal := hKernelAttBIdeal)
    ∧ quiescent_KernelAttF (hKernelAttF := hKernelAttF)
    ∧ quiescent_KernelAttFIdeal (hKernelAttFIdeal := hKernelAttFIdeal)
    ∧ preserves_KernelLoss_KernelLossIdeal
    ∧ algebraic_KernelLossIdeal_ReferenceLossIdeal (hKernelLossIdeal := hKernelLossIdeal) (hReferenceLossIdeal := hReferenceLossIdeal)
    ∧ preserves_KernelSgu_KernelSguIdeal
    ∧ algebraic_KernelSguIdeal_ReferenceSguIdeal_pre_finite_sgu (hKernelSguIdeal := hKernelSguIdeal) (hReferenceSguIdeal := hReferenceSguIdeal) (hPre_finite_sgu := hPre_finite_sgu)
    ∧ preserves_KernelDx_KernelDxIdeal
    ∧ algebraic_KernelDxIdeal_ReferenceDxIdeal_pre_finite_dx (hKernelDxIdeal := hKernelDxIdeal) (hReferenceDxIdeal := hReferenceDxIdeal) (hPre_finite_dx := hPre_finite_dx)
    ∧ preserves_KernelDxM_KernelDxMIdeal
    ∧ algebraic_KernelDxMIdeal_ReferenceDxMIdeal_pre_finite_dxm (hKernelDxMIdeal := hKernelDxMIdeal) (hReferenceDxMIdeal := hReferenceDxMIdeal) (hPre_finite_dxm := hPre_finite_dxm)
    ∧ preserves_KernelMix_KernelMixIdeal
    ∧ algebraic_KernelMixIdeal_ReferenceMixIdeal_pre_finite_mix (hKernelMixIdeal := hKernelMixIdeal) (hReferenceMixIdeal := hReferenceMixIdeal) (hPre_finite_mix := hPre_finite_mix)
    ∧ preserves_KernelFfn_KernelFfnIdeal
    ∧ algebraic_KernelFfnIdeal_ReferenceFfnIdeal_pre_finite_ffn (hKernelFfnIdeal := hKernelFfnIdeal) (hReferenceFfnIdeal := hReferenceFfnIdeal) (hPre_finite_ffn := hPre_finite_ffn)
    ∧ preserves_KernelAda_KernelAdaIdeal
    ∧ algebraic_KernelAdaIdeal_ReferenceAdaIdeal (hKernelAdaIdeal := hKernelAdaIdeal) (hReferenceAdaIdeal := hReferenceAdaIdeal)
    ∧ preserves_KernelNorm_KernelNormIdeal
    ∧ algebraic_KernelNormIdeal_ReferenceNormIdeal (hKernelNormIdeal := hKernelNormIdeal) (hReferenceNormIdeal := hReferenceNormIdeal)
    ∧ preserves_KernelUp_KernelUpIdeal
    ∧ algebraic_KernelUpIdeal_ReferenceUpIdeal_pre_finite_up (hKernelUpIdeal := hKernelUpIdeal) (hReferenceUpIdeal := hReferenceUpIdeal) (hPre_finite_up := hPre_finite_up)
    ∧ preserves_KernelDown_KernelDownIdeal
    ∧ algebraic_KernelDownIdeal_ReferenceDownIdeal (hKernelDownIdeal := hKernelDownIdeal) (hReferenceDownIdeal := hReferenceDownIdeal)
    ∧ preserves_KernelMixF_KernelMixFIdeal
    ∧ algebraic_KernelMixFIdeal_ReferenceMixFIdeal (hKernelMixFIdeal := hKernelMixFIdeal) (hReferenceMixFIdeal := hReferenceMixFIdeal)
    ∧ preserves_KernelSguF_KernelSguFIdeal
    ∧ algebraic_KernelSguFIdeal_ReferenceSguFIdeal (hKernelSguFIdeal := hKernelSguFIdeal) (hReferenceSguFIdeal := hReferenceSguFIdeal)
    ∧ preserves_KernelAdaF_KernelAdaFIdeal
    ∧ algebraic_KernelAdaFIdeal_ReferenceAdaFIdeal (hKernelAdaFIdeal := hKernelAdaFIdeal) (hReferenceAdaFIdeal := hReferenceAdaFIdeal)
    ∧ preserves_KernelProj_KernelProjIdeal
    ∧ algebraic_KernelProjIdeal_ReferenceProjIdeal (hKernelProjIdeal := hKernelProjIdeal) (hReferenceProjIdeal := hReferenceProjIdeal)
    ∧ preserves_KernelMmTn_KernelMmTnIdeal
    ∧ algebraic_KernelMmTnIdeal_ReferenceMmTnIdeal (hKernelMmTnIdeal := hKernelMmTnIdeal) (hReferenceMmTnIdeal := hReferenceMmTnIdeal)
    ∧ preserves_KernelAdamW_KernelAdamWIdeal
    ∧ algebraic_KernelAdamWIdeal_ReferenceAdamWIdeal (hKernelAdamWIdeal := hKernelAdamWIdeal) (hReferenceAdamWIdeal := hReferenceAdamWIdeal)
    ∧ preserves_KernelSum_KernelSumIdeal
    ∧ algebraic_KernelSumIdeal_ReferenceSumIdeal (hKernelSumIdeal := hKernelSumIdeal) (hReferenceSumIdeal := hReferenceSumIdeal)
    ∧ preserves_KernelPair_KernelPairIdeal
    ∧ algebraic_KernelPairIdeal_ReferencePairIdeal (hKernelPairIdeal := hKernelPairIdeal) (hReferencePairIdeal := hReferencePairIdeal) (hPre_half_pairs := hPre_half_pairs)
    ∧ preserves_KernelAttB_KernelAttBIdeal
    ∧ preserves_KernelAttF_KernelAttFIdeal
-- ==== Pre_finite_dx.lean ====
abbrev S2x2048x1024 : Shape := ⟨3, ![2, 2048, 1024]⟩
abbrev S2x9216 : Shape := ⟨2, ![2, 9216]⟩
abbrev S1x1024 : Shape := ⟨2, ![1, 1024]⟩
abbrev S1024x2816 : Shape := ⟨2, ![1024, 2816]⟩
abbrev S2x2048x2816 : Shape := ⟨3, ![2, 2048, 2816]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x9216 : S_.BroadcastsInDim S2x9216 (![] : Fin 0 → Fin S2x9216.rank)
  reducesTo_S2x9216_S_d0_1 : S2x9216.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2x2048x2816 : S_.BroadcastsInDim S2x2048x2816 (![] : Fin 0 → Fin S2x2048x2816.rank)
  reducesTo_S2x2048x2816_S_d0_1_2 : S2x2048x2816.ReducesTo [0, 1, 2] S_

variable [Facts]

def fn_part1 {F : FTy → Type} [FloatOps F] (main_arg4 : FVec F S1024x2816 .f32) (main_arg6 : FVec F S2x2048x2816 .f32) (main_arg7 : FVec F S2x2048x2816 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S2x2048x2816 .f32 := Host.absf main_arg6
  let main_cst_8 : FVec F S_ .f32 := constant S_ .f32 0x7F800000#32
  let main_v21 : FVec F S2x2048x2816 .f32 := broadcastInDim S2x2048x2816 ![] bcast_S_S2x2048x2816 main_cst_8
  let main_v22 : IVec S2x2048x2816 1 := cmpf .olt main_v20 main_v21
  let main_c_9 : IVec S_ 1 := constantI S_ 1 1#1
  let main_v23 : IVec S_ 1 := (fun x v => Host.reduce IntOp.andi x v reducesTo_S2x2048x2816_S_d0_1_2 h_S_) main_v22 main_c_9
  let main_v24 : FVec F S2x2048x2816 .f32 := Host.absf main_arg7
  let main_cst_10 : FVec F S_ .f32 := constant S_ .f32 0x7F800000#32
  let main_v25 : FVec F S2x2048x2816 .f32 := broadcastInDim S2x2048x2816 ![] bcast_S_S2x2048x2816 main_cst_10
  let main_v26 : IVec S2x2048x2816 1 := cmpf .olt main_v24 main_v25
  let main_c_11 : IVec S_ 1 := constantI S_ 1 1#1
  let main_v27 : IVec S_ 1 := (fun x v => Host.reduce IntOp.andi x v reducesTo_S2x2048x2816_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x1024 .f32) (main_arg1 : FVec F S2x9216 .f32) (main_arg2 : FVec F S1x1024 .f32) (main_arg3 : FVec F S1024x2816 .f32) (main_arg4 : FVec F S1024x2816 .f32) (main_arg5 : FVec F S2x2048x1024 .f32) (main_arg6 : FVec F S2x2048x2816 .f32) (main_arg7 : FVec F S2x2048x2816 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x9216 .f32 := Host.absf main_arg1
  let main_cst_0 : FVec F S_ .f32 := constant S_ .f32 0x7F800000#32
  let main_v5 : FVec F S2x9216 .f32 := broadcastInDim S2x9216 ![] bcast_S_S2x9216 main_cst_0
  let main_v6 : IVec S2x9216 1 := cmpf .olt main_v4 main_v5
  let main_c_1 : IVec S_ 1 := constantI S_ 1 1#1
  let main_v7 : IVec S_ 1 := (fun x v => Host.reduce IntOp.andi x v reducesTo_S2x9216_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg6 main_arg7 main_v3 main_v7 main_v11 main_v15
-- ==== Pre_finite_dxm.lean ====
abbrev S2x2048x1024 : Shape := ⟨3, ![2, 2048, 1024]⟩
abbrev S2x9216 : Shape := ⟨2, ![2, 9216]⟩
abbrev S1x1024 : Shape := ⟨2, ![1, 1024]⟩
abbrev S1024x3840 : Shape := ⟨2, ![1024, 3840]⟩
abbrev S2x2048x768 : Shape := ⟨3, ![2, 2048, 768]⟩
abbrev S2x2048x2048 : Shape := ⟨3, ![2, 2048, 2048]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x9216 : S_.BroadcastsInDim S2x9216 (![] : Fin 0 → Fin S2x9216.rank)
  reducesTo_S2x9216_S_d0_1 : S2x9216.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x3840 : S_.BroadcastsInDim S1024x3840 (![] : Fin 0 → Fin S1024x3840.rank)
  reducesTo_S1024x3840_S_d0_1 : S1024x3840.ReducesTo [0, 1] S_
  bcast_S_S2x2048x768 : S_.BroadcastsInDim S2x2048x768 (![] : Fin 0 → Fin S2x2048x768.rank)
  reducesTo_S2x2048x768_S_d0_1_2 : S2x2048x768.ReducesTo [0, 1, 2] S_
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn_part1 {F : FTy → Type} [FloatOps F] (main_arg5 : FVec F S2x2048x1024 .f32) (main_arg6 : FVec F S2x2048x768 .f32) (main_arg7 : FVec F S2x2048x2048 .f32) (main_v3 : IVec S_ 1) (main_v7 : IVec S_ 1) (main_v11 : IVec S_ 1) (main_v15 : IVec S_ 1) : IVec S_ 1 :=
  let main_v16 : FVec F S2x2048x1024 .f32 := Host.absf main_arg5
  let main_cst_6 : FVec F S_ .f32 := constant S_ .f32 0x7F800000#32
  let main_v17 : FVec F S2x2048x1024 .f32 := broadcastInDim S2x2048x1024 ![] bcast_S_S2x2048x1024 main_cst_6
  let main_v18 : IVec S2x2048x1024 1 := cmpf .olt main_v16 main_v17
  let main_c_7 : IVec S_ 1 := constantI S_ 1 1#1
  let main_v19 : IVec S_ 1 := (fun x v => Host.reduce IntOp.andi x v reducesTo_S2x2048x1024_S_d0_1_2 h_S_) main_v18 main_c_7
  let main_v20 : FVec F S2x2048x768 .f32 := Host.absf main_arg6
  let main_cst_8 : FVec F S_ .f32 := constant S_ .f32 0x7F800000#32
  let main_v21 : FVec F S2x2048x768 .f32 := broadcastInDim S2x2048x768 ![] bcast_S_S2x2048x768 main_cst_8
  let main_v22 : IVec S2x2048x768 1 := cmpf .olt main_v20 main_v21
  let main_c_9 : IVec S_ 1 := constantI S_ 1 1#1
  let main_v23 : IVec S_ 1 := (fun x v => Host.reduce IntOp.andi x v reducesTo_S2x2048x768_S_d0_1_2 h_S_) main_v22 main_c_9
  let main_v24 : FVec F S2x2048x2048 .f32 := Host.absf main_arg7
  let main_cst_10 : FVec F S_ .f32 := constant S_ .f32 0x7F800000#32
  let main_v25 : FVec F S2x2048x2048 .f32 := broadcastInDim S2x2048x2048 ![] bcast_S_S2x2048x2048 main_cst_10
  let main_v26 : IVec S2x2048x2048 1 := cmpf .olt main_v24 main_v25
  let main_c_11 : IVec S_ 1 := constantI S_ 1 1#1
  let main_v27 : IVec S_ 1 := (fun x v => Host.reduce IntOp.andi x v reducesTo_S2x2048x2048_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x1024 .f32) (main_arg1 : FVec F S2x9216 .f32) (main_arg2 : FVec F S1x1024 .f32) (main_arg3 : FVec F S1024x3840 .f32) (main_arg4 : FVec F S2x2048x1024 .f32) (main_arg5 : FVec F S2x2048x1024 .f32) (main_arg6 : FVec F S2x2048x768 .f32) (main_arg7 : FVec F S2x2048x2048 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x9216 .f32 := Host.absf main_arg1
  let main_cst_0 : FVec F S_ .f32 := constant S_ .f32 0x7F800000#32
  let main_v5 : FVec F S2x9216 .f32 := broadcastInDim S2x9216 ![] bcast_S_S2x9216 main_cst_0
  let main_v6 : IVec S2x9216 1 := cmpf .olt main_v4 main_v5
  let main_c_1 : IVec S_ 1 := constantI S_ 1 1#1
  let main_v7 : IVec S_ 1 := (fun x v => Host.reduce IntOp.andi x v reducesTo_S2x9216_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x3840 .f32 := Host.absf main_arg3
  let main_cst_4 : FVec F S_ .f32 := constant S_ .f32 0x7F800000#32
  let main_v13 : FVec F S1024x3840 .f32 := broadcastInDim S1024x3840 ![] bcast_S_S1024x3840 main_cst_4
  let main_v14 : IVec S1024x3840 1 := cmpf .olt main_v12 main_v13
  let main_c_5 : IVec S_ 1 := constantI S_ 1 1#1
  let main_v15 : IVec S_ 1 := (fun x v => Host.reduce IntOp.andi x v reducesTo_S1024x3840_S_d0_1 h_S_) main_v14 main_c_5
  fn_part1 (F := F) main_arg5 main_arg6 main_arg7 main_v3 main_v7 main_v11 main_v15
-- ==== Pre_finite_ffn.lean ====
abbrev S2x2048x1024 : Shape := ⟨3, ![2, 2048, 1024]⟩
abbrev S2x9216 : Shape := ⟨2, ![2, 9216]⟩
abbrev S1024x2816 : Shape := ⟨2, ![1024, 2816]⟩
abbrev S2816x1024 : Shape := ⟨2, ![2816, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S2x9216 : S_.BroadcastsInDim S2x9216 (![] : Fin 0 → Fin S2x9216.rank)
  reducesTo_S2x9216_S_d0_1 : S2x9216.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S2x2048x1024 .f32) (main_v3 : IVec S_ 1) (main_v7 : IVec S_ 1) (main_v11 : IVec S_ 1) (main_v15 : IVec S_ 1) : IVec S_ 1 :=
  let main_v16 : FVec F S2816x1024 .f32 := Host.absf main_arg4
  let main_cst_6 : FVec F S_ .f32 := constant S_ .f32 0x7F800000#32
  let main_v17 : FVec F S2816x1024 .f32 := broadcastInDim S2816x1024 ![] bcast_S_S2816x1024 main_cst_6
  let main_v18 : IVec S2816x1024 1 := cmpf .olt main_v16 main_v17
  let main_c_7 : IVec S_ 1 := constantI S_ 1 1#1
  let main_v19 : IVec S_ 1 := (fun x v => Host.reduce IntOp.andi x v reducesTo_S2816x1024_S_d0_1 h_S_) main_v18 main_c_7
  let main_v20 : FVec F S2x2048x1024 .f32 := Host.absf main_arg5
  let main_cst_8 : FVec F S_ .f32 := constant S_ .f32 0x7F800000#32
  let main_v21 : FVec F S2x2048x1024 .f32 := broadcastInDim S2x2048x1024 ![] bcast_S_S2x2048x1024 main_cst_8
  let main_v22 : IVec S2x2048x1024 1 := cmpf .olt main_v20 main_v21
  let main_c_9 : IVec S_ 1 := constantI S_ 1 1#1
  let main_v23 : IVec S_ 1 := (fun x v => Host.reduce IntOp.andi x v reducesTo_S2x2048x1024_S_d0_1_2 h_S_) main_v22 main_c_9
  let main_v24 : IVec S_ 1 := andi main_v3 main_v7
  let main_v25 : IVec S_ 1 := andi main_v24 main_v11
  let main_v26 : IVec S_ 1 := andi main_v25 main_v15
  let main_v27 : IVec S_ 1 := andi main_v26 main_v19
  let main_v28 : IVec S_ 1 := andi main_v27 main_v23
  main_v28

def fn {F : FTy → Type} [FloatOps F] (main_arg0 : FVec F S2x2048x1024 .f32) (main_arg1 : FVec F S2x9216 .f32) (main_arg2 : FVec F S1024x2816 .f32) (main_arg3 : FVec F S1024x2816 .f32) (main_arg4 : FVec F S2816x1024 .f32) (main_arg5 : FVec F S2x2048x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x9216 .f32 := Host.absf main_arg1
  let main_cst_0 : FVec F S_ .f32 := constant S_ .f32 0x7F800000#32
  let main_v5 : FVec F S2x9216 .f32 := broadcastInDim S2x9216 ![] bcast_S_S2x9216 main_cst_0
  let main_v6 : IVec S2x9216 1 := cmpf .olt main_v4 main_v5
  let main_c_1 : IVec S_ 1 := constantI S_ 1 1#1
  let main_v7 : IVec S_ 1 := (fun x v => Host.reduce IntOp.andi x v reducesTo_S2x9216_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_v3 main_v7 main_v11 main_v15
-- ==== Pre_finite_mix.lean ====
abbrev S2x2048x512 : Shape := ⟨3, ![2, 2048, 512]⟩
abbrev S2x2048x1024 : Shape := ⟨3, ![2, 2048, 1024]⟩
abbrev S2x9216 : Shape := ⟨2, ![2, 9216]⟩
abbrev S512x1024 : Shape := ⟨2, ![512, 1024]⟩
abbrev S1024x1024 : Shape := ⟨2, ![1024, 1024]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S2x2048x1024 : S_.BroadcastsInDim S2x2048x1024 (![] : Fin 0 → Fin S2x2048x1024.rank)
  reducesTo_S2x2048x1024_S_d0_1_2 : S2x2048x1024.ReducesTo [0, 1, 2] S_
  bcast_S_S2x9216 : S_.BroadcastsInDim S2x9216 (![] : Fin 0 → Fin S2x9216.rank)
  reducesTo_S2x9216_S_d0_1 : S2x9216.ReducesTo [0, 1] S_
  bcast_S_S512x1024 : S_.BroadcastsInDim S512x1024 (![] : Fin 0 → Fin S512x1024.rank)
  reducesTo_S512x1024_S_d0_1 : S512x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_arg8 : FVec F S2x2048x1024 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S2x2048x1024 .f32 := Host.absf main_arg8
  let main_cst_14 : FVec F S_ .f32 := constant S_ .f32 0x7F800000#32
  let main_v33 : FVec F S2x2048x1024 .f32 := broadcastInDim S2x2048x1024 ![] bcast_S_S2x2048x1024 main_cst_14
  let main_v34 : IVec S2x2048x1024 1 := cmpf .olt main_v32 main_v33
  let main_c_15 : IVec S_ 1 := constantI S_ 1 1#1
  let main_v35 : IVec S_ 1 := (fun x v => Host.reduce IntOp.andi x v reducesTo_S2x2048x1024_S_d0_1_2 h_S_) main_v34 main_c_15
  let main_v36 : IVec S_ 1 := andi main_v3 main_v7
  let main_v37 : IVec S_ 1 := andi main_v36 main_v11
  let main_v38 : IVec S_ 1 := andi main_v37 main_v15
  let main_v39 : IVec S_ 1 := andi main_v38 main_v19
  let main_v40 : IVec S_ 1 := andi main_v39 main_v23
  let main_v41 : IVec S_ 1 := andi main_v40 main_v27
  let main_v42 : IVec S_ 1 := andi main_v41 main_v31
  let main_v43 : IVec S_ 1 := andi main_v42 main_v35
  main_v43

def fn_part1 {F : FTy → Type} [FloatOps F] (main_arg4 : FVec F S2x9216 .f32) (main_arg5 : FVec F S512x1024 .f32) (main_arg6 : FVec F S512x1024 .f32) (main_arg7 : FVec F S1024x1024 .f32) (main_arg8 : FVec F S2x2048x1024 .f32) (main_v3 : IVec S_ 1) (main_v7 : IVec S_ 1) (main_v11 : IVec S_ 1) (main_v15 : IVec S_ 1) : IVec S_ 1 :=
  let main_v16 : FVec F S2x9216 .f32 := Host.absf main_arg4
  let main_cst_6 : FVec F S_ .f32 := constant S_ .f32 0x7F800000#32
  let main_v17 : FVec F S2x9216 .f32 := broadcastInDim S2x9216 ![] bcast_S_S2x9216 main_cst_6
  let main_v18 : IVec S2x9216 1 := cmpf .olt main_v16 main_v17
  let main_c_7 : IVec S_ 1 := constantI S_ 1 1#1
  let main_v19 : IVec S_ 1 := (fun x v => Host.reduce IntOp.andi x v reducesTo_S2x9216_S_d0_1 h_S_) main_v18 main_c_7
  let main_v20 : FVec F S512x1024 .f32 := Host.absf main_arg5
  let main_cst_8 : FVec F S_ .f32 := constant S_ .f32 0x7F800000#32
  let main_v21 : FVec F S512x1024 .f32 := broadcastInDim S512x1024 ![] bcast_S_S512x1024 main_cst_8
  let main_v22 : IVec S512x1024 1 := cmpf .olt main_v20 main_v21
  let main_c_9 : IVec S_ 1 := constantI S_ 1 1#1
  let main_v23 : IVec S_ 1 := (fun x v => Host.reduce IntOp.andi x v reducesTo_S512x1024_S_d0_1 h_S_) main_v22 main_c_9
  let main_v24 : FVec F S512x1024 .f32 := Host.absf main_arg6
  let main_cst_10 : FVec F S_ .f32 := constant S_ .f32 0x7F800000#32
  let main_v25 : FVec F S512x1024 .f32 := broadcastInDim S512x1024 ![] bcast_S_S512x1024 main_cst_10
  let main_v26 : IVec S512x1024 1 := cmpf .olt main_v24 main_v25
  let main_c_11 : IVec S_ 1 := constantI S_ 1 1#1
  let main_v27 : IVec S_ 1 := (fun x v => Host.reduce IntOp.andi x v reducesTo_S512x1024_S_d0_1 h_S_) main_v26 main_c_11
  let main_v28 : FVec F S1024x1024 .f32 := Host.absf main_arg7
  let main_cst_12 : FVec F S_ .f32 := constant S_ .f32 0x7F800000#32
  let main_v29 : FVec F S1024x1024 .f32 := broadcastInDim S1024x1024 ![] bcast_S_S1024x1024 main_cst_12
  let main_v30 : IVec S1024x1024 1 := cmpf .olt main_v28 main_v29
  let main_c_13 : IVec S_ 1 := constantI S_ 1 1#1
  let main_v31 : IVec S_ 1 := (fun x v => Host.reduce IntOp.andi x v reducesTo_S1024x1024_S_d0_1 h_S_) main_v30 main_c_13
  fn_part2 (F := F) main_arg8 main_v3 main_v7 main_v11 main_v15 main_v19 main_v23 main_v27 main_v31

def fn {F : FTy → Type} [FloatOps F] (main_arg0 : FVec F S2x2048x512 .f32) (main_arg1 : FVec F S2x2048x512 .f32) (main_arg2 : FVec F S2x2048x1024 .f32) (main_arg3 : FVec F S2x2048x1024 .f32) (main_arg4 : FVec F S2x9216 .f32) (main_arg5 : FVec F S512x1024 .f32) (main_arg6 : FVec F S512x1024 .f32) (main_arg7 : FVec F S1024x1024 .f32) (main_arg8 : FVec F S2x2048x1024 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S2x2048x1024 .f32 := Host.absf main_arg2
  let main_cst_2 : FVec F S_ .f32 := constant S_ .f32 0x7F800000#32
  let main_v9 : FVec F S2x2048x1024 .f32 := broadcastInDim S2x2048x1024 ![] bcast_S_S2x2048x1024 main_cst_2
  let main_v10 : IVec S2x2048x1024 1 := cmpf .olt main_v8 main_v9
  let main_c_3 : IVec S_ 1 := constantI S_ 1 1#1
  let main_v11 : IVec S_ 1 := (fun x v => Host.reduce IntOp.andi x v reducesTo_S2x2048x1024_S_d0_1_2 h_S_) main_v10 main_c_3
  let main_v12 : FVec F S2x2048x1024 .f32 := Host.absf main_arg3
  let main_cst_4 : FVec F S_ .f32 := constant S_ .f32 0x7F800000#32
  let main_v13 : FVec F S2x2048x1024 .f32 := broadcastInDim S2x2048x1024 ![] bcast_S_S2x2048x1024 main_cst_4
  let main_v14 : IVec S2x2048x1024 1 := cmpf .olt main_v12 main_v13
  let main_c_5 : IVec S_ 1 := constantI S_ 1 1#1
  let main_v15 : IVec S_ 1 := (fun x v => Host.reduce IntOp.andi x v reducesTo_S2x2048x1024_S_d0_1_2 h_S_) main_v14 main_c_5
  fn_part1 (F := F) main_arg4 main_arg5 main_arg6 main_arg7 main_arg8 main_v3 main_v7 main_v11 main_v15
-- ==== Pre_finite_sgu.lean ====
abbrev S2x2048x512 : Shape := ⟨3, ![2, 2048, 512]⟩
abbrev S1x512 : Shape := ⟨2, ![1, 512]⟩
abbrev S1x4x128x128 : Shape := ⟨4, ![1, 4, 128, 128]⟩
abbrev S1x4x128 : Shape := ⟨3, ![1, 4, 128]⟩
abbrev S_ : Shape := ⟨0, ![]⟩

class Facts : Prop where
  bcast_S_S2x2048x512 : S_.BroadcastsInDim S2x2048x512 (![] : Fin 0 → Fin S2x2048x512.rank)
  reducesTo_S2x2048x512_S_d0_1_2 : S2x2048x512.ReducesTo [0, 1, 2] S_
  h_S_ : 0 < S_.numel
  bcast_S_S1x512 : S_.BroadcastsInDim S1x512 (![] : Fin 0 → Fin S1x512.rank)
  reducesTo_S1x512_S_d0_1 : S1x512.ReducesTo [0, 1] S_
  bcast_S_S1x4x128x128 : S_.BroadcastsInDim S1x4x128x128 (![] : Fin 0 → Fin S1x4x128x128.rank)
  reducesTo_S1x4x128x128_S_d0_1_2_3 : S1x4x128x128.ReducesTo [0, 1, 2, 3] S_
  bcast_S_S1x4x128 : S_.BroadcastsInDim S1x4x128 (![] : Fin 0 → Fin S1x4x128.rank)
  reducesTo_S1x4x128_S_d0_1_2 : S1x4x128.ReducesTo [0, 1, 2] S_

variable [Facts]

def fn_part1 {F : FTy → Type} [FloatOps F] (main_arg4 : FVec F S1x4x128x128 .f32) (main_arg5 : FVec F S1x4x128 .f32) (main_arg6 : FVec F S2x2048x512 .f32) (main_v3 : IVec S_ 1) (main_v7 : IVec S_ 1) (main_v11 : IVec S_ 1) (main_v15 : IVec S_ 1) : IVec S_ 1 :=
  let main_v16 : FVec F S1x4x128x128 .f32 := Host.absf main_arg4
  let main_cst_6 : FVec F S_ .f32 := constant S_ .f32 0x7F800000#32
  let main_v17 : FVec F S1x4x128x128 .f32 := broadcastInDim S1x4x128x128 ![] bcast_S_S1x4x128x128 main_cst_6
  let main_v18 : IVec S1x4x128x128 1 := cmpf .olt main_v16 main_v17
  let main_c_7 : IVec S_ 1 := constantI S_ 1 1#1
  let main_v19 : IVec S_ 1 := (fun x v => Host.reduce IntOp.andi x v reducesTo_S1x4x128x128_S_d0_1_2_3 h_S_) main_v18 main_c_7
  let main_v20 : FVec F S1x4x128 .f32 := Host.absf main_arg5
  let main_cst_8 : FVec F S_ .f32 := constant S_ .f32 0x7F800000#32
  let main_v21 : FVec F S1x4x128 .f32 := broadcastInDim S1x4x128 ![] bcast_S_S1x4x128 main_cst_8
  let main_v22 : IVec S1x4x128 1 := cmpf .olt main_v20 main_v21
  let main_c_9 : IVec S_ 1 := constantI S_ 1 1#1
  let main_v23 : IVec S_ 1 := (fun x v => Host.reduce IntOp.andi x v reducesTo_S1x4x128_S_d0_1_2 h_S_) main_v22 main_c_9
  let main_v24 : FVec F S2x2048x512 .f32 := Host.absf main_arg6
  let main_cst_10 : FVec F S_ .f32 := constant S_ .f32 0x7F800000#32
  let main_v25 : FVec F S2x2048x512 .f32 := broadcastInDim S2x2048x512 ![] bcast_S_S2x2048x512 main_cst_10
  let main_v26 : IVec S2x2048x512 1 := cmpf .olt main_v24 main_v25
  let main_c_11 : IVec S_ 1 := constantI S_ 1 1#1
  let main_v27 : IVec S_ 1 := (fun x v => Host.reduce IntOp.andi x v reducesTo_S2x2048x512_S_d0_1_2 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S2x2048x512 .f32) (main_arg1 : FVec F S2x2048x512 .f32) (main_arg2 : FVec F S1x512 .f32) (main_arg3 : FVec F S1x512 .f32) (main_arg4 : FVec F S1x4x128x128 .f32) (main_arg5 : FVec F S1x4x128 .f32) (main_arg6 : FVec F S2x2048x512 .f32) : IVec S_ 1 :=
  let main_v0 : FVec F S2x2048x512 .f32 := Host.absf main_arg0
  let main_cst : FVec F S_ .f32 := constant S_ .f32 0x7F800000#32
  let main_v1 : FVec F S2x2048x512 .f32 := broadcastInDim S2x2048x512 ![] bcast_S_S2x2048x512 main_cst
  let main_v2 : IVec S2x2048x512 1 := cmpf .olt main_v0 main_v1
  let main_c : IVec S_ 1 := constantI S_ 1 1#1
  let main_v3 : IVec S_ 1 := (fun x v => Host.reduce IntOp.andi x v reducesTo_S2x2048x512_S_d0_1_2 h_S_) main_v2 main_c
  let main_v4 : FVec F S2x2048x512 .f32 := Host.absf main_arg1
  let main_cst_0 : FVec F S_ .f32 := constant S_ .f32 0x7F800000#32
  let main_v5 : FVec F S2x2048x512 .f32 := broadcastInDim S2x2048x512 ![] bcast_S_S2x2048x512 main_cst_0
  let main_v6 : IVec S2x2048x512 1 := cmpf .olt main_v4 main_v5
  let main_c_1 : IVec S_ 1 := constantI S_ 1 1#1
  let main_v7 : IVec S_ 1 := (fun x v => Host.reduce IntOp.andi x v reducesTo_S2x2048x512_S_d0_1_2 h_S_) main_v6 main_c_1
  let main_v8 : FVec F S1x512 .f32 := Host.absf main_arg2
  let main_cst_2 : FVec F S_ .f32 := constant S_ .f32 0x7F800000#32
  let main_v9 : FVec F S1x512 .f32 := broadcastInDim S1x512 ![] bcast_S_S1x512 main_cst_2
  let main_v10 : IVec S1x512 1 := cmpf .olt main_v8 main_v9
  let main_c_3 : IVec S_ 1 := constantI S_ 1 1#1
  let main_v11 : IVec S_ 1 := (fun x v => Host.reduce IntOp.andi x v reducesTo_S1x512_S_d0_1 h_S_) main_v10 main_c_3
  let main_v12 : FVec F S1x512 .f32 := Host.absf main_arg3
  let main_cst_4 : FVec F S_ .f32 := constant S_ .f32 0x7F800000#32
  let main_v13 : FVec F S1x512 .f32 := broadcastInDim S1x512 ![] bcast_S_S1x512 main_cst_4
  let main_v14 : IVec S1x512 1 := cmpf .olt main_v12 main_v13
  let main_c_5 : IVec S_ 1 := constantI S_ 1 1#1
  let main_v15 : IVec S_ 1 := (fun x v => Host.reduce IntOp.andi x v reducesTo_S1x512_S_d0_1 h_S_) main_v14 main_c_5
  fn_part1 (F := F) main_arg4 main_arg5 main_arg6 main_v3 main_v7 main_v11 main_v15
-- ==== Pre_finite_up.lean ====
abbrev S2x2048x1024 : Shape := ⟨3, ![2, 2048, 1024]⟩
abbrev S1024x2816 : Shape := ⟨2, ![1024, 2816]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x2816 : S_.BroadcastsInDim S1024x2816 (![] : Fin 0 → Fin S1024x2816.rank)
  reducesTo_S1024x2816_S_d0_1 : S1024x2816.ReducesTo [0, 1] S_

variable [Facts]

def fn {F : FTy → Type} [FloatOps F] (main_arg0 : FVec F S2x2048x1024 .f32) (main_arg1 : FVec F S1024x2816 .f32) (main_arg2 : FVec F S1024x2816 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : IVec S_ 1 := andi main_v3 main_v7
  let main_v13 : IVec S_ 1 := andi main_v12 main_v11
  main_v13
-- ==== Pre_half_pairs.lean ====
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

class Facts : Prop where
  shapeCasts_S1_S_ : S1.ShapeCasts S_

variable [Facts]

def fn {F : FTy → Type} [FloatOps F] (main_arg0 : FVec F S4x704x1024 .bf16) (main_arg1 : FVec F S4x352x1024 .bf16) (main_arg2 : IVec S1 32) : IVec S_ 1 :=
  let main_v0 : IVec S_ 32 := shapeCast S_ main_arg2 shapeCasts_S1_S_
  let main_c : IVec S_ 32 := constantI S_ 32 0#32
  let main_v1 : IVec S_ 1 := cmpi .eq main_v0 main_c
  let main_v2 : IVec S_ 32 := shapeCast S_ main_arg2 shapeCasts_S1_S_
  let main_c_0 : IVec S_ 32 := constantI S_ 32 1#32
  let main_v3 : IVec S_ 1 := cmpi .eq main_v2 main_c_0
  let main_v4 : IVec S_ 1 := ori main_v1 main_v3
  main_v4
-- ==== KernelLoss.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x9216 : Shape := ⟨2, ![2, 9216]⟩
abbrev S2x9x1x1024 : Shape := ⟨4, ![2, 9, 1, 1024]⟩
abbrev S4x704x1024 : Shape := ⟨3, ![4, 704, 1024]⟩
abbrev S4096x4x704 : Shape := ⟨3, ![4096, 4, 704]⟩
abbrev S4x4096x704 : Shape := ⟨3, ![4, 4096, 704]⟩
abbrev S4096x1024 : Shape := ⟨2, ![4096, 1024]⟩
abbrev S8x8x128 : Shape := ⟨3, ![8, 8, 128]⟩
abbrev S4x512x704 : Shape := ⟨3, ![4, 512, 704]⟩
abbrev S512x1024 : Shape := ⟨2, ![512, 1024]⟩
abbrev S1x1x1x1024 : Shape := ⟨4, ![1, 1, 1, 1024]⟩
abbrev S1x8x128 : Shape := ⟨3, ![1, 8, 128]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S1x1024 : Shape := ⟨2, ![1, 1024]⟩
abbrev S1x512x1024 : Shape := ⟨3, ![1, 512, 1024]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩
abbrev S_ : Shape := ⟨0, ![]⟩

abbrev nBuf : Space → Nat
  | .hbm => 20
  | .vmem => 15
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x9216, .f32⟩
  | .hbm, ⟨4, _⟩ => ⟨S2x2048x1024, .f32⟩
  | .hbm, ⟨5, _⟩ => ⟨S2x9x1x1024, .f32⟩
  | .hbm, ⟨6, _⟩ => ⟨S4x704x1024, .f32⟩
  | .hbm, ⟨7, _⟩ => ⟨S4x704x1024, .bf16⟩
  | .hbm, ⟨8, _⟩ => ⟨S4096x4x704, .f32⟩
  | .hbm, ⟨9, _⟩ => ⟨S4x4096x704, .f32⟩
  | .hbm, ⟨10, _⟩ => ⟨S4x4096x704, .bf16⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | .hbm, ⟨15, _⟩ => ⟨S8x8x128, .f32⟩
  | .hbm, ⟨16, _⟩ => ⟨S8x1x1, .f32⟩
  | .hbm, ⟨17, _⟩ => ⟨S8, .f32⟩
  | .hbm, ⟨18, _⟩ => ⟨S_, .f32⟩
  | .hbm, ⟨19, _⟩ => ⟨S_, .f32⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x8x128, .f32⟩
  | .local _ .vmem, ⟨14, _⟩ => ⟨S1x8x128, .f32⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev main_v8_2 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let c0_i32_5 : BitVec 32 := 0#32
  let c0_i32_6 : BitVec 32 := 0#32
  ![v16.toNat, c8_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceLossIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x9216 : Shape := ⟨2, ![2, 9216]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S4096x1024 : Shape := ⟨2, ![4096, 1024]⟩

abbrev nBuf : Space → Nat
  | .hbm => 48
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x9216, .f32⟩
  | .hbm, ⟨4, _⟩ => ⟨S2x2048x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x2048x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S_, .f32⟩
  | .hbm, ⟨25, _⟩ => ⟨S2x2048x1024, .f32⟩
  | .hbm, ⟨26, _⟩ => ⟨S2x2048x1024, .f32⟩
  | .hbm, ⟨27, _⟩ => ⟨S_, .f32⟩
  | .hbm, ⟨28, _⟩ => ⟨S2x2048, .f32⟩
  | .hbm, ⟨29, _⟩ => ⟨S_, .f32⟩
  | .hbm, ⟨30, _⟩ => ⟨S2x2048, .f32⟩
  | .hbm, ⟨31, _⟩ => ⟨S2x2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2x2048, .f32⟩
  | .hbm, ⟨40, _⟩ => ⟨S_, .f32⟩
  | .hbm, ⟨41, _⟩ => ⟨S2x2048, .f32⟩
  | .hbm, ⟨42, _⟩ => ⟨S2x2048, .f32⟩
  | .hbm, ⟨43, _⟩ => ⟨S2x2048x1024, .f32⟩
  | .hbm, ⟨44, _⟩ => ⟨S2x2048x1024, .f32⟩
  | .hbm, ⟨45, _⟩ => ⟨S4096x1024, .f32⟩
  | .hbm, ⟨46, _⟩ => ⟨S4096x1024, .f32⟩
  | .hbm, ⟨47, _⟩ => ⟨S4096x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== KernelSgu.lean ====
abbrev S2x2048x512 : Shape := ⟨3, ![2, 2048, 512]⟩
abbrev S1x512 : Shape := ⟨2, ![1, 512]⟩
abbrev S1x4x128x128 : Shape := ⟨4, ![1, 4, 128, 128]⟩
abbrev S1x4x128 : Shape := ⟨3, ![1, 4, 128]⟩
abbrev S2x2048x1024 : Shape := ⟨3, ![2, 2048, 1024]⟩
abbrev S4096x1024 : Shape := ⟨2, ![4096, 1024]⟩
abbrev S4096x512 : Shape := ⟨2, ![4096, 512]⟩
abbrev S4x128x128 : Shape := ⟨3, ![4, 128, 128]⟩
abbrev S4x128 : Shape := ⟨2, ![4, 128]⟩
abbrev S128x4 : Shape := ⟨2, ![128, 4]⟩
abbrev S128x512 : Shape := ⟨2, ![128, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S128 : Shape := ⟨1, ![128]⟩
abbrev S128x1 : Shape := ⟨2, ![128, 1]⟩
abbrev S512 : Shape := ⟨1, ![512]⟩
abbrev S128x4x128 : Shape := ⟨3, ![128, 4, 128]⟩
abbrev S_ : Shape := ⟨0, ![]⟩

abbrev nBuf : Space → Nat
  | .hbm => 24
  | .vmem => 14
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S2x2048x512, .f32⟩
  | .hbm, ⟨7, _⟩ => ⟨S2x2048x1024, .f32⟩
  | .hbm, ⟨8, _⟩ => ⟨S4096x1024, .f32⟩
  | .hbm, ⟨9, _⟩ => ⟨S4096x1024, .bf16⟩
  | .hbm, ⟨10, _⟩ => ⟨S4096x512, .f32⟩
  | .hbm, ⟨11, _⟩ => ⟨S4096x512, .bf16⟩
  | .hbm, ⟨12, _⟩ => ⟨S4x128x128, .f32⟩
  | .hbm, ⟨13, _⟩ => ⟨S4x128, .f32⟩
  | .hbm, ⟨14, _⟩ => ⟨S128x4, .f32⟩
  | .hbm, ⟨15, _⟩ => ⟨S4096x1024, .bf16⟩
  | .hbm, ⟨16, _⟩ => ⟨S4x128x128, .f32⟩
  | .hbm, ⟨17, _⟩ => ⟨S128x512, .f32⟩
  | .hbm, ⟨18, _⟩ => ⟨S1x512, .f32⟩
  | .hbm, ⟨19, _⟩ => ⟨S1x512, .f32⟩
  | .hbm, ⟨20, _⟩ => ⟨S128x4x128, .f32⟩
  | .hbm, ⟨21, _⟩ => ⟨S_, .f32⟩
  | .hbm, ⟨22, _⟩ => ⟨S128x4, .f32⟩
  | .hbm, ⟨23, _⟩ => ⟨S4x128, .f32⟩
  | .local _ .vmem, ⟨0, _⟩ => ⟨S512x1024, .bf16⟩
  | .local _ .vmem, ⟨1, _⟩ => ⟨S512x1024, .bf16⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S512x1024, .bf16⟩
  | .local _ .vmem, ⟨9, _⟩ => ⟨S512x1024, .bf16⟩
  | .local _ .vmem, ⟨10, _⟩ => ⟨S4x128x128, .f32⟩
  | .local _ .vmem, ⟨11, _⟩ => ⟨S128x512, .f32⟩
  | .local _ .vmem, ⟨12, _⟩ => ⟨S1x512, .f32⟩
  | .local _ .vmem, ⟨13, _⟩ => ⟨S1x512, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev main_v9 : Ref sig .tc := ⟨.hbm, 20, rfl⟩
abbrev main_cst : Ref sig .tc := ⟨.hbm, 21, rfl⟩
abbrev main_v10 : Ref sig .tc := ⟨.hbm, 22, rfl⟩
abbrev main_v11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v766 : BitVec 1 := Scalar.cmpi .eq arg0 c0_i32
  let v767 : BitVec 32 := Scalar.extui v766
  let c0_i32_290 : BitVec 32 := 0#32
  let v768 : BitVec 1 := Scalar.cmpi .ne v767 c0_i32_290
  v768

def k0_cond2 (i : grid0.Coords) : BitVec 1 :=
  let arg0 : BitVec 32 := BitVec.ofNat 32 (i 0).val
  let c0_i32_291 : BitVec 32 := 0#32
  let v769 : BitVec 1 := Scalar.cmpi .ne arg0 c0_i32_291
  let v770 : BitVec 32 := Scalar.extui v769
  let c0_i32_292 : BitVec 32 := 0#32
  let v771 : BitVec 1 := Scalar.cmpi .ne v770 c0_i32_292
  v771

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelSguIdeal.lean ====
variable {F : FTy → Type} [FloatOps F] [Named F]
def κ : String → Option EReal := fun
  | "gelu_c" => some ((8943 / 200000 : ℝ) : EReal)
  | "three_gelu_c" => some ((26829 / 200000 : ℝ) : EReal)
  | _ => none
-- ==== ReferenceSguIdeal.lean ====
abbrev S2x2048x512 : Shape := ⟨3, ![2, 2048, 512]⟩
abbrev S1x512 : Shape := ⟨2, ![1, 512]⟩
abbrev S1x4x128x128 : Shape := ⟨4, ![1, 4, 128, 128]⟩
abbrev S1x4x128 : Shape := ⟨3, ![1, 4, 128]⟩
abbrev S512 : Shape := ⟨1, ![512]⟩
abbrev S4x128x128 : Shape := ⟨3, ![4, 128, 128]⟩
abbrev S4x128 : Shape := ⟨2, ![4, 128]⟩
abbrev S_ : Shape := ⟨0, ![]⟩
abbrev S2x2048 : Shape := ⟨2, ![2, 2048]⟩
abbrev S2x2048x1 : Shape := ⟨3, ![2, 2048, 1]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S2x2048x1024 : Shape := ⟨3, ![2, 2048, 1024]⟩
abbrev S4096x1024 : Shape := ⟨2, ![4096, 1024]⟩

abbrev nBuf : Space → Nat
  | .hbm => 228
  | .vmem => 0
  | .smem => 0
  | _ => 0

abbrev hbmTy0_0 (i : Nat) : BufTy := match i % 128 with
  | 0 => ⟨S2x2048x512, .f32⟩
  | 1 => ⟨S2x2048x512, .f32⟩
  | 2 => ⟨S1x512, .f32⟩
  | 3 => ⟨S1x512, .f32⟩
  | 4 => ⟨S1x4x128x128, .f32⟩
  | 5 => ⟨S1x4x128, .f32⟩
  | 6 => ⟨S2x2048x512, .f32⟩
  | 7 => ⟨S512, .f32⟩
  | 8 => ⟨S512, .f32⟩
  | 9 => ⟨S4x128x128, .f32⟩
  | 10 => ⟨S4x128, .f32⟩
  | 11 => ⟨S_, .f32⟩
  | 12 => ⟨S_, .f32⟩
  | 13 => ⟨S_, .f32⟩
  | 14 => ⟨S2x2048x512, .f32⟩
  | 15 => ⟨S2x2048x512, .f32⟩
  | 16 => ⟨S2x2048x512, .f32⟩
  | 17 => ⟨S_, .f32⟩
  | 18 => ⟨S2x2048x512, .f32⟩
  | 19 => ⟨S2x2048x512, .f32⟩
  | 20 => ⟨S2x2048x512, .f32⟩
  | 21 => ⟨S2x2048x512, .f32⟩
  | 22 => ⟨S2x2048x512, .f32⟩
  | 23 => ⟨S_, .f32⟩
  | 24 => ⟨S2x2048x512, .f32⟩
  | 25 => ⟨S2x2048x512, .f32⟩
  | 26 => ⟨S2x2048x512, .f32⟩
  | 27 => ⟨S_, .f32⟩
  | 28 => ⟨S2x2048x512, .f32⟩
  | 29 => ⟨S2x2048x512, .f32⟩
  | 30 => ⟨S_, .f32⟩
  | 31 => ⟨S2x2048x512, .f32⟩
  | 32 => ⟨S2x2048x512, .f32⟩
  | 33 => ⟨S2x2048x512, .f32⟩
  | 34 => ⟨S_, .f32⟩
  | 35 => ⟨S2x2048x512, .f32⟩
  | 36 => ⟨S2x2048x512, .f32⟩
  | 37 => ⟨S_, .f32⟩
  | 38 => ⟨S2x2048x512, .f32⟩
  | 39 => ⟨S2x2048x512, .f32⟩
  | 40 => ⟨S2x2048x512, .f32⟩
  | 41 => ⟨S_, .f32⟩
  | 42 => ⟨S_, .f32⟩
  | 43 => ⟨S_, .f32⟩
  | 44 => ⟨S2x2048x512, .f32⟩
  | 45 => ⟨S2x2048x512, .f32⟩
  | 46 => ⟨S2x2048x512, .f32⟩
  | 47 => ⟨S_, .f32⟩
  | 48 => ⟨S2x2048x512, .f32⟩
  | 49 => ⟨S2x2048x512, .f32⟩
  | 50 => ⟨S2x2048x512, .f32⟩
  | 51 => ⟨S2x2048x512, .f32⟩
  | 52 => ⟨S2x2048x512, .f32⟩
  | 53 => ⟨S_, .f32⟩
  | 54 => ⟨S2x2048x512, .f32⟩
  | 55 => ⟨S2x2048x512, .f32⟩
  | 56 => ⟨S2x2048x512, .f32⟩
  | 57 => ⟨S_, .f32⟩
  | 58 => ⟨S2x2048x512, .f32⟩
  | 59 => ⟨S2x2048x512, .f32⟩
  | 60 => ⟨S_, .f32⟩
  | 61 => ⟨S2x2048x512, .f32⟩
  | 62 => ⟨S2x2048x512, .f32⟩
  | 63 => ⟨S2x2048x512, .f32⟩
  | 64 => ⟨S_, .f32⟩
  | 65 => ⟨S2x2048x512, .f32⟩
  | 66 => ⟨S2x2048x512, .f32⟩
  | 67 => ⟨S_, .f32⟩
  | 68 => ⟨S2x2048x512, .f32⟩
  | 69 => ⟨S2x2048x512, .f32⟩
  | 70 => ⟨S2x2048x512, .f32⟩
  | 71 => ⟨S_, .f32⟩
  | 72 => ⟨S2x2048, .f32⟩
  | 73 => ⟨S2x2048x1, .f32⟩
  | 74 => ⟨S_, .f32⟩
  | 75 => ⟨S2x2048x1, .f32⟩
  | 76 => ⟨S2x2048x1, .f32⟩
  | 77 => ⟨S2x2048x512, .f32⟩
  | 78 => ⟨S2x2048x512, .f32⟩
  | 79 => ⟨S2x2048x512, .f32⟩
  | 80 => ⟨S_, .f32⟩
  | 81 => ⟨S2x2048x512, .f32⟩
  | 82 => ⟨S2x2048x512, .f32⟩
  | 83 => ⟨S_, .f32⟩
  | 84 => ⟨S2x2048, .f32⟩
  | 85 => ⟨S2x2048x1, .f32⟩
  | 86 => ⟨S_, .f32⟩
  | 87 => ⟨S2x2048x1, .f32⟩
  | 88 => ⟨S2x2048x1, .f32⟩
  | 89 => ⟨S2x2048x512, .f32⟩
  | 90 => ⟨S2x2048x512, .f32⟩
  | 91 => ⟨S_, .f32⟩
  | 92 => ⟨S2x2048x1, .f32⟩
  | 93 => ⟨S2x2048x1, .f32⟩
  | 94 => ⟨S2x2048x1, .f32⟩
  | 95 => ⟨S2x2048x1, .f32⟩
  | 96 => ⟨S_, .f32⟩
  | 97 => ⟨S2x2048x1, .f32⟩
  | 98 => ⟨S2x2048x1, .f32⟩
  | 99 => ⟨S2x2048x512, .f32⟩
  | 100 => ⟨S2x2048x512, .f32⟩
  | 101 => ⟨S1x1x512, .f32⟩
  | 102 => ⟨S2x2048x512, .f32⟩
  | 103 => ⟨S2x2048x512, .f32⟩
  | 104 => ⟨S1x1x512, .f32⟩
  | 105 => ⟨S2x2048x512, .f32⟩
  | 106 => ⟨S2x2048x512, .f32⟩
  | 107 => ⟨S2x16x128x4x128, .f32⟩
  | 108 => ⟨S_, .i1⟩
  | 109 => ⟨S128x128, .i1⟩
  | 110 => ⟨S128x128, .i32⟩
  | 111 => ⟨S_, .i32⟩
  | 112 => ⟨S128x128, .i32⟩
  | 113 => ⟨S128x128, .i32⟩
  | 114 => ⟨S128x128, .i32⟩
  | 115 => ⟨S128x128, .i1⟩
  | 116 => ⟨S_, .i1⟩
  | 117 => ⟨S128x128, .i1⟩
  | 118 => ⟨S128x128, .i1⟩
  | 119 => ⟨S1x128x128, .i1⟩
  | 120 => ⟨S_, .f32⟩
  | 121 => ⟨S4x128x128, .f32⟩
  | 122 => ⟨S4x128x128, .i1⟩
  | 123 => ⟨S4x128x128, .f32⟩
  | 124 => ⟨S_, .f32⟩
  | 125 => ⟨S4x128x128, .f32⟩
  | 126 => ⟨S4x2x16x128x128, .f32⟩
  | 127 => ⟨S2x16x128x4x128, .f32⟩
  | _ => ⟨S2x2048x512, .f32⟩

abbrev hbmTy0_1 (i : Nat) : BufTy := match i % 128 with
  | 0 => ⟨S128x4, .f32⟩
  | 1 => ⟨S1x1x128x4x1, .f32⟩
  | 2 => ⟨S2x16x128x4x128, .f32⟩
  | 3 => ⟨S2x16x128x4x128, .f32⟩
  | 4 => ⟨S2x2048x512, .f32⟩
  | 5 => ⟨S2x2048x512, .f32⟩
  | 6 => ⟨S2x2048x512, .f32⟩
  | 7 => ⟨S2x2048x512, .f32⟩
  | 8 => ⟨S2x16x128x4x128, .f32⟩
  | 9 => ⟨S_, .f32⟩
  | 10 => ⟨S128x4, .f32⟩
  | 11 => ⟨S1x1x128x4x1, .f32⟩
  | 12 => ⟨S_, .f32⟩
  | 13 => ⟨S128x4, .f32⟩
  | 14 => ⟨S4x128, .f32⟩
  | 15 => ⟨S4x2x16x128x128, .f32⟩
  | 16 => ⟨S4x128x128, .f32⟩
  | 17 => ⟨S4x2x16x128x128, .f32⟩
  | 18 => ⟨S2x16x128x4x128, .f32⟩
  | 19 => ⟨S_, .f32⟩
  | 20 => ⟨S4x128x128, .f32⟩
  | 21 => ⟨S4x128x128, .f32⟩
  | 22 => ⟨S2x2048x512, .f32⟩
  | 23 => ⟨S_, .f32⟩
  | 24 => ⟨S512, .f32⟩
  | 25 => ⟨S1x1x512, .f32⟩
  | 26 => ⟨S_, .f32⟩
  | 27 => ⟨S512, .f32⟩
  | 28 => ⟨S2x2048x512, .f32⟩
  | 29 => ⟨S_, .f32⟩
  | 30 => ⟨S512, .f32⟩
  | 31 => ⟨S1x1x512, .f32⟩
  | 32 => ⟨S2x2048x512, .f32⟩
  | 33 => ⟨S2x2048x512, .f32⟩
  | 34 => ⟨S_, .f32⟩
  | 35 => ⟨S512, .f32⟩
  | 36 => ⟨S2x2048x512, .f32⟩
  | 37 => ⟨S_, .f32⟩
  | 38 => ⟨S2x2048, .f32⟩
  | 39 => ⟨S2x2048x1, .f32⟩
  | 40 => ⟨S2x2048x512, .f32⟩
  | 41 => ⟨S2x2048x512, .f32⟩
  | 42 => ⟨S2x2048x1, .f32⟩
  | 43 => ⟨S2x2048x512, .f32⟩
  | 44 => ⟨S_, .f32⟩
  | 45 => ⟨S2x2048, .f32⟩
  | 46 => ⟨S2x2048x1, .f32⟩
  | 47 => ⟨S_, .f32⟩
  | 48 => ⟨S2x2048x1, .f32⟩
  | 49 => ⟨S2x2048x1, .f32⟩
  | 50 => ⟨S_, .f32⟩
  | 51 => ⟨S2x2048, .f32⟩
  | 52 => ⟨S2x2048x512, .f32⟩
  | 53 => ⟨S2x2048x512, .f32⟩
  | 54 => ⟨S2x2048x512, .f32⟩
  | 55 => ⟨S_, .f32⟩
  | 56 => ⟨S2x2048, .f32⟩
  | 57 => ⟨S2x2048x1, .f32⟩
  | 58 => ⟨S2x2048x512, .f32⟩
  | 59 => ⟨S2x2048x1, .f32⟩
  | 60 => ⟨S_, .f32⟩
  | 61 => ⟨S2x2048x1, .f32⟩
  | 62 => ⟨S2x2048x1, .f32⟩
  | 63 => ⟨S_, .f32⟩
  | 64 => ⟨S2x2048, .f32⟩
  | 65 => ⟨S2x2048x512, .f32⟩
  | 66 => ⟨S2x2048x512, .f32⟩
  | 67 => ⟨S2x2048x512, .f32⟩
  | 68 => ⟨S2x2048x512, .f32⟩
  | 69 => ⟨S_, .f32⟩
  | 70 => ⟨S2x2048x512, .f32⟩
  | 71 => ⟨S2x2048x512, .f32⟩
  | 72 => ⟨S2x2048x512, .f32⟩
  | 73 => ⟨S_, .f32⟩
  | 74 => ⟨S2x2048x512, .f32⟩
  | 75 => ⟨S2x2048x512, .f32⟩
  | 76 => ⟨S2x2048x512, .f32⟩
  | 77 => ⟨S2x2048x512, .f32⟩
  | 78 => ⟨S2x2048x512, .f32⟩
  | 79 => ⟨S2x2048x512, .f32⟩
  | 80 => ⟨S2x2048x512, .f32⟩
  | 81 => ⟨S2x2048x512, .f32⟩
  | 82 => ⟨S2x2048x512, .f32⟩
  | 83 => ⟨S_, .f32⟩
  | 84 => ⟨S2x2048x512, .f32⟩
  | 85 => ⟨S2x2048x512, .f32⟩
  | 86 => ⟨S2x2048x512, .f32⟩
  | 87 => ⟨S_, .f32⟩
  | 88 => ⟨S2x2048x512, .f32⟩
  | 89 => ⟨S2x2048x512, .f32⟩
  | 90 => ⟨S2x2048x512, .f32⟩
  | 91 => ⟨S2x2048x512, .f32⟩
  | 92 => ⟨S2x2048x512, .f32⟩
  | 93 => ⟨S2x2048x512, .f32⟩
  | 94 => ⟨S2x2048x512, .f32⟩
  | 95 => ⟨S2x2048x1024, .f32⟩
  | 96 => ⟨S4096x1024, .f32⟩
  | 97 => ⟨S4096x1024, .bf16⟩
  | 98 => ⟨S1x512, .f32⟩
  | 99 => ⟨S1x512, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_9 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_13 : Ref sig .tc := ⟨.hbm, 64, rfl⟩
abbrev main_v43 : Ref sig .tc := ⟨.hbm, 65, rfl⟩
abbrev main_v44 : Ref sig .tc := ⟨.hbm, 66, rfl⟩
abbrev main_cst_14 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_15 : Ref sig .tc := ⟨.hbm, 71, rfl⟩
abbrev main_v48 : Ref sig .tc := ⟨.hbm, 72, rfl⟩
abbrev main_v49 : Ref sig .tc := ⟨.hbm, 73, rfl⟩
abbrev main_cst_16 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_17 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_v58 : Ref sig .tc := ⟨.hbm, 85, rfl⟩
abbrev main_cst_19 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_20 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_21 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_c : Ref sig .tc := ⟨.hbm, 108, rfl⟩
abbrev main_v78 : Ref sig .tc := ⟨.hbm, 109, rfl⟩
abbrev main_call0_v0 : Ref sig .tc := ⟨.hbm, 110, rfl⟩
abbrev main_call0_c : Ref sig .tc := ⟨.hbm, 111, rfl⟩
abbrev main_call0_v1 : Ref sig .tc := ⟨.hbm, 112, rfl⟩
abbrev main_call0_v2 : Ref sig .tc := ⟨.hbm, 113, rfl⟩
abbrev main_call0_v3 : Ref sig .tc := ⟨.hbm, 114, rfl⟩
abbrev main_call0_v4 : Ref sig .tc := ⟨.hbm, 115, rfl⟩
abbrev main_call0_c_0 : Ref sig .tc := ⟨.hbm, 116, rfl⟩
abbrev main_call0_v5 : Ref sig .tc := ⟨.hbm, 117, rfl⟩
abbrev main_v79 : Ref sig .tc := ⟨.hbm, 118, rfl⟩
abbrev main_v80 : Ref sig .tc := ⟨.hbm, 119, rfl⟩
abbrev main_cst_22 : Ref sig .tc := ⟨.hbm, 120, rfl⟩
abbrev main_v81 : Ref sig .tc := ⟨.hbm, 121, rfl⟩
abbrev main_v82_1 : Ref sig .tc := ⟨.hbm, 122, rfl⟩
abbrev main_v82_0 : Ref sig .tc := ⟨.hbm, 123, rfl⟩
abbrev main_call1_cst : Ref sig .tc := ⟨.hbm, 124, rfl⟩
abbrev main_v82_2 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_cst_23 : Ref sig .tc := ⟨.hbm, 137, rfl⟩
abbrev main_v94 : Ref sig .tc := ⟨.hbm, 138, rfl⟩
abbrev main_v95 : Ref sig .tc := ⟨.hbm, 139, rfl⟩
abbrev main_cst_24 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_call2_cst : Ref sig .tc := ⟨.hbm, 147, rfl⟩
abbrev main_call2_v0 : Ref sig .tc := ⟨.hbm, 148, rfl⟩
abbrev main_v102 : Ref sig .tc := ⟨.hbm, 149, rfl⟩
abbrev main_v103 : Ref sig .tc := ⟨.hbm, 150, rfl⟩
abbrev main_cst_25 : Ref sig .tc := ⟨.hbm, 151, rfl⟩
abbrev main_v104 : Ref sig .tc := ⟨.hbm, 152, rfl⟩
abbrev main_v105 : Ref sig .tc := ⟨.hbm, 153, rfl⟩
abbrev main_cst_26 : Ref sig .tc := ⟨.hbm, 154, rfl⟩
abbrev main_v106 : Ref sig .tc := ⟨.hbm, 155, rfl⟩
abbrev main_v107 : Ref sig .tc := ⟨.hbm, 156, rfl⟩
abbrev main_cst_27 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_28 : Ref sig .tc := ⟨.hbm, 162, rfl⟩
abbrev main_v112 : Ref sig .tc := ⟨.hbm, 163, rfl⟩
abbrev main_v113 : Ref sig .tc := ⟨.hbm, 164, rfl⟩
abbrev main_cst_29 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_cst_30 : Ref sig .tc := ⟨.hbm, 172, rfl⟩
abbrev main_v120 : Ref sig .tc := ⟨.hbm, 173, rfl⟩
abbrev main_v121 : Ref sig .tc := ⟨.hbm, 174, rfl⟩
abbrev main_cst_31 : Ref sig .tc := ⟨.hbm, 175, rfl⟩
abbrev main_v122 : Ref sig .tc := ⟨.hbm, 176, rfl⟩
abbrev main_v123 : Ref sig .tc := ⟨.hbm, 177, rfl⟩
abbrev main_cst_32 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_cst_33 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_cst_34 : Ref sig .tc := ⟨.hbm, 188, rfl⟩
abbrev main_v132 : Ref sig .tc := ⟨.hbm, 189, rfl⟩
abbrev main_v133 : Ref sig .tc := ⟨.hbm, 190, rfl⟩
abbrev main_cst_35 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_cst_36 : Ref sig .tc := ⟨.hbm, 197, rfl⟩
abbrev main_v139 : Ref sig .tc := ⟨.hbm, 198, rfl⟩
abbrev main_v140 : Ref sig .tc := ⟨.hbm, 199, rfl⟩
abbrev main_v141 : Ref sig .tc := ⟨.hbm, 200, rfl⟩
abbrev main_cst_37 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_cst_38 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_39 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩

abbrev nD : Nat := 1
abbrev τ : Topo := Topo.v7x

variable {F : FTy → Type} [FloatOps F]
-- ==== KernelDx.lean ====
abbrev S2x2048x1024 : Shape := ⟨3, ![2, 2048, 1024]⟩
abbrev S2x9216 : Shape := ⟨2, ![2, 9216]⟩
abbrev S1x1024 : Shape := ⟨2, ![1, 1024]⟩
abbrev S1024x2816 : Shape := ⟨2, ![1024, 2816]⟩
abbrev S2x2048x2816 : Shape := ⟨3, ![2, 2048, 2816]⟩
abbrev S2x9x1x1024 : Shape := ⟨4, ![2, 9, 1, 1024]⟩
abbrev S4096x4x704 : Shape := ⟨3, ![4096, 4, 704]⟩
abbrev S4x4096x704 : Shape := ⟨3, ![4, 4096, 704]⟩
abbrev S2816x1024 : Shape := ⟨2, ![2816, 1024]⟩
abbrev S4x704x1024 : Shape := ⟨3, ![4, 704, 1024]⟩
abbrev S4096x1024 : Shape := ⟨2, ![4096, 1024]⟩
abbrev S2x1x1024 : Shape := ⟨3, ![2, 1, 1024]⟩
abbrev S4x512x704 : Shape := ⟨3, ![4, 512, 704]⟩
abbrev S512x1024 : Shape := ⟨2, ![512, 1024]⟩
abbrev S1x1x1x1024 : Shape := ⟨4, ![1, 1, 1, 1024]⟩
abbrev S1x1x1024 : Shape := ⟨3, ![1, 1, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩
abbrev S1024 : Shape := ⟨1, ![1024]⟩

abbrev nBuf : Space → Nat
  | .hbm => 27
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S2x9216, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2x2048x1024, .f32⟩
  | .hbm, ⟨6, _⟩ => ⟨S2x2048x2816, .f32⟩
  | .hbm, ⟨7, _⟩ => ⟨S2x2048x2816, .f32⟩
  | .hbm, ⟨8, _⟩ => ⟨S2x9x1x1024, .f32⟩
  | .hbm, ⟨9, _⟩ => ⟨S4096x4x704, .f32⟩
  | .hbm, ⟨10, _⟩ => ⟨S4x4096x704, .f32⟩
  | .hbm, ⟨11, _⟩ => ⟨S4x4096x704, .bf16⟩
  | .hbm, ⟨12, _⟩ => ⟨S4096x4x704, .f32⟩
  | .hbm, ⟨13, _⟩ => ⟨S4x4096x704, .f32⟩
  | .hbm, ⟨14, _⟩ => ⟨S4x4096x704, .bf16⟩
  | .hbm, ⟨15, _⟩ => ⟨S2816x1024, .f32⟩
  | .hbm, ⟨16, _⟩ => ⟨S4x704x1024, .f32⟩
  | .hbm, ⟨17, _⟩ => ⟨S4x704x1024, .bf16⟩
  | .hbm, ⟨18, _⟩ => ⟨S2816x1024, .f32⟩
  | .hbm, ⟨19, _⟩ => ⟨S4x704x1024, .f32⟩
  | .hbm, ⟨20, _⟩ => ⟨S4x704x1024, .bf16⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S2x1x1024, .f32⟩
  | .hbm, ⟨25, _⟩ => ⟨S2x1x1024, .f32⟩
  | .hbm, ⟨26, _⟩ => ⟨S1x1024, .f32⟩
  | .local _ .vmem, ⟨0, _⟩ => ⟨S4x512x704, .bf16⟩
  | .local _ .vmem, ⟨1, _⟩ => ⟨S4x512x704, .bf16⟩
  | .local _ .vmem, ⟨2, _⟩ => ⟨S4x512x704, .bf16⟩
  | .local _ .vmem, ⟨3, _⟩ => ⟨S4x512x704, .bf16⟩
  | .local _ .vmem, ⟨4, _⟩ => ⟨S4x704x1024, .bf16⟩
  | .local _ .vmem, ⟨5, _⟩ => ⟨S4x704x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1x1x1024, .f32⟩
  | .local _ .vmem, ⟨12, _⟩ => ⟨S1x1x1x1024, .f32⟩
  | .local _ .vmem, ⟨13, _⟩ => ⟨S512x1024, .f32⟩
  | .local _ .vmem, ⟨14, _⟩ => ⟨S512x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev main_v15_3 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v94 : BitVec 1 := Scalar.cmpi .eq c4_i32 c0_i32
  let c1_i32 : BitVec 32 := 1#32
  let v95 : BitVec 32 := Scalar.select v94 c1_i32 c4_i32
  let v96 : BitVec 32 := Scalar.remsi arg0 v95
  let c0_i32_73 : BitVec 32 := 0#32
  let v98 : BitVec 1 := Scalar.cmpi .slt v96 c0_i32_73
  let c0_i32_74 : BitVec 32 := 0#32
  let v99 : BitVec 1 := Scalar.cmpi .slt v95 c0_i32_74
  let v100 : BitVec 1 := Scalar.xori v98 v99
  let c0_i32_72 : BitVec 32 := 0#32
  let v97 : BitVec 1 := Scalar.cmpi .ne v96 c0_i32_72
  let v101 : BitVec 1 := Scalar.andi v100 v97
  let v102 : BitVec 32 := Scalar.addi v96 v95
  let v103 : BitVec 32 := Scalar.select v101 v102 v96
  let c0_i32_75 : BitVec 32 := 0#32
  let v104 : BitVec 1 := Scalar.cmpi .eq v103 c0_i32_75
  let v105 : BitVec 32 := Scalar.extui v104
  let c0_i32_76 : BitVec 32 := 0#32
  let v106 : BitVec 1 := Scalar.cmpi .ne v105 c0_i32_76
  v106

def k0_cond2 (i : grid0.Coords) : BitVec 1 :=
  let arg0 : BitVec 32 := BitVec.ofNat 32 (i 0).val
  let c4_i32_77 : BitVec 32 := 4#32
  let c0_i32_78 : BitVec 32 := 0#32
  let v107 : BitVec 1 := Scalar.cmpi .eq c4_i32_77 c0_i32_78
  let c1_i32_79 : BitVec 32 := 1#32
  let v108 : BitVec 32 := Scalar.select v107 c1_i32_79 c4_i32_77
  let v109 : BitVec 32 := Scalar.remsi arg0 v108
  let c0_i32_81 : BitVec 32 := 0#32
  let v111 : BitVec 1 := Scalar.cmpi .slt v109 c0_i32_81
  let c0_i32_82 : BitVec 32 := 0#32
  let v112 : BitVec 1 := Scalar.cmpi .slt v108 c0_i32_82
  let v113 : BitVec 1 := Scalar.xori v111 v112
  let c0_i32_80 : BitVec 32 := 0#32
  let v110 : BitVec 1 := Scalar.cmpi .ne v109 c0_i32_80
  let v114 : BitVec 1 := Scalar.andi v113 v110
  let v115 : BitVec 32 := Scalar.addi v109 v108
  let v116 : BitVec 32 := Scalar.select v114 v115 v109
  let c0_i32_83 : BitVec 32 := 0#32
  let v117 : BitVec 1 := Scalar.cmpi .ne v116 c0_i32_83
  let v118 : BitVec 32 := Scalar.extui v117
  let c0_i32_84 : BitVec 32 := 0#32
  let v119 : BitVec 1 := Scalar.cmpi .ne v118 c0_i32_84
  v119

def k0_cond3 (i : grid0.Coords) : BitVec 1 :=
  let arg0 : BitVec 32 := BitVec.ofNat 32 (i 0).val
  let c0_i32_85 : BitVec 32 := 0#32
  let v120 : BitVec 1 := Scalar.cmpi .eq arg0 c0_i32_85
  let v121 : BitVec 32 := Scalar.extui v120
  let c0_i32_86 : BitVec 32 := 0#32
  let v122 : BitVec 1 := Scalar.cmpi .ne v121 c0_i32_86
  v122

def k0_cond4 (i : grid0.Coords) : BitVec 1 :=
  let arg0 : BitVec 32 := BitVec.ofNat 32 (i 0).val
  let c0_i32_87 : BitVec 32 := 0#32
  let v123 : BitVec 1 := Scalar.cmpi .ne arg0 c0_i32_87
  let v124 : BitVec 32 := Scalar.extui v123
  let c0_i32_88 : BitVec 32 := 0#32
  let v125 : BitVec 1 := Scalar.cmpi .ne v124 c0_i32_88
  v125

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let c0_i32_4 : BitVec 32 := 0#32
  let c0_i32_5 : BitVec 32 := 0#32
  let c0_i32_6 : BitVec 32 := 0#32
  ![v16.toNat, c7_i32.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x704x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceDxIdeal.lean ====
abbrev S2x2048x1024 : Shape := ⟨3, ![2, 2048, 1024]⟩
abbrev S2x9216 : Shape := ⟨2, ![2, 9216]⟩
abbrev S1x1024 : Shape := ⟨2, ![1, 1024]⟩
abbrev S1024x2816 : Shape := ⟨2, ![1024, 2816]⟩
abbrev S2x2048x2816 : Shape := ⟨3, ![2, 2048, 2816]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩

abbrev nBuf : Space → Nat
  | .hbm => 95
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x9216, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2x2048x1024, .f32⟩
  | .hbm, ⟨6, _⟩ => ⟨S2x2048x2816, .f32⟩
  | .hbm, ⟨7, _⟩ => ⟨S2x2048x2816, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S2x1x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x2048x2816, .f32⟩
  | .hbm, ⟨48, _⟩ => ⟨S2x2048x2816, .f32⟩
  | .hbm, ⟨49, _⟩ => ⟨S2x2048x1024, .f32⟩
  | .hbm, ⟨50, _⟩ => ⟨S2x2048x1024, .f32⟩
  | .hbm, ⟨51, _⟩ => ⟨S2x2048x1024, .f32⟩
  | .hbm, ⟨52, _⟩ => ⟨S_, .f32⟩
  | .hbm, ⟨53, _⟩ => ⟨S2x1024, .f32⟩
  | .hbm, ⟨54, _⟩ => ⟨S2x1x1024, .f32⟩
  | .hbm, ⟨55, _⟩ => ⟨S_, .f32⟩
  | .hbm, ⟨56, _⟩ => ⟨S2x1024, .f32⟩
  | .hbm, ⟨57, _⟩ => ⟨S2x2048x1024, .f32⟩
  | .hbm, ⟨58, _⟩ => ⟨S_, .f32⟩
  | .hbm, ⟨59, _⟩ => ⟨S2x1024, .f32⟩
  | .hbm, ⟨60, _⟩ => ⟨S2x1x1024, .f32⟩
  | .hbm, ⟨61, _⟩ => ⟨S2x2048x1024, .f32⟩
  | .hbm, ⟨62, _⟩ => ⟨S2x2048x1024, .f32⟩
  | .hbm, ⟨63, _⟩ => ⟨S_, .f32⟩
  | .hbm, ⟨64, _⟩ => ⟨S2x1024, .f32⟩
  | .hbm, ⟨65, _⟩ => ⟨S2x2048x1024, .f32⟩
  | .hbm, ⟨66, _⟩ => ⟨S_, .f32⟩
  | .hbm, ⟨67, _⟩ => ⟨S1024, .f32⟩
  | .hbm, ⟨68, _⟩ => ⟨S1x1x1024, .f32⟩
  | .hbm, ⟨69, _⟩ => ⟨S2x2048x1024, .f32⟩
  | .hbm, ⟨70, _⟩ => ⟨S2x2048x1024, .f32⟩
  | .hbm, ⟨71, _⟩ => ⟨S_, .f32⟩
  | .hbm, ⟨72, _⟩ => ⟨S1024, .f32⟩
  | .hbm, ⟨73, _⟩ => ⟨S2x2048x1024, .f32⟩
  | .hbm, ⟨74, _⟩ => ⟨S_, .f32⟩
  | .hbm, ⟨75, _⟩ => ⟨S2x2048, .f32⟩
  | .hbm, ⟨76, _⟩ => ⟨S2x2048x1, .f32⟩
  | .hbm, ⟨77, _⟩ => ⟨S2x2048x1024, .f32⟩
  | .hbm, ⟨78, _⟩ => ⟨S2x2048x1024, .f32⟩
  | .hbm, ⟨79, _⟩ => ⟨S2x2048x1024, .f32⟩
  | .hbm, ⟨80, _⟩ => ⟨S2x2048x1, .f32⟩
  | .hbm, ⟨81, _⟩ => ⟨S_, .f32⟩
  | .hbm, ⟨82, _⟩ => ⟨S2x2048x1, .f32⟩
  | .hbm, ⟨83, _⟩ => ⟨S2x2048x1, .f32⟩
  | .hbm, ⟨84, _⟩ => ⟨S_, .f32⟩
  | .hbm, ⟨85, _⟩ => ⟨S2x2048, .f32⟩
  | .hbm, ⟨86, _⟩ => ⟨S2x2048x1024, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S4096x1024, .f32⟩
  | .hbm, ⟨92, _⟩ => ⟨S2x1x1024, .f32⟩
  | .hbm, ⟨93, _⟩ => ⟨S2x1x1024, .f32⟩
  | .hbm, ⟨94, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_4 : Ref sig .tc := ⟨.hbm, 52, rfl⟩
abbrev main_v39 : Ref sig .tc := ⟨.hbm, 53, rfl⟩
abbrev main_v40 : Ref sig .tc := ⟨.hbm, 54, rfl⟩
abbrev main_cst_5 : Ref sig .tc := ⟨.hbm, 55, rfl⟩
abbrev main_v41 : Ref sig .tc := ⟨.hbm, 56, rfl⟩
abbrev main_v42 : Ref sig .tc := ⟨.hbm, 57, rfl⟩
abbrev main_cst_6 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_9 : Ref sig .tc := ⟨.hbm, 71, rfl⟩
abbrev main_v53 : Ref sig .tc := ⟨.hbm, 72, rfl⟩
abbrev main_v54 : Ref sig .tc := ⟨.hbm, 73, rfl⟩
abbrev main_cst_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_11 : Ref sig .tc := ⟨.hbm, 81, rfl⟩
abbrev main_v61 : Ref sig .tc := ⟨.hbm, 82, rfl⟩
abbrev main_v62 : Ref sig .tc := ⟨.hbm, 83, rfl⟩
abbrev main_cst_12 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩

abbrev nD : Nat := 1
abbrev τ : Topo := Topo.v7x

variable {F : FTy → Type} [FloatOps F]
-- ==== KernelDxM.lean ====
abbrev S2x2048x1024 : Shape := ⟨3, ![2, 2048, 1024]⟩
abbrev S2x9216 : Shape := ⟨2, ![2, 9216]⟩
abbrev S1x1024 : Shape := ⟨2, ![1, 1024]⟩
abbrev S1024x3840 : Shape := ⟨2, ![1024, 3840]⟩
abbrev S2x2048x768 : Shape := ⟨3, ![2, 2048, 768]⟩
abbrev S2x2048x2048 : Shape := ⟨3, ![2, 2048, 2048]⟩
abbrev S2x9x1x1024 : Shape := ⟨4, ![2, 9, 1, 1024]⟩
abbrev S3840x1024 : Shape := ⟨2, ![3840, 1024]⟩
abbrev S4096x1024 : Shape := ⟨2, ![4096, 1024]⟩
abbrev S4096x768 : Shape := ⟨2, ![4096, 768]⟩
abbrev S4096x2048 : Shape := ⟨2, ![4096, 2048]⟩
abbrev S2x1x1024 : Shape := ⟨3, ![2, 1, 1024]⟩
abbrev S512x1024 : Shape := ⟨2, ![512, 1024]⟩
abbrev S512x768 : Shape := ⟨2, ![512, 768]⟩
abbrev S512x2048 : Shape := ⟨2, ![512, 2048]⟩
abbrev S1x1x1x1024 : Shape := ⟨4, ![1, 1, 1, 1024]⟩
abbrev S1x1x1024 : Shape := ⟨3, ![1, 1, 1024]⟩
abbrev S1024x1024 : Shape := ⟨2, ![1024, 1024]⟩
abbrev S768x1024 : Shape := ⟨2, ![768, 1024]⟩
abbrev S2048x1024 : Shape := ⟨2, ![2048, 1024]⟩
abbrev S512 : Shape := ⟨1, ![512]⟩
abbrev S512x1 : Shape := ⟨2, ![512, 1]⟩
abbrev S1024 : Shape := ⟨1, ![1024]⟩

abbrev nBuf : Space → Nat
  | .hbm => 23
  | .vmem => 21
  | .smem => 0
  | _ => 0

abbrev bufTy : (tb : Table) → Fin (tcTables nBuf tb) → BufTy
  | .hbm, ⟨0, _⟩ => ⟨S2x2048x1024, .f32⟩
  | .hbm, ⟨1, _⟩ => ⟨S2x9216, .f32⟩
  | .hbm, ⟨2, _⟩ => ⟨S1x1024, .f32⟩
  | .hbm, ⟨3, _⟩ => ⟨S1024x3840, .f32⟩
  | .hbm, ⟨4, _⟩ => ⟨S2x2048x1024, .f32⟩
  | .hbm, ⟨5, _⟩ => ⟨S2x2048x1024, .f32⟩
  | .hbm, ⟨6, _⟩ => ⟨S2x2048x768, .f32⟩
  | .hbm, ⟨7, _⟩ => ⟨S2x2048x2048, .f32⟩
  | .hbm, ⟨8, _⟩ => ⟨S2x9x1x1024, .f32⟩
  | .hbm, ⟨9, _⟩ => ⟨S3840x1024, .f32⟩
  | .hbm, ⟨10, _⟩ => ⟨S3840x1024, .bf16⟩
  | .hbm, ⟨11, _⟩ => ⟨S4096x1024, .f32⟩
  | .hbm, ⟨12, _⟩ => ⟨S4096x1024, .bf16⟩
  | .hbm, ⟨13, _⟩ => ⟨S4096x768, .f32⟩
  | .hbm, ⟨14, _⟩ => ⟨S4096x768, .bf16⟩
  | .hbm, ⟨15, _⟩ => ⟨S4096x2048, .f32⟩
  | .hbm, ⟨16, _⟩ => ⟨S4096x2048, .bf16⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S2x1x1024, .f32⟩
  | .hbm, ⟨21, _⟩ => ⟨S2x1x1024, .f32⟩
  | .hbm, ⟨22, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S512x2048, .bf16⟩
  | .local _ .vmem, ⟨5, _⟩ => ⟨S512x2048, .bf16⟩
  | .local _ .vmem, ⟨6, _⟩ => ⟨S3840x1024, .bf16⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1x1x1024, .f32⟩
  | .local _ .vmem, ⟨13, _⟩ => ⟨S1x1x1x1024, .f32⟩
  | .local _ .vmem, ⟨14, _⟩ => ⟨S512x1024, .f32⟩
  | .local _ .vmem, ⟨15, _⟩ => ⟨S512x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x1x1024, .f32⟩
  | .local _ .vmem, ⟨19, _⟩ => ⟨S1x1x1024, .f32⟩
  | .local _ .vmem, ⟨20, _⟩ => ⟨S1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v64 : BitVec 1 := Scalar.cmpi .eq c4_i32 c0_i32
  let c1_i32 : BitVec 32 := 1#32
  let v65 : BitVec 32 := Scalar.select v64 c1_i32 c4_i32
  let v66 : BitVec 32 := Scalar.remsi arg0 v65
  let c0_i32_33 : BitVec 32 := 0#32
  let v68 : BitVec 1 := Scalar.cmpi .slt v66 c0_i32_33
  let c0_i32_34 : BitVec 32 := 0#32
  let v69 : BitVec 1 := Scalar.cmpi .slt v65 c0_i32_34
  let v70 : BitVec 1 := Scalar.xori v68 v69
  let c0_i32_32 : BitVec 32 := 0#32
  let v67 : BitVec 1 := Scalar.cmpi .ne v66 c0_i32_32
  let v71 : BitVec 1 := Scalar.andi v70 v67
  let v72 : BitVec 32 := Scalar.addi v66 v65
  let v73 : BitVec 32 := Scalar.select v71 v72 v66
  let c0_i32_35 : BitVec 32 := 0#32
  let v74 : BitVec 1 := Scalar.cmpi .eq v73 c0_i32_35
  let v75 : BitVec 32 := Scalar.extui v74
  let c0_i32_36 : BitVec 32 := 0#32
  let v76 : BitVec 1 := Scalar.cmpi .ne v75 c0_i32_36
  v76

def k0_cond2 (i : grid0.Coords) : BitVec 1 :=
  let arg0 : BitVec 32 := BitVec.ofNat 32 (i 0).val
  let c4_i32_37 : BitVec 32 := 4#32
  let c0_i32_38 : BitVec 32 := 0#32
  let v77 : BitVec 1 := Scalar.cmpi .eq c4_i32_37 c0_i32_38
  let c1_i32_39 : BitVec 32 := 1#32
  let v78 : BitVec 32 := Scalar.select v77 c1_i32_39 c4_i32_37
  let v79 : BitVec 32 := Scalar.remsi arg0 v78
  let c0_i32_41 : BitVec 32 := 0#32
  let v81 : BitVec 1 := Scalar.cmpi .slt v79 c0_i32_41
  let c0_i32_42 : BitVec 32 := 0#32
  let v82 : BitVec 1 := Scalar.cmpi .slt v78 c0_i32_42
  let v83 : BitVec 1 := Scalar.xori v81 v82
  let c0_i32_40 : BitVec 32 := 0#32
  let v80 : BitVec 1 := Scalar.cmpi .ne v79 c0_i32_40
  let v84 : BitVec 1 := Scalar.andi v83 v80
  let v85 : BitVec 32 := Scalar.addi v79 v78
  let v86 : BitVec 32 := Scalar.select v84 v85 v79
  let c0_i32_43 : BitVec 32 := 0#32
  let v87 : BitVec 1 := Scalar.cmpi .ne v86 c0_i32_43
  let v88 : BitVec 32 := Scalar.extui v87
  let c0_i32_44 : BitVec 32 := 0#32
  let v89 : BitVec 1 := Scalar.cmpi .ne v88 c0_i32_44
  v89

def k0_cond3 (i : grid0.Coords) : BitVec 1 :=
  let arg0 : BitVec 32 := BitVec.ofNat 32 (i 0).val
  let c0_i32_45 : BitVec 32 := 0#32
  let v90 : BitVec 1 := Scalar.cmpi .eq arg0 c0_i32_45
  let v91 : BitVec 32 := Scalar.extui v90
  let c0_i32_46 : BitVec 32 := 0#32
  let v92 : BitVec 1 := Scalar.cmpi .ne v91 c0_i32_46
  v92

def k0_cond4 (i : grid0.Coords) : BitVec 1 :=
  let arg0 : BitVec 32 := BitVec.ofNat 32 (i 0).val
  let c0_i32_47 : BitVec 32 := 0#32
  let v93 : BitVec 1 := Scalar.cmpi .ne arg0 c0_i32_47
  let v94 : BitVec 32 := Scalar.extui v93
  let c0_i32_48 : BitVec 32 := 0#32
  let v95 : BitVec 1 := Scalar.cmpi .ne v94 c0_i32_48
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let c0_i32_6 : BitVec 32 := 0#32
  let c0_i32_7 : BitVec 32 := 0#32
  ![v16.toNat, c4_i32_4.toNat, c0_i32_5.toNat, c0_i32_6.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3840x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceDxMIdeal.lean ====
abbrev S2x2048x1024 : Shape := ⟨3, ![2, 2048, 1024]⟩
abbrev S2x9216 : Shape := ⟨2, ![2, 9216]⟩
abbrev S1x1024 : Shape := ⟨2, ![1, 1024]⟩
abbrev S1024x3840 : Shape := ⟨2, ![1024, 3840]⟩
abbrev S2x2048x768 : Shape := ⟨3, ![2, 2048, 768]⟩
abbrev S2x2048x2048 : Shape := ⟨3, ![2, 2048, 2048]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S2x2048x3840 : Shape := ⟨3, ![2, 2048, 3840]⟩
abbrev S4096x1024 : Shape := ⟨2, ![4096, 1024]⟩

abbrev nBuf : Space → Nat
  | .hbm => 96
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x9216, .f32⟩
  | .hbm, ⟨2, _⟩ => ⟨S1x1024, .f32⟩
  | .hbm, ⟨3, _⟩ => ⟨S1024x3840, .f32⟩
  | .hbm, ⟨4, _⟩ => ⟨S2x2048x1024, .f32⟩
  | .hbm, ⟨5, _⟩ => ⟨S2x2048x1024, .f32⟩
  | .hbm, ⟨6, _⟩ => ⟨S2x2048x768, .f32⟩
  | .hbm, ⟨7, _⟩ => ⟨S2x2048x2048, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S1024, .f32⟩
  | .hbm, ⟨18, _⟩ => ⟨S2x2048x1024, .f32⟩
  | .hbm, ⟨19, _⟩ => ⟨S_, .f32⟩
  | .hbm, ⟨20, _⟩ => ⟨S2x2048, .f32⟩
  | .hbm, ⟨21, _⟩ => ⟨S2x2048x1, .f32⟩
  | .hbm, ⟨22, _⟩ => ⟨S_, .f32⟩
  | .hbm, ⟨23, _⟩ => ⟨S2x2048x1, .f32⟩
  | .hbm, ⟨24, _⟩ => ⟨S2x2048x1, .f32⟩
  | .hbm, ⟨25, _⟩ => ⟨S_, .f32⟩
  | .hbm, ⟨26, _⟩ => ⟨S2x2048x1, .f32⟩
  | .hbm, ⟨27, _⟩ => ⟨S2x2048x1, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1024, .f32⟩
  | .hbm, ⟨34, _⟩ => ⟨S2x2048x1024, .f32⟩
  | .hbm, ⟨35, _⟩ => ⟨S1x1x1024, .f32⟩
  | .hbm, ⟨36, _⟩ => ⟨S2x2048x1024, .f32⟩
  | .hbm, ⟨37, _⟩ => ⟨S2x2048x1024, .f32⟩
  | .hbm, ⟨38, _⟩ => ⟨S2x1x1024, .f32⟩
  | .hbm, ⟨39, _⟩ => ⟨S_, .f32⟩
  | .hbm, ⟨40, _⟩ => ⟨S2x1x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x1x1024, .f32⟩
  | .hbm, ⟨45, _⟩ => ⟨S2x2048x1024, .f32⟩
  | .hbm, ⟨46, _⟩ => ⟨S2x2048x1024, .f32⟩
  | .hbm, ⟨47, _⟩ => ⟨S2x2048x3840, .f32⟩
  | .hbm, ⟨48, _⟩ => ⟨S2x2048x1024, .f32⟩
  | .hbm, ⟨49, _⟩ => ⟨S2x2048x768, .f32⟩
  | .hbm, ⟨50, _⟩ => ⟨S2x2048x2048, .f32⟩
  | .hbm, ⟨51, _⟩ => ⟨S2x2048x3840, .f32⟩
  | .hbm, ⟨52, _⟩ => ⟨S2x2048x1024, .f32⟩
  | .hbm, ⟨53, _⟩ => ⟨S_, .f32⟩
  | .hbm, ⟨54, _⟩ => ⟨S2x1024, .f32⟩
  | .hbm, ⟨55, _⟩ => ⟨S2x1x1024, .f32⟩
  | .hbm, ⟨56, _⟩ => ⟨S_, .f32⟩
  | .hbm, ⟨57, _⟩ => ⟨S2x1024, .f32⟩
  | .hbm, ⟨58, _⟩ => ⟨S2x2048x1024, .f32⟩
  | .hbm, ⟨59, _⟩ => ⟨S_, .f32⟩
  | .hbm, ⟨60, _⟩ => ⟨S2x1024, .f32⟩
  | .hbm, ⟨61, _⟩ => ⟨S2x1x1024, .f32⟩
  | .hbm, ⟨62, _⟩ => ⟨S2x2048x1024, .f32⟩
  | .hbm, ⟨63, _⟩ => ⟨S2x2048x1024, .f32⟩
  | .hbm, ⟨64, _⟩ => ⟨S_, .f32⟩
  | .hbm, ⟨65, _⟩ => ⟨S2x1024, .f32⟩
  | .hbm, ⟨66, _⟩ => ⟨S2x2048x1024, .f32⟩
  | .hbm, ⟨67, _⟩ => ⟨S_, .f32⟩
  | .hbm, ⟨68, _⟩ => ⟨S1024, .f32⟩
  | .hbm, ⟨69, _⟩ => ⟨S1x1x1024, .f32⟩
  | .hbm, ⟨70, _⟩ => ⟨S2x2048x1024, .f32⟩
  | .hbm, ⟨71, _⟩ => ⟨S2x2048x1024, .f32⟩
  | .hbm, ⟨72, _⟩ => ⟨S_, .f32⟩
  | .hbm, ⟨73, _⟩ => ⟨S1024, .f32⟩
  | .hbm, ⟨74, _⟩ => ⟨S2x2048x1024, .f32⟩
  | .hbm, ⟨75, _⟩ => ⟨S_, .f32⟩
  | .hbm, ⟨76, _⟩ => ⟨S2x2048, .f32⟩
  | .hbm, ⟨77, _⟩ => ⟨S2x2048x1, .f32⟩
  | .hbm, ⟨78, _⟩ => ⟨S2x2048x1024, .f32⟩
  | .hbm, ⟨79, _⟩ => ⟨S2x2048x1024, .f32⟩
  | .hbm, ⟨80, _⟩ => ⟨S2x2048x1024, .f32⟩
  | .hbm, ⟨81, _⟩ => ⟨S2x2048x1, .f32⟩
  | .hbm, ⟨82, _⟩ => ⟨S_, .f32⟩
  | .hbm, ⟨83, _⟩ => ⟨S2x2048x1, .f32⟩
  | .hbm, ⟨84, _⟩ => ⟨S2x2048x1, .f32⟩
  | .hbm, ⟨85, _⟩ => ⟨S_, .f32⟩
  | .hbm, ⟨86, _⟩ => ⟨S2x2048, .f32⟩
  | .hbm, ⟨87, _⟩ => ⟨S2x2048x1024, .f32⟩
  | .hbm, ⟨88, _⟩ => ⟨S2x2048x1024, .f32⟩
  | .hbm, ⟨89, _⟩ => ⟨S2x2048x1024, .f32⟩
  | .hbm, ⟨90, _⟩ => ⟨S2x2048x1024, .f32⟩
  | .hbm, ⟨91, _⟩ => ⟨S2x2048x1024, .f32⟩
  | .hbm, ⟨92, _⟩ => ⟨S4096x1024, .f32⟩
  | .hbm, ⟨93, _⟩ => ⟨S2x1x1024, .f32⟩
  | .hbm, ⟨94, _⟩ => ⟨S2x1x1024, .f32⟩
  | .hbm, ⟨95, _⟩ => ⟨S1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_cst_6 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_9 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_11 : Ref sig .tc := ⟨.hbm, 82, rfl⟩
abbrev main_v62 : Ref sig .tc := ⟨.hbm, 83, rfl⟩
abbrev main_v63 : Ref sig .tc := ⟨.hbm, 84, rfl⟩
abbrev main_cst_12 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== KernelMix.lean ====
abbrev S2x2048x512 : Shape := ⟨3, ![2, 2048, 512]⟩
abbrev S2x2048x1024 : Shape := ⟨3, ![2, 2048, 1024]⟩
abbrev S2x9216 : Shape := ⟨2, ![2, 9216]⟩
abbrev S512x1024 : Shape := ⟨2, ![512, 1024]⟩
abbrev S1024x1024 : Shape := ⟨2, ![1024, 1024]⟩
abbrev S2x9x1x1024 : Shape := ⟨4, ![2, 9, 1, 1024]⟩
abbrev S2x2048x2048 : Shape := ⟨3, ![2, 2048, 2048]⟩
abbrev S4096x2048 : Shape := ⟨2, ![4096, 2048]⟩
abbrev S4096x512 : Shape := ⟨2, ![4096, 512]⟩
abbrev S4096x1024 : Shape := ⟨2, ![4096, 1024]⟩
abbrev S_ : Shape := ⟨0, ![]⟩
abbrev S2x1x1024 : Shape := ⟨3, ![2, 1, 1024]⟩
abbrev S1x1x1x1024 : Shape := ⟨4, ![1, 1, 1, 1024]⟩
abbrev S512x2048 : Shape := ⟨2, ![512, 2048]⟩
abbrev S512x512 : Shape := ⟨2, ![512, 512]⟩
abbrev S1x1x1024 : Shape := ⟨3, ![1, 1, 1024]⟩
abbrev S1x1024 : Shape := ⟨2, ![1, 1024]⟩
abbrev S1024 : Shape := ⟨1, ![1024]⟩

abbrev nBuf : Space → Nat
  | .hbm => 58
  | .vmem => 29
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x9216, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S2x9x1x1024, .f32⟩
  | .hbm, ⟨10, _⟩ => ⟨S512x1024, .bf16⟩
  | .hbm, ⟨11, _⟩ => ⟨S512x1024, .bf16⟩
  | .hbm, ⟨12, _⟩ => ⟨S1024x1024, .bf16⟩
  | .hbm, ⟨13, _⟩ => ⟨S2x2048x2048, .f32⟩
  | .hbm, ⟨14, _⟩ => ⟨S4096x2048, .f32⟩
  | .hbm, ⟨15, _⟩ => ⟨S4096x2048, .bf16⟩
  | .hbm, ⟨16, _⟩ => ⟨S4096x512, .f32⟩
  | .hbm, ⟨17, _⟩ => ⟨S4096x512, .bf16⟩
  | .hbm, ⟨18, _⟩ => ⟨S4096x1024, .f32⟩
  | .hbm, ⟨19, _⟩ => ⟨S4096x512, .f32⟩
  | .hbm, ⟨20, _⟩ => ⟨S4096x512, .bf16⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .bf16⟩
  | .hbm, ⟨46, _⟩ => ⟨S4096x1024, .f32⟩
  | .hbm, ⟨47, _⟩ => ⟨S4096x1024, .bf16⟩
  | .hbm, ⟨48, _⟩ => ⟨S4096x1024, .f32⟩
  | .hbm, ⟨49, _⟩ => ⟨S4096x1024, .bf16⟩
  | .hbm, ⟨50, _⟩ => ⟨S4096x1024, .bf16⟩
  | .hbm, ⟨51, _⟩ => ⟨S4096x2048, .bf16⟩
  | .hbm, ⟨52, _⟩ => ⟨S4096x1024, .bf16⟩
  | .hbm, ⟨53, _⟩ => ⟨S4096x1024, .bf16⟩
  | .hbm, ⟨54, _⟩ => ⟨S4096x512, .bf16⟩
  | .hbm, ⟨55, _⟩ => ⟨S4096x512, .bf16⟩
  | .hbm, ⟨56, _⟩ => ⟨S4096x1024, .bf16⟩
  | .hbm, ⟨57, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1x1024, .f32⟩
  | .local _ .vmem, ⟨5, _⟩ => ⟨S1x1x1x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S512x2048, .bf16⟩
  | .local _ .vmem, ⟨16, _⟩ => ⟨S512x2048, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x1024, .bf16⟩
  | .local _ .vmem, ⟨26, _⟩ => ⟨S512x1024, .bf16⟩
  | .local _ .vmem, ⟨27, _⟩ => ⟨S1x1x1024, .f32⟩
  | .local _ .vmem, ⟨28, _⟩ => ⟨S1x1x1024, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst : Ref sig .tc := ⟨.hbm, 26, rfl⟩
abbrev main_v17 : Ref sig .tc := ⟨.hbm, 27, rfl⟩
abbrev main_v18 : Ref sig .tc := ⟨.hbm, 28, rfl⟩
abbrev main_cst_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38_0 : Ref sig .tc := ⟨.hbm, 51, rfl⟩
abbrev main_v38_1 : Ref sig .tc := ⟨.hbm, 52, rfl⟩
abbrev main_v38_2 : Ref sig .tc := ⟨.hbm, 53, rfl⟩
abbrev main_v38_3 : Ref sig .tc := ⟨.hbm, 54, rfl⟩
abbrev main_v38_4 : Ref sig .tc := ⟨.hbm, 55, rfl⟩
abbrev main_v38_5 : Ref sig .tc := ⟨.hbm, 56, rfl⟩
abbrev main_v38_6 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v14 : BitVec 1 := Scalar.cmpi .eq c4_i32 c0_i32
  let c1_i32 : BitVec 32 := 1#32
  let v15 : BitVec 32 := Scalar.select v14 c1_i32 c4_i32
  let v16 : BitVec 32 := Scalar.remsi arg0 v15
  let c0_i32_10 : BitVec 32 := 0#32
  let v18 : BitVec 1 := Scalar.cmpi .slt v16 c0_i32_10
  let c0_i32_11 : BitVec 32 := 0#32
  let v19 : BitVec 1 := Scalar.cmpi .slt v15 c0_i32_11
  let v20 : BitVec 1 := Scalar.xori v18 v19
  let c0_i32_9 : BitVec 32 := 0#32
  let v17 : BitVec 1 := Scalar.cmpi .ne v16 c0_i32_9
  let v21 : BitVec 1 := Scalar.andi v20 v17
  let v22 : BitVec 32 := Scalar.addi v16 v15
  let v23 : BitVec 32 := Scalar.select v21 v22 v16
  let c0_i32_12 : BitVec 32 := 0#32
  let v24 : BitVec 1 := Scalar.cmpi .eq v23 c0_i32_12
  let v25 : BitVec 32 := Scalar.extui v24
  let c0_i32_13 : BitVec 32 := 0#32
  let v26 : BitVec 1 := Scalar.cmpi .ne v25 c0_i32_13
  v26

def k0_cond2 (i : grid0.Coords) : BitVec 1 :=
  let arg0 : BitVec 32 := BitVec.ofNat 32 (i 0).val
  let c4_i32_14 : BitVec 32 := 4#32
  let c0_i32_15 : BitVec 32 := 0#32
  let v27 : BitVec 1 := Scalar.cmpi .eq c4_i32_14 c0_i32_15
  let c1_i32_16 : BitVec 32 := 1#32
  let v28 : BitVec 32 := Scalar.select v27 c1_i32_16 c4_i32_14
  let v29 : BitVec 32 := Scalar.remsi arg0 v28
  let c0_i32_18 : BitVec 32 := 0#32
  let v31 : BitVec 1 := Scalar.cmpi .slt v29 c0_i32_18
  let c0_i32_19 : BitVec 32 := 0#32
  let v32 : BitVec 1 := Scalar.cmpi .slt v28 c0_i32_19
  let v33 : BitVec 1 := Scalar.xori v31 v32
  let c0_i32_17 : BitVec 32 := 0#32
  let v30 : BitVec 1 := Scalar.cmpi .ne v29 c0_i32_17
  let v34 : BitVec 1 := Scalar.andi v33 v30
  let v35 : BitVec 32 := Scalar.addi v29 v28
  let v36 : BitVec 32 := Scalar.select v34 v35 v29
  let c0_i32_20 : BitVec 32 := 0#32
  let v37 : BitVec 1 := Scalar.cmpi .ne v36 c0_i32_20
  let v38 : BitVec 32 := Scalar.extui v37
  let c0_i32_21 : BitVec 32 := 0#32
  let v39 : BitVec 1 := Scalar.cmpi .ne v38 c0_i32_21
  v39

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceMixIdeal.lean ====
abbrev S2x2048x512 : Shape := ⟨3, ![2, 2048, 512]⟩
abbrev S2x2048x1024 : Shape := ⟨3, ![2, 2048, 1024]⟩
abbrev S2x9216 : Shape := ⟨2, ![2, 9216]⟩
abbrev S512x1024 : Shape := ⟨2, ![512, 1024]⟩
abbrev S1024x1024 : Shape := ⟨2, ![1024, 1024]⟩
abbrev S2x1024 : Shape := ⟨2, ![2, 1024]⟩
abbrev S_ : Shape := ⟨0, ![]⟩
abbrev S2x1x1024 : Shape := ⟨3, ![2, 1, 1024]⟩
abbrev S2x2048x2048 : Shape := ⟨3, ![2, 2048, 2048]⟩
abbrev S4096x2048 : Shape := ⟨2, ![4096, 2048]⟩
abbrev S4096x1024 : Shape := ⟨2, ![4096, 1024]⟩
abbrev S4096x512 : Shape := ⟨2, ![4096, 512]⟩

abbrev nBuf : Space → Nat
  | .hbm => 87
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x9216, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S2x2048x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S_, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S2x2048x1024, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S_, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S2x2048x1024, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S_, .f32⟩
  | .hbm, ⟨40, _⟩ => ⟨S2x2048x1024, .f32⟩
  | .hbm, ⟨41, _⟩ => ⟨S2x2048x1024, .f32⟩
  | .hbm, ⟨42, _⟩ => ⟨S_, .f32⟩
  | .hbm, ⟨43, _⟩ => ⟨S2x2048x1024, .f32⟩
  | .hbm, ⟨44, _⟩ => ⟨S2x2048x1024, .f32⟩
  | .hbm, ⟨45, _⟩ => ⟨S_, .f32⟩
  | .hbm, ⟨46, _⟩ => ⟨S2x2048x1024, .f32⟩
  | .hbm, ⟨47, _⟩ => ⟨S2x2048x1024, .f32⟩
  | .hbm, ⟨48, _⟩ => ⟨S2x2048x1024, .f32⟩
  | .hbm, ⟨49, _⟩ => ⟨S2x2048x1024, .f32⟩
  | .hbm, ⟨50, _⟩ => ⟨S2x2048x1024, .f32⟩
  | .hbm, ⟨51, _⟩ => ⟨S2x1x1024, .f32⟩
  | .hbm, ⟨52, _⟩ => ⟨S2x2048x1024, .f32⟩
  | .hbm, ⟨53, _⟩ => ⟨S2x2048x1024, .f32⟩
  | .hbm, ⟨54, _⟩ => ⟨S2x2048x1024, .f32⟩
  | .hbm, ⟨55, _⟩ => ⟨S2x2048x1024, .f32⟩
  | .hbm, ⟨56, _⟩ => ⟨S2x2048x1024, .f32⟩
  | .hbm, ⟨57, _⟩ => ⟨S2x2048x1024, .f32⟩
  | .hbm, ⟨58, _⟩ => ⟨S2x2048x1024, .f32⟩
  | .hbm, ⟨59, _⟩ => ⟨S_, .f32⟩
  | .hbm, ⟨60, _⟩ => ⟨S2x1024, .f32⟩
  | .hbm, ⟨61, _⟩ => ⟨S2x1x1024, .f32⟩
  | .hbm, ⟨62, _⟩ => ⟨S2x2048x1024, .f32⟩
  | .hbm, ⟨63, _⟩ => ⟨S_, .f32⟩
  | .hbm, ⟨64, _⟩ => ⟨S2x1024, .f32⟩
  | .hbm, ⟨65, _⟩ => ⟨S2x2048x1024, .f32⟩
  | .hbm, ⟨66, _⟩ => ⟨S2x2048x1024, .f32⟩
  | .hbm, ⟨67, _⟩ => ⟨S2x2048x1024, .f32⟩
  | .hbm, ⟨68, _⟩ => ⟨S2x2048x1024, .f32⟩
  | .hbm, ⟨69, _⟩ => ⟨S2x2048x1024, .f32⟩
  | .hbm, ⟨70, _⟩ => ⟨S2x2048x1024, .f32⟩
  | .hbm, ⟨71, _⟩ => ⟨S2x2048x512, .f32⟩
  | .hbm, ⟨72, _⟩ => ⟨S2x2048x512, .f32⟩
  | .hbm, ⟨73, _⟩ => ⟨S2x2048x2048, .f32⟩
  | .hbm, ⟨74, _⟩ => ⟨S4096x2048, .f32⟩
  | .hbm, ⟨75, _⟩ => ⟨S4096x2048, .bf16⟩
  | .hbm, ⟨76, _⟩ => ⟨S4096x1024, .f32⟩
  | .hbm, ⟨77, _⟩ => ⟨S4096x1024, .bf16⟩
  | .hbm, ⟨78, _⟩ => ⟨S4096x1024, .f32⟩
  | .hbm, ⟨79, _⟩ => ⟨S4096x1024, .bf16⟩
  | .hbm, ⟨80, _⟩ => ⟨S4096x512, .f32⟩
  | .hbm, ⟨81, _⟩ => ⟨S4096x512, .bf16⟩
  | .hbm, ⟨82, _⟩ => ⟨S4096x512, .f32⟩
  | .hbm, ⟨83, _⟩ => ⟨S4096x512, .bf16⟩
  | .hbm, ⟨84, _⟩ => ⟨S4096x1024, .f32⟩
  | .hbm, ⟨85, _⟩ => ⟨S4096x1024, .bf16⟩
  | .hbm, ⟨86, _⟩ => ⟨S2x1x1024, .f32⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_7 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩

abbrev nD : Nat := 1
abbrev τ : Topo := Topo.v7x

variable {F : FTy → Type} [FloatOps F]
-- ==== KernelFfn.lean ====
abbrev S2x2048x1024 : Shape := ⟨3, ![2, 2048, 1024]⟩
abbrev S2x9216 : Shape := ⟨2, ![2, 9216]⟩
abbrev S1024x2816 : Shape := ⟨2, ![1024, 2816]⟩
abbrev S2816x1024 : Shape := ⟨2, ![2816, 1024]⟩
abbrev S2x9x1x1024 : Shape := ⟨4, ![2, 9, 1, 1024]⟩
abbrev S4096x1024 : Shape := ⟨2, ![4096, 1024]⟩
abbrev S4x704x1024 : Shape := ⟨3, ![4, 704, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S2x1x1024 : Shape := ⟨3, ![2, 1, 1024]⟩
abbrev S512x1024 : Shape := ⟨2, ![512, 1024]⟩
abbrev S1x1x1x1024 : Shape := ⟨4, ![1, 1, 1, 1024]⟩
abbrev S4x512x704 : Shape := ⟨3, ![4, 512, 704]⟩
abbrev S1x1x1024 : Shape := ⟨3, ![1, 1, 1024]⟩
abbrev S1x1024 : Shape := ⟨2, ![1, 1024]⟩
abbrev S1024 : Shape := ⟨1, ![1024]⟩
abbrev S1x704x1024 : Shape := ⟨3, ![1, 704, 1024]⟩
abbrev S704x1024 : Shape := ⟨2, ![704, 1024]⟩
abbrev S512x704 : Shape := ⟨2, ![512, 704]⟩
abbrev S1x512x704 : Shape := ⟨3, ![1, 512, 704]⟩

abbrev nBuf : Space → Nat
  | .hbm => 46
  | .vmem => 19
  | .smem => 0
  | _ => 0

abbrev bufTy : (tb : Table) → Fin (tcTables nBuf tb) → BufTy
  | .hbm, ⟨0, _⟩ => ⟨S2x2048x1024, .f32⟩
  | .hbm, ⟨1, _⟩ => ⟨S2x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x9x1x1024, .f32⟩
  | .hbm, ⟨7, _⟩ => ⟨S4096x1024, .f32⟩
  | .hbm, ⟨8, _⟩ => ⟨S4096x1024, .bf16⟩
  | .hbm, ⟨9, _⟩ => ⟨S4x704x1024, .f32⟩
  | .hbm, ⟨10, _⟩ => ⟨S4x704x1024, .bf16⟩
  | .hbm, ⟨11, _⟩ => ⟨S1024x2816, .bf16⟩
  | .hbm, ⟨12, _⟩ => ⟨S4096x2816, .f32⟩
  | .hbm, ⟨13, _⟩ => ⟨S1024x2816, .bf16⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S_, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S_, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .bf16⟩
  | .hbm, ⟨32, _⟩ => ⟨S2816x1024, .bf16⟩
  | .hbm, ⟨33, _⟩ => ⟨S4096x1024, .f32⟩
  | .hbm, ⟨34, _⟩ => ⟨S4096x1024, .bf16⟩
  | .hbm, ⟨35, _⟩ => ⟨S4096x1024, .f32⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4096x4x704, .f32⟩
  | .hbm, ⟨40, _⟩ => ⟨S4x4096x704, .f32⟩
  | .hbm, ⟨41, _⟩ => ⟨S4x4096x704, .bf16⟩
  | .hbm, ⟨42, _⟩ => ⟨S4x4096x704, .bf16⟩
  | .hbm, ⟨43, _⟩ => ⟨S4x4096x704, .bf16⟩
  | .hbm, ⟨44, _⟩ => ⟨S4096x1024, .bf16⟩
  | .hbm, ⟨45, _⟩ => ⟨S2x1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1x1x1024, .f32⟩
  | .local _ .vmem, ⟨5, _⟩ => ⟨S1x1x1x1024, .f32⟩
  | .local _ .vmem, ⟨6, _⟩ => ⟨S4x704x1024, .bf16⟩
  | .local _ .vmem, ⟨7, _⟩ => ⟨S4x512x704, .bf16⟩
  | .local _ .vmem, ⟨8, _⟩ => ⟨S4x512x704, .bf16⟩
  | .local _ .vmem, ⟨9, _⟩ => ⟨S4x512x704, .bf16⟩
  | .local _ .vmem, ⟨10, _⟩ => ⟨S4x512x704, .bf16⟩
  | .local _ .vmem, ⟨11, _⟩ => ⟨S4x512x704, .bf16⟩
  | .local _ .vmem, ⟨12, _⟩ => ⟨S4x512x704, .bf16⟩
  | .local _ .vmem, ⟨13, _⟩ => ⟨S4x512x704, .bf16⟩
  | .local _ .vmem, ⟨14, _⟩ => ⟨S4x512x704, .bf16⟩
  | .local _ .vmem, ⟨15, _⟩ => ⟨S512x1024, .bf16⟩
  | .local _ .vmem, ⟨16, _⟩ => ⟨S512x1024, .bf16⟩
  | .local _ .vmem, ⟨17, _⟩ => ⟨S1x1x1024, .f32⟩
  | .local _ .vmem, ⟨18, _⟩ => ⟨S1x1x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c4_i32 : BitVec 32 := 4#32
  let c0_i32 : BitVec 32 := 0#32
  let v94 : BitVec 1 := Scalar.cmpi .eq c4_i32 c0_i32
  let c1_i32 : BitVec 32 := 1#32
  let v95 : BitVec 32 := Scalar.select v94 c1_i32 c4_i32
  let v96 : BitVec 32 := Scalar.remsi arg0 v95
  let c0_i32_73 : BitVec 32 := 0#32
  let v98 : BitVec 1 := Scalar.cmpi .slt v96 c0_i32_73
  let c0_i32_74 : BitVec 32 := 0#32
  let v99 : BitVec 1 := Scalar.cmpi .slt v95 c0_i32_74
  let v100 : BitVec 1 := Scalar.xori v98 v99
  let c0_i32_72 : BitVec 32 := 0#32
  let v97 : BitVec 1 := Scalar.cmpi .ne v96 c0_i32_72
  let v101 : BitVec 1 := Scalar.andi v100 v97
  let v102 : BitVec 32 := Scalar.addi v96 v95
  let v103 : BitVec 32 := Scalar.select v101 v102 v96
  let c0_i32_75 : BitVec 32 := 0#32
  let v104 : BitVec 1 := Scalar.cmpi .eq v103 c0_i32_75
  let v105 : BitVec 32 := Scalar.extui v104
  let c0_i32_76 : BitVec 32 := 0#32
  let v106 : BitVec 1 := Scalar.cmpi .ne v105 c0_i32_76
  v106

def k0_cond2 (i : grid0.Coords) : BitVec 1 :=
  let arg0 : BitVec 32 := BitVec.ofNat 32 (i 0).val
  let c4_i32_77 : BitVec 32 := 4#32
  let c0_i32_78 : BitVec 32 := 0#32
  let v107 : BitVec 1 := Scalar.cmpi .eq c4_i32_77 c0_i32_78
  let c1_i32_79 : BitVec 32 := 1#32
  let v108 : BitVec 32 := Scalar.select v107 c1_i32_79 c4_i32_77
  let v109 : BitVec 32 := Scalar.remsi arg0 v108
  let c0_i32_81 : BitVec 32 := 0#32
  let v111 : BitVec 1 := Scalar.cmpi .slt v109 c0_i32_81
  let c0_i32_82 : BitVec 32 := 0#32
  let v112 : BitVec 1 := Scalar.cmpi .slt v108 c0_i32_82
  let v113 : BitVec 1 := Scalar.xori v111 v112
  let c0_i32_80 : BitVec 32 := 0#32
  let v110 : BitVec 1 := Scalar.cmpi .ne v109 c0_i32_80
  let v114 : BitVec 1 := Scalar.andi v113 v110
  let v115 : BitVec 32 := Scalar.addi v109 v108
  let v116 : BitVec 32 := Scalar.select v114 v115 v109
  let c0_i32_83 : BitVec 32 := 0#32
  let v117 : BitVec 1 := Scalar.cmpi .ne v116 c0_i32_83
  let v118 : BitVec 32 := Scalar.extui v117
  let c0_i32_84 : BitVec 32 := 0#32
  let v119 : BitVec 1 := Scalar.cmpi .ne v118 c0_i32_84
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let c0_i32_4 : BitVec 32 := 0#32
  let c0_i32_5 : BitVec 32 := 0#32
  let c0_i32_6 : BitVec 32 := 0#32
  ![v16.toNat, c8_i32.toNat, c0_i32_4.toNat, c0_i32_5.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x704x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x512x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnIdeal.lean ====
abbrev S2x2048x1024 : Shape := ⟨3, ![2, 2048, 1024]⟩
abbrev S2x9216 : Shape := ⟨2, ![2, 9216]⟩
abbrev S1024x2816 : Shape := ⟨2, ![1024, 2816]⟩
abbrev S2816x1024 : Shape := ⟨2, ![2816, 1024]⟩
abbrev S2x1024 : Shape := ⟨2, ![2, 1024]⟩
abbrev S2x2048x2816 : Shape := ⟨3, ![2, 2048, 2816]⟩
abbrev S_ : Shape := ⟨0, ![]⟩
abbrev S2x1x1024 : Shape := ⟨3, ![2, 1, 1024]⟩
abbrev S4096x4x704 : Shape := ⟨3, ![4096, 4, 704]⟩
abbrev S4x4096x704 : Shape := ⟨3, ![4, 4096, 704]⟩
abbrev S4096x1024 : Shape := ⟨2, ![4096, 1024]⟩

abbrev nBuf : Space → Nat
  | .hbm => 68
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x9216, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2x2048x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x2048x2816, .f32⟩
  | .hbm, ⟨16, _⟩ => ⟨S2x2048x2816, .f32⟩
  | .hbm, ⟨17, _⟩ => ⟨S_, .f32⟩
  | .hbm, ⟨18, _⟩ => ⟨S2x2048x1024, .f32⟩
  | .hbm, ⟨19, _⟩ => ⟨S2x1x1024, .f32⟩
  | .hbm, ⟨20, _⟩ => ⟨S_, .f32⟩
  | .hbm, ⟨21, _⟩ => ⟨S2x1x1024, .f32⟩
  | .hbm, ⟨22, _⟩ => ⟨S2x1x1024, .f32⟩
  | .hbm, ⟨23, _⟩ => ⟨S2x2048x2816, .f32⟩
  | .hbm, ⟨24, _⟩ => ⟨S2x2048x2816, .f32⟩
  | .hbm, ⟨25, _⟩ => ⟨S_, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S_, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S2x2048x2816, .f32⟩
  | .hbm, ⟨36, _⟩ => ⟨S2x2048x2816, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x2048x1024, .f32⟩
  | .hbm, ⟨42, _⟩ => ⟨S2x2048x1024, .f32⟩
  | .hbm, ⟨43, _⟩ => ⟨S2x2048x1024, .f32⟩
  | .hbm, ⟨44, _⟩ => ⟨S_, .f32⟩
  | .hbm, ⟨45, _⟩ => ⟨S2x1024, .f32⟩
  | .hbm, ⟨46, _⟩ => ⟨S2x1x1024, .f32⟩
  | .hbm, ⟨47, _⟩ => ⟨S2x2048x2816, .f32⟩
  | .hbm, ⟨48, _⟩ => ⟨S2x2048x2816, .f32⟩
  | .hbm, ⟨49, _⟩ => ⟨S2x2048x2816, .f32⟩
  | .hbm, ⟨50, _⟩ => ⟨S2x2048x2816, .f32⟩
  | .hbm, ⟨51, _⟩ => ⟨S2x2048x2816, .f32⟩
  | .hbm, ⟨52, _⟩ => ⟨S2x2048x2816, .f32⟩
  | .hbm, ⟨53, _⟩ => ⟨S2x2048x2816, .f32⟩
  | .hbm, ⟨54, _⟩ => ⟨S_, .f32⟩
  | .hbm, ⟨55, _⟩ => ⟨S2x1x1024, .f32⟩
  | .hbm, ⟨56, _⟩ => ⟨S2x1x1024, .f32⟩
  | .hbm, ⟨57, _⟩ => ⟨S_, .f32⟩
  | .hbm, ⟨58, _⟩ => ⟨S2x1024, .f32⟩
  | .hbm, ⟨59, _⟩ => ⟨S4096x4x704, .f32⟩
  | .hbm, ⟨60, _⟩ => ⟨S4x4096x704, .f32⟩
  | .hbm, ⟨61, _⟩ => ⟨S4x4096x704, .bf16⟩
  | .hbm, ⟨62, _⟩ => ⟨S4096x4x704, .f32⟩
  | .hbm, ⟨63, _⟩ => ⟨S4x4096x704, .f32⟩
  | .hbm, ⟨64, _⟩ => ⟨S4x4096x704, .bf16⟩
  | .hbm, ⟨65, _⟩ => ⟨S4096x1024, .f32⟩
  | .hbm, ⟨66, _⟩ => ⟨S4096x1024, .bf16⟩
  | .hbm, ⟨67, _⟩ => ⟨S2x1x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_v15_2 : Ref sig .tc := ⟨.hbm, 30, rfl⟩
abbrev main_call0_cst_1 : Ref sig .tc := ⟨.hbm, 31, rfl⟩
abbrev main_call0_v6 : Ref sig .tc := ⟨.hbm, 32, rfl⟩
abbrev main_call0_v7 : Ref sig .tc := ⟨.hbm, 33, rfl⟩
abbrev main_v15_1 : Ref sig .tc := ⟨.hbm, 34, rfl⟩
abbrev main_v15_0 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_1 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_cst_3 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩

abbrev nD : Nat := 1
abbrev τ : Topo := Topo.v7x

variable {F : FTy → Type} [FloatOps F]
-- ==== KernelAda.lean ====
abbrev S16x1024 : Shape := ⟨2, ![16, 1024]⟩
abbrev S1024x2304 : Shape := ⟨2, ![1024, 2304]⟩
abbrev S1x9216 : Shape := ⟨2, ![1, 9216]⟩
abbrev S16x9216 : Shape := ⟨2, ![16, 9216]⟩
abbrev S16x2304 : Shape := ⟨2, ![16, 2304]⟩
abbrev S8x1024 : Shape := ⟨2, ![8, 1024]⟩
abbrev S1x1024 : Shape := ⟨2, ![1, 1024]⟩
abbrev S16x768 : Shape := ⟨2, ![16, 768]⟩
abbrev S1024x768 : Shape := ⟨2, ![1024, 768]⟩
abbrev S9216 : Shape := ⟨1, ![9216]⟩

abbrev nBuf : Space → Nat
  | .hbm => 9
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S1024x2304, .f32⟩
  | .hbm, ⟨2, _⟩ => ⟨S1x9216, .f32⟩
  | .hbm, ⟨3, _⟩ => ⟨S16x9216, .f32⟩
  | .hbm, ⟨4, _⟩ => ⟨S16x2304, .f32⟩
  | .hbm, ⟨5, _⟩ => ⟨S8x1024, .f32⟩
  | .hbm, ⟨6, _⟩ => ⟨S1x9216, .f32⟩
  | .hbm, ⟨7, _⟩ => ⟨S1024x2304, .f32⟩
  | .hbm, ⟨8, _⟩ => ⟨S1x1024, .f32⟩
  | .local _ .vmem, ⟨0, _⟩ => ⟨S16x1024, .f32⟩
  | .local _ .vmem, ⟨1, _⟩ => ⟨S16x9216, .f32⟩
  | .local _ .vmem, ⟨2, _⟩ => ⟨S16x768, .f32⟩
  | .local _ .vmem, ⟨3, _⟩ => ⟨S16x768, .f32⟩
  | .local _ .vmem, ⟨4, _⟩ => ⟨S8x1024, .f32⟩
  | .local _ .vmem, ⟨5, _⟩ => ⟨S1x9216, .f32⟩
  | .local _ .vmem, ⟨6, _⟩ => ⟨S1024x768, .f32⟩
  | .local _ .vmem, ⟨7, _⟩ => ⟨S1024x768, .f32⟩
  | .local _ .vmem, ⟨8, _⟩ => ⟨S1x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x9216 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceAdaIdeal.lean ====
abbrev S16x1024 : Shape := ⟨2, ![16, 1024]⟩
abbrev S1024x2304 : Shape := ⟨2, ![1024, 2304]⟩
abbrev S1x9216 : Shape := ⟨2, ![1, 9216]⟩
abbrev S16x9216 : Shape := ⟨2, ![16, 9216]⟩
abbrev S16x2304 : Shape := ⟨2, ![16, 2304]⟩
abbrev S8x1024 : Shape := ⟨2, ![8, 1024]⟩
abbrev S_ : Shape := ⟨0, ![]⟩
abbrev S9216 : Shape := ⟨1, ![9216]⟩
abbrev S2304x1024 : Shape := ⟨2, ![2304, 1024]⟩
abbrev S1024 : Shape := ⟨1, ![1024]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x2304, .f32⟩
  | .hbm, ⟨2, _⟩ => ⟨S1x9216, .f32⟩
  | .hbm, ⟨3, _⟩ => ⟨S16x9216, .f32⟩
  | .hbm, ⟨4, _⟩ => ⟨S16x2304, .f32⟩
  | .hbm, ⟨5, _⟩ => ⟨S8x1024, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S_, .f32⟩
  | .hbm, ⟨12, _⟩ => ⟨S16x1024, .f32⟩
  | .hbm, ⟨13, _⟩ => ⟨S16x1024, .f32⟩
  | .hbm, ⟨14, _⟩ => ⟨S16x1024, .f32⟩
  | .hbm, ⟨15, _⟩ => ⟨S16x9216, .f32⟩
  | .hbm, ⟨16, _⟩ => ⟨S_, .f32⟩
  | .hbm, ⟨17, _⟩ => ⟨S9216, .f32⟩
  | .hbm, ⟨18, _⟩ => ⟨S1x9216, .f32⟩
  | .hbm, ⟨19, _⟩ => ⟨S16x2304, .f32⟩
  | .hbm, ⟨20, _⟩ => ⟨S2304x1024, .f32⟩
  | .hbm, ⟨21, _⟩ => ⟨S1024x2304, .f32⟩
  | .hbm, ⟨22, _⟩ => ⟨S_, .f32⟩
  | .hbm, ⟨23, _⟩ => ⟨S1024, .f32⟩
  | .hbm, ⟨24, _⟩ => ⟨S1x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v0 : Ref sig .tc := ⟨.hbm, 14, rfl⟩
abbrev main_v1 : Ref sig .tc := ⟨.hbm, 15, rfl⟩
abbrev main_cst : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩

abbrev nD : Nat := 1
abbrev τ : Topo := Topo.v7x

variable {F : FTy → Type} [FloatOps F]
-- ==== KernelNorm.lean ====
abbrev S2x2048x1024 : Shape := ⟨3, ![2, 2048, 1024]⟩
abbrev S1x1024 : Shape := ⟨2, ![1, 1024]⟩
abbrev S2x9216 : Shape := ⟨2, ![2, 9216]⟩
abbrev S2x9x1x1024 : Shape := ⟨4, ![2, 9, 1, 1024]⟩
abbrev S4096x1024 : Shape := ⟨2, ![4096, 1024]⟩
abbrev S512x1024 : Shape := ⟨2, ![512, 1024]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x9216, .f32⟩
  | .hbm, ⟨3, _⟩ => ⟨S2x9x1x1024, .f32⟩
  | .hbm, ⟨4, _⟩ => ⟨S4096x1024, .f32⟩
  | .hbm, ⟨5, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S512x1024, .bf16⟩
  | .local _ .vmem, ⟨8, _⟩ => ⟨S512x1024, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let c0_i32_5 : BitVec 32 := 0#32
  let c0_i32_6 : BitVec 32 := 0#32
  let c0_i32_7 : BitVec 32 := 0#32
  ![v16.toNat, c1_i32_4.toNat, c0_i32_5.toNat, c0_i32_6.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![v16.toNat, c0_i32_4.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormIdeal.lean ====
abbrev S2x2048x1024 : Shape := ⟨3, ![2, 2048, 1024]⟩
abbrev S1x1024 : Shape := ⟨2, ![1, 1024]⟩
abbrev S2x9216 : Shape := ⟨2, ![2, 9216]⟩
abbrev S2x1024 : Shape := ⟨2, ![2, 1024]⟩
abbrev S1024 : Shape := ⟨1, ![1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1x1024 : Shape := ⟨3, ![2, 1, 1024]⟩
abbrev S4096x1024 : Shape := ⟨2, ![4096, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1x1024, .f32⟩
  | .hbm, ⟨2, _⟩ => ⟨S2x9216, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S1024, .f32⟩
  | .hbm, ⟨13, _⟩ => ⟨S2x2048x1024, .f32⟩
  | .hbm, ⟨14, _⟩ => ⟨S_, .f32⟩
  | .hbm, ⟨15, _⟩ => ⟨S2x2048, .f32⟩
  | .hbm, ⟨16, _⟩ => ⟨S2x2048x1, .f32⟩
  | .hbm, ⟨17, _⟩ => ⟨S_, .f32⟩
  | .hbm, ⟨18, _⟩ => ⟨S2x2048x1, .f32⟩
  | .hbm, ⟨19, _⟩ => ⟨S2x2048x1, .f32⟩
  | .hbm, ⟨20, _⟩ => ⟨S_, .f32⟩
  | .hbm, ⟨21, _⟩ => ⟨S2x2048x1, .f32⟩
  | .hbm, ⟨22, _⟩ => ⟨S2x2048x1, .f32⟩
  | .hbm, ⟨23, _⟩ => ⟨S2x2048x1, .f32⟩
  | .hbm, ⟨24, _⟩ => ⟨S2x2048x1024, .f32⟩
  | .hbm, ⟨25, _⟩ => ⟨S2x2048x1024, .f32⟩
  | .hbm, ⟨26, _⟩ => ⟨S1x1x1024, .f32⟩
  | .hbm, ⟨27, _⟩ => ⟨S2x2048x1024, .f32⟩
  | .hbm, ⟨28, _⟩ => ⟨S2x2048x1024, .f32⟩
  | .hbm, ⟨29, _⟩ => ⟨S2x1x1024, .f32⟩
  | .hbm, ⟨30, _⟩ => ⟨S_, .f32⟩
  | .hbm, ⟨31, _⟩ => ⟨S2x1x1024, .f32⟩
  | .hbm, ⟨32, _⟩ => ⟨S2x1x1024, .f32⟩
  | .hbm, ⟨33, _⟩ => ⟨S2x2048x1024, .f32⟩
  | .hbm, ⟨34, _⟩ => ⟨S2x2048x1024, .f32⟩
  | .hbm, ⟨35, _⟩ => ⟨S2x1x1024, .f32⟩
  | .hbm, ⟨36, _⟩ => ⟨S2x2048x1024, .f32⟩
  | .hbm, ⟨37, _⟩ => ⟨S2x2048x1024, .f32⟩
  | .hbm, ⟨38, _⟩ => ⟨S4096x1024, .f32⟩
  | .hbm, ⟨39, _⟩ => ⟨S4096x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩

abbrev nD : Nat := 1
abbrev τ : Topo := Topo.v7x

variable {F : FTy → Type} [FloatOps F]
-- ==== KernelUp.lean ====
abbrev S2x2048x1024 : Shape := ⟨3, ![2, 2048, 1024]⟩
abbrev S1024x2816 : Shape := ⟨2, ![1024, 2816]⟩
abbrev S4096x1024 : Shape := ⟨2, ![4096, 1024]⟩
abbrev S2816x1024 : Shape := ⟨2, ![2816, 1024]⟩
abbrev S4x704x1024 : Shape := ⟨3, ![4, 704, 1024]⟩
abbrev S4x4096x704 : Shape := ⟨3, ![4, 4096, 704]⟩
abbrev S1024x1024 : Shape := ⟨2, ![1024, 1024]⟩
abbrev S1x704x1024 : Shape := ⟨3, ![1, 704, 1024]⟩
abbrev S1x1024x704 : Shape := ⟨3, ![1, 1024, 704]⟩
abbrev S704x1024 : Shape := ⟨2, ![704, 1024]⟩
abbrev S1024x704 : Shape := ⟨2, ![1024, 704]⟩

abbrev nBuf : Space → Nat
  | .hbm => 14
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S4096x1024, .f32⟩
  | .hbm, ⟨4, _⟩ => ⟨S4096x1024, .bf16⟩
  | .hbm, ⟨5, _⟩ => ⟨S2816x1024, .f32⟩
  | .hbm, ⟨6, _⟩ => ⟨S4x704x1024, .f32⟩
  | .hbm, ⟨7, _⟩ => ⟨S4x704x1024, .bf16⟩
  | .hbm, ⟨8, _⟩ => ⟨S2816x1024, .f32⟩
  | .hbm, ⟨9, _⟩ => ⟨S4x704x1024, .f32⟩
  | .hbm, ⟨10, _⟩ => ⟨S4x704x1024, .bf16⟩
  | .hbm, ⟨11, _⟩ => ⟨S4x4096x704, .bf16⟩
  | .hbm, ⟨12, _⟩ => ⟨S4x4096x704, .bf16⟩
  | .hbm, ⟨13, _⟩ => ⟨S4x4096x704, .bf16⟩
  | .local _ .vmem, ⟨0, _⟩ => ⟨S1024x1024, .bf16⟩
  | .local _ .vmem, ⟨1, _⟩ => ⟨S1024x1024, .bf16⟩
  | .local _ .vmem, ⟨2, _⟩ => ⟨S1x704x1024, .bf16⟩
  | .local _ .vmem, ⟨3, _⟩ => ⟨S1x704x1024, .bf16⟩
  | .local _ .vmem, ⟨4, _⟩ => ⟨S1x704x1024, .bf16⟩
  | .local _ .vmem, ⟨5, _⟩ => ⟨S1x704x1024, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8_0 : Ref sig .tc := ⟨.hbm, 11, rfl⟩
abbrev main_v8_1 : Ref sig .tc := ⟨.hbm, 12, rfl⟩
abbrev main_v8_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceUpIdeal.lean ====
abbrev S2x2048x1024 : Shape := ⟨3, ![2, 2048, 1024]⟩
abbrev S1024x2816 : Shape := ⟨2, ![1024, 2816]⟩
abbrev S2x2048x2816 : Shape := ⟨3, ![2, 2048, 2816]⟩
abbrev S_ : Shape := ⟨0, ![]⟩
abbrev S4096x4x704 : Shape := ⟨3, ![4096, 4, 704]⟩
abbrev S4x4096x704 : Shape := ⟨3, ![4, 4096, 704]⟩

abbrev nBuf : Space → Nat
  | .hbm => 45
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S_, .f32⟩
  | .hbm, ⟨8, _⟩ => ⟨S2x2048x2816, .f32⟩
  | .hbm, ⟨9, _⟩ => ⟨S2x2048x2816, .f32⟩
  | .hbm, ⟨10, _⟩ => ⟨S_, .f32⟩
  | .hbm, ⟨11, _⟩ => ⟨S2x2048x2816, .f32⟩
  | .hbm, ⟨12, _⟩ => ⟨S2x2048x2816, .f32⟩
  | .hbm, ⟨13, _⟩ => ⟨S2x2048x2816, .f32⟩
  | .hbm, ⟨14, _⟩ => ⟨S2x2048x2816, .f32⟩
  | .hbm, ⟨15, _⟩ => ⟨S2x2048x2816, .f32⟩
  | .hbm, ⟨16, _⟩ => ⟨S_, .f32⟩
  | .hbm, ⟨17, _⟩ => ⟨S2x2048x2816, .f32⟩
  | .hbm, ⟨18, _⟩ => ⟨S2x2048x2816, .f32⟩
  | .hbm, ⟨19, _⟩ => ⟨S_, .f32⟩
  | .hbm, ⟨20, _⟩ => ⟨S2x2048x2816, .f32⟩
  | .hbm, ⟨21, _⟩ => ⟨S2x2048x2816, .f32⟩
  | .hbm, ⟨22, _⟩ => ⟨S_, .f32⟩
  | .hbm, ⟨23, _⟩ => ⟨S2x2048x2816, .f32⟩
  | .hbm, ⟨24, _⟩ => ⟨S2x2048x2816, .f32⟩
  | .hbm, ⟨25, _⟩ => ⟨S2x2048x2816, .f32⟩
  | .hbm, ⟨26, _⟩ => ⟨S2x2048x2816, .f32⟩
  | .hbm, ⟨27, _⟩ => ⟨S2x2048x2816, .f32⟩
  | .hbm, ⟨28, _⟩ => ⟨S_, .f32⟩
  | .hbm, ⟨29, _⟩ => ⟨S2x2048x2816, .f32⟩
  | .hbm, ⟨30, _⟩ => ⟨S2x2048x2816, .f32⟩
  | .hbm, ⟨31, _⟩ => ⟨S2x2048x2816, .f32⟩
  | .hbm, ⟨32, _⟩ => ⟨S2x2048x2816, .f32⟩
  | .hbm, ⟨33, _⟩ => ⟨S2x2048x2816, .f32⟩
  | .hbm, ⟨34, _⟩ => ⟨S2x2048x2816, .f32⟩
  | .hbm, ⟨35, _⟩ => ⟨S4096x4x704, .f32⟩
  | .hbm, ⟨36, _⟩ => ⟨S4x4096x704, .f32⟩
  | .hbm, ⟨37, _⟩ => ⟨S4x4096x704, .bf16⟩
  | .hbm, ⟨38, _⟩ => ⟨S4096x4x704, .f32⟩
  | .hbm, ⟨39, _⟩ => ⟨S4x4096x704, .f32⟩
  | .hbm, ⟨40, _⟩ => ⟨S4x4096x704, .bf16⟩
  | .hbm, ⟨41, _⟩ => ⟨S2x2048x2816, .f32⟩
  | .hbm, ⟨42, _⟩ => ⟨S4096x4x704, .f32⟩
  | .hbm, ⟨43, _⟩ => ⟨S4x4096x704, .f32⟩
  | .hbm, ⟨44, _⟩ => ⟨S4x4096x704, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_call1_v0 : Ref sig .tc := ⟨.hbm, 14, rfl⟩
abbrev main_call1_v1 : Ref sig .tc := ⟨.hbm, 15, rfl⟩
abbrev main_call1_cst : Ref sig .tc := ⟨.hbm, 16, rfl⟩
abbrev main_call1_v2 : Ref sig .tc := ⟨.hbm, 17, rfl⟩
abbrev main_call1_v3 : Ref sig .tc := ⟨.hbm, 18, rfl⟩
abbrev main_call1_cst_0 : Ref sig .tc := ⟨.hbm, 19, rfl⟩
abbrev main_call1_v4 : Ref sig .tc := ⟨.hbm, 20, rfl⟩
abbrev main_v3_2 : Ref sig .tc := ⟨.hbm, 21, rfl⟩
abbrev main_call1_cst_1 : Ref sig .tc := ⟨.hbm, 22, rfl⟩
abbrev main_call1_v6 : Ref sig .tc := ⟨.hbm, 23, rfl⟩
abbrev main_call1_v7 : Ref sig .tc := ⟨.hbm, 24, rfl⟩
abbrev main_v3_1 : Ref sig .tc := ⟨.hbm, 25, rfl⟩
abbrev main_v3_0 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_v6 : Ref sig .tc := ⟨.hbm, 30, rfl⟩
abbrev main_call2_v0 : Ref sig .tc := ⟨.hbm, 31, rfl⟩
abbrev main_call2_v1 : Ref sig .tc := ⟨.hbm, 32, rfl⟩
abbrev main_call2_v2 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩

abbrev nD : Nat := 1
abbrev τ : Topo := Topo.v7x

variable {F : FTy → Type} [FloatOps F]
-- ==== KernelDown.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x9216 : Shape := ⟨2, ![2, 9216]⟩
abbrev S1x1024 : Shape := ⟨2, ![1, 1024]⟩
abbrev S2x9x1x1024 : Shape := ⟨4, ![2, 9, 1, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S4096x1024 : Shape := ⟨2, ![4096, 1024]⟩
abbrev S4x512x704 : Shape := ⟨3, ![4, 512, 704]⟩
abbrev S512x1024 : Shape := ⟨2, ![512, 1024]⟩
abbrev S1x1x1x1024 : Shape := ⟨4, ![1, 1, 1, 1024]⟩
abbrev S1x512x704 : Shape := ⟨3, ![1, 512, 704]⟩
abbrev S512x704 : Shape := ⟨2, ![512, 704]⟩
abbrev S1x704x1024 : Shape := ⟨3, ![1, 704, 1024]⟩
abbrev S704x1024 : Shape := ⟨2, ![704, 1024]⟩
abbrev S512 : Shape := ⟨1, ![512]⟩
abbrev S512x1 : Shape := ⟨2, ![512, 1]⟩

abbrev nBuf : Space → Nat
  | .hbm => 15
  | .vmem => 18
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x9216, .f32⟩
  | .hbm, ⟨4, _⟩ => ⟨S1x1024, .f32⟩
  | .hbm, ⟨5, _⟩ => ⟨S2x9x1x1024, .f32⟩
  | .hbm, ⟨6, _⟩ => ⟨S4096x4x704, .f32⟩
  | .hbm, ⟨7, _⟩ => ⟨S4x4096x704, .f32⟩
  | .hbm, ⟨8, _⟩ => ⟨S4x4096x704, .bf16⟩
  | .hbm, ⟨9, _⟩ => ⟨S4x704x1024, .f32⟩
  | .hbm, ⟨10, _⟩ => ⟨S4x704x1024, .bf16⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .local _ .vmem, ⟨0, _⟩ => ⟨S4x512x704, .bf16⟩
  | .local _ .vmem, ⟨1, _⟩ => ⟨S4x512x704, .bf16⟩
  | .local _ .vmem, ⟨2, _⟩ => ⟨S4x704x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1x1x1024, .f32⟩
  | .local _ .vmem, ⟨11, _⟩ => ⟨S1x1x1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S2x2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let c0_i32_4 : BitVec 32 := 0#32
  let c0_i32_5 : BitVec 32 := 0#32
  let c0_i32_6 : BitVec 32 := 0#32
  ![v16.toNat, c2_i32.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let c0_i32_6 : BitVec 32 := 0#32
  let c0_i32_7 : BitVec 32 := 0#32
  ![v16.toNat, c4_i32_4.toNat, c0_i32_5.toNat, c0_i32_6.toNat]

def cc0_transform_6 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32 : BitVec 32 := 3#32
  let c0_i32_4 : BitVec 32 := 0#32
  let c0_i32_5 : BitVec 32 := 0#32
  let c0_i32_6 : BitVec 32 := 0#32
  ![v16.toNat, c3_i32.toNat, c0_i32_4.toNat, c0_i32_5.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceDownIdeal.lean ====
abbrev S2x2048x2816 : Shape := ⟨3, ![2, 2048, 2816]⟩
abbrev S2816x1024 : Shape := ⟨2, ![2816, 1024]⟩
abbrev S2x2048x1024 : Shape := ⟨3, ![2, 2048, 1024]⟩
abbrev S2x9216 : Shape := ⟨2, ![2, 9216]⟩
abbrev S1x1024 : Shape := ⟨2, ![1, 1024]⟩
abbrev S2x1024 : Shape := ⟨2, ![2, 1024]⟩
abbrev S2x1x1024 : Shape := ⟨3, ![2, 1, 1024]⟩
abbrev S_ : Shape := ⟨0, ![]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x2048x2816, .f32⟩
  | .hbm, ⟨1, _⟩ => ⟨S2816x1024, .f32⟩
  | .hbm, ⟨2, _⟩ => ⟨S2x2048x1024, .f32⟩
  | .hbm, ⟨3, _⟩ => ⟨S2x9216, .f32⟩
  | .hbm, ⟨4, _⟩ => ⟨S1x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x2048x1024, .f32⟩
  | .hbm, ⟨15, _⟩ => ⟨S2x1x1024, .f32⟩
  | .hbm, ⟨16, _⟩ => ⟨S_, .f32⟩
  | .hbm, ⟨17, _⟩ => ⟨S2x1x1024, .f32⟩
  | .hbm, ⟨18, _⟩ => ⟨S2x1x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S1024, .f32⟩
  | .hbm, ⟨23, _⟩ => ⟨S2x2048x1024, .f32⟩
  | .hbm, ⟨24, _⟩ => ⟨S_, .f32⟩
  | .hbm, ⟨25, _⟩ => ⟨S2x2048, .f32⟩
  | .hbm, ⟨26, _⟩ => ⟨S2x2048x1, .f32⟩
  | .hbm, ⟨27, _⟩ => ⟨S_, .f32⟩
  | .hbm, ⟨28, _⟩ => ⟨S2x2048x1, .f32⟩
  | .hbm, ⟨29, _⟩ => ⟨S2x2048x1, .f32⟩
  | .hbm, ⟨30, _⟩ => ⟨S_, .f32⟩
  | .hbm, ⟨31, _⟩ => ⟨S2x2048x1, .f32⟩
  | .hbm, ⟨32, _⟩ => ⟨S2x2048x1, .f32⟩
  | .hbm, ⟨33, _⟩ => ⟨S2x2048x1, .f32⟩
  | .hbm, ⟨34, _⟩ => ⟨S2x2048x1024, .f32⟩
  | .hbm, ⟨35, _⟩ => ⟨S2x2048x1024, .f32⟩
  | .hbm, ⟨36, _⟩ => ⟨S1x1x1024, .f32⟩
  | .hbm, ⟨37, _⟩ => ⟨S2x2048x1024, .f32⟩
  | .hbm, ⟨38, _⟩ => ⟨S2x2048x1024, .f32⟩
  | .hbm, ⟨39, _⟩ => ⟨S2x1x1024, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x2048x1024, .f32⟩
  | .hbm, ⟨44, _⟩ => ⟨S2x2048x1024, .f32⟩
  | .hbm, ⟨45, _⟩ => ⟨S2x1x1024, .f32⟩
  | .hbm, ⟨46, _⟩ => ⟨S2x2048x1024, .f32⟩
  | .hbm, ⟨47, _⟩ => ⟨S2x2048x1024, .f32⟩
  | .hbm, ⟨48, _⟩ => ⟨S4096x1024, .f32⟩
  | .hbm, ⟨49, _⟩ => ⟨S4096x1024, .f32⟩
  | .hbm, ⟨50, _⟩ => ⟨S4096x1024, .bf16⟩
  | .hbm, ⟨51, _⟩ => ⟨S4096x1024, .f32⟩
  | .hbm, ⟨52, _⟩ => ⟨S4096x1024, .bf16⟩
  | _, _ => ⟨S2x2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩

abbrev nD : Nat := 1
abbrev τ : Topo := Topo.v7x

variable {F : FTy → Type} [FloatOps F]
-- ==== KernelMixF.lean ====
abbrev S2x2048x512 : Shape := ⟨3, ![2, 2048, 512]⟩
abbrev S2x2048x1024 : Shape := ⟨3, ![2, 2048, 1024]⟩
abbrev S2x9216 : Shape := ⟨2, ![2, 9216]⟩
abbrev S512x1024 : Shape := ⟨2, ![512, 1024]⟩
abbrev S1024x1024 : Shape := ⟨2, ![1024, 1024]⟩
abbrev S1x1024 : Shape := ⟨2, ![1, 1024]⟩
abbrev S2x9x1x1024 : Shape := ⟨4, ![2, 9, 1, 1024]⟩
abbrev S2x2048x2048 : Shape := ⟨3, ![2, 2048, 2048]⟩
abbrev S4096x2048 : Shape := ⟨2, ![4096, 2048]⟩
abbrev S4096x512 : Shape := ⟨2, ![4096, 512]⟩
abbrev S4096x1024 : Shape := ⟨2, ![4096, 1024]⟩
abbrev S512x512 : Shape := ⟨2, ![512, 512]⟩
abbrev S512x2048 : Shape := ⟨2, ![512, 2048]⟩
abbrev S1x1x1x1024 : Shape := ⟨4, ![1, 1, 1, 1024]⟩
abbrev S512 : Shape := ⟨1, ![512]⟩
abbrev S512x1 : Shape := ⟨2, ![512, 1]⟩

abbrev nBuf : Space → Nat
  | .hbm => 28
  | .vmem => 30
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x9216, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S2x9x1x1024, .f32⟩
  | .hbm, ⟨11, _⟩ => ⟨S2x2048x2048, .f32⟩
  | .hbm, ⟨12, _⟩ => ⟨S4096x2048, .f32⟩
  | .hbm, ⟨13, _⟩ => ⟨S4096x2048, .bf16⟩
  | .hbm, ⟨14, _⟩ => ⟨S4096x512, .f32⟩
  | .hbm, ⟨15, _⟩ => ⟨S4096x512, .bf16⟩
  | .hbm, ⟨16, _⟩ => ⟨S4096x512, .f32⟩
  | .hbm, ⟨17, _⟩ => ⟨S4096x512, .bf16⟩
  | .hbm, ⟨18, _⟩ => ⟨S4096x1024, .f32⟩
  | .hbm, ⟨19, _⟩ => ⟨S512x1024, .bf16⟩
  | .hbm, ⟨20, _⟩ => ⟨S512x1024, .bf16⟩
  | .hbm, ⟨21, _⟩ => ⟨S1024x1024, .bf16⟩
  | .hbm, ⟨22, _⟩ => ⟨S4096x1024, .bf16⟩
  | .hbm, ⟨23, _⟩ => ⟨S4096x1024, .bf16⟩
  | .hbm, ⟨24, _⟩ => ⟨S4096x1024, .bf16⟩
  | .hbm, ⟨25, _⟩ => ⟨S4096x1024, .bf16⟩
  | .hbm, ⟨26, _⟩ => ⟨S4096x1024, .f32⟩
  | .hbm, ⟨27, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x2048, .bf16⟩
  | .local _ .vmem, ⟨5, _⟩ => ⟨S512x2048, .bf16⟩
  | .local _ .vmem, ⟨6, _⟩ => ⟨S512x1024, .f32⟩
  | .local _ .vmem, ⟨7, _⟩ => ⟨S512x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1x1x1024, .f32⟩
  | .local _ .vmem, ⟨15, _⟩ => ⟨S1x1x1x1024, .f32⟩
  | .local _ .vmem, ⟨16, _⟩ => ⟨S1x1x1x1024, .f32⟩
  | .local _ .vmem, ⟨17, _⟩ => ⟨S1x1x1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x1024, .f32⟩
  | .local _ .vmem, ⟨27, _⟩ => ⟨S512x1024, .f32⟩
  | .local _ .vmem, ⟨28, _⟩ => ⟨S512x1024, .bf16⟩
  | .local _ .vmem, ⟨29, _⟩ => ⟨S512x1024, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev main_v12_4 : Ref sig .tc := ⟨.hbm, 26, rfl⟩
abbrev main_v12_5 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c5_i32 : BitVec 32 := 5#32
  let c0_i32_4 : BitVec 32 := 0#32
  let c0_i32_5 : BitVec 32 := 0#32
  let c0_i32_6 : BitVec 32 := 0#32
  ![v16.toNat, c5_i32.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c7_i32 : BitVec 32 := 7#32
  let c0_i32_4 : BitVec 32 := 0#32
  let c0_i32_5 : BitVec 32 := 0#32
  let c0_i32_6 : BitVec 32 := 0#32
  ![v16.toNat, c7_i32.toNat, c0_i32_4.toNat, c0_i32_5.toNat]

def cc0_transform_10 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let c0_i32_4 : BitVec 32 := 0#32
  let c0_i32_5 : BitVec 32 := 0#32
  let c0_i32_6 : BitVec 32 := 0#32
  ![v16.toNat, c6_i32.toNat, c0_i32_4.toNat, c0_i32_5.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x1x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceMixFIdeal.lean ====
abbrev S2x2048x512 : Shape := ⟨3, ![2, 2048, 512]⟩
abbrev S2x2048x1024 : Shape := ⟨3, ![2, 2048, 1024]⟩
abbrev S2x9216 : Shape := ⟨2, ![2, 9216]⟩
abbrev S512x1024 : Shape := ⟨2, ![512, 1024]⟩
abbrev S1024x1024 : Shape := ⟨2, ![1024, 1024]⟩
abbrev S1x1024 : Shape := ⟨2, ![1, 1024]⟩
abbrev S2x1024 : Shape := ⟨2, ![2, 1024]⟩
abbrev S_ : Shape := ⟨0, ![]⟩
abbrev S2x1x1024 : Shape := ⟨3, ![2, 1, 1024]⟩
abbrev S1024 : Shape := ⟨1, ![1024]⟩
abbrev S2x2048 : Shape := ⟨2, ![2, 2048]⟩
abbrev S2x2048x1 : Shape := ⟨3, ![2, 2048, 1]⟩
abbrev S1x1x1024 : Shape := ⟨3, ![1, 1, 1024]⟩
abbrev S4096x1024 : Shape := ⟨2, ![4096, 1024]⟩

abbrev nBuf : Space → Nat
  | .hbm => 82
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x2048x1024, .f32⟩
  | .hbm, ⟨4, _⟩ => ⟨S2x2048x1024, .f32⟩
  | .hbm, ⟨5, _⟩ => ⟨S2x9216, .f32⟩
  | .hbm, ⟨6, _⟩ => ⟨S512x1024, .f32⟩
  | .hbm, ⟨7, _⟩ => ⟨S512x1024, .f32⟩
  | .hbm, ⟨8, _⟩ => ⟨S1024x1024, .f32⟩
  | .hbm, ⟨9, _⟩ => ⟨S1x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x2048x1024, .f32⟩
  | .hbm, ⟨20, _⟩ => ⟨S2x2048x1024, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048x1024, .f32⟩
  | .hbm, ⟨25, _⟩ => ⟨S2x2048x1024, .f32⟩
  | .hbm, ⟨26, _⟩ => ⟨S_, .f32⟩
  | .hbm, ⟨27, _⟩ => ⟨S2x2048x1024, .f32⟩
  | .hbm, ⟨28, _⟩ => ⟨S2x2048x1024, .f32⟩
  | .hbm, ⟨29, _⟩ => ⟨S2x2048x1024, .f32⟩
  | .hbm, ⟨30, _⟩ => ⟨S2x2048x1024, .f32⟩
  | .hbm, ⟨31, _⟩ => ⟨S2x2048x1024, .f32⟩
  | .hbm, ⟨32, _⟩ => ⟨S_, .f32⟩
  | .hbm, ⟨33, _⟩ => ⟨S2x2048x1024, .f32⟩
  | .hbm, ⟨34, _⟩ => ⟨S2x2048x1024, .f32⟩
  | .hbm, ⟨35, _⟩ => ⟨S_, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x1024, .f32⟩
  | .hbm, ⟨40, _⟩ => ⟨S2x2048x1024, .f32⟩
  | .hbm, ⟨41, _⟩ => ⟨S2x1x1024, .f32⟩
  | .hbm, ⟨42, _⟩ => ⟨S2x2048x1024, .f32⟩
  | .hbm, ⟨43, _⟩ => ⟨S2x2048x1024, .f32⟩
  | .hbm, ⟨44, _⟩ => ⟨S2x2048x1024, .f32⟩
  | .hbm, ⟨45, _⟩ => ⟨S1024, .f32⟩
  | .hbm, ⟨46, _⟩ => ⟨S2x2048x1024, .f32⟩
  | .hbm, ⟨47, _⟩ => ⟨S_, .f32⟩
  | .hbm, ⟨48, _⟩ => ⟨S2x2048, .f32⟩
  | .hbm, ⟨49, _⟩ => ⟨S2x2048x1, .f32⟩
  | .hbm, ⟨50, _⟩ => ⟨S_, .f32⟩
  | .hbm, ⟨51, _⟩ => ⟨S2x2048x1, .f32⟩
  | .hbm, ⟨52, _⟩ => ⟨S2x2048x1, .f32⟩
  | .hbm, ⟨53, _⟩ => ⟨S_, .f32⟩
  | .hbm, ⟨54, _⟩ => ⟨S2x2048x1, .f32⟩
  | .hbm, ⟨55, _⟩ => ⟨S2x2048x1, .f32⟩
  | .hbm, ⟨56, _⟩ => ⟨S2x2048x1, .f32⟩
  | .hbm, ⟨57, _⟩ => ⟨S2x2048x1024, .f32⟩
  | .hbm, ⟨58, _⟩ => ⟨S2x2048x1024, .f32⟩
  | .hbm, ⟨59, _⟩ => ⟨S1x1x1024, .f32⟩
  | .hbm, ⟨60, _⟩ => ⟨S2x2048x1024, .f32⟩
  | .hbm, ⟨61, _⟩ => ⟨S2x2048x1024, .f32⟩
  | .hbm, ⟨62, _⟩ => ⟨S2x1x1024, .f32⟩
  | .hbm, ⟨63, _⟩ => ⟨S_, .f32⟩
  | .hbm, ⟨64, _⟩ => ⟨S2x1x1024, .f32⟩
  | .hbm, ⟨65, _⟩ => ⟨S2x1x1024, .f32⟩
  | .hbm, ⟨66, _⟩ => ⟨S2x2048x1024, .f32⟩
  | .hbm, ⟨67, _⟩ => ⟨S2x2048x1024, .f32⟩
  | .hbm, ⟨68, _⟩ => ⟨S2x1x1024, .f32⟩
  | .hbm, ⟨69, _⟩ => ⟨S2x2048x1024, .f32⟩
  | .hbm, ⟨70, _⟩ => ⟨S2x2048x1024, .f32⟩
  | .hbm, ⟨71, _⟩ => ⟨S4096x1024, .f32⟩
  | .hbm, ⟨72, _⟩ => ⟨S4096x1024, .bf16⟩
  | .hbm, ⟨73, _⟩ => ⟨S4096x1024, .f32⟩
  | .hbm, ⟨74, _⟩ => ⟨S4096x1024, .bf16⟩
  | .hbm, ⟨75, _⟩ => ⟨S4096x1024, .f32⟩
  | .hbm, ⟨76, _⟩ => ⟨S4096x1024, .bf16⟩
  | .hbm, ⟨77, _⟩ => ⟨S4096x1024, .f32⟩
  | .hbm, ⟨78, _⟩ => ⟨S4096x1024, .bf16⟩
  | .hbm, ⟨79, _⟩ => ⟨S4096x1024, .f32⟩
  | .hbm, ⟨80, _⟩ => ⟨S4096x1024, .f32⟩
  | .hbm, ⟨81, _⟩ => ⟨S4096x1024, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_1 : Ref sig .tc := ⟨.hbm, 32, rfl⟩
abbrev main_v20 : Ref sig .tc := ⟨.hbm, 33, rfl⟩
abbrev main_v21 : Ref sig .tc := ⟨.hbm, 34, rfl⟩
abbrev main_cst_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩

abbrev nD : Nat := 1
abbrev τ : Topo := Topo.v7x

variable {F : FTy → Type} [FloatOps F]
-- ==== KernelSguF.lean ====
abbrev S2x2048x512 : Shape := ⟨3, ![2, 2048, 512]⟩
abbrev S1x512 : Shape := ⟨2, ![1, 512]⟩
abbrev S1x4x128x128 : Shape := ⟨4, ![1, 4, 128, 128]⟩
abbrev S1x4x128 : Shape := ⟨3, ![1, 4, 128]⟩
abbrev S2x2048x1024 : Shape := ⟨3, ![2, 2048, 1024]⟩
abbrev S4096x1024 : Shape := ⟨2, ![4096, 1024]⟩
abbrev S4x128x128 : Shape := ⟨3, ![4, 128, 128]⟩
abbrev S4x128 : Shape := ⟨2, ![4, 128]⟩
abbrev S128x4 : Shape := ⟨2, ![128, 4]⟩
abbrev S4096x512 : Shape := ⟨2, ![4096, 512]⟩
abbrev S512x1024 : Shape := ⟨2, ![512, 1024]⟩
abbrev S512x512 : Shape := ⟨2, ![512, 512]⟩
abbrev S128x128 : Shape := ⟨2, ![128, 128]⟩
abbrev S1x128x128 : Shape := ⟨3, ![1, 128, 128]⟩
abbrev S128x512 : Shape := ⟨2, ![128, 512]⟩
abbrev S128 : Shape := ⟨1, ![128]⟩
abbrev S128x1 : Shape := ⟨2, ![128, 1]⟩

abbrev nBuf : Space → Nat
  | .hbm => 13
  | .vmem => 8
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S2x2048x1024, .f32⟩
  | .hbm, ⟨7, _⟩ => ⟨S4096x1024, .f32⟩
  | .hbm, ⟨8, _⟩ => ⟨S4096x1024, .bf16⟩
  | .hbm, ⟨9, _⟩ => ⟨S4x128x128, .f32⟩
  | .hbm, ⟨10, _⟩ => ⟨S4x128, .f32⟩
  | .hbm, ⟨11, _⟩ => ⟨S128x4, .f32⟩
  | .hbm, ⟨12, _⟩ => ⟨S4096x512, .bf16⟩
  | .local _ .vmem, ⟨0, _⟩ => ⟨S512x1024, .bf16⟩
  | .local _ .vmem, ⟨1, _⟩ => ⟨S512x1024, .bf16⟩
  | .local _ .vmem, ⟨2, _⟩ => ⟨S1x512, .f32⟩
  | .local _ .vmem, ⟨3, _⟩ => ⟨S1x512, .f32⟩
  | .local _ .vmem, ⟨4, _⟩ => ⟨S4x128x128, .f32⟩
  | .local _ .vmem, ⟨5, _⟩ => ⟨S128x4, .f32⟩
  | .local _ .vmem, ⟨6, _⟩ => ⟨S512x512, .bf16⟩
  | .local _ .vmem, ⟨7, _⟩ => ⟨S512x512, .bf16⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelSguFIdeal.lean ====
variable {F : FTy → Type} [FloatOps F] [Named F]
def κ : String → Option EReal := fun
  | "gelu_c" => some ((8943 / 200000 : ℝ) : EReal)
  | "three_gelu_c" => some ((26829 / 200000 : ℝ) : EReal)
  | _ => none
-- ==== ReferenceSguFIdeal.lean ====
abbrev S2x2048x512 : Shape := ⟨3, ![2, 2048, 512]⟩
abbrev S1x512 : Shape := ⟨2, ![1, 512]⟩
abbrev S1x4x128x128 : Shape := ⟨4, ![1, 4, 128, 128]⟩
abbrev S1x4x128 : Shape := ⟨3, ![1, 4, 128]⟩
abbrev S_ : Shape := ⟨0, ![]⟩
abbrev S512 : Shape := ⟨1, ![512]⟩
abbrev S4x128x128 : Shape := ⟨3, ![4, 128, 128]⟩
abbrev S4x128 : Shape := ⟨2, ![4, 128]⟩
abbrev S2x2048 : Shape := ⟨2, ![2, 2048]⟩
abbrev S2x2048x1 : Shape := ⟨3, ![2, 2048, 1]⟩
abbrev S1x1x512 : Shape := ⟨3, ![1, 1, 512]⟩
abbrev S2x16x128x4x128 : Shape := ⟨5, ![2, 16, 128, 4, 128]⟩
abbrev S128x128 : Shape := ⟨2, ![128, 128]⟩
abbrev S1x128x128 : Shape := ⟨3, ![1, 128, 128]⟩
abbrev S4x2x16x128x128 : Shape := ⟨5, ![4, 2, 16, 128, 128]⟩
abbrev S128x4 : Shape := ⟨2, ![128, 4]⟩
abbrev S1x1x128x4x1 : Shape := ⟨5, ![1, 1, 128, 4, 1]⟩
abbrev S4096x512 : Shape := ⟨2, ![4096, 512]⟩

abbrev nBuf : Space → Nat
  | .hbm => 104
  | .vmem => 0
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2x2048x512, .f32⟩
  | .hbm, ⟨10, _⟩ => ⟨S2x2048x512, .f32⟩
  | .hbm, ⟨11, _⟩ => ⟨S2x2048x512, .f32⟩
  | .hbm, ⟨12, _⟩ => ⟨S2x2048x512, .f32⟩
  | .hbm, ⟨13, _⟩ => ⟨S2x2048x512, .f32⟩
  | .hbm, ⟨14, _⟩ => ⟨S_, .f32⟩
  | .hbm, ⟨15, _⟩ => ⟨S2x2048x512, .f32⟩
  | .hbm, ⟨16, _⟩ => ⟨S2x2048x512, .f32⟩
  | .hbm, ⟨17, _⟩ => ⟨S2x2048x512, .f32⟩
  | .hbm, ⟨18, _⟩ => ⟨S_, .f32⟩
  | .hbm, ⟨19, _⟩ => ⟨S2x2048x512, .f32⟩
  | .hbm, ⟨20, _⟩ => ⟨S2x2048x512, .f32⟩
  | .hbm, ⟨21, _⟩ => ⟨S_, .f32⟩
  | .hbm, ⟨22, _⟩ => ⟨S2x2048x512, .f32⟩
  | .hbm, ⟨23, _⟩ => ⟨S2x2048x512, .f32⟩
  | .hbm, ⟨24, _⟩ => ⟨S2x2048x512, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S2x2048x512, .f32⟩
  | .hbm, ⟨29, _⟩ => ⟨S2x2048x512, .f32⟩
  | .hbm, ⟨30, _⟩ => ⟨S2x2048x512, .f32⟩
  | .hbm, ⟨31, _⟩ => ⟨S2x2048x512, .f32⟩
  | .hbm, ⟨32, _⟩ => ⟨S2x2048x512, .f32⟩
  | .hbm, ⟨33, _⟩ => ⟨S_, .f32⟩
  | .hbm, ⟨34, _⟩ => ⟨S2x2048x512, .f32⟩
  | .hbm, ⟨35, _⟩ => ⟨S2x2048x512, .f32⟩
  | .hbm, ⟨36, _⟩ => ⟨S2x2048x512, .f32⟩
  | .hbm, ⟨37, _⟩ => ⟨S_, .f32⟩
  | .hbm, ⟨38, _⟩ => ⟨S2x2048x512, .f32⟩
  | .hbm, ⟨39, _⟩ => ⟨S2x2048x512, .f32⟩
  | .hbm, ⟨40, _⟩ => ⟨S_, .f32⟩
  | .hbm, ⟨41, _⟩ => ⟨S2x2048x512, .f32⟩
  | .hbm, ⟨42, _⟩ => ⟨S2x2048x512, .f32⟩
  | .hbm, ⟨43, _⟩ => ⟨S2x2048x512, .f32⟩
  | .hbm, ⟨44, _⟩ => ⟨S512, .f32⟩
  | .hbm, ⟨45, _⟩ => ⟨S512, .f32⟩
  | .hbm, ⟨46, _⟩ => ⟨S4x128x128, .f32⟩
  | .hbm, ⟨47, _⟩ => ⟨S4x128, .f32⟩
  | .hbm, ⟨48, _⟩ => ⟨S_, .f32⟩
  | .hbm, ⟨49, _⟩ => ⟨S2x2048, .f32⟩
  | .hbm, ⟨50, _⟩ => ⟨S2x2048x1, .f32⟩
  | .hbm, ⟨51, _⟩ => ⟨S_, .f32⟩
  | .hbm, ⟨52, _⟩ => ⟨S2x2048x1, .f32⟩
  | .hbm, ⟨53, _⟩ => ⟨S2x2048x1, .f32⟩
  | .hbm, ⟨54, _⟩ => ⟨S2x2048x512, .f32⟩
  | .hbm, ⟨55, _⟩ => ⟨S2x2048x512, .f32⟩
  | .hbm, ⟨56, _⟩ => ⟨S2x2048x512, .f32⟩
  | .hbm, ⟨57, _⟩ => ⟨S_, .f32⟩
  | .hbm, ⟨58, _⟩ => ⟨S2x2048, .f32⟩
  | .hbm, ⟨59, _⟩ => ⟨S2x2048x1, .f32⟩
  | .hbm, ⟨60, _⟩ => ⟨S_, .f32⟩
  | .hbm, ⟨61, _⟩ => ⟨S2x2048x1, .f32⟩
  | .hbm, ⟨62, _⟩ => ⟨S2x2048x1, .f32⟩
  | .hbm, ⟨63, _⟩ => ⟨S2x2048x512, .f32⟩
  | .hbm, ⟨64, _⟩ => ⟨S2x2048x512, .f32⟩
  | .hbm, ⟨65, _⟩ => ⟨S_, .f32⟩
  | .hbm, ⟨66, _⟩ => ⟨S2x2048x1, .f32⟩
  | .hbm, ⟨67, _⟩ => ⟨S2x2048x1, .f32⟩
  | .hbm, ⟨68, _⟩ => ⟨S2x2048x1, .f32⟩
  | .hbm, ⟨69, _⟩ => ⟨S2x2048x512, .f32⟩
  | .hbm, ⟨70, _⟩ => ⟨S2x2048x512, .f32⟩
  | .hbm, ⟨71, _⟩ => ⟨S1x1x512, .f32⟩
  | .hbm, ⟨72, _⟩ => ⟨S2x2048x512, .f32⟩
  | .hbm, ⟨73, _⟩ => ⟨S2x2048x512, .f32⟩
  | .hbm, ⟨74, _⟩ => ⟨S1x1x512, .f32⟩
  | .hbm, ⟨75, _⟩ => ⟨S2x2048x512, .f32⟩
  | .hbm, ⟨76, _⟩ => ⟨S2x2048x512, .f32⟩
  | .hbm, ⟨77, _⟩ => ⟨S2x16x128x4x128, .f32⟩
  | .hbm, ⟨78, _⟩ => ⟨S_, .i1⟩
  | .hbm, ⟨79, _⟩ => ⟨S128x128, .i1⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .i1⟩
  | .hbm, ⟨87, _⟩ => ⟨S128x128, .i1⟩
  | .hbm, ⟨88, _⟩ => ⟨S128x128, .i1⟩
  | .hbm, ⟨89, _⟩ => ⟨S1x128x128, .i1⟩
  | .hbm, ⟨90, _⟩ => ⟨S_, .f32⟩
  | .hbm, ⟨91, _⟩ => ⟨S4x128x128, .f32⟩
  | .hbm, ⟨92, _⟩ => ⟨S4x128x128, .i1⟩
  | .hbm, ⟨93, _⟩ => ⟨S4x128x128, .f32⟩
  | .hbm, ⟨94, _⟩ => ⟨S4x2x16x128x128, .f32⟩
  | .hbm, ⟨95, _⟩ => ⟨S2x16x128x4x128, .f32⟩
  | .hbm, ⟨96, _⟩ => ⟨S128x4, .f32⟩
  | .hbm, ⟨97, _⟩ => ⟨S1x1x128x4x1, .f32⟩
  | .hbm, ⟨98, _⟩ => ⟨S2x16x128x4x128, .f32⟩
  | .hbm, ⟨99, _⟩ => ⟨S2x16x128x4x128, .f32⟩
  | .hbm, ⟨100, _⟩ => ⟨S2x2048x512, .f32⟩
  | .hbm, ⟨101, _⟩ => ⟨S2x2048x512, .f32⟩
  | .hbm, ⟨102, _⟩ => ⟨S4096x512, .f32⟩
  | .hbm, ⟨103, _⟩ => ⟨S4096x512, .bf16⟩
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_cst_5 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_6 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_cst_10 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_cst_14 : Ref sig .tc := ⟨.hbm, 90, rfl⟩
abbrev main_v60 : Ref sig .tc := ⟨.hbm, 91, rfl⟩
abbrev main_call1_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩

abbrev nD : Nat := 1
abbrev τ : Topo := Topo.v7x

variable {F : FTy → Type} [FloatOps F]
-- ==== KernelAdaF.lean ====
abbrev S16x1024 : Shape := ⟨2, ![16, 1024]⟩
abbrev S1024x2304 : Shape := ⟨2, ![1024, 2304]⟩
abbrev S1x2304 : Shape := ⟨2, ![1, 2304]⟩
abbrev S16x2304 : Shape := ⟨2, ![16, 2304]⟩
abbrev S1024x768 : Shape := ⟨2, ![1024, 768]⟩
abbrev S1x768 : Shape := ⟨2, ![1, 768]⟩
abbrev S16x768 : Shape := ⟨2, ![16, 768]⟩

abbrev nBuf : Space → Nat
  | .hbm => 4
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x2304, .f32⟩
  | .hbm, ⟨2, _⟩ => ⟨S1x2304, .f32⟩
  | .hbm, ⟨3, _⟩ => ⟨S16x2304, .f32⟩
  | .local _ .vmem, ⟨0, _⟩ => ⟨S16x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceAdaFIdeal.lean ====
abbrev S16x1024 : Shape := ⟨2, ![16, 1024]⟩
abbrev S1024x2304 : Shape := ⟨2, ![1024, 2304]⟩
abbrev S1x2304 : Shape := ⟨2, ![1, 2304]⟩
abbrev S_ : Shape := ⟨0, ![]⟩
abbrev S16x2304 : Shape := ⟨2, ![16, 2304]⟩

abbrev nBuf : Space → Nat
  | .hbm => 15
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x2304, .f32⟩
  | .hbm, ⟨2, _⟩ => ⟨S1x2304, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x2304, .f32⟩
  | .hbm, ⟨13, _⟩ => ⟨S16x2304, .f32⟩
  | .hbm, ⟨14, _⟩ => ⟨S16x2304, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== KernelProj.lean ====
abbrev S2x2048x1024 : Shape := ⟨3, ![2, 2048, 1024]⟩
abbrev S1024x3840 : Shape := ⟨2, ![1024, 3840]⟩
abbrev S3840x1024 : Shape := ⟨2, ![3840, 1024]⟩
abbrev S4096x1024 : Shape := ⟨2, ![4096, 1024]⟩
abbrev S4096x768 : Shape := ⟨2, ![4096, 768]⟩
abbrev S4096x2048 : Shape := ⟨2, ![4096, 2048]⟩
abbrev S512x1024 : Shape := ⟨2, ![512, 1024]⟩
abbrev S512x768 : Shape := ⟨2, ![512, 768]⟩
abbrev S512x2048 : Shape := ⟨2, ![512, 2048]⟩
abbrev S1024x1024 : Shape := ⟨2, ![1024, 1024]⟩
abbrev S768x1024 : Shape := ⟨2, ![768, 1024]⟩
abbrev S2048x1024 : Shape := ⟨2, ![2048, 1024]⟩

abbrev nBuf : Space → Nat
  | .hbm => 9
  | .vmem => 9
  | .smem => 0
  | _ => 0

abbrev bufTy : (tb : Table) → Fin (tcTables nBuf tb) → BufTy
  | .hbm, ⟨0, _⟩ => ⟨S2x2048x1024, .f32⟩
  | .hbm, ⟨1, _⟩ => ⟨S1024x3840, .f32⟩
  | .hbm, ⟨2, _⟩ => ⟨S3840x1024, .f32⟩
  | .hbm, ⟨3, _⟩ => ⟨S3840x1024, .bf16⟩
  | .hbm, ⟨4, _⟩ => ⟨S4096x1024, .f32⟩
  | .hbm, ⟨5, _⟩ => ⟨S4096x1024, .bf16⟩
  | .hbm, ⟨6, _⟩ => ⟨S4096x1024, .bf16⟩
  | .hbm, ⟨7, _⟩ => ⟨S4096x768, .bf16⟩
  | .hbm, ⟨8, _⟩ => ⟨S4096x2048, .bf16⟩
  | .local _ .vmem, ⟨0, _⟩ => ⟨S512x1024, .bf16⟩
  | .local _ .vmem, ⟨1, _⟩ => ⟨S512x1024, .bf16⟩
  | .local _ .vmem, ⟨2, _⟩ => ⟨S3840x1024, .bf16⟩
  | .local _ .vmem, ⟨3, _⟩ => ⟨S512x1024, .bf16⟩
  | .local _ .vmem, ⟨4, _⟩ => ⟨S512x1024, .bf16⟩
  | .local _ .vmem, ⟨5, _⟩ => ⟨S512x768, .bf16⟩
  | .local _ .vmem, ⟨6, _⟩ => ⟨S512x768, .bf16⟩
  | .local _ .vmem, ⟨7, _⟩ => ⟨S512x2048, .bf16⟩
  | .local _ .vmem, ⟨8, _⟩ => ⟨S512x2048, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev main_v4_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3840x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceProjIdeal.lean ====
abbrev S2x2048x1024 : Shape := ⟨3, ![2, 2048, 1024]⟩
abbrev S1024x3840 : Shape := ⟨2, ![1024, 3840]⟩
abbrev S2x2048x3840 : Shape := ⟨3, ![2, 2048, 3840]⟩
abbrev S4096x3840 : Shape := ⟨2, ![4096, 3840]⟩
abbrev S4096x1024 : Shape := ⟨2, ![4096, 1024]⟩
abbrev S4096x768 : Shape := ⟨2, ![4096, 768]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x3840, .f32⟩
  | .hbm, ⟨2, _⟩ => ⟨S2x2048x3840, .f32⟩
  | .hbm, ⟨3, _⟩ => ⟨S4096x3840, .f32⟩
  | .hbm, ⟨4, _⟩ => ⟨S4096x3840, .bf16⟩
  | .hbm, ⟨5, _⟩ => ⟨S4096x1024, .bf16⟩
  | .hbm, ⟨6, _⟩ => ⟨S4096x768, .bf16⟩
  | .hbm, ⟨7, _⟩ => ⟨S4096x2048, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KernelMmTn.lean ====
abbrev S2x2048x1024 : Shape := ⟨3, ![2, 2048, 1024]⟩
abbrev S1024x2816 : Shape := ⟨2, ![1024, 2816]⟩
abbrev S2x2048x2816 : Shape := ⟨3, ![2, 2048, 2816]⟩
abbrev S4096x1024 : Shape := ⟨2, ![4096, 1024]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1x2048x704 : Shape := ⟨3, ![1, 2048, 704]⟩
abbrev S2048x1024 : Shape := ⟨2, ![2048, 1024]⟩
abbrev S1x704x1024 : Shape := ⟨3, ![1, 704, 1024]⟩
abbrev S704x1024 : Shape := ⟨2, ![704, 1024]⟩
abbrev S2048x704 : Shape := ⟨2, ![2048, 704]⟩

abbrev nBuf : Space → Nat
  | .hbm => 15
  | .vmem => 12
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2x2048x2816, .f32⟩
  | .hbm, ⟨4, _⟩ => ⟨S2x2048x2816, .f32⟩
  | .hbm, ⟨5, _⟩ => ⟨S4096x1024, .f32⟩
  | .hbm, ⟨6, _⟩ => ⟨S4096x1024, .bf16⟩
  | .hbm, ⟨7, _⟩ => ⟨S4096x4x704, .f32⟩
  | .hbm, ⟨8, _⟩ => ⟨S4x4096x704, .f32⟩
  | .hbm, ⟨9, _⟩ => ⟨S4x4096x704, .bf16⟩
  | .hbm, ⟨10, _⟩ => ⟨S4096x4x704, .f32⟩
  | .hbm, ⟨11, _⟩ => ⟨S4x4096x704, .f32⟩
  | .hbm, ⟨12, _⟩ => ⟨S4x4096x704, .bf16⟩
  | .hbm, ⟨13, _⟩ => ⟨S4x704x1024, .bf16⟩
  | .hbm, ⟨14, _⟩ => ⟨S4x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S2048x1024, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x704x1024, .bf16⟩
  | .local _ .vmem, ⟨7, _⟩ => ⟨S1x704x1024, .bf16⟩
  | .local _ .vmem, ⟨8, _⟩ => ⟨S1x704x1024, .bf16⟩
  | .local _ .vmem, ⟨9, _⟩ => ⟨S1x704x1024, .bf16⟩
  | .local _ .vmem, ⟨10, _⟩ => ⟨S704x1024, .f32⟩
  | .local _ .vmem, ⟨11, _⟩ => ⟨S704x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def k0_cond5 (i : grid0.Coords) : BitVec 1 :=
  let arg1 : BitVec 32 := BitVec.ofNat 32 (i 1).val
  let c1_i32 : BitVec 32 := 1#32
  let v22 : BitVec 1 := Scalar.cmpi .eq arg1 c1_i32
  let v23 : BitVec 32 := Scalar.extui v22
  let c0_i32_17 : BitVec 32 := 0#32
  let v24 : BitVec 1 := Scalar.cmpi .ne v23 c0_i32_17
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x704x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x704x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceMmTnIdeal.lean ====
abbrev S2x2048x1024 : Shape := ⟨3, ![2, 2048, 1024]⟩
abbrev S1024x2816 : Shape := ⟨2, ![1024, 2816]⟩
abbrev S2x2048x2816 : Shape := ⟨3, ![2, 2048, 2816]⟩
abbrev S2816x1024 : Shape := ⟨2, ![2816, 1024]⟩
abbrev S4x704x1024 : Shape := ⟨3, ![4, 704, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x2816, .f32⟩
  | .hbm, ⟨2, _⟩ => ⟨S1024x2816, .f32⟩
  | .hbm, ⟨3, _⟩ => ⟨S2x2048x2816, .f32⟩
  | .hbm, ⟨4, _⟩ => ⟨S2x2048x2816, .f32⟩
  | .hbm, ⟨5, _⟩ => ⟨S2x2048x2816, .f32⟩
  | .hbm, ⟨6, _⟩ => ⟨S2x2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S4x704x1024, .f32⟩
  | .hbm, ⟨13, _⟩ => ⟨S4x704x1024, .bf16⟩
  | .hbm, ⟨14, _⟩ => ⟨S2816x1024, .f32⟩
  | .hbm, ⟨15, _⟩ => ⟨S4x704x1024, .f32⟩
  | .hbm, ⟨16, _⟩ => ⟨S4x704x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== KernelAdamW.lean ====
abbrev S1x1024x2304 : Shape := ⟨3, ![1, 1024, 2304]⟩
abbrev S1024x2304 : Shape := ⟨2, ![1024, 2304]⟩
abbrev S64x2304 : Shape := ⟨2, ![64, 2304]⟩

abbrev nBuf : Space → Nat
  | .hbm => 12
  | .vmem => 16
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S1024x2304, .f32⟩
  | .hbm, ⟨5, _⟩ => ⟨S1024x2304, .f32⟩
  | .hbm, ⟨6, _⟩ => ⟨S1024x2304, .f32⟩
  | .hbm, ⟨7, _⟩ => ⟨S1024x2304, .f32⟩
  | .hbm, ⟨8, _⟩ => ⟨S1024x2304, .f32⟩
  | .hbm, ⟨9, _⟩ => ⟨S1024x2304, .f32⟩
  | .hbm, ⟨10, _⟩ => ⟨S1024x2304, .f32⟩
  | .hbm, ⟨11, _⟩ => ⟨S1024x2304, .f32⟩
  | .local _ .vmem, ⟨0, _⟩ => ⟨S64x2304, .f32⟩
  | .local _ .vmem, ⟨1, _⟩ => ⟨S64x2304, .f32⟩
  | .local _ .vmem, ⟨2, _⟩ => ⟨S64x2304, .f32⟩
  | .local _ .vmem, ⟨3, _⟩ => ⟨S64x2304, .f32⟩
  | .local _ .vmem, ⟨4, _⟩ => ⟨S64x2304, .f32⟩
  | .local _ .vmem, ⟨5, _⟩ => ⟨S64x2304, .f32⟩
  | .local _ .vmem, ⟨6, _⟩ => ⟨S64x2304, .f32⟩
  | .local _ .vmem, ⟨7, _⟩ => ⟨S64x2304, .f32⟩
  | .local _ .vmem, ⟨8, _⟩ => ⟨S64x2304, .f32⟩
  | .local _ .vmem, ⟨9, _⟩ => ⟨S64x2304, .f32⟩
  | .local _ .vmem, ⟨10, _⟩ => ⟨S64x2304, .f32⟩
  | .local _ .vmem, ⟨11, _⟩ => ⟨S64x2304, .f32⟩
  | .local _ .vmem, ⟨12, _⟩ => ⟨S64x2304, .f32⟩
  | .local _ .vmem, ⟨13, _⟩ => ⟨S64x2304, .f32⟩
  | .local _ .vmem, ⟨14, _⟩ => ⟨S64x2304, .f32⟩
  | .local _ .vmem, ⟨15, _⟩ => ⟨S64x2304, .f32⟩
  | _, _ => ⟨S1x1024x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev main_v4_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelAdamWIdeal.lean ====
variable {F : FTy → Type} [FloatOps F] [Named F]
def κ : String → Option EReal := fun
  | "one_over_f1" => some ((8388608 / 5463681 : ℝ) : EReal)
  | "one_over_f2" => some ((268435456 / 2672307 : ℝ) : EReal)
  | _ => none
-- ==== ReferenceAdamWIdeal.lean ====
abbrev S1x1024x2304 : Shape := ⟨3, ![1, 1024, 2304]⟩
abbrev S_ : Shape := ⟨0, ![]⟩
abbrev S1024x2304 : Shape := ⟨2, ![1024, 2304]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x2304, .f32⟩
  | .hbm, ⟨1, _⟩ => ⟨S1x1024x2304, .f32⟩
  | .hbm, ⟨2, _⟩ => ⟨S1x1024x2304, .f32⟩
  | .hbm, ⟨3, _⟩ => ⟨S1x1024x2304, .f32⟩
  | .hbm, ⟨4, _⟩ => ⟨S_, .f32⟩
  | .hbm, ⟨5, _⟩ => ⟨S1x1024x2304, .f32⟩
  | .hbm, ⟨6, _⟩ => ⟨S1x1024x2304, .f32⟩
  | .hbm, ⟨7, _⟩ => ⟨S_, .f32⟩
  | .hbm, ⟨8, _⟩ => ⟨S1x1024x2304, .f32⟩
  | .hbm, ⟨9, _⟩ => ⟨S1x1024x2304, .f32⟩
  | .hbm, ⟨10, _⟩ => ⟨S1x1024x2304, .f32⟩
  | .hbm, ⟨11, _⟩ => ⟨S_, .f32⟩
  | .hbm, ⟨12, _⟩ => ⟨S1x1024x2304, .f32⟩
  | .hbm, ⟨13, _⟩ => ⟨S1x1024x2304, .f32⟩
  | .hbm, ⟨14, _⟩ => ⟨S1x1024x2304, .f32⟩
  | .hbm, ⟨15, _⟩ => ⟨S_, .f32⟩
  | .hbm, ⟨16, _⟩ => ⟨S1x1024x2304, .f32⟩
  | .hbm, ⟨17, _⟩ => ⟨S1x1024x2304, .f32⟩
  | .hbm, ⟨18, _⟩ => ⟨S1x1024x2304, .f32⟩
  | .hbm, ⟨19, _⟩ => ⟨S_, .f32⟩
  | .hbm, ⟨20, _⟩ => ⟨S1x1024x2304, .f32⟩
  | .hbm, ⟨21, _⟩ => ⟨S1x1024x2304, .f32⟩
  | .hbm, ⟨22, _⟩ => ⟨S_, .f32⟩
  | .hbm, ⟨23, _⟩ => ⟨S1x1024x2304, .f32⟩
  | .hbm, ⟨24, _⟩ => ⟨S1x1024x2304, .f32⟩
  | .hbm, ⟨25, _⟩ => ⟨S1x1024x2304, .f32⟩
  | .hbm, ⟨26, _⟩ => ⟨S_, .f32⟩
  | .hbm, ⟨27, _⟩ => ⟨S1x1024x2304, .f32⟩
  | .hbm, ⟨28, _⟩ => ⟨S1x1024x2304, .f32⟩
  | .hbm, ⟨29, _⟩ => ⟨S1x1024x2304, .f32⟩
  | .hbm, ⟨30, _⟩ => ⟨S_, .f32⟩
  | .hbm, ⟨31, _⟩ => ⟨S1x1024x2304, .f32⟩
  | .hbm, ⟨32, _⟩ => ⟨S1x1024x2304, .f32⟩
  | .hbm, ⟨33, _⟩ => ⟨S1x1024x2304, .f32⟩
  | .hbm, ⟨34, _⟩ => ⟨S_, .f32⟩
  | .hbm, ⟨35, _⟩ => ⟨S1x1024x2304, .f32⟩
  | .hbm, ⟨36, _⟩ => ⟨S1x1024x2304, .f32⟩
  | .hbm, ⟨37, _⟩ => ⟨S1024x2304, .f32⟩
  | .hbm, ⟨38, _⟩ => ⟨S1024x2304, .f32⟩
  | .hbm, ⟨39, _⟩ => ⟨S1024x2304, .f32⟩
  | .hbm, ⟨40, _⟩ => ⟨S1024x2304, .f32⟩
  | _, _ => ⟨S1x1024x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== KernelSum.lean ====
abbrev S8x72x1024 : Shape := ⟨3, ![8, 72, 1024]⟩
abbrev S72x1024 : Shape := ⟨2, ![72, 1024]⟩
abbrev S1x72x1024 : Shape := ⟨3, ![1, 72, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x72x1024, .f32⟩
  | .hbm, ⟨1, _⟩ => ⟨S72x1024, .f32⟩
  | .local _ .vmem, ⟨0, _⟩ => ⟨S8x72x1024, .f32⟩
  | .local _ .vmem, ⟨1, _⟩ => ⟨S72x1024, .f32⟩
  | _, _ => ⟨S8x72x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x72x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceSumIdeal.lean ====
abbrev S8x72x1024 : Shape := ⟨3, ![8, 72, 1024]⟩
abbrev S_ : Shape := ⟨0, ![]⟩
abbrev S72x1024 : Shape := ⟨2, ![72, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x72x1024, .f32⟩
  | .hbm, ⟨1, _⟩ => ⟨S_, .f32⟩
  | .hbm, ⟨2, _⟩ => ⟨S72x1024, .f32⟩
  | _, _ => ⟨S8x72x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== KernelPair.lean ====
abbrev S4x704x1024 : Shape := ⟨3, ![4, 704, 1024]⟩
abbrev S4x352x1024 : Shape := ⟨3, ![4, 352, 1024]⟩
abbrev S1 : Shape := ⟨1, ![1]⟩
abbrev S1x352x1024 : Shape := ⟨3, ![1, 352, 1024]⟩

abbrev nBuf : Space → Nat
  | .hbm => 3
  | .vmem => 6
  | .smem => 1
  | _ => 0

abbrev bufTy : (tb : Table) → Fin (tcTables nBuf tb) → BufTy
  | .hbm, ⟨0, _⟩ => ⟨S4x704x1024, .bf16⟩
  | .hbm, ⟨1, _⟩ => ⟨S4x352x1024, .bf16⟩
  | .hbm, ⟨2, _⟩ => ⟨S4x352x1024, .bf16⟩
  | .local _ .vmem, ⟨0, _⟩ => ⟨S1x352x1024, .bf16⟩
  | .local _ .vmem, ⟨1, _⟩ => ⟨S1x352x1024, .bf16⟩
  | .local _ .vmem, ⟨2, _⟩ => ⟨S1x352x1024, .bf16⟩
  | .local _ .vmem, ⟨3, _⟩ => ⟨S1x352x1024, .bf16⟩
  | .local _ .vmem, ⟨4, _⟩ => ⟨S1x352x1024, .bf16⟩
  | .local _ .vmem, ⟨5, _⟩ => ⟨S1x352x1024, .bf16⟩
  | .local _ .smem, ⟨0, _⟩ => ⟨S1, .i32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferencePairIdeal.lean ====
abbrev S4x704x1024 : Shape := ⟨3, ![4, 704, 1024]⟩
abbrev S4x352x1024 : Shape := ⟨3, ![4, 352, 1024]⟩
abbrev S1 : Shape := ⟨1, ![1]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S4x352x1024, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x352x1024, .bf16⟩
  | .hbm, ⟨7, _⟩ => ⟨S4x352x1024, .bf16⟩
  | .hbm, ⟨8, _⟩ => ⟨S4x352x1024, .bf16⟩
  | .hbm, ⟨9, _⟩ => ⟨S4x352x1024, .bf16⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== KernelAttB.lean ====
abbrev S2x2048x512 : Shape := ⟨3, ![2, 2048, 512]⟩
abbrev S2x2048x128 : Shape := ⟨3, ![2, 2048, 128]⟩
abbrev S1x64 : Shape := ⟨2, ![1, 64]⟩
abbrev S1x8 : Shape := ⟨2, ![1, 8]⟩
abbrev S2x2048x768 : Shape := ⟨3, ![2, 2048, 768]⟩
abbrev S4096x768 : Shape := ⟨2, ![4096, 768]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S4096x512 : Shape := ⟨2, ![4096, 512]⟩
abbrev S8x128 : Shape := ⟨2, ![8, 128]⟩
abbrev S2048x768 : Shape := ⟨2, ![2048, 768]⟩
abbrev S2048x512 : Shape := ⟨2, ![2048, 512]⟩
abbrev S2176x256 : Shape := ⟨2, ![2176, 256]⟩
abbrev S2x128x256 : Shape := ⟨3, ![2, 128, 256]⟩
abbrev S512x256 : Shape := ⟨2, ![512, 256]⟩
abbrev S128x128 : Shape := ⟨2, ![128, 128]⟩
abbrev S128x256 : Shape := ⟨2, ![128, 256]⟩
abbrev S512x128 : Shape := ⟨2, ![512, 128]⟩
abbrev S1x128x256 : Shape := ⟨3, ![1, 128, 256]⟩
abbrev S512x512 : Shape := ⟨2, ![512, 512]⟩
abbrev S128x512 : Shape := ⟨2, ![128, 512]⟩
abbrev S256x256 : Shape := ⟨2, ![256, 256]⟩
abbrev S1x1 : Shape := ⟨2, ![1, 1]⟩
abbrev S32x256 : Shape := ⟨2, ![32, 256]⟩
abbrev S1x32x256 : Shape := ⟨3, ![1, 32, 256]⟩
abbrev S32 : Shape := ⟨1, ![32]⟩
abbrev S32x1 : Shape := ⟨2, ![32, 1]⟩
abbrev S1x32x1 : Shape := ⟨3, ![1, 32, 1]⟩
abbrev S1 : Shape := ⟨1, ![1]⟩
abbrev S1x1x1 : Shape := ⟨3, ![1, 1, 1]⟩
abbrev S512 : Shape := ⟨1, ![512]⟩
abbrev S256x128 : Shape := ⟨2, ![256, 128]⟩
abbrev S128 : Shape := ⟨1, ![128]⟩

abbrev nBuf : Space → Nat
  | .hbm => 22
  | .vmem => 26
  | .smem => 1
  | _ => 0

abbrev bufTy : (tb : Table) → Fin (tcTables nBuf tb) → BufTy
  | .hbm, ⟨0, _⟩ => ⟨S2x2048x512, .f32⟩
  | .hbm, ⟨1, _⟩ => ⟨S2x2048x128, .f32⟩
  | .hbm, ⟨2, _⟩ => ⟨S2x2048x128, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S2x2048x512, .f32⟩
  | .hbm, ⟨7, _⟩ => ⟨S2x2048x768, .f32⟩
  | .hbm, ⟨8, _⟩ => ⟨S4096x768, .f32⟩
  | .hbm, ⟨9, _⟩ => ⟨S4096x768, .bf16⟩
  | .hbm, ⟨10, _⟩ => ⟨S1x1x1x64, .f32⟩
  | .hbm, ⟨11, _⟩ => ⟨S1x1x8x64, .f32⟩
  | .hbm, ⟨12, _⟩ => ⟨S1x512, .f32⟩
  | .hbm, ⟨13, _⟩ => ⟨S1x1x1x64, .f32⟩
  | .hbm, ⟨14, _⟩ => ⟨S1x1x2x64, .f32⟩
  | .hbm, ⟨15, _⟩ => ⟨S1x128, .f32⟩
  | .hbm, ⟨16, _⟩ => ⟨S4096x512, .f32⟩
  | .hbm, ⟨17, _⟩ => ⟨S4096x512, .bf16⟩
  | .hbm, ⟨18, _⟩ => ⟨S4096x768, .bf16⟩
  | .hbm, ⟨19, _⟩ => ⟨S1x512, .f32⟩
  | .hbm, ⟨20, _⟩ => ⟨S1x128, .f32⟩
  | .hbm, ⟨21, _⟩ => ⟨S8x128, .f32⟩
  | .local _ .vmem, ⟨0, _⟩ => ⟨S2048x768, .bf16⟩
  | .local _ .vmem, ⟨1, _⟩ => ⟨S2048x768, .bf16⟩
  | .local _ .vmem, ⟨2, _⟩ => ⟨S2048x512, .bf16⟩
  | .local _ .vmem, ⟨3, _⟩ => ⟨S2048x512, .bf16⟩
  | .local _ .vmem, ⟨4, _⟩ => ⟨S1x512, .f32⟩
  | .local _ .vmem, ⟨5, _⟩ => ⟨S1x128, .f32⟩
  | .local _ .vmem, ⟨6, _⟩ => ⟨S2048x768, .bf16⟩
  | .local _ .vmem, ⟨7, _⟩ => ⟨S2048x768, .bf16⟩
  | .local _ .vmem, ⟨8, _⟩ => ⟨S1x512, .f32⟩
  | .local _ .vmem, ⟨9, _⟩ => ⟨S1x128, .f32⟩
  | .local _ .vmem, ⟨10, _⟩ => ⟨S8x128, .f32⟩
  | .local _ .vmem, ⟨11, _⟩ => ⟨S2176x256, .bf16⟩
  | .local _ .vmem, ⟨12, _⟩ => ⟨S2176x256, .bf16⟩
  | .local _ .vmem, ⟨13, _⟩ => ⟨S2176x256, .bf16⟩
  | .local _ .vmem, ⟨14, _⟩ => ⟨S2176x256, .bf16⟩
  | .local _ .vmem, ⟨15, _⟩ => ⟨S2176x256, .f32⟩
  | .local _ .vmem, ⟨16, _⟩ => ⟨S2176x256, .f32⟩
  | .local _ .vmem, ⟨17, _⟩ => ⟨S2176x256, .f32⟩
  | .local _ .vmem, ⟨18, _⟩ => ⟨S2176x256, .f32⟩
  | .local _ .vmem, ⟨19, _⟩ => ⟨S1x512, .f32⟩
  | .local _ .vmem, ⟨20, _⟩ => ⟨S1x128, .f32⟩
  | .local _ .vmem, ⟨21, _⟩ => ⟨S2x128x256, .f32⟩
  | .local _ .vmem, ⟨22, _⟩ => ⟨S512x256, .f32⟩
  | .local _ .vmem, ⟨23, _⟩ => ⟨S512x256, .f32⟩
  | .local _ .vmem, ⟨24, _⟩ => ⟨S512x256, .bf16⟩
  | .local _ .vmem, ⟨25, _⟩ => ⟨S512x256, .bf16⟩
  | .local _ .smem, ⟨0, _⟩ => ⟨S1x8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_scratch8 : Ref sig .tc := ⟨.vmem, 19, rfl⟩
abbrev cc0_scratch9 : Ref sig .tc := ⟨.vmem, 20, rfl⟩
abbrev cc0_scratch10 : Ref sig .tc := ⟨.vmem, 21, rfl⟩
abbrev cc0_scratch11 : Ref sig .tc := ⟨.vmem, 22, rfl⟩
abbrev cc0_scratch12 : Ref sig .tc := ⟨.vmem, 23, rfl⟩
abbrev cc0_scratch13 : Ref sig .tc := ⟨.vmem, 24, rfl⟩
abbrev cc0_scratch14 : Ref sig .tc := ⟨.vmem, 25, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_18 : BitVec 32 := 0#32
  let c4_i32 : BitVec 32 := 4#32
  let v49 : BitVec 32 := Scalar.addi c0_i32_18 c4_i32
  let c1_i32 : BitVec 32 := 1#32
  ⟨c0_i32_18, v49, c1_i32⟩
def k0_mult1 (k0_t1 : Fin k0_t1_loop.trips) : BitVec 32 :=
  let c0_i32_18 : BitVec 32 := 0#32
  let c1_i32 : BitVec 32 := 1#32
  let arg25 : BitVec 32 := Scf.iv c0_i32_18 c1_i32 k0_t1
  let c512_i32 : BitVec 32 := 512#32
  let v164 : BitVec 32 := Scalar.muli arg25 c512_i32
  v164
def k0_off1 (k0_t1 : Fin k0_t1_loop.trips) : Fin 2 → Nat :=
  let c0_i32_18 : BitVec 32 := 0#32
  let c1_i32 : BitVec 32 := 1#32
  let arg25 : BitVec 32 := Scf.iv c0_i32_18 c1_i32 k0_t1
  let c512_i32 : BitVec 32 := 512#32
  let v164 : BitVec 32 := Scalar.muli arg25 c512_i32
  let v165 : BitVec 32 := v164
  let v166 : Index := Scalar.indexCast v165
  let c512 : Index := 512#32
  ![v166.toNat, 512]
def k0_off2 (k0_t1 : Fin k0_t1_loop.trips) : Fin 2 → Nat :=
  let c0_i32_18 : BitVec 32 := 0#32
  let c1_i32 : BitVec 32 := 1#32
  let arg25 : BitVec 32 := Scf.iv c0_i32_18 c1_i32 k0_t1
  let c512_i32 : BitVec 32 := 512#32
  let v164 : BitVec 32 := Scalar.muli arg25 c512_i32
  let v165 : BitVec 32 := v164
  let v186 : Index := Scalar.indexCast v165
  let c640 : Index := 640#32
  ![v186.toNat, 640]
def k0_mult2 (k0_t1 : Fin k0_t1_loop.trips) : BitVec 32 :=
  let c0_i32_18 : BitVec 32 := 0#32
  let c1_i32 : BitVec 32 := 1#32
  let arg25 : BitVec 32 := Scf.iv c0_i32_18 c1_i32 k0_t1
  let c512_i32 : BitVec 32 := 512#32
  let v164 : BitVec 32 := Scalar.muli arg25 c512_i32
  let v165 : BitVec 32 := v164
  let c128_i32_87 : BitVec 32 := 128#32
  let v189 : BitVec 32 := Scalar.addi v165 c128_i32_87
  v189
def k0_off3 (k0_t1 : Fin k0_t1_loop.trips) : Fin 2 → Nat :=
  let c0_i32_18 : BitVec 32 := 0#32
  let c1_i32 : BitVec 32 := 1#32
  let arg25 : BitVec 32 := Scf.iv c0_i32_18 c1_i32 k0_t1
  let c512_i32 : BitVec 32 := 512#32
  let v164 : BitVec 32 := Scalar.muli arg25 c512_i32
  let v165 : BitVec 32 := v164
  let c128_i32_87 : BitVec 32 := 128#32
  let v189 : BitVec 32 := Scalar.addi v165 c128_i32_87
  let v190 : BitVec 32 := v189
  let v193 : Index := Scalar.indexCast v190
  let c0_89 : Index := 0#32
  ![v193.toNat, 0]
@[reducible] def k0_t2_loop : Scf.Loop 32 :=
  let c0_i32_54 : BitVec 32 := 0#32
  let c16_i32 : BitVec 32 := 16#32
  let v111 : BitVec 32 := Scalar.addi c0_i32_54 c16_i32
  let c1_i32_55 : BitVec 32 := 1#32
  ⟨c0_i32_54, v111, c1_i32_55⟩
def k0_mult3 (k0_t2 : Fin k0_t2_loop.trips) : BitVec 32 :=
  let c0_i32_54 : BitVec 32 := 0#32
  let c1_i32_55 : BitVec 32 := 1#32
  let arg25 : BitVec 32 := Scf.iv c0_i32_54 c1_i32_55 k0_t2
  let c128_i32_82 : BitVec 32 := 128#32
  let v164 : BitVec 32 := Scalar.muli arg25 c128_i32_82
  v164
def k0_off4 (k0_t2 : Fin k0_t2_loop.trips) : Fin 2 → Nat :=
  let c0_i32_54 : BitVec 32 := 0#32
  let c1_i32_55 : BitVec 32 := 1#32
  let arg25 : BitVec 32 := Scf.iv c0_i32_54 c1_i32_55 k0_t2
  let c128_i32_82 : BitVec 32 := 128#32
  let v164 : BitVec 32 := Scalar.muli arg25 c128_i32_82
  let v165 : BitVec 32 := v164
  let v167 : Index := Scalar.indexCast v165
  let c0_84 : Index := 0#32
  ![v167.toNat, 0]
def k0_off5 (k0_t2 : Fin k0_t2_loop.trips) : Fin 2 → Nat :=
  let c0_i32_54 : BitVec 32 := 0#32
  let c1_i32_55 : BitVec 32 := 1#32
  let arg25 : BitVec 32 := Scf.iv c0_i32_54 c1_i32_55 k0_t2
  let c128_i32_82 : BitVec 32 := 128#32
  let v164 : BitVec 32 := Scalar.muli arg25 c128_i32_82
  let v165 : BitVec 32 := v164
  let v213 : Index := Scalar.indexCast v165
  let c0_98 : Index := 0#32
  ![v213.toNat, 0]
def k0_off6 (k0_t2 : Fin k0_t2_loop.trips) : Fin 2 → Nat :=
  let c0_i32_54 : BitVec 32 := 0#32
  let c1_i32_55 : BitVec 32 := 1#32
  let arg25 : BitVec 32 := Scf.iv c0_i32_54 c1_i32_55 k0_t2
  let c128_i32_82 : BitVec 32 := 128#32
  let v164 : BitVec 32 := Scalar.muli arg25 c128_i32_82
  let v165 : BitVec 32 := v164
  let v215 : Index := Scalar.indexCast v165
  let c0_99 : Index := 0#32
  ![v215.toNat, 0]
def k0_mult4 : BitVec 32 :=
  let c0_i32_116 : BitVec 32 := 0#32
  let c32_i32 : BitVec 32 := 32#32
  let v253 : BitVec 32 := Scalar.muli c0_i32_116 c32_i32
  v253
def k0_mult5 : BitVec 32 :=
  let c0_i32_116 : BitVec 32 := 0#32
  let c4_i32_117 : BitVec 32 := 4#32
  let c0_i32_118 : BitVec 32 := 0#32
  let v255 : BitVec 1 := Scalar.cmpi .eq c4_i32_117 c0_i32_118
  let c1_i32_119 : BitVec 32 := 1#32
  let v256 : BitVec 32 := Scalar.select v255 c1_i32_119 c4_i32_117
  let v257 : BitVec 32 := Scalar.remsi c0_i32_116 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let c32_i32_123 : BitVec 32 := 32#32
  let v265 : BitVec 32 := Scalar.muli v264 c32_i32_123
  v265
def k0_off7 (c0_i32_131 : BitVec 32) (c0_i32_116 : BitVec 32) : Fin 2 → Nat :=
  let c0_132 : Index := 0#32
  let c0_i32_125 : BitVec 32 := 0#32
  let v268 : BitVec 1 := Scalar.cmpi .sgt c0_i32_116 c0_i32_125
  let v269 : BitVec 32 := Scalar.extui v268
  let c0_i32_126 : BitVec 32 := 0#32
  let v270 : BitVec 1 := Scalar.cmpi .slt c0_i32_116 c0_i32_126
  let v271 : BitVec 32 := Scalar.extui v270
  let v272 : BitVec 32 := Scalar.subi v269 v271
  let c4_i32_124 : BitVec 32 := 4#32
  let c0_i32_127 : BitVec 32 := 0#32
  let v273 : BitVec 1 := Scalar.cmpi .sgt c4_i32_124 c0_i32_127
  let v274 : BitVec 32 := Scalar.extui v273
  let c0_i32_128 : BitVec 32 := 0#32
  let v275 : BitVec 1 := Scalar.cmpi .slt c4_i32_124 c0_i32_128
  let v276 : BitVec 32 := Scalar.extui v275
  let v277 : BitVec 32 := Scalar.subi v274 v276
  let v278 : BitVec 1 := Scalar.cmpi .ne v272 v277
  let v279 : BitVec 32 := Scalar.remsi c0_i32_116 c4_i32_124
  let c0_i32_129 : BitVec 32 := 0#32
  let v280 : BitVec 1 := Scalar.cmpi .ne v279 c0_i32_129
  let v281 : BitVec 1 := Scalar.andi v278 v280
  let v267 : BitVec 32 := Scalar.divsi c0_i32_116 c4_i32_124
  let c1_i32_130 : BitVec 32 := 1#32
  let v282 : BitVec 32 := Scalar.subi v267 c1_i32_130
  let v283 : BitVec 32 := Scalar.select v281 v282 v267
  let v284 : BitVec 32 := Scalar.addi c0_i32_131 v283
  let v285 : Index := Scalar.indexCast v284
  ![0, v285.toNat]
def k0_off8 (c0_i32_116 : BitVec 32) : Fin 2 → Nat :=
  let c32_i32 : BitVec 32 := 32#32
  let v253 : BitVec 32 := Scalar.muli c0_i32_116 c32_i32
  let v254 : BitVec 32 := v253
  let v287 : Index := Scalar.indexCast v254
  let c0_133 : Index := 0#32
  ![v287.toNat, 0]
def k0_off9 (k0_t2 : Fin k0_t2_loop.trips) (c0_i32_116 : BitVec 32) : Fin 3 → Nat :=
  let c0_i32_54 : BitVec 32 := 0#32
  let c1_i32_55 : BitVec 32 := 1#32
  let arg25 : BitVec 32 := Scf.iv c0_i32_54 c1_i32_55 k0_t2
  let c1_i32_83 : BitVec 32 := 1#32
  let v166 : BitVec 32 := Scalar.minsi arg25 c1_i32_83
  let v289 : Index := Scalar.indexCast v166
  let c4_i32_117 : BitVec 32 := 4#32
  let c0_i32_118 : BitVec 32 := 0#32
  let v255 : BitVec 1 := Scalar.cmpi .eq c4_i32_117 c0_i32_118
  let c1_i32_119 : BitVec 32 := 1#32
  let v256 : BitVec 32 := Scalar.select v255 c1_i32_119 c4_i32_117
  let v257 : BitVec 32 := Scalar.remsi c0_i32_116 v256
  let c0_i32_121 : BitVec 32 := 0#32
  let v259 : BitVec 1 := Scalar.cmpi .slt v257 c0_i32_121
  let c0_i32_122 : BitVec 32 := 0#32
  let v260 : BitVec 1 := Scalar.cmpi .slt v256 c0_i32_122
  let v261 : BitVec 1 := Scalar.xori v259 v260
  let c0_i32_120 : BitVec 32 := 0#32
  let v258 : BitVec 1 := Scalar.cmpi .ne v257 c0_i32_120
  let v262 : BitVec 1 := Scalar.andi v261 v258
  let v263 : BitVec 32 := Scalar.addi v257 v256
  let v264 : BitVec 32 := Scalar.select v262 v263 v257
  let c32_i32_123 : BitVec 32 := 32#32
  let v265 : BitVec 32 := Scalar.muli v264 c32_i32_123
  let v266 : BitVec 32 := v265
  let v290 : Index := Scalar.indexCast v266
  let c0_134 : Index := 0#32
  ![v289.toNat, v290.toNat, 0]
def k0_mult6 : BitVec 32 :=
  let c1_i32_157 : BitVec 32 := 1#32
  let c32_i32_158 : BitVec 32 := 32#32
  let v364 : BitVec 32 := Scalar.muli c1_i32_157 c32_i32_158
  v364
def k0_mult7 : BitVec 32 :=
  let c1_i32_157 : BitVec 32 := 1#32
  let c4_i32_159 : BitVec 32 := 4#32
  let c0_i32_160 : BitVec 32 := 0#32
  let v366 : BitVec 1 := Scalar.cmpi .eq c4_i32_159 c0_i32_160
  let c1_i32_161 : BitVec 32 := 1#32
  let v367 : BitVec 32 := Scalar.select v366 c1_i32_161 c4_i32_159
  let v368 : BitVec 32 := Scalar.remsi c1_i32_157 v367
  let c0_i32_163 : BitVec 32 := 0#32
  let v370 : BitVec 1 := Scalar.cmpi .slt v368 c0_i32_163
  let c0_i32_164 : BitVec 32 := 0#32
  let v371 : BitVec 1 := Scalar.cmpi .slt v367 c0_i32_164
  let v372 : BitVec 1 := Scalar.xori v370 v371
  let c0_i32_162 : BitVec 32 := 0#32
  let v369 : BitVec 1 := Scalar.cmpi .ne v368 c0_i32_162
  let v373 : BitVec 1 := Scalar.andi v372 v369
  let v374 : BitVec 32 := Scalar.addi v368 v367
  let v375 : BitVec 32 := Scalar.select v373 v374 v368
  let c32_i32_165 : BitVec 32 := 32#32
  let v376 : BitVec 32 := Scalar.muli v375 c32_i32_165
  v376
def k0_mult8 : BitVec 32 :=
  let c2_i32_199 : BitVec 32 := 2#32
  let c32_i32_200 : BitVec 32 := 32#32
  let v475 : BitVec 32 := Scalar.muli c2_i32_199 c32_i32_200
  v475
def k0_mult9 : BitVec 32 :=
  let c2_i32_199 : BitVec 32 := 2#32
  let c4_i32_201 : BitVec 32 := 4#32
  let c0_i32_202 : BitVec 32 := 0#32
  let v477 : BitVec 1 := Scalar.cmpi .eq c4_i32_201 c0_i32_202
  let c1_i32_203 : BitVec 32 := 1#32
  let v478 : BitVec 32 := Scalar.select v477 c1_i32_203 c4_i32_201
  let v479 : BitVec 32 := Scalar.remsi c2_i32_199 v478
  let c0_i32_205 : BitVec 32 := 0#32
  let v481 : BitVec 1 := Scalar.cmpi .slt v479 c0_i32_205
  let c0_i32_206 : BitVec 32 := 0#32
  let v482 : BitVec 1 := Scalar.cmpi .slt v478 c0_i32_206
  let v483 : BitVec 1 := Scalar.xori v481 v482
  let c0_i32_204 : BitVec 32 := 0#32
  let v480 : BitVec 1 := Scalar.cmpi .ne v479 c0_i32_204
  let v484 : BitVec 1 := Scalar.andi v483 v480
  let v485 : BitVec 32 := Scalar.addi v479 v478
  let v486 : BitVec 32 := Scalar.select v484 v485 v479
  let c32_i32_207 : BitVec 32 := 32#32
  let v487 : BitVec 32 := Scalar.muli v486 c32_i32_207
  v487
def k0_mult10 : BitVec 32 :=
  let c3_i32_241 : BitVec 32 := 3#32
  let c32_i32_242 : BitVec 32 := 32#32
  let v586 : BitVec 32 := Scalar.muli c3_i32_241 c32_i32_242
  v586
def k0_mult11 : BitVec 32 :=
  let c3_i32_241 : BitVec 32 := 3#32
  let c4_i32_243 : BitVec 32 := 4#32
  let c0_i32_244 : BitVec 32 := 0#32
  let v588 : BitVec 1 := Scalar.cmpi .eq c4_i32_243 c0_i32_244
  let c1_i32_245 : BitVec 32 := 1#32
  let v589 : BitVec 32 := Scalar.select v588 c1_i32_245 c4_i32_243
  let v590 : BitVec 32 := Scalar.remsi c3_i32_241 v589
  let c0_i32_247 : BitVec 32 := 0#32
  let v592 : BitVec 1 := Scalar.cmpi .slt v590 c0_i32_247
  let c0_i32_248 : BitVec 32 := 0#32
  let v593 : BitVec 1 := Scalar.cmpi .slt v589 c0_i32_248
  let v594 : BitVec 1 := Scalar.xori v592 v593
  let c0_i32_246 : BitVec 32 := 0#32
  let v591 : BitVec 1 := Scalar.cmpi .ne v590 c0_i32_246
  let v595 : BitVec 1 := Scalar.andi v594 v591
  let v596 : BitVec 32 := Scalar.addi v590 v589
  let v597 : BitVec 32 := Scalar.select v595 v596 v590
  let c32_i32_249 : BitVec 32 := 32#32
  let v598 : BitVec 32 := Scalar.muli v597 c32_i32_249
  v598
def k0_mult12 : BitVec 32 :=
  let c4_i32_283 : BitVec 32 := 4#32
  let c32_i32_284 : BitVec 32 := 32#32
  let v697 : BitVec 32 := Scalar.muli c4_i32_283 c32_i32_284
  v697
def k0_mult13 : BitVec 32 :=
  let c4_i32_283 : BitVec 32 := 4#32
  let c4_i32_285 : BitVec 32 := 4#32
  let c0_i32_286 : BitVec 32 := 0#32
  let v699 : BitVec 1 := Scalar.cmpi .eq c4_i32_285 c0_i32_286
  let c1_i32_287 : BitVec 32 := 1#32
  let v700 : BitVec 32 := Scalar.select v699 c1_i32_287 c4_i32_285
  let v701 : BitVec 32 := Scalar.remsi c4_i32_283 v700
  let c0_i32_289 : BitVec 32 := 0#32
  let v703 : BitVec 1 := Scalar.cmpi .slt v701 c0_i32_289
  let c0_i32_290 : BitVec 32 := 0#32
  let v704 : BitVec 1 := Scalar.cmpi .slt v700 c0_i32_290
  let v705 : BitVec 1 := Scalar.xori v703 v704
  let c0_i32_288 : BitVec 32 := 0#32
  let v702 : BitVec 1 := Scalar.cmpi .ne v701 c0_i32_288
  let v706 : BitVec 1 := Scalar.andi v705 v702
  let v707 : BitVec 32 := Scalar.addi v701 v700
  let v708 : BitVec 32 := Scalar.select v706 v707 v701
  let c32_i32_291 : BitVec 32 := 32#32
  let v709 : BitVec 32 := Scalar.muli v708 c32_i32_291
  v709
def k0_mult14 : BitVec 32 :=
  let c5_i32 : BitVec 32 := 5#32
  let c32_i32_325 : BitVec 32 := 32#32
  let v808 : BitVec 32 := Scalar.muli c5_i32 c32_i32_325
  v808
def k0_mult15 : BitVec 32 :=
  let c5_i32 : BitVec 32 := 5#32
  let c4_i32_326 : BitVec 32 := 4#32
  let c0_i32_327 : BitVec 32 := 0#32
  let v810 : BitVec 1 := Scalar.cmpi .eq c4_i32_326 c0_i32_327
  let c1_i32_328 : BitVec 32 := 1#32
  let v811 : BitVec 32 := Scalar.select v810 c1_i32_328 c4_i32_326
  let v812 : BitVec 32 := Scalar.remsi c5_i32 v811
  let c0_i32_330 : BitVec 32 := 0#32
  let v814 : BitVec 1 := Scalar.cmpi .slt v812 c0_i32_330
  let c0_i32_331 : BitVec 32 := 0#32
  let v815 : BitVec 1 := Scalar.cmpi .slt v811 c0_i32_331
  let v816 : BitVec 1 := Scalar.xori v814 v815
  let c0_i32_329 : BitVec 32 := 0#32
  let v813 : BitVec 1 := Scalar.cmpi .ne v812 c0_i32_329
  let v817 : BitVec 1 := Scalar.andi v816 v813
  let v818 : BitVec 32 := Scalar.addi v812 v811
  let v819 : BitVec 32 := Scalar.select v817 v818 v812
  let c32_i32_332 : BitVec 32 := 32#32
  let v820 : BitVec 32 := Scalar.muli v819 c32_i32_332
  v820
def k0_mult16 : BitVec 32 :=
  let c6_i32_366 : BitVec 32 := 6#32
  let c32_i32_367 : BitVec 32 := 32#32
  let v919 : BitVec 32 := Scalar.muli c6_i32_366 c32_i32_367
  v919
def k0_mult17 : BitVec 32 :=
  let c6_i32_366 : BitVec 32 := 6#32
  let c4_i32_368 : BitVec 32 := 4#32
  let c0_i32_369 : BitVec 32 := 0#32
  let v921 : BitVec 1 := Scalar.cmpi .eq c4_i32_368 c0_i32_369
  let c1_i32_370 : BitVec 32 := 1#32
  let v922 : BitVec 32 := Scalar.select v921 c1_i32_370 c4_i32_368
  let v923 : BitVec 32 := Scalar.remsi c6_i32_366 v922
  let c0_i32_372 : BitVec 32 := 0#32
  let v925 : BitVec 1 := Scalar.cmpi .slt v923 c0_i32_372
  let c0_i32_373 : BitVec 32 := 0#32
  let v926 : BitVec 1 := Scalar.cmpi .slt v922 c0_i32_373
  let v927 : BitVec 1 := Scalar.xori v925 v926
  let c0_i32_371 : BitVec 32 := 0#32
  let v924 : BitVec 1 := Scalar.cmpi .ne v923 c0_i32_371
  let v928 : BitVec 1 := Scalar.andi v927 v924
  let v929 : BitVec 32 := Scalar.addi v923 v922
  let v930 : BitVec 32 := Scalar.select v928 v929 v923
  let c32_i32_374 : BitVec 32 := 32#32
  let v931 : BitVec 32 := Scalar.muli v930 c32_i32_374
  v931
def k0_mult18 : BitVec 32 :=
  let c7_i32 : BitVec 32 := 7#32
  let c32_i32_408 : BitVec 32 := 32#32
  let v1030 : BitVec 32 := Scalar.muli c7_i32 c32_i32_408
  v1030
def k0_mult19 : BitVec 32 :=
  let c7_i32 : BitVec 32 := 7#32
  let c4_i32_409 : BitVec 32 := 4#32
  let c0_i32_410 : BitVec 32 := 0#32
  let v1032 : BitVec 1 := Scalar.cmpi .eq c4_i32_409 c0_i32_410
  let c1_i32_411 : BitVec 32 := 1#32
  let v1033 : BitVec 32 := Scalar.select v1032 c1_i32_411 c4_i32_409
  let v1034 : BitVec 32 := Scalar.remsi c7_i32 v1033
  let c0_i32_413 : BitVec 32 := 0#32
  let v1036 : BitVec 1 := Scalar.cmpi .slt v1034 c0_i32_413
  let c0_i32_414 : BitVec 32 := 0#32
  let v1037 : BitVec 1 := Scalar.cmpi .slt v1033 c0_i32_414
  let v1038 : BitVec 1 := Scalar.xori v1036 v1037
  let c0_i32_412 : BitVec 32 := 0#32
  let v1035 : BitVec 1 := Scalar.cmpi .ne v1034 c0_i32_412
  let v1039 : BitVec 1 := Scalar.andi v1038 v1035
  let v1040 : BitVec 32 := Scalar.addi v1034 v1033
  let v1041 : BitVec 32 := Scalar.select v1039 v1040 v1034
  let c32_i32_415 : BitVec 32 := 32#32
  let v1042 : BitVec 32 := Scalar.muli v1041 c32_i32_415
  v1042
def k0_mult20 : BitVec 32 :=
  let c8_i32 : BitVec 32 := 8#32
  let c32_i32_449 : BitVec 32 := 32#32
  let v1141 : BitVec 32 := Scalar.muli c8_i32 c32_i32_449
  v1141
def k0_mult21 : BitVec 32 :=
  let c8_i32 : BitVec 32 := 8#32
  let c4_i32_450 : BitVec 32 := 4#32
  let c0_i32_451 : BitVec 32 := 0#32
  let v1143 : BitVec 1 := Scalar.cmpi .eq c4_i32_450 c0_i32_451
  let c1_i32_452 : BitVec 32 := 1#32
  let v1144 : BitVec 32 := Scalar.select v1143 c1_i32_452 c4_i32_450
  let v1145 : BitVec 32 := Scalar.remsi c8_i32 v1144
  let c0_i32_454 : BitVec 32 := 0#32
  let v1147 : BitVec 1 := Scalar.cmpi .slt v1145 c0_i32_454
  let c0_i32_455 : BitVec 32 := 0#32
  let v1148 : BitVec 1 := Scalar.cmpi .slt v1144 c0_i32_455
  let v1149 : BitVec 1 := Scalar.xori v1147 v1148
  let c0_i32_453 : BitVec 32 := 0#32
  let v1146 : BitVec 1 := Scalar.cmpi .ne v1145 c0_i32_453
  let v1150 : BitVec 1 := Scalar.andi v1149 v1146
  let v1151 : BitVec 32 := Scalar.addi v1145 v1144
  let v1152 : BitVec 32 := Scalar.select v1150 v1151 v1145
  let c32_i32_456 : BitVec 32 := 32#32
  let v1153 : BitVec 32 := Scalar.muli v1152 c32_i32_456
  v1153
def k0_mult22 : BitVec 32 :=
  let c9_i32 : BitVec 32 := 9#32
  let c32_i32_490 : BitVec 32 := 32#32
  let v1252 : BitVec 32 := Scalar.muli c9_i32 c32_i32_490
  v1252
def k0_mult23 : BitVec 32 :=
  let c9_i32 : BitVec 32 := 9#32
  let c4_i32_491 : BitVec 32 := 4#32
  let c0_i32_492 : BitVec 32 := 0#32
  let v1254 : BitVec 1 := Scalar.cmpi .eq c4_i32_491 c0_i32_492
  let c1_i32_493 : BitVec 32 := 1#32
  let v1255 : BitVec 32 := Scalar.select v1254 c1_i32_493 c4_i32_491
  let v1256 : BitVec 32 := Scalar.remsi c9_i32 v1255
  let c0_i32_495 : BitVec 32 := 0#32
  let v1258 : BitVec 1 := Scalar.cmpi .slt v1256 c0_i32_495
  let c0_i32_496 : BitVec 32 := 0#32
  let v1259 : BitVec 1 := Scalar.cmpi .slt v1255 c0_i32_496
  let v1260 : BitVec 1 := Scalar.xori v1258 v1259
  let c0_i32_494 : BitVec 32 := 0#32
  let v1257 : BitVec 1 := Scalar.cmpi .ne v1256 c0_i32_494
  let v1261 : BitVec 1 := Scalar.andi v1260 v1257
  let v1262 : BitVec 32 := Scalar.addi v1256 v1255
  let v1263 : BitVec 32 := Scalar.select v1261 v1262 v1256
  let c32_i32_497 : BitVec 32 := 32#32
  let v1264 : BitVec 32 := Scalar.muli v1263 c32_i32_497
  v1264
def k0_mult24 : BitVec 32 :=
  let c10_i32 : BitVec 32 := 10#32
  let c32_i32_531 : BitVec 32 := 32#32
  let v1363 : BitVec 32 := Scalar.muli c10_i32 c32_i32_531
  v1363
def k0_mult25 : BitVec 32 :=
  let c10_i32 : BitVec 32 := 10#32
  let c4_i32_532 : BitVec 32 := 4#32
  let c0_i32_533 : BitVec 32 := 0#32
  let v1365 : BitVec 1 := Scalar.cmpi .eq c4_i32_532 c0_i32_533
  let c1_i32_534 : BitVec 32 := 1#32
  let v1366 : BitVec 32 := Scalar.select v1365 c1_i32_534 c4_i32_532
  let v1367 : BitVec 32 := Scalar.remsi c10_i32 v1366
  let c0_i32_536 : BitVec 32 := 0#32
  let v1369 : BitVec 1 := Scalar.cmpi .slt v1367 c0_i32_536
  let c0_i32_537 : BitVec 32 := 0#32
  let v1370 : BitVec 1 := Scalar.cmpi .slt v1366 c0_i32_537
  let v1371 : BitVec 1 := Scalar.xori v1369 v1370
  let c0_i32_535 : BitVec 32 := 0#32
  let v1368 : BitVec 1 := Scalar.cmpi .ne v1367 c0_i32_535
  let v1372 : BitVec 1 := Scalar.andi v1371 v1368
  let v1373 : BitVec 32 := Scalar.addi v1367 v1366
  let v1374 : BitVec 32 := Scalar.select v1372 v1373 v1367
  let c32_i32_538 : BitVec 32 := 32#32
  let v1375 : BitVec 32 := Scalar.muli v1374 c32_i32_538
  v1375
def k0_mult26 : BitVec 32 :=
  let c11_i32 : BitVec 32 := 11#32
  let c32_i32_572 : BitVec 32 := 32#32
  let v1474 : BitVec 32 := Scalar.muli c11_i32 c32_i32_572
  v1474
def k0_mult27 : BitVec 32 :=
  let c11_i32 : BitVec 32 := 11#32
  let c4_i32_573 : BitVec 32 := 4#32
  let c0_i32_574 : BitVec 32 := 0#32
  let v1476 : BitVec 1 := Scalar.cmpi .eq c4_i32_573 c0_i32_574
  let c1_i32_575 : BitVec 32 := 1#32
  let v1477 : BitVec 32 := Scalar.select v1476 c1_i32_575 c4_i32_573
  let v1478 : BitVec 32 := Scalar.remsi c11_i32 v1477
  let c0_i32_577 : BitVec 32 := 0#32
  let v1480 : BitVec 1 := Scalar.cmpi .slt v1478 c0_i32_577
  let c0_i32_578 : BitVec 32 := 0#32
  let v1481 : BitVec 1 := Scalar.cmpi .slt v1477 c0_i32_578
  let v1482 : BitVec 1 := Scalar.xori v1480 v1481
  let c0_i32_576 : BitVec 32 := 0#32
  let v1479 : BitVec 1 := Scalar.cmpi .ne v1478 c0_i32_576
  let v1483 : BitVec 1 := Scalar.andi v1482 v1479
  let v1484 : BitVec 32 := Scalar.addi v1478 v1477
  let v1485 : BitVec 32 := Scalar.select v1483 v1484 v1478
  let c32_i32_579 : BitVec 32 := 32#32
  let v1486 : BitVec 32 := Scalar.muli v1485 c32_i32_579
  v1486
def k0_mult28 : BitVec 32 :=
  let c12_i32 : BitVec 32 := 12#32
  let c32_i32_613 : BitVec 32 := 32#32
  let v1585 : BitVec 32 := Scalar.muli c12_i32 c32_i32_613
  v1585
def k0_mult29 : BitVec 32 :=
  let c12_i32 : BitVec 32 := 12#32
  let c4_i32_614 : BitVec 32 := 4#32
  let c0_i32_615 : BitVec 32 := 0#32
  let v1587 : BitVec 1 := Scalar.cmpi .eq c4_i32_614 c0_i32_615
  let c1_i32_616 : BitVec 32 := 1#32
  let v1588 : BitVec 32 := Scalar.select v1587 c1_i32_616 c4_i32_614
  let v1589 : BitVec 32 := Scalar.remsi c12_i32 v1588
  let c0_i32_618 : BitVec 32 := 0#32
  let v1591 : BitVec 1 := Scalar.cmpi .slt v1589 c0_i32_618
  let c0_i32_619 : BitVec 32 := 0#32
  let v1592 : BitVec 1 := Scalar.cmpi .slt v1588 c0_i32_619
  let v1593 : BitVec 1 := Scalar.xori v1591 v1592
  let c0_i32_617 : BitVec 32 := 0#32
  let v1590 : BitVec 1 := Scalar.cmpi .ne v1589 c0_i32_617
  let v1594 : BitVec 1 := Scalar.andi v1593 v1590
  let v1595 : BitVec 32 := Scalar.addi v1589 v1588
  let v1596 : BitVec 32 := Scalar.select v1594 v1595 v1589
  let c32_i32_620 : BitVec 32 := 32#32
  let v1597 : BitVec 32 := Scalar.muli v1596 c32_i32_620
  v1597
def k0_mult30 : BitVec 32 :=
  let c13_i32 : BitVec 32 := 13#32
  let c32_i32_654 : BitVec 32 := 32#32
  let v1696 : BitVec 32 := Scalar.muli c13_i32 c32_i32_654
  v1696
def k0_mult31 : BitVec 32 :=
  let c13_i32 : BitVec 32 := 13#32
  let c4_i32_655 : BitVec 32 := 4#32
  let c0_i32_656 : BitVec 32 := 0#32
  let v1698 : BitVec 1 := Scalar.cmpi .eq c4_i32_655 c0_i32_656
  let c1_i32_657 : BitVec 32 := 1#32
  let v1699 : BitVec 32 := Scalar.select v1698 c1_i32_657 c4_i32_655
  let v1700 : BitVec 32 := Scalar.remsi c13_i32 v1699
  let c0_i32_659 : BitVec 32 := 0#32
  let v1702 : BitVec 1 := Scalar.cmpi .slt v1700 c0_i32_659
  let c0_i32_660 : BitVec 32 := 0#32
  let v1703 : BitVec 1 := Scalar.cmpi .slt v1699 c0_i32_660
  let v1704 : BitVec 1 := Scalar.xori v1702 v1703
  let c0_i32_658 : BitVec 32 := 0#32
  let v1701 : BitVec 1 := Scalar.cmpi .ne v1700 c0_i32_658
  let v1705 : BitVec 1 := Scalar.andi v1704 v1701
  let v1706 : BitVec 32 := Scalar.addi v1700 v1699
  let v1707 : BitVec 32 := Scalar.select v1705 v1706 v1700
  let c32_i32_661 : BitVec 32 := 32#32
  let v1708 : BitVec 32 := Scalar.muli v1707 c32_i32_661
  v1708
def k0_mult32 : BitVec 32 :=
  let c14_i32 : BitVec 32 := 14#32
  let c32_i32_695 : BitVec 32 := 32#32
  let v1807 : BitVec 32 := Scalar.muli c14_i32 c32_i32_695
  v1807
def k0_mult33 : BitVec 32 :=
  let c14_i32 : BitVec 32 := 14#32
  let c4_i32_696 : BitVec 32 := 4#32
  let c0_i32_697 : BitVec 32 := 0#32
  let v1809 : BitVec 1 := Scalar.cmpi .eq c4_i32_696 c0_i32_697
  let c1_i32_698 : BitVec 32 := 1#32
  let v1810 : BitVec 32 := Scalar.select v1809 c1_i32_698 c4_i32_696
  let v1811 : BitVec 32 := Scalar.remsi c14_i32 v1810
  let c0_i32_700 : BitVec 32 := 0#32
  let v1813 : BitVec 1 := Scalar.cmpi .slt v1811 c0_i32_700
  let c0_i32_701 : BitVec 32 := 0#32
  let v1814 : BitVec 1 := Scalar.cmpi .slt v1810 c0_i32_701
  let v1815 : BitVec 1 := Scalar.xori v1813 v1814
  let c0_i32_699 : BitVec 32 := 0#32
  let v1812 : BitVec 1 := Scalar.cmpi .ne v1811 c0_i32_699
  let v1816 : BitVec 1 := Scalar.andi v1815 v1812
  let v1817 : BitVec 32 := Scalar.addi v1811 v1810
  let v1818 : BitVec 32 := Scalar.select v1816 v1817 v1811
  let c32_i32_702 : BitVec 32 := 32#32
  let v1819 : BitVec 32 := Scalar.muli v1818 c32_i32_702
  v1819
def k0_mult34 : BitVec 32 :=
  let c15_i32 : BitVec 32 := 15#32
  let c32_i32_736 : BitVec 32 := 32#32
  let v1918 : BitVec 32 := Scalar.muli c15_i32 c32_i32_736
  v1918
def k0_mult35 : BitVec 32 :=
  let c15_i32 : BitVec 32 := 15#32
  let c4_i32_737 : BitVec 32 := 4#32
  let c0_i32_738 : BitVec 32 := 0#32
  let v1920 : BitVec 1 := Scalar.cmpi .eq c4_i32_737 c0_i32_738
  let c1_i32_739 : BitVec 32 := 1#32
  let v1921 : BitVec 32 := Scalar.select v1920 c1_i32_739 c4_i32_737
  let v1922 : BitVec 32 := Scalar.remsi c15_i32 v1921
  let c0_i32_741 : BitVec 32 := 0#32
  let v1924 : BitVec 1 := Scalar.cmpi .slt v1922 c0_i32_741
  let c0_i32_742 : BitVec 32 := 0#32
  let v1925 : BitVec 1 := Scalar.cmpi .slt v1921 c0_i32_742
  let v1926 : BitVec 1 := Scalar.xori v1924 v1925
  let c0_i32_740 : BitVec 32 := 0#32
  let v1923 : BitVec 1 := Scalar.cmpi .ne v1922 c0_i32_740
  let v1927 : BitVec 1 := Scalar.andi v1926 v1923
  let v1928 : BitVec 32 := Scalar.addi v1922 v1921
  let v1929 : BitVec 32 := Scalar.select v1927 v1928 v1922
  let c32_i32_743 : BitVec 32 := 32#32
  let v1930 : BitVec 32 := Scalar.muli v1929 c32_i32_743
  v1930
def k0_off10 (k0_t2 : Fin k0_t2_loop.trips) : Fin 2 → Nat :=
  let c0_i32_54 : BitVec 32 := 0#32
  let c1_i32_55 : BitVec 32 := 1#32
  let arg25 : BitVec 32 := Scf.iv c0_i32_54 c1_i32_55 k0_t2
  let c128_i32_82 : BitVec 32 := 128#32
  let v164 : BitVec 32 := Scalar.muli arg25 c128_i32_82
  let v165 : BitVec 32 := v164
  let v2102 : Index := Scalar.indexCast v165
  let c256 : Index := 256#32
  ![v2102.toNat, 256]
def k0_mult36 : BitVec 32 :=
  let c0_i32_826 : BitVec 32 := 0#32
  let c32_i32_827 : BitVec 32 := 32#32
  let v2140 : BitVec 32 := Scalar.muli c0_i32_826 c32_i32_827
  v2140
def k0_mult37 : BitVec 32 :=
  let c0_i32_826 : BitVec 32 := 0#32
  let c4_i32_828 : BitVec 32 := 4#32
  let c0_i32_829 : BitVec 32 := 0#32
  let v2142 : BitVec 1 := Scalar.cmpi .eq c4_i32_828 c0_i32_829
  let c1_i32_830 : BitVec 32 := 1#32
  let v2143 : BitVec 32 := Scalar.select v2142 c1_i32_830 c4_i32_828
  let v2144 : BitVec 32 := Scalar.remsi c0_i32_826 v2143
  let c0_i32_832 : BitVec 32 := 0#32
  let v2146 : BitVec 1 := Scalar.cmpi .slt v2144 c0_i32_832
  let c0_i32_833 : BitVec 32 := 0#32
  let v2147 : BitVec 1 := Scalar.cmpi .slt v2143 c0_i32_833
  let v2148 : BitVec 1 := Scalar.xori v2146 v2147
  let c0_i32_831 : BitVec 32 := 0#32
  let v2145 : BitVec 1 := Scalar.cmpi .ne v2144 c0_i32_831
  let v2149 : BitVec 1 := Scalar.andi v2148 v2145
  let v2150 : BitVec 32 := Scalar.addi v2144 v2143
  let v2151 : BitVec 32 := Scalar.select v2149 v2150 v2144
  let c32_i32_834 : BitVec 32 := 32#32
  let v2152 : BitVec 32 := Scalar.muli v2151 c32_i32_834
  v2152
def k0_mult38 : BitVec 32 :=
  let c1_i32_868 : BitVec 32 := 1#32
  let c32_i32_869 : BitVec 32 := 32#32
  let v2251 : BitVec 32 := Scalar.muli c1_i32_868 c32_i32_869
  v2251
def k0_mult39 : BitVec 32 :=
  let c1_i32_868 : BitVec 32 := 1#32
  let c4_i32_870 : BitVec 32 := 4#32
  let c0_i32_871 : BitVec 32 := 0#32
  let v2253 : BitVec 1 := Scalar.cmpi .eq c4_i32_870 c0_i32_871
  let c1_i32_872 : BitVec 32 := 1#32
  let v2254 : BitVec 32 := Scalar.select v2253 c1_i32_872 c4_i32_870
  let v2255 : BitVec 32 := Scalar.remsi c1_i32_868 v2254
  let c0_i32_874 : BitVec 32 := 0#32
  let v2257 : BitVec 1 := Scalar.cmpi .slt v2255 c0_i32_874
  let c0_i32_875 : BitVec 32 := 0#32
  let v2258 : BitVec 1 := Scalar.cmpi .slt v2254 c0_i32_875
  let v2259 : BitVec 1 := Scalar.xori v2257 v2258
  let c0_i32_873 : BitVec 32 := 0#32
  let v2256 : BitVec 1 := Scalar.cmpi .ne v2255 c0_i32_873
  let v2260 : BitVec 1 := Scalar.andi v2259 v2256
  let v2261 : BitVec 32 := Scalar.addi v2255 v2254
  let v2262 : BitVec 32 := Scalar.select v2260 v2261 v2255
  let c32_i32_876 : BitVec 32 := 32#32
  let v2263 : BitVec 32 := Scalar.muli v2262 c32_i32_876
  v2263
def k0_mult40 : BitVec 32 :=
  let c2_i32_910 : BitVec 32 := 2#32
  let c32_i32_911 : BitVec 32 := 32#32
  let v2362 : BitVec 32 := Scalar.muli c2_i32_910 c32_i32_911
  v2362
def k0_mult41 : BitVec 32 :=
  let c2_i32_910 : BitVec 32 := 2#32
  let c4_i32_912 : BitVec 32 := 4#32
  let c0_i32_913 : BitVec 32 := 0#32
  let v2364 : BitVec 1 := Scalar.cmpi .eq c4_i32_912 c0_i32_913
  let c1_i32_914 : BitVec 32 := 1#32
  let v2365 : BitVec 32 := Scalar.select v2364 c1_i32_914 c4_i32_912
  let v2366 : BitVec 32 := Scalar.remsi c2_i32_910 v2365
  let c0_i32_916 : BitVec 32 := 0#32
  let v2368 : BitVec 1 := Scalar.cmpi .slt v2366 c0_i32_916
  let c0_i32_917 : BitVec 32 := 0#32
  let v2369 : BitVec 1 := Scalar.cmpi .slt v2365 c0_i32_917
  let v2370 : BitVec 1 := Scalar.xori v2368 v2369
  let c0_i32_915 : BitVec 32 := 0#32
  let v2367 : BitVec 1 := Scalar.cmpi .ne v2366 c0_i32_915
  let v2371 : BitVec 1 := Scalar.andi v2370 v2367
  let v2372 : BitVec 32 := Scalar.addi v2366 v2365
  let v2373 : BitVec 32 := Scalar.select v2371 v2372 v2366
  let c32_i32_918 : BitVec 32 := 32#32
  let v2374 : BitVec 32 := Scalar.muli v2373 c32_i32_918
  v2374
def k0_mult42 : BitVec 32 :=
  let c3_i32_952 : BitVec 32 := 3#32
  let c32_i32_953 : BitVec 32 := 32#32
  let v2473 : BitVec 32 := Scalar.muli c3_i32_952 c32_i32_953
  v2473
def k0_mult43 : BitVec 32 :=
  let c3_i32_952 : BitVec 32 := 3#32
  let c4_i32_954 : BitVec 32 := 4#32
  let c0_i32_955 : BitVec 32 := 0#32
  let v2475 : BitVec 1 := Scalar.cmpi .eq c4_i32_954 c0_i32_955
  let c1_i32_956 : BitVec 32 := 1#32
  let v2476 : BitVec 32 := Scalar.select v2475 c1_i32_956 c4_i32_954
  let v2477 : BitVec 32 := Scalar.remsi c3_i32_952 v2476
  let c0_i32_958 : BitVec 32 := 0#32
  let v2479 : BitVec 1 := Scalar.cmpi .slt v2477 c0_i32_958
  let c0_i32_959 : BitVec 32 := 0#32
  let v2480 : BitVec 1 := Scalar.cmpi .slt v2476 c0_i32_959
  let v2481 : BitVec 1 := Scalar.xori v2479 v2480
  let c0_i32_957 : BitVec 32 := 0#32
  let v2478 : BitVec 1 := Scalar.cmpi .ne v2477 c0_i32_957
  let v2482 : BitVec 1 := Scalar.andi v2481 v2478
  let v2483 : BitVec 32 := Scalar.addi v2477 v2476
  let v2484 : BitVec 32 := Scalar.select v2482 v2483 v2477
  let c32_i32_960 : BitVec 32 := 32#32
  let v2485 : BitVec 32 := Scalar.muli v2484 c32_i32_960
  v2485
def k0_mult44 : BitVec 32 :=
  let c4_i32_994 : BitVec 32 := 4#32
  let c32_i32_995 : BitVec 32 := 32#32
  let v2584 : BitVec 32 := Scalar.muli c4_i32_994 c32_i32_995
  v2584
def k0_mult45 : BitVec 32 :=
  let c4_i32_994 : BitVec 32 := 4#32
  let c4_i32_996 : BitVec 32 := 4#32
  let c0_i32_997 : BitVec 32 := 0#32
  let v2586 : BitVec 1 := Scalar.cmpi .eq c4_i32_996 c0_i32_997
  let c1_i32_998 : BitVec 32 := 1#32
  let v2587 : BitVec 32 := Scalar.select v2586 c1_i32_998 c4_i32_996
  let v2588 : BitVec 32 := Scalar.remsi c4_i32_994 v2587
  let c0_i32_1000 : BitVec 32 := 0#32
  let v2590 : BitVec 1 := Scalar.cmpi .slt v2588 c0_i32_1000
  let c0_i32_1001 : BitVec 32 := 0#32
  let v2591 : BitVec 1 := Scalar.cmpi .slt v2587 c0_i32_1001
  let v2592 : BitVec 1 := Scalar.xori v2590 v2591
  let c0_i32_999 : BitVec 32 := 0#32
  let v2589 : BitVec 1 := Scalar.cmpi .ne v2588 c0_i32_999
  let v2593 : BitVec 1 := Scalar.andi v2592 v2589
  let v2594 : BitVec 32 := Scalar.addi v2588 v2587
  let v2595 : BitVec 32 := Scalar.select v2593 v2594 v2588
  let c32_i32_1002 : BitVec 32 := 32#32
  let v2596 : BitVec 32 := Scalar.muli v2595 c32_i32_1002
  v2596
def k0_mult46 : BitVec 32 :=
  let c5_i32_1036 : BitVec 32 := 5#32
  let c32_i32_1037 : BitVec 32 := 32#32
  let v2695 : BitVec 32 := Scalar.muli c5_i32_1036 c32_i32_1037
  v2695
def k0_mult47 : BitVec 32 :=
  let c5_i32_1036 : BitVec 32 := 5#32
  let c4_i32_1038 : BitVec 32 := 4#32
  let c0_i32_1039 : BitVec 32 := 0#32
  let v2697 : BitVec 1 := Scalar.cmpi .eq c4_i32_1038 c0_i32_1039
  let c1_i32_1040 : BitVec 32 := 1#32
  let v2698 : BitVec 32 := Scalar.select v2697 c1_i32_1040 c4_i32_1038
  let v2699 : BitVec 32 := Scalar.remsi c5_i32_1036 v2698
  let c0_i32_1042 : BitVec 32 := 0#32
  let v2701 : BitVec 1 := Scalar.cmpi .slt v2699 c0_i32_1042
  let c0_i32_1043 : BitVec 32 := 0#32
  let v2702 : BitVec 1 := Scalar.cmpi .slt v2698 c0_i32_1043
  let v2703 : BitVec 1 := Scalar.xori v2701 v2702
  let c0_i32_1041 : BitVec 32 := 0#32
  let v2700 : BitVec 1 := Scalar.cmpi .ne v2699 c0_i32_1041
  let v2704 : BitVec 1 := Scalar.andi v2703 v2700
  let v2705 : BitVec 32 := Scalar.addi v2699 v2698
  let v2706 : BitVec 32 := Scalar.select v2704 v2705 v2699
  let c32_i32_1044 : BitVec 32 := 32#32
  let v2707 : BitVec 32 := Scalar.muli v2706 c32_i32_1044
  v2707
def k0_mult48 : BitVec 32 :=
  let c6_i32_1078 : BitVec 32 := 6#32
  let c32_i32_1079 : BitVec 32 := 32#32
  let v2806 : BitVec 32 := Scalar.muli c6_i32_1078 c32_i32_1079
  v2806
def k0_mult49 : BitVec 32 :=
  let c6_i32_1078 : BitVec 32 := 6#32
  let c4_i32_1080 : BitVec 32 := 4#32
  let c0_i32_1081 : BitVec 32 := 0#32
  let v2808 : BitVec 1 := Scalar.cmpi .eq c4_i32_1080 c0_i32_1081
  let c1_i32_1082 : BitVec 32 := 1#32
  let v2809 : BitVec 32 := Scalar.select v2808 c1_i32_1082 c4_i32_1080
  let v2810 : BitVec 32 := Scalar.remsi c6_i32_1078 v2809
  let c0_i32_1084 : BitVec 32 := 0#32
  let v2812 : BitVec 1 := Scalar.cmpi .slt v2810 c0_i32_1084
  let c0_i32_1085 : BitVec 32 := 0#32
  let v2813 : BitVec 1 := Scalar.cmpi .slt v2809 c0_i32_1085
  let v2814 : BitVec 1 := Scalar.xori v2812 v2813
  let c0_i32_1083 : BitVec 32 := 0#32
  let v2811 : BitVec 1 := Scalar.cmpi .ne v2810 c0_i32_1083
  let v2815 : BitVec 1 := Scalar.andi v2814 v2811
  let v2816 : BitVec 32 := Scalar.addi v2810 v2809
  let v2817 : BitVec 32 := Scalar.select v2815 v2816 v2810
  let c32_i32_1086 : BitVec 32 := 32#32
  let v2818 : BitVec 32 := Scalar.muli v2817 c32_i32_1086
  v2818
def k0_mult50 : BitVec 32 :=
  let c7_i32_1120 : BitVec 32 := 7#32
  let c32_i32_1121 : BitVec 32 := 32#32
  let v2917 : BitVec 32 := Scalar.muli c7_i32_1120 c32_i32_1121
  v2917
def k0_mult51 : BitVec 32 :=
  let c7_i32_1120 : BitVec 32 := 7#32
  let c4_i32_1122 : BitVec 32 := 4#32
  let c0_i32_1123 : BitVec 32 := 0#32
  let v2919 : BitVec 1 := Scalar.cmpi .eq c4_i32_1122 c0_i32_1123
  let c1_i32_1124 : BitVec 32 := 1#32
  let v2920 : BitVec 32 := Scalar.select v2919 c1_i32_1124 c4_i32_1122
  let v2921 : BitVec 32 := Scalar.remsi c7_i32_1120 v2920
  let c0_i32_1126 : BitVec 32 := 0#32
  let v2923 : BitVec 1 := Scalar.cmpi .slt v2921 c0_i32_1126
  let c0_i32_1127 : BitVec 32 := 0#32
  let v2924 : BitVec 1 := Scalar.cmpi .slt v2920 c0_i32_1127
  let v2925 : BitVec 1 := Scalar.xori v2923 v2924
  let c0_i32_1125 : BitVec 32 := 0#32
  let v2922 : BitVec 1 := Scalar.cmpi .ne v2921 c0_i32_1125
  let v2926 : BitVec 1 := Scalar.andi v2925 v2922
  let v2927 : BitVec 32 := Scalar.addi v2921 v2920
  let v2928 : BitVec 32 := Scalar.select v2926 v2927 v2921
  let c32_i32_1128 : BitVec 32 := 32#32
  let v2929 : BitVec 32 := Scalar.muli v2928 c32_i32_1128
  v2929
def k0_mult52 : BitVec 32 :=
  let c8_i32_1162 : BitVec 32 := 8#32
  let c32_i32_1163 : BitVec 32 := 32#32
  let v3028 : BitVec 32 := Scalar.muli c8_i32_1162 c32_i32_1163
  v3028
def k0_mult53 : BitVec 32 :=
  let c8_i32_1162 : BitVec 32 := 8#32
  let c4_i32_1164 : BitVec 32 := 4#32
  let c0_i32_1165 : BitVec 32 := 0#32
  let v3030 : BitVec 1 := Scalar.cmpi .eq c4_i32_1164 c0_i32_1165
  let c1_i32_1166 : BitVec 32 := 1#32
  let v3031 : BitVec 32 := Scalar.select v3030 c1_i32_1166 c4_i32_1164
  let v3032 : BitVec 32 := Scalar.remsi c8_i32_1162 v3031
  let c0_i32_1168 : BitVec 32 := 0#32
  let v3034 : BitVec 1 := Scalar.cmpi .slt v3032 c0_i32_1168
  let c0_i32_1169 : BitVec 32 := 0#32
  let v3035 : BitVec 1 := Scalar.cmpi .slt v3031 c0_i32_1169
  let v3036 : BitVec 1 := Scalar.xori v3034 v3035
  let c0_i32_1167 : BitVec 32 := 0#32
  let v3033 : BitVec 1 := Scalar.cmpi .ne v3032 c0_i32_1167
  let v3037 : BitVec 1 := Scalar.andi v3036 v3033
  let v3038 : BitVec 32 := Scalar.addi v3032 v3031
  let v3039 : BitVec 32 := Scalar.select v3037 v3038 v3032
  let c32_i32_1170 : BitVec 32 := 32#32
  let v3040 : BitVec 32 := Scalar.muli v3039 c32_i32_1170
  v3040
def k0_mult54 : BitVec 32 :=
  let c9_i32_1204 : BitVec 32 := 9#32
  let c32_i32_1205 : BitVec 32 := 32#32
  let v3139 : BitVec 32 := Scalar.muli c9_i32_1204 c32_i32_1205
  v3139
def k0_mult55 : BitVec 32 :=
  let c9_i32_1204 : BitVec 32 := 9#32
  let c4_i32_1206 : BitVec 32 := 4#32
  let c0_i32_1207 : BitVec 32 := 0#32
  let v3141 : BitVec 1 := Scalar.cmpi .eq c4_i32_1206 c0_i32_1207
  let c1_i32_1208 : BitVec 32 := 1#32
  let v3142 : BitVec 32 := Scalar.select v3141 c1_i32_1208 c4_i32_1206
  let v3143 : BitVec 32 := Scalar.remsi c9_i32_1204 v3142
  let c0_i32_1210 : BitVec 32 := 0#32
  let v3145 : BitVec 1 := Scalar.cmpi .slt v3143 c0_i32_1210
  let c0_i32_1211 : BitVec 32 := 0#32
  let v3146 : BitVec 1 := Scalar.cmpi .slt v3142 c0_i32_1211
  let v3147 : BitVec 1 := Scalar.xori v3145 v3146
  let c0_i32_1209 : BitVec 32 := 0#32
  let v3144 : BitVec 1 := Scalar.cmpi .ne v3143 c0_i32_1209
  let v3148 : BitVec 1 := Scalar.andi v3147 v3144
  let v3149 : BitVec 32 := Scalar.addi v3143 v3142
  let v3150 : BitVec 32 := Scalar.select v3148 v3149 v3143
  let c32_i32_1212 : BitVec 32 := 32#32
  let v3151 : BitVec 32 := Scalar.muli v3150 c32_i32_1212
  v3151
def k0_mult56 : BitVec 32 :=
  let c10_i32_1246 : BitVec 32 := 10#32
  let c32_i32_1247 : BitVec 32 := 32#32
  let v3250 : BitVec 32 := Scalar.muli c10_i32_1246 c32_i32_1247
  v3250
def k0_mult57 : BitVec 32 :=
  let c10_i32_1246 : BitVec 32 := 10#32
  let c4_i32_1248 : BitVec 32 := 4#32
  let c0_i32_1249 : BitVec 32 := 0#32
  let v3252 : BitVec 1 := Scalar.cmpi .eq c4_i32_1248 c0_i32_1249
  let c1_i32_1250 : BitVec 32 := 1#32
  let v3253 : BitVec 32 := Scalar.select v3252 c1_i32_1250 c4_i32_1248
  let v3254 : BitVec 32 := Scalar.remsi c10_i32_1246 v3253
  let c0_i32_1252 : BitVec 32 := 0#32
  let v3256 : BitVec 1 := Scalar.cmpi .slt v3254 c0_i32_1252
  let c0_i32_1253 : BitVec 32 := 0#32
  let v3257 : BitVec 1 := Scalar.cmpi .slt v3253 c0_i32_1253
  let v3258 : BitVec 1 := Scalar.xori v3256 v3257
  let c0_i32_1251 : BitVec 32 := 0#32
  let v3255 : BitVec 1 := Scalar.cmpi .ne v3254 c0_i32_1251
  let v3259 : BitVec 1 := Scalar.andi v3258 v3255
  let v3260 : BitVec 32 := Scalar.addi v3254 v3253
  let v3261 : BitVec 32 := Scalar.select v3259 v3260 v3254
  let c32_i32_1254 : BitVec 32 := 32#32
  let v3262 : BitVec 32 := Scalar.muli v3261 c32_i32_1254
  v3262
def k0_mult58 : BitVec 32 :=
  let c11_i32_1288 : BitVec 32 := 11#32
  let c32_i32_1289 : BitVec 32 := 32#32
  let v3361 : BitVec 32 := Scalar.muli c11_i32_1288 c32_i32_1289
  v3361
def k0_mult59 : BitVec 32 :=
  let c11_i32_1288 : BitVec 32 := 11#32
  let c4_i32_1290 : BitVec 32 := 4#32
  let c0_i32_1291 : BitVec 32 := 0#32
  let v3363 : BitVec 1 := Scalar.cmpi .eq c4_i32_1290 c0_i32_1291
  let c1_i32_1292 : BitVec 32 := 1#32
  let v3364 : BitVec 32 := Scalar.select v3363 c1_i32_1292 c4_i32_1290
  let v3365 : BitVec 32 := Scalar.remsi c11_i32_1288 v3364
  let c0_i32_1294 : BitVec 32 := 0#32
  let v3367 : BitVec 1 := Scalar.cmpi .slt v3365 c0_i32_1294
  let c0_i32_1295 : BitVec 32 := 0#32
  let v3368 : BitVec 1 := Scalar.cmpi .slt v3364 c0_i32_1295
  let v3369 : BitVec 1 := Scalar.xori v3367 v3368
  let c0_i32_1293 : BitVec 32 := 0#32
  let v3366 : BitVec 1 := Scalar.cmpi .ne v3365 c0_i32_1293
  let v3370 : BitVec 1 := Scalar.andi v3369 v3366
  let v3371 : BitVec 32 := Scalar.addi v3365 v3364
  let v3372 : BitVec 32 := Scalar.select v3370 v3371 v3365
  let c32_i32_1296 : BitVec 32 := 32#32
  let v3373 : BitVec 32 := Scalar.muli v3372 c32_i32_1296
  v3373
def k0_mult60 : BitVec 32 :=
  let c12_i32_1330 : BitVec 32 := 12#32
  let c32_i32_1331 : BitVec 32 := 32#32
  let v3472 : BitVec 32 := Scalar.muli c12_i32_1330 c32_i32_1331
  v3472
def k0_mult61 : BitVec 32 :=
  let c12_i32_1330 : BitVec 32 := 12#32
  let c4_i32_1332 : BitVec 32 := 4#32
  let c0_i32_1333 : BitVec 32 := 0#32
  let v3474 : BitVec 1 := Scalar.cmpi .eq c4_i32_1332 c0_i32_1333
  let c1_i32_1334 : BitVec 32 := 1#32
  let v3475 : BitVec 32 := Scalar.select v3474 c1_i32_1334 c4_i32_1332
  let v3476 : BitVec 32 := Scalar.remsi c12_i32_1330 v3475
  let c0_i32_1336 : BitVec 32 := 0#32
  let v3478 : BitVec 1 := Scalar.cmpi .slt v3476 c0_i32_1336
  let c0_i32_1337 : BitVec 32 := 0#32
  let v3479 : BitVec 1 := Scalar.cmpi .slt v3475 c0_i32_1337
  let v3480 : BitVec 1 := Scalar.xori v3478 v3479
  let c0_i32_1335 : BitVec 32 := 0#32
  let v3477 : BitVec 1 := Scalar.cmpi .ne v3476 c0_i32_1335
  let v3481 : BitVec 1 := Scalar.andi v3480 v3477
  let v3482 : BitVec 32 := Scalar.addi v3476 v3475
  let v3483 : BitVec 32 := Scalar.select v3481 v3482 v3476
  let c32_i32_1338 : BitVec 32 := 32#32
  let v3484 : BitVec 32 := Scalar.muli v3483 c32_i32_1338
  v3484
def k0_mult62 : BitVec 32 :=
  let c13_i32_1372 : BitVec 32 := 13#32
  let c32_i32_1373 : BitVec 32 := 32#32
  let v3583 : BitVec 32 := Scalar.muli c13_i32_1372 c32_i32_1373
  v3583
def k0_mult63 : BitVec 32 :=
  let c13_i32_1372 : BitVec 32 := 13#32
  let c4_i32_1374 : BitVec 32 := 4#32
  let c0_i32_1375 : BitVec 32 := 0#32
  let v3585 : BitVec 1 := Scalar.cmpi .eq c4_i32_1374 c0_i32_1375
  let c1_i32_1376 : BitVec 32 := 1#32
  let v3586 : BitVec 32 := Scalar.select v3585 c1_i32_1376 c4_i32_1374
  let v3587 : BitVec 32 := Scalar.remsi c13_i32_1372 v3586
  let c0_i32_1378 : BitVec 32 := 0#32
  let v3589 : BitVec 1 := Scalar.cmpi .slt v3587 c0_i32_1378
  let c0_i32_1379 : BitVec 32 := 0#32
  let v3590 : BitVec 1 := Scalar.cmpi .slt v3586 c0_i32_1379
  let v3591 : BitVec 1 := Scalar.xori v3589 v3590
  let c0_i32_1377 : BitVec 32 := 0#32
  let v3588 : BitVec 1 := Scalar.cmpi .ne v3587 c0_i32_1377
  let v3592 : BitVec 1 := Scalar.andi v3591 v3588
  let v3593 : BitVec 32 := Scalar.addi v3587 v3586
  let v3594 : BitVec 32 := Scalar.select v3592 v3593 v3587
  let c32_i32_1380 : BitVec 32 := 32#32
  let v3595 : BitVec 32 := Scalar.muli v3594 c32_i32_1380
  v3595
def k0_mult64 : BitVec 32 :=
  let c14_i32_1414 : BitVec 32 := 14#32
  let c32_i32_1415 : BitVec 32 := 32#32
  let v3694 : BitVec 32 := Scalar.muli c14_i32_1414 c32_i32_1415
  v3694
def k0_mult65 : BitVec 32 :=
  let c14_i32_1414 : BitVec 32 := 14#32
  let c4_i32_1416 : BitVec 32 := 4#32
  let c0_i32_1417 : BitVec 32 := 0#32
  let v3696 : BitVec 1 := Scalar.cmpi .eq c4_i32_1416 c0_i32_1417
  let c1_i32_1418 : BitVec 32 := 1#32
  let v3697 : BitVec 32 := Scalar.select v3696 c1_i32_1418 c4_i32_1416
  let v3698 : BitVec 32 := Scalar.remsi c14_i32_1414 v3697
  let c0_i32_1420 : BitVec 32 := 0#32
  let v3700 : BitVec 1 := Scalar.cmpi .slt v3698 c0_i32_1420
  let c0_i32_1421 : BitVec 32 := 0#32
  let v3701 : BitVec 1 := Scalar.cmpi .slt v3697 c0_i32_1421
  let v3702 : BitVec 1 := Scalar.xori v3700 v3701
  let c0_i32_1419 : BitVec 32 := 0#32
  let v3699 : BitVec 1 := Scalar.cmpi .ne v3698 c0_i32_1419
  let v3703 : BitVec 1 := Scalar.andi v3702 v3699
  let v3704 : BitVec 32 := Scalar.addi v3698 v3697
  let v3705 : BitVec 32 := Scalar.select v3703 v3704 v3698
  let c32_i32_1422 : BitVec 32 := 32#32
  let v3706 : BitVec 32 := Scalar.muli v3705 c32_i32_1422
  v3706
def k0_mult66 : BitVec 32 :=
  let c15_i32_1456 : BitVec 32 := 15#32
  let c32_i32_1457 : BitVec 32 := 32#32
  let v3805 : BitVec 32 := Scalar.muli c15_i32_1456 c32_i32_1457
  v3805
def k0_mult67 : BitVec 32 :=
  let c15_i32_1456 : BitVec 32 := 15#32
  let c4_i32_1458 : BitVec 32 := 4#32
  let c0_i32_1459 : BitVec 32 := 0#32
  let v3807 : BitVec 1 := Scalar.cmpi .eq c4_i32_1458 c0_i32_1459
  let c1_i32_1460 : BitVec 32 := 1#32
  let v3808 : BitVec 32 := Scalar.select v3807 c1_i32_1460 c4_i32_1458
  let v3809 : BitVec 32 := Scalar.remsi c15_i32_1456 v3808
  let c0_i32_1462 : BitVec 32 := 0#32
  let v3811 : BitVec 1 := Scalar.cmpi .slt v3809 c0_i32_1462
  let c0_i32_1463 : BitVec 32 := 0#32
  let v3812 : BitVec 1 := Scalar.cmpi .slt v3808 c0_i32_1463
  let v3813 : BitVec 1 := Scalar.xori v3811 v3812
  let c0_i32_1461 : BitVec 32 := 0#32
  let v3810 : BitVec 1 := Scalar.cmpi .ne v3809 c0_i32_1461
  let v3814 : BitVec 1 := Scalar.andi v3813 v3810
  let v3815 : BitVec 32 := Scalar.addi v3809 v3808
  let v3816 : BitVec 32 := Scalar.select v3814 v3815 v3809
  let c32_i32_1464 : BitVec 32 := 32#32
  let v3817 : BitVec 32 := Scalar.muli v3816 c32_i32_1464
  v3817
@[reducible] def k0_t3_loop : Scf.Loop 32 :=
  let c0_i32_74 : BitVec 32 := 0#32
  let c4_i32_75 : BitVec 32 := 4#32
  let v156 : BitVec 32 := Scalar.addi c0_i32_74 c4_i32_75
  let c1_i32_76 : BitVec 32 := 1#32
  ⟨c0_i32_74, v156, c1_i32_76⟩
def k0_mult68 (k0_t3 : Fin k0_t3_loop.trips) : BitVec 32 :=
  let c0_i32_74 : BitVec 32 := 0#32
  let c1_i32_76 : BitVec 32 := 1#32
  let arg25 : BitVec 32 := Scf.iv c0_i32_74 c1_i32_76 k0_t3
  let c512_i32 : BitVec 32 := 512#32
  let v164 : BitVec 32 := Scalar.muli arg25 c512_i32
  v164
def k0_mult69 (k0_t3 : Fin k0_t3_loop.trips) : BitVec 32 :=
  let c0_i32_74 : BitVec 32 := 0#32
  let c1_i32_76 : BitVec 32 := 1#32
  let arg25 : BitVec 32 := Scf.iv c0_i32_74 c1_i32_76 k0_t3
  let c512_i32 : BitVec 32 := 512#32
  let v164 : BitVec 32 := Scalar.muli arg25 c512_i32
  let v165 : BitVec 32 := v164
  let c128_i32_82 : BitVec 32 := 128#32
  let v166 : BitVec 32 := Scalar.addi v165 c128_i32_82
  v166
def k0_off11 (k0_t3 : Fin k0_t3_loop.trips) : Fin 2 → Nat :=
  let c0_i32_74 : BitVec 32 := 0#32
  let c1_i32_76 : BitVec 32 := 1#32
  let arg25 : BitVec 32 := Scf.iv c0_i32_74 c1_i32_76 k0_t3
  let c512_i32 : BitVec 32 := 512#32
  let v164 : BitVec 32 := Scalar.muli arg25 c512_i32
  let v165 : BitVec 32 := v164
  let c128_i32_82 : BitVec 32 := 128#32
  let v166 : BitVec 32 := Scalar.addi v165 c128_i32_82
  let v167 : BitVec 32 := v166
  let v168 : Index := Scalar.indexCast v167
  let c0_83 : Index := 0#32
  ![v168.toNat, 0]
def k0_off12 (k0_t3 : Fin k0_t3_loop.trips) : Fin 2 → Nat :=
  let c0_i32_74 : BitVec 32 := 0#32
  let c1_i32_76 : BitVec 32 := 1#32
  let arg25 : BitVec 32 := Scf.iv c0_i32_74 c1_i32_76 k0_t3
  let c512_i32 : BitVec 32 := 512#32
  let v164 : BitVec 32 := Scalar.muli arg25 c512_i32
  let v165 : BitVec 32 := v164
  let v206 : Index := Scalar.indexCast v165
  let c512 : Index := 512#32
  ![v206.toNat, 512]
def k0_off13 (k0_t3 : Fin k0_t3_loop.trips) : Fin 2 → Nat :=
  let c0_i32_74 : BitVec 32 := 0#32
  let c1_i32_76 : BitVec 32 := 1#32
  let arg25 : BitVec 32 := Scf.iv c0_i32_74 c1_i32_76 k0_t3
  let c512_i32 : BitVec 32 := 512#32
  let v164 : BitVec 32 := Scalar.muli arg25 c512_i32
  let v165 : BitVec 32 := v164
  let v240 : Index := Scalar.indexCast v165
  let c640 : Index := 640#32
  ![v240.toNat, 640]
def k0_cond1 (i : grid0.Coords) : BitVec 1 :=
  let arg0 : BitVec 32 := BitVec.ofNat 32 (i 0).val
  let c0_i32_78 : BitVec 32 := 0#32
  let v158 : BitVec 1 := Scalar.cmpi .eq arg0 c0_i32_78
  let v159 : BitVec 32 := Scalar.extui v158
  let c0_i32_79 : BitVec 32 := 0#32
  let v160 : BitVec 1 := Scalar.cmpi .ne v159 c0_i32_79
  v160

def k0_cond2 (i : grid0.Coords) : BitVec 1 :=
  let arg0 : BitVec 32 := BitVec.ofNat 32 (i 0).val
  let c0_i32_80 : BitVec 32 := 0#32
  let v161 : BitVec 1 := Scalar.cmpi .ne arg0 c0_i32_80
  let v162 : BitVec 32 := Scalar.extui v161
  let c0_i32_81 : BitVec 32 := 0#32
  let v163 : BitVec 1 := Scalar.cmpi .ne v162 c0_i32_81
  v163

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelAttF.lean ====
abbrev S2x2048x512 : Shape := ⟨3, ![2, 2048, 512]⟩
abbrev S2x2048x128 : Shape := ⟨3, ![2, 2048, 128]⟩
abbrev S1x64 : Shape := ⟨2, ![1, 64]⟩
abbrev S1x8 : Shape := ⟨2, ![1, 8]⟩
abbrev S2x2048x768 : Shape := ⟨3, ![2, 2048, 768]⟩
abbrev S4096x768 : Shape := ⟨2, ![4096, 768]⟩
abbrev S1x1x1x64 : Shape := ⟨4, ![1, 1, 1, 64]⟩
abbrev S1x1x8x64 : Shape := ⟨4, ![1, 1, 8, 64]⟩
abbrev S1x512 : Shape := ⟨2, ![1, 512]⟩
abbrev S1x1x2x64 : Shape := ⟨4, ![1, 1, 2, 64]⟩
abbrev S1x128 : Shape := ⟨2, ![1, 128]⟩
abbrev S4096x512 : Shape := ⟨2, ![4096, 512]⟩
abbrev S2048x768 : Shape := ⟨2, ![2048, 768]⟩
abbrev S2048x512 : Shape := ⟨2, ![2048, 512]⟩
abbrev S2176x256 : Shape := ⟨2, ![2176, 256]⟩
abbrev S2x128x256 : Shape := ⟨3, ![2, 128, 256]⟩
abbrev S512x256 : Shape := ⟨2, ![512, 256]⟩
abbrev S128x128 : Shape := ⟨2, ![128, 128]⟩
abbrev S128x256 : Shape := ⟨2, ![128, 256]⟩
abbrev S512x128 : Shape := ⟨2, ![512, 128]⟩
abbrev S1x128x256 : Shape := ⟨3, ![1, 128, 256]⟩
abbrev S512x512 : Shape := ⟨2, ![512, 512]⟩
abbrev S128x512 : Shape := ⟨2, ![128, 512]⟩
abbrev S256x256 : Shape := ⟨2, ![256, 256]⟩
abbrev S1x1 : Shape := ⟨2, ![1, 1]⟩
abbrev S32x256 : Shape := ⟨2, ![32, 256]⟩
abbrev S1x32x256 : Shape := ⟨3, ![1, 32, 256]⟩
abbrev S32 : Shape := ⟨1, ![32]⟩
abbrev S32x1 : Shape := ⟨2, ![32, 1]⟩

abbrev nBuf : Space → Nat
  | .hbm => 16
  | .vmem => 13
  | .smem => 1
  | _ => 0

abbrev bufTy : (tb : Table) → Fin (tcTables nBuf tb) → BufTy
  | .hbm, ⟨0, _⟩ => ⟨S2x2048x512, .f32⟩
  | .hbm, ⟨1, _⟩ => ⟨S2x2048x128, .f32⟩
  | .hbm, ⟨2, _⟩ => ⟨S2x2048x128, .f32⟩
  | .hbm, ⟨3, _⟩ => ⟨S1x64, .f32⟩
  | .hbm, ⟨4, _⟩ => ⟨S1x64, .f32⟩
  | .hbm, ⟨5, _⟩ => ⟨S1x8, .f32⟩
  | .hbm, ⟨6, _⟩ => ⟨S2x2048x768, .f32⟩
  | .hbm, ⟨7, _⟩ => ⟨S4096x768, .f32⟩
  | .hbm, ⟨8, _⟩ => ⟨S4096x768, .bf16⟩
  | .hbm, ⟨9, _⟩ => ⟨S1x1x1x64, .f32⟩
  | .hbm, ⟨10, _⟩ => ⟨S1x1x8x64, .f32⟩
  | .hbm, ⟨11, _⟩ => ⟨S1x512, .f32⟩
  | .hbm, ⟨12, _⟩ => ⟨S1x1x1x64, .f32⟩
  | .hbm, ⟨13, _⟩ => ⟨S1x1x2x64, .f32⟩
  | .hbm, ⟨14, _⟩ => ⟨S1x128, .f32⟩
  | .hbm, ⟨15, _⟩ => ⟨S4096x512, .bf16⟩
  | .local _ .vmem, ⟨0, _⟩ => ⟨S2048x768, .bf16⟩
  | .local _ .vmem, ⟨1, _⟩ => ⟨S2048x768, .bf16⟩
  | .local _ .vmem, ⟨2, _⟩ => ⟨S1x512, .f32⟩
  | .local _ .vmem, ⟨3, _⟩ => ⟨S1x128, .f32⟩
  | .local _ .vmem, ⟨4, _⟩ => ⟨S2048x512, .bf16⟩
  | .local _ .vmem, ⟨5, _⟩ => ⟨S2048x512, .bf16⟩
  | .local _ .vmem, ⟨6, _⟩ => ⟨S2176x256, .bf16⟩
  | .local _ .vmem, ⟨7, _⟩ => ⟨S2176x256, .bf16⟩
  | .local _ .vmem, ⟨8, _⟩ => ⟨S2176x256, .bf16⟩
  | .local _ .vmem, ⟨9, _⟩ => ⟨S2176x256, .bf16⟩
  | .local _ .vmem, ⟨10, _⟩ => ⟨S2x128x256, .f32⟩
  | .local _ .vmem, ⟨11, _⟩ => ⟨S512x256, .f32⟩
  | .local _ .vmem, ⟨12, _⟩ => ⟨S512x256, .bf16⟩
  | .local _ .smem, ⟨0, _⟩ => ⟨S1x8, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32_18 : BitVec 32 := 0#32
  let c4_i32 : BitVec 32 := 4#32
  let v49 : BitVec 32 := Scalar.addi c0_i32_18 c4_i32
  let c1_i32 : BitVec 32 := 1#32
  ⟨c0_i32_18, v49, c1_i32⟩
def k0_mult1 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c512_i32 : BitVec 32 := 512#32
  let v87 : BitVec 32 := Scalar.muli arg13 c512_i32
  v87
def k0_off1 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c512_i32 : BitVec 32 := 512#32
  let v87 : BitVec 32 := Scalar.muli arg13 c512_i32
  let v88 : BitVec 32 := v87
  let v89 : Index := Scalar.indexCast v88
  let c512 : Index := 512#32
  ![v89.toNat, 512]
def k0_off2 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c512_i32 : BitVec 32 := 512#32
  let v87 : BitVec 32 := Scalar.muli arg13 c512_i32
  let v88 : BitVec 32 := v87
  let v109 : Index := Scalar.indexCast v88
  let c640 : Index := 640#32
  ![v109.toNat, 640]
def k0_mult2 (k0_t1 : Fin k0_t1_loop.trips) : BitVec 32 :=
  let c0_i32_18 : BitVec 32 := 0#32
  let c1_i32 : BitVec 32 := 1#32
  let arg13 : BitVec 32 := Scf.iv c0_i32_18 c1_i32 k0_t1
  let c512_i32 : BitVec 32 := 512#32
  let v87 : BitVec 32 := Scalar.muli arg13 c512_i32
  let v88 : BitVec 32 := v87
  let c128_i32_44 : BitVec 32 := 128#32
  let v112 : BitVec 32 := Scalar.addi v88 c128_i32_44
  v112
def k0_off3 (k0_t1 : Fin k0_t1_loop.trips) : Fin 2 → Nat :=
  let c0_i32_18 : BitVec 32 := 0#32
  let c1_i32 : BitVec 32 := 1#32
  let arg13 : BitVec 32 := Scf.iv c0_i32_18 c1_i32 k0_t1
  let c512_i32 : BitVec 32 := 512#32
  let v87 : BitVec 32 := Scalar.muli arg13 c512_i32
  let v88 : BitVec 32 := v87
  let c128_i32_44 : BitVec 32 := 128#32
  let v112 : BitVec 32 := Scalar.addi v88 c128_i32_44
  let v113 : BitVec 32 := v112
  let v116 : Index := Scalar.indexCast v113
  let c0_46 : Index := 0#32
  ![v116.toNat, 0]
@[reducible] def k0_t2_loop : Scf.Loop 32 :=
  let c0_i32_36 : BitVec 32 := 0#32
  let c16_i32 : BitVec 32 := 16#32
  let v86 : BitVec 32 := Scalar.addi c0_i32_36 c16_i32
  let c1_i32_37 : BitVec 32 := 1#32
  ⟨c0_i32_36, v86, c1_i32_37⟩
def k0_mult3 (k0_t2 : Fin k0_t2_loop.trips) : BitVec 32 :=
  let c0_i32_36 : BitVec 32 := 0#32
  let c1_i32_37 : BitVec 32 := 1#32
  let arg13 : BitVec 32 := Scf.iv c0_i32_36 c1_i32_37 k0_t2
  let c128_i32_39 : BitVec 32 := 128#32
  let v87 : BitVec 32 := Scalar.muli arg13 c128_i32_39
  v87
def k0_off4 (k0_t2 : Fin k0_t2_loop.trips) : Fin 2 → Nat :=
  let c0_i32_36 : BitVec 32 := 0#32
  let c1_i32_37 : BitVec 32 := 1#32
  let arg13 : BitVec 32 := Scf.iv c0_i32_36 c1_i32_37 k0_t2
  let c128_i32_39 : BitVec 32 := 128#32
  let v87 : BitVec 32 := Scalar.muli arg13 c128_i32_39
  let v88 : BitVec 32 := v87
  let v90 : Index := Scalar.indexCast v88
  let c0_41 : Index := 0#32
  ![v90.toNat, 0]
def k0_off5 (k0_t2 : Fin k0_t2_loop.trips) : Fin 2 → Nat :=
  let c0_i32_36 : BitVec 32 := 0#32
  let c1_i32_37 : BitVec 32 := 1#32
  let arg13 : BitVec 32 := Scf.iv c0_i32_36 c1_i32_37 k0_t2
  let c128_i32_39 : BitVec 32 := 128#32
  let v87 : BitVec 32 := Scalar.muli arg13 c128_i32_39
  let v88 : BitVec 32 := v87
  let v136 : Index := Scalar.indexCast v88
  let c0_55 : Index := 0#32
  ![v136.toNat, 0]
def k0_mult4 : BitVec 32 :=
  let c0_i32_59 : BitVec 32 := 0#32
  let c32_i32 : BitVec 32 := 32#32
  let v142 : BitVec 32 := Scalar.muli c0_i32_59 c32_i32
  v142
def k0_mult5 : BitVec 32 :=
  let c0_i32_59 : BitVec 32 := 0#32
  let c4_i32_60 : BitVec 32 := 4#32
  let c0_i32_61 : BitVec 32 := 0#32
  let v144 : BitVec 1 := Scalar.cmpi .eq c4_i32_60 c0_i32_61
  let c1_i32_62 : BitVec 32 := 1#32
  let v145 : BitVec 32 := Scalar.select v144 c1_i32_62 c4_i32_60
  let v146 : BitVec 32 := Scalar.remsi c0_i32_59 v145
  let c0_i32_64 : BitVec 32 := 0#32
  let v148 : BitVec 1 := Scalar.cmpi .slt v146 c0_i32_64
  let c0_i32_65 : BitVec 32 := 0#32
  let v149 : BitVec 1 := Scalar.cmpi .slt v145 c0_i32_65
  let v150 : BitVec 1 := Scalar.xori v148 v149
  let c0_i32_63 : BitVec 32 := 0#32
  let v147 : BitVec 1 := Scalar.cmpi .ne v146 c0_i32_63
  let v151 : BitVec 1 := Scalar.andi v150 v147
  let v152 : BitVec 32 := Scalar.addi v146 v145
  let v153 : BitVec 32 := Scalar.select v151 v152 v146
  let c32_i32_66 : BitVec 32 := 32#32
  let v154 : BitVec 32 := Scalar.muli v153 c32_i32_66
  v154
def k0_off6 (c0_i32_74 : BitVec 32) (c0_i32_59 : BitVec 32) : Fin 2 → Nat :=
  let c0_75 : Index := 0#32
  let c0_i32_68 : BitVec 32 := 0#32
  let v157 : BitVec 1 := Scalar.cmpi .sgt c0_i32_59 c0_i32_68
  let v158 : BitVec 32 := Scalar.extui v157
  let c0_i32_69 : BitVec 32 := 0#32
  let v159 : BitVec 1 := Scalar.cmpi .slt c0_i32_59 c0_i32_69
  let v160 : BitVec 32 := Scalar.extui v159
  let v161 : BitVec 32 := Scalar.subi v158 v160
  let c4_i32_67 : BitVec 32 := 4#32
  let c0_i32_70 : BitVec 32 := 0#32
  let v162 : BitVec 1 := Scalar.cmpi .sgt c4_i32_67 c0_i32_70
  let v163 : BitVec 32 := Scalar.extui v162
  let c0_i32_71 : BitVec 32 := 0#32
  let v164 : BitVec 1 := Scalar.cmpi .slt c4_i32_67 c0_i32_71
  let v165 : BitVec 32 := Scalar.extui v164
  let v166 : BitVec 32 := Scalar.subi v163 v165
  let v167 : BitVec 1 := Scalar.cmpi .ne v161 v166
  let v168 : BitVec 32 := Scalar.remsi c0_i32_59 c4_i32_67
  let c0_i32_72 : BitVec 32 := 0#32
  let v169 : BitVec 1 := Scalar.cmpi .ne v168 c0_i32_72
  let v170 : BitVec 1 := Scalar.andi v167 v169
  let v156 : BitVec 32 := Scalar.divsi c0_i32_59 c4_i32_67
  let c1_i32_73 : BitVec 32 := 1#32
  let v171 : BitVec 32 := Scalar.subi v156 c1_i32_73
  let v172 : BitVec 32 := Scalar.select v170 v171 v156
  let v173 : BitVec 32 := Scalar.addi c0_i32_74 v172
  let v174 : Index := Scalar.indexCast v173
  ![0, v174.toNat]
def k0_off7 (c0_i32_59 : BitVec 32) : Fin 2 → Nat :=
  let c32_i32 : BitVec 32 := 32#32
  let v142 : BitVec 32 := Scalar.muli c0_i32_59 c32_i32
  let v143 : BitVec 32 := v142
  let v176 : Index := Scalar.indexCast v143
  let c0_76 : Index := 0#32
  ![v176.toNat, 0]
def k0_off8 (k0_t2 : Fin k0_t2_loop.trips) (c0_i32_59 : BitVec 32) : Fin 3 → Nat :=
  let c0_i32_36 : BitVec 32 := 0#32
  let c1_i32_37 : BitVec 32 := 1#32
  let arg13 : BitVec 32 := Scf.iv c0_i32_36 c1_i32_37 k0_t2
  let c1_i32_40 : BitVec 32 := 1#32
  let v89 : BitVec 32 := Scalar.minsi arg13 c1_i32_40
  let v178 : Index := Scalar.indexCast v89
  let c4_i32_60 : BitVec 32 := 4#32
  let c0_i32_61 : BitVec 32 := 0#32
  let v144 : BitVec 1 := Scalar.cmpi .eq c4_i32_60 c0_i32_61
  let c1_i32_62 : BitVec 32 := 1#32
  let v145 : BitVec 32 := Scalar.select v144 c1_i32_62 c4_i32_60
  let v146 : BitVec 32 := Scalar.remsi c0_i32_59 v145
  let c0_i32_64 : BitVec 32 := 0#32
  let v148 : BitVec 1 := Scalar.cmpi .slt v146 c0_i32_64
  let c0_i32_65 : BitVec 32 := 0#32
  let v149 : BitVec 1 := Scalar.cmpi .slt v145 c0_i32_65
  let v150 : BitVec 1 := Scalar.xori v148 v149
  let c0_i32_63 : BitVec 32 := 0#32
  let v147 : BitVec 1 := Scalar.cmpi .ne v146 c0_i32_63
  let v151 : BitVec 1 := Scalar.andi v150 v147
  let v152 : BitVec 32 := Scalar.addi v146 v145
  let v153 : BitVec 32 := Scalar.select v151 v152 v146
  let c32_i32_66 : BitVec 32 := 32#32
  let v154 : BitVec 32 := Scalar.muli v153 c32_i32_66
  let v155 : BitVec 32 := v154
  let v179 : Index := Scalar.indexCast v155
  let c0_77 : Index := 0#32
  ![v178.toNat, v179.toNat, 0]
def k0_mult6 : BitVec 32 :=
  let c1_i32_82 : BitVec 32 := 1#32
  let c32_i32_83 : BitVec 32 := 32#32
  let v205 : BitVec 32 := Scalar.muli c1_i32_82 c32_i32_83
  v205
def k0_mult7 : BitVec 32 :=
  let c1_i32_82 : BitVec 32 := 1#32
  let c4_i32_84 : BitVec 32 := 4#32
  let c0_i32_85 : BitVec 32 := 0#32
  let v207 : BitVec 1 := Scalar.cmpi .eq c4_i32_84 c0_i32_85
  let c1_i32_86 : BitVec 32 := 1#32
  let v208 : BitVec 32 := Scalar.select v207 c1_i32_86 c4_i32_84
  let v209 : BitVec 32 := Scalar.remsi c1_i32_82 v208
  let c0_i32_88 : BitVec 32 := 0#32
  let v211 : BitVec 1 := Scalar.cmpi .slt v209 c0_i32_88
  let c0_i32_89 : BitVec 32 := 0#32
  let v212 : BitVec 1 := Scalar.cmpi .slt v208 c0_i32_89
  let v213 : BitVec 1 := Scalar.xori v211 v212
  let c0_i32_87 : BitVec 32 := 0#32
  let v210 : BitVec 1 := Scalar.cmpi .ne v209 c0_i32_87
  let v214 : BitVec 1 := Scalar.andi v213 v210
  let v215 : BitVec 32 := Scalar.addi v209 v208
  let v216 : BitVec 32 := Scalar.select v214 v215 v209
  let c32_i32_90 : BitVec 32 := 32#32
  let v217 : BitVec 32 := Scalar.muli v216 c32_i32_90
  v217
def k0_mult8 : BitVec 32 :=
  let c2_i32_106 : BitVec 32 := 2#32
  let c32_i32_107 : BitVec 32 := 32#32
  let v268 : BitVec 32 := Scalar.muli c2_i32_106 c32_i32_107
  v268
def k0_mult9 : BitVec 32 :=
  let c2_i32_106 : BitVec 32 := 2#32
  let c4_i32_108 : BitVec 32 := 4#32
  let c0_i32_109 : BitVec 32 := 0#32
  let v270 : BitVec 1 := Scalar.cmpi .eq c4_i32_108 c0_i32_109
  let c1_i32_110 : BitVec 32 := 1#32
  let v271 : BitVec 32 := Scalar.select v270 c1_i32_110 c4_i32_108
  let v272 : BitVec 32 := Scalar.remsi c2_i32_106 v271
  let c0_i32_112 : BitVec 32 := 0#32
  let v274 : BitVec 1 := Scalar.cmpi .slt v272 c0_i32_112
  let c0_i32_113 : BitVec 32 := 0#32
  let v275 : BitVec 1 := Scalar.cmpi .slt v271 c0_i32_113
  let v276 : BitVec 1 := Scalar.xori v274 v275
  let c0_i32_111 : BitVec 32 := 0#32
  let v273 : BitVec 1 := Scalar.cmpi .ne v272 c0_i32_111
  let v277 : BitVec 1 := Scalar.andi v276 v273
  let v278 : BitVec 32 := Scalar.addi v272 v271
  let v279 : BitVec 32 := Scalar.select v277 v278 v272
  let c32_i32_114 : BitVec 32 := 32#32
  let v280 : BitVec 32 := Scalar.muli v279 c32_i32_114
  v280
def k0_mult10 : BitVec 32 :=
  let c3_i32_130 : BitVec 32 := 3#32
  let c32_i32_131 : BitVec 32 := 32#32
  let v331 : BitVec 32 := Scalar.muli c3_i32_130 c32_i32_131
  v331
def k0_mult11 : BitVec 32 :=
  let c3_i32_130 : BitVec 32 := 3#32
  let c4_i32_132 : BitVec 32 := 4#32
  let c0_i32_133 : BitVec 32 := 0#32
  let v333 : BitVec 1 := Scalar.cmpi .eq c4_i32_132 c0_i32_133
  let c1_i32_134 : BitVec 32 := 1#32
  let v334 : BitVec 32 := Scalar.select v333 c1_i32_134 c4_i32_132
  let v335 : BitVec 32 := Scalar.remsi c3_i32_130 v334
  let c0_i32_136 : BitVec 32 := 0#32
  let v337 : BitVec 1 := Scalar.cmpi .slt v335 c0_i32_136
  let c0_i32_137 : BitVec 32 := 0#32
  let v338 : BitVec 1 := Scalar.cmpi .slt v334 c0_i32_137
  let v339 : BitVec 1 := Scalar.xori v337 v338
  let c0_i32_135 : BitVec 32 := 0#32
  let v336 : BitVec 1 := Scalar.cmpi .ne v335 c0_i32_135
  let v340 : BitVec 1 := Scalar.andi v339 v336
  let v341 : BitVec 32 := Scalar.addi v335 v334
  let v342 : BitVec 32 := Scalar.select v340 v341 v335
  let c32_i32_138 : BitVec 32 := 32#32
  let v343 : BitVec 32 := Scalar.muli v342 c32_i32_138
  v343
def k0_mult12 : BitVec 32 :=
  let c4_i32_154 : BitVec 32 := 4#32
  let c32_i32_155 : BitVec 32 := 32#32
  let v394 : BitVec 32 := Scalar.muli c4_i32_154 c32_i32_155
  v394
def k0_mult13 : BitVec 32 :=
  let c4_i32_154 : BitVec 32 := 4#32
  let c4_i32_156 : BitVec 32 := 4#32
  let c0_i32_157 : BitVec 32 := 0#32
  let v396 : BitVec 1 := Scalar.cmpi .eq c4_i32_156 c0_i32_157
  let c1_i32_158 : BitVec 32 := 1#32
  let v397 : BitVec 32 := Scalar.select v396 c1_i32_158 c4_i32_156
  let v398 : BitVec 32 := Scalar.remsi c4_i32_154 v397
  let c0_i32_160 : BitVec 32 := 0#32
  let v400 : BitVec 1 := Scalar.cmpi .slt v398 c0_i32_160
  let c0_i32_161 : BitVec 32 := 0#32
  let v401 : BitVec 1 := Scalar.cmpi .slt v397 c0_i32_161
  let v402 : BitVec 1 := Scalar.xori v400 v401
  let c0_i32_159 : BitVec 32 := 0#32
  let v399 : BitVec 1 := Scalar.cmpi .ne v398 c0_i32_159
  let v403 : BitVec 1 := Scalar.andi v402 v399
  let v404 : BitVec 32 := Scalar.addi v398 v397
  let v405 : BitVec 32 := Scalar.select v403 v404 v398
  let c32_i32_162 : BitVec 32 := 32#32
  let v406 : BitVec 32 := Scalar.muli v405 c32_i32_162
  v406
def k0_mult14 : BitVec 32 :=
  let c5_i32 : BitVec 32 := 5#32
  let c32_i32_178 : BitVec 32 := 32#32
  let v457 : BitVec 32 := Scalar.muli c5_i32 c32_i32_178
  v457
def k0_mult15 : BitVec 32 :=
  let c5_i32 : BitVec 32 := 5#32
  let c4_i32_179 : BitVec 32 := 4#32
  let c0_i32_180 : BitVec 32 := 0#32
  let v459 : BitVec 1 := Scalar.cmpi .eq c4_i32_179 c0_i32_180
  let c1_i32_181 : BitVec 32 := 1#32
  let v460 : BitVec 32 := Scalar.select v459 c1_i32_181 c4_i32_179
  let v461 : BitVec 32 := Scalar.remsi c5_i32 v460
  let c0_i32_183 : BitVec 32 := 0#32
  let v463 : BitVec 1 := Scalar.cmpi .slt v461 c0_i32_183
  let c0_i32_184 : BitVec 32 := 0#32
  let v464 : BitVec 1 := Scalar.cmpi .slt v460 c0_i32_184
  let v465 : BitVec 1 := Scalar.xori v463 v464
  let c0_i32_182 : BitVec 32 := 0#32
  let v462 : BitVec 1 := Scalar.cmpi .ne v461 c0_i32_182
  let v466 : BitVec 1 := Scalar.andi v465 v462
  let v467 : BitVec 32 := Scalar.addi v461 v460
  let v468 : BitVec 32 := Scalar.select v466 v467 v461
  let c32_i32_185 : BitVec 32 := 32#32
  let v469 : BitVec 32 := Scalar.muli v468 c32_i32_185
  v469
def k0_mult16 : BitVec 32 :=
  let c6_i32_201 : BitVec 32 := 6#32
  let c32_i32_202 : BitVec 32 := 32#32
  let v520 : BitVec 32 := Scalar.muli c6_i32_201 c32_i32_202
  v520
def k0_mult17 : BitVec 32 :=
  let c6_i32_201 : BitVec 32 := 6#32
  let c4_i32_203 : BitVec 32 := 4#32
  let c0_i32_204 : BitVec 32 := 0#32
  let v522 : BitVec 1 := Scalar.cmpi .eq c4_i32_203 c0_i32_204
  let c1_i32_205 : BitVec 32 := 1#32
  let v523 : BitVec 32 := Scalar.select v522 c1_i32_205 c4_i32_203
  let v524 : BitVec 32 := Scalar.remsi c6_i32_201 v523
  let c0_i32_207 : BitVec 32 := 0#32
  let v526 : BitVec 1 := Scalar.cmpi .slt v524 c0_i32_207
  let c0_i32_208 : BitVec 32 := 0#32
  let v527 : BitVec 1 := Scalar.cmpi .slt v523 c0_i32_208
  let v528 : BitVec 1 := Scalar.xori v526 v527
  let c0_i32_206 : BitVec 32 := 0#32
  let v525 : BitVec 1 := Scalar.cmpi .ne v524 c0_i32_206
  let v529 : BitVec 1 := Scalar.andi v528 v525
  let v530 : BitVec 32 := Scalar.addi v524 v523
  let v531 : BitVec 32 := Scalar.select v529 v530 v524
  let c32_i32_209 : BitVec 32 := 32#32
  let v532 : BitVec 32 := Scalar.muli v531 c32_i32_209
  v532
def k0_mult18 : BitVec 32 :=
  let c7_i32 : BitVec 32 := 7#32
  let c32_i32_225 : BitVec 32 := 32#32
  let v583 : BitVec 32 := Scalar.muli c7_i32 c32_i32_225
  v583
def k0_mult19 : BitVec 32 :=
  let c7_i32 : BitVec 32 := 7#32
  let c4_i32_226 : BitVec 32 := 4#32
  let c0_i32_227 : BitVec 32 := 0#32
  let v585 : BitVec 1 := Scalar.cmpi .eq c4_i32_226 c0_i32_227
  let c1_i32_228 : BitVec 32 := 1#32
  let v586 : BitVec 32 := Scalar.select v585 c1_i32_228 c4_i32_226
  let v587 : BitVec 32 := Scalar.remsi c7_i32 v586
  let c0_i32_230 : BitVec 32 := 0#32
  let v589 : BitVec 1 := Scalar.cmpi .slt v587 c0_i32_230
  let c0_i32_231 : BitVec 32 := 0#32
  let v590 : BitVec 1 := Scalar.cmpi .slt v586 c0_i32_231
  let v591 : BitVec 1 := Scalar.xori v589 v590
  let c0_i32_229 : BitVec 32 := 0#32
  let v588 : BitVec 1 := Scalar.cmpi .ne v587 c0_i32_229
  let v592 : BitVec 1 := Scalar.andi v591 v588
  let v593 : BitVec 32 := Scalar.addi v587 v586
  let v594 : BitVec 32 := Scalar.select v592 v593 v587
  let c32_i32_232 : BitVec 32 := 32#32
  let v595 : BitVec 32 := Scalar.muli v594 c32_i32_232
  v595
def k0_mult20 : BitVec 32 :=
  let c8_i32 : BitVec 32 := 8#32
  let c32_i32_248 : BitVec 32 := 32#32
  let v646 : BitVec 32 := Scalar.muli c8_i32 c32_i32_248
  v646
def k0_mult21 : BitVec 32 :=
  let c8_i32 : BitVec 32 := 8#32
  let c4_i32_249 : BitVec 32 := 4#32
  let c0_i32_250 : BitVec 32 := 0#32
  let v648 : BitVec 1 := Scalar.cmpi .eq c4_i32_249 c0_i32_250
  let c1_i32_251 : BitVec 32 := 1#32
  let v649 : BitVec 32 := Scalar.select v648 c1_i32_251 c4_i32_249
  let v650 : BitVec 32 := Scalar.remsi c8_i32 v649
  let c0_i32_253 : BitVec 32 := 0#32
  let v652 : BitVec 1 := Scalar.cmpi .slt v650 c0_i32_253
  let c0_i32_254 : BitVec 32 := 0#32
  let v653 : BitVec 1 := Scalar.cmpi .slt v649 c0_i32_254
  let v654 : BitVec 1 := Scalar.xori v652 v653
  let c0_i32_252 : BitVec 32 := 0#32
  let v651 : BitVec 1 := Scalar.cmpi .ne v650 c0_i32_252
  let v655 : BitVec 1 := Scalar.andi v654 v651
  let v656 : BitVec 32 := Scalar.addi v650 v649
  let v657 : BitVec 32 := Scalar.select v655 v656 v650
  let c32_i32_255 : BitVec 32 := 32#32
  let v658 : BitVec 32 := Scalar.muli v657 c32_i32_255
  v658
def k0_mult22 : BitVec 32 :=
  let c9_i32 : BitVec 32 := 9#32
  let c32_i32_271 : BitVec 32 := 32#32
  let v709 : BitVec 32 := Scalar.muli c9_i32 c32_i32_271
  v709
def k0_mult23 : BitVec 32 :=
  let c9_i32 : BitVec 32 := 9#32
  let c4_i32_272 : BitVec 32 := 4#32
  let c0_i32_273 : BitVec 32 := 0#32
  let v711 : BitVec 1 := Scalar.cmpi .eq c4_i32_272 c0_i32_273
  let c1_i32_274 : BitVec 32 := 1#32
  let v712 : BitVec 32 := Scalar.select v711 c1_i32_274 c4_i32_272
  let v713 : BitVec 32 := Scalar.remsi c9_i32 v712
  let c0_i32_276 : BitVec 32 := 0#32
  let v715 : BitVec 1 := Scalar.cmpi .slt v713 c0_i32_276
  let c0_i32_277 : BitVec 32 := 0#32
  let v716 : BitVec 1 := Scalar.cmpi .slt v712 c0_i32_277
  let v717 : BitVec 1 := Scalar.xori v715 v716
  let c0_i32_275 : BitVec 32 := 0#32
  let v714 : BitVec 1 := Scalar.cmpi .ne v713 c0_i32_275
  let v718 : BitVec 1 := Scalar.andi v717 v714
  let v719 : BitVec 32 := Scalar.addi v713 v712
  let v720 : BitVec 32 := Scalar.select v718 v719 v713
  let c32_i32_278 : BitVec 32 := 32#32
  let v721 : BitVec 32 := Scalar.muli v720 c32_i32_278
  v721
def k0_mult24 : BitVec 32 :=
  let c10_i32 : BitVec 32 := 10#32
  let c32_i32_294 : BitVec 32 := 32#32
  let v772 : BitVec 32 := Scalar.muli c10_i32 c32_i32_294
  v772
def k0_mult25 : BitVec 32 :=
  let c10_i32 : BitVec 32 := 10#32
  let c4_i32_295 : BitVec 32 := 4#32
  let c0_i32_296 : BitVec 32 := 0#32
  let v774 : BitVec 1 := Scalar.cmpi .eq c4_i32_295 c0_i32_296
  let c1_i32_297 : BitVec 32 := 1#32
  let v775 : BitVec 32 := Scalar.select v774 c1_i32_297 c4_i32_295
  let v776 : BitVec 32 := Scalar.remsi c10_i32 v775
  let c0_i32_299 : BitVec 32 := 0#32
  let v778 : BitVec 1 := Scalar.cmpi .slt v776 c0_i32_299
  let c0_i32_300 : BitVec 32 := 0#32
  let v779 : BitVec 1 := Scalar.cmpi .slt v775 c0_i32_300
  let v780 : BitVec 1 := Scalar.xori v778 v779
  let c0_i32_298 : BitVec 32 := 0#32
  let v777 : BitVec 1 := Scalar.cmpi .ne v776 c0_i32_298
  let v781 : BitVec 1 := Scalar.andi v780 v777
  let v782 : BitVec 32 := Scalar.addi v776 v775
  let v783 : BitVec 32 := Scalar.select v781 v782 v776
  let c32_i32_301 : BitVec 32 := 32#32
  let v784 : BitVec 32 := Scalar.muli v783 c32_i32_301
  v784
def k0_mult26 : BitVec 32 :=
  let c11_i32 : BitVec 32 := 11#32
  let c32_i32_317 : BitVec 32 := 32#32
  let v835 : BitVec 32 := Scalar.muli c11_i32 c32_i32_317
  v835
def k0_mult27 : BitVec 32 :=
  let c11_i32 : BitVec 32 := 11#32
  let c4_i32_318 : BitVec 32 := 4#32
  let c0_i32_319 : BitVec 32 := 0#32
  let v837 : BitVec 1 := Scalar.cmpi .eq c4_i32_318 c0_i32_319
  let c1_i32_320 : BitVec 32 := 1#32
  let v838 : BitVec 32 := Scalar.select v837 c1_i32_320 c4_i32_318
  let v839 : BitVec 32 := Scalar.remsi c11_i32 v838
  let c0_i32_322 : BitVec 32 := 0#32
  let v841 : BitVec 1 := Scalar.cmpi .slt v839 c0_i32_322
  let c0_i32_323 : BitVec 32 := 0#32
  let v842 : BitVec 1 := Scalar.cmpi .slt v838 c0_i32_323
  let v843 : BitVec 1 := Scalar.xori v841 v842
  let c0_i32_321 : BitVec 32 := 0#32
  let v840 : BitVec 1 := Scalar.cmpi .ne v839 c0_i32_321
  let v844 : BitVec 1 := Scalar.andi v843 v840
  let v845 : BitVec 32 := Scalar.addi v839 v838
  let v846 : BitVec 32 := Scalar.select v844 v845 v839
  let c32_i32_324 : BitVec 32 := 32#32
  let v847 : BitVec 32 := Scalar.muli v846 c32_i32_324
  v847
def k0_mult28 : BitVec 32 :=
  let c12_i32 : BitVec 32 := 12#32
  let c32_i32_340 : BitVec 32 := 32#32
  let v898 : BitVec 32 := Scalar.muli c12_i32 c32_i32_340
  v898
def k0_mult29 : BitVec 32 :=
  let c12_i32 : BitVec 32 := 12#32
  let c4_i32_341 : BitVec 32 := 4#32
  let c0_i32_342 : BitVec 32 := 0#32
  let v900 : BitVec 1 := Scalar.cmpi .eq c4_i32_341 c0_i32_342
  let c1_i32_343 : BitVec 32 := 1#32
  let v901 : BitVec 32 := Scalar.select v900 c1_i32_343 c4_i32_341
  let v902 : BitVec 32 := Scalar.remsi c12_i32 v901
  let c0_i32_345 : BitVec 32 := 0#32
  let v904 : BitVec 1 := Scalar.cmpi .slt v902 c0_i32_345
  let c0_i32_346 : BitVec 32 := 0#32
  let v905 : BitVec 1 := Scalar.cmpi .slt v901 c0_i32_346
  let v906 : BitVec 1 := Scalar.xori v904 v905
  let c0_i32_344 : BitVec 32 := 0#32
  let v903 : BitVec 1 := Scalar.cmpi .ne v902 c0_i32_344
  let v907 : BitVec 1 := Scalar.andi v906 v903
  let v908 : BitVec 32 := Scalar.addi v902 v901
  let v909 : BitVec 32 := Scalar.select v907 v908 v902
  let c32_i32_347 : BitVec 32 := 32#32
  let v910 : BitVec 32 := Scalar.muli v909 c32_i32_347
  v910
def k0_mult30 : BitVec 32 :=
  let c13_i32 : BitVec 32 := 13#32
  let c32_i32_363 : BitVec 32 := 32#32
  let v961 : BitVec 32 := Scalar.muli c13_i32 c32_i32_363
  v961
def k0_mult31 : BitVec 32 :=
  let c13_i32 : BitVec 32 := 13#32
  let c4_i32_364 : BitVec 32 := 4#32
  let c0_i32_365 : BitVec 32 := 0#32
  let v963 : BitVec 1 := Scalar.cmpi .eq c4_i32_364 c0_i32_365
  let c1_i32_366 : BitVec 32 := 1#32
  let v964 : BitVec 32 := Scalar.select v963 c1_i32_366 c4_i32_364
  let v965 : BitVec 32 := Scalar.remsi c13_i32 v964
  let c0_i32_368 : BitVec 32 := 0#32
  let v967 : BitVec 1 := Scalar.cmpi .slt v965 c0_i32_368
  let c0_i32_369 : BitVec 32 := 0#32
  let v968 : BitVec 1 := Scalar.cmpi .slt v964 c0_i32_369
  let v969 : BitVec 1 := Scalar.xori v967 v968
  let c0_i32_367 : BitVec 32 := 0#32
  let v966 : BitVec 1 := Scalar.cmpi .ne v965 c0_i32_367
  let v970 : BitVec 1 := Scalar.andi v969 v966
  let v971 : BitVec 32 := Scalar.addi v965 v964
  let v972 : BitVec 32 := Scalar.select v970 v971 v965
  let c32_i32_370 : BitVec 32 := 32#32
  let v973 : BitVec 32 := Scalar.muli v972 c32_i32_370
  v973
def k0_mult32 : BitVec 32 :=
  let c14_i32 : BitVec 32 := 14#32
  let c32_i32_386 : BitVec 32 := 32#32
  let v1024 : BitVec 32 := Scalar.muli c14_i32 c32_i32_386
  v1024
def k0_mult33 : BitVec 32 :=
  let c14_i32 : BitVec 32 := 14#32
  let c4_i32_387 : BitVec 32 := 4#32
  let c0_i32_388 : BitVec 32 := 0#32
  let v1026 : BitVec 1 := Scalar.cmpi .eq c4_i32_387 c0_i32_388
  let c1_i32_389 : BitVec 32 := 1#32
  let v1027 : BitVec 32 := Scalar.select v1026 c1_i32_389 c4_i32_387
  let v1028 : BitVec 32 := Scalar.remsi c14_i32 v1027
  let c0_i32_391 : BitVec 32 := 0#32
  let v1030 : BitVec 1 := Scalar.cmpi .slt v1028 c0_i32_391
  let c0_i32_392 : BitVec 32 := 0#32
  let v1031 : BitVec 1 := Scalar.cmpi .slt v1027 c0_i32_392
  let v1032 : BitVec 1 := Scalar.xori v1030 v1031
  let c0_i32_390 : BitVec 32 := 0#32
  let v1029 : BitVec 1 := Scalar.cmpi .ne v1028 c0_i32_390
  let v1033 : BitVec 1 := Scalar.andi v1032 v1029
  let v1034 : BitVec 32 := Scalar.addi v1028 v1027
  let v1035 : BitVec 32 := Scalar.select v1033 v1034 v1028
  let c32_i32_393 : BitVec 32 := 32#32
  let v1036 : BitVec 32 := Scalar.muli v1035 c32_i32_393
  v1036
def k0_mult34 : BitVec 32 :=
  let c15_i32 : BitVec 32 := 15#32
  let c32_i32_409 : BitVec 32 := 32#32
  let v1087 : BitVec 32 := Scalar.muli c15_i32 c32_i32_409
  v1087
def k0_mult35 : BitVec 32 :=
  let c15_i32 : BitVec 32 := 15#32
  let c4_i32_410 : BitVec 32 := 4#32
  let c0_i32_411 : BitVec 32 := 0#32
  let v1089 : BitVec 1 := Scalar.cmpi .eq c4_i32_410 c0_i32_411
  let c1_i32_412 : BitVec 32 := 1#32
  let v1090 : BitVec 32 := Scalar.select v1089 c1_i32_412 c4_i32_410
  let v1091 : BitVec 32 := Scalar.remsi c15_i32 v1090
  let c0_i32_414 : BitVec 32 := 0#32
  let v1093 : BitVec 1 := Scalar.cmpi .slt v1091 c0_i32_414
  let c0_i32_415 : BitVec 32 := 0#32
  let v1094 : BitVec 1 := Scalar.cmpi .slt v1090 c0_i32_415
  let v1095 : BitVec 1 := Scalar.xori v1093 v1094
  let c0_i32_413 : BitVec 32 := 0#32
  let v1092 : BitVec 1 := Scalar.cmpi .ne v1091 c0_i32_413
  let v1096 : BitVec 1 := Scalar.andi v1095 v1092
  let v1097 : BitVec 32 := Scalar.addi v1091 v1090
  let v1098 : BitVec 32 := Scalar.select v1096 v1097 v1091
  let c32_i32_416 : BitVec 32 := 32#32
  let v1099 : BitVec 32 := Scalar.muli v1098 c32_i32_416
  v1099
def k0_off9 (k0_t2 : Fin k0_t2_loop.trips) : Fin 2 → Nat :=
  let c0_i32_36 : BitVec 32 := 0#32
  let c1_i32_37 : BitVec 32 := 1#32
  let arg13 : BitVec 32 := Scf.iv c0_i32_36 c1_i32_37 k0_t2
  let c128_i32_39 : BitVec 32 := 128#32
  let v87 : BitVec 32 := Scalar.muli arg13 c128_i32_39
  let v88 : BitVec 32 := v87
  let v1181 : Index := Scalar.indexCast v88
  let c0_446 : Index := 0#32
  ![v1181.toNat, 0]
def k0_mult36 : BitVec 32 :=
  let c0_i32_460 : BitVec 32 := 0#32
  let c32_i32_461 : BitVec 32 := 32#32
  let v1214 : BitVec 32 := Scalar.muli c0_i32_460 c32_i32_461
  v1214
def k0_mult37 : BitVec 32 :=
  let c0_i32_460 : BitVec 32 := 0#32
  let c4_i32_462 : BitVec 32 := 4#32
  let c0_i32_463 : BitVec 32 := 0#32
  let v1216 : BitVec 1 := Scalar.cmpi .eq c4_i32_462 c0_i32_463
  let c1_i32_464 : BitVec 32 := 1#32
  let v1217 : BitVec 32 := Scalar.select v1216 c1_i32_464 c4_i32_462
  let v1218 : BitVec 32 := Scalar.remsi c0_i32_460 v1217
  let c0_i32_466 : BitVec 32 := 0#32
  let v1220 : BitVec 1 := Scalar.cmpi .slt v1218 c0_i32_466
  let c0_i32_467 : BitVec 32 := 0#32
  let v1221 : BitVec 1 := Scalar.cmpi .slt v1217 c0_i32_467
  let v1222 : BitVec 1 := Scalar.xori v1220 v1221
  let c0_i32_465 : BitVec 32 := 0#32
  let v1219 : BitVec 1 := Scalar.cmpi .ne v1218 c0_i32_465
  let v1223 : BitVec 1 := Scalar.andi v1222 v1219
  let v1224 : BitVec 32 := Scalar.addi v1218 v1217
  let v1225 : BitVec 32 := Scalar.select v1223 v1224 v1218
  let c32_i32_468 : BitVec 32 := 32#32
  let v1226 : BitVec 32 := Scalar.muli v1225 c32_i32_468
  v1226
def k0_mult38 : BitVec 32 :=
  let c1_i32_484 : BitVec 32 := 1#32
  let c32_i32_485 : BitVec 32 := 32#32
  let v1277 : BitVec 32 := Scalar.muli c1_i32_484 c32_i32_485
  v1277
def k0_mult39 : BitVec 32 :=
  let c1_i32_484 : BitVec 32 := 1#32
  let c4_i32_486 : BitVec 32 := 4#32
  let c0_i32_487 : BitVec 32 := 0#32
  let v1279 : BitVec 1 := Scalar.cmpi .eq c4_i32_486 c0_i32_487
  let c1_i32_488 : BitVec 32 := 1#32
  let v1280 : BitVec 32 := Scalar.select v1279 c1_i32_488 c4_i32_486
  let v1281 : BitVec 32 := Scalar.remsi c1_i32_484 v1280
  let c0_i32_490 : BitVec 32 := 0#32
  let v1283 : BitVec 1 := Scalar.cmpi .slt v1281 c0_i32_490
  let c0_i32_491 : BitVec 32 := 0#32
  let v1284 : BitVec 1 := Scalar.cmpi .slt v1280 c0_i32_491
  let v1285 : BitVec 1 := Scalar.xori v1283 v1284
  let c0_i32_489 : BitVec 32 := 0#32
  let v1282 : BitVec 1 := Scalar.cmpi .ne v1281 c0_i32_489
  let v1286 : BitVec 1 := Scalar.andi v1285 v1282
  let v1287 : BitVec 32 := Scalar.addi v1281 v1280
  let v1288 : BitVec 32 := Scalar.select v1286 v1287 v1281
  let c32_i32_492 : BitVec 32 := 32#32
  let v1289 : BitVec 32 := Scalar.muli v1288 c32_i32_492
  v1289
def k0_mult40 : BitVec 32 :=
  let c2_i32_508 : BitVec 32 := 2#32
  let c32_i32_509 : BitVec 32 := 32#32
  let v1340 : BitVec 32 := Scalar.muli c2_i32_508 c32_i32_509
  v1340
def k0_mult41 : BitVec 32 :=
  let c2_i32_508 : BitVec 32 := 2#32
  let c4_i32_510 : BitVec 32 := 4#32
  let c0_i32_511 : BitVec 32 := 0#32
  let v1342 : BitVec 1 := Scalar.cmpi .eq c4_i32_510 c0_i32_511
  let c1_i32_512 : BitVec 32 := 1#32
  let v1343 : BitVec 32 := Scalar.select v1342 c1_i32_512 c4_i32_510
  let v1344 : BitVec 32 := Scalar.remsi c2_i32_508 v1343
  let c0_i32_514 : BitVec 32 := 0#32
  let v1346 : BitVec 1 := Scalar.cmpi .slt v1344 c0_i32_514
  let c0_i32_515 : BitVec 32 := 0#32
  let v1347 : BitVec 1 := Scalar.cmpi .slt v1343 c0_i32_515
  let v1348 : BitVec 1 := Scalar.xori v1346 v1347
  let c0_i32_513 : BitVec 32 := 0#32
  let v1345 : BitVec 1 := Scalar.cmpi .ne v1344 c0_i32_513
  let v1349 : BitVec 1 := Scalar.andi v1348 v1345
  let v1350 : BitVec 32 := Scalar.addi v1344 v1343
  let v1351 : BitVec 32 := Scalar.select v1349 v1350 v1344
  let c32_i32_516 : BitVec 32 := 32#32
  let v1352 : BitVec 32 := Scalar.muli v1351 c32_i32_516
  v1352
def k0_mult42 : BitVec 32 :=
  let c3_i32_532 : BitVec 32 := 3#32
  let c32_i32_533 : BitVec 32 := 32#32
  let v1403 : BitVec 32 := Scalar.muli c3_i32_532 c32_i32_533
  v1403
def k0_mult43 : BitVec 32 :=
  let c3_i32_532 : BitVec 32 := 3#32
  let c4_i32_534 : BitVec 32 := 4#32
  let c0_i32_535 : BitVec 32 := 0#32
  let v1405 : BitVec 1 := Scalar.cmpi .eq c4_i32_534 c0_i32_535
  let c1_i32_536 : BitVec 32 := 1#32
  let v1406 : BitVec 32 := Scalar.select v1405 c1_i32_536 c4_i32_534
  let v1407 : BitVec 32 := Scalar.remsi c3_i32_532 v1406
  let c0_i32_538 : BitVec 32 := 0#32
  let v1409 : BitVec 1 := Scalar.cmpi .slt v1407 c0_i32_538
  let c0_i32_539 : BitVec 32 := 0#32
  let v1410 : BitVec 1 := Scalar.cmpi .slt v1406 c0_i32_539
  let v1411 : BitVec 1 := Scalar.xori v1409 v1410
  let c0_i32_537 : BitVec 32 := 0#32
  let v1408 : BitVec 1 := Scalar.cmpi .ne v1407 c0_i32_537
  let v1412 : BitVec 1 := Scalar.andi v1411 v1408
  let v1413 : BitVec 32 := Scalar.addi v1407 v1406
  let v1414 : BitVec 32 := Scalar.select v1412 v1413 v1407
  let c32_i32_540 : BitVec 32 := 32#32
  let v1415 : BitVec 32 := Scalar.muli v1414 c32_i32_540
  v1415
def k0_mult44 : BitVec 32 :=
  let c4_i32_556 : BitVec 32 := 4#32
  let c32_i32_557 : BitVec 32 := 32#32
  let v1466 : BitVec 32 := Scalar.muli c4_i32_556 c32_i32_557
  v1466
def k0_mult45 : BitVec 32 :=
  let c4_i32_556 : BitVec 32 := 4#32
  let c4_i32_558 : BitVec 32 := 4#32
  let c0_i32_559 : BitVec 32 := 0#32
  let v1468 : BitVec 1 := Scalar.cmpi .eq c4_i32_558 c0_i32_559
  let c1_i32_560 : BitVec 32 := 1#32
  let v1469 : BitVec 32 := Scalar.select v1468 c1_i32_560 c4_i32_558
  let v1470 : BitVec 32 := Scalar.remsi c4_i32_556 v1469
  let c0_i32_562 : BitVec 32 := 0#32
  let v1472 : BitVec 1 := Scalar.cmpi .slt v1470 c0_i32_562
  let c0_i32_563 : BitVec 32 := 0#32
  let v1473 : BitVec 1 := Scalar.cmpi .slt v1469 c0_i32_563
  let v1474 : BitVec 1 := Scalar.xori v1472 v1473
  let c0_i32_561 : BitVec 32 := 0#32
  let v1471 : BitVec 1 := Scalar.cmpi .ne v1470 c0_i32_561
  let v1475 : BitVec 1 := Scalar.andi v1474 v1471
  let v1476 : BitVec 32 := Scalar.addi v1470 v1469
  let v1477 : BitVec 32 := Scalar.select v1475 v1476 v1470
  let c32_i32_564 : BitVec 32 := 32#32
  let v1478 : BitVec 32 := Scalar.muli v1477 c32_i32_564
  v1478
def k0_mult46 : BitVec 32 :=
  let c5_i32_580 : BitVec 32 := 5#32
  let c32_i32_581 : BitVec 32 := 32#32
  let v1529 : BitVec 32 := Scalar.muli c5_i32_580 c32_i32_581
  v1529
def k0_mult47 : BitVec 32 :=
  let c5_i32_580 : BitVec 32 := 5#32
  let c4_i32_582 : BitVec 32 := 4#32
  let c0_i32_583 : BitVec 32 := 0#32
  let v1531 : BitVec 1 := Scalar.cmpi .eq c4_i32_582 c0_i32_583
  let c1_i32_584 : BitVec 32 := 1#32
  let v1532 : BitVec 32 := Scalar.select v1531 c1_i32_584 c4_i32_582
  let v1533 : BitVec 32 := Scalar.remsi c5_i32_580 v1532
  let c0_i32_586 : BitVec 32 := 0#32
  let v1535 : BitVec 1 := Scalar.cmpi .slt v1533 c0_i32_586
  let c0_i32_587 : BitVec 32 := 0#32
  let v1536 : BitVec 1 := Scalar.cmpi .slt v1532 c0_i32_587
  let v1537 : BitVec 1 := Scalar.xori v1535 v1536
  let c0_i32_585 : BitVec 32 := 0#32
  let v1534 : BitVec 1 := Scalar.cmpi .ne v1533 c0_i32_585
  let v1538 : BitVec 1 := Scalar.andi v1537 v1534
  let v1539 : BitVec 32 := Scalar.addi v1533 v1532
  let v1540 : BitVec 32 := Scalar.select v1538 v1539 v1533
  let c32_i32_588 : BitVec 32 := 32#32
  let v1541 : BitVec 32 := Scalar.muli v1540 c32_i32_588
  v1541
def k0_mult48 : BitVec 32 :=
  let c6_i32_604 : BitVec 32 := 6#32
  let c32_i32_605 : BitVec 32 := 32#32
  let v1592 : BitVec 32 := Scalar.muli c6_i32_604 c32_i32_605
  v1592
def k0_mult49 : BitVec 32 :=
  let c6_i32_604 : BitVec 32 := 6#32
  let c4_i32_606 : BitVec 32 := 4#32
  let c0_i32_607 : BitVec 32 := 0#32
  let v1594 : BitVec 1 := Scalar.cmpi .eq c4_i32_606 c0_i32_607
  let c1_i32_608 : BitVec 32 := 1#32
  let v1595 : BitVec 32 := Scalar.select v1594 c1_i32_608 c4_i32_606
  let v1596 : BitVec 32 := Scalar.remsi c6_i32_604 v1595
  let c0_i32_610 : BitVec 32 := 0#32
  let v1598 : BitVec 1 := Scalar.cmpi .slt v1596 c0_i32_610
  let c0_i32_611 : BitVec 32 := 0#32
  let v1599 : BitVec 1 := Scalar.cmpi .slt v1595 c0_i32_611
  let v1600 : BitVec 1 := Scalar.xori v1598 v1599
  let c0_i32_609 : BitVec 32 := 0#32
  let v1597 : BitVec 1 := Scalar.cmpi .ne v1596 c0_i32_609
  let v1601 : BitVec 1 := Scalar.andi v1600 v1597
  let v1602 : BitVec 32 := Scalar.addi v1596 v1595
  let v1603 : BitVec 32 := Scalar.select v1601 v1602 v1596
  let c32_i32_612 : BitVec 32 := 32#32
  let v1604 : BitVec 32 := Scalar.muli v1603 c32_i32_612
  v1604
def k0_mult50 : BitVec 32 :=
  let c7_i32_628 : BitVec 32 := 7#32
  let c32_i32_629 : BitVec 32 := 32#32
  let v1655 : BitVec 32 := Scalar.muli c7_i32_628 c32_i32_629
  v1655
def k0_mult51 : BitVec 32 :=
  let c7_i32_628 : BitVec 32 := 7#32
  let c4_i32_630 : BitVec 32 := 4#32
  let c0_i32_631 : BitVec 32 := 0#32
  let v1657 : BitVec 1 := Scalar.cmpi .eq c4_i32_630 c0_i32_631
  let c1_i32_632 : BitVec 32 := 1#32
  let v1658 : BitVec 32 := Scalar.select v1657 c1_i32_632 c4_i32_630
  let v1659 : BitVec 32 := Scalar.remsi c7_i32_628 v1658
  let c0_i32_634 : BitVec 32 := 0#32
  let v1661 : BitVec 1 := Scalar.cmpi .slt v1659 c0_i32_634
  let c0_i32_635 : BitVec 32 := 0#32
  let v1662 : BitVec 1 := Scalar.cmpi .slt v1658 c0_i32_635
  let v1663 : BitVec 1 := Scalar.xori v1661 v1662
  let c0_i32_633 : BitVec 32 := 0#32
  let v1660 : BitVec 1 := Scalar.cmpi .ne v1659 c0_i32_633
  let v1664 : BitVec 1 := Scalar.andi v1663 v1660
  let v1665 : BitVec 32 := Scalar.addi v1659 v1658
  let v1666 : BitVec 32 := Scalar.select v1664 v1665 v1659
  let c32_i32_636 : BitVec 32 := 32#32
  let v1667 : BitVec 32 := Scalar.muli v1666 c32_i32_636
  v1667
def k0_mult52 : BitVec 32 :=
  let c8_i32_652 : BitVec 32 := 8#32
  let c32_i32_653 : BitVec 32 := 32#32
  let v1718 : BitVec 32 := Scalar.muli c8_i32_652 c32_i32_653
  v1718
def k0_mult53 : BitVec 32 :=
  let c8_i32_652 : BitVec 32 := 8#32
  let c4_i32_654 : BitVec 32 := 4#32
  let c0_i32_655 : BitVec 32 := 0#32
  let v1720 : BitVec 1 := Scalar.cmpi .eq c4_i32_654 c0_i32_655
  let c1_i32_656 : BitVec 32 := 1#32
  let v1721 : BitVec 32 := Scalar.select v1720 c1_i32_656 c4_i32_654
  let v1722 : BitVec 32 := Scalar.remsi c8_i32_652 v1721
  let c0_i32_658 : BitVec 32 := 0#32
  let v1724 : BitVec 1 := Scalar.cmpi .slt v1722 c0_i32_658
  let c0_i32_659 : BitVec 32 := 0#32
  let v1725 : BitVec 1 := Scalar.cmpi .slt v1721 c0_i32_659
  let v1726 : BitVec 1 := Scalar.xori v1724 v1725
  let c0_i32_657 : BitVec 32 := 0#32
  let v1723 : BitVec 1 := Scalar.cmpi .ne v1722 c0_i32_657
  let v1727 : BitVec 1 := Scalar.andi v1726 v1723
  let v1728 : BitVec 32 := Scalar.addi v1722 v1721
  let v1729 : BitVec 32 := Scalar.select v1727 v1728 v1722
  let c32_i32_660 : BitVec 32 := 32#32
  let v1730 : BitVec 32 := Scalar.muli v1729 c32_i32_660
  v1730
def k0_mult54 : BitVec 32 :=
  let c9_i32_676 : BitVec 32 := 9#32
  let c32_i32_677 : BitVec 32 := 32#32
  let v1781 : BitVec 32 := Scalar.muli c9_i32_676 c32_i32_677
  v1781
def k0_mult55 : BitVec 32 :=
  let c9_i32_676 : BitVec 32 := 9#32
  let c4_i32_678 : BitVec 32 := 4#32
  let c0_i32_679 : BitVec 32 := 0#32
  let v1783 : BitVec 1 := Scalar.cmpi .eq c4_i32_678 c0_i32_679
  let c1_i32_680 : BitVec 32 := 1#32
  let v1784 : BitVec 32 := Scalar.select v1783 c1_i32_680 c4_i32_678
  let v1785 : BitVec 32 := Scalar.remsi c9_i32_676 v1784
  let c0_i32_682 : BitVec 32 := 0#32
  let v1787 : BitVec 1 := Scalar.cmpi .slt v1785 c0_i32_682
  let c0_i32_683 : BitVec 32 := 0#32
  let v1788 : BitVec 1 := Scalar.cmpi .slt v1784 c0_i32_683
  let v1789 : BitVec 1 := Scalar.xori v1787 v1788
  let c0_i32_681 : BitVec 32 := 0#32
  let v1786 : BitVec 1 := Scalar.cmpi .ne v1785 c0_i32_681
  let v1790 : BitVec 1 := Scalar.andi v1789 v1786
  let v1791 : BitVec 32 := Scalar.addi v1785 v1784
  let v1792 : BitVec 32 := Scalar.select v1790 v1791 v1785
  let c32_i32_684 : BitVec 32 := 32#32
  let v1793 : BitVec 32 := Scalar.muli v1792 c32_i32_684
  v1793
def k0_mult56 : BitVec 32 :=
  let c10_i32_700 : BitVec 32 := 10#32
  let c32_i32_701 : BitVec 32 := 32#32
  let v1844 : BitVec 32 := Scalar.muli c10_i32_700 c32_i32_701
  v1844
def k0_mult57 : BitVec 32 :=
  let c10_i32_700 : BitVec 32 := 10#32
  let c4_i32_702 : BitVec 32 := 4#32
  let c0_i32_703 : BitVec 32 := 0#32
  let v1846 : BitVec 1 := Scalar.cmpi .eq c4_i32_702 c0_i32_703
  let c1_i32_704 : BitVec 32 := 1#32
  let v1847 : BitVec 32 := Scalar.select v1846 c1_i32_704 c4_i32_702
  let v1848 : BitVec 32 := Scalar.remsi c10_i32_700 v1847
  let c0_i32_706 : BitVec 32 := 0#32
  let v1850 : BitVec 1 := Scalar.cmpi .slt v1848 c0_i32_706
  let c0_i32_707 : BitVec 32 := 0#32
  let v1851 : BitVec 1 := Scalar.cmpi .slt v1847 c0_i32_707
  let v1852 : BitVec 1 := Scalar.xori v1850 v1851
  let c0_i32_705 : BitVec 32 := 0#32
  let v1849 : BitVec 1 := Scalar.cmpi .ne v1848 c0_i32_705
  let v1853 : BitVec 1 := Scalar.andi v1852 v1849
  let v1854 : BitVec 32 := Scalar.addi v1848 v1847
  let v1855 : BitVec 32 := Scalar.select v1853 v1854 v1848
  let c32_i32_708 : BitVec 32 := 32#32
  let v1856 : BitVec 32 := Scalar.muli v1855 c32_i32_708
  v1856
def k0_mult58 : BitVec 32 :=
  let c11_i32_724 : BitVec 32 := 11#32
  let c32_i32_725 : BitVec 32 := 32#32
  let v1907 : BitVec 32 := Scalar.muli c11_i32_724 c32_i32_725
  v1907
def k0_mult59 : BitVec 32 :=
  let c11_i32_724 : BitVec 32 := 11#32
  let c4_i32_726 : BitVec 32 := 4#32
  let c0_i32_727 : BitVec 32 := 0#32
  let v1909 : BitVec 1 := Scalar.cmpi .eq c4_i32_726 c0_i32_727
  let c1_i32_728 : BitVec 32 := 1#32
  let v1910 : BitVec 32 := Scalar.select v1909 c1_i32_728 c4_i32_726
  let v1911 : BitVec 32 := Scalar.remsi c11_i32_724 v1910
  let c0_i32_730 : BitVec 32 := 0#32
  let v1913 : BitVec 1 := Scalar.cmpi .slt v1911 c0_i32_730
  let c0_i32_731 : BitVec 32 := 0#32
  let v1914 : BitVec 1 := Scalar.cmpi .slt v1910 c0_i32_731
  let v1915 : BitVec 1 := Scalar.xori v1913 v1914
  let c0_i32_729 : BitVec 32 := 0#32
  let v1912 : BitVec 1 := Scalar.cmpi .ne v1911 c0_i32_729
  let v1916 : BitVec 1 := Scalar.andi v1915 v1912
  let v1917 : BitVec 32 := Scalar.addi v1911 v1910
  let v1918 : BitVec 32 := Scalar.select v1916 v1917 v1911
  let c32_i32_732 : BitVec 32 := 32#32
  let v1919 : BitVec 32 := Scalar.muli v1918 c32_i32_732
  v1919
def k0_mult60 : BitVec 32 :=
  let c12_i32_748 : BitVec 32 := 12#32
  let c32_i32_749 : BitVec 32 := 32#32
  let v1970 : BitVec 32 := Scalar.muli c12_i32_748 c32_i32_749
  v1970
def k0_mult61 : BitVec 32 :=
  let c12_i32_748 : BitVec 32 := 12#32
  let c4_i32_750 : BitVec 32 := 4#32
  let c0_i32_751 : BitVec 32 := 0#32
  let v1972 : BitVec 1 := Scalar.cmpi .eq c4_i32_750 c0_i32_751
  let c1_i32_752 : BitVec 32 := 1#32
  let v1973 : BitVec 32 := Scalar.select v1972 c1_i32_752 c4_i32_750
  let v1974 : BitVec 32 := Scalar.remsi c12_i32_748 v1973
  let c0_i32_754 : BitVec 32 := 0#32
  let v1976 : BitVec 1 := Scalar.cmpi .slt v1974 c0_i32_754
  let c0_i32_755 : BitVec 32 := 0#32
  let v1977 : BitVec 1 := Scalar.cmpi .slt v1973 c0_i32_755
  let v1978 : BitVec 1 := Scalar.xori v1976 v1977
  let c0_i32_753 : BitVec 32 := 0#32
  let v1975 : BitVec 1 := Scalar.cmpi .ne v1974 c0_i32_753
  let v1979 : BitVec 1 := Scalar.andi v1978 v1975
  let v1980 : BitVec 32 := Scalar.addi v1974 v1973
  let v1981 : BitVec 32 := Scalar.select v1979 v1980 v1974
  let c32_i32_756 : BitVec 32 := 32#32
  let v1982 : BitVec 32 := Scalar.muli v1981 c32_i32_756
  v1982
def k0_mult62 : BitVec 32 :=
  let c13_i32_772 : BitVec 32 := 13#32
  let c32_i32_773 : BitVec 32 := 32#32
  let v2033 : BitVec 32 := Scalar.muli c13_i32_772 c32_i32_773
  v2033
def k0_mult63 : BitVec 32 :=
  let c13_i32_772 : BitVec 32 := 13#32
  let c4_i32_774 : BitVec 32 := 4#32
  let c0_i32_775 : BitVec 32 := 0#32
  let v2035 : BitVec 1 := Scalar.cmpi .eq c4_i32_774 c0_i32_775
  let c1_i32_776 : BitVec 32 := 1#32
  let v2036 : BitVec 32 := Scalar.select v2035 c1_i32_776 c4_i32_774
  let v2037 : BitVec 32 := Scalar.remsi c13_i32_772 v2036
  let c0_i32_778 : BitVec 32 := 0#32
  let v2039 : BitVec 1 := Scalar.cmpi .slt v2037 c0_i32_778
  let c0_i32_779 : BitVec 32 := 0#32
  let v2040 : BitVec 1 := Scalar.cmpi .slt v2036 c0_i32_779
  let v2041 : BitVec 1 := Scalar.xori v2039 v2040
  let c0_i32_777 : BitVec 32 := 0#32
  let v2038 : BitVec 1 := Scalar.cmpi .ne v2037 c0_i32_777
  let v2042 : BitVec 1 := Scalar.andi v2041 v2038
  let v2043 : BitVec 32 := Scalar.addi v2037 v2036
  let v2044 : BitVec 32 := Scalar.select v2042 v2043 v2037
  let c32_i32_780 : BitVec 32 := 32#32
  let v2045 : BitVec 32 := Scalar.muli v2044 c32_i32_780
  v2045
def k0_mult64 : BitVec 32 :=
  let c14_i32_796 : BitVec 32 := 14#32
  let c32_i32_797 : BitVec 32 := 32#32
  let v2096 : BitVec 32 := Scalar.muli c14_i32_796 c32_i32_797
  v2096
def k0_mult65 : BitVec 32 :=
  let c14_i32_796 : BitVec 32 := 14#32
  let c4_i32_798 : BitVec 32 := 4#32
  let c0_i32_799 : BitVec 32 := 0#32
  let v2098 : BitVec 1 := Scalar.cmpi .eq c4_i32_798 c0_i32_799
  let c1_i32_800 : BitVec 32 := 1#32
  let v2099 : BitVec 32 := Scalar.select v2098 c1_i32_800 c4_i32_798
  let v2100 : BitVec 32 := Scalar.remsi c14_i32_796 v2099
  let c0_i32_802 : BitVec 32 := 0#32
  let v2102 : BitVec 1 := Scalar.cmpi .slt v2100 c0_i32_802
  let c0_i32_803 : BitVec 32 := 0#32
  let v2103 : BitVec 1 := Scalar.cmpi .slt v2099 c0_i32_803
  let v2104 : BitVec 1 := Scalar.xori v2102 v2103
  let c0_i32_801 : BitVec 32 := 0#32
  let v2101 : BitVec 1 := Scalar.cmpi .ne v2100 c0_i32_801
  let v2105 : BitVec 1 := Scalar.andi v2104 v2101
  let v2106 : BitVec 32 := Scalar.addi v2100 v2099
  let v2107 : BitVec 32 := Scalar.select v2105 v2106 v2100
  let c32_i32_804 : BitVec 32 := 32#32
  let v2108 : BitVec 32 := Scalar.muli v2107 c32_i32_804
  v2108
def k0_mult66 : BitVec 32 :=
  let c15_i32_820 : BitVec 32 := 15#32
  let c32_i32_821 : BitVec 32 := 32#32
  let v2159 : BitVec 32 := Scalar.muli c15_i32_820 c32_i32_821
  v2159
def k0_mult67 : BitVec 32 :=
  let c15_i32_820 : BitVec 32 := 15#32
  let c4_i32_822 : BitVec 32 := 4#32
  let c0_i32_823 : BitVec 32 := 0#32
  let v2161 : BitVec 1 := Scalar.cmpi .eq c4_i32_822 c0_i32_823
  let c1_i32_824 : BitVec 32 := 1#32
  let v2162 : BitVec 32 := Scalar.select v2161 c1_i32_824 c4_i32_822
  let v2163 : BitVec 32 := Scalar.remsi c15_i32_820 v2162
  let c0_i32_826 : BitVec 32 := 0#32
  let v2165 : BitVec 1 := Scalar.cmpi .slt v2163 c0_i32_826
  let c0_i32_827 : BitVec 32 := 0#32
  let v2166 : BitVec 1 := Scalar.cmpi .slt v2162 c0_i32_827
  let v2167 : BitVec 1 := Scalar.xori v2165 v2166
  let c0_i32_825 : BitVec 32 := 0#32
  let v2164 : BitVec 1 := Scalar.cmpi .ne v2163 c0_i32_825
  let v2168 : BitVec 1 := Scalar.andi v2167 v2164
  let v2169 : BitVec 32 := Scalar.addi v2163 v2162
  let v2170 : BitVec 32 := Scalar.select v2168 v2169 v2163
  let c32_i32_828 : BitVec 32 := 32#32
  let v2171 : BitVec 32 := Scalar.muli v2170 c32_i32_828
  v2171
def k0_off10 (k0_t2 : Fin k0_t2_loop.trips) : Fin 2 → Nat :=
  let c0_i32_36 : BitVec 32 := 0#32
  let c1_i32_37 : BitVec 32 := 1#32
  let arg13 : BitVec 32 := Scf.iv c0_i32_36 c1_i32_37 k0_t2
  let c128_i32_39 : BitVec 32 := 128#32
  let v87 : BitVec 32 := Scalar.muli arg13 c128_i32_39
  let v88 : BitVec 32 := v87
  let v2253 : Index := Scalar.indexCast v88
  let c256 : Index := 256#32
  ![v2253.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Proof.Consts.lean ====
/- The constants of the step as extended reals, and how a constant meets a sum. -/
module

public import Idealize.ShloMosaic.Lib.IdealHost
public import Idealize.ShloMosaic.Lib.Pointwise

@[expose] public section

noncomputable section

namespace Cert.Consts

open Idealize.ShloMosaic

theorem half : Ideal.ofBits .f32 0x3F000000#32 = ((1 / 2 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem d1024 : Ideal.ofBits .f32 0x44800000#32 = ((1024 : ℝ) : EReal) := by
  simp [Ideal.ofBits, Ideal.ieee, -EReal.coe_mul]; norm_num

theorem inv1024 : Ideal.ofBits .f32 0x3A800000#32 = ((1 / 1024 : ℝ) : EReal) := by
  simp [Ideal.ofBits, Ideal.ieee, -EReal.coe_mul]; norm_num

theorem three : Ideal.ofBits .f32 0x40400000#32 = ((3 : ℝ) : EReal) := by
  simp [Ideal.ofBits, Ideal.ieee, -EReal.coe_mul]; norm_num

theorem neghalf : Ideal.ofBits .f32 0xBF000000#32 = ((-1 / 2 : ℝ) : EReal) := by
  simp [Ideal.ofBits, Ideal.ieee, -EReal.coe_mul]; norm_num

theorem d512 : Ideal.ofBits .f32 0x44000000#32 = ((512 : ℝ) : EReal) := by
  simp [Ideal.ofBits, Ideal.ieee, -EReal.coe_mul]; norm_num

theorem c8943 : Ideal.ofBits .f32 0x460BBC00#32 = ((8943 : ℝ) : EReal) := by
  simp [Ideal.ofBits, Ideal.ieee, -EReal.coe_mul]; norm_num

theorem c200000 : Ideal.ofBits .f32 0x48435000#32 = ((200000 : ℝ) : EReal) := by
  simp [Ideal.ofBits, Ideal.ieee, -EReal.coe_mul]; norm_num

/-- `√(2/π)` and `1e-6` as the reals their patterns hold. -/
theorem geluK : Ideal.ofBits .f32 0x3F4C422A#32 = ((6693141 / 2 ^ 23 : ℝ) : EReal) := by
  simp [Ideal.ofBits, Ideal.ieee, -EReal.coe_mul]; norm_num

theorem eps : Ideal.ofBits .f32 0x358637BD#32 = ((8796093 / 2 ^ 43 : ℝ) : EReal) := by
  simp [Ideal.ofBits, Ideal.ieee, -EReal.coe_mul]; norm_num

/-- A nonnegative finite constant enters a sum of extended reals. -/
theorem mul_sum {ι : Type*} (c : ℝ) (hc : 0 ≤ c) (s : Finset ι) (f : ι → EReal) : (c : EReal) * ∑ i ∈ s, f i = ∑ i ∈ s, (c : EReal) * f i := by
  classical
  induction s using Finset.induction_on with
  | empty => simp
  | insert a s ha ih =>
    rw [Finset.sum_insert ha, Finset.sum_insert ha, ← ih, EReal.left_distrib_of_nonneg_of_ne_top (by exact_mod_cast hc) (EReal.coe_ne_top c)]

theorem sum_mul {ι : Type*} (c : ℝ) (hc : 0 ≤ c) (s : Finset ι) (f : ι → EReal) : (∑ i ∈ s, f i) * (c : EReal) = ∑ i ∈ s, f i * (c : EReal) := by
  rw [mul_comm, mul_sum c hc]
  exact Finset.sum_congr rfl fun i _ => mul_comm _ _

end Cert.Consts

end
-- ==== Proof.LossValue.lean ====
/- The second feed-forward product with the loss head: what the pipelined call leaves in its three results, against
   the plain product, the residual, the squared error and its gradient. -/
module

public import proofs.«01_k».proof.Proof.Gen.KernelLossIdeal.Frame
public import Idealize.ShloMosaic.Lib.Pipeline.ValueKit
public import Idealize.ShloMosaic.Lib.Pointwise
public import proofs.«01_k».proof.Proof.Consts

@[expose] public section

set_option maxRecDepth 16384

noncomputable section

namespace Cert.KernelLossIdeal.Value

open Cert.KernelLossIdeal Cert.KernelLossIdeal.Gen Idealize.ShloMosaic Idealize.ShloMosaic.TcCoe Idealize.SL.Sem
open Idealize.ShloMosaic.Pipeline (Dat)

variable (m : (ℓ : Loc nD τ sig) → Buf (Elt Ideal) ℓ)

/-- Every window's block index, over all eight grid points. -/
theorem idx : ∀ t : Fin cfg0.N, win0_0.index t = ![0, t.val, 0] ∧ win0_1.index t = ![0, 0, 0] ∧ win0_2.index t = ![t.val, 0]
    ∧ win0_3.index t = ![t.val / 4, 8, 0, 0] ∧ win0_4.index t = ![t.val, 0] ∧ win0_5.index t = ![t.val, 0] ∧ win0_6.index t = ![t.val, 0]
    ∧ win0_7.index t = ![t.val, 0, 0] ∧ t.val < 8 :=
  (by decide +kernel : ∀ t : Fin grid0.N, _)

/-- A shape cast from sequences to tokens, read at a token. -/
theorem rows_at (X : FVec Ideal S2x2048x1024 .f32) (i : S4096x1024.Idx) (b : Fin 2) (s : Fin 2048) (d : Fin 1024)
    (h : 2048 * b.val + s.val = (i 0).val) (hd : d.val = (i 1).val) : shapeCast S4096x1024 X shapeCasts_S2x2048x1024_S4096x1024 i = X (ix3 b s d) := by
  idx_vars i
  pointwise
  blk_ext []

/-- The hidden axis in four parts, read at a token. -/
theorem parts_at (X : FVec Ideal S2x2048x2816 .f32) (i : S4x4096x704.Idx) (b : Fin 2) (s : Fin 2048) (k : Fin 2816)
    (h : 2048 * b.val + s.val = (i 1).val) (hd : k.val = 704 * (i 0).val + (i 2).val) : (truncf .bf16 (transpose S4x4096x704 [1, 0, 2] (shapeCast S4096x4x704
    X shapeCasts_S2x2048x2816_S4096x4x704) transposes_S4096x4x704_S4x4096x704_1_0_2) bitsLt_bf16_f32 : FVec Ideal S4x4096x704 .bf16) i = X (ix3 b s k) := by
  idx_vars i
  pointwise
  blk_ext []

/-- The matrix's rows in four parts. -/
theorem wparts_at (X : FVec Ideal S2816x1024 .f32) (i : S4x704x1024.Idx) (k : Fin 2816) (d : Fin 1024)
    (hk : k.val = 704 * (i 0).val + (i 1).val) (hd : d.val = (i 2).val) :
    (truncf .bf16 (shapeCast S4x704x1024 X shapeCasts_S2816x1024_S4x704x1024) bitsLt_bf16_f32 : FVec Ideal S4x704x1024 .bf16) i = X (ix2 k d) := by
  idx_vars i
  pointwise
  blk_ext []

/-- The modulation vectors, nine side by side. -/
theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

/-- The activations as the call reads them: the hidden axis in four parts. -/
theorem V_a (c : Dev nD) : (V m c main_v5 : S4x4096x704.Idx → EReal) = (truncf .bf16 (transpose S4x4096x704 [1, 0, 2] (shapeCast S4096x4x704
    (m ((c : Thread nD τ).loc main_arg0) : FVec Ideal S2x2048x2816 .f32) shapeCasts_S2x2048x2816_S4096x4x704) transposes_S4096x4x704_S4x4096x704_1_0_2) bitsLt_bf16_f32 : FVec Ideal S4x4096x704 .bf16) := by
  unfold V V0
  rw [List.flatten_cons, List.flatten_nil, List.append_nil]
  after_results; rfl

/-- The second feed-forward matrix as the call reads it. -/
theorem V_w (c : Dev nD) : (V m c main_v2 : S4x704x1024.Idx → EReal) = (truncf .bf16 (shapeCast S4x704x1024
    (m ((c : Thread nD τ).loc main_arg1) : FVec Ideal S2816x1024 .f32) shapeCasts_S2816x1024_S4x704x1024) bitsLt_bf16_f32 : FVec Ideal S4x704x1024 .bf16) := by
  unfold V V0
  rw [List.flatten_cons, List.flatten_nil, List.append_nil]
  after_results; rfl

/-- The residual, one row per token. -/
theorem V_h (c : Dev nD) : V m c main_v6 = shapeCast S4096x1024 (m ((c : Thread nD τ).loc main_arg2)) shapeCasts_S2x2048x1024_S4096x1024 := by
  unfold V V0
  rw [List.flatten_cons, List.flatten_nil, List.append_nil]
  after_results; rfl

/-- The nine modulation vectors, apart. -/
theorem V_m (c : Dev nD) : V m c main_v0 = shapeCast S2x9x1x1024 (m ((c : Thread nD τ).loc main_arg3)) shapeCasts_S2x9216_S2x9x1x1024 := by
  unfold V V0
  rw [List.flatten_cons, List.flatten_nil, List.append_nil]
  after_results; rfl

/-- The target, one row per token. -/
theorem V_y (c : Dev nD) : V m c main_v7 = shapeCast S4096x1024 (m ((c : Thread nD τ).loc main_arg4)) shapeCasts_S2x2048x1024_S4096x1024 := by
  unfold V V0
  rw [List.flatten_cons, List.flatten_nil, List.append_nil]
  after_results; rfl

/-- The block of activations at a point. -/
theorem blk_a (c : Dev nD) (t : Fin cfg0.N) (q : Fin 4) (r : Fin 512) (x : Fin 704) (b : Fin 2) (s : Fin 2048) (h : 2048 * b.val + s.val = 512 * t.val + r.val) :
    (iblk m c 0 t : S4x512x704.Idx → EReal) (ix3 q r x) = (m ((c : Thread nD τ).loc main_arg0) : S2x2048x2816.Idx → EReal) (ix3 b s ⟨q.val * 704 + x.val, by omega⟩) := by
  have ht : t.val < 8 := (idx t).2.2.2.2.2.2.2.2
  obtain ⟨e0, -⟩ := idx t
  refine (congrFun (V_a m c) (((cfg0.win 0).blk t).view.emb (ix3 q r x))).trans (parts_at _ _ b s _ ?_ ?_) <;>
    (blk_simp [e0] <;> (try simp only []) <;> (try omega))

/-- The block of the matrix: all of it. -/
theorem blk_w (c : Dev nD) (t : Fin cfg0.N) (q : Fin 4) (x : Fin 704) (d : Fin 1024) :
    (iblk m c 1 t : S4x704x1024.Idx → EReal) (ix3 q x d) = (m ((c : Thread nD τ).loc main_arg1) : S2816x1024.Idx → EReal) (ix2 ⟨q.val * 704 + x.val, by omega⟩ d) := by
  have ht : t.val < 8 := (idx t).2.2.2.2.2.2.2.2
  obtain ⟨-, e1, -⟩ := idx t
  refine (congrFun (V_w m c) (((cfg0.win 1).blk t).view.emb (ix3 q x d))).trans (wparts_at _ _ _ d ?_ ?_) <;>
    (blk_simp [e1] <;> (try simp only []) <;> (try omega))

/-- The block of the residual. -/
theorem blk_h (c : Dev nD) (t : Fin cfg0.N) (r : Fin 512) (d : Fin 1024) (b : Fin 2) (s : Fin 2048) (h : 2048 * b.val + s.val = 512 * t.val + r.val) :
    (iblk m c 2 t : S512x1024.Idx → EReal) (ix2 r d) = (m ((c : Thread nD τ).loc main_arg2) : S2x2048x1024.Idx → EReal) (ix3 b s d) := by
  have ht : t.val < 8 := (idx t).2.2.2.2.2.2.2.2
  obtain ⟨-, -, e2, -⟩ := idx t
  refine (congrFun (V_h m c) (((cfg0.win 2).blk t).view.emb (ix2 r d))).trans (rows_at _ _ b s d ?_ ?_) <;>
    (blk_simp [e2] <;> (try simp only []) <;> (try omega))

/-- The block of the modulation vectors: the ninth of the token's sequence. -/
theorem blk_m (c : Dev nD) (t : Fin cfg0.N) (r : Fin 512) (d : Fin 1024) (b : Fin 2) (s : Fin 2048) (h : 2048 * b.val + s.val = 512 * t.val + r.val) :
    (iblk m c 3 t : S1x1x1x1024.Idx → EReal) (ix4 0 0 0 d) = (m ((c : Thread nD τ).loc main_arg3) : S2x9216.Idx → EReal) (ix2 b ⟨8192 + d.val, by omega⟩) := by
  have ht : t.val < 8 := (idx t).2.2.2.2.2.2.2.2
  obtain ⟨-, -, -, e3, -⟩ := idx t
  refine (congrFun (V_m m c) (((cfg0.win 3).blk t).view.emb (ix4 0 0 0 d))).trans (mods_at _ _ b _ ?_ ?_) <;>
    (blk_simp [e3] <;> (try simp only []) <;> (try omega))

/-- The block of the target. -/
theorem blk_y (c : Dev nD) (t : Fin cfg0.N) (r : Fin 512) (d : Fin 1024) (b : Fin 2) (s : Fin 2048) (h : 2048 * b.val + s.val = 512 * t.val + r.val) :
    (iblk m c 4 t : S512x1024.Idx → EReal) (ix2 r d) = (m ((c : Thread nD τ).loc main_arg4) : S2x2048x1024.Idx → EReal) (ix3 b s d) := by
  have ht : t.val < 8 := (idx t).2.2.2.2.2.2.2.2
  obtain ⟨-, -, -, -, e4, -⟩ := idx t
  refine (congrFun (V_y m c) (((cfg0.win 4).blk t).view.emb (ix2 r d))).trans (rows_at _ _ b s d ?_ ?_) <;>
    (blk_simp [e4] <;> (try simp only []) <;> (try omega))

/-- The product of the activations with the second feed-forward matrix, at one token and column. -/
def fAt (A : FVec Ideal S2x2048x2816 .f32) (W : FVec Ideal S2816x1024 .f32) (b : Fin 2) (s : Fin 2048) (d : Fin 1024) : EReal :=
  ∑ k : Fin 2816, A (ix3 b s k) * W (ix2 k d)

/-- The error of the prediction at one token and column: the residual, plus half the gate times the product, less the target. -/
def eAt (A : FVec Ideal S2x2048x2816 .f32) (W : FVec Ideal S2816x1024 .f32) (H : FVec Ideal S2x2048x1024 .f32) (M : FVec Ideal S2x9216 .f32)
    (Y : FVec Ideal S2x2048x1024 .f32) (b : Fin 2) (s : Fin 2048) (d : Fin 1024) : EReal :=
  H (ix3 b s d) + (Ideal.ofBits .f32 0x3F000000#32 * M (ix2 b ⟨8192 + d.val, by omega⟩)) * fAt A W b s d - Y (ix3 b s d)

/-- The block's product, the hidden axis in four parts, is the whole product. -/
theorem f_point (c : Dev nD) (t : Fin cfg0.N) (r : Fin 512) (d : Fin 1024) (b : Fin 2) (s : Fin 2048) (h : 2048 * b.val + s.val = 512 * t.val + r.val) :
    k0_pay6 (F := Ideal) (iblk m c 0 t) (iblk m c 1 t) (iblk m c 2 t) (iblk m c 3 t) (iblk m c 4 t) (ix2 r d)
      = fAt (m ((c : Thread nD τ).loc main_arg0)) (m ((c : Thread nD τ).loc main_arg1)) b s d := by
  rw [fAt, Fin.sum_univ_tiles 4 704 rfl, Fin.sum_univ_four]
  pointwise [k0_pay6, k0_pay4]
  simp only [blk_a m c t _ r _ b s h, blk_w m c t]
  rfl

/-- The error of the block at one of its elements. -/
theorem err_point (c : Dev nD) (t : Fin cfg0.N) (r : Fin 512) (d : Fin 1024) (b : Fin 2) (s : Fin 2048) (h : 2048 * b.val + s.val = 512 * t.val + r.val) :
    k0_pay1 (F := Ideal) (k0_pay6 (F := Ideal) (iblk m c 0 t) (iblk m c 1 t) (iblk m c 2 t) (iblk m c 3 t) (iblk m c 4 t)) (iblk m c 2 t) (iblk m c 3 t) (iblk m c 4 t) (ix2 r d)
      = eAt (m ((c : Thread nD τ).loc main_arg0)) (m ((c : Thread nD τ).loc main_arg1)) (m ((c : Thread nD τ).loc main_arg2))
          (m ((c : Thread nD τ).loc main_arg3)) (m ((c : Thread nD τ).loc main_arg4)) b s d := by
  rw [eAt, ← f_point m c t r d b s h]
  pointwise [k0_pay1]
  simp only [blk_h m c t r d b s h, blk_m m c t r d b s h, blk_y m c t r d b s h]

/-- The gradient of the loss by the prediction: the error over the width. -/
def dyA (A : FVec Ideal S2x2048x2816 .f32) (W : FVec Ideal S2816x1024 .f32) (H : FVec Ideal S2x2048x1024 .f32) (M : FVec Ideal S2x9216 .f32)
    (Y : FVec Ideal S2x2048x1024 .f32) : FVec Ideal S4096x1024 .f32 := fun i =>
  eAt A W H M Y ⟨(i 0).val / 2048, by have := (i 0).isLt; simp at this; omega⟩ ⟨(i 0).val % 2048, by omega⟩ (i 1) * ((1 / 1024 : ℝ) : EReal)

/-- The product of the activations with the matrix, token by token. -/
def fA (A : FVec Ideal S2x2048x2816 .f32) (W : FVec Ideal S2816x1024 .f32) : FVec Ideal S4096x1024 .bf16 := fun i =>
  fAt A W ⟨(i 0).val / 2048, by have := (i 0).isLt; simp at this; omega⟩ ⟨(i 0).val % 2048, by omega⟩ (i 1)

/-- One block's part of the loss. -/
def lossPart (A : FVec Ideal S2x2048x2816 .f32) (W : FVec Ideal S2816x1024 .f32) (H : FVec Ideal S2x2048x1024 .f32) (M : FVec Ideal S2x9216 .f32)
    (Y : FVec Ideal S2x2048x1024 .f32) (t : Fin 8) : EReal :=
  ((1 / 2 : ℝ) : EReal) * (∑ r : Fin 512, ∑ d : Fin 1024,
    eAt A W H M Y ⟨(512 * t.val + r.val) / 2048, by omega⟩ ⟨(512 * t.val + r.val) % 2048, by omega⟩ d
    * eAt A W H M Y ⟨(512 * t.val + r.val) / 2048, by omega⟩ ⟨(512 * t.val + r.val) % 2048, by omega⟩ d) * ((1 / 1024 : ℝ) : EReal)

/-- A block's row is a token of a sequence. -/
theorem token (t : Fin cfg0.N) (r : Fin 512) : ∃ (b : Fin 2) (s : Fin 2048), 2048 * b.val + s.val = 512 * t.val + r.val := by
  have ht : t.val < 8 := (idx t).2.2.2.2.2.2.2.2
  exact ⟨⟨(512 * t.val + r.val) / 2048, by omega⟩, ⟨(512 * t.val + r.val) % 2048, by omega⟩, by simp only []; omega⟩

theorem dyA_at (A : FVec Ideal S2x2048x2816 .f32) (W : FVec Ideal S2816x1024 .f32) (H : FVec Ideal S2x2048x1024 .f32) (M : FVec Ideal S2x9216 .f32)
    (Y : FVec Ideal S2x2048x1024 .f32) (i : S4096x1024.Idx) (b : Fin 2) (s : Fin 2048) (d : Fin 1024) (h : 2048 * b.val + s.val = (i 0).val) (hd : d.val = (i 1).val) :
    dyA A W H M Y i = eAt A W H M Y b s d * ((1 / 1024 : ℝ) : EReal) := by
  unfold dyA
  congr 2 <;> refine Fin.ext ?_ <;> (simp only []) <;> omega

theorem fA_at (A : FVec Ideal S2x2048x2816 .f32) (W : FVec Ideal S2816x1024 .f32) (i : S4096x1024.Idx) (b : Fin 2) (s : Fin 2048) (d : Fin 1024)
    (h : 2048 * b.val + s.val = (i 0).val) (hd : d.val = (i 1).val) : fA A W i = fAt A W b s d := by
  unfold fA
  congr 1 <;> refine Fin.ext ?_ <;> (simp only []) <;> omega

/-- The first result array after the region. -/
theorem final5 (c : Dev nD) : (dats m 0 c).arrAt 5 cfg0.N = dyA (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 5 _ (by decide +kernel) fun t hf y => ?_
  have ht : t.val < 8 := (idx t).2.2.2.2.2.2.2.2
  have e5 := (idx t).2.2.2.2.2.1
  idx_vars y
  blk_simp
  rw [after0_5]
  frame_out
  obtain ⟨b, s, h⟩ := token t y0
  rw [dyA_at _ _ _ _ _ _ b s y1 (by blk_simp [e5]; omega) (by blk_simp [e5]),
    ← err_point m c t y0 y1 b s h, ← Cert.Consts.inv1024]
  pointwise [k0_pay2]

/-- The second result array after the region. -/
theorem final6 (c : Dev nD) : (dats m 0 c).arrAt 6 cfg0.N = fA (m ((c : Thread nD τ).loc main_arg0)) (m ((c : Thread nD τ).loc main_arg1)) := by
  refine (dats m 0 c).arrAt_eq_of_covers 6 _ (by decide +kernel) fun t hf y => ?_
  have ht : t.val < 8 := (idx t).2.2.2.2.2.2.2.2
  have e6 := (idx t).2.2.2.2.2.2.1
  idx_vars y
  blk_simp
  rw [after0_6]
  frame_out
  obtain ⟨b, s, h⟩ := token t y0
  rw [fA_at _ _ _ b s y1 (by blk_simp [e6]; omega) (by blk_simp [e6]),
    ← f_point m c t y0 y1 b s h]
  rfl

/-- The parts of the loss after the region. -/
theorem final7 (c : Dev nD) : (dats m 0 c).arrAt 7 cfg0.N = fun i : S8x8x128.Idx => lossPart (m ((c : Thread nD τ).loc main_arg0)) (m ((c : Thread nD τ).loc main_arg1)) (m ((c : Thread nD τ).loc main_arg2))
          (m ((c : Thread nD τ).loc main_arg3)) (m ((c : Thread nD τ).loc main_arg4)) (i 0) := by
  refine (dats m 0 c).arrAt_eq_of_covers 7 _ (by decide +kernel) fun t hf y => ?_
  have ht : t.val < 8 := (idx t).2.2.2.2.2.2.2.2
  have e7 := (idx t).2.2.2.2.2.2.2.1
  idx_vars y
  blk_simp
  rw [after0_7]
  frame_out
  have hi : (((View.whole main_v8_2).slice (win0_7.rect t)).emb (ix3 y0 y1 y2) 0 : Fin 8) = ⟨t.val, ht⟩ := Fin.ext (by blk_simp [e7])
  rw [hi]
  unfold lossPart
  pointwise [k0_pay3]
  rw [← Cert.Consts.half, ← Cert.Consts.inv1024]
  refine congrArg (· * _) (congrArg (_ * ·) (Finset.sum_congr rfl fun r _ => Finset.sum_congr rfl fun d _ => ?_))
  rw [err_point m c t r d ⟨(512 * t.val + r.val) / 2048, by omega⟩ ⟨(512 * t.val + r.val) % 2048, by omega⟩ (by simp only []; omega)]

/-- The eight parts of the loss add up to the mean over the width of half the squared error, summed over the tokens. -/
theorem loss_total (A : FVec Ideal S2x2048x2816 .f32) (W : FVec Ideal S2816x1024 .f32) (H : FVec Ideal S2x2048x1024 .f32) (M : FVec Ideal S2x9216 .f32)
    (Y : FVec Ideal S2x2048x1024 .f32) : ∑ t : Fin 8, lossPart A W H M Y t
      = ((1 / 2 : ℝ) : EReal) * ∑ b : Fin 2, ∑ s : Fin 2048, (∑ d : Fin 1024, eAt A W H M Y b s d * eAt A W H M Y b s d) * ((1 / 1024 : ℝ) : EReal) := by
  have hG : ∀ G : Fin 2 → Fin 2048 → EReal, ∑ t : Fin 8, ∑ r : Fin 512, G ⟨(512 * t.val + r.val) / 2048, by omega⟩ ⟨(512 * t.val + r.val) % 2048, by omega⟩
      = ∑ b : Fin 2, ∑ s : Fin 2048, G b s := fun G => by
    have h1 := Fin.sum_univ_tiles 8 512 rfl fun n : Fin 4096 => G ⟨n.val / 2048, by omega⟩ ⟨n.val % 2048, by omega⟩
    have h2 := Fin.sum_univ_tiles 2 2048 rfl fun n : Fin 4096 => G ⟨n.val / 2048, by omega⟩ ⟨n.val % 2048, by omega⟩
    refine (Finset.sum_congr rfl fun t _ => Finset.sum_congr rfl fun r _ => ?_).trans ((h1.symm.trans h2).trans
      (Finset.sum_congr rfl fun t _ => Finset.sum_congr rfl fun r _ => ?_)) <;>
      (congr 1 <;> refine Fin.ext ?_ <;> (simp only []) <;> omega)
  unfold lossPart
  rw [← Cert.Consts.sum_mul _ (by norm_num), ← Cert.Consts.mul_sum _ (by norm_num), hG fun b s => ∑ d : Fin 1024, eAt A W H M Y b s d * eAt A W H M Y b s d, mul_assoc,
    Cert.Consts.sum_mul _ (by norm_num)]
  exact congrArg (_ * ·) (Finset.sum_congr rfl fun b _ => Cert.Consts.sum_mul _ (by norm_num) _ _)

/-- The loss: the host's sum of the blocks' parts. -/
theorem tail_loss (c : Dev nD) : Pipeline.afterTail₀ cfgs (dats m) 0 (V0 m) [hostOps1] c main_v11
    = fun _ => ∑ t : Fin 8, lossPart (m ((c : Thread nD τ).loc main_arg0)) (m ((c : Thread nD τ).loc main_arg1)) (m ((c : Thread nD τ).loc main_arg2))
          (m ((c : Thread nD τ).loc main_arg3)) (m ((c : Thread nD τ).loc main_arg4)) t := by
  unfold Pipeline.afterTail₀
  rw [List.flatten_cons, List.flatten_nil, List.append_nil]
  after_results
  rw [show Pipeline.withArrays (cfgs 0).spec c (V0 m c) (fun w => (dats m 0 c).arrAt w (cfgs 0).N) (Proc.devRef .tc main_v8_2)
    = (dats m 0 c).arrAt 7 cfg0.N from Pipeline.withArrays_arr _ launch0.win.arr_inj c _ _ 7, final7]
  funext i
  pointwise

end Cert.KernelLossIdeal.Value

end
-- ==== Proof.LossReference.lean ====
/- The reference of the loss call, read at its elements. -/
module

public import proofs.«01_k».proof.Proof.LossValue
public import proofs.«01_k».proof.Proof.Gen.ReferenceLossIdeal.Run

@[expose] public section

set_option maxRecDepth 16384

noncomputable section

namespace Cert.ReferenceLossIdeal.Value

open Cert.ReferenceLossIdeal Cert.ReferenceLossIdeal.Gen Idealize.ShloMosaic Idealize.ShloMosaic.TcCoe Idealize.SL.Sem

open Cert.KernelLossIdeal.Value

variable (A : FVec Ideal S2x2048x2816 .f32) (W : FVec Ideal S2816x1024 .f32) (H : FVec Ideal S2x2048x1024 .f32) (M : FVec Ideal S2x9216 .f32)
    (Y : FVec Ideal S2x2048x1024 .f32)

/-- The reference's error, as an array. -/
abbrev eR : FVec Ideal S2x2048x1024 .f32 :=
  subf (addf H (mulf (broadcastInDim S2x2048x1024 ![0, 1, 2] bcast_S2x1x1024_S2x2048x1024_0_1_2 (mulf (broadcastInDim S2x1x1024 ![] bcast_S_S2x1x1024 (constant S_ .f32 0x3F000000#32)) (broadcastInDim S2x1x1024 ![0, 2] bcast_S2x1024_S2x1x1024_0_2 (extractStridedSlice S2x1024 ![0, 8192] M slices_S2x9216_S2x1024_0_8192)))) (Host.dotGeneral dot_S2x2048x2816_S2816x1024_S2x2048x1024_2_0_01_1_n_n none A W))) Y

theorem eR_at (b : Fin 2) (s : Fin 2048) (d : Fin 1024) : eR A W H M Y (ix3 b s d) = eAt A W H M Y b s d := by
  unfold eAt fAt
  pointwise
  blk_ext []

theorem loss_eq : (mulf (constant S_ .f32 0x3F000000#32) (Host.reduceAdd (Host.divf (Host.reduceAdd (mulf (eR A W H M Y) (eR A W H M Y)) (constant S_ .f32 0x00000000#32) reducesTo_S2x2048x1024_S2x2048_d2 h_S_) (broadcastInDim S2x2048 ![] bcast_S_S2x2048 (constant S_ .f32 0x44800000#32))) (constant S_ .f32 0x00000000#32) reducesTo_S2x2048_S_d0_1 h_S_) : FVec Ideal S_ .f32)
    = fun _ => ∑ t : Fin 8, lossPart A W H M Y t := by
  funext i
  rw [loss_total, ← Cert.Consts.half]
  generalize hE : eR A W H M Y = E
  pointwise
  subst hE
  simp only [eR_at, Cert.Consts.d1024, Ideal.div_coe (show (1024 : ℝ) ≠ 0 by norm_num)]

theorem dy_eq : (shapeCast S4096x1024 (mulf (broadcastInDim S2x2048x1024 ![0, 1] bcast_S2x2048_S2x2048x1024_0_1 (Host.divf (broadcastInDim S2x2048 ![] bcast_S_S2x2048 (mulf (constant S_ .f32 0x3F000000#32) (constant S_ .f32 0x3F800000#32))) (broadcastInDim S2x2048 ![] bcast_S_S2x2048 (constant S_ .f32 0x44800000#32)))) (mulf (broadcastInDim S2x2048x1024 ![] bcast_S_S2x2048x1024 (constant S_ .f32 0x40000000#32)) (eR A W H M Y))) shapeCasts_S2x2048x1024_S4096x1024 : FVec Ideal S4096x1024 .f32)
    = dyA A W H M Y := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  rw [dyA_at A W H M Y (ix2 i0 i1) b s i1 h rfl, rows_at _ (ix2 i0 i1) b s i1 h rfl]
  generalize hE : eR A W H M Y = E
  pointwise
  subst hE
  rw [eR_at, Cert.Consts.half, Cert.Consts.two, Cert.Consts.d1024, Ideal.div_coe (show (1024 : ℝ) ≠ 0 by norm_num), ← EReal.coe_mul, ← mul_assoc, ← EReal.coe_mul, mul_comm]
  norm_num

theorem f_eq : (truncf .bf16 (shapeCast S4096x1024 (Host.dotGeneral dot_S2x2048x2816_S2816x1024_S2x2048x1024_2_0_01_1_n_n none A W) shapeCasts_S2x2048x1024_S4096x1024) bitsLt_bf16_f32 : FVec Ideal S4096x1024 .bf16)
    = fA A W := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  rw [fA_at A W (ix2 i0 i1) b s i1 h rfl]
  rw [truncf_apply]
  refine (rows_at _ (ix2 i0 i1) b s i1 h rfl).trans ?_
  unfold fAt
  pointwise

end Cert.ReferenceLossIdeal.Value

end
-- ==== Proof.LossClaims.lean ====
/- The claims about the loss call. -/
module

public import proofs.«01_k».proof.Defs
public import proofs.«01_k».proof.Proof.LossReference
public import proofs.«01_k».proof.Proof.Gen.KernelLoss.Frame

@[expose] public section

set_option maxRecDepth 16384

noncomputable section

namespace Cert.Proof.Loss

open Idealize.ShloMosaic Idealize.ShloMosaic.TcCoe Idealize.SL.Sem

theorem frameR : Cert.quiescent_ReferenceLossIdeal := fun m g _ =>
  (θ_run Cert.ReferenceLossIdeal.defs _ _).mono (fun r h => ⟨fun c => (h c).2.2.2, sem_eq_zero_of_no_sems (by decide) r.2⟩) (Cert.ReferenceLossIdeal.Value.run m g)

open Cert.KernelLossIdeal Cert.KernelLossIdeal.Gen in
/-- The kernel's run: its three results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v11) = (fun _ => ∑ t : Fin 8, Value.lossPart (m ((c : Thread nD τ).loc main_arg0)) (m ((c : Thread nD τ).loc main_arg1)) (m ((c : Thread nD τ).loc main_arg2))
          (m ((c : Thread nD τ).loc main_arg3)) (m ((c : Thread nD τ).loc main_arg4)) t)
      ∧ r.2.mem ((c.tc : Thread nD τ).loc main_v8_0) = Value.dyA (m ((c : Thread nD τ).loc main_arg0)) (m ((c : Thread nD τ).loc main_arg1)) (m ((c : Thread nD τ).loc main_arg2))
          (m ((c : Thread nD τ).loc main_arg3)) (m ((c : Thread nD τ).loc main_arg4))
      ∧ r.2.mem ((c.tc : Thread nD τ).loc main_v8_1) = Value.fA (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h.2 c).2 main_v11 (Pipeline.mem_restRefs_of main_v11 (by decide) (by decide))).trans (Value.tail_loss m c),
    ((h.2 c).1 5).trans (Value.final5 m c), ((h.2 c).1 6).trans (Value.final6 m c), h.1 c⟩) (θ_run_and (unchanged m g) (run_main m g))

/-- At exact arithmetic the kernel's loss, gradient and product are the reference's. -/
theorem algebraic : Cert.algebraic_KernelLossIdeal_ReferenceLossIdeal := by
  pair_intro
  · run_from run m g
  · run_from Cert.ReferenceLossIdeal.Value.run m' g'
    · exact Cert.ReferenceLossIdeal.Value.loss_eq _ _ _ _ _
    · exact Cert.ReferenceLossIdeal.Value.dy_eq _ _ _ _ _
    · exact Cert.ReferenceLossIdeal.Value.f_eq _ _

end Cert.Proof.Loss

end
-- ==== Proof.Reals.lean ====
/- Extended reals that are reals: how each operation of a program acts on them, so that a value computed from finite
   arguments is read as an expression over ℝ. -/
module

public import Idealize.ShloMosaic.Lib.Pointwise
public import Idealize.ShloMosaic.Lib.IdealHost

@[expose] public section

noncomputable section

namespace Cert.Reals

open Idealize.ShloMosaic

theorem mul_coe (a b : ℝ) : (a : EReal) * (b : EReal) = ((a * b : ℝ) : EReal) := (EReal.coe_mul a b).symm
theorem add_coe (a b : ℝ) : (a : EReal) + (b : EReal) = ((a + b : ℝ) : EReal) := (EReal.coe_add a b).symm
theorem sub_coe (a b : ℝ) : (a : EReal) - (b : EReal) = ((a - b : ℝ) : EReal) := (EReal.coe_sub a b).symm
theorem neg_coe (a : ℝ) : -(a : EReal) = ((-a : ℝ) : EReal) := (EReal.coe_neg a).symm
theorem one_coe : (1 : EReal) = ((1 : ℝ) : EReal) := EReal.coe_one.symm
theorem zero_coe : (0 : EReal) = ((0 : ℝ) : EReal) := EReal.coe_zero.symm

theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, add_coe]

theorem div_coe (a b : ℝ) (h : b ≠ 0) : Ideal.div (a : EReal) (b : EReal) = ((a * (1 / b) : ℝ) : EReal) := by
  rw [Ideal.div_coe h, mul_coe]

theorem tanh_coe (a : ℝ) : Ideal.tanh (a : EReal) = ((Real.tanh a : ℝ) : EReal) := rfl

theorem rsqrt_coe (a : ℝ) (h : 0 < a) : Ideal.rsqrt (a : EReal) = (((Real.sqrt a)⁻¹ : ℝ) : EReal) := by
  change (if a < 0 then (⊥ : EReal) else if a = 0 then ⊤ else (((Real.sqrt a)⁻¹ : ℝ) : EReal)) = _
  rw [if_neg (not_lt.2 h.le), if_neg h.ne']

theorem ite_coe (p : Prop) [Decidable p] (a b : ℝ) : (if p then (a : EReal) else (b : EReal)) = ((if p then a else b : ℝ) : EReal) := by
  split <;> rfl

/-- A number that is neither infinity is a real. -/
theorem exists_coe (x : EReal) (h : x ≠ ⊤) (h' : x ≠ ⊥) : ((x.toReal : ℝ) : EReal) = x := EReal.coe_toReal h h'

/-- The array of a real function, at each rank. -/
def lift1 {a : ℕ} (f : Fin a → ℝ) : (⟨1, ![a]⟩ : Shape).Idx → EReal := fun i => ((f (i 0) : ℝ) : EReal)
def lift2 {a b : ℕ} (f : Fin a → Fin b → ℝ) : (⟨2, ![a, b]⟩ : Shape).Idx → EReal := fun i => ((f (i 0) (i 1) : ℝ) : EReal)
def lift3 {a b c : ℕ} (f : Fin a → Fin b → Fin c → ℝ) : (⟨3, ![a, b, c]⟩ : Shape).Idx → EReal := fun i => ((f (i 0) (i 1) (i 2) : ℝ) : EReal)

def lift4 {a b c d : ℕ} (f : Fin a → Fin b → Fin c → Fin d → ℝ) : (⟨4, ![a, b, c, d]⟩ : Shape).Idx → EReal := fun i => ((f (i 0) (i 1) (i 2) (i 3) : ℝ) : EReal)

def lift5 {a b c d e : ℕ} (f : Fin a → Fin b → Fin c → Fin d → Fin e → ℝ) : (⟨5, ![a, b, c, d, e]⟩ : Shape).Idx → EReal := fun i => ((f (i 0) (i 1) (i 2) (i 3) (i 4) : ℝ) : EReal)

theorem lift1_at {a : ℕ} (f : Fin a → ℝ) (i : Fin a) : lift1 f (ix1 i) = ((f i : ℝ) : EReal) := rfl
theorem lift2_at {a b : ℕ} (f : Fin a → Fin b → ℝ) (i : Fin a) (j : Fin b) : lift2 f (ix2 i j) = ((f i j : ℝ) : EReal) := rfl
theorem lift3_at {a b c : ℕ} (f : Fin a → Fin b → Fin c → ℝ) (i : Fin a) (j : Fin b) (k : Fin c) :
    lift3 f (ix3 i j k) = ((f i j k : ℝ) : EReal) := rfl
theorem lift4_at {a b c d : ℕ} (f : Fin a → Fin b → Fin c → Fin d → ℝ) (i : Fin a) (j : Fin b) (k : Fin c) (l : Fin d) :
    lift4 f (ix4 i j k l) = ((f i j k l : ℝ) : EReal) := rfl
theorem lift5_at {a b c d e : ℕ} (f : Fin a → Fin b → Fin c → Fin d → Fin e → ℝ) (i : Fin a) (j : Fin b) (k : Fin c) (l : Fin d) (n : Fin e) :
    lift5 f (ix5 i j k l n) = ((f i j k l n : ℝ) : EReal) := rfl

/-- An array of finite extended reals is an array of reals. -/
theorem exists_lift2 {a b : ℕ} (X : (⟨2, ![a, b]⟩ : Shape).Idx → EReal) (h : ∀ i, ∃ r : ℝ, X i = (r : EReal)) : ∃ f, X = lift2 f := by
  choose f hf using h
  refine ⟨fun i j => f (ix2 i j), funext fun i => ?_⟩
  rw [eq_ix2 i]
  exact hf _
theorem exists_lift3 {a b c : ℕ} (X : (⟨3, ![a, b, c]⟩ : Shape).Idx → EReal) (h : ∀ i, ∃ r : ℝ, X i = (r : EReal)) : ∃ f, X = lift3 f := by
  choose f hf using h
  refine ⟨fun i j k => f (ix3 i j k), funext fun i => ?_⟩
  rw [eq_ix3 i]
  exact hf _
theorem exists_lift4 {a b c d : ℕ} (X : (⟨4, ![a, b, c, d]⟩ : Shape).Idx → EReal) (h : ∀ i, ∃ r : ℝ, X i = (r : EReal)) : ∃ f, X = lift4 f := by
  choose f hf using h
  refine ⟨fun i j k l => f (ix4 i j k l), funext fun i => ?_⟩
  rw [eq_ix4 i]
  exact hf _

end Cert.Reals

end
-- ==== Proof.Finite.lean ====
/- A stated precondition, read: an array every entry of which has absolute value below infinity is an array of reals. -/
module

public import proofs.«01_k».proof.Proof.Reals
public import Idealize.ShloMosaic.Lib.ReduceAll
public import Idealize.ShloMosaic.Lib.Affine

@[expose] public section

noncomputable section

namespace Cert.Reals

open Idealize.ShloMosaic

/-- A number whose absolute value compares below infinity is a real. -/
theorem real_of_lt (x : Ideal .f32) (h : FloatOps.cmpf .olt (FloatOps.hostAbsf x) (FloatOps.ofBits (F := Ideal) .f32 0x7F800000#32) = 1#1) :
    ∃ r : ℝ, (x : EReal) = (r : EReal) := by
  have e : Ideal.ofBits .f32 0x7F800000#32 = (⊤ : EReal) := by simp [Ideal.ofBits, Ideal.ieee]
  have h' : Ideal.cmp .olt (max (x : EReal) (-(x : EReal))) (Ideal.ofBits .f32 0x7F800000#32) = 1#1 := h
  rw [e] at h'
  have hlt : max (x : EReal) (-(x : EReal)) < ⊤ := by
    by_contra hn
    simp [Ideal.cmp, hn] at h'
  have h1 : (x : EReal) ≠ ⊤ := ((le_max_left _ _).trans_lt hlt).ne
  have h2 : (x : EReal) ≠ ⊥ := fun hb => by
    have : -(x : EReal) < ⊤ := (le_max_right _ _).trans_lt hlt
    rw [hb] at this
    exact absurd this (by simp)
  exact ⟨_, (exists_coe x h1 h2).symm⟩

/-- The single entry of a rank-zero `and` is one only if both are. -/
theorem andi_at {s : Shape} (x y : IVec s 1) (i : s.Idx) (h : andi x y i = 1#1) : x i = 1#1 ∧ y i = 1#1 := by
  have h' : IntOp.andi (x i) (y i) = 1#1 := h
  revert h'
  generalize x i = a
  generalize y i = b
  revert a b
  decide

/-- An array whose every entry compares below infinity in absolute value, as one reduction states it, is real at every index. -/
theorem real_of_all {s t u : Shape} {axes : List (Fin s.rank)} [Subsingleton t.Idx] (X : FVec Ideal s .f32) (bc : (⟨0, ![]⟩ : Shape).BroadcastsInDim s (![] : Fin 0 → Fin s.rank))
    (init : u.Idx → BitVec 1) (h : s.ReducesTo axes t) (hu : 0 < u.numel) (j : t.Idx)
    (e : Host.reduce IntOp.andi (cmpf .olt (Host.absf X) (broadcastInDim s ![] bc (constant (F := Ideal) ⟨0, ![]⟩ .f32 0x7F800000#32))) init h hu j = 1#1) (i : s.Idx) :
    ∃ r : ℝ, (X i : EReal) = (r : EReal) :=
  real_of_lt (X i) (Host.reduce_andi_all _ init h hu j e i)

end Cert.Reals

end
-- ==== Proof.SguMath.lean ====
/- The spatial gating unit over ℝ: the gelu, the layer norm, the causal product over a chunk, and their gradients. -/
module

public import proofs.«01_k».proof.Proof.Reals

@[expose] public section

noncomputable section

namespace Cert.Sgu

/-- The gelu's two constants (`√(2/π)` as the float nearest to it, and 0.044715) and the layer norm's. -/
def K : ℝ := 6693141 / 2 ^ 23
def C : ℝ := 8943 / 200000
def eps : ℝ := 8796093 / 2 ^ 43

def th (x : ℝ) : ℝ := Real.tanh (K * (x + C * x * x * x))
def gl (x : ℝ) : ℝ := 1 / 2 * x * (1 + th x)
/-- The gelu's derivative. -/
def dgl (x : ℝ) : ℝ := 1 / 2 * (1 + th x) + 1 / 2 * x * (1 - th x * th x) * (K * (1 + 26829 / 200000 * x * x))

/-- The mean over the 512 features. -/
def mean (f : Fin 512 → ℝ) : ℝ := (∑ d, f d) * (1 / 512)
def xc (v : Fin 512 → ℝ) (d : Fin 512) : ℝ := gl (v d) - mean fun d => gl (v d)
def var (v : Fin 512 → ℝ) : ℝ := mean (fun d => xc v d * xc v d) + eps
def rs (v : Fin 512 → ℝ) : ℝ := (Real.sqrt (var v))⁻¹
def vh (v : Fin 512 → ℝ) (d : Fin 512) : ℝ := xc v d * rs v
/-- The layer norm of the gelu of a token. -/
def vn (g b : Fin 512 → ℝ) (v : Fin 512 → ℝ) (d : Fin 512) : ℝ := vh v d * g d + b d

/-- The layer norm's gradient, from the gradient `t` of its normalised values. -/
def dln (v t : Fin 512 → ℝ) (d : Fin 512) : ℝ := rs v * (t d - mean t - vh v d * mean fun d => t d * vh v d)

theorem mean_nonneg {f : Fin 512 → ℝ} (h : ∀ d, 0 ≤ f d) : 0 ≤ mean f :=
  mul_nonneg (Finset.sum_nonneg fun d _ => h d) (by norm_num)

theorem var_pos (v : Fin 512 → ℝ) : 0 < var v :=
  add_pos_of_nonneg_of_pos (mean_nonneg fun d => mul_self_nonneg _) (by norm_num [eps])

theorem rs_sq (v : Fin 512 → ℝ) : rs v * rs v = 1 / var v := by
  rw [rs, ← mul_inv, Real.mul_self_sqrt (var_pos v).le, one_div]

theorem sum_xc (v : Fin 512 → ℝ) : ∑ d, xc v d = 0 := by
  simp only [xc, Finset.sum_sub_distrib, Finset.sum_const, Finset.card_univ, Fintype.card_fin, nsmul_eq_mul, mean]
  push_cast
  ring

/-- The layer norm's gradient as the chain rule gives it: through the variance, its inverse root and the mean. -/
theorem dln_chain (v t : Fin 512 → ℝ) (d : Fin 512) :
    t d * rs v + (∑ e, xc v e * t e) * (-1 / 2 * (rs v * (1 / var v))) * (1 / 512) * (2 * xc v d)
      + (∑ e, -(t e * rs v) + ∑ e, -((∑ e, xc v e * t e) * (-1 / 2 * (rs v * (1 / var v))) * (1 / 512) * (2 * xc v e))) * (1 / 512)
      = dln v t d := by
  have h2 : ∑ e, -((∑ e, xc v e * t e) * (-1 / 2 * (rs v * (1 / var v))) * (1 / 512) * (2 * xc v e)) = 0 := by
    rw [Finset.sum_neg_distrib, ← Finset.mul_sum, ← Finset.mul_sum, sum_xc]
    ring
  have h1 : ∑ e, -(t e * rs v) = -((∑ e, t e) * rs v) := by rw [Finset.sum_neg_distrib, ← Finset.sum_mul]
  have h3 : ∑ e, t e * vh v e = (∑ e, xc v e * t e) * rs v := by
    rw [Finset.sum_mul]
    exact Finset.sum_congr rfl fun e _ => by rw [vh]; ring
  rw [h2, h1, dln, mean, mean, h3, vh, ← rs_sq]
  ring

/-- The gelu's derivative as the chain rule gives it. -/
theorem dgl_chain (x c : ℝ) :
    c * (1 / 2 * (1 + th x)) + K * (1 / 2 * (x * c) * ((1 + th x) * (1 - th x)))
      + C * (K * (1 / 2 * (x * c) * ((1 + th x) * (1 - th x)))) * (3 * (x * x)) = c * dgl x := by
  rw [dgl, C]
  ring

/-- A token's feature group. -/
def grp (c : Fin 512) : Fin 4 := ⟨c.val / 128, by omega⟩
/-- Feature `l` of group `h`. -/
def col (h : Fin 4) (l : Fin 128) : Fin 512 := ⟨128 * h.val + l.val, by omega⟩

theorem grp_col (h : Fin 4) (l : Fin 128) : grp (col h l) = h := Fin.ext (by simp only [grp, col]; omega)

section Chunk

variable (u v ds : Fin 128 → Fin 512 → ℝ) (g b : Fin 512 → ℝ) (w : Fin 4 → Fin 128 → Fin 128 → ℝ) (bs : Fin 4 → Fin 128 → ℝ)

/-- The causal weights. -/
def wm (h : Fin 4) (s t : Fin 128) : ℝ := if t.val ≤ s.val then w h s t else 0
/-- The gate of a chunk: each position from the positions up to it. -/
def z (s : Fin 128) (c : Fin 512) : ℝ := ∑ t, wm w (grp c) s t * vn g b (v t) c + bs (grp c) s
/-- The gate's gradient. -/
def dz (s : Fin 128) (c : Fin 512) : ℝ := ds s c * gl (u s c)
/-- The gradient of the layer norm's result. -/
def dvn (t : Fin 128) (c : Fin 512) : ℝ := ∑ s, wm w (grp c) s t * dz u ds s c
/-- The gradients of the two halves of the projection. -/
def du (s : Fin 128) (c : Fin 512) : ℝ := ds s c * z v g b w bs s c * dgl (u s c)
def dv (s : Fin 128) (c : Fin 512) : ℝ := dln (v s) (fun c => dvn u ds w s c * g c) c * dgl (v s c)
/-- One chunk's part of the gradients of the spatial weights, of the norm's gain and of its offset. -/
def dw (h : Fin 4) (s t : Fin 128) : ℝ := ∑ l, dz u ds s (col h l) * vn g b (v t) (col h l)
def dg (c : Fin 512) : ℝ := ∑ s, dvn u ds w s c * vh (v s) c
def db (c : Fin 512) : ℝ := ∑ s, dvn u ds w s c

end Chunk

/-- The rows of chunk `q`: 128 tokens, sixteen chunks to a sequence. -/
def rows (X : Fin 2 → Fin 2048 → Fin 512 → ℝ) (q : ℕ) (r : Fin 128) (d : Fin 512) : ℝ :=
  X ⟨q / 16 % 2, Nat.mod_lt _ (by norm_num)⟩ ⟨(128 * q + r.val) % 2048, Nat.mod_lt _ (by norm_num)⟩ d

/-- A token's row, through its chunk and its place there. -/
theorem rows_tok (X : Fin 2 → Fin 2048 → Fin 512 → ℝ) (b : Fin 2) (s : Fin 2048) : rows X (16 * b.val + s.val / 128) ⟨s.val % 128, by omega⟩ = X b s := by
  funext d
  exact congrArg₂ (fun b s => X b s d) (Fin.ext (by simp only []; omega)) (Fin.ext (by simp only []; omega))
theorem rows_chunk (X : Fin 2 → Fin 2048 → Fin 512 → ℝ) (b : Fin 2) (i : Fin 16) (r : Fin 128) : rows X (16 * b.val + i.val) r = X b ⟨128 * i.val + r.val, by omega⟩ := by
  funext d
  exact congrArg₂ (fun b s => X b s d) (Fin.ext (by simp only []; omega)) (Fin.ext (by simp only []; omega))
theorem rows_at (X : Fin 2 → Fin 2048 → Fin 512 → ℝ) (b : Fin 2) (i : Fin 16) (r : Fin 128) (h : Fin 4) (l : Fin 128) (s : Fin 2048) (d : Fin 512) (hs : s.val = i.val * 128 + r.val)
    (hd : d.val = h.val * 128 + l.val) : X b s d = rows X (16 * b.val + i.val) r (col h l) := by
  rw [rows_chunk]
  exact congrArg₂ (X b) (Fin.ext (by simp only []; omega)) (Fin.ext (by simp only [col]; omega))
theorem row_at (X : Fin 2 → Fin 2048 → Fin 512 → ℝ) (b : Fin 2) (i : Fin 16) (r : Fin 128) (s : Fin 2048) (hs : s.val = i.val * 128 + r.val) :
    X b s = rows X (16 * b.val + i.val) r := by
  rw [rows_chunk]
  exact congrArg (X b) (Fin.ext (by simp only []; omega))
theorem col_at (h : Fin 4) (l : Fin 128) (d : Fin 512) (hd : d.val = h.val * 128 + l.val) : d = col h l := Fin.ext (by simp only [col]; omega)
theorem col_grp (c : Fin 512) (h : c.val / 128 < 4) (h' : c.val % 128 < 128) : col ⟨c.val / 128, h⟩ ⟨c.val % 128, h'⟩ = c := Fin.ext (by simp only [col]; omega)
/-- A sum over the 32 chunks, sequence by sequence. -/
theorem sum_chunks (f : ℕ → ℝ) : ∑ q ∈ Finset.range 32, f q = ∑ b : Fin 2, ∑ i : Fin 16, f (16 * b.val + i.val) := by
  rw [Finset.sum_range]
  exact (Idealize.ShloMosaic.Fin.sum_univ_tiles 2 16 rfl fun q : Fin 32 => f q.val).trans
    (Finset.sum_congr rfl fun b _ => Finset.sum_congr rfl fun i _ => congrArg f (by simp only []; omega))

/-- A sum over the tokens, chunk by chunk. -/
theorem sum_tokens (f : ℕ → Fin 128 → ℝ) : ∑ b : Fin 2, ∑ s : Fin 2048, f (16 * b.val + s.val / 128) ⟨s.val % 128, by omega⟩ = ∑ q ∈ Finset.range 32, ∑ r, f q r := by
  rw [sum_chunks]
  refine Finset.sum_congr rfl fun b _ => ?_
  refine (Idealize.ShloMosaic.Fin.sum_univ_tiles 16 128 rfl fun s : Fin 2048 => f (16 * b.val + s.val / 128) ⟨s.val % 128, by omega⟩).trans ?_
  exact Finset.sum_congr rfl fun i _ => Finset.sum_congr rfl fun r _ => congrArg₂ f (by simp only []; omega) (Fin.ext (by simp only []; omega))

/-- Four chunks more. -/
theorem sum_step (f : ℕ → ℝ) (n : ℕ) : ∑ q ∈ Finset.range (4 * (n + 1)), f q + ∑ j : Fin 4, f (4 * (n + 1) + j.val) = ∑ q ∈ Finset.range (4 * (n + 1 + 1)), f q := by
  rw [show 4 * (n + 1 + 1) = 4 * (n + 1) + 1 + 1 + 1 + 1 by ring, Finset.sum_range_succ, Finset.sum_range_succ, Finset.sum_range_succ, Finset.sum_range_succ, Fin.sum_univ_four]
  simp only [Fin.val_zero, Fin.val_one, Fin.val_two, show ((3 : Fin 4) : ℕ) = 3 from rfl, add_zero, add_assoc]
theorem sum_start (f : ℕ → ℝ) : ∑ j : Fin 4, f (4 * 0 + j.val) = ∑ q ∈ Finset.range (4 * (0 + 1)), f q := by
  rw [Finset.sum_range]
  exact Finset.sum_congr rfl fun j _ => by rw [Nat.mul_zero, Nat.zero_add]

/-! ## The whole arrays -/

section Whole

variable (AU AV AD : Fin 2 → Fin 2048 → Fin 512 → ℝ) (G B : Fin 512 → ℝ) (W : Fin 4 → Fin 128 → Fin 128 → ℝ) (S : Fin 4 → Fin 128 → ℝ)

/-- The gradient of the projection: the two halves side by side, token by token. -/
def duvA (R : Fin 4096) (C : Fin 1024) : ℝ :=
  if h : C.val < 512 then du (rows AU (R.val / 128)) (rows AV (R.val / 128)) (rows AD (R.val / 128)) G B W S ⟨R.val % 128, by omega⟩ ⟨C.val, h⟩
  else dv (rows AU (R.val / 128)) (rows AV (R.val / 128)) (rows AD (R.val / 128)) G W ⟨R.val % 128, by omega⟩ ⟨C.val - 512, by omega⟩
/-- The gradients of the spatial weights and bias and of the norm's gain and offset: sums over the 32 chunks. -/
def dwA (h : Fin 4) (s t : Fin 128) : ℝ := if t.val ≤ s.val then ∑ q ∈ Finset.range 32, dw (rows AU q) (rows AV q) (rows AD q) G B h s t else 0
def dzA (s : Fin 128) (c : Fin 512) : ℝ := ∑ q ∈ Finset.range 32, dz (rows AU q) (rows AD q) s c
def dbsA (h : Fin 4) (s : Fin 128) : ℝ := ∑ l, dzA AU AD s (col h l)
def dgA (c : Fin 512) : ℝ := ∑ q ∈ Finset.range 32, dg (rows AU q) (rows AV q) (rows AD q) W c
def dbA (c : Fin 512) : ℝ := ∑ q ∈ Finset.range 32, db (rows AU q) (rows AD q) W c

end Whole

end Cert.Sgu

end
-- ==== Proof.SguChunk.lean ====
/- One chunk of the gating unit's backward kernel, from the loaded blocks to the stored ones, as expressions over ℝ. -/
module

public import proofs.«01_k».proof.Proof.Gen.KernelSguIdeal.Skeleton
public import Idealize.ShloMosaic.Lib.Pointwise
public import Idealize.ShloMosaic.Lib.WordCmp
public import proofs.«01_k».proof.Proof.Consts
public import proofs.«01_k».proof.Proof.SguMath

@[expose] public section

set_option maxRecDepth 16384

noncomputable section

namespace Cert.KernelSguIdeal.Value

open Cert.KernelSguIdeal Cert.KernelSguIdeal.Gen Idealize.ShloMosaic Idealize.ShloMosaic.TcCoe Idealize.SL.Sem
open Cert.Reals Cert.Consts

theorem gelu_c (b : BitVec 32) : Named.named (F := Ideal) (φ := .f32) κ "gelu_c" b = ((8943 / 200000 : ℝ) : EReal) :=
  IdealRules.named_const.ideal_named_scalar (φ := .f32) κ "gelu_c" b _ rfl
theorem three_gelu_c (b : BitVec 32) : Named.named (F := Ideal) (φ := .f32) κ "three_gelu_c" b = ((26829 / 200000 : ℝ) : EReal) :=
  IdealRules.named_const.ideal_named_scalar (φ := .f32) κ "three_gelu_c" b _ rfl

variable (U V D : Fin 128 → Fin 512 → ℝ) (G B : Fin 512 → ℝ)

theorem pay29 : k0_pay29 (F := Ideal) (lift2 U) = lift2 U := by
  funext i
  idx_vars i
  pointwise [k0_pay29]

theorem pay30 : k0_pay30 (F := Ideal) (lift2 U) = lift2 U := by
  funext i
  idx_vars i
  pointwise [k0_pay30]

theorem pay31 : k0_pay31 (F := Ideal) (lift2 U) = lift2 fun r d => Sgu.th (U r d) := by
  funext i
  idx_vars i
  pointwise [k0_pay31, pay29, lift2_at, gelu_c, geluK]
  simp only [mul_coe, add_coe, tanh_coe]
  rfl

theorem pay32 : k0_pay32 (F := Ideal) (lift2 U) = lift2 fun r d => Sgu.gl (U r d) := by
  funext i
  idx_vars i
  pointwise [k0_pay32, pay29, pay31, lift2_at, half]
  simp only [mul_coe, add_coe, one_coe]
  rfl

theorem pay33 : k0_pay33 (F := Ideal) (lift2 V) = lift2 fun r d => Sgu.th (V r d) := by
  funext i
  idx_vars i
  pointwise [k0_pay33, pay30, lift2_at, gelu_c, geluK]
  simp only [mul_coe, add_coe, tanh_coe]
  rfl

theorem pay34 : k0_pay34 (F := Ideal) (lift2 V) = lift2 fun r d => Sgu.xc (V r) d := by
  funext i
  idx_vars i
  pointwise [k0_pay34, pay33, pay30, lift2_at, d512, half]
  simp only [mul_coe, add_coe, sub_coe, one_coe, sum_coe, div_coe _ (512 : ℝ) (by norm_num)]
  rfl

theorem pay35 : k0_pay35 (F := Ideal) (lift2 V) = lift2 fun r (_ : Fin 1) => ∑ d, Sgu.xc (V r) d * Sgu.xc (V r) d := by
  funext i
  idx_vars i
  pointwise [k0_pay35, pay34, lift2_at]
  simp only [mul_coe, sum_coe]

theorem pay36 : k0_pay36 (F := Ideal) = lift2 fun (_ : Fin 128) (_ : Fin 1) => 512 := by
  funext i
  idx_vars i
  pointwise [k0_pay36, lift2_at, d512]

/-- The inverse root of the variance, from the sum of squares. -/
theorem pay37 : k0_pay37 (F := Ideal) (lift2 fun r (_ : Fin 1) => ∑ d, Sgu.xc (V r) d * Sgu.xc (V r) d) (lift2 fun (_ : Fin 128) (_ : Fin 1) => 512)
    = lift2 fun r (_ : Fin 1) => Sgu.rs (V r) := by
  funext i
  idx_vars i
  pointwise [k0_pay37, lift2_at, Consts.eps]
  simp only [add_coe, div_coe _ (512 : ℝ) (by norm_num)]
  exact rsqrt_coe _ (Sgu.var_pos (V i0))

/-- The normalised values, and the norm's result, of a chunk. -/
abbrev cVh (v : FVec Ideal S128x512 .bf16) : FVec Ideal S128x512 .f32 := k0_pay38 (k0_pay34 v) (k0_pay35 v) k0_pay36
abbrev cVn (v : FVec Ideal S128x512 .bf16) (g b : FVec Ideal S1x512 .f32) : FVec Ideal S128x512 .bf16 :=
  k0_pay39 (k0_pay34 v) (k0_pay35 v) k0_pay36 g b

theorem cVh_eq : cVh (lift2 V) = lift2 fun r d => Sgu.vh (V r) d := by
  funext i
  idx_vars i
  pointwise [cVh, k0_pay38, pay34, pay35, pay36, pay37, lift2_at]
  simp only [mul_coe]
  rfl

theorem cVn_eq : cVn (lift2 V) (lift2 fun _ => G) (lift2 fun _ => B) = lift2 fun r d => Sgu.vn G B (V r) d := by
  have h := cVh_eq V
  funext i
  idx_vars i
  pointwise [cVn, k0_pay39, h, lift2_at]
  simp only [mul_coe, add_coe]
  rfl

/-- The gate's gradient of a chunk. -/
abbrev cDz (u d : FVec Ideal S128x512 .bf16) : FVec Ideal S128x512 .bf16 := k0_pay42 (k0_pay32 u) d

theorem pay40 : k0_pay40 (F := Ideal) (lift2 U) = lift2 U := by
  funext i
  idx_vars i
  pointwise [k0_pay40]

theorem pay41 : k0_pay41 (F := Ideal) (lift2 fun r d => Sgu.gl (U r d)) (lift2 D) = lift2 (Sgu.dz U D) := by
  funext i
  idx_vars i
  pointwise [k0_pay41, pay40, lift2_at]
  simp only [mul_coe]
  rfl

theorem cDz_eq : cDz (lift2 U) (lift2 D) = lift2 (Sgu.dz U D) := by
  funext i
  idx_vars i
  pointwise [cDz, k0_pay42, pay32, pay41]

/-- The causal weights of a group, and their transpose. -/
theorem mask_at (s t : Fin 128) (x y : EReal) : Scalar.select (k0_pay9 (ix2 s t)) x y = if t.val ≤ s.val then x else y := by
  pointwise [k0_pay9]
  word_cmp

theorem pay10 (W : Fin 128 → Fin 128 → ℝ) : k0_pay10 (F := Ideal) (lift3 fun (_ : Fin 1) s t => W s t) = lift2 fun s t => if t.val ≤ s.val then W s t else 0 := by
  funext i
  idx_vars i
  pointwise [k0_pay10, mask_at, lift2_at, lift3_at]
  split <;> simp

section Weights

variable (W : Fin 4 → Fin 128 → Fin 128 → ℝ) (h : Fin 4)

theorem pay14 : k0_pay14 (F := Ideal) (lift3 fun (_ : Fin 1) s t => W h s t) = lift2 (Sgu.wm W h) := by
  funext i
  idx_vars i
  pointwise [k0_pay14, pay10]
  rfl
theorem pay15 : k0_pay15 (F := Ideal) (lift3 fun (_ : Fin 1) s t => W h s t) = lift2 (Sgu.wm W h) := pay14 W h
theorem pay16 : k0_pay16 (F := Ideal) (lift3 fun (_ : Fin 1) s t => W h s t) = lift2 (Sgu.wm W h) := pay14 W h
theorem pay17 : k0_pay17 (F := Ideal) (lift3 fun (_ : Fin 1) s t => W h s t) = lift2 (Sgu.wm W h) := pay14 W h

theorem pay18 : k0_pay18 (F := Ideal) (lift3 fun (_ : Fin 1) s t => W h s t) = lift2 fun t s => Sgu.wm W h s t := by
  funext i
  idx_vars i
  pointwise [k0_pay18, pay10]
  rfl
theorem pay19 : k0_pay19 (F := Ideal) (lift3 fun (_ : Fin 1) s t => W h s t) = lift2 fun t s => Sgu.wm W h s t := pay18 W h
theorem pay20 : k0_pay20 (F := Ideal) (lift3 fun (_ : Fin 1) s t => W h s t) = lift2 fun t s => Sgu.wm W h s t := pay18 W h
theorem pay21 : k0_pay21 (F := Ideal) (lift3 fun (_ : Fin 1) s t => W h s t) = lift2 fun t s => Sgu.wm W h s t := pay18 W h

end Weights

/-! ## The products over the positions of a chunk -/

theorem col_mk0 (l : Fin 128) (h : l.val < 512) : (⟨l.val, h⟩ : Fin 512) = Sgu.col 0 l := Fin.ext (by simp [Sgu.col])
theorem col_mk1 (l : Fin 128) (h : 128 + l.val < 512) : (⟨128 + l.val, h⟩ : Fin 512) = Sgu.col 1 l := Fin.ext (by simp [Sgu.col])
theorem col_mk2 (l : Fin 128) (h : 256 + l.val < 512) : (⟨256 + l.val, h⟩ : Fin 512) = Sgu.col 2 l := Fin.ext (by simp [Sgu.col])
theorem col_mk3 (l : Fin 128) (h : 384 + l.val < 512) : (⟨384 + l.val, h⟩ : Fin 512) = Sgu.col 3 l := Fin.ext (by simp [Sgu.col])

/-- Four groups of features side by side: at a feature, the group it lies in. -/
theorem ladder (f : Fin 512 → EReal) (P : Fin 4 → Fin 128 → EReal) (hP : ∀ h l, P h l = f (Sgu.col h l)) (c : Fin 512) :
    (if h0 : c.val < 128 then P 0 ⟨c.val, h0⟩ else if h1 : c.val - 128 < 128 then P 1 ⟨c.val - 128, h1⟩
      else if h2 : c.val - 128 - 128 < 128 then P 2 ⟨c.val - 128 - 128, h2⟩ else P 3 ⟨c.val - 128 - 128 - 128, by omega⟩) = f c := by
  split_ifs <;> rw [hP] <;> exact congrArg f (Fin.ext (by simp [Sgu.col]; try omega))

theorem concat4 {φ : FTy} (P0 P1 P2 P3 : FVec Ideal S128x128 φ) (s : Fin 128) (c : Fin 512) :
    concatenate S128x512 1 [⟨S128x128, P0⟩, ⟨S128x128, P1⟩, ⟨S128x128, P2⟩, ⟨S128x128, P3⟩] concatenates_S128x128_S128x128_S128x128_S128x128_S128x512_d1 (ix2 s c)
    = (if h0 : c.val < 128 then P0 (ix2 s ⟨c.val, h0⟩) else if h1 : c.val - 128 < 128 then P1 (ix2 s ⟨c.val - 128, h1⟩)
      else if h2 : c.val - 128 - 128 < 128 then P2 (ix2 s ⟨c.val - 128 - 128, h2⟩) else P3 (ix2 s ⟨c.val - 128 - 128 - 128, by omega⟩)) := by
  pointwise

section Products

variable (U V D : Fin 128 → Fin 512 → ℝ) (G B : Fin 512 → ℝ) (X X' : Fin 128 → Fin 128 → ℝ) (s0 : Fin 128 → ℝ)

theorem pay45 : k0_pay45 (F := Ideal) (lift2 X) (lift2 fun r d => Sgu.gl (U r d)) (lift2 D) = lift2 fun t l => ∑ s, X t s * Sgu.dz U D s (Sgu.col 0 l) := by
  have h := cDz_eq U D
  rw [cDz, pay32] at h
  funext i
  idx_vars i
  pointwise [k0_pay45, h, lift2_at]
  simp only [mul_coe, sum_coe, col_mk0]

theorem pay48 : k0_pay48 (F := Ideal) (lift2 X) (lift2 fun r d => Sgu.gl (U r d)) (lift2 D) = lift2 fun t l => ∑ s, X t s * Sgu.dz U D s (Sgu.col 1 l) := by
  have h := cDz_eq U D
  rw [cDz, pay32] at h
  funext i
  idx_vars i
  pointwise [k0_pay48, h, lift2_at]
  simp only [mul_coe, sum_coe, col_mk1]

/-- The gradient of the norm's result of a chunk. -/
abbrev cDvn (w0 w1 w2 w3 : FVec Ideal S1x128x128 .f32) (u d : FVec Ideal S128x512 .bf16) : FVec Ideal S128x512 .f32 :=
  k0_pay52 (k0_pay20 w2) (k0_pay21 w3) (cDz u d) (k0_pay45 (k0_pay18 w0) (k0_pay32 u) d) (k0_pay48 (k0_pay19 w1) (k0_pay32 u) d)

theorem cDvn_eq (W : Fin 4 → Fin 128 → Fin 128 → ℝ) :
    cDvn (lift3 fun (_ : Fin 1) s t => W 0 s t) (lift3 fun (_ : Fin 1) s t => W 1 s t) (lift3 fun (_ : Fin 1) s t => W 2 s t)
      (lift3 fun (_ : Fin 1) s t => W 3 s t) (lift2 U) (lift2 D) = lift2 (Sgu.dvn U D W) := by
  rw [cDvn, pay18, pay19, pay20, pay21, cDz_eq, pay32, pay45, pay48]
  funext i
  idx_vars i
  pointwise [k0_pay52, lift2_at]
  simp only [mul_coe, sum_coe]
  exact ladder (fun c => ((∑ s, Sgu.wm W (Sgu.grp c) s i0 * Sgu.dz U D s c : ℝ) : EReal))
    (fun h l => ((∑ s, Sgu.wm W h s i0 * Sgu.dz U D s (Sgu.col h l) : ℝ) : EReal)) (fun h l => by rw [Sgu.grp_col]) i1

theorem pay43 : k0_pay43 (F := Ideal) (lift2 X) (k0_pay34 (lift2 V)) (k0_pay35 (lift2 V)) k0_pay36 (lift2 fun _ => G) (lift2 fun _ => B) (lift2 fun s (_ : Fin 1) => s0 s)
    = lift2 fun s l => ∑ t, X s t * Sgu.vn G B (V t) (Sgu.col 0 l) + s0 s := by
  have h := cVn_eq V G B
  rw [cVn] at h
  funext i
  idx_vars i
  pointwise [k0_pay43, h, lift2_at]
  simp only [mul_coe, sum_coe, add_coe, col_mk0]

theorem pay46 : k0_pay46 (F := Ideal) (lift2 X) (k0_pay34 (lift2 V)) (k0_pay35 (lift2 V)) k0_pay36 (lift2 fun _ => G) (lift2 fun _ => B) (lift2 fun s (_ : Fin 1) => s0 s)
    = lift2 fun s l => ∑ t, X s t * Sgu.vn G B (V t) (Sgu.col 1 l) + s0 s := by
  have h := cVn_eq V G B
  rw [cVn] at h
  funext i
  idx_vars i
  pointwise [k0_pay46, h, lift2_at]
  simp only [mul_coe, sum_coe, add_coe, col_mk1]

theorem pay49 : k0_pay49 (F := Ideal) (k0_pay34 (lift2 V)) (k0_pay35 (lift2 V)) k0_pay36 (lift2 fun _ => G) (lift2 fun _ => B)
    = lift2 fun t l => Sgu.vn G B (V t) (Sgu.col 2 l) := by
  have h := cVn_eq V G B
  rw [cVn] at h
  funext i
  idx_vars i
  pointwise [k0_pay49, h, lift2_at]
  simp only [col_mk2]

/-- The product of the result's gradient with the gate. -/
abbrev cDsz (w0 w1 w2 w3 : FVec Ideal S1x128x128 .f32) (s0 s1 s2 s3 : FVec Ideal S128x1 .f32) (v d : FVec Ideal S128x512 .bf16) (g b : FVec Ideal S1x512 .f32) : FVec Ideal S128x512 .f32 :=
  k0_pay53 (k0_pay16 w2) (k0_pay17 w3) (cVn v g b) (k0_pay40 d) (k0_pay43 (k0_pay14 w0) (k0_pay34 v) (k0_pay35 v) k0_pay36 g b s0)
    (k0_pay46 (k0_pay15 w1) (k0_pay34 v) (k0_pay35 v) k0_pay36 g b s1) (k0_pay49 (k0_pay34 v) (k0_pay35 v) k0_pay36 g b) s2 s3

theorem cDsz_eq (W : Fin 4 → Fin 128 → Fin 128 → ℝ) (S : Fin 4 → Fin 128 → ℝ) :
    cDsz (lift3 fun (_ : Fin 1) s t => W 0 s t) (lift3 fun (_ : Fin 1) s t => W 1 s t) (lift3 fun (_ : Fin 1) s t => W 2 s t)
      (lift3 fun (_ : Fin 1) s t => W 3 s t) (lift2 fun s (_ : Fin 1) => S 0 s) (lift2 fun s (_ : Fin 1) => S 1 s) (lift2 fun s (_ : Fin 1) => S 2 s)
      (lift2 fun s (_ : Fin 1) => S 3 s) (lift2 V) (lift2 D) (lift2 fun _ => G) (lift2 fun _ => B) = lift2 fun s c => D s c * Sgu.z V G B W S s c := by
  rw [cDsz, pay14, pay15, pay16, pay17, pay43, pay46, pay49, cVn_eq, pay40]
  funext i
  idx_vars i
  refine (congrArg (fun x => lift2 D (ix2 i0 i1) * x) (concat4 _ _ _ _ i0 i1)).trans ?_
  rw [lift2_at, lift2_at, ← mul_coe]
  refine congrArg (fun x => ((D i0 i1 : ℝ) : EReal) * x) ?_
  pointwise [lift2_at]
  simp only [mul_coe, sum_coe, add_coe]
  exact ladder (fun c => ((Sgu.z V G B W S i0 c : ℝ) : EReal))
    (fun h l => ((∑ t, Sgu.wm W h i0 t * Sgu.vn G B (V t) (Sgu.col h l) + S h i0 : ℝ) : EReal)) (fun h l => by rw [Sgu.z, Sgu.grp_col]) i1

/-- The gradient of the left half of the projection. -/
abbrev cDu (w0 w1 w2 w3 : FVec Ideal S1x128x128 .f32) (s0 s1 s2 s3 : FVec Ideal S128x1 .f32) (u v d : FVec Ideal S128x512 .bf16) (g b : FVec Ideal S1x512 .f32) : FVec Ideal S128x512 .bf16 :=
  k0_pay57 (cDsz w0 w1 w2 w3 s0 s1 s2 s3 v d g b) (k0_pay54 (k0_pay31 u)) (k0_pay55 (k0_pay29 u) (k0_pay31 u)) (k0_pay56 (k0_pay29 u))

theorem cDu_eq (W : Fin 4 → Fin 128 → Fin 128 → ℝ) (S : Fin 4 → Fin 128 → ℝ) :
    cDu (lift3 fun (_ : Fin 1) s t => W 0 s t) (lift3 fun (_ : Fin 1) s t => W 1 s t) (lift3 fun (_ : Fin 1) s t => W 2 s t)
      (lift3 fun (_ : Fin 1) s t => W 3 s t) (lift2 fun s (_ : Fin 1) => S 0 s) (lift2 fun s (_ : Fin 1) => S 1 s) (lift2 fun s (_ : Fin 1) => S 2 s)
      (lift2 fun s (_ : Fin 1) => S 3 s) (lift2 U) (lift2 V) (lift2 D) (lift2 fun _ => G) (lift2 fun _ => B) = lift2 (Sgu.du U V D G B W S) := by
  rw [cDu, cDsz_eq, pay31, pay29]
  funext i
  idx_vars i
  pointwise [k0_pay57, k0_pay54, k0_pay55, k0_pay56, lift2_at, half, geluK, three_gelu_c]
  simp only [mul_coe, add_coe, sub_coe, one_coe]
  rfl

/-- The gradient of the right half of the projection. -/
abbrev cDv (w0 w1 w2 w3 : FVec Ideal S1x128x128 .f32) (u v d : FVec Ideal S128x512 .bf16) (g : FVec Ideal S1x512 .f32) : FVec Ideal S128x512 .bf16 :=
  k0_pay59 (k0_pay58 (k0_pay30 v) (k0_pay33 v) (k0_pay37 (k0_pay35 v) k0_pay36) (cVh v) (cDvn w0 w1 w2 w3 u d) g)

theorem cDv_eq (W : Fin 4 → Fin 128 → Fin 128 → ℝ) :
    cDv (lift3 fun (_ : Fin 1) s t => W 0 s t) (lift3 fun (_ : Fin 1) s t => W 1 s t) (lift3 fun (_ : Fin 1) s t => W 2 s t)
      (lift3 fun (_ : Fin 1) s t => W 3 s t) (lift2 U) (lift2 V) (lift2 D) (lift2 fun _ => G) = lift2 (Sgu.dv U V D G W) := by
  rw [cDv, cDvn_eq, cVh_eq, pay30, pay33, pay35, pay36, pay37]
  funext i
  idx_vars i
  pointwise [k0_pay59, k0_pay58, lift2_at, half, geluK, three_gelu_c, d512]
  simp only [mul_coe, add_coe, sub_coe, one_coe, sum_coe, div_coe _ (512 : ℝ) (by norm_num)]
  rfl

/-! ## The accumulated gradients -/

abbrev cDw0 (a : FVec Ideal S128x128 .f32) (u v d : FVec Ideal S128x512 .bf16) (g b : FVec Ideal S1x512 .f32) : FVec Ideal S128x128 .f32 :=
  k0_pay44 a (k0_pay32 u) (k0_pay34 v) (k0_pay35 v) k0_pay36 g b d
abbrev cDw1 (a : FVec Ideal S128x128 .f32) (u v d : FVec Ideal S128x512 .bf16) (g b : FVec Ideal S1x512 .f32) : FVec Ideal S128x128 .f32 :=
  k0_pay47 a (k0_pay32 u) (k0_pay34 v) (k0_pay35 v) k0_pay36 g b d
abbrev cDw2 (a : FVec Ideal S128x128 .f32) (u v d : FVec Ideal S128x512 .bf16) (g b : FVec Ideal S1x512 .f32) : FVec Ideal S128x128 .f32 :=
  k0_pay50 a (cVn v g b) (cDz u d)
abbrev cDw3 (a : FVec Ideal S128x128 .f32) (u v d : FVec Ideal S128x512 .bf16) (g b : FVec Ideal S1x512 .f32) : FVec Ideal S128x128 .f32 :=
  k0_pay51 a (cVn v g b) (cDz u d)

theorem cDw0_eq : cDw0 (lift2 X) (lift2 U) (lift2 V) (lift2 D) (lift2 fun _ => G) (lift2 fun _ => B) = lift2 fun s t => X s t + Sgu.dw U V D G B 0 s t := by
  have h := cVn_eq V G B
  have h' := cDz_eq U D
  rw [cVn] at h
  rw [cDz] at h'
  funext i
  idx_vars i
  pointwise [cDw0, k0_pay44, h, h', lift2_at]
  simp only [mul_coe, sum_coe, add_coe, col_mk0]
  rfl
theorem cDw1_eq : cDw1 (lift2 X) (lift2 U) (lift2 V) (lift2 D) (lift2 fun _ => G) (lift2 fun _ => B) = lift2 fun s t => X s t + Sgu.dw U V D G B 1 s t := by
  have h := cVn_eq V G B
  have h' := cDz_eq U D
  rw [cVn] at h
  rw [cDz] at h'
  funext i
  idx_vars i
  pointwise [cDw1, k0_pay47, h, h', lift2_at]
  simp only [mul_coe, sum_coe, add_coe, col_mk1]
  rfl
theorem cDw2_eq : cDw2 (lift2 X) (lift2 U) (lift2 V) (lift2 D) (lift2 fun _ => G) (lift2 fun _ => B) = lift2 fun s t => X s t + Sgu.dw U V D G B 2 s t := by
  rw [cDw2, cVn_eq, cDz_eq]
  funext i
  idx_vars i
  pointwise [k0_pay50, lift2_at]
  simp only [mul_coe, sum_coe, add_coe, col_mk2]
  rfl
theorem cDw3_eq : cDw3 (lift2 X) (lift2 U) (lift2 V) (lift2 D) (lift2 fun _ => G) (lift2 fun _ => B) = lift2 fun s t => X s t + Sgu.dw U V D G B 3 s t := by
  rw [cDw3, cVn_eq, cDz_eq]
  funext i
  idx_vars i
  pointwise [k0_pay51, lift2_at]
  simp only [mul_coe, sum_coe, add_coe, col_mk3]
  rfl

theorem pay60 (A : Fin 128 → Fin 512 → ℝ) : k0_pay60 (F := Ideal) (lift2 A) (k0_pay41 (k0_pay32 (lift2 U)) (lift2 D)) = lift2 fun s c => A s c + Sgu.dz U D s c := by
  rw [pay32, pay41]
  funext i
  idx_vars i
  pointwise [k0_pay60, lift2_at]
  simp only [add_coe]

theorem pay61 (A : Fin 512 → ℝ) (E H : Fin 128 → Fin 512 → ℝ) : k0_pay61 (F := Ideal) (lift2 fun (_ : Fin 1) => A) (lift2 H) (lift2 E) = lift2 fun (_ : Fin 1) c => A c + ∑ s, E s c * H s c := by
  funext i
  idx_vars i
  pointwise [k0_pay61, lift2_at]
  simp only [mul_coe, sum_coe, add_coe]

theorem pay62 (A : Fin 512 → ℝ) (E : Fin 128 → Fin 512 → ℝ) : k0_pay62 (F := Ideal) (lift2 fun (_ : Fin 1) => A) (lift2 E) = lift2 fun (_ : Fin 1) c => A c + ∑ s, E s c := by
  funext i
  idx_vars i
  pointwise [k0_pay62, lift2_at]
  simp only [sum_coe, add_coe]

end Products

end Cert.KernelSguIdeal.Value

end
-- ==== Proof.SguPoint.lean ====
/- One grid point of the gating unit's backward kernel: its blocks, and what its four chunks leave. -/
module

public import proofs.«01_k».proof.Proof.SguChunk
public import proofs.«01_k».proof.Proof.Gen.KernelSguIdeal.Frame
public import Idealize.ShloMosaic.Lib.Pipeline.ValueKit

@[expose] public section

set_option maxRecDepth 16384

noncomputable section

namespace Cert.KernelSguIdeal.Value

open Cert.KernelSguIdeal Cert.KernelSguIdeal.Gen Idealize.ShloMosaic Idealize.ShloMosaic.TcCoe Idealize.SL.Sem
open Cert.Reals Cert.Consts

/-! ## The loads of a chunk -/

theorem inbW (h : Fin 4) : ∀ a, ![h.val, 0, 0] a + S1x128x128.size a ≤ (S4x128x128).size a := by
  revert h; decide
theorem inbS (h : Fin 4) : ∀ a, ![0, h.val] a + S128x1.size a ≤ (S128x4).size a := by
  revert h; decide
theorem inbU (j : Fin 4) : ∀ a, ![128 * j.val, 0] a + S128x512.size a ≤ (S512x1024).size a := by
  revert j; decide
theorem inbV (j : Fin 4) : ∀ a, ![128 * j.val, 512] a + S128x512.size a ≤ (S512x1024).size a := by
  revert j; decide
theorem inbD (j : Fin 4) : ∀ a, ![128 * j.val, 0] a + S128x512.size a ≤ (S512x512).size a := by
  revert j; decide

abbrev ldW (x : FVec Ideal S4x128x128 .f32) (h : Fin 4) : FVec Ideal S1x128x128 .f32 :=
  @View.ld (Elt Ideal) S4x128x128 .f32 x (Rect.unit (s := S4x128x128) ![h.val, 0, 0] S1x128x128.size (inbW h))
abbrev ldS (x : FVec Ideal S128x4 .f32) (h : Fin 4) : FVec Ideal S128x1 .f32 :=
  @View.ld (Elt Ideal) S128x4 .f32 x (Rect.unit (s := S128x4) ![0, h.val] S128x1.size (inbS h))
abbrev ldU (x : FVec Ideal S512x1024 .bf16) (j : Fin 4) : FVec Ideal S128x512 .bf16 :=
  @View.ld (Elt Ideal) S512x1024 .bf16 x (Rect.unit (s := S512x1024) ![128 * j.val, 0] S128x512.size (inbU j))
abbrev ldV (x : FVec Ideal S512x1024 .bf16) (j : Fin 4) : FVec Ideal S128x512 .bf16 :=
  @View.ld (Elt Ideal) S512x1024 .bf16 x (Rect.unit (s := S512x1024) ![128 * j.val, 512] S128x512.size (inbV j))
abbrev ldD (x : FVec Ideal S512x512 .bf16) (j : Fin 4) : FVec Ideal S128x512 .bf16 :=
  @View.ld (Elt Ideal) S512x512 .bf16 x (Rect.unit (s := S512x512) ![128 * j.val, 0] S128x512.size (inbD j))

theorem ldW_of (X : FVec Ideal S4x128x128 .f32) (h : Fin 4) (f : Fin 128 → Fin 128 → ℝ) (hX : ∀ s t, X (ix3 h s t) = ((f s t : ℝ) : EReal)) : ldW X h = lift3 fun _ => f := by
  funext i
  idx_vars i
  pointwise [ldW, lift3_at]
  refine Eq.trans (congrArg X ?_) (hX i1 i2)
  blk_ext []
theorem ldS_of (X : FVec Ideal S128x4 .f32) (h : Fin 4) (f : Fin 128 → ℝ) (hX : ∀ s, X (ix2 s h) = ((f s : ℝ) : EReal)) : ldS X h = lift2 fun s _ => f s := by
  funext i
  idx_vars i
  pointwise [ldS, lift2_at]
  refine Eq.trans (congrArg X ?_) (hX i0)
  blk_ext []
theorem ldU_of (X : FVec Ideal S512x1024 .bf16) (j : Fin 4) (f : Fin 128 → Fin 512 → ℝ)
    (hX : ∀ r d (R : Fin 512) (C : Fin 1024), R.val = 128 * j.val + r.val → C.val = d.val → X (ix2 R C) = ((f r d : ℝ) : EReal)) : ldU X j = lift2 f := by
  funext i
  idx_vars i
  pointwise [ldU, lift2_at]
  exact hX i0 i1 _ _ rfl (by simp)
theorem ldV_of (X : FVec Ideal S512x1024 .bf16) (j : Fin 4) (f : Fin 128 → Fin 512 → ℝ)
    (hX : ∀ r d (R : Fin 512) (C : Fin 1024), R.val = 128 * j.val + r.val → C.val = 512 + d.val → X (ix2 R C) = ((f r d : ℝ) : EReal)) : ldV X j = lift2 f := by
  funext i
  idx_vars i
  pointwise [ldV, lift2_at]
  exact hX i0 i1 _ _ rfl (by simp)
theorem ldD_of (X : FVec Ideal S512x512 .bf16) (j : Fin 4) (f : Fin 128 → Fin 512 → ℝ)
    (hX : ∀ r d (R : Fin 512), R.val = 128 * j.val + r.val → X (ix2 R d) = ((f r d : ℝ) : EReal)) : ldD X j = lift2 f := by
  funext i
  idx_vars i
  pointwise [ldD, lift2_at]
  exact hX i0 i1 _ rfl

/-- A point's blocks as arrays of reals: two halves of the projection and the result's gradient in four chunks each. -/
structure Blocks (x0 : FVec Ideal S512x1024 .bf16) (x1 : FVec Ideal S512x512 .bf16) (x2 x3 : FVec Ideal S1x512 .f32) (x4 : FVec Ideal S4x128x128 .f32)
    (x5 : FVec Ideal S128x4 .f32) (U V D : Fin 4 → Fin 128 → Fin 512 → ℝ) (G B : Fin 512 → ℝ) (W : Fin 4 → Fin 128 → Fin 128 → ℝ) (S : Fin 4 → Fin 128 → ℝ) : Prop where
  u : ∀ j, ldU x0 j = lift2 (U j)
  v : ∀ j, ldV x0 j = lift2 (V j)
  d : ∀ j, ldD x1 j = lift2 (D j)
  g : x2 = lift2 fun _ => G
  b : x3 = lift2 fun _ => B
  w : ∀ h, ldW x4 h = lift3 fun (_ : Fin 1) s t => W h s t
  s : ∀ h, ldS x5 h = lift2 fun s (_ : Fin 1) => S h s

variable {x0 : FVec Ideal S512x1024 .bf16} {x1 : FVec Ideal S512x512 .bf16} {x2 x3 : FVec Ideal S1x512 .f32} {x4 : FVec Ideal S4x128x128 .f32}
  {x5 : FVec Ideal S128x4 .f32} {U V D : Fin 4 → Fin 128 → Fin 512 → ℝ} {G B : Fin 512 → ℝ} {W : Fin 4 → Fin 128 → Fin 128 → ℝ} {S : Fin 4 → Fin 128 → ℝ}

theorem Blocks.du (k : Blocks x0 x1 x2 x3 x4 x5 U V D G B W S) (j : Fin 4) :
    cDu (ldW x4 0) (ldW x4 1) (ldW x4 2) (ldW x4 3) (ldS x5 0) (ldS x5 1) (ldS x5 2) (ldS x5 3) (ldU x0 j) (ldV x0 j) (ldD x1 j) x2 x3
      = lift2 (Sgu.du (U j) (V j) (D j) G B W S) := by
  rw [k.u, k.v, k.d, k.g, k.b, k.w, k.w, k.w, k.w, k.s, k.s, k.s, k.s, cDu_eq]
theorem Blocks.dvn (k : Blocks x0 x1 x2 x3 x4 x5 U V D G B W S) (j : Fin 4) :
    cDvn (ldW x4 0) (ldW x4 1) (ldW x4 2) (ldW x4 3) (ldU x0 j) (ldD x1 j) = lift2 (Sgu.dvn (U j) (D j) W) := by
  rw [k.u, k.d, k.w, k.w, k.w, k.w, cDvn_eq]
theorem Blocks.vh (k : Blocks x0 x1 x2 x3 x4 x5 U V D G B W S) (j : Fin 4) : cVh (ldV x0 j) = lift2 fun r d => Sgu.vh (V j r) d := by
  rw [k.v, cVh_eq]
theorem Blocks.dv (k : Blocks x0 x1 x2 x3 x4 x5 U V D G B W S) (j : Fin 4) :
    cDv (ldW x4 0) (ldW x4 1) (ldW x4 2) (ldW x4 3) (ldU x0 j) (ldV x0 j) (ldD x1 j) x2 = lift2 (Sgu.dv (U j) (V j) (D j) G W) := by
  rw [k.u, k.v, k.d, k.g, k.w, k.w, k.w, k.w, cDv_eq]

theorem pay22 : k0_pay22 (F := Ideal) = lift2 fun (_ _ : Fin 128) => 0 := by
  funext i; idx_vars i
  pointwise [k0_pay22, lift2_at]
  rfl
theorem pay26 : k0_pay26 (F := Ideal) = lift2 fun (_ : Fin 128) (_ : Fin 512) => 0 := by
  funext i; idx_vars i
  pointwise [k0_pay26, lift2_at]
  rfl
theorem pay27 : k0_pay27 (F := Ideal) = lift2 fun (_ : Fin 1) (_ : Fin 512) => 0 := by
  funext i; idx_vars i
  pointwise [k0_pay27, lift2_at]
  rfl

/-- The gradient of a group's weights, of the offsets, of the norm's gain and of its offset, summed over a point's chunks. -/
abbrev tW (f : FVec Ideal S128x128 .f32 → FVec Ideal S128x512 .bf16 → FVec Ideal S128x512 .bf16 → FVec Ideal S128x512 .bf16 → FVec Ideal S1x512 .f32 → FVec Ideal S1x512 .f32 → FVec Ideal S128x128 .f32)
    (x0 : FVec Ideal S512x1024 .bf16) (x1 : FVec Ideal S512x512 .bf16) (x2 x3 : FVec Ideal S1x512 .f32) : FVec Ideal S128x128 .f32 :=
  f (f (f (f k0_pay22 (ldU x0 0) (ldV x0 0) (ldD x1 0) x2 x3) (ldU x0 1) (ldV x0 1) (ldD x1 1) x2 x3) (ldU x0 2) (ldV x0 2) (ldD x1 2) x2 x3)
    (ldU x0 3) (ldV x0 3) (ldD x1 3) x2 x3

theorem Blocks.tw0 (k : Blocks x0 x1 x2 x3 x4 x5 U V D G B W S) : tW cDw0 x0 x1 x2 x3 = lift2 fun s t => ∑ j, Sgu.dw (U j) (V j) (D j) G B 0 s t := by
  rw [tW, pay22]
  simp only [k.u, k.v, k.d, k.g, k.b, cDw0_eq, Fin.sum_univ_four, zero_add]
theorem Blocks.tw1 (k : Blocks x0 x1 x2 x3 x4 x5 U V D G B W S) : tW cDw1 x0 x1 x2 x3 = lift2 fun s t => ∑ j, Sgu.dw (U j) (V j) (D j) G B 1 s t := by
  rw [tW, pay22]
  simp only [k.u, k.v, k.d, k.g, k.b, cDw1_eq, Fin.sum_univ_four, zero_add]
theorem Blocks.tw2 (k : Blocks x0 x1 x2 x3 x4 x5 U V D G B W S) : tW cDw2 x0 x1 x2 x3 = lift2 fun s t => ∑ j, Sgu.dw (U j) (V j) (D j) G B 2 s t := by
  rw [tW, pay22]
  simp only [k.u, k.v, k.d, k.g, k.b, cDw2_eq, Fin.sum_univ_four, zero_add]
theorem Blocks.tw3 (k : Blocks x0 x1 x2 x3 x4 x5 U V D G B W S) : tW cDw3 x0 x1 x2 x3 = lift2 fun s t => ∑ j, Sgu.dw (U j) (V j) (D j) G B 3 s t := by
  rw [tW, pay22]
  simp only [k.u, k.v, k.d, k.g, k.b, cDw3_eq, Fin.sum_univ_four, zero_add]

abbrev cZ (a : FVec Ideal S128x512 .f32) (u d : FVec Ideal S128x512 .bf16) : FVec Ideal S128x512 .f32 := k0_pay60 a (k0_pay41 (k0_pay32 u) d)
abbrev tZ (x0 : FVec Ideal S512x1024 .bf16) (x1 : FVec Ideal S512x512 .bf16) : FVec Ideal S128x512 .f32 :=
  cZ (cZ (cZ (cZ k0_pay26 (ldU x0 0) (ldD x1 0)) (ldU x0 1) (ldD x1 1)) (ldU x0 2) (ldD x1 2)) (ldU x0 3) (ldD x1 3)
theorem Blocks.tz (k : Blocks x0 x1 x2 x3 x4 x5 U V D G B W S) : tZ x0 x1 = lift2 fun s c => ∑ j, Sgu.dz (U j) (D j) s c := by
  rw [tZ, pay26]
  simp only [cZ, k.u, k.d, pay60, Fin.sum_univ_four, zero_add]

abbrev cN (x0 : FVec Ideal S512x1024 .bf16) (x1 : FVec Ideal S512x512 .bf16) (x4 : FVec Ideal S4x128x128 .f32) (j : Fin 4) : FVec Ideal S128x512 .f32 :=
  cDvn (ldW x4 0) (ldW x4 1) (ldW x4 2) (ldW x4 3) (ldU x0 j) (ldD x1 j)
abbrev tG (x0 : FVec Ideal S512x1024 .bf16) (x1 : FVec Ideal S512x512 .bf16) (x4 : FVec Ideal S4x128x128 .f32) : FVec Ideal S1x512 .f32 :=
  k0_pay61 (k0_pay61 (k0_pay61 (k0_pay61 k0_pay27 (cVh (ldV x0 0)) (cN x0 x1 x4 0)) (cVh (ldV x0 1)) (cN x0 x1 x4 1)) (cVh (ldV x0 2)) (cN x0 x1 x4 2))
    (cVh (ldV x0 3)) (cN x0 x1 x4 3)
abbrev tB (x0 : FVec Ideal S512x1024 .bf16) (x1 : FVec Ideal S512x512 .bf16) (x4 : FVec Ideal S4x128x128 .f32) : FVec Ideal S1x512 .f32 :=
  k0_pay62 (k0_pay62 (k0_pay62 (k0_pay62 k0_pay27 (cN x0 x1 x4 0)) (cN x0 x1 x4 1)) (cN x0 x1 x4 2)) (cN x0 x1 x4 3)
theorem Blocks.tg (k : Blocks x0 x1 x2 x3 x4 x5 U V D G B W S) : tG x0 x1 x4 = lift2 fun (_ : Fin 1) c => ∑ j, Sgu.dg (U j) (V j) (D j) W c := by
  rw [tG, pay27]
  simp only [cN, k.dvn, k.vh, Fin.sum_univ_four]
  rw [pay61, pay61, pay61, pay61]
  simp only [zero_add]
  rfl
theorem Blocks.tb (k : Blocks x0 x1 x2 x3 x4 x5 U V D G B W S) : tB x0 x1 x4 = lift2 fun (_ : Fin 1) c => ∑ j, Sgu.db (U j) (D j) W c := by
  rw [tB, pay27]
  simp only [cN, k.dvn, Fin.sum_univ_four]
  rw [pay62, pay62, pay62, pay62]
  simp only [zero_add]
  rfl

/-! ## The masked weights' gradient -/

theorem pay158_of (Z : FVec Ideal S128x128 .f32) (X : Fin 128 → Fin 128 → ℝ) (hZ : Z = lift2 X) (z : Fin 1) (s t : Fin 128) :
    k0_pay158 (F := Ideal) k0_pay9 Z (ix3 z s t) = ((if t.val ≤ s.val then X s t else 0 : ℝ) : EReal) := by
  subst hZ
  pointwise [k0_pay158, mask_at, lift2_at]
  split <;> simp
theorem pay5_of (Z : FVec Ideal S128x128 .f32) (X : Fin 128 → Fin 128 → ℝ) (hZ : Z = lift2 X) (a : FVec Ideal S1x128x128 .f32) (z : Fin 1) (s t : Fin 128) (p : ℝ)
    (hp : a (ix3 z s t) = (p : EReal)) : k0_pay5 (F := Ideal) k0_pay9 Z a (ix3 z s t) = ((p + (if t.val ≤ s.val then X s t else 0) : ℝ) : EReal) := by
  subst hZ
  have e : z = 0 := Subsingleton.elim _ _
  subst e
  pointwise [k0_pay5, mask_at, lift2_at, hp]
  split <;> simp
theorem pay2_of (Z : FVec Ideal S128x512 .f32) (X : Fin 128 → Fin 512 → ℝ) (hZ : Z = lift2 X) (a : FVec Ideal S128x512 .f32) (y : S128x512.Idx) (p : ℝ) (hp : a y = (p : EReal)) :
    k0_pay2 (F := Ideal) Z a y = ((p + X (y 0) (y 1) : ℝ) : EReal) := by
  subst hZ
  idx_vars y
  pointwise [k0_pay2, lift2_at, hp]
  simp only [add_coe]
theorem pay3_of (Z : FVec Ideal S1x512 .f32) (X : Fin 512 → ℝ) (hZ : Z = lift2 fun _ => X) (a : FVec Ideal S1x512 .f32) (z : Fin 1) (d : Fin 512) (p : ℝ) (hp : a (ix2 z d) = (p : EReal)) :
    k0_pay3 (F := Ideal) Z a (ix2 z d) = ((p + X d : ℝ) : EReal) := by
  subst hZ
  pointwise [k0_pay3, lift2_at]
  refine Eq.trans (congrArg (fun x => x + ((X d : ℝ) : EReal)) (Eq.trans (congrArg a ?_) hp)) (add_coe _ _)
  blk_ext []

/-- The first point's piece of the weights' gradient, over its four chunks. -/
theorem dw_first (F : ℕ → Fin 128 → Fin 128 → ℝ) (Z : FVec Ideal S128x128 .f32) (hZ : Z = lift2 fun s t => ∑ j : Fin 4, F (4 * 0 + j.val) s t) (x : S1x128x128.Idx) (s t : Fin 128)
    (e1 : s.val = (x 1).val) (e2 : t.val = (x 2).val) :
    k0_pay158 (F := Ideal) k0_pay9 Z x = ((if t.val ≤ s.val then ∑ q ∈ Finset.range (4 * (0 + 1)), F q s t else 0 : ℝ) : EReal) := by
  idx_vars x
  obtain rfl : s = x1 := Fin.ext e1
  obtain rfl : t = x2 := Fin.ext e2
  rw [pay158_of Z _ hZ, Sgu.sum_start fun q => F q s t]

/-- A later point's piece of the weights' gradient: its four chunks over what was there. -/
theorem dw_next (F : ℕ → Fin 128 → Fin 128 → ℝ) (n : ℕ) (Z : FVec Ideal S128x128 .f32) (hZ : Z = lift2 fun s t => ∑ j : Fin 4, F (4 * (n + 1) + j.val) s t) (P : FVec Ideal S4x128x128 .f32) (k : Fin 4)
    (x : S1x128x128.Idx) (s t : Fin 128) (e1 : s.val = (x 1).val) (e2 : t.val = (x 2).val)
    (hP : P (ix3 k s t) = ((if t.val ≤ s.val then ∑ q ∈ Finset.range (4 * (n + 1)), F q s t else 0 : ℝ) : EReal)) :
    k0_pay5 (F := Ideal) k0_pay9 Z (ldW P k) x = ((if t.val ≤ s.val then ∑ q ∈ Finset.range (4 * (n + 1 + 1)), F q s t else 0 : ℝ) : EReal) := by
  idx_vars x
  obtain rfl : s = x1 := Fin.ext e1
  obtain rfl : t = x2 := Fin.ext e2
  have hl : ldW P k (ix3 x0 s t) = ((if t.val ≤ s.val then ∑ q ∈ Finset.range (4 * (n + 1)), F q s t else 0 : ℝ) : EReal) := by
    pointwise [ldW]
    refine Eq.trans (congrArg P ?_) hP
    blk_ext []
  rw [pay5_of Z _ hZ (ldW P k) _ s t _ hl, ← Sgu.sum_step fun q => F q s t]
  split <;> simp

/-- An entry of an array whose real value is known. -/
theorem entry_of {a b : ℕ} {φ : FTy} (Z : FVec Ideal ⟨2, ![a, b]⟩ φ) (X : Fin a → Fin b → ℝ) (hZ : Z = lift2 X) (y : Shape.Idx ⟨2, ![a, b]⟩) (r : ℝ) (hr : r = X (y 0) (y 1)) :
    Z y = (r : EReal) := by
  rw [hZ, hr]
  rfl

/-- A first point's sum over its four chunks. -/
theorem sum_first {a b : ℕ} (F : ℕ → Fin a → Fin b → ℝ) (Z : FVec Ideal ⟨2, ![a, b]⟩ .f32) (hZ : Z = lift2 fun r d => ∑ j : Fin 4, F (4 * 0 + j.val) r d) (y : Shape.Idx ⟨2, ![a, b]⟩) :
    Z y = ((∑ q ∈ Finset.range (4 * (0 + 1)), F q (y 0) (y 1) : ℝ) : EReal) := by
  rw [hZ]
  exact congrArg (fun x : ℝ => (x : EReal)) (Sgu.sum_start fun q => F q (y 0) (y 1))

/-- A later point's sum over its four chunks, with the chunks before. -/
theorem sum_next (f : ℕ → ℝ) (n : ℕ) (x : EReal) (h : x = ((∑ q ∈ Finset.range (4 * (n + 1)), f q + ∑ j : Fin 4, f (4 * (n + 1) + j.val) : ℝ) : EReal)) :
    x = ((∑ q ∈ Finset.range (4 * (n + 1 + 1)), f q : ℝ) : EReal) := by
  rw [h, Sgu.sum_step]

/-- The gradient of a point's block of the projection: 512 tokens, both halves. -/
def o6 (U V D : Fin 4 → Fin 128 → Fin 512 → ℝ) (G B : Fin 512 → ℝ) (W : Fin 4 → Fin 128 → Fin 128 → ℝ) (S : Fin 4 → Fin 128 → ℝ) (R : Fin 512) (C : Fin 1024) : ℝ :=
  if h : C.val < 512 then Sgu.du (U ⟨R.val / 128, by omega⟩) (V ⟨R.val / 128, by omega⟩) (D ⟨R.val / 128, by omega⟩) G B W S ⟨R.val % 128, by omega⟩ ⟨C.val, h⟩
  else Sgu.dv (U ⟨R.val / 128, by omega⟩) (V ⟨R.val / 128, by omega⟩) (D ⟨R.val / 128, by omega⟩) G W ⟨R.val % 128, by omega⟩ ⟨C.val - 512, by omega⟩

theorem o6_l (U V D : Fin 4 → Fin 128 → Fin 512 → ℝ) (G B : Fin 512 → ℝ) (W : Fin 4 → Fin 128 → Fin 128 → ℝ) (S : Fin 4 → Fin 128 → ℝ) (R : Fin 512) (C : Fin 1024)
    (j : Fin 4) (r : Fin 128) (d : Fin 512) (hR : R.val = 128 * j.val + r.val) (hC : C.val = d.val) : o6 U V D G B W S R C = Sgu.du (U j) (V j) (D j) G B W S r d := by
  have e0 : (⟨R.val / 128, by omega⟩ : Fin 4) = j := Fin.ext (by simp only []; omega)
  have e1 : (⟨R.val % 128, by omega⟩ : Fin 128) = r := Fin.ext (by simp only []; omega)
  have e2 : (⟨C.val, by omega⟩ : Fin 512) = d := Fin.ext (by simp only []; omega)
  rw [o6, dif_pos (by omega : C.val < 512), e0, e1, e2]

theorem o6_r (U V D : Fin 4 → Fin 128 → Fin 512 → ℝ) (G B : Fin 512 → ℝ) (W : Fin 4 → Fin 128 → Fin 128 → ℝ) (S : Fin 4 → Fin 128 → ℝ) (R : Fin 512) (C : Fin 1024)
    (j : Fin 4) (r : Fin 128) (d : Fin 512) (hR : R.val = 128 * j.val + r.val) (hC : C.val = 512 + d.val) : o6 U V D G B W S R C = Sgu.dv (U j) (V j) (D j) G W r d := by
  have e0 : (⟨R.val / 128, by omega⟩ : Fin 4) = j := Fin.ext (by simp only []; omega)
  have e1 : (⟨R.val % 128, by omega⟩ : Fin 128) = r := Fin.ext (by simp only []; omega)
  have e2 : (⟨C.val - 512, by omega⟩ : Fin 512) = d := Fin.ext (by simp only []; omega)
  rw [o6, dif_neg (by omega : ¬C.val < 512), e0, e1, e2]

end Cert.KernelSguIdeal.Value

end
-- ==== Proof.SguCuts.lean ====
/- The kernel cuts its four chunks into stages at different places: each chunk is the same expression of its blocks. -/
module

public import proofs.«01_k».proof.Proof.SguPoint
public import Idealize.ShloMosaic.Lib.Tactic

@[expose] public section

set_option maxRecDepth 16384

noncomputable section

namespace Cert.KernelSguIdeal.Value

open Cert.KernelSguIdeal Cert.KernelSguIdeal.Gen Idealize.ShloMosaic Idealize.ShloMosaic.TcCoe Idealize.SL.Sem

variable (w0 w1 w2 w3 : FVec Ideal S1x128x128 .f32) (s0 s1 s2 s3 : FVec Ideal S128x1 .f32) (u0 v0 d0 u1 v1 d1 u2 v2 d2 u3 v3 d3 : FVec Ideal S128x512 .bf16) (g b : FVec Ideal S1x512 .f32)

/-- The gradient of the right half, fourth chunk. -/
theorem cut_dv3 : k0_pay154 (k0_pay127 v3) (k0_pay131 (k0_pay127 v3)) (k0_pay133 (k0_pay127 v3)) (k0_pay134 (k0_pay127 v3)) (k0_pay152 (k0_pay21 w3) (k0_pay138 (k0_pay130 (k0_pay126 u3) (k0_pay128 u3)) d3) (k0_pay141 (k0_pay18 w0) (k0_pay130 (k0_pay126 u3) (k0_pay128 u3)) d3) (k0_pay144 (k0_pay19 w1) (k0_pay130 (k0_pay126 u3) (k0_pay128 u3)) d3) (k0_pay147 (k0_pay20 w2) (k0_pay130 (k0_pay126 u3) (k0_pay128 u3)) d3) g) (k0_pay153 (k0_pay21 w3) (k0_pay138 (k0_pay130 (k0_pay126 u3) (k0_pay128 u3)) d3) (k0_pay141 (k0_pay18 w0) (k0_pay130 (k0_pay126 u3) (k0_pay128 u3)) d3) (k0_pay144 (k0_pay19 w1) (k0_pay130 (k0_pay126 u3) (k0_pay128 u3)) d3) (k0_pay147 (k0_pay20 w2) (k0_pay130 (k0_pay126 u3) (k0_pay128 u3)) d3) g)
    = cDv w0 w1 w2 w3 u3 v3 d3 g := by sl_kernel_rfl

/-- The gradient of the left half, fourth chunk. -/
theorem cut_du3 : k0_pay151 (k0_pay126 u3) (k0_pay129 (k0_pay128 u3)) (k0_pay136 d3) (k0_pay139 (k0_pay14 w0) (k0_pay135 (k0_pay127 v3) g b) s0) (k0_pay142 (k0_pay15 w1) (k0_pay135 (k0_pay127 v3) g b) s1) (k0_pay145 (k0_pay16 w2) (k0_pay135 (k0_pay127 v3) g b) s2) (k0_pay148 (k0_pay17 w3) (k0_pay135 (k0_pay127 v3) g b)) s3
    = cDu w0 w1 w2 w3 s0 s1 s2 s3 u3 v3 d3 g b := by sl_kernel_rfl

/-- Right half, third chunk. -/
theorem cut_dv2 : k0_pay122 (k0_pay97 v2) (k0_pay101 (k0_pay97 v2) (k0_pay100 v2)) (k0_pay121 (k0_pay103 (k0_pay97 v2) (k0_pay100 v2)) (k0_pay104 (k0_pay97 v2) (k0_pay100 v2)) (k0_pay111 (k0_pay18 w0) (k0_pay108 (k0_pay99 u2) d2)) (k0_pay113 (k0_pay19 w1) (k0_pay108 (k0_pay99 u2) d2)) (k0_pay115 (k0_pay20 w2) (k0_pay108 (k0_pay99 u2) d2)) (k0_pay117 (k0_pay21 w3) (k0_pay108 (k0_pay99 u2) d2)) g) (FloatOps.ofBits (F := Ideal) FTy.f32 1065353216#32)
    = cDv w0 w1 w2 w3 u2 v2 d2 g := by sl_kernel_rfl

/-- Left half, third chunk. -/
theorem cut_du2 : k0_pay120 (k0_pay96 u2) (k0_pay98 u2) (k0_pay106 d2) (k0_pay118 (k0_pay15 w1) (k0_pay16 w2) (k0_pay17 w3) (k0_pay105 (k0_pay97 v2) (k0_pay100 v2) g b) (k0_pay109 (k0_pay14 w0) (k0_pay97 v2) (k0_pay100 v2) g b s0) s1 s2 s3)
    = cDu w0 w1 w2 w3 s0 s1 s2 s3 u2 v2 d2 g b := by sl_kernel_rfl

/-- Right half, second chunk. -/
theorem cut_dv1 : k0_pay92 (k0_pay64 v1) (k0_pay89 (k0_pay70 (k0_pay68 v1)) (k0_pay71 (k0_pay68 v1)) (k0_pay83 (k0_pay19 w1) (k0_pay20 w2) (k0_pay21 w3) (k0_pay75 (k0_pay66 u1) d1) (k0_pay78 (k0_pay18 w0) (k0_pay66 u1) d1)) g) (k0_pay90 (k0_pay67 v1)) (k0_pay91 (k0_pay64 v1) (k0_pay67 v1))
    = cDv w0 w1 w2 w3 u1 v1 d1 g := by sl_kernel_rfl

/-- Left half, second chunk. -/
theorem cut_du1 : k0_pay88 (k0_pay63 u1) (k0_pay84 (k0_pay16 w2) (k0_pay17 w3) (k0_pay72 (k0_pay68 v1) g b) (k0_pay73 d1) (k0_pay76 (k0_pay14 w0) (k0_pay68 v1) g b s0) (k0_pay79 (k0_pay15 w1) (k0_pay68 v1) g b) s1 s2 s3) (k0_pay85 (k0_pay65 u1)) (k0_pay86 (k0_pay63 u1)) (k0_pay87 (k0_pay65 u1)) (FloatOps.ofBits (F := Ideal) FTy.f32 1065353216#32)
    = cDu w0 w1 w2 w3 s0 s1 s2 s3 u1 v1 d1 g b := by sl_kernel_rfl

/-- The weights of the fourth group. -/
theorem cut_dw3 : k0_pay149 (k0_pay116 (k0_pay82 (k0_pay51 k0_pay25 (k0_pay39 (k0_pay34 v0) (k0_pay35 v0) k0_pay36 g b) (k0_pay42 (k0_pay32 u0) d0)) (k0_pay72 (k0_pay68 v1) g b) (k0_pay75 (k0_pay66 u1) d1)) (k0_pay105 (k0_pay97 v2) (k0_pay100 v2) g b) (k0_pay108 (k0_pay99 u2) d2)) (k0_pay135 (k0_pay127 v3) g b) (k0_pay138 (k0_pay130 (k0_pay126 u3) (k0_pay128 u3)) d3)
    = cDw3 (cDw3 (cDw3 (cDw3 k0_pay22 u0 v0 d0 g b) u1 v1 d1 g b) u2 v2 d2 g b) u3 v3 d3 g b := by sl_kernel_rfl

/-- The weights of the third group. -/
theorem cut_dw2 : k0_pay146 (k0_pay114 (k0_pay81 (k0_pay50 k0_pay24 (k0_pay39 (k0_pay34 v0) (k0_pay35 v0) k0_pay36 g b) (k0_pay42 (k0_pay32 u0) d0)) (k0_pay72 (k0_pay68 v1) g b) (k0_pay75 (k0_pay66 u1) d1)) (k0_pay105 (k0_pay97 v2) (k0_pay100 v2) g b) (k0_pay108 (k0_pay99 u2) d2)) (k0_pay130 (k0_pay126 u3) (k0_pay128 u3)) (k0_pay135 (k0_pay127 v3) g b) d3
    = cDw2 (cDw2 (cDw2 (cDw2 k0_pay22 u0 v0 d0 g b) u1 v1 d1 g b) u2 v2 d2 g b) u3 v3 d3 g b := by sl_kernel_rfl

/-- The weights of the second group. -/
theorem cut_dw1 : k0_pay143 (k0_pay112 (k0_pay80 (k0_pay47 k0_pay23 (k0_pay32 u0) (k0_pay34 v0) (k0_pay35 v0) k0_pay36 g b d0) (k0_pay72 (k0_pay68 v1) g b) (k0_pay75 (k0_pay66 u1) d1)) (k0_pay105 (k0_pay97 v2) (k0_pay100 v2) g b) (k0_pay108 (k0_pay99 u2) d2)) (k0_pay130 (k0_pay126 u3) (k0_pay128 u3)) (k0_pay135 (k0_pay127 v3) g b) d3
    = cDw1 (cDw1 (cDw1 (cDw1 k0_pay22 u0 v0 d0 g b) u1 v1 d1 g b) u2 v2 d2 g b) u3 v3 d3 g b := by sl_kernel_rfl

/-- The weights of the first group. -/
theorem cut_dw0 : k0_pay140 (k0_pay110 (k0_pay77 (k0_pay44 k0_pay22 (k0_pay32 u0) (k0_pay34 v0) (k0_pay35 v0) k0_pay36 g b d0) (k0_pay66 u1) (k0_pay68 v1) g b d1) (k0_pay105 (k0_pay97 v2) (k0_pay100 v2) g b) (k0_pay108 (k0_pay99 u2) d2)) (k0_pay130 (k0_pay126 u3) (k0_pay128 u3)) (k0_pay135 (k0_pay127 v3) g b) d3
    = cDw0 (cDw0 (cDw0 (cDw0 k0_pay22 u0 v0 d0 g b) u1 v1 d1 g b) u2 v2 d2 g b) u3 v3 d3 g b := by sl_kernel_rfl

/-- The gate. -/
theorem cut_dz : k0_pay155 (k0_pay123 (k0_pay93 (k0_pay60 k0_pay26 (k0_pay41 (k0_pay32 u0) d0)) (k0_pay74 (k0_pay66 u1) d1)) (k0_pay107 (k0_pay99 u2) d2)) (k0_pay137 (k0_pay130 (k0_pay126 u3) (k0_pay128 u3)) d3)
    = cZ (cZ (cZ (cZ k0_pay26 u0 d0) u1 d1) u2 d2) u3 d3 := by sl_kernel_rfl

/-- The norm's gain. -/
theorem cut_dg : k0_pay156 (k0_pay124 (k0_pay94 (k0_pay61 k0_pay27 (k0_pay38 (k0_pay34 v0) (k0_pay35 v0) k0_pay36) (k0_pay52 (k0_pay20 w2) (k0_pay21 w3) (k0_pay42 (k0_pay32 u0) d0) (k0_pay45 (k0_pay18 w0) (k0_pay32 u0) d0) (k0_pay48 (k0_pay19 w1) (k0_pay32 u0) d0))) (k0_pay71 (k0_pay68 v1)) (k0_pay83 (k0_pay19 w1) (k0_pay20 w2) (k0_pay21 w3) (k0_pay75 (k0_pay66 u1) d1) (k0_pay78 (k0_pay18 w0) (k0_pay66 u1) d1))) (k0_pay104 (k0_pay97 v2) (k0_pay100 v2)) (k0_pay119 (k0_pay111 (k0_pay18 w0) (k0_pay108 (k0_pay99 u2) d2)) (k0_pay113 (k0_pay19 w1) (k0_pay108 (k0_pay99 u2) d2)) (k0_pay115 (k0_pay20 w2) (k0_pay108 (k0_pay99 u2) d2)) (k0_pay117 (k0_pay21 w3) (k0_pay108 (k0_pay99 u2) d2)))) (k0_pay134 (k0_pay127 v3)) (k0_pay150 (k0_pay21 w3) (k0_pay138 (k0_pay130 (k0_pay126 u3) (k0_pay128 u3)) d3) (k0_pay141 (k0_pay18 w0) (k0_pay130 (k0_pay126 u3) (k0_pay128 u3)) d3) (k0_pay144 (k0_pay19 w1) (k0_pay130 (k0_pay126 u3) (k0_pay128 u3)) d3) (k0_pay147 (k0_pay20 w2) (k0_pay130 (k0_pay126 u3) (k0_pay128 u3)) d3))
    = k0_pay61 (k0_pay61 (k0_pay61 (k0_pay61 k0_pay27 (cVh v0) (cDvn w0 w1 w2 w3 u0 d0)) (cVh v1) (cDvn w0 w1 w2 w3 u1 d1)) (cVh v2) (cDvn w0 w1 w2 w3 u2 d2)) (cVh v3) (cDvn w0 w1 w2 w3 u3 d3) := by sl_kernel_rfl

/-- The norm's offset. -/
theorem cut_db : k0_pay157 (k0_pay125 (k0_pay95 (k0_pay62 k0_pay28 (k0_pay52 (k0_pay20 w2) (k0_pay21 w3) (k0_pay42 (k0_pay32 u0) d0) (k0_pay45 (k0_pay18 w0) (k0_pay32 u0) d0) (k0_pay48 (k0_pay19 w1) (k0_pay32 u0) d0))) (k0_pay83 (k0_pay19 w1) (k0_pay20 w2) (k0_pay21 w3) (k0_pay75 (k0_pay66 u1) d1) (k0_pay78 (k0_pay18 w0) (k0_pay66 u1) d1))) (k0_pay119 (k0_pay111 (k0_pay18 w0) (k0_pay108 (k0_pay99 u2) d2)) (k0_pay113 (k0_pay19 w1) (k0_pay108 (k0_pay99 u2) d2)) (k0_pay115 (k0_pay20 w2) (k0_pay108 (k0_pay99 u2) d2)) (k0_pay117 (k0_pay21 w3) (k0_pay108 (k0_pay99 u2) d2)))) (k0_pay150 (k0_pay21 w3) (k0_pay138 (k0_pay130 (k0_pay126 u3) (k0_pay128 u3)) d3) (k0_pay141 (k0_pay18 w0) (k0_pay130 (k0_pay126 u3) (k0_pay128 u3)) d3) (k0_pay144 (k0_pay19 w1) (k0_pay130 (k0_pay126 u3) (k0_pay128 u3)) d3) (k0_pay147 (k0_pay20 w2) (k0_pay130 (k0_pay126 u3) (k0_pay128 u3)) d3))
    = k0_pay62 (k0_pay62 (k0_pay62 (k0_pay62 k0_pay27 (cDvn w0 w1 w2 w3 u0 d0)) (cDvn w0 w1 w2 w3 u1 d1)) (cDvn w0 w1 w2 w3 u2 d2)) (cDvn w0 w1 w2 w3 u3 d3) := by sl_kernel_rfl

end Cert.KernelSguIdeal.Value

end
-- ==== Proof.SguValue.lean ====
/- The gating unit's backward call over ℝ: its blocks, and the arrays it leaves. -/
module

public import proofs.«01_k».proof.Proof.SguCuts

@[expose] public section

set_option maxRecDepth 16384

noncomputable section

namespace Cert.KernelSguIdeal.Value

open Cert.KernelSguIdeal Cert.KernelSguIdeal.Gen Idealize.ShloMosaic Idealize.ShloMosaic.TcCoe Idealize.SL.Sem
open Cert.Reals Cert.Consts
open Idealize.ShloMosaic.Pipeline (Dat)

variable (m : (ℓ : Loc nD τ sig) → Buf (Elt Ideal) ℓ)

/-- Every window's block index, over all eight grid points. -/
theorem idx : ∀ t : Fin cfg0.N, win0_0.index t = ![t.val, 0] ∧ win0_1.index t = ![t.val, 0] ∧ win0_2.index t = ![0, 0]
    ∧ win0_3.index t = ![0, 0] ∧ win0_4.index t = ![0, 0, 0] ∧ win0_5.index t = ![0, 0] ∧ win0_6.index t = ![t.val, 0]
    ∧ win0_7.index t = ![0, 0, 0] ∧ win0_8.index t = ![0, 0] ∧ win0_9.index t = ![0, 0] ∧ win0_10.index t = ![0, 0] ∧ t.val < 8 :=
  (by decide +kernel : ∀ t : Fin grid0.N, _)

/-! ## The arrays the call reads -/

theorem u_at (X Y : FVec Ideal S2x2048x512 .f32) (i : S4096x1024.Idx) (b : Fin 2) (s : Fin 2048) (d : Fin 512) (h : 2048 * b.val + s.val = (i 0).val)
    (hd : d.val = (i 1).val) : (truncf .bf16 (shapeCast S4096x1024 (concatenate S2x2048x1024 2 [⟨S2x2048x512, X⟩, ⟨S2x2048x512, Y⟩]
      concatenates_S2x2048x512_S2x2048x512_S2x2048x1024_d2) shapeCasts_S2x2048x1024_S4096x1024) bitsLt_bf16_f32 : FVec Ideal S4096x1024 .bf16) i = X (ix3 b s d) := by
  have e : i = ix2 ⟨2048 * b.val + s.val, by omega⟩ ⟨d.val, by omega⟩ := by blk_ext []
  rw [e]
  pointwise
  blk_ext []

theorem v_at (X Y : FVec Ideal S2x2048x512 .f32) (i : S4096x1024.Idx) (b : Fin 2) (s : Fin 2048) (d : Fin 512) (h : 2048 * b.val + s.val = (i 0).val)
    (hd : 512 + d.val = (i 1).val) : (truncf .bf16 (shapeCast S4096x1024 (concatenate S2x2048x1024 2 [⟨S2x2048x512, X⟩, ⟨S2x2048x512, Y⟩]
      concatenates_S2x2048x512_S2x2048x512_S2x2048x1024_d2) shapeCasts_S2x2048x1024_S4096x1024) bitsLt_bf16_f32 : FVec Ideal S4096x1024 .bf16) i = Y (ix3 b s d) := by
  have e : i = ix2 ⟨2048 * b.val + s.val, by omega⟩ ⟨512 + d.val, by omega⟩ := by blk_ext []
  rw [e]
  pointwise
  blk_ext []

theorem d_at (X : FVec Ideal S2x2048x512 .f32) (i : S4096x512.Idx) (b : Fin 2) (s : Fin 2048) (d : Fin 512) (h : 2048 * b.val + s.val = (i 0).val)
    (hd : d.val = (i 1).val) : (truncf .bf16 (shapeCast S4096x512 X shapeCasts_S2x2048x512_S4096x512) bitsLt_bf16_f32 : FVec Ideal S4096x512 .bf16) i = X (ix3 b s d) := by
  idx_vars i
  pointwise
  blk_ext []

theorem w_at (X : FVec Ideal S1x4x128x128 .f32) (i : S4x128x128.Idx) (h : Fin 4) (s t : Fin 128) (e0 : h.val = (i 0).val) (e1 : s.val = (i 1).val) (e2 : t.val = (i 2).val) :
    shapeCast S4x128x128 X shapeCasts_S1x4x128x128_S4x128x128 i = X (ix4 0 h s t) := by
  idx_vars i
  pointwise
  blk_ext []

theorem s_at (X : FVec Ideal S1x4x128 .f32) (i : S128x4.Idx) (h : Fin 4) (s : Fin 128) (e0 : s.val = (i 0).val) (e1 : h.val = (i 1).val) :
    transpose S128x4 [1, 0] (shapeCast S4x128 X shapeCasts_S1x4x128_S4x128) transposes_S4x128_S128x4_1_0 i = X (ix3 0 h s) := by
  idx_vars i
  pointwise
  blk_ext []

theorem V_p (c : Dev nD) : (V m c main_v2 : S4096x1024.Idx → EReal) = (truncf .bf16 (shapeCast S4096x1024 (concatenate S2x2048x1024 2
      [⟨S2x2048x512, (m ((c : Thread nD τ).loc main_arg0) : FVec Ideal S2x2048x512 .f32)⟩, ⟨S2x2048x512, (m ((c : Thread nD τ).loc main_arg1) : FVec Ideal S2x2048x512 .f32)⟩]
      concatenates_S2x2048x512_S2x2048x512_S2x2048x1024_d2) shapeCasts_S2x2048x1024_S4096x1024) bitsLt_bf16_f32 : FVec Ideal S4096x1024 .bf16) := by
  unfold V V0
  rw [List.flatten_cons, List.flatten_nil, List.append_nil]
  after_results; rfl

theorem V_d (c : Dev nD) : (V m c main_v4 : S4096x512.Idx → EReal) = (truncf .bf16 (shapeCast S4096x512 (m ((c : Thread nD τ).loc main_arg6) : FVec Ideal S2x2048x512 .f32)
      shapeCasts_S2x2048x512_S4096x512) bitsLt_bf16_f32 : FVec Ideal S4096x512 .bf16) := by
  unfold V V0
  rw [List.flatten_cons, List.flatten_nil, List.append_nil]
  after_results; rfl

theorem V_w (c : Dev nD) : (V m c main_v5 : S4x128x128.Idx → EReal) = (shapeCast S4x128x128 (m ((c : Thread nD τ).loc main_arg4) : FVec Ideal S1x4x128x128 .f32)
      shapeCasts_S1x4x128x128_S4x128x128 : FVec Ideal S4x128x128 .f32) := by
  unfold V V0
  rw [List.flatten_cons, List.flatten_nil, List.append_nil]
  after_results; rfl

theorem V_s (c : Dev nD) : (V m c main_v7 : S128x4.Idx → EReal) = (transpose S128x4 [1, 0] (shapeCast S4x128 (m ((c : Thread nD τ).loc main_arg5) : FVec Ideal S1x4x128 .f32)
      shapeCasts_S1x4x128_S4x128) transposes_S4x128_S128x4_1_0 : FVec Ideal S128x4 .f32) := by
  unfold V V0
  rw [List.flatten_cons, List.flatten_nil, List.append_nil]
  after_results; rfl

/-- The arguments of one device as arrays of reals. -/
structure Args (c : Dev nD) (AU AV AD : Fin 2 → Fin 2048 → Fin 512 → ℝ) (G B : Fin 512 → ℝ) (W : Fin 4 → Fin 128 → Fin 128 → ℝ) (S : Fin 4 → Fin 128 → ℝ) : Prop where
  u : (m ((c : Thread nD τ).loc main_arg0) : S2x2048x512.Idx → EReal) = lift3 AU
  v : (m ((c : Thread nD τ).loc main_arg1) : S2x2048x512.Idx → EReal) = lift3 AV
  g : (m ((c : Thread nD τ).loc main_arg2) : S1x512.Idx → EReal) = lift2 fun _ => G
  b : (m ((c : Thread nD τ).loc main_arg3) : S1x512.Idx → EReal) = lift2 fun _ => B
  w : (m ((c : Thread nD τ).loc main_arg4) : S1x4x128x128.Idx → EReal) = lift4 fun _ => W
  s : (m ((c : Thread nD τ).loc main_arg5) : S1x4x128.Idx → EReal) = lift3 fun _ => S
  d : (m ((c : Thread nD τ).loc main_arg6) : S2x2048x512.Idx → EReal) = lift3 AD

variable {m} {c : Dev nD} {AU AV AD : Fin 2 → Fin 2048 → Fin 512 → ℝ} {G B : Fin 512 → ℝ} {W : Fin 4 → Fin 128 → Fin 128 → ℝ} {S : Fin 4 → Fin 128 → ℝ}

theorem Args.blocks (a : Args m c AU AV AD G B W S) (t : Fin cfg0.N) : Blocks (iblk m c 0 t) (iblk m c 1 t) (iblk m c 2 t) (iblk m c 3 t) (iblk m c 4 t) (iblk m c 5 t)
    (fun j => Sgu.rows AU (4 * t.val + j.val)) (fun j => Sgu.rows AV (4 * t.val + j.val)) (fun j => Sgu.rows AD (4 * t.val + j.val)) G B W S := by
  have ht : t.val < 8 := (idx t).2.2.2.2.2.2.2.2.2.2.2
  obtain ⟨e0, e1, e2, e3, e4, e5, -⟩ := idx t
  refine ⟨fun j => ldU_of _ _ _ fun r d R C hR hC => ?_, fun j => ldV_of _ _ _ fun r d R C hR hC => ?_, fun j => ldD_of _ _ _ fun r d R hR => ?_, ?_, ?_,
    fun h => ldW_of _ _ _ fun s t' => ?_, fun h => ldS_of _ _ _ fun s => ?_⟩
  · refine Eq.trans ?_ (congrFun a.u (ix3 ⟨(4 * t.val + j.val) / 16 % 2, by omega⟩ ⟨(128 * (4 * t.val + j.val) + r.val) % 2048, by omega⟩ d))
    refine (congrFun (V_p m c) (((cfg0.win 0).blk t).view.emb _)).trans (u_at _ _ _ _ _ _ ?_ ?_) <;>
      (blk_simp [e0] <;> (try simp only []) <;> (try omega))
  · refine Eq.trans ?_ (congrFun a.v (ix3 ⟨(4 * t.val + j.val) / 16 % 2, by omega⟩ ⟨(128 * (4 * t.val + j.val) + r.val) % 2048, by omega⟩ d))
    refine (congrFun (V_p m c) (((cfg0.win 0).blk t).view.emb _)).trans (v_at _ _ _ _ _ _ ?_ ?_) <;>
      (blk_simp [e0] <;> (try simp only []) <;> (try omega))
  · refine Eq.trans ?_ (congrFun a.d (ix3 ⟨(4 * t.val + j.val) / 16 % 2, by omega⟩ ⟨(128 * (4 * t.val + j.val) + r.val) % 2048, by omega⟩ d))
    refine (congrFun (V_d m c) (((cfg0.win 1).blk t).view.emb _)).trans (d_at _ _ _ _ _ ?_ ?_) <;>
      (blk_simp [e1] <;> (try simp only []) <;> (try omega))
  · refine Eq.trans ?_ a.g
    blk_ext! [iblk, V, e2]
  · refine Eq.trans ?_ a.b
    blk_ext! [iblk, V, e3]
  · refine Eq.trans ?_ (congrFun a.w (ix4 0 h s t'))
    refine (congrFun (V_w m c) (((cfg0.win 4).blk t).view.emb _)).trans (w_at _ _ _ _ _ ?_ ?_ ?_) <;>
      (blk_simp [e4] <;> (try simp only []) <;> (try omega))
  · refine Eq.trans ?_ (congrFun a.s (ix3 0 h s))
    refine (congrFun (V_s m c) (((cfg0.win 5).blk t).view.emb _)).trans (s_at _ _ _ _ ?_ ?_) <;>
      (blk_simp [e5] <;> (try simp only []) <;> (try omega))

set_option maxHeartbeats 1000000 in
/-- What a point leaves in the projection's gradient. -/
theorem Args.out6 (a : Args m c AU AV AD G B W S) (t : Fin cfg0.N) (y : S512x1024.Idx) : (outsAt0 m c t.val t.isLt).1 y
    = ((o6 (fun j => Sgu.rows AU (4 * t.val + j.val)) (fun j => Sgu.rows AV (4 * t.val + j.val)) (fun j => Sgu.rows AD (4 * t.val + j.val)) G B W S (y 0) (y 1) : ℝ) : EReal) := by
  have k := a.blocks t
  have ht : t.val < 8 := (idx t).2.2.2.2.2.2.2.2.2.2.2
  by_cases h0 : t.val % 8 = 0
  · rw [outsAt0_A m c t h0 (by omega)]
    dsimp only
    frame_out
    canon_tiles x h
    · exact entry_of _ _ ((cut_dv3 _ _ _ _ _ _ _ _).trans (k.dv 3)) x _ (o6_r _ _ _ _ _ _ _ _ _ 3 (x 0) (x 1) h0 h1)
    · exact entry_of _ _ ((cut_du3 _ _ _ _ _ _ _ _ _ _ _ _ _).trans (k.du 3)) x _ (o6_l _ _ _ _ _ _ _ _ _ 3 (x 0) (x 1) h0 h1)
    · exact entry_of _ _ ((cut_dv2 _ _ _ _ _ _ _ _).trans (k.dv 2)) x _ (o6_r _ _ _ _ _ _ _ _ _ 2 (x 0) (x 1) h0 h1)
    · exact entry_of _ _ ((cut_du2 _ _ _ _ _ _ _ _ _ _ _ _ _).trans (k.du 2)) x _ (o6_l _ _ _ _ _ _ _ _ _ 2 (x 0) (x 1) h0 h1)
    · exact entry_of _ _ ((cut_dv1 _ _ _ _ _ _ _ _).trans (k.dv 1)) x _ (o6_r _ _ _ _ _ _ _ _ _ 1 (x 0) (x 1) h0 h1)
    · exact entry_of _ _ ((cut_du1 _ _ _ _ _ _ _ _ _ _ _ _ _).trans (k.du 1)) x _ (o6_l _ _ _ _ _ _ _ _ _ 1 (x 0) (x 1) h0 h1)
    · exact entry_of _ _ (k.dv 0) x _ (o6_r _ _ _ _ _ _ _ _ _ 0 (x 0) (x 1) (by rw [h0]; simp) h1)
    · exact entry_of _ _ (k.du 0) x _ (o6_l _ _ _ _ _ _ _ _ _ 0 (x 0) (x 1) (by rw [h0]; simp) h1)
  · rw [outsAt0_B m c t h0 (by omega)]
    dsimp only
    frame_out
    canon_tiles x h
    · exact entry_of _ _ ((cut_dv3 _ _ _ _ _ _ _ _).trans (k.dv 3)) x _ (o6_r _ _ _ _ _ _ _ _ _ 3 (x 0) (x 1) h0 h1)
    · exact entry_of _ _ ((cut_du3 _ _ _ _ _ _ _ _ _ _ _ _ _).trans (k.du 3)) x _ (o6_l _ _ _ _ _ _ _ _ _ 3 (x 0) (x 1) h0 h1)
    · exact entry_of _ _ ((cut_dv2 _ _ _ _ _ _ _ _).trans (k.dv 2)) x _ (o6_r _ _ _ _ _ _ _ _ _ 2 (x 0) (x 1) h0 h1)
    · exact entry_of _ _ ((cut_du2 _ _ _ _ _ _ _ _ _ _ _ _ _).trans (k.du 2)) x _ (o6_l _ _ _ _ _ _ _ _ _ 2 (x 0) (x 1) h0 h1)
    · exact entry_of _ _ ((cut_dv1 _ _ _ _ _ _ _ _).trans (k.dv 1)) x _ (o6_r _ _ _ _ _ _ _ _ _ 1 (x 0) (x 1) h0 h1)
    · exact entry_of _ _ ((cut_du1 _ _ _ _ _ _ _ _ _ _ _ _ _).trans (k.du 1)) x _ (o6_l _ _ _ _ _ _ _ _ _ 1 (x 0) (x 1) h0 h1)
    · exact entry_of _ _ (k.dv 0) x _ (o6_r _ _ _ _ _ _ _ _ _ 0 (x 0) (x 1) (by rw [h0]; simp) h1)
    · exact entry_of _ _ (k.du 0) x _ (o6_l _ _ _ _ _ _ _ _ _ 0 (x 0) (x 1) (by rw [h0]; simp) h1)

/-- What the first points leave in the gradient of the weights: the sum over their chunks, causal. -/
theorem Args.acc7 (a : Args m c AU AV AD G B W S) (n : ℕ) (hn : n < cfg0.N) (h : Fin 4) (s t : Fin 128) : (outsAt0 m c n hn).2.1 (ix3 h s t)
    = ((if t.val ≤ s.val then ∑ q ∈ Finset.range (4 * (n + 1)), Sgu.dw (Sgu.rows AU q) (Sgu.rows AV q) (Sgu.rows AD q) G B h s t else 0 : ℝ) : EReal) := by
  have hN : n < 8 := (idx ⟨n, hn⟩).2.2.2.2.2.2.2.2.2.2.2
  induction n with
  | zero =>
    have k := a.blocks ⟨0, hn⟩
    refine (congrFun (congrArg (fun o => o.2.1) (outsAt0_A m c ⟨0, hn⟩ rfl (by simp))) (ix3 h s t)).trans ?_
    dsimp only
    frame_out
    canon_tiles x e
    · obtain rfl : h = 3 := Fin.ext (by have e : h.val = 3 + (x 0).val := e0; omega)
      exact dw_first (fun q => Sgu.dw (Sgu.rows AU q) (Sgu.rows AV q) (Sgu.rows AD q) G B 3) _ ((cut_dw3 _ _ _ _ _ _ _ _ _ _ _ _ _ _).trans k.tw3) x s t e1 e2
    · obtain rfl : h = 2 := Fin.ext (by have e : h.val = 2 + (x 0).val := e0; omega)
      exact dw_first (fun q => Sgu.dw (Sgu.rows AU q) (Sgu.rows AV q) (Sgu.rows AD q) G B 2) _ ((cut_dw2 _ _ _ _ _ _ _ _ _ _ _ _ _ _).trans k.tw2) x s t e1 e2
    · obtain rfl : h = 1 := Fin.ext (by have e : h.val = 1 + (x 0).val := e0; omega)
      exact dw_first (fun q => Sgu.dw (Sgu.rows AU q) (Sgu.rows AV q) (Sgu.rows AD q) G B 1) _ ((cut_dw1 _ _ _ _ _ _ _ _ _ _ _ _ _ _).trans k.tw1) x s t e1 e2
    · obtain rfl : h = 0 := Fin.ext (by have e : h.val = 0 + (x 0).val := e0.trans (Nat.zero_add _).symm; omega)
      exact dw_first (fun q => Sgu.dw (Sgu.rows AU q) (Sgu.rows AV q) (Sgu.rows AD q) G B 0) _ ((cut_dw0 _ _ _ _ _ _ _ _ _ _ _ _ _ _).trans k.tw0) x s t e1 e2
  | succ n ih =>
    have k := a.blocks ⟨n + 1, hn⟩
    have ih := ih (by omega) (by omega)
    refine (congrFun (congrArg (fun o => o.2.1) (outsAt0_B m c ⟨n + 1, hn⟩ (by simp only []; omega) (by simp))) (ix3 h s t)).trans ?_
    dsimp only
    frame_out
    canon_tiles x e
    · obtain rfl : h = 3 := Fin.ext (by have e : h.val = 3 + (x 0).val := e0; omega)
      exact dw_next (fun q => Sgu.dw (Sgu.rows AU q) (Sgu.rows AV q) (Sgu.rows AD q) G B 3) n _ ((cut_dw3 _ _ _ _ _ _ _ _ _ _ _ _ _ _).trans k.tw3) _ 3 x s t e1 e2 ih
    · obtain rfl : h = 2 := Fin.ext (by have e : h.val = 2 + (x 0).val := e0; omega)
      exact dw_next (fun q => Sgu.dw (Sgu.rows AU q) (Sgu.rows AV q) (Sgu.rows AD q) G B 2) n _ ((cut_dw2 _ _ _ _ _ _ _ _ _ _ _ _ _ _).trans k.tw2) _ 2 x s t e1 e2 ih
    · obtain rfl : h = 1 := Fin.ext (by have e : h.val = 1 + (x 0).val := e0; omega)
      exact dw_next (fun q => Sgu.dw (Sgu.rows AU q) (Sgu.rows AV q) (Sgu.rows AD q) G B 1) n _ ((cut_dw1 _ _ _ _ _ _ _ _ _ _ _ _ _ _).trans k.tw1) _ 1 x s t e1 e2 ih
    · obtain rfl : h = 0 := Fin.ext (by have e : h.val = 0 + (x 0).val := e0.trans (Nat.zero_add _).symm; omega)
      exact dw_next (fun q => Sgu.dw (Sgu.rows AU q) (Sgu.rows AV q) (Sgu.rows AD q) G B 0) n _ ((cut_dw0 _ _ _ _ _ _ _ _ _ _ _ _ _ _).trans k.tw0) _ 0 x s t e1 e2 ih

/-- What the first points leave in the bias gradient, before the features of a group are added: the sum over their chunks. -/
theorem Args.acc8 (a : Args m c AU AV AD G B W S) (n : ℕ) (hn : n < cfg0.N) (y : S128x512.Idx) : (outsAt0 m c n hn).2.2.1 y
    = ((∑ q ∈ Finset.range (4 * (n + 1)), Sgu.dz (Sgu.rows AU q) (Sgu.rows AD q) (y 0) (y 1) : ℝ) : EReal) := by
  have hN : n < 8 := (idx ⟨n, hn⟩).2.2.2.2.2.2.2.2.2.2.2
  induction n with
  | zero =>
    have k := a.blocks ⟨0, hn⟩
    refine (congrFun (congrArg (fun o => o.2.2.1) (outsAt0_A m c ⟨0, hn⟩ rfl (by simp))) y).trans ?_
    dsimp only
    frame_out
    exact sum_first (fun q => Sgu.dz (Sgu.rows AU q) (Sgu.rows AD q)) _ ((cut_dz _ _ _ _ _ _ _ _).trans k.tz) y
  | succ n ih =>
    have k := a.blocks ⟨n + 1, hn⟩
    have ih := ih (by omega) (by omega)
    refine (congrFun (congrArg (fun o => o.2.2.1) (outsAt0_B m c ⟨n + 1, hn⟩ (by simp only []; omega) (by simp))) y).trans ?_
    dsimp only
    frame_out
    refine sum_next (fun q => Sgu.dz (Sgu.rows AU q) (Sgu.rows AD q) (y 0) (y 1)) n _ ?_
    exact pay2_of _ _ ((cut_dz _ _ _ _ _ _ _ _).trans k.tz) _ y _ ih

/-- What the first points leave in the gradient of the norm's gain: the sum over their chunks. -/
theorem Args.acc9 (a : Args m c AU AV AD G B W S) (n : ℕ) (hn : n < cfg0.N) (z : Fin 1) (d : Fin 512) : (outsAt0 m c n hn).2.2.2.1 (ix2 z d)
    = ((∑ q ∈ Finset.range (4 * (n + 1)), Sgu.dg (Sgu.rows AU q) (Sgu.rows AV q) (Sgu.rows AD q) W d : ℝ) : EReal) := by
  have hN : n < 8 := (idx ⟨n, hn⟩).2.2.2.2.2.2.2.2.2.2.2
  induction n with
  | zero =>
    have k := a.blocks ⟨0, hn⟩
    refine (congrFun (congrArg (fun o => o.2.2.2.1) (outsAt0_A m c ⟨0, hn⟩ rfl (by simp))) (ix2 z d)).trans ?_
    dsimp only
    frame_out
    exact sum_first (fun q _ => Sgu.dg (Sgu.rows AU q) (Sgu.rows AV q) (Sgu.rows AD q) W) _ ((cut_dg _ _ _ _ _ _ _ _ _ _ _ _ _ _ _ _).trans k.tg) (ix2 z d)
  | succ n ih =>
    have k := a.blocks ⟨n + 1, hn⟩
    have ih := ih (by omega) (by omega)
    refine (congrFun (congrArg (fun o => o.2.2.2.1) (outsAt0_B m c ⟨n + 1, hn⟩ (by simp only []; omega) (by simp))) (ix2 z d)).trans ?_
    dsimp only
    frame_out
    refine sum_next (fun q => Sgu.dg (Sgu.rows AU q) (Sgu.rows AV q) (Sgu.rows AD q) W d) n _ ?_
    exact pay3_of _ _ ((cut_dg _ _ _ _ _ _ _ _ _ _ _ _ _ _ _ _).trans k.tg) _ z d _ ih

/-- What the first points leave in the gradient of the norm's offset: the sum over their chunks. -/
theorem Args.acc10 (a : Args m c AU AV AD G B W S) (n : ℕ) (hn : n < cfg0.N) (z : Fin 1) (d : Fin 512) : (outsAt0 m c n hn).2.2.2.2 (ix2 z d)
    = ((∑ q ∈ Finset.range (4 * (n + 1)), Sgu.db (Sgu.rows AU q) (Sgu.rows AD q) W d : ℝ) : EReal) := by
  have hN : n < 8 := (idx ⟨n, hn⟩).2.2.2.2.2.2.2.2.2.2.2
  induction n with
  | zero =>
    have k := a.blocks ⟨0, hn⟩
    refine (congrFun (congrArg (fun o => o.2.2.2.2) (outsAt0_A m c ⟨0, hn⟩ rfl (by simp))) (ix2 z d)).trans ?_
    dsimp only
    frame_out
    exact sum_first (fun q _ => Sgu.db (Sgu.rows AU q) (Sgu.rows AD q) W) _ ((cut_db _ _ _ _ _ _ _ _ _ _ _ _).trans k.tb) (ix2 z d)
  | succ n ih =>
    have k := a.blocks ⟨n + 1, hn⟩
    have ih := ih (by omega) (by omega)
    refine (congrFun (congrArg (fun o => o.2.2.2.2) (outsAt0_B m c ⟨n + 1, hn⟩ (by simp only []; omega) (by simp))) (ix2 z d)).trans ?_
    dsimp only
    frame_out
    refine sum_next (fun q => Sgu.db (Sgu.rows AU q) (Sgu.rows AD q) W d) n _ ?_
    exact pay3_of _ _ ((cut_db _ _ _ _ _ _ _ _ _ _ _ _).trans k.tb) _ z d _ ih

end Cert.KernelSguIdeal.Value

end
-- ==== Proof.SguFinal.lean ====
/- The five arrays the spatial gate's backward call leaves, as arrays of reals. -/
module

public import proofs.«01_k».proof.Proof.SguValue

@[expose] public section

set_option maxRecDepth 16384

noncomputable section

namespace Cert.KernelSguIdeal.Value

open Cert.KernelSguIdeal Cert.KernelSguIdeal.Gen Idealize.ShloMosaic Idealize.ShloMosaic.TcCoe Idealize.SL.Sem
open Cert.Reals Cert.Consts
open Idealize.ShloMosaic.Pipeline (Dat)

variable {m : (ℓ : Loc nD τ sig) → Buf (Elt Ideal) ℓ} {c : Dev nD} {AU AV AD : Fin 2 → Fin 2048 → Fin 512 → ℝ} {G B : Fin 512 → ℝ}
  {W : Fin 4 → Fin 128 → Fin 128 → ℝ} {S : Fin 4 → Fin 128 → ℝ}

/-- A point's block of the projection's gradient lies at its 512 tokens. -/
theorem o6_duvA (t : ℕ) (ht : t < 8) (r : Fin 512) (k : Fin 1024) (R : Fin 4096) (C : Fin 1024) (hR : R.val = 512 * t + r.val) (hC : C.val = k.val) :
    o6 (fun j => Sgu.rows AU (4 * t + j.val)) (fun j => Sgu.rows AV (4 * t + j.val)) (fun j => Sgu.rows AD (4 * t + j.val)) G B W S r k = Sgu.duvA AU AV AD G B W S R C := by
  obtain rfl : C = k := Fin.ext hC
  have e : R.val / 128 = 4 * t + r.val / 128 := by omega
  have e' : R.val % 128 = r.val % 128 := by omega
  unfold o6 Sgu.duvA
  simp only [e, e']

theorem final6 (a : Args m c AU AV AD G B W S) : (dats m 0 c).arrAt 6 cfg0.N = (lift2 (Sgu.duvA AU AV AD G B W S) : FVec Ideal S4096x1024 .bf16) := by
  refine (dats m 0 c).arrAt_eq_of_covers 6 _ (by decide +kernel) fun t hf y => ?_
  have ht : t.val < 8 := (idx t).2.2.2.2.2.2.2.2.2.2.2
  have e6 := (idx t).2.2.2.2.2.2.1
  idx_vars y
  blk_simp
  rw [after0_6, a.out6]
  refine congrArg (fun x : ℝ => (x : EReal)) (o6_duvA t.val ht _ _ _ _ ?_ ?_) <;> blk_simp [e6]
  omega

theorem final7 (a : Args m c AU AV AD G B W S) : (dats m 0 c).arrAt 7 cfg0.N = (lift3 (Sgu.dwA AU AV AD G B) : FVec Ideal S4x128x128 .f32) := by
  refine (dats m 0 c).arrAt_eq_of_after_last 7 ⟨7, by decide⟩ (by decide +kernel) _ fun j => ?_
  idx_vars j
  have h := (congrFun (after0_7 m c ⟨7, by decide⟩) (ix3 j0 j1 j2)).trans (a.acc7 7 (by decide) j0 j1 j2)
  blk_simp
  exact h

theorem final8 (a : Args m c AU AV AD G B W S) : (dats m 0 c).arrAt 8 cfg0.N = (lift2 (Sgu.dzA AU AD) : FVec Ideal S128x512 .f32) := by
  refine (dats m 0 c).arrAt_eq_of_after_last 8 ⟨7, by decide⟩ (by decide +kernel) _ fun j => ?_
  idx_vars j
  have h := (congrFun (after0_8 m c ⟨7, by decide⟩) (ix2 j0 j1)).trans (a.acc8 7 (by decide) (ix2 j0 j1))
  blk_simp
  exact h

theorem final9 (a : Args m c AU AV AD G B W S) : (dats m 0 c).arrAt 9 cfg0.N = (lift2 (fun _ => Sgu.dgA AU AV AD W) : FVec Ideal S1x512 .f32) := by
  refine (dats m 0 c).arrAt_eq_of_after_last 9 ⟨7, by decide⟩ (by decide +kernel) _ fun j => ?_
  idx_vars j
  have h := (congrFun (after0_9 m c ⟨7, by decide⟩) (ix2 j0 j1)).trans (a.acc9 7 (by decide) j0 j1)
  blk_simp
  exact h

theorem final10 (a : Args m c AU AV AD G B W S) : (dats m 0 c).arrAt 10 cfg0.N = (lift2 (fun _ => Sgu.dbA AU AD W) : FVec Ideal S1x512 .f32) := by
  refine (dats m 0 c).arrAt_eq_of_after_last 10 ⟨7, by decide⟩ (by decide +kernel) _ fun j => ?_
  idx_vars j
  have h := (congrFun (after0_10 m c ⟨7, by decide⟩) (ix2 j0 j1)).trans (a.acc10 7 (by decide) j0 j1)
  blk_simp
  exact h

/-- The bias gradient from the gate's: the host's sum over the 128 features of a group. -/
theorem dbs_layout (Z : Fin 128 → Fin 512 → ℝ) :
    (transpose S4x128 [1, 0] (Host.reduceAdd (shapeCast S128x4x128 (lift2 Z : FVec Ideal S128x512 .f32) shapeCasts_S128x512_S128x4x128) (constant S_ .f32 0x00000000#32)
      reducesTo_S128x4x128_S128x4_d2 h_S_) transposes_S128x4_S4x128_1_0 : FVec Ideal S4x128 .f32) = lift2 fun h s => ∑ l, Z s (Sgu.col h l) := by
  funext i
  idx_vars i
  pointwise [lift2_at, sum_coe]
  refine congrArg (fun x : ℝ => (x : EReal)) (Finset.sum_congr rfl fun l _ => congrArg (Z i1) (Fin.ext ?_))
  simp only [Sgu.col]
  omega

theorem tail_dbs (a : Args m c AU AV AD G B W S) : Pipeline.afterTail₀ cfgs (dats m) 0 (V0 m) [hostOps1] c main_v11 = (lift2 (Sgu.dbsA AU AD) : FVec Ideal S4x128 .f32) := by
  unfold Pipeline.afterTail₀
  rw [List.flatten_cons, List.flatten_nil, List.append_nil]
  after_results
  rw [show Pipeline.withArrays (cfgs 0).spec c (V0 m c) (fun w => (dats m 0 c).arrAt w (cfgs 0).N) (Proc.devRef .tc main_v8_2)
    = (dats m 0 c).arrAt 8 cfg0.N from Pipeline.withArrays_arr _ launch0.win.arr_inj c _ _ 8, final8 a]
  exact dbs_layout _

end Cert.KernelSguIdeal.Value

end
-- ==== Proof.SguSums.lean ====
/- Sums over several axes at once: the host's reductions of leading and trailing axes, and the product that contracts three axes. -/
module

public import proofs.«01_k».proof.ReferenceSguIdeal
public import Idealize.ShloMosaic.Lib.Pointwise
public import Idealize.ShloMosaic.Lib.IdealHost

@[expose] public section

set_option maxRecDepth 16384

noncomputable section

namespace Cert.Sums

open Idealize.ShloMosaic

/-- The host's sum over the first two of three axes. -/
theorem reduce01 {a b c : ℕ} (h : (⟨3, ![a, b, c]⟩ : Shape).ReducesTo [0, 1] ⟨1, ![c]⟩) (v : (⟨3, ![a, b, c]⟩ : Shape).Idx → EReal) (init : EReal) (k : Fin c) :
    Ideal.hostReduceAdd h v init (ix1 k) = init + ∑ i : Fin a, ∑ j : Fin b, v (ix3 i j k) := by
  have fib : ∀ i : (⟨3, ![a, b, c]⟩ : Shape).Idx, h.drop i = ix1 k ↔ ∃ p : Fin a × Fin b, ix3 p.1 p.2 k = i := fun i => by
    constructor
    · intro e
      refine ⟨(i 0, i 1), ?_⟩
      funext x
      apply Fin.ext
      match x with
      | ⟨0, _⟩ => rfl
      | ⟨1, _⟩ => rfl
      | ⟨2, _⟩ => exact (congrArg Fin.val (congrFun e ⟨0, Nat.zero_lt_succ _⟩)).symm
    · rintro ⟨p, rfl⟩
      funext x
      apply Fin.ext
      match x with
      | ⟨0, _⟩ => rfl
  refine congrArg (init + ·) ((Finset.sum_filter_eq_sum_of_fiber _ (fun p : Fin a × Fin b => ix3 p.1 p.2 k)
    (fun _ _ e => Prod.ext (congrFun e 0) (congrFun e 1)) fib v).trans ?_)
  simp only [Fintype.sum_prod_type]

/-- The host's sum over the first two and the last of five axes. -/
theorem reduce014 {a b c d e : ℕ} (h : (⟨5, ![a, b, c, d, e]⟩ : Shape).ReducesTo [0, 1, 4] ⟨2, ![c, d]⟩) (v : (⟨5, ![a, b, c, d, e]⟩ : Shape).Idx → EReal) (init : EReal) (k : Fin c) (l : Fin d) :
    Ideal.hostReduceAdd h v init (ix2 k l) = init + ∑ i : Fin a, ∑ j : Fin b, ∑ n : Fin e, v (ix5 i j k l n) := by
  have fib : ∀ i : (⟨5, ![a, b, c, d, e]⟩ : Shape).Idx, h.drop i = ix2 k l ↔ ∃ p : Fin a × Fin b × Fin e, ix5 p.1 p.2.1 k l p.2.2 = i := fun i => by
    constructor
    · intro q
      refine ⟨(i 0, i 1, i 4), ?_⟩
      funext x
      apply Fin.ext
      match x with
      | ⟨0, _⟩ => rfl
      | ⟨1, _⟩ => rfl
      | ⟨2, _⟩ => exact (congrArg Fin.val (congrFun q ⟨0, Nat.zero_lt_succ _⟩)).symm
      | ⟨3, _⟩ => exact (congrArg Fin.val (congrFun q ⟨1, Nat.one_lt_two⟩)).symm
      | ⟨4, _⟩ => rfl
    · rintro ⟨p, rfl⟩
      funext x
      apply Fin.ext
      match x with
      | ⟨0, _⟩ => rfl
      | ⟨1, _⟩ => rfl
  refine congrArg (init + ·) ((Finset.sum_filter_eq_sum_of_fiber _ (fun p : Fin a × Fin b × Fin e => ix5 p.1 p.2.1 k l p.2.2)
    (fun _ _ q => Prod.ext (congrFun q 0) (Prod.ext (congrFun q 1) (congrFun q 4))) fib v).trans ?_)
  simp only [Fintype.sum_prod_type]

open Cert.ReferenceSguIdeal in
/-- The product that contracts sequence, chunk and feature. -/
theorem product3 [Facts] (L : FVec Ideal S4x2x16x128x128 .f32) (R : FVec Ideal S2x16x128x4x128 .f32) (acc : S4x128x128.Idx → EReal) (h : Fin 4) (s t : Fin 128) :
    Ideal.matmul dot_S4x2x16x128x128_S2x16x128x4x128_S4x128x128_123_014_4_2_0_3 L R acc (ix3 h s t)
      = acc (ix3 h s t) + ∑ b : Fin 2, ∑ i : Fin 16, ∑ l : Fin 128, L (ix5 h b i l s) * R (ix5 b i t h l) := by
  let d := dot_S4x2x16x128x128_S2x16x128x4x128_S4x128x128_123_014_4_2_0_3
  let e : Fin 2 × Fin 16 × Fin 128 ≃ d.contr.Idx :=
    { toFun := fun k p => match p with
        | ⟨0, _⟩ => k.1
        | ⟨1, _⟩ => k.2.1
        | ⟨2, _⟩ => k.2.2
      invFun := fun k => (k ⟨0, (by norm_num : (0 : ℕ) < 3)⟩, k ⟨1, (by norm_num : (1 : ℕ) < 3)⟩, k ⟨2, (by norm_num : (2 : ℕ) < 3)⟩)
      left_inv := fun _ => rfl
      right_inv := fun k => by
        funext p
        match p with
        | ⟨0, _⟩ => rfl
        | ⟨1, _⟩ => rfl
        | ⟨2, _⟩ => rfl }
  refine congrArg (acc (ix3 h s t) + ·) ((Fintype.sum_equiv e (fun k => L (ix5 h k.1 k.2.1 k.2.2 s) * R (ix5 k.1 k.2.1 t h k.2.2)) _ fun k => ?_).symm.trans ?_)
  · refine congrArg₂ (fun a b => L a * R b) ?_ ?_
    · funext x
      apply Fin.ext
      match x with
      | ⟨0, _⟩ => rfl
      | ⟨1, _⟩ => rfl
      | ⟨2, _⟩ => rfl
      | ⟨3, _⟩ => rfl
      | ⟨4, _⟩ => rfl
    · funext x
      apply Fin.ext
      match x with
      | ⟨0, _⟩ => rfl
      | ⟨1, _⟩ => rfl
      | ⟨2, _⟩ => rfl
      | ⟨3, _⟩ => rfl
      | ⟨4, _⟩ => rfl
  · simp only [Fintype.sum_prod_type]

end Cert.Sums

end
-- ==== Proof.SguReference.lean ====
/- The reference of the spatial gate's backward call, read as arrays of reals. -/
module

public import proofs.«01_k».proof.Proof.SguMath
public import proofs.«01_k».proof.Proof.SguSums
public import proofs.«01_k».proof.Proof.Consts
public import proofs.«01_k».proof.Proof.Gen.ReferenceSguIdeal.Run
public import Idealize.ShloMosaic.Lib.WordCmp

@[expose] public section

set_option maxRecDepth 16384

noncomputable section

namespace Cert.ReferenceSguIdeal.Value

open Cert.ReferenceSguIdeal Cert.ReferenceSguIdeal.Gen Idealize.ShloMosaic Idealize.ShloMosaic.TcCoe Idealize.SL.Sem
open Cert.Reals Cert.Consts

variable {V0 : Valuation τ sig (Elt Ideal)} {AU AV AD : Fin 2 → Fin 2048 → Fin 512 → ℝ} {G B : Fin 512 → ℝ}
  {W : Fin 4 → Fin 128 → Fin 128 → ℝ} {S : Fin 4 → Fin 128 → ℝ}

variable (V0 AU AV AD G B W S) in
/-- The arguments are arrays of reals. -/
structure Args : Prop where
  u : (V0 (Proc.devRef .tc main_arg0) : FVec Ideal S2x2048x512 .f32) = lift3 AU
  v : (V0 (Proc.devRef .tc main_arg1) : FVec Ideal S2x2048x512 .f32) = lift3 AV
  g : (V0 (Proc.devRef .tc main_arg2) : FVec Ideal S1x512 .f32) = lift2 fun _ => G
  b : (V0 (Proc.devRef .tc main_arg3) : FVec Ideal S1x512 .f32) = lift2 fun _ => B
  w : (V0 (Proc.devRef .tc main_arg4) : FVec Ideal S1x4x128x128 .f32) = lift4 fun _ => W
  s : (V0 (Proc.devRef .tc main_arg5) : FVec Ideal S1x4x128 .f32) = lift3 fun _ => S
  d : (V0 (Proc.devRef .tc main_arg6) : FVec Ideal S2x2048x512 .f32) = lift3 AD

theorem v4 : (res_main_v4 (F := Ideal) V0 : FVec Ideal S_ .f32) = fun _ => ((Sgu.C : ℝ) : EReal) := by
  funext i
  pointwise [res_main_v4, c8943, c200000]
  rw [div_coe _ _ (by norm_num), Sgu.C]
  norm_num

theorem Args.v15 (a : Args V0 AU AV AD G B W S) : (res_main_v15 (F := Ideal) V0 : FVec Ideal S2x2048x512 .f32) = lift3 fun b s d => Sgu.th (AU b s d) := by
  funext i
  idx_vars i
  unfold res_main_v15
  rw [a.u, v4]
  pointwise [lift3_at, geluK]
  simp only [mul_coe, add_coe, tanh_coe, ← mul_assoc]
  rfl

theorem Args.v24 (a : Args V0 AU AV AD G B W S) : (res_main_v24 (F := Ideal) V0 : FVec Ideal S2x2048x512 .f32) = lift3 fun b s d => 1 / 2 * (1 + Sgu.th (AU b s d)) := by
  funext i
  idx_vars i
  unfold res_main_v24
  rw [a.v15]
  pointwise [lift3_at, half]
  simp only [mul_coe, add_coe, one_coe]

theorem Args.v25 (a : Args V0 AU AV AD G B W S) : (res_main_v25 (F := Ideal) V0 : FVec Ideal S2x2048x512 .f32) = lift3 fun b s d => Sgu.gl (AU b s d) := by
  funext i
  idx_vars i
  unfold res_main_v25
  rw [a.v24, a.u]
  pointwise [lift3_at]
  simp only [mul_coe, Sgu.gl]
  exact congrArg (fun x : ℝ => (x : EReal)) (by ring)

theorem Args.v93 (a : Args V0 AU AV AD G B W S) : (res_main_v93 (F := Ideal) V0 : FVec Ideal S2x16x128x4x128 .f32) = lift5 fun b i r h l => Sgu.dz (Sgu.rows AU (16 * b.val + i.val)) (Sgu.rows AD (16 * b.val + i.val)) r (Sgu.col h l) := by
  funext i
  idx_vars i
  unfold res_main_v93
  rw [a.v25, a.d]
  pointwise [lift3_at, lift5_at]
  rw [Sgu.rows_at AU i0 i1 i2 i3 i4 _ _ rfl rfl, Sgu.rows_at AD i0 i1 i2 i3 i4 _ _ rfl rfl, mul_coe, Sgu.dz, mul_comm]

theorem Args.v98 (a : Args V0 AU AV AD G B W S) : (res_main_v98 (F := Ideal) V0 : FVec Ideal S4x2x16x128x128 .f32) = lift5 fun h b i l r => Sgu.dz (Sgu.rows AU (16 * b.val + i.val)) (Sgu.rows AD (16 * b.val + i.val)) r (Sgu.col h l) := by
  funext i
  idx_vars i
  unfold res_main_v98
  rw [a.v93]
  pointwise [lift5_at]

theorem sel_sel (c : BitVec 1) (x y : EReal) : Scalar.select (Scalar.select c 1#1 0#1) x y = Scalar.select c x y := by
  rcases (show c = 0#1 ∨ c = 1#1 by revert c; decide) with rfl | rfl <;> rfl
theorem addi_zero (x : BitVec 32) : IntOp.addi x 0#32 = x := BitVec.add_zero x

theorem Args.v82_0 (a : Args V0 AU AV AD G B W S) : (res_main_v82_0 (F := Ideal) V0 : FVec Ideal S4x128x128 .f32) = lift3 (Sgu.wm W) := by
  funext i
  idx_vars i
  unfold res_main_v82_0 res_main_v82_1
  rw [a.w]
  pointwise [lift3_at, lift4_at]
  rw [sel_sel, addi_zero]
  word_cmp
  rw [zero_coe, ite_coe]
  rfl

theorem Args.v37 (a : Args V0 AU AV AD G B W S) : (res_main_v37 (F := Ideal) V0 : FVec Ideal S2x2048x512 .f32) = lift3 fun b s d => Sgu.th (AV b s d) := by
  funext i
  idx_vars i
  unfold res_main_v37
  rw [a.v, show res_main_v26 (F := Ideal) V0 = res_main_v4 V0 from rfl, v4]
  pointwise [lift3_at, geluK]
  simp only [mul_coe, add_coe, tanh_coe, ← mul_assoc]
  rfl

theorem Args.v46 (a : Args V0 AU AV AD G B W S) : (res_main_v46 (F := Ideal) V0 : FVec Ideal S2x2048x512 .f32) = lift3 fun b s d => 1 / 2 * (1 + Sgu.th (AV b s d)) := by
  funext i
  idx_vars i
  unfold res_main_v46
  rw [a.v37]
  pointwise [lift3_at, half]
  simp only [mul_coe, add_coe, one_coe]

theorem Args.v47 (a : Args V0 AU AV AD G B W S) : (res_main_v47 (F := Ideal) V0 : FVec Ideal S2x2048x512 .f32) = lift3 fun b s d => Sgu.gl (AV b s d) := by
  funext i
  idx_vars i
  unfold res_main_v47
  rw [a.v46, a.v]
  pointwise [lift3_at]
  simp only [mul_coe, Sgu.gl]
  exact congrArg (fun x : ℝ => (x : EReal)) (by ring)

theorem Args.v51 (a : Args V0 AU AV AD G B W S) : (res_main_v51 (F := Ideal) V0 : FVec Ideal S2x2048x1 .f32) = lift3 fun b s _ => Sgu.mean fun d => Sgu.gl (AV b s d) := by
  funext i
  idx_vars i
  unfold res_main_v51
  rw [a.v47]
  pointwise [lift3_at, d512]
  simp only [sum_coe, div_coe _ (512 : ℝ) (by norm_num)]
  rfl

theorem Args.v53 (a : Args V0 AU AV AD G B W S) : (res_main_v53 (F := Ideal) V0 : FVec Ideal S2x2048x512 .f32) = lift3 fun b s => Sgu.xc (AV b s) := by
  funext i
  idx_vars i
  unfold res_main_v53
  rw [a.v47, a.v51]
  pointwise [lift3_at]
  simp only [sub_coe]
  rfl

theorem Args.v62 (a : Args V0 AU AV AD G B W S) : (res_main_v62 (F := Ideal) V0 : FVec Ideal S2x2048x512 .f32) = lift3 fun b s => Sgu.xc (AV b s) := a.v53

theorem Args.v64 (a : Args V0 AU AV AD G B W S) : (res_main_v64 (F := Ideal) V0 : FVec Ideal S2x2048x1 .f32) = lift3 fun b s _ => Sgu.var (AV b s) := by
  funext i
  idx_vars i
  unfold res_main_v64
  rw [a.v53]
  pointwise [lift3_at, d512, eps]
  simp only [mul_coe, sum_coe, div_coe _ (512 : ℝ) (by norm_num), add_coe]
  rfl

theorem Args.v65 (a : Args V0 AU AV AD G B W S) : (res_main_v65 (F := Ideal) V0 : FVec Ideal S2x2048x1 .f32) = lift3 fun b s _ => Sgu.rs (AV b s) := by
  funext i
  idx_vars i
  unfold res_main_v65
  rw [a.v64]
  pointwise [lift3_at]
  rw [rsqrt_coe _ (Sgu.var_pos _)]
  rfl

theorem Args.v70 (a : Args V0 AU AV AD G B W S) : (res_main_v70 (F := Ideal) V0 : FVec Ideal S2x2048x512 .f32) = lift3 fun b s => Sgu.vh (AV b s) := by
  funext i
  idx_vars i
  unfold res_main_v70
  rw [a.v62, a.v65]
  pointwise [lift3_at]
  simp only [mul_coe]
  rfl

theorem Args.v71 (a : Args V0 AU AV AD G B W S) : (res_main_v71 (F := Ideal) V0 : FVec Ideal S1x1x512 .f32) = lift3 fun _ _ => G := by
  funext i
  idx_vars i
  unfold res_main_v71
  rw [a.g]
  pointwise [lift3_at, lift2_at]

theorem Args.v77 (a : Args V0 AU AV AD G B W S) : (res_main_v77 (F := Ideal) V0 : FVec Ideal S2x16x128x4x128 .f32) = lift5 fun b i r h l => Sgu.vn G B (Sgu.rows AV (16 * b.val + i.val) r) (Sgu.col h l) := by
  funext i
  idx_vars i
  unfold res_main_v77
  rw [a.v70, a.v71, a.b]
  pointwise [lift3_at, lift2_at, lift5_at]
  rw [Sgu.row_at AV i0 i1 i2 _ rfl, Sgu.col_at i3 i4 ⟨i3.val * 128 + i4.val, by omega⟩ rfl]
  simp only [mul_coe, add_coe]
  rfl

theorem Args.v89 (a : Args V0 AU AV AD G B W S) : (res_main_v89 (F := Ideal) V0 : FVec Ideal S2x2048x512 .f32) = lift3 fun b s => Sgu.z (Sgu.rows AV (16 * b.val + s.val / 128)) G B W S ⟨s.val % 128, by omega⟩ := by
  funext i
  idx_vars i
  unfold res_main_v89
  rw [a.v77, a.v82_0, a.s]
  pointwise [lift3_at, lift5_at]
  simp only [Sgu.col_grp, mul_coe, sum_coe, add_coe]
  exact congrArg (fun x : ℝ => (x : EReal)) (congrArg (· + _) (Finset.sum_congr rfl fun t _ => mul_comm _ _))

theorem Args.v103 (a : Args V0 AU AV AD G B W S) : (res_main_v103 (F := Ideal) V0 : FVec Ideal S2x2048x512 .f32) = lift3 fun b s => Sgu.dvn (Sgu.rows AU (16 * b.val + s.val / 128)) (Sgu.rows AD (16 * b.val + s.val / 128)) W ⟨s.val % 128, by omega⟩ := by
  funext i
  idx_vars i
  unfold res_main_v103
  rw [a.v98, a.v82_0]
  pointwise [lift3_at, lift5_at]
  simp only [Sgu.col_grp, mul_coe, sum_coe]
  exact congrArg (fun x : ℝ => (x : EReal)) (Finset.sum_congr rfl fun t _ => mul_comm _ _)

theorem Args.v92 (a : Args V0 AU AV AD G B W S) : (res_main_v92 (F := Ideal) V0 : FVec Ideal S2x2048x512 .f32) = lift3 fun b s d => AD b s d * Sgu.z (Sgu.rows AV (16 * b.val + s.val / 128)) G B W S ⟨s.val % 128, by omega⟩ d := by
  funext i
  idx_vars i
  unfold res_main_v92
  rw [a.d, a.v89]
  pointwise [lift3_at]
  simp only [mul_coe]

theorem Args.v111 (a : Args V0 AU AV AD G B W S) : (res_main_v111 (F := Ideal) V0 : FVec Ideal S2x2048x512 .f32) = lift3 fun b s d => Sgu.dvn (Sgu.rows AU (16 * b.val + s.val / 128)) (Sgu.rows AD (16 * b.val + s.val / 128)) W ⟨s.val % 128, by omega⟩ d * G d := by
  funext i
  idx_vars i
  unfold res_main_v111
  rw [a.v103, a.v71]
  pointwise [lift3_at]
  simp only [mul_coe]

/-- What reaches the layer norm's normalised values, token by token. -/
abbrev tt (AU AD : Fin 2 → Fin 2048 → Fin 512 → ℝ) (G : Fin 512 → ℝ) (W : Fin 4 → Fin 128 → Fin 128 → ℝ) (b : Fin 2) (s : Fin 2048) (d : Fin 512) : ℝ := Sgu.dvn (Sgu.rows AU (16 * b.val + s.val / 128)) (Sgu.rows AD (16 * b.val + s.val / 128)) W ⟨s.val % 128, by omega⟩ d * G d

theorem Args.v117 (a : Args V0 AU AV AD G B W S) : (res_main_v117 (F := Ideal) V0 : FVec Ideal S2x2048x512 .f32) = lift3 fun b s d => tt AU AD G W b s d * Sgu.rs (AV b s) := by
  funext i
  idx_vars i
  unfold res_main_v117
  rw [a.v111, a.v65]
  pointwise [lift3_at]
  simp only [mul_coe]

theorem Args.v126 (a : Args V0 AU AV AD G B W S) : (res_main_v126 (F := Ideal) V0 : FVec Ideal S2x2048x512 .f32) = lift3 fun b s d => (∑ e, Sgu.xc (AV b s) e * tt AU AD G W b s e) * (-1 / 2 * (Sgu.rs (AV b s) * (1 / Sgu.var (AV b s)))) * (1 / 512) * (2 * Sgu.xc (AV b s) d) := by
  funext i
  idx_vars i
  unfold res_main_v126
  rw [a.v62, a.v111, a.v65, a.v64, a.v53]
  pointwise [lift3_at, d512, two, neghalf]
  simp only [mul_coe, sum_coe, div_coe _ (512 : ℝ) (by norm_num), div_coe _ _ (Sgu.var_pos _).ne', Fin.sum_univ_one]

theorem Args.v136 (a : Args V0 AU AV AD G B W S) : (res_main_v136 (F := Ideal) V0 : FVec Ideal S2x2048x512 .f32) = lift3 fun b s => Sgu.dln (AV b s) (tt AU AD G W b s) := by
  funext i
  idx_vars i
  unfold res_main_v136
  rw [a.v117, a.v126]
  pointwise [lift3_at, d512]
  simp only [mul_coe, neg_coe, sum_coe, add_coe, div_coe _ (512 : ℝ) (by norm_num), Fin.sum_univ_one]
  exact congrArg (fun x : ℝ => (x : EReal)) (Sgu.dln_chain _ _ _)

/-- The gradients of the two halves of the projection. -/
theorem Args.v143 (a : Args V0 AU AV AD G B W S) : (res_main_v143 (F := Ideal) V0 : FVec Ideal S2x2048x512 .f32)
    = lift3 fun b s d => Sgu.K * (1 / 2 * (AV b s d * Sgu.dln (AV b s) (tt AU AD G W b s) d) * ((1 + Sgu.th (AV b s d)) * (1 - Sgu.th (AV b s d)))) := by
  funext i
  idx_vars i
  unfold res_main_v143
  rw [a.v, a.v136, a.v37]
  pointwise [lift3_at, geluK, half]
  simp only [mul_coe, add_coe, sub_coe, one_coe]
  rfl

theorem Args.v155 (a : Args V0 AU AV AD G B W S) : (res_main_v155 (F := Ideal) V0 : FVec Ideal S2x2048x512 .f32)
    = lift3 fun b s d => Sgu.K * (1 / 2 * (AU b s d * (AD b s d * Sgu.z (Sgu.rows AV (16 * b.val + s.val / 128)) G B W S ⟨s.val % 128, by omega⟩ d)) * ((1 + Sgu.th (AU b s d)) * (1 - Sgu.th (AU b s d)))) := by
  funext i
  idx_vars i
  unfold res_main_v155
  rw [a.u, a.v92, a.v15]
  pointwise [lift3_at, geluK, half]
  simp only [mul_coe, add_coe, sub_coe, one_coe]
  rfl

theorem Args.du (a : Args V0 AU AV AD G B W S) : ((addf (addf (mulf (res_main_v92 V0) (res_main_v24 V0)) (res_main_v155 V0)) (mulf (mulf (broadcastInDim S2x2048x512 ![] bcast_S_S2x2048x512 (res_main_v4 V0)) (res_main_v155 V0)) (mulf (broadcastInDim S2x2048x512 ![] bcast_S_S2x2048x512 (constant (F := Ideal) S_ .f32 0x40400000#32)) (mulf (V0 (Proc.devRef .tc main_arg0)) (V0 (Proc.devRef .tc main_arg0)))))) : FVec Ideal S2x2048x512 .f32)
    = lift3 fun b s => Sgu.du (Sgu.rows AU (16 * b.val + s.val / 128)) (Sgu.rows AV (16 * b.val + s.val / 128)) (Sgu.rows AD (16 * b.val + s.val / 128)) G B W S ⟨s.val % 128, by omega⟩ := by
  funext i
  idx_vars i
  rw [a.u, a.v92, a.v24, a.v155, v4]
  pointwise [lift3_at, three]
  simp only [mul_coe, add_coe]
  refine congrArg (fun x : ℝ => (x : EReal)) ((Sgu.dgl_chain _ _).trans ?_)
  rw [Sgu.du, Sgu.rows_tok, Sgu.rows_tok]

theorem Args.dv (a : Args V0 AU AV AD G B W S) : ((addf (addf (mulf (res_main_v136 V0) (res_main_v46 V0)) (res_main_v143 V0)) (mulf (mulf (broadcastInDim S2x2048x512 ![] bcast_S_S2x2048x512 (res_main_v26 V0)) (res_main_v143 V0)) (mulf (broadcastInDim S2x2048x512 ![] bcast_S_S2x2048x512 (constant (F := Ideal) S_ .f32 0x40400000#32)) (mulf (V0 (Proc.devRef .tc main_arg1)) (V0 (Proc.devRef .tc main_arg1)))))) : FVec Ideal S2x2048x512 .f32)
    = lift3 fun b s => Sgu.dv (Sgu.rows AU (16 * b.val + s.val / 128)) (Sgu.rows AV (16 * b.val + s.val / 128)) (Sgu.rows AD (16 * b.val + s.val / 128)) G W ⟨s.val % 128, by omega⟩ := by
  funext i
  idx_vars i
  rw [a.v, a.v136, a.v46, a.v143, show res_main_v26 (F := Ideal) V0 = res_main_v4 V0 from rfl, v4]
  pointwise [lift3_at, three]
  simp only [mul_coe, add_coe]
  refine congrArg (fun x : ℝ => (x : EReal)) ((Sgu.dgl_chain _ _).trans ?_)
  rw [Sgu.dv, Sgu.rows_tok]

/-- The two halves side by side, token by token. -/
theorem uv_layout (X Y : FVec Ideal S2x2048x512 .f32) (f g : Fin 2 → Fin 2048 → Fin 512 → ℝ) (hX : X = lift3 f) (hY : Y = lift3 g) :
    (truncf .bf16 (shapeCast S4096x1024 (concatenate S2x2048x1024 2 [⟨S2x2048x512, X⟩, ⟨S2x2048x512, Y⟩] concatenates_S2x2048x512_S2x2048x512_S2x2048x1024_d2) shapeCasts_S2x2048x1024_S4096x1024) bitsLt_bf16_f32 : FVec Ideal S4096x1024 .bf16)
      = lift2 fun R C => if h : C.val < 512 then f ⟨R.val / 2048, by omega⟩ ⟨R.val % 2048, by omega⟩ ⟨C.val, h⟩ else g ⟨R.val / 2048, by omega⟩ ⟨R.val % 2048, by omega⟩ ⟨C.val - 512, by omega⟩ := by
  subst hX
  subst hY
  funext i
  idx_vars i
  pointwise [lift2_at, lift3_at]
  split <;> rfl

theorem Args.res163 (a : Args V0 AU AV AD G B W S) : (truncf .bf16 (shapeCast _ (concatenate S2x2048x1024 2 [⟨S2x2048x512, (addf (addf (mulf (res_main_v92 V0) (res_main_v24 V0)) (res_main_v155 V0)) (mulf (mulf (broadcastInDim S2x2048x512 ![] bcast_S_S2x2048x512 (res_main_v4 V0)) (res_main_v155 V0)) (mulf (broadcastInDim S2x2048x512 ![] bcast_S_S2x2048x512 (constant (F := Ideal) S_ .f32 0x40400000#32)) (mulf (V0 (Proc.devRef .tc main_arg0)) (V0 (Proc.devRef .tc main_arg0))))))⟩, ⟨S2x2048x512, (addf (addf (mulf (res_main_v136 V0) (res_main_v46 V0)) (res_main_v143 V0)) (mulf (mulf (broadcastInDim S2x2048x512 ![] bcast_S_S2x2048x512 (res_main_v26 V0)) (res_main_v143 V0)) (mulf (broadcastInDim S2x2048x512 ![] bcast_S_S2x2048x512 (constant (F := Ideal) S_ .f32 0x40400000#32)) (mulf (V0 (Proc.devRef .tc main_arg1)) (V0 (Proc.devRef .tc main_arg1))))))⟩] concatenates_S2x2048x512_S2x2048x512_S2x2048x1024_d2) shapeCasts_S2x2048x1024_S4096x1024) bitsLt_bf16_f32 : FVec Ideal S4096x1024 .bf16) = lift2 (Sgu.duvA AU AV AD G B W S) := by
  refine (uv_layout _ _ _ _ a.du a.dv).trans (congrArg lift2 (funext fun R => funext fun C => ?_))
  have e : 16 * (R.val / 2048) + R.val % 2048 / 128 = R.val / 128 := by omega
  have e' : R.val % 2048 % 128 = R.val % 128 := by omega
  simp only [e, e']
  rfl

theorem Args.res102 (a : Args V0 AU AV AD G B W S) : (select (res_main_v82_1 V0) (Host.dotGeneral (φ₁ := .f32) (φ₂ := .f32) dot_S4x2x16x128x128_S2x16x128x4x128_S4x128x128_123_014_4_2_0_3 none (res_main_v98 V0) (res_main_v77 V0)) (broadcastInDim S4x128x128 ![] bcast_S_S4x128x128 (constant (F := Ideal) S_ .f32 0x00000000#32)) : FVec Ideal S4x128x128 .f32) = lift3 (Sgu.dwA AU AV AD G B) := by
  funext i
  idx_vars i
  unfold res_main_v82_1
  rw [a.v98, a.v77]
  pointwise [lift3_at, lift5_at]
  rw [sel_sel, addi_zero]
  word_cmp
  rw [Sums.product3]
  simp only [lift5_at, mul_coe, sum_coe, zero_coe, add_coe, zero_add, ite_coe, Sgu.dwA, Sgu.sum_chunks]
  rfl

theorem Args.res97 (a : Args V0 AU AV AD G B W S) : (transpose S4x128 [1, 0] (Host.reduceAdd (shapeCast _ (Host.reduceAdd (res_main_v93 V0) (constant (F := Ideal) S_ .f32 0x00000000#32) reducesTo_S2x16x128x4x128_S128x4_d0_1_4 h_S_) shapeCasts_S128x4_S1x1x128x4x1) (constant (F := Ideal) S_ .f32 0x00000000#32) reducesTo_S1x1x128x4x1_S128x4_d0_1_4 h_S_) transposes_S128x4_S4x128_1_0 : FVec Ideal S4x128 .f32) = lift2 (Sgu.dbsA AU AD) := by
  funext i
  idx_vars i
  rw [a.v93]
  pointwise [lift2_at, lift5_at, Sums.reduce014]
  simp only [sum_coe, zero_coe, add_coe, zero_add, Fin.sum_univ_one, Sgu.dbsA, Sgu.dzA]
  refine congrArg (fun x : ℝ => (x : EReal)) (Eq.trans ?_ Finset.sum_comm)
  rw [Sgu.sum_chunks]

theorem Args.res164 (a : Args V0 AU AV AD G B W S) : (broadcastInDim S1x512 ![1] bcast_S512_S1x512_1 (Host.reduceAdd (shapeCast _ (Host.reduceAdd (mulf (res_main_v70 V0) (res_main_v103 V0)) (constant (F := Ideal) S_ .f32 0x00000000#32) reducesTo_S2x2048x512_S512_d0_1 h_S_) shapeCasts_S512_S1x1x512) (constant (F := Ideal) S_ .f32 0x00000000#32) reducesTo_S1x1x512_S512_d0_1 h_S_) : FVec Ideal S1x512 .f32) = lift2 fun _ => Sgu.dgA AU AV AD W := by
  funext i
  idx_vars i
  rw [a.v70, a.v103]
  pointwise [lift2_at, lift3_at, Sums.reduce01]
  simp only [mul_coe, sum_coe, zero_coe, add_coe, zero_add, Fin.sum_univ_one]
  refine congrArg (fun x : ℝ => (x : EReal)) (Eq.trans ?_ (Sgu.sum_tokens fun q r => Sgu.dvn (Sgu.rows AU q) (Sgu.rows AD q) W r i1 * Sgu.vh (Sgu.rows AV q r) i1))
  refine Finset.sum_congr rfl fun b _ => Finset.sum_congr rfl fun s _ => ?_
  rw [Sgu.rows_tok, mul_comm]

theorem Args.res165 (a : Args V0 AU AV AD G B W S) : (broadcastInDim S1x512 ![1] bcast_S512_S1x512_1 (Host.reduceAdd (shapeCast _ (Host.reduceAdd (res_main_v103 V0) (constant (F := Ideal) S_ .f32 0x00000000#32) reducesTo_S2x2048x512_S512_d0_1 h_S_) shapeCasts_S512_S1x1x512) (constant (F := Ideal) S_ .f32 0x00000000#32) reducesTo_S1x1x512_S512_d0_1 h_S_) : FVec Ideal S1x512 .f32) = lift2 fun _ => Sgu.dbA AU AD W := by
  funext i
  idx_vars i
  rw [a.v103]
  pointwise [lift2_at, lift3_at, Sums.reduce01]
  simp only [mul_coe, sum_coe, zero_coe, add_coe, zero_add, Fin.sum_univ_one]
  exact congrArg (fun x : ℝ => (x : EReal)) (Sgu.sum_tokens fun q r => Sgu.dvn (Sgu.rows AU q) (Sgu.rows AD q) W r i1)

end Cert.ReferenceSguIdeal.Value

end
-- ==== Proof.SguClaims.lean ====
/- The claims about the spatial gate's backward call. -/
module

public import proofs.«01_k».proof.Defs
public import proofs.«01_k».proof.Proof.Finite
public import proofs.«01_k».proof.Proof.SguFinal
public import proofs.«01_k».proof.Proof.SguReference
public import proofs.«01_k».proof.Proof.Gen.KernelSgu.Frame
public import proofs.«01_k».proof.Proof.Gen.Pre_finite_sgu

@[expose] public section

set_option maxRecDepth 16384

noncomputable section

namespace Cert.Proof.Sgu

open Idealize.ShloMosaic Idealize.ShloMosaic.TcCoe Idealize.SL.Sem Cert.Reals

theorem frameR : Cert.quiescent_ReferenceSguIdeal := fun m g _ =>
  (θ_run Cert.ReferenceSguIdeal.defs _ _).mono (fun r h => ⟨fun c => (h c).2.2.2.2.2, sem_eq_zero_of_no_sems (by decide) r.2⟩) (Cert.ReferenceSguIdeal.Value.run m g)

theorem frameR_finite : Cert.quiescent_ReferenceSguIdeal_pre_finite_sgu := fun m g _ => frameR m g trivial

theorem preserves : Cert.preserves_KernelSgu_KernelSguIdeal :=
  ⟨IdealRules.named_const.statement Cert.KernelSguIdeal.κ "gelu_c" .f32 0x3D372713#32 ((8943 / 200000 : ℝ) : EReal) rfl,
    IdealRules.named_const.statement Cert.KernelSguIdeal.κ "three_gelu_c" .f32 0x3E095D4F#32 ((26829 / 200000 : ℝ) : EReal) rfl⟩

open Cert.Pre_finite_sgu in
/-- Finite arguments are arrays of reals; an axis of length one is left out. -/
theorem reals (X0 X1 X6 : FVec Ideal S2x2048x512 .f32) (X2 X3 : FVec Ideal S1x512 .f32) (X4 : FVec Ideal S1x4x128x128 .f32) (X5 : FVec Ideal S1x4x128 .f32)
    (h : Cert.Pre_finite_sgu.fn (F := Ideal) X0 X1 X2 X3 X4 X5 X6 = fun _ => 1#1) :
    ∃ (AU AV AD : Fin 2 → Fin 2048 → Fin 512 → ℝ) (G B : Fin 512 → ℝ) (W : Fin 4 → Fin 128 → Fin 128 → ℝ) (S : Fin 4 → Fin 128 → ℝ),
      X0 = lift3 AU ∧ X1 = lift3 AV ∧ X2 = (lift2 fun _ => G) ∧ X3 = (lift2 fun _ => B) ∧ X4 = (lift4 fun _ => W) ∧ X5 = (lift3 fun _ => S) ∧ X6 = lift3 AD := by
  have e := congrFun h (Shape.Idx.first Facts.h_S_)
  dsimp only [fn, fn_part1] at e
  obtain ⟨e, h6⟩ := andi_at _ _ _ e
  obtain ⟨e, h5⟩ := andi_at _ _ _ e
  obtain ⟨e, h4⟩ := andi_at _ _ _ e
  obtain ⟨e, h3⟩ := andi_at _ _ _ e
  obtain ⟨e, h2⟩ := andi_at _ _ _ e
  obtain ⟨h0, h1⟩ := andi_at _ _ _ e
  haveI : Subsingleton S_.Idx := ⟨fun a b => funext fun k => k.elim0⟩
  obtain ⟨AU, hU⟩ := exists_lift3 X0 (real_of_all X0 _ _ _ _ _ h0)
  obtain ⟨AV, hV⟩ := exists_lift3 X1 (real_of_all X1 _ _ _ _ _ h1)
  obtain ⟨G, hG⟩ := exists_lift2 X2 (real_of_all X2 _ _ _ _ _ h2)
  obtain ⟨B, hB⟩ := exists_lift2 X3 (real_of_all X3 _ _ _ _ _ h3)
  obtain ⟨W, hW⟩ := exists_lift4 X4 (real_of_all X4 _ _ _ _ _ h4)
  obtain ⟨S, hS⟩ := exists_lift3 X5 (real_of_all X5 _ _ _ _ _ h5)
  obtain ⟨AD, hD⟩ := exists_lift3 X6 (real_of_all X6 _ _ _ _ _ h6)
  have u1 : ∀ {α : Type} (f : Fin 1 → α), f = fun _ => f 0 := fun f => funext fun i => congrArg f (Subsingleton.elim i 0)
  exact ⟨AU, AV, AD, G 0, B 0, W 0, S 0, hU, hV, hG.trans (congrArg lift2 (u1 G)), hB.trans (congrArg lift2 (u1 B)), hW.trans (congrArg lift4 (u1 W)),
    hS.trans (congrArg lift3 (u1 S)), hD⟩

open Cert.KernelSguIdeal Cert.KernelSguIdeal.Gen in
/-- The kernel's run on arrays of reals: its five results and its arguments. -/
theorem run (m : (ℓ : Loc nD τ sig) → Buf (Elt Ideal) ℓ) (g : Dev nD → PrngReg) (AU AV AD : Dev nD → Fin 2 → Fin 2048 → Fin 512 → ℝ) (G B : Dev nD → Fin 512 → ℝ)
    (W : Dev nD → Fin 4 → Fin 128 → Fin 128 → ℝ) (S : Dev nD → Fin 4 → Fin 128 → ℝ) (a : ∀ c, Value.Args m c (AU c) (AV c) (AD c) (G c) (B c) (W c) (S c)) :
    θ_run defs (onTc (τ := τ) (main (F := Ideal))) ⟨m, fun _ => 0, g⟩ fun r => ∀ c : Dev nD,
      r.2.mem ((c.tc : Thread nD τ).loc main_v8_0) = (lift2 (Sgu.duvA (AU c) (AV c) (AD c) (G c) (B c) (W c) (S c)) : FVec Ideal S4096x1024 .bf16)
      ∧ r.2.mem ((c.tc : Thread nD τ).loc main_v8_1) = (lift3 (Sgu.dwA (AU c) (AV c) (AD c) (G c) (B c)) : FVec Ideal S4x128x128 .f32)
      ∧ r.2.mem ((c.tc : Thread nD τ).loc main_v11) = (lift2 (Sgu.dbsA (AU c) (AD c)) : FVec Ideal S4x128 .f32)
      ∧ r.2.mem ((c.tc : Thread nD τ).loc main_v8_3) = (lift2 (fun _ => Sgu.dgA (AU c) (AV c) (AD c) (W c)) : FVec Ideal S1x512 .f32)
      ∧ r.2.mem ((c.tc : Thread nD τ).loc main_v8_4) = (lift2 (fun _ => Sgu.dbA (AU c) (AD c) (W c)) : FVec Ideal S1x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h.2 c).1 6).trans (Value.final6 (a c)), ((h.2 c).1 7).trans (Value.final7 (a c)),
    ((h.2 c).2 main_v11 (Pipeline.mem_restRefs_of main_v11 (by decide) (by decide))).trans (Value.tail_dbs (a c)),
    ((h.2 c).1 9).trans (Value.final9 (a c)), ((h.2 c).1 10).trans (Value.final10 (a c)), h.1 c⟩) (θ_run_and (unchanged m g) (run_main m g))

open Cert.ReferenceSguIdeal Cert.ReferenceSguIdeal.Gen in
/-- The reference's run on arrays of reals: the same five results and its arguments. -/
theorem runR (m : (ℓ : Loc nD τ sig) → Buf (Elt Ideal) ℓ) (g : Dev nD → PrngReg) (AU AV AD : Dev nD → Fin 2 → Fin 2048 → Fin 512 → ℝ) (G B : Dev nD → Fin 512 → ℝ)
    (W : Dev nD → Fin 4 → Fin 128 → Fin 128 → ℝ) (S : Dev nD → Fin 4 → Fin 128 → ℝ) (a : ∀ c, Value.Args (fun b => m (c, b)) (AU c) (AV c) (AD c) (G c) (B c) (W c) (S c)) :
    θ_run defs (onTc (τ := τ) (main (F := Ideal))) ⟨m, fun _ => 0, g⟩ fun r => ∀ c : Dev nD,
      r.2.mem ((c.tc : Thread nD τ).loc main_v163) = (lift2 (Sgu.duvA (AU c) (AV c) (AD c) (G c) (B c) (W c) (S c)) : FVec Ideal S4096x1024 .bf16)
      ∧ r.2.mem ((c.tc : Thread nD τ).loc main_v102) = (lift3 (Sgu.dwA (AU c) (AV c) (AD c) (G c) (B c)) : FVec Ideal S4x128x128 .f32)
      ∧ r.2.mem ((c.tc : Thread nD τ).loc main_v97) = (lift2 (Sgu.dbsA (AU c) (AD c)) : FVec Ideal S4x128 .f32)
      ∧ r.2.mem ((c.tc : Thread nD τ).loc main_v164) = (lift2 (fun _ => Sgu.dgA (AU c) (AV c) (AD c) (W c)) : FVec Ideal S1x512 .f32)
      ∧ r.2.mem ((c.tc : Thread nD τ).loc main_v165) = (lift2 (fun _ => Sgu.dbA (AU c) (AD c) (W c)) : FVec Ideal S1x512 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨(h c).1.trans (a c).res163, (h c).2.1.trans (a c).res102, (h c).2.2.1.trans (a c).res97,
    (h c).2.2.2.1.trans (a c).res164, (h c).2.2.2.2.1.trans (a c).res165, (h c).2.2.2.2.2⟩) (Value.run m g)

/-- At exact arithmetic and finite arguments the kernel's five gradients are the reference's. -/
theorem algebraic : Cert.algebraic_KernelSguIdeal_ReferenceSguIdeal_pre_finite_sgu := by
  intro m g m' g' hpre hag
  choose AU AV AD G B W S h0 h1 h2 h3 h4 h5 h6 using fun c => reals _ _ _ _ _ _ _ (hpre c)
  refine ⟨_, _, _, _, _, run m g AU AV AD G B W S fun c => ⟨h0 c, h1 c, h2 c, h3 c, h4 c, h5 c, h6 c⟩, runR m' g' AU AV AD G B W S fun c => ⟨?_, ?_, ?_, ?_, ?_, ?_, ?_⟩⟩
  · exact (hag c).1.trans (h0 c)
  · exact (hag c).2.1.trans (h1 c)
  · exact (hag c).2.2.1.trans (h2 c)
  · exact (hag c).2.2.2.1.trans (h3 c)
  · exact (hag c).2.2.2.2.1.trans (h4 c)
  · exact (hag c).2.2.2.2.2.1.trans (h5 c)
  · exact (hag c).2.2.2.2.2.2.trans (h6 c)

end Cert.Proof.Sgu

end
-- ==== Proof.DxMath.lean ====
/- The gradient of a modulated root-mean-square norm over ℝ, one row at a time, and sums over the tokens. -/
module

public import proofs.«01_k».proof.Proof.Reals

@[expose] public section

noncomputable section

namespace Cert.Dx

open Cert.Reals

/-- The mean square of a row with the norm's small constant, and the reciprocal of its root. -/
def ms (h : Fin 1024 → ℝ) : ℝ := (∑ d, h d * h d) * (1 / 1024) + 8796093 / 2 ^ 43
def rs (h : Fin 1024 → ℝ) : ℝ := (Real.sqrt (ms h))⁻¹

/-- The gradient by the normalised row. -/
def dn (x sc g : Fin 1024 → ℝ) (d : Fin 1024) : ℝ := x d * (1 + sc d) * g d

/-- The gradient by the row, by the scale and by the gain. -/
def dh (h x sc g : Fin 1024 → ℝ) (d : Fin 1024) : ℝ :=
  rs h * (dn x sc g d - h d * rs h * ((∑ e, dn x sc g e * (h e * rs h)) * (1 / 1024)))
def dsc (h x g : Fin 1024 → ℝ) (d : Fin 1024) : ℝ := x d * (h d * rs h * g d)
def dgn (h x sc : Fin 1024 → ℝ) (d : Fin 1024) : ℝ := x d * (1 + sc d) * (h d * rs h)

theorem ms_pos (h : Fin 1024 → ℝ) : 0 < ms h :=
  add_pos_of_nonneg_of_pos (mul_nonneg (Finset.sum_nonneg fun d _ => mul_self_nonneg _) (by norm_num)) (by norm_num)

/-- The gradient by the row as the chain rule through the mean square writes it. -/
def q (h x sc g : Fin 1024 → ℝ) : ℝ := (∑ e, h e * dn x sc g e) * (-1 / 2 * (rs h * (1 / ms h))) * (1 / 1024)

theorem rs_cube (h : Fin 1024 → ℝ) : rs h * (1 / ms h) = rs h * rs h * rs h := by
  have h1 : rs h * rs h = 1 / ms h := by
    unfold rs
    rw [← mul_inv, Real.mul_self_sqrt (ms_pos h).le, one_div]
  rw [mul_assoc (rs h), h1]

theorem dh_eq (h x sc g : Fin 1024 → ℝ) (d : Fin 1024) : dn x sc g d * rs h + h d * q h x sc g + q h x sc g * h d = dh h x sc g d := by
  unfold dh q
  rw [rs_cube, show (∑ e, dn x sc g e * (h e * rs h)) = (∑ e, h e * dn x sc g e) * rs h from
    (Finset.sum_congr rfl fun e _ => by ring).trans (Finset.sum_mul _ _ _).symm]
  ring

/-- The gradient by the norm's result, through the two feed-forward matrices and through the mixer's three groups of columns. -/
def ffn (DG DU : Fin 2 → Fin 2048 → Fin 2816 → ℝ) (WG WU : Fin 1024 → Fin 2816 → ℝ) (b : Fin 2) (s : Fin 2048) (d : Fin 1024) : ℝ :=
  ∑ k, DG b s k * WG d k + ∑ k, DU b s k * WU d k
def mix (DA : Fin 2 → Fin 2048 → Fin 1024 → ℝ) (DB : Fin 2 → Fin 2048 → Fin 768 → ℝ) (DC : Fin 2 → Fin 2048 → Fin 2048 → ℝ) (W : Fin 1024 → Fin 3840 → ℝ)
    (b : Fin 2) (s : Fin 2048) (d : Fin 1024) : ℝ :=
  ∑ k : Fin 1024, DA b s k * W d ⟨k.val, by omega⟩ + ∑ k : Fin 768, DB b s k * W d ⟨1024 + k.val, by omega⟩ + ∑ k : Fin 2048, DC b s k * W d ⟨1792 + k.val, by omega⟩

/-- A token of two sequences, its number counted through both. -/
def tok {α : Type} (H : Fin 2 → Fin 2048 → α) (n : ℕ) : α := H ⟨n / 2048 % 2, Nat.mod_lt _ (by decide)⟩ ⟨n % 2048, Nat.mod_lt _ (by decide)⟩

theorem tok_at {α : Type} (H : Fin 2 → Fin 2048 → α) (n : ℕ) (b : Fin 2) (s : Fin 2048) (h : 2048 * b.val + s.val = n) : tok H n = H b s := by
  unfold tok
  congr 1 <;> refine Fin.ext ?_ <;> (simp only []) <;> omega

/-- The rows of a tile of 512 tokens, and its sequence. -/
abbrev hR (H : Fin 2 → Fin 2048 → Fin 1024 → ℝ) (n : ℕ) (r : Fin 512) : Fin 1024 → ℝ := tok H (512 * n + r.val)
abbrev seq (n : ℕ) : Fin 2 := ⟨n / 4 % 2, by omega⟩

section
variable (H X : Fin 2 → Fin 2048 → Fin 1024 → ℝ) (SC : Fin 2 → Fin 1024 → ℝ) (G : Fin 1024 → ℝ)

/-- A tile's parts of the gradients of the shift, the scale and the gain. -/
def pSh (n : ℕ) (d : Fin 1024) : ℝ := ∑ r, hR X n r d
def pSc (n : ℕ) (d : Fin 1024) : ℝ := ∑ r, dsc (hR H n r) (hR X n r) G d
def pGn (n : ℕ) (d : Fin 1024) : ℝ := ∑ r, dgn (hR H n r) (hR X n r) (SC (seq n)) d

/-- The gradients of the rows, of the shift, of the scale and of the gain. -/
def dhA (b : Fin 2) (s : Fin 2048) (d : Fin 1024) : ℝ := dh (H b s) (X b s) (SC b) G d
def shA (b : Fin 2) (d : Fin 1024) : ℝ := ∑ s, X b s d
def scA (b : Fin 2) (d : Fin 1024) : ℝ := ∑ s, dsc (H b s) (X b s) G d
def gnA (d : Fin 1024) : ℝ := ∑ b, ∑ s, dgn (H b s) (X b s) (SC b) d
end

/-- The sum over a sequence, in tiles of 512 tokens. -/
theorem sum_seq (F : ℕ → ℝ) (b : ℕ) : ∑ p ∈ Finset.range 4, ∑ r : Fin 512, F (512 * (4 * b + p) + r.val) = ∑ s : Fin 2048, F (2048 * b + s.val) := by
  rw [Finset.sum_range, Idealize.ShloMosaic.Fin.sum_univ_tiles 4 512 rfl]
  refine Finset.sum_congr rfl fun p _ => Finset.sum_congr rfl fun r _ => congrArg F ?_
  simp only []
  ring

/-- The sum over both sequences, in tiles of 512 tokens. -/
theorem sum_all (F : ℕ → ℝ) : ∑ p ∈ Finset.range 8, ∑ r : Fin 512, F (512 * p + r.val) = ∑ b : Fin 2, ∑ s : Fin 2048, F (2048 * b.val + s.val) := by
  rw [Fin.sum_univ_two, ← sum_seq, ← sum_seq, show (8 : ℕ) = 4 + 4 from rfl, Finset.sum_range_add]
  refine congrArg₂ (· + ·) ?_ ?_ <;> refine Finset.sum_congr rfl fun p _ => Finset.sum_congr rfl fun r _ => congrArg F ?_ <;> simp

theorem tok_eq {α : Type} (H : Fin 2 → Fin 2048 → α) (b : Fin 2) (s : Fin 2048) : tok H (2048 * b.val + s.val) = H b s := tok_at H _ b s rfl

theorem sh_total (X : Fin 2 → Fin 2048 → Fin 1024 → ℝ) (b : Fin 2) (d : Fin 1024) : ∑ p ∈ Finset.range 4, pSh X (4 * b.val + p) d = shA X b d := by
  unfold pSh hR shA
  rw [sum_seq fun n => tok X n d]
  exact Finset.sum_congr rfl fun s _ => congrFun (tok_eq X b s) d

theorem sc_total (H X : Fin 2 → Fin 2048 → Fin 1024 → ℝ) (G : Fin 1024 → ℝ) (b : Fin 2) (d : Fin 1024) :
    ∑ p ∈ Finset.range 4, pSc H X G (4 * b.val + p) d = scA H X G b d := by
  unfold pSc hR scA
  rw [sum_seq fun n => dsc (tok H n) (tok X n) G d]
  exact Finset.sum_congr rfl fun s _ => by rw [tok_eq, tok_eq]

theorem gn_total (H X : Fin 2 → Fin 2048 → Fin 1024 → ℝ) (SC : Fin 2 → Fin 1024 → ℝ) (d : Fin 1024) :
    ∑ p ∈ Finset.range 8, pGn H X SC p d = gnA H X SC d := by
  unfold pGn hR gnA
  refine Eq.trans (Finset.sum_congr rfl fun p hp => Finset.sum_congr rfl fun r _ => ?_) ((sum_all fun n => dgn (tok H n) (tok X n) (tok (fun b _ => SC b) n) d).trans
    (Finset.sum_congr rfl fun b _ => Finset.sum_congr rfl fun s _ => by rw [tok_eq, tok_eq, tok_eq]))
  refine congrArg (fun b => dgn (tok H (512 * p + r.val)) (tok X (512 * p + r.val)) (SC b) d) (Fin.ext ?_)
  simp only []
  omega

/-- An array plus an array of reals, the two sequences' tokens one below the other. -/
def addAt (Y : (⟨3, ![2, 2048, 1024]⟩ : Idealize.ShloMosaic.Shape).Idx → EReal) (f : Fin 2 → Fin 2048 → Fin 1024 → ℝ) (n : ℕ) (d : Fin 1024) : EReal :=
  tok (fun b s => Y (Idealize.ShloMosaic.ix3 b s d) + ((f b s d : ℝ) : EReal)) n
def resid (Y : (⟨3, ![2, 2048, 1024]⟩ : Idealize.ShloMosaic.Shape).Idx → EReal) (f : Fin 2 → Fin 2048 → Fin 1024 → ℝ) :
    (⟨2, ![4096, 1024]⟩ : Idealize.ShloMosaic.Shape).Idx → EReal := fun i => addAt Y f (i 0).val (i 1)

theorem resid_of (Y : (⟨3, ![2, 2048, 1024]⟩ : Idealize.ShloMosaic.Shape).Idx → EReal) (f : Fin 2 → Fin 2048 → Fin 1024 → ℝ) (n : ℕ) (d : Fin 1024)
    (i : (⟨2, ![4096, 1024]⟩ : Idealize.ShloMosaic.Shape).Idx) (e0 : n = (i 0).val) (e1 : d.val = (i 1).val) : addAt Y f n d = resid Y f i := by
  subst e0
  obtain rfl : d = i 1 := Fin.ext e1
  rfl

/-- A sequence's four tiles in its row of an array, and all eight tiles in a single row. -/
theorem seq_of (P : ℕ → Fin 1024 → ℝ) (X : Fin 2 → Fin 1024 → ℝ) (hP : ∀ (b : Fin 2) d, ∑ p ∈ Finset.range 4, P (4 * b.val + p) d = X b d) (n : ℕ) (hn : n % 4 = 3)
    (i : (⟨3, ![2, 1, 1024]⟩ : Idealize.ShloMosaic.Shape).Idx) (d : Fin 1024) (e0 : n / 4 = (i 0).val) (e2 : d.val = (i 2).val) :
    ((∑ p ∈ Finset.range (n % 4 + 1), P (4 * (n / 4) + p) d : ℝ) : EReal) = lift3 (fun b (_ : Fin 1) => X b) i := by
  obtain rfl : d = i 2 := Fin.ext e2
  rw [hn, e0]
  exact congrArg (fun x : ℝ => (x : EReal)) (hP (i 0) (i 2))

end Cert.Dx

end
-- ==== Proof.DxPoint.lean ====
/- One grid point of a norm's backward call: what it leaves, from the block of the gradient by the norm's result. -/
module

public import proofs.«01_k».proof.Proof.DxMath
public import proofs.«01_k».proof.Proof.Consts
public import proofs.«01_k».proof.Proof.Gen.KernelDxIdeal.Skeleton
public import Idealize.ShloMosaic.Lib.Pointwise

@[expose] public section

set_option maxRecDepth 16384

noncomputable section

namespace Cert.KernelDxIdeal.Value

open Cert.KernelDxIdeal Cert.KernelDxIdeal.Gen Idealize.ShloMosaic
open Cert.Reals Cert.Consts

/-- A point's four results from the gradient `X` by the norm's result, the rows `h`, the gain `g` and the scale `sc`. -/
def bDh (X : FVec Ideal S512x1024 .f32) (h : FVec Ideal S512x1024 .f32) (g : FVec Ideal S1x1024 .f32) (sc : FVec Ideal S1x1x1x1024 .f32) (y : FVec Ideal S512x1024 .f32) :
    FVec Ideal S512x1024 .f32 := k0_pay17 (F := Ideal) X (k0_pay9 h) (k0_pay10 h) (k0_pay11 h) g sc y
def bSh (X : FVec Ideal S512x1024 .f32) : FVec Ideal S1x1024 .f32 := k0_pay14 (F := Ideal) X
def bSc (X : FVec Ideal S512x1024 .f32) (h : FVec Ideal S512x1024 .f32) (g : FVec Ideal S1x1024 .f32) : FVec Ideal S1x1024 .f32 :=
  k0_pay15 (F := Ideal) X (k0_pay9 h) (k0_pay11 h) g
def bGn (X : FVec Ideal S512x1024 .f32) (h : FVec Ideal S512x1024 .f32) (sc : FVec Ideal S1x1x1x1024 .f32) : FVec Ideal S1x1024 .f32 :=
  k0_pay16 (F := Ideal) X (k0_pay9 h) (k0_pay11 h) sc

variable (x h : Fin 512 → Fin 1024 → ℝ) (g sc : Fin 1024 → ℝ)

theorem rs_eq : k0_pay10 (F := Ideal) (lift2 h) = lift2 fun r (_ : Fin 1) => Dx.rs (h r) := by
  funext i; idx_vars i
  pointwise [k0_pay10, k0_pay9, lift2_at, d1024, eps]
  simp only [mul_coe, add_coe, sum_coe, div_coe _ (1024 : ℝ) (by norm_num)]
  exact rsqrt_coe _ (Dx.ms_pos (h i0))

theorem sh_eq : bSh (lift2 x) = lift2 fun (_ : Fin 1) d => ∑ r, x r d := by
  funext i; idx_vars i
  pointwise [bSh, k0_pay14, lift2_at]
  simp only [sum_coe]

theorem sc_eq : bSc (lift2 x) (lift2 h) (lift2 fun _ => g) = lift2 fun (_ : Fin 1) d => ∑ r, Dx.dsc (h r) (x r) g d := by
  unfold bSc k0_pay11
  rw [rs_eq]
  funext i; idx_vars i
  pointwise [k0_pay15, k0_pay12, k0_pay9, lift2_at]
  simp only [mul_coe, sum_coe]
  rfl

theorem gn_eq : bGn (lift2 x) (lift2 h) (lift4 fun _ _ _ => sc) = lift2 fun (_ : Fin 1) d => ∑ r, Dx.dgn (h r) (x r) sc d := by
  unfold bGn k0_pay11
  rw [rs_eq]
  funext i; idx_vars i
  pointwise [k0_pay16, k0_pay12, k0_pay13, k0_pay9, lift2_at, lift4_at]
  simp only [mul_coe, add_coe, one_coe, sum_coe]
  rfl

theorem dh_at (y : FVec Ideal S512x1024 .f32) (r : Fin 512) (d : Fin 1024) : bDh (lift2 x) (lift2 h) (lift2 fun _ => g) (lift4 fun _ _ _ => sc) y (ix2 r d)
    = y (ix2 r d) + ((Dx.dh (h r) (x r) sc g d : ℝ) : EReal) := by
  unfold bDh k0_pay11
  rw [rs_eq]
  pointwise [k0_pay17, k0_pay12, k0_pay13, k0_pay9, lift2_at, lift4_at, d1024]
  simp only [mul_coe, add_coe, sub_coe, one_coe, sum_coe, div_coe _ (1024 : ℝ) (by norm_num)]
  rfl

/-- The first tile of a sum leaves its own part, and a later one adds to what it finds. -/
theorem first3 (v : FVec Ideal S1x1024 .f32) (f : Fin 1024 → ℝ) (hv : v = lift2 fun _ => f) (i : S1x1x1024.Idx) : k0_pay1 (F := Ideal) v i = ((f (i 2) : ℝ) : EReal) := by
  subst hv; idx_vars i
  pointwise [k0_pay1, lift2_at]
theorem next3 (v : FVec Ideal S1x1024 .f32) (f : Fin 1024 → ℝ) (hv : v = lift2 fun _ => f) (o : FVec Ideal S1x1x1024 .f32) (i : S1x1x1024.Idx) (z : ℝ)
    (ho : o (ix3 0 0 (i 2)) = ((z : ℝ) : EReal)) : k0_pay3 (F := Ideal) v o i = ((z + f (i 2) : ℝ) : EReal) := by
  subst hv; idx_vars i
  pointwise [k0_pay3, lift2_at]
  rw [← add_coe]
  exact congrArg (· + _) ho
theorem next2 (v : FVec Ideal S1x1024 .f32) (f : Fin 1024 → ℝ) (hv : v = lift2 fun _ => f) (o : FVec Ideal S1x1024 .f32) (i : S1x1024.Idx) (z : ℝ)
    (ho : o (ix2 0 (i 1)) = ((z : ℝ) : EReal)) : k0_pay5 (F := Ideal) v o i = ((z + f (i 1) : ℝ) : EReal) := by
  subst hv; idx_vars i
  pointwise [k0_pay5, lift2_at]
  rw [← add_coe]
  obtain rfl : i0 = 0 := Subsingleton.elim _ _
  exact congrArg (· + _) ho

end Cert.KernelDxIdeal.Value

end
-- ==== Proof.DxValue.lean ====
/- The norm's backward call after the feed-forward products, over ℝ: its blocks, and the arrays it leaves. -/
module

public import proofs.«01_k».proof.Proof.DxPoint
public import proofs.«01_k».proof.Proof.Gen.KernelDxIdeal.Frame
public import Idealize.ShloMosaic.Lib.Pipeline.ValueKit

@[expose] public section

set_option maxRecDepth 16384

noncomputable section

namespace Cert.KernelDxIdeal.Value

open Cert.KernelDxIdeal Cert.KernelDxIdeal.Gen Idealize.ShloMosaic Idealize.ShloMosaic.TcCoe Idealize.SL.Sem
open Cert.Reals Cert.Consts
open Idealize.ShloMosaic.Pipeline (Dat)

variable (m : (ℓ : Loc nD τ sig) → Buf (Elt Ideal) ℓ)

/-- Every window's block index, over all eight grid points. -/
theorem idx : ∀ t : Fin cfg0.N, win0_0.index t = ![0, t.val, 0] ∧ win0_1.index t = ![0, t.val, 0] ∧ win0_2.index t = ![0, 0, 0] ∧ win0_3.index t = ![0, 0, 0]
    ∧ win0_4.index t = ![t.val, 0] ∧ win0_5.index t = ![t.val, 0] ∧ win0_6.index t = ![0, 0] ∧ win0_7.index t = ![t.val / 4, 7, 0, 0]
    ∧ win0_8.index t = ![t.val, 0] ∧ win0_9.index t = ![t.val / 4, 0, 0] ∧ win0_10.index t = ![t.val / 4, 0, 0] ∧ win0_11.index t = ![0, 0] ∧ t.val < 8 :=
  (by decide +kernel : ∀ t : Fin grid0.N, _)

/-! ## The arrays the call reads -/

theorem rows_at (X : FVec Ideal S2x2048x1024 .f32) (i : S4096x1024.Idx) (b : Fin 2) (s : Fin 2048) (d : Fin 1024)
    (h : 2048 * b.val + s.val = (i 0).val) (hd : d.val = (i 1).val) : shapeCast S4096x1024 X shapeCasts_S2x2048x1024_S4096x1024 i = X (ix3 b s d) := by
  idx_vars i
  pointwise
  blk_ext []

theorem parts_at (X : FVec Ideal S2x2048x2816 .f32) (i : S4x4096x704.Idx) (b : Fin 2) (s : Fin 2048) (k : Fin 2816)
    (h : 2048 * b.val + s.val = (i 1).val) (hd : k.val = 704 * (i 0).val + (i 2).val) : (truncf .bf16 (transpose S4x4096x704 [1, 0, 2] (shapeCast S4096x4x704
    X shapeCasts_S2x2048x2816_S4096x4x704) transposes_S4096x4x704_S4x4096x704_1_0_2) bitsLt_bf16_f32 : FVec Ideal S4x4096x704 .bf16) i = X (ix3 b s k) := by
  idx_vars i
  pointwise
  blk_ext []

theorem wparts_at (X : FVec Ideal S1024x2816 .f32) (i : S4x704x1024.Idx) (k : Fin 2816) (d : Fin 1024)
    (hk : k.val = 704 * (i 0).val + (i 1).val) (hd : d.val = (i 2).val) :
    (truncf .bf16 (shapeCast S4x704x1024 (transpose S2816x1024 [1, 0] X transposes_S1024x2816_S2816x1024_1_0) shapeCasts_S2816x1024_S4x704x1024) bitsLt_bf16_f32 : FVec Ideal S4x704x1024 .bf16) i
      = X (ix2 d k) := by
  idx_vars i
  pointwise
  blk_ext []

theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

theorem V_dg (c : Dev nD) : (V m c main_v3 : S4x4096x704.Idx → EReal) = (truncf .bf16 (transpose S4x4096x704 [1, 0, 2] (shapeCast S4096x4x704
    (m ((c : Thread nD τ).loc main_arg6) : FVec Ideal S2x2048x2816 .f32) shapeCasts_S2x2048x2816_S4096x4x704) transposes_S4096x4x704_S4x4096x704_1_0_2) bitsLt_bf16_f32 : FVec Ideal S4x4096x704 .bf16) := by
  unfold V
  after_results; rfl

theorem V_du (c : Dev nD) : (V m c main_v6 : S4x4096x704.Idx → EReal) = (truncf .bf16 (transpose S4x4096x704 [1, 0, 2] (shapeCast S4096x4x704
    (m ((c : Thread nD τ).loc main_arg7) : FVec Ideal S2x2048x2816 .f32) shapeCasts_S2x2048x2816_S4096x4x704) transposes_S4096x4x704_S4x4096x704_1_0_2) bitsLt_bf16_f32 : FVec Ideal S4x4096x704 .bf16) := by
  unfold V
  after_results; rfl

theorem V_wg (c : Dev nD) : (V m c main_v9 : S4x704x1024.Idx → EReal) = (truncf .bf16 (shapeCast S4x704x1024 (transpose S2816x1024 [1, 0]
    (m ((c : Thread nD τ).loc main_arg3) : FVec Ideal S1024x2816 .f32) transposes_S1024x2816_S2816x1024_1_0) shapeCasts_S2816x1024_S4x704x1024) bitsLt_bf16_f32 : FVec Ideal S4x704x1024 .bf16) := by
  unfold V
  after_results; rfl

theorem V_wu (c : Dev nD) : (V m c main_v12 : S4x704x1024.Idx → EReal) = (truncf .bf16 (shapeCast S4x704x1024 (transpose S2816x1024 [1, 0]
    (m ((c : Thread nD τ).loc main_arg4) : FVec Ideal S1024x2816 .f32) transposes_S1024x2816_S2816x1024_1_0) shapeCasts_S2816x1024_S4x704x1024) bitsLt_bf16_f32 : FVec Ideal S4x704x1024 .bf16) := by
  unfold V
  after_results; rfl

theorem V_h (c : Dev nD) : V m c main_v13 = shapeCast S4096x1024 (m ((c : Thread nD τ).loc main_arg0)) shapeCasts_S2x2048x1024_S4096x1024 := by
  unfold V
  after_results; rfl

theorem V_y (c : Dev nD) : V m c main_v14 = shapeCast S4096x1024 (m ((c : Thread nD τ).loc main_arg5)) shapeCasts_S2x2048x1024_S4096x1024 := by
  unfold V
  after_results; rfl

theorem V_m (c : Dev nD) : V m c main_v0 = shapeCast S2x9x1x1024 (m ((c : Thread nD τ).loc main_arg1)) shapeCasts_S2x9216_S2x9x1x1024 := by
  unfold V
  after_results; rfl

/-- The arguments of one device as arrays of reals; the scale is the eighth of the nine modulation vectors. -/
structure Args (c : Dev nD) (H : Fin 2 → Fin 2048 → Fin 1024 → ℝ) (M : Fin 2 → Fin 9216 → ℝ) (G : Fin 1024 → ℝ) (WG WU : Fin 1024 → Fin 2816 → ℝ)
    (DG DU : Fin 2 → Fin 2048 → Fin 2816 → ℝ) : Prop where
  h : (m ((c : Thread nD τ).loc main_arg0) : S2x2048x1024.Idx → EReal) = lift3 H
  mo : (m ((c : Thread nD τ).loc main_arg1) : S2x9216.Idx → EReal) = lift2 M
  g : (m ((c : Thread nD τ).loc main_arg2) : S1x1024.Idx → EReal) = lift2 fun _ => G
  wg : (m ((c : Thread nD τ).loc main_arg3) : S1024x2816.Idx → EReal) = lift2 WG
  wu : (m ((c : Thread nD τ).loc main_arg4) : S1024x2816.Idx → EReal) = lift2 WU
  dg : (m ((c : Thread nD τ).loc main_arg6) : S2x2048x2816.Idx → EReal) = lift3 DG
  du : (m ((c : Thread nD τ).loc main_arg7) : S2x2048x2816.Idx → EReal) = lift3 DU

/-- The scale of a sequence: the columns from 7168 of the modulation vectors. -/
def scale (M : Fin 2 → Fin 9216 → ℝ) (b : Fin 2) (d : Fin 1024) : ℝ := M b ⟨7168 + d.val, by omega⟩

variable {m} {c : Dev nD} {H : Fin 2 → Fin 2048 → Fin 1024 → ℝ} {M : Fin 2 → Fin 9216 → ℝ} {G : Fin 1024 → ℝ} {WG WU : Fin 1024 → Fin 2816 → ℝ}
  {DG DU : Fin 2 → Fin 2048 → Fin 2816 → ℝ}

theorem Args.blk_d (t : Fin cfg0.N) (D : Fin 2 → Fin 2048 → Fin 2816 → ℝ) (a6 : (m ((c : Thread nD τ).loc main_arg6) : S2x2048x2816.Idx → EReal) = lift3 D) :
    (iblk m c 0 t : S4x512x704.Idx → EReal) = lift3 fun (q : Fin 4) (r : Fin 512) (k : Fin 704) => Dx.tok D (512 * t.val + r.val) ⟨q.val * 704 + k.val, by omega⟩ := by
  have ht : t.val < 8 := (idx t).2.2.2.2.2.2.2.2.2.2.2.2
  have e0 := (idx t).1
  funext i; idx_vars i
  refine Eq.trans ?_ (congrFun a6 (ix3 ⟨(512 * t.val + i1.val) / 2048 % 2, by omega⟩ ⟨(512 * t.val + i1.val) % 2048, by omega⟩ ⟨i0.val * 704 + i2.val, by omega⟩))
  refine (congrFun (V_dg m c) (((cfg0.win 0).blk t).view.emb _)).trans (parts_at _ _ _ _ _ ?_ ?_) <;>
    (blk_simp [e0] <;> (try simp only []) <;> (try omega))

theorem Args.blk_u (t : Fin cfg0.N) (D : Fin 2 → Fin 2048 → Fin 2816 → ℝ) (a7 : (m ((c : Thread nD τ).loc main_arg7) : S2x2048x2816.Idx → EReal) = lift3 D) :
    (iblk m c 1 t : S4x512x704.Idx → EReal) = lift3 fun (q : Fin 4) (r : Fin 512) (k : Fin 704) => Dx.tok D (512 * t.val + r.val) ⟨q.val * 704 + k.val, by omega⟩ := by
  have ht : t.val < 8 := (idx t).2.2.2.2.2.2.2.2.2.2.2.2
  have e1 := (idx t).2.1
  funext i; idx_vars i
  refine Eq.trans ?_ (congrFun a7 (ix3 ⟨(512 * t.val + i1.val) / 2048 % 2, by omega⟩ ⟨(512 * t.val + i1.val) % 2048, by omega⟩ ⟨i0.val * 704 + i2.val, by omega⟩))
  refine (congrFun (V_du m c) (((cfg0.win 1).blk t).view.emb _)).trans (parts_at _ _ _ _ _ ?_ ?_) <;>
    (blk_simp [e1] <;> (try simp only []) <;> (try omega))

theorem Args.blk_wg (a : Args m c H M G WG WU DG DU) (t : Fin cfg0.N) :
    (iblk m c 2 t : S4x704x1024.Idx → EReal) = lift3 fun (q : Fin 4) (k : Fin 704) (d : Fin 1024) => WG d ⟨q.val * 704 + k.val, by omega⟩ := by
  have e2 := (idx t).2.2.1
  funext i; idx_vars i
  refine Eq.trans ?_ (congrFun a.wg (ix2 i2 ⟨i0.val * 704 + i1.val, by omega⟩))
  refine (congrFun (V_wg m c) (((cfg0.win 2).blk t).view.emb _)).trans (wparts_at _ _ _ _ ?_ ?_) <;>
    (blk_simp [e2] <;> (try simp only []) <;> (try omega))

theorem Args.blk_wu (a : Args m c H M G WG WU DG DU) (t : Fin cfg0.N) :
    (iblk m c 3 t : S4x704x1024.Idx → EReal) = lift3 fun (q : Fin 4) (k : Fin 704) (d : Fin 1024) => WU d ⟨q.val * 704 + k.val, by omega⟩ := by
  have e3 := (idx t).2.2.2.1
  funext i; idx_vars i
  refine Eq.trans ?_ (congrFun a.wu (ix2 i2 ⟨i0.val * 704 + i1.val, by omega⟩))
  refine (congrFun (V_wu m c) (((cfg0.win 3).blk t).view.emb _)).trans (wparts_at _ _ _ _ ?_ ?_) <;>
    (blk_simp [e3] <;> (try simp only []) <;> (try omega))

theorem Args.blk_h (a : Args m c H M G WG WU DG DU) (t : Fin cfg0.N) :
    (iblk m c 4 t : S512x1024.Idx → EReal) = lift2 fun (r : Fin 512) (d : Fin 1024) => Dx.tok H (512 * t.val + r.val) d := by
  have ht : t.val < 8 := (idx t).2.2.2.2.2.2.2.2.2.2.2.2
  have e4 := (idx t).2.2.2.2.1
  funext i; idx_vars i
  refine Eq.trans ?_ (congrFun a.h (ix3 ⟨(512 * t.val + i0.val) / 2048 % 2, by omega⟩ ⟨(512 * t.val + i0.val) % 2048, by omega⟩ i1))
  refine (congrFun (V_h m c) (((cfg0.win 4).blk t).view.emb _)).trans (rows_at _ _ _ _ _ ?_ ?_) <;>
    (blk_simp [e4] <;> (try simp only []) <;> (try omega))

theorem blk_y (t : Fin cfg0.N) (r : Fin 512) (d : Fin 1024) : (iblk m c 5 t : S512x1024.Idx → EReal) (ix2 r d)
    = Dx.tok (fun b s => (m ((c : Thread nD τ).loc main_arg5) : S2x2048x1024.Idx → EReal) (ix3 b s d)) (512 * t.val + r.val) := by
  have ht : t.val < 8 := (idx t).2.2.2.2.2.2.2.2.2.2.2.2
  have e5 := (idx t).2.2.2.2.2.1
  refine (congrFun (V_y m c) (((cfg0.win 5).blk t).view.emb _)).trans (rows_at _ _ _ _ _ ?_ ?_) <;>
    (blk_simp [e5] <;> (try simp only []) <;> (try omega))

theorem Args.blk_g (a : Args m c H M G WG WU DG DU) (t : Fin cfg0.N) : (iblk m c 6 t : S1x1024.Idx → EReal) = lift2 fun _ => G := by
  have e6 := (idx t).2.2.2.2.2.2.1
  refine Eq.trans ?_ a.g
  blk_ext! [iblk, V, e6]

theorem Args.blk_m (a : Args m c H M G WG WU DG DU) (t : Fin cfg0.N) (b : Fin 2) (hb : b.val = t.val / 4) :
    (iblk m c 7 t : S1x1x1x1024.Idx → EReal) = lift4 fun (_ _ _ : Fin 1) => scale M b := by
  have e7 := (idx t).2.2.2.2.2.2.2.1
  funext i; idx_vars i
  refine Eq.trans ?_ (congrFun a.mo (ix2 b ⟨7168 + i3.val, by omega⟩))
  refine (congrFun (V_m m c) (((cfg0.win 7).blk t).view.emb _)).trans (mods_at _ _ _ _ ?_ ?_) <;>
    (blk_simp [e7] <;> (try simp only []) <;> (try omega))

end Cert.KernelDxIdeal.Value

end
-- ==== Proof.DxOuts.lean ====
/- What every grid point of the norm's backward call after the feed-forward products leaves, over ℝ. -/
module

public import proofs.«01_k».proof.Proof.DxValue

@[expose] public section

set_option maxRecDepth 16384

noncomputable section

namespace Cert.KernelDxIdeal.Value

open Cert.KernelDxIdeal Cert.KernelDxIdeal.Gen Idealize.ShloMosaic Idealize.ShloMosaic.TcCoe Idealize.SL.Sem
open Cert.Reals Cert.Consts
open Idealize.ShloMosaic.Pipeline (Dat)

variable {m : (ℓ : Loc nD τ sig) → Buf (Elt Ideal) ℓ} {c : Dev nD} {H : Fin 2 → Fin 2048 → Fin 1024 → ℝ} {M : Fin 2 → Fin 9216 → ℝ} {G : Fin 1024 → ℝ}
  {WG WU : Fin 1024 → Fin 2816 → ℝ} {DG DU : Fin 2 → Fin 2048 → Fin 2816 → ℝ}

theorem inbD (q : Fin 4) : ∀ a, ![q.val, 0, 0] a + S1x512x704.size a ≤ (S4x512x704).size a := by
  revert q; decide
theorem inbW (q : Fin 4) : ∀ a, ![q.val, 0, 0] a + S1x704x1024.size a ≤ (S4x704x1024).size a := by
  revert q; decide

abbrev ldD (x : FVec Ideal S4x512x704 .bf16) (q : Fin 4) : FVec Ideal S1x512x704 .bf16 :=
  @View.ld (Elt Ideal) S4x512x704 .bf16 x (Rect.unit (s := S4x512x704) ![q.val, 0, 0] S1x512x704.size (inbD q))
abbrev ldW (x : FVec Ideal S4x704x1024 .bf16) (q : Fin 4) : FVec Ideal S1x704x1024 .bf16 :=
  @View.ld (Elt Ideal) S4x704x1024 .bf16 x (Rect.unit (s := S4x704x1024) ![q.val, 0, 0] S1x704x1024.size (inbW q))

theorem ldD_eq (A : Fin 4 → Fin 512 → Fin 704 → ℝ) (q : Fin 4) : ldD (lift3 A) q = lift3 fun _ => A q := by
  funext i; idx_vars i
  pointwise [ldD, lift3_at]
theorem ldW_eq (A : Fin 4 → Fin 704 → Fin 1024 → ℝ) (q : Fin 4) : ldW (lift3 A) q = lift3 fun _ => A q := by
  funext i; idx_vars i
  pointwise [ldW, lift3_at]

/-- The gradient by the norm's result at a point: two products with matrices in four parts. -/
abbrev bX (x0 x1 : FVec Ideal S4x512x704 .bf16) (x2 x3 : FVec Ideal S4x704x1024 .bf16) : FVec Ideal S512x1024 .f32 :=
  k0_pay8 (F := Ideal) (k0_pay6 (ldD x0 0) (ldW x2 0) (ldD x0 1) (ldW x2 1) (ldD x0 2) (ldW x2 2) (ldD x0 3) (ldW x2 3))
    (k0_pay7 (ldD x1 0)) (ldW x3 0) (ldD x1 1) (ldW x3 1) (ldD x1 2) (ldW x3 2) (ldD x1 3) (ldW x3 3)

theorem bX_eq (A B : Fin 4 → Fin 512 → Fin 704 → ℝ) (C D : Fin 4 → Fin 704 → Fin 1024 → ℝ) : bX (lift3 A) (lift3 B) (lift3 C) (lift3 D)
    = lift2 fun r d => ∑ q, ∑ k, A q r k * C q k d + ∑ q, ∑ k, B q r k * D q k d := by
  unfold bX
  rw [ldD_eq, ldD_eq, ldD_eq, ldD_eq, ldD_eq, ldD_eq, ldD_eq, ldD_eq, ldW_eq, ldW_eq, ldW_eq, ldW_eq, ldW_eq, ldW_eq, ldW_eq, ldW_eq]
  funext i; idx_vars i
  pointwise [k0_pay8, k0_pay6, k0_pay7, lift2_at, lift3_at]
  simp only [mul_coe, add_coe, sum_coe, Fin.sum_univ_four]
  exact congrArg (fun x : ℝ => (x : EReal)) (by ring)

theorem Args.blk_x (a : Args m c H M G WG WU DG DU) (t : Fin cfg0.N) : bX (iblk m c 0 t) (iblk m c 1 t) (iblk m c 2 t) (iblk m c 3 t)
    = lift2 fun (r : Fin 512) (d : Fin 1024) => Dx.tok (Dx.ffn DG DU WG WU) (512 * t.val + r.val) d := by
  rw [Args.blk_d t DG a.dg, Args.blk_u t DU a.du, a.blk_wg, a.blk_wu, bX_eq]
  funext i; idx_vars i
  rw [lift2_at, lift2_at]
  unfold Dx.ffn Dx.tok
  dsimp only
  rw [Fin.sum_univ_tiles 4 704 rfl, Fin.sum_univ_tiles 4 704 rfl]

theorem Args.sh (a : Args m c H M G WG WU DG DU) (t : Fin cfg0.N) : bSh (bX (iblk m c 0 t) (iblk m c 1 t) (iblk m c 2 t) (iblk m c 3 t))
    = lift2 fun _ => Dx.pSh (Dx.ffn DG DU WG WU) t.val := by
  rw [a.blk_x, sh_eq]
  rfl
theorem Args.sc (a : Args m c H M G WG WU DG DU) (t : Fin cfg0.N) : bSc (bX (iblk m c 0 t) (iblk m c 1 t) (iblk m c 2 t) (iblk m c 3 t)) (iblk m c 4 t) (iblk m c 6 t)
    = lift2 fun _ => Dx.pSc H (Dx.ffn DG DU WG WU) G t.val := by
  rw [a.blk_x, a.blk_h, a.blk_g, sc_eq]
  rfl
theorem Args.gn (a : Args m c H M G WG WU DG DU) (t : Fin cfg0.N) : bGn (bX (iblk m c 0 t) (iblk m c 1 t) (iblk m c 2 t) (iblk m c 3 t)) (iblk m c 4 t) (iblk m c 7 t)
    = lift2 fun _ => Dx.pGn H (Dx.ffn DG DU WG WU) (scale M) t.val := by
  have ht : t.val < 8 := (idx t).2.2.2.2.2.2.2.2.2.2.2.2
  rw [a.blk_x, a.blk_h, a.blk_m t (Dx.seq t.val) (by simp only []; omega), gn_eq]
  rfl

theorem Args.dh (a : Args m c H M G WG WU DG DU) (t : Fin cfg0.N) (r : Fin 512) (d : Fin 1024) : bDh (bX (iblk m c 0 t) (iblk m c 1 t) (iblk m c 2 t) (iblk m c 3 t)) (iblk m c 4 t) (iblk m c 6 t)
      (iblk m c 7 t) (iblk m c 5 t) (ix2 r d)
    = Dx.addAt (m ((c : Thread nD τ).loc main_arg5)) (Dx.dhA H (Dx.ffn DG DU WG WU) (scale M) G) (512 * t.val + r.val) d := by
  have ht : t.val < 8 := (idx t).2.2.2.2.2.2.2.2.2.2.2.2
  rw [a.blk_x, a.blk_h, a.blk_g, a.blk_m t ⟨(512 * t.val + r.val) / 2048 % 2, Nat.mod_lt _ (by decide)⟩ (by simp only []; omega), dh_at, blk_y]
  rfl

theorem Args.out8 (a : Args m c H M G WG WU DG DU) (t : Fin cfg0.N) (r : Fin 512) (d : Fin 1024) : (outsAt0 m c t.val t.isLt).1 (ix2 r d)
    = Dx.addAt (m ((c : Thread nD τ).loc main_arg5)) (Dx.dhA H (Dx.ffn DG DU WG WU) (scale M) G) (512 * t.val + r.val) d := by
  have ht : t.val < 8 := (idx t).2.2.2.2.2.2.2.2.2.2.2.2
  rw [← a.dh t r d]
  by_cases h0 : t.val % 8 = 0
  · rw [outsAt0_A m c t (by omega) (by omega) h0 (by omega)]
    dsimp only
    frame_out
    rfl
  · by_cases h1 : t.val % 4 = 0
    · rw [outsAt0_C m c t (by omega) (by omega) (by omega) (by omega)]
      dsimp only
      frame_out
      rfl
    · rw [outsAt0_B m c t (by omega) (by omega) (by omega) (by omega)]
      dsimp only
      frame_out
      rfl

/-- The first points of a sequence leave their parts of the gradient of the shift. -/
theorem Args.acc9 (a : Args m c H M G WG WU DG DU) (n : ℕ) (hn : n < cfg0.N) (i : S1x1x1024.Idx) : (outsAt0 m c n hn).2.1 i
    = ((∑ p ∈ Finset.range (n % 4 + 1), Dx.pSh (Dx.ffn DG DU WG WU) (4 * (n / 4) + p) (i 2) : ℝ) : EReal) := by
  have hN : n < 8 := (idx ⟨n, hn⟩).2.2.2.2.2.2.2.2.2.2.2.2
  induction n generalizing i with
  | zero =>
    refine (congrFun (congrArg (fun o => o.2.1) (outsAt0_A m c ⟨0, hn⟩ rfl (by simp) rfl (by simp))) i).trans ?_
    dsimp only
    frame_out
    refine (first3 _ _ (a.sh ⟨0, hn⟩) i).trans ?_
    simp
  | succ n ih =>
    by_cases h1 : (n + 1) % 4 = 0
    · refine (congrFun (congrArg (fun o => o.2.1) (outsAt0_C m c ⟨n + 1, hn⟩ h1 (by simpa using h1) (by simp only []; omega) (by simp))) i).trans ?_
      dsimp only
      frame_out
      refine (first3 _ _ (a.sh ⟨n + 1, hn⟩) i).trans ?_
      rw [h1, show 4 * ((n + 1) / 4) = n + 1 by omega]
      simp
    · have ih := ih (by omega) (ix3 0 0 (i 2)) (by omega)
      refine (congrFun (congrArg (fun o => o.2.1) (outsAt0_B m c ⟨n + 1, hn⟩ h1 h1 (by simp only []; omega) (by simp))) i).trans ?_
      dsimp only
      frame_out
      refine (next3 _ _ (a.sh ⟨n + 1, hn⟩) _ i _ ih).trans ?_
      rw [show (n + 1) % 4 = n % 4 + 1 by omega, show (n + 1) / 4 = n / 4 by omega, Finset.sum_range_succ _ (n % 4 + 1),
        show 4 * (n / 4) + (n % 4 + 1) = n + 1 by omega]
      rfl

/-- The first points of a sequence leave their parts of the gradient of the scale. -/
theorem Args.acc10 (a : Args m c H M G WG WU DG DU) (n : ℕ) (hn : n < cfg0.N) (i : S1x1x1024.Idx) : (outsAt0 m c n hn).2.2.1 i
    = ((∑ p ∈ Finset.range (n % 4 + 1), Dx.pSc H (Dx.ffn DG DU WG WU) G (4 * (n / 4) + p) (i 2) : ℝ) : EReal) := by
  have hN : n < 8 := (idx ⟨n, hn⟩).2.2.2.2.2.2.2.2.2.2.2.2
  induction n generalizing i with
  | zero =>
    refine (congrFun (congrArg (fun o => o.2.2.1) (outsAt0_A m c ⟨0, hn⟩ rfl (by simp) rfl (by simp))) i).trans ?_
    dsimp only
    frame_out
    refine (first3 _ _ (a.sc ⟨0, hn⟩) i).trans ?_
    simp
  | succ n ih =>
    by_cases h1 : (n + 1) % 4 = 0
    · refine (congrFun (congrArg (fun o => o.2.2.1) (outsAt0_C m c ⟨n + 1, hn⟩ h1 (by simpa using h1) (by simp only []; omega) (by simp))) i).trans ?_
      dsimp only
      frame_out
      refine (first3 _ _ (a.sc ⟨n + 1, hn⟩) i).trans ?_
      rw [h1, show 4 * ((n + 1) / 4) = n + 1 by omega]
      simp
    · have ih := ih (by omega) (ix3 0 0 (i 2)) (by omega)
      refine (congrFun (congrArg (fun o => o.2.2.1) (outsAt0_B m c ⟨n + 1, hn⟩ h1 h1 (by simp only []; omega) (by simp))) i).trans ?_
      dsimp only
      frame_out
      refine (next3 _ _ (a.sc ⟨n + 1, hn⟩) _ i _ ih).trans ?_
      rw [show (n + 1) % 4 = n % 4 + 1 by omega, show (n + 1) / 4 = n / 4 by omega, Finset.sum_range_succ _ (n % 4 + 1),
        show 4 * (n / 4) + (n % 4 + 1) = n + 1 by omega]
      rfl

/-- The first points leave their parts of the gradient of the gain. -/
theorem Args.acc11 (a : Args m c H M G WG WU DG DU) (n : ℕ) (hn : n < cfg0.N) (i : S1x1024.Idx) : (outsAt0 m c n hn).2.2.2 i
    = ((∑ p ∈ Finset.range (n + 1), Dx.pGn H (Dx.ffn DG DU WG WU) (scale M) p (i 1) : ℝ) : EReal) := by
  have hN : n < 8 := (idx ⟨n, hn⟩).2.2.2.2.2.2.2.2.2.2.2.2
  induction n generalizing i with
  | zero =>
    refine (congrFun (congrArg (fun o => o.2.2.2) (outsAt0_A m c ⟨0, hn⟩ rfl (by simp) rfl (by simp))) i).trans ?_
    dsimp only
    frame_out
    refine (congrFun (a.gn ⟨0, hn⟩) i).trans ?_
    simp [lift2]
  | succ n ih =>
    have ih := ih (by omega) (ix2 0 (i 1)) (by omega)
    by_cases h1 : (n + 1) % 4 = 0
    · refine (congrFun (congrArg (fun o => o.2.2.2) (outsAt0_C m c ⟨n + 1, hn⟩ h1 (by simpa using h1) (by simp only []; omega) (by simp))) i).trans ?_
      dsimp only
      frame_out
      refine (next2 _ _ (a.gn ⟨n + 1, hn⟩) _ i _ ih).trans ?_
      rw [Finset.sum_range_succ _ (n + 1)]
      rfl
    · refine (congrFun (congrArg (fun o => o.2.2.2) (outsAt0_B m c ⟨n + 1, hn⟩ h1 h1 (by simp only []; omega) (by simp))) i).trans ?_
      dsimp only
      frame_out
      refine (next2 _ _ (a.gn ⟨n + 1, hn⟩) _ i _ ih).trans ?_
      rw [Finset.sum_range_succ _ (n + 1)]
      rfl

/-! ## The arrays after the call -/

theorem Args.final8 (a : Args m c H M G WG WU DG DU) : ((dats m 0 c).arrAt 8 cfg0.N : S4096x1024.Idx → EReal)
    = Dx.resid (m ((c : Thread nD τ).loc main_arg5)) (Dx.dhA H (Dx.ffn DG DU WG WU) (scale M) G) := by
  refine (dats m 0 c).arrAt_eq_of_covers 8 _ (by decide +kernel) fun t hf y => ?_
  have ht : t.val < 8 := (idx t).2.2.2.2.2.2.2.2.2.2.2.2
  have e8 := (idx t).2.2.2.2.2.2.2.2.1
  idx_vars y
  blk_simp
  rw [after0_8, a.out8]
  refine Dx.resid_of _ _ _ _ _ ?_ ?_ <;> blk_simp [e8]
  omega

theorem flush9 : ∀ t : Fin cfg0.N, (cfg0.win 9).flush t = true → t.val % 4 = 3 := (by decide +kernel : ∀ t : Fin grid0.N, _)
theorem flush10 : ∀ t : Fin cfg0.N, (cfg0.win 10).flush t = true → t.val % 4 = 3 := (by decide +kernel : ∀ t : Fin grid0.N, _)

theorem Args.final9 (a : Args m c H M G WG WU DG DU) : ((dats m 0 c).arrAt 9 cfg0.N : S2x1x1024.Idx → EReal) = lift3 fun b _ => Dx.shA (Dx.ffn DG DU WG WU) b := by
  refine (dats m 0 c).arrAt_eq_of_covers 9 _ (by decide +kernel) fun t hf y => ?_
  have ht : t.val < 8 := (idx t).2.2.2.2.2.2.2.2.2.2.2.2
  have e9 := (idx t).2.2.2.2.2.2.2.2.2.1
  idx_vars y
  have h := (congrFun (after0_9 m c t) (ix3 y0 y1 y2)).trans (a.acc9 t.val t.isLt (ix3 y0 y1 y2))
  have k := Dx.seq_of _ _ (Dx.sh_total (Dx.ffn DG DU WG WU)) t.val (flush9 t hf)
  blk_simp
  refine h.trans (k _ _ ?_ ?_) <;> blk_simp [e9]

theorem Args.final10 (a : Args m c H M G WG WU DG DU) : ((dats m 0 c).arrAt 10 cfg0.N : S2x1x1024.Idx → EReal) = lift3 fun b _ => Dx.scA H (Dx.ffn DG DU WG WU) G b := by
  refine (dats m 0 c).arrAt_eq_of_covers 10 _ (by decide +kernel) fun t hf y => ?_
  have ht : t.val < 8 := (idx t).2.2.2.2.2.2.2.2.2.2.2.2
  have e10 := (idx t).2.2.2.2.2.2.2.2.2.2.1
  idx_vars y
  have h := (congrFun (after0_10 m c t) (ix3 y0 y1 y2)).trans (a.acc10 t.val t.isLt (ix3 y0 y1 y2))
  have k := Dx.seq_of _ _ (Dx.sc_total H (Dx.ffn DG DU WG WU) G) t.val (flush10 t hf)
  blk_simp
  refine h.trans (k _ _ ?_ ?_) <;> blk_simp [e10]

theorem Args.final11 (a : Args m c H M G WG WU DG DU) : ((dats m 0 c).arrAt 11 cfg0.N : S1x1024.Idx → EReal) = lift2 fun _ => Dx.gnA H (Dx.ffn DG DU WG WU) (scale M) := by
  refine (dats m 0 c).arrAt_eq_of_after_last 11 ⟨7, by decide⟩ (by decide +kernel) _ fun j => ?_
  idx_vars j
  have h := (congrFun (after0_11 m c ⟨7, by decide⟩) (ix2 j0 j1)).trans ((a.acc11 7 (by decide) (ix2 j0 j1)).trans
    (congrArg (fun x : ℝ => (x : EReal)) (Dx.gn_total H (Dx.ffn DG DU WG WU) (scale M) j1)))
  blk_simp
  exact h

end Cert.KernelDxIdeal.Value

end
-- ==== Proof.DxReference.lean ====
/- The reference of a modulated norm's backward call, from the gradient by the norm's result, over ℝ. -/
module

public import proofs.«01_k».proof.Proof.DxMath
public import proofs.«01_k».proof.Proof.Consts
public import Idealize.ShloMosaic.Lib.Pipeline.ValueKit
public import proofs.«01_k».proof.Proof.SguSums
public import proofs.«01_k».proof.Proof.Gen.ReferenceDxIdeal.Run

@[expose] public section

set_option maxRecDepth 16384

noncomputable section

namespace Cert.ReferenceDxIdeal.Value

open Cert.ReferenceDxIdeal Cert.ReferenceDxIdeal.Gen Idealize.ShloMosaic Idealize.ShloMosaic.TcCoe Idealize.SL.Sem
open Cert.Reals Cert.Consts

/-! ## The reference's arrays -/

/-- The rows' mean squares with the norm's constant, the scale plus one, the gain. -/
def rMs (X : FVec Ideal S2x2048x1024 .f32) : FVec Ideal S2x2048x1 .f32 :=
  addf (Host.divf (broadcastInDim S2x2048x1 ![0, 1] bcast_S2x2048_S2x2048x1_0_1 (Host.reduceAdd (mulf X X) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32))
def rSc (s : FVec Ideal S2x1024 .f32) : FVec Ideal S2x1x1024 .f32 :=
  addf (broadcastInDim S2x1x1024 ![] bcast_S_S2x1x1024 (constant S_ .f32 0x3F800000#32)) (broadcastInDim S2x1x1024 ![0, 2] bcast_S2x1024_S2x1x1024_0_2 s)
def rG (g : FVec Ideal S1x1024 .f32) : FVec Ideal S1x1x1024 .f32 :=
  broadcastInDim S1x1x1024 ![2] bcast_S1024_S1x1x1024_2 (shapeCast S1024 g shapeCasts_S1x1024_S1024)

/-- The gradient by the normalised rows, and what the chain rule brings through the mean square. -/
def rDn (D : FVec Ideal S2x2048x1024 .f32) (s : FVec Ideal S2x1024 .f32) (g : FVec Ideal S1x1024 .f32) : FVec Ideal S2x2048x1024 .f32 :=
  mulf (mulf D (broadcastInDim S2x2048x1024 ![0, 1, 2] bcast_S2x1x1024_S2x2048x1024_0_1_2 (rSc s))) (broadcastInDim S2x2048x1024 ![0, 1, 2] bcast_S1x1x1024_S2x2048x1024_0_1_2 (rG g))
def rQ (X D : FVec Ideal S2x2048x1024 .f32) (s : FVec Ideal S2x1024 .f32) (g : FVec Ideal S1x1024 .f32) : FVec Ideal S2x2048x1024 .f32 :=
  broadcastInDim S2x2048x1024 ![0, 1] bcast_S2x2048_S2x2048x1024_0_1 (Host.reduceAdd (Host.divf (mulf (shapeCast S2x2048x1 (Host.reduceAdd (mulf X (rDn D s g)) (constant S_ .f32 0x00000000#32) reducesTo_S2x2048x1024_S2x2048_d2 h_S_) shapeCasts_S2x2048_S2x2048x1) (mulf (broadcastInDim S2x2048x1 ![] bcast_S_S2x2048x1 (constant S_ .f32 0xBF000000#32)) (Host.divf (Host.rsqrt (rMs X)) (rMs X)))) (broadcastInDim S2x2048x1 ![] bcast_S_S2x2048x1 (constant S_ .f32 0x44800000#32))) (constant S_ .f32 0x00000000#32) reducesTo_S2x2048x1_S2x2048_d2 h_S_)

/-- The four results. -/
def rDh (X D Y : FVec Ideal S2x2048x1024 .f32) (s : FVec Ideal S2x1024 .f32) (g : FVec Ideal S1x1024 .f32) : FVec Ideal S4096x1024 .f32 :=
  shapeCast S4096x1024 (addf (addf (addf Y (mulf (rDn D s g) (broadcastInDim S2x2048x1024 ![0, 1, 2] bcast_S2x2048x1_S2x2048x1024_0_1_2 (Host.rsqrt (rMs X))))) (mulf X (rQ X D s g))) (mulf (rQ X D s g) X)) shapeCasts_S2x2048x1024_S4096x1024
def rSh (D : FVec Ideal S2x2048x1024 .f32) : FVec Ideal S2x1x1024 .f32 :=
  broadcastInDim S2x1x1024 ![0, 2] bcast_S2x1024_S2x1x1024_0_2 (Host.reduceAdd (shapeCast S2x1x1024 (Host.reduceAdd D (constant S_ .f32 0x00000000#32) reducesTo_S2x2048x1024_S2x1024_d1 h_S_) shapeCasts_S2x1024_S2x1x1024) (constant S_ .f32 0x00000000#32) reducesTo_S2x1x1024_S2x1024_d1 h_S_)
def rN (X : FVec Ideal S2x2048x1024 .f32) : FVec Ideal S2x2048x1024 .f32 :=
  mulf X (broadcastInDim S2x2048x1024 ![0, 1, 2] bcast_S2x2048x1_S2x2048x1024_0_1_2 (Host.rsqrt (rMs X)))
def rDsc (X D : FVec Ideal S2x2048x1024 .f32) (g : FVec Ideal S1x1024 .f32) : FVec Ideal S2x1x1024 .f32 :=
  rSh (mulf (mulf (rN X) (broadcastInDim S2x2048x1024 ![0, 1, 2] bcast_S1x1x1024_S2x2048x1024_0_1_2 (rG g))) D)
def rDgn (X D : FVec Ideal S2x2048x1024 .f32) (s : FVec Ideal S2x1024 .f32) : FVec Ideal S1x1024 .f32 :=
  broadcastInDim S1x1024 ![1] bcast_S1024_S1x1024_1 (Host.reduceAdd (shapeCast S1x1x1024 (Host.reduceAdd (mulf (rN X) (mulf D (broadcastInDim S2x2048x1024 ![0, 1, 2] bcast_S2x1x1024_S2x2048x1024_0_1_2 (rSc s)))) (constant S_ .f32 0x00000000#32) reducesTo_S2x2048x1024_S1024_d0_1 h_S_) shapeCasts_S1024_S1x1x1024) (constant S_ .f32 0x00000000#32) reducesTo_S1x1x1024_S1024_d0_1 h_S_)

/-! ## Over ℝ -/

variable (H D : Fin 2 → Fin 2048 → Fin 1024 → ℝ) (SC : Fin 2 → Fin 1024 → ℝ) (G : Fin 1024 → ℝ)

theorem ms_eq : rMs (lift3 H) = lift3 fun b s (_ : Fin 1) => Dx.ms (H b s) := by
  funext i; idx_vars i
  pointwise [rMs, lift3_at, d1024, eps]
  simp only [mul_coe, add_coe, sum_coe, div_coe _ (1024 : ℝ) (by norm_num)]
  rfl

theorem rs_eq : Host.rsqrt (rMs (lift3 H)) = lift3 fun b s (_ : Fin 1) => Dx.rs (H b s) := by
  rw [ms_eq]
  funext i; idx_vars i
  pointwise [lift3_at]
  exact rsqrt_coe _ (Dx.ms_pos _)

theorem sc_eq : rSc (lift2 SC) = lift3 fun b (_ : Fin 1) d => 1 + SC b d := by
  funext i; idx_vars i
  pointwise [rSc, lift2_at, lift3_at]
  simp only [add_coe, one_coe]

theorem g_eq : rG (lift2 fun _ => G) = lift3 fun (_ _ : Fin 1) => G := by
  funext i; idx_vars i
  pointwise [rG, lift2_at, lift3_at]

theorem dn_eq : rDn (lift3 D) (lift2 SC) (lift2 fun _ => G) = lift3 fun b s => Dx.dn (D b s) (SC b) G := by
  unfold rDn
  rw [sc_eq, g_eq]
  funext i; idx_vars i
  pointwise [lift3_at]
  simp only [mul_coe]
  rfl

theorem q_eq : rQ (lift3 H) (lift3 D) (lift2 SC) (lift2 fun _ => G) = lift3 fun b s (_ : Fin 1024) => Dx.q (H b s) (D b s) (SC b) G := by
  unfold rQ
  rw [rs_eq, ms_eq, dn_eq]
  funext i; idx_vars i
  pointwise [lift3_at, d1024, neghalf]
  simp only [mul_coe, sum_coe, div_coe _ (1024 : ℝ) (by norm_num), div_coe _ _ (Dx.ms_pos _).ne', Fin.sum_univ_one]
  rfl

theorem dh_eq (Y : FVec Ideal S2x2048x1024 .f32) : rDh (lift3 H) (lift3 D) Y (lift2 SC) (lift2 fun _ => G) = Dx.resid Y (Dx.dhA H D SC G) := by
  unfold rDh
  rw [q_eq, rs_eq, dn_eq]
  funext i; idx_vars i
  pointwise [lift3_at]
  simp only [mul_coe]
  rw [add_assoc, add_assoc, add_coe, add_coe, ← add_assoc, Dx.dh_eq]
  exact (Dx.tok_at (fun b s => Y (ix3 b s i1) + ((Dx.dhA H D SC G b s i1 : ℝ) : EReal)) _ _ _ (show 2048 * (i0.val / 2048) + i0.val % 2048 = i0.val by omega)).symm

theorem n_eq : rN (lift3 H) = lift3 fun b s d => H b s d * Dx.rs (H b s) := by
  unfold rN
  rw [rs_eq]
  funext i; idx_vars i
  pointwise [lift3_at]
  simp only [mul_coe]

theorem sh_eq : rSh (lift3 D) = lift3 fun b _ => Dx.shA D b := by
  funext i; idx_vars i
  pointwise [rSh, lift3_at]
  simp only [sum_coe, Fin.sum_univ_one]
  rfl

theorem dsc_eq : rDsc (lift3 H) (lift3 D) (lift2 fun _ => G) = lift3 fun b _ => Dx.scA H D G b := by
  have h : mulf (mulf (rN (lift3 H)) (broadcastInDim S2x2048x1024 ![0, 1, 2] bcast_S1x1x1024_S2x2048x1024_0_1_2 (rG (lift2 fun _ => G)))) (lift3 D : FVec Ideal S2x2048x1024 .f32)
      = lift3 fun b s => Dx.dsc (H b s) (D b s) G := by
    rw [n_eq, g_eq]
    funext i; idx_vars i
    pointwise [lift3_at]
    simp only [mul_coe]
    exact congrArg (fun x : ℝ => (x : EReal)) (mul_comm _ _)
  unfold rDsc
  rw [h, sh_eq]
  rfl

theorem dgn_eq : rDgn (lift3 H) (lift3 D) (lift2 SC) = lift2 fun _ => Dx.gnA H D SC := by
  have h : mulf (rN (lift3 H)) (mulf (lift3 D : FVec Ideal S2x2048x1024 .f32) (broadcastInDim S2x2048x1024 ![0, 1, 2] bcast_S2x1x1024_S2x2048x1024_0_1_2 (rSc (lift2 SC))))
      = lift3 fun b s => Dx.dgn (H b s) (D b s) (SC b) := by
    rw [n_eq, sc_eq]
    funext i; idx_vars i
    pointwise [lift3_at]
    simp only [mul_coe]
    exact congrArg (fun x : ℝ => (x : EReal)) (mul_comm _ _)
  unfold rDgn
  rw [h]
  generalize hf : (fun b s => Dx.dgn (H b s) (D b s) (SC b)) = f
  funext i; idx_vars i
  pointwise [lift2_at]
  rw [Cert.Sums.reduce01]
  pointwise
  rw [Cert.Sums.reduce01]
  pointwise [lift3_at]
  simp only [sum_coe, Fin.sum_univ_one]
  subst hf
  rfl

/-! ## The call after the feed-forward products -/

theorem slice_eq (M : Fin 2 → Fin 9216 → ℝ) : (extractStridedSlice S2x1024 ![0, 7168] (lift2 M : FVec Ideal S2x9216 .f32) slices_S2x9216_S2x1024_0_7168 : FVec Ideal S2x1024 .f32)
    = lift2 fun b d => M b ⟨7168 + d.val, by omega⟩ := by
  funext i; idx_vars i
  pointwise [lift2_at]
  blk_ext []

theorem d_eq (DG DU : Fin 2 → Fin 2048 → Fin 2816 → ℝ) (WG WU : Fin 1024 → Fin 2816 → ℝ) :
    (addf (Host.dotGeneral (φ₁ := .f32) (φ₂ := .f32) dot_S2x2048x2816_S1024x2816_S2x2048x1024_2_1_01_0_n_n none (lift3 DU) (lift2 WU)) (Host.dotGeneral (φ₁ := .f32) (φ₂ := .f32) dot_S2x2048x2816_S1024x2816_S2x2048x1024_2_1_01_0_n_n none (lift3 DG) (lift2 WG)) : FVec Ideal S2x2048x1024 .f32)
    = lift3 (Dx.ffn DG DU WG WU) := by
  funext i; idx_vars i
  pointwise [lift2_at, lift3_at]
  simp only [mul_coe, add_coe, sum_coe]
  exact congrArg (fun x : ℝ => (x : EReal)) (add_comm _ _)

/-- The arguments as arrays of reals, the incoming gradient of the rows left as it is. -/
structure Args (m : (ℓ : Loc nD τ sig) → Buf (Elt Ideal) ℓ) (c : Dev nD) (H : Fin 2 → Fin 2048 → Fin 1024 → ℝ) (M : Fin 2 → Fin 9216 → ℝ) (G : Fin 1024 → ℝ) (WG WU : Fin 1024 → Fin 2816 → ℝ)
    (DG DU : Fin 2 → Fin 2048 → Fin 2816 → ℝ) (Y : FVec Ideal S2x2048x1024 .f32) : Prop where
  h : (m ((c.tc : Thread nD τ).loc main_arg0) : FVec Ideal S2x2048x1024 .f32) = lift3 H
  mo : (m ((c.tc : Thread nD τ).loc main_arg1) : FVec Ideal S2x9216 .f32) = lift2 M
  g : (m ((c.tc : Thread nD τ).loc main_arg2) : FVec Ideal S1x1024 .f32) = lift2 fun _ => G
  wg : (m ((c.tc : Thread nD τ).loc main_arg3) : FVec Ideal S1024x2816 .f32) = lift2 WG
  wu : (m ((c.tc : Thread nD τ).loc main_arg4) : FVec Ideal S1024x2816 .f32) = lift2 WU
  y : (m ((c.tc : Thread nD τ).loc main_arg5) : FVec Ideal S2x2048x1024 .f32) = Y
  dg : (m ((c.tc : Thread nD τ).loc main_arg6) : FVec Ideal S2x2048x2816 .f32) = lift3 DG
  du : (m ((c.tc : Thread nD τ).loc main_arg7) : FVec Ideal S2x2048x2816 .f32) = lift3 DU

variable {m : (ℓ : Loc nD τ sig) → Buf (Elt Ideal) ℓ} {c : Dev nD} {H : Fin 2 → Fin 2048 → Fin 1024 → ℝ} {M : Fin 2 → Fin 9216 → ℝ} {G : Fin 1024 → ℝ}
  {WG WU : Fin 1024 → Fin 2816 → ℝ} {DG DU : Fin 2 → Fin 2048 → Fin 2816 → ℝ} {Y : FVec Ideal S2x2048x1024 .f32}

/-- The reference's four results on arrays of reals, and its arguments. -/
theorem run_reals (ρ : Dev nD → PrngReg) (H : Dev nD → Fin 2 → Fin 2048 → Fin 1024 → ℝ) (M : Dev nD → Fin 2 → Fin 9216 → ℝ) (G : Dev nD → Fin 1024 → ℝ)
    (WG WU : Dev nD → Fin 1024 → Fin 2816 → ℝ) (DG DU : Dev nD → Fin 2 → Fin 2048 → Fin 2816 → ℝ) (Y : Dev nD → FVec Ideal S2x2048x1024 .f32)
    (a : ∀ c, Args m c (H c) (M c) (G c) (WG c) (WU c) (DG c) (DU c) (Y c)) :
    θ_run defs (onTc (τ := τ) (main (F := Ideal))) ⟨m, fun _ => 0, ρ⟩ fun r => ∀ c : Dev nD,
      r.2.mem ((c.tc : Thread nD τ).loc main_v69) = (Dx.resid (Y c) (Dx.dhA (H c) (Dx.ffn (DG c) (DU c) (WG c) (WU c)) (fun b d => M c b ⟨7168 + d.val, by omega⟩) (G c)) : FVec Ideal S4096x1024 .f32)
      ∧ r.2.mem ((c.tc : Thread nD τ).loc main_v70) = (lift3 (fun b _ => Dx.shA (Dx.ffn (DG c) (DU c) (WG c) (WU c)) b) : FVec Ideal S2x1x1024 .f32)
      ∧ r.2.mem ((c.tc : Thread nD τ).loc main_v71) = (lift3 (fun b _ => Dx.scA (H c) (Dx.ffn (DG c) (DU c) (WG c) (WU c)) (G c) b) : FVec Ideal S2x1x1024 .f32)
      ∧ r.2.mem ((c.tc : Thread nD τ).loc main_v72) = (lift2 (fun _ => Dx.gnA (H c) (Dx.ffn (DG c) (DU c) (WG c) (WU c)) (fun b d => M c b ⟨7168 + d.val, by omega⟩)) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2.1.trans ?_, (h c).2.2.1.trans ?_, (h c).2.2.2.1.trans ?_, (h c).2.2.2.2⟩) (run m ρ)
  · unfold res_main_v69
    rw [(a c).h, (a c).mo, (a c).g, (a c).wg, (a c).wu, (a c).y, (a c).dg, (a c).du, d_eq, slice_eq]
    exact dh_eq _ _ _ _ _
  · rw [(a c).wg, (a c).wu, (a c).dg, (a c).du, d_eq]
    exact sh_eq _
  · rw [(a c).h, (a c).g, (a c).wg, (a c).wu, (a c).dg, (a c).du, d_eq]
    exact dsc_eq _ _ _
  · rw [(a c).h, (a c).mo, (a c).wg, (a c).wu, (a c).dg, (a c).du, d_eq, slice_eq]
    exact dgn_eq _ _ _

end Cert.ReferenceDxIdeal.Value

end
-- ==== Proof.DxClaims.lean ====
/- The claims about the norm's backward call after the feed-forward products. -/
module

public import proofs.«01_k».proof.Defs
public import proofs.«01_k».proof.Proof.Finite
public import proofs.«01_k».proof.Proof.DxOuts
public import proofs.«01_k».proof.Proof.DxReference
public import proofs.«01_k».proof.Proof.Gen.KernelDx.Frame
public import proofs.«01_k».proof.Proof.Gen.Pre_finite_dx

@[expose] public section

set_option maxRecDepth 16384

noncomputable section

namespace Cert.Proof.DxFfn

open Idealize.ShloMosaic Idealize.ShloMosaic.TcCoe Idealize.SL.Sem Cert.Reals

theorem frameR : Cert.quiescent_ReferenceDxIdeal := fun m g _ =>
  (θ_run Cert.ReferenceDxIdeal.defs _ _).mono (fun r h => ⟨fun c => (h c).2.2.2.2, sem_eq_zero_of_no_sems (by decide) r.2⟩) (Cert.ReferenceDxIdeal.Value.run m g)

theorem frameR_finite : Cert.quiescent_ReferenceDxIdeal_pre_finite_dx := fun m g _ => frameR m g trivial

open Cert.Pre_finite_dx in
/-- Finite arguments are arrays of reals; an axis of length one is left out. -/
theorem reals (X0 : FVec Ideal S2x2048x1024 .f32) (X1 : FVec Ideal S2x9216 .f32) (X2 : FVec Ideal S1x1024 .f32) (X3 X4 : FVec Ideal S1024x2816 .f32)
    (X5 : FVec Ideal S2x2048x1024 .f32) (X6 X7 : FVec Ideal S2x2048x2816 .f32)
    (h : Cert.Pre_finite_dx.fn (F := Ideal) X0 X1 X2 X3 X4 X5 X6 X7 = fun _ => 1#1) :
    ∃ (H : Fin 2 → Fin 2048 → Fin 1024 → ℝ) (M : Fin 2 → Fin 9216 → ℝ) (G : Fin 1024 → ℝ) (WG WU : Fin 1024 → Fin 2816 → ℝ) (DG DU : Fin 2 → Fin 2048 → Fin 2816 → ℝ),
      X0 = lift3 H ∧ X1 = lift2 M ∧ X2 = (lift2 fun _ => G) ∧ X3 = lift2 WG ∧ X4 = lift2 WU ∧ X6 = lift3 DG ∧ X7 = lift3 DU := by
  have e := congrFun h (Shape.Idx.first Facts.h_S_)
  dsimp only [fn, fn_part1] at e
  obtain ⟨e, h7⟩ := andi_at _ _ _ e
  obtain ⟨e, h6⟩ := andi_at _ _ _ e
  obtain ⟨e, h4⟩ := andi_at _ _ _ e
  obtain ⟨e, h3⟩ := andi_at _ _ _ e
  obtain ⟨e, h2⟩ := andi_at _ _ _ e
  obtain ⟨h0, h1⟩ := andi_at _ _ _ e
  haveI : Subsingleton S_.Idx := ⟨fun a b => funext fun k => k.elim0⟩
  obtain ⟨H, hH⟩ := exists_lift3 X0 (real_of_all X0 _ _ _ _ _ h0)
  obtain ⟨M, hM⟩ := exists_lift2 X1 (real_of_all X1 _ _ _ _ _ h1)
  obtain ⟨G, hG⟩ := exists_lift2 X2 (real_of_all X2 _ _ _ _ _ h2)
  obtain ⟨WG, hWG⟩ := exists_lift2 X3 (real_of_all X3 _ _ _ _ _ h3)
  obtain ⟨WU, hWU⟩ := exists_lift2 X4 (real_of_all X4 _ _ _ _ _ h4)
  obtain ⟨DG, hDG⟩ := exists_lift3 X6 (real_of_all X6 _ _ _ _ _ h6)
  obtain ⟨DU, hDU⟩ := exists_lift3 X7 (real_of_all X7 _ _ _ _ _ h7)
  have u1 : ∀ {α : Type} (f : Fin 1 → α), f = fun _ => f 0 := fun f => funext fun i => congrArg f (Subsingleton.elim i 0)
  exact ⟨H, M, G 0, WG, WU, DG, DU, hH, hM, hG.trans (congrArg lift2 (u1 G)), hWG, hWU, hDG, hDU⟩

open Cert.KernelDxIdeal Cert.KernelDxIdeal.Gen in
/-- The kernel's run on arrays of reals: its four results and its arguments. -/
theorem run (m : (ℓ : Loc nD τ sig) → Buf (Elt Ideal) ℓ) (g : Dev nD → PrngReg) (H : Dev nD → Fin 2 → Fin 2048 → Fin 1024 → ℝ) (M : Dev nD → Fin 2 → Fin 9216 → ℝ)
    (G : Dev nD → Fin 1024 → ℝ) (WG WU : Dev nD → Fin 1024 → Fin 2816 → ℝ) (DG DU : Dev nD → Fin 2 → Fin 2048 → Fin 2816 → ℝ)
    (a : ∀ c, Value.Args m c (H c) (M c) (G c) (WG c) (WU c) (DG c) (DU c)) :
    θ_run defs (onTc (τ := τ) (main (F := Ideal))) ⟨m, fun _ => 0, g⟩ fun r => ∀ c : Dev nD,
      r.2.mem ((c.tc : Thread nD τ).loc main_v15_0) = (Dx.resid (m ((c.tc : Thread nD τ).loc main_arg5)) (Dx.dhA (H c) (Dx.ffn (DG c) (DU c) (WG c) (WU c)) (fun b d => M c b ⟨7168 + d.val, by omega⟩) (G c)) : FVec Ideal S4096x1024 .f32)
      ∧ r.2.mem ((c.tc : Thread nD τ).loc main_v15_1) = (lift3 (fun b _ => Dx.shA (Dx.ffn (DG c) (DU c) (WG c) (WU c)) b) : FVec Ideal S2x1x1024 .f32)
      ∧ r.2.mem ((c.tc : Thread nD τ).loc main_v15_2) = (lift3 (fun b _ => Dx.scA (H c) (Dx.ffn (DG c) (DU c) (WG c) (WU c)) (G c) b) : FVec Ideal S2x1x1024 .f32)
      ∧ r.2.mem ((c.tc : Thread nD τ).loc main_v15_3) = (lift2 (fun _ => Dx.gnA (H c) (Dx.ffn (DG c) (DU c) (WG c) (WU c)) (fun b d => M c b ⟨7168 + d.val, by omega⟩)) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.2 c).1 8).trans (Value.Args.final8 (a c)), ((h.2 c).1 9).trans (Value.Args.final9 (a c)),
    ((h.2 c).1 10).trans (Value.Args.final10 (a c)), ((h.2 c).1 11).trans (Value.Args.final11 (a c)), h.1 c⟩) (θ_run_and (unchanged m g) (run_main m g))

/-- At exact arithmetic and finite arguments the kernel's four results are the reference's. -/
theorem algebraic : Cert.algebraic_KernelDxIdeal_ReferenceDxIdeal_pre_finite_dx := by
  intro m g m' g' hpre hag
  choose H M G WG WU DG DU h0 h1 h2 h3 h4 h6 h7 using fun c => reals _ _ _ _ _ _ _ _ (hpre c)
  refine ⟨_, _, _, _, run m g H M G WG WU DG DU fun c => ⟨h0 c, h1 c, h2 c, h3 c, h4 c, h6 c, h7 c⟩,
    Cert.ReferenceDxIdeal.Value.run_reals g' H M G WG WU DG DU _ fun c => ⟨?_, ?_, ?_, ?_, ?_, (hag c).2.2.2.2.2.1, ?_, ?_⟩⟩
  · exact (hag c).1.trans (h0 c)
  · exact (hag c).2.1.trans (h1 c)
  · exact (hag c).2.2.1.trans (h2 c)
  · exact (hag c).2.2.2.1.trans (h3 c)
  · exact (hag c).2.2.2.2.1.trans (h4 c)
  · exact (hag c).2.2.2.2.2.2.1.trans (h6 c)
  · exact (hag c).2.2.2.2.2.2.2.trans (h7 c)

end Cert.Proof.DxFfn

end
-- ==== Proof.DxMValue.lean ====
/- The norm's backward call after the mixer's products, over ℝ: what a point computes, its blocks. -/
module

public import proofs.«01_k».proof.Proof.DxMath
public import proofs.«01_k».proof.Proof.Consts
public import proofs.«01_k».proof.Proof.Gen.KernelDxMIdeal.Frame
public import Idealize.ShloMosaic.Lib.Pipeline.ValueKit

@[expose] public section

set_option maxRecDepth 16384

noncomputable section

namespace Cert.KernelDxMIdeal.Value

open Cert.KernelDxMIdeal Cert.KernelDxMIdeal.Gen Idealize.ShloMosaic Idealize.ShloMosaic.TcCoe Idealize.SL.Sem
open Cert.Reals Cert.Consts
open Idealize.ShloMosaic.Pipeline (Dat)

/-! ## A point -/

/-- A point's four results from the gradient `X` by the norm's result, the rows `h`, the gain `g` and the scale `sc`. -/
def bDh (X : FVec Ideal S512x1024 .f32) (h : FVec Ideal S512x1024 .f32) (g : FVec Ideal S1x1024 .f32) (sc : FVec Ideal S1x1x1x1024 .f32) (y : FVec Ideal S512x1024 .f32) :
    FVec Ideal S512x1024 .f32 := k0_pay15 (F := Ideal) X (k0_pay8 h) (k0_pay9 h) g (k0_pay10 sc) (Scalar.ofBits .f32 0x3F800000#32) y
def bSh (X : FVec Ideal S512x1024 .f32) : FVec Ideal S1x1024 .f32 := k0_pay12 (F := Ideal) X
def bSc (X : FVec Ideal S512x1024 .f32) (h : FVec Ideal S512x1024 .f32) (g : FVec Ideal S1x1024 .f32) : FVec Ideal S1x1024 .f32 :=
  k0_pay13 (F := Ideal) X (k0_pay9 h) g
def bGn (X : FVec Ideal S512x1024 .f32) (h : FVec Ideal S512x1024 .f32) (sc : FVec Ideal S1x1x1x1024 .f32) : FVec Ideal S1x1024 .f32 :=
  k0_pay14 (F := Ideal) X (k0_pay9 h) (k0_pay10 sc) (Scalar.ofBits .f32 0x3F800000#32)

section
variable (x h : Fin 512 → Fin 1024 → ℝ) (g sc : Fin 1024 → ℝ)

theorem rs_eq : k0_pay8 (F := Ideal) (lift2 h) = lift2 fun r (_ : Fin 1) => Dx.rs (h r) := by
  funext i; idx_vars i
  pointwise [k0_pay8, k0_pay7, lift2_at, d1024, eps]
  simp only [mul_coe, add_coe, sum_coe, div_coe _ (1024 : ℝ) (by norm_num)]
  exact rsqrt_coe _ (Dx.ms_pos (h i0))

theorem n_eq : k0_pay9 (F := Ideal) (lift2 h) = lift2 fun r d => h r d * Dx.rs (h r) := by
  unfold k0_pay9
  rw [rs_eq]
  funext i; idx_vars i
  pointwise [k0_pay7, lift2_at]
  simp only [mul_coe]

theorem sh_eq : bSh (lift2 x) = lift2 fun (_ : Fin 1) d => ∑ r, x r d := by
  funext i; idx_vars i
  pointwise [bSh, k0_pay12, lift2_at]
  simp only [sum_coe]

theorem sc_eq : bSc (lift2 x) (lift2 h) (lift2 fun _ => g) = lift2 fun (_ : Fin 1) d => ∑ r, Dx.dsc (h r) (x r) g d := by
  unfold bSc
  rw [n_eq]
  funext i; idx_vars i
  pointwise [k0_pay13, lift2_at]
  simp only [mul_coe, sum_coe]
  rfl

theorem gn_eq : bGn (lift2 x) (lift2 h) (lift4 fun _ _ _ => sc) = lift2 fun (_ : Fin 1) d => ∑ r, Dx.dgn (h r) (x r) sc d := by
  unfold bGn
  rw [n_eq]
  funext i; idx_vars i
  pointwise [k0_pay14, k0_pay11, k0_pay10, lift2_at, lift4_at]
  simp only [mul_coe, add_coe, one_coe, sum_coe]
  rfl

theorem dh_at (y : FVec Ideal S512x1024 .f32) (r : Fin 512) (d : Fin 1024) : bDh (lift2 x) (lift2 h) (lift2 fun _ => g) (lift4 fun _ _ _ => sc) y (ix2 r d)
    = y (ix2 r d) + ((Dx.dh (h r) (x r) sc g d : ℝ) : EReal) := by
  unfold bDh
  rw [rs_eq, n_eq]
  pointwise [k0_pay15, k0_pay11, k0_pay10, lift2_at, lift4_at, d1024]
  simp only [mul_coe, add_coe, sub_coe, one_coe, sum_coe, div_coe _ (1024 : ℝ) (by norm_num)]
  rfl
end

/-- The first tile of a sum leaves its own part, and a later one adds to what it finds. -/
theorem first3 (v : FVec Ideal S1x1024 .f32) (f : Fin 1024 → ℝ) (hv : v = lift2 fun _ => f) (i : S1x1x1024.Idx) : k0_pay1 (F := Ideal) v i = ((f (i 2) : ℝ) : EReal) := by
  subst hv; idx_vars i
  pointwise [k0_pay1, lift2_at]
theorem next3 (v : FVec Ideal S1x1024 .f32) (f : Fin 1024 → ℝ) (hv : v = lift2 fun _ => f) (o : FVec Ideal S1x1x1024 .f32) (i : S1x1x1024.Idx) (z : ℝ)
    (ho : o (ix3 0 0 (i 2)) = ((z : ℝ) : EReal)) : k0_pay3 (F := Ideal) v o i = ((z + f (i 2) : ℝ) : EReal) := by
  subst hv; idx_vars i
  pointwise [k0_pay3, lift2_at]
  rw [← add_coe]
  exact congrArg (· + _) ho
theorem next2 (v : FVec Ideal S1x1024 .f32) (f : Fin 1024 → ℝ) (hv : v = lift2 fun _ => f) (o : FVec Ideal S1x1024 .f32) (i : S1x1024.Idx) (z : ℝ)
    (ho : o (ix2 0 (i 1)) = ((z : ℝ) : EReal)) : k0_pay5 (F := Ideal) v o i = ((z + f (i 1) : ℝ) : EReal) := by
  subst hv; idx_vars i
  pointwise [k0_pay5, lift2_at]
  rw [← add_coe]
  obtain rfl : i0 = 0 := Subsingleton.elim _ _
  exact congrArg (· + _) ho

/-! ## The blocks -/

variable (m : (ℓ : Loc nD τ sig) → Buf (Elt Ideal) ℓ)

/-- Every window's block index, over all eight grid points. -/
theorem idx : ∀ t : Fin cfg0.N, win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] ∧ win0_7.index t = ![t.val / 4, 4, 0, 0]
    ∧ win0_8.index t = ![t.val, 0] ∧ win0_9.index t = ![t.val / 4, 0, 0] ∧ win0_10.index t = ![t.val / 4, 0, 0] ∧ win0_11.index t = ![0, 0] ∧ t.val < 8 :=
  (by decide +kernel : ∀ t : Fin grid0.N, _)

theorem rows1024_at (X : FVec Ideal S2x2048x1024 .f32) (i : S4096x1024.Idx) (b : Fin 2) (s : Fin 2048) (d : Fin 1024)
    (h : 2048 * b.val + s.val = (i 0).val) (hd : d.val = (i 1).val) : shapeCast S4096x1024 X shapeCasts_S2x2048x1024_S4096x1024 i = X (ix3 b s d) := by
  idx_vars i
  pointwise
  blk_ext []
theorem rows768_at (X : FVec Ideal S2x2048x768 .f32) (i : S4096x768.Idx) (b : Fin 2) (s : Fin 2048) (d : Fin 768)
    (h : 2048 * b.val + s.val = (i 0).val) (hd : d.val = (i 1).val) : shapeCast S4096x768 X shapeCasts_S2x2048x768_S4096x768 i = X (ix3 b s d) := by
  idx_vars i
  pointwise
  blk_ext []
theorem rows2048_at (X : FVec Ideal S2x2048x2048 .f32) (i : S4096x2048.Idx) (b : Fin 2) (s : Fin 2048) (d : Fin 2048)
    (h : 2048 * b.val + s.val = (i 0).val) (hd : d.val = (i 1).val) : shapeCast S4096x2048 X shapeCasts_S2x2048x2048_S4096x2048 i = X (ix3 b s d) := by
  idx_vars i
  pointwise
  blk_ext []

theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

theorem V_da (c : Dev nD) : (V m c main_v4 : S4096x1024.Idx → EReal) = shapeCast S4096x1024 (m ((c : Thread nD τ).loc main_arg5) : FVec Ideal S2x2048x1024 .f32) shapeCasts_S2x2048x1024_S4096x1024 := by
  unfold V
  after_results; rfl
theorem V_db (c : Dev nD) : (V m c main_v6 : S4096x768.Idx → EReal) = shapeCast S4096x768 (m ((c : Thread nD τ).loc main_arg6) : FVec Ideal S2x2048x768 .f32) shapeCasts_S2x2048x768_S4096x768 := by
  unfold V
  after_results; rfl
theorem V_dc (c : Dev nD) : (V m c main_v8 : S4096x2048.Idx → EReal) = shapeCast S4096x2048 (m ((c : Thread nD τ).loc main_arg7) : FVec Ideal S2x2048x2048 .f32) shapeCasts_S2x2048x2048_S4096x2048 := by
  unfold V
  after_results; rfl
theorem V_w (c : Dev nD) : (V m c main_v2 : S3840x1024.Idx → EReal) = (transpose S3840x1024 [1, 0] (m ((c : Thread nD τ).loc main_arg3) : FVec Ideal S1024x3840 .f32) transposes_S1024x3840_S3840x1024_1_0 : FVec Ideal S3840x1024 .f32) := by
  unfold V
  after_results; rfl
theorem V_h (c : Dev nD) : V m c main_v9 = shapeCast S4096x1024 (m ((c : Thread nD τ).loc main_arg0)) shapeCasts_S2x2048x1024_S4096x1024 := by
  unfold V
  after_results; rfl
theorem V_y (c : Dev nD) : V m c main_v10 = shapeCast S4096x1024 (m ((c : Thread nD τ).loc main_arg4)) shapeCasts_S2x2048x1024_S4096x1024 := by
  unfold V
  after_results; rfl
theorem V_m (c : Dev nD) : V m c main_v0 = shapeCast S2x9x1x1024 (m ((c : Thread nD τ).loc main_arg1)) shapeCasts_S2x9216_S2x9x1x1024 := by
  unfold V
  after_results; rfl

/-- The arguments of one device as arrays of reals; the scale is the fifth of the nine modulation vectors. -/
structure Args (c : Dev nD) (H : Fin 2 → Fin 2048 → Fin 1024 → ℝ) (M : Fin 2 → Fin 9216 → ℝ) (G : Fin 1024 → ℝ) (W : Fin 1024 → Fin 3840 → ℝ)
    (DA : Fin 2 → Fin 2048 → Fin 1024 → ℝ) (DB : Fin 2 → Fin 2048 → Fin 768 → ℝ) (DC : Fin 2 → Fin 2048 → Fin 2048 → ℝ) : Prop where
  h : (m ((c : Thread nD τ).loc main_arg0) : S2x2048x1024.Idx → EReal) = lift3 H
  mo : (m ((c : Thread nD τ).loc main_arg1) : S2x9216.Idx → EReal) = lift2 M
  g : (m ((c : Thread nD τ).loc main_arg2) : S1x1024.Idx → EReal) = lift2 fun _ => G
  w : (m ((c : Thread nD τ).loc main_arg3) : S1024x3840.Idx → EReal) = lift2 W
  da : (m ((c : Thread nD τ).loc main_arg5) : S2x2048x1024.Idx → EReal) = lift3 DA
  db : (m ((c : Thread nD τ).loc main_arg6) : S2x2048x768.Idx → EReal) = lift3 DB
  dc : (m ((c : Thread nD τ).loc main_arg7) : S2x2048x2048.Idx → EReal) = lift3 DC

/-- The scale of a sequence: the columns from 4096 of the modulation vectors. -/
def scale (M : Fin 2 → Fin 9216 → ℝ) (b : Fin 2) (d : Fin 1024) : ℝ := M b ⟨4096 + d.val, by omega⟩

variable {m} {c : Dev nD} {H : Fin 2 → Fin 2048 → Fin 1024 → ℝ} {M : Fin 2 → Fin 9216 → ℝ} {G : Fin 1024 → ℝ} {W : Fin 1024 → Fin 3840 → ℝ}
  {DA : Fin 2 → Fin 2048 → Fin 1024 → ℝ} {DB : Fin 2 → Fin 2048 → Fin 768 → ℝ} {DC : Fin 2 → Fin 2048 → Fin 2048 → ℝ}

theorem Args.blk_da (a : Args m c H M G W DA DB DC) (t : Fin cfg0.N) :
    (iblk m c 0 t : S512x1024.Idx → EReal) = lift2 fun (r : Fin 512) (d : Fin 1024) => Dx.tok DA (512 * t.val + r.val) d := by
  have ht : t.val < 8 := (idx t).2.2.2.2.2.2.2.2.2.2.2.2
  have e := (idx t).1
  funext i; idx_vars i
  refine Eq.trans ?_ (congrFun a.da (ix3 ⟨(512 * t.val + i0.val) / 2048 % 2, by omega⟩ ⟨(512 * t.val + i0.val) % 2048, by omega⟩ i1))
  refine (congrFun (V_da m c) (((cfg0.win 0).blk t).view.emb _)).trans (rows1024_at _ _ _ _ _ ?_ ?_) <;>
    (blk_simp [e] <;> (try simp only []) <;> (try omega))

theorem Args.blk_db (a : Args m c H M G W DA DB DC) (t : Fin cfg0.N) :
    (iblk m c 1 t : S512x768.Idx → EReal) = lift2 fun (r : Fin 512) (d : Fin 768) => Dx.tok DB (512 * t.val + r.val) d := by
  have ht : t.val < 8 := (idx t).2.2.2.2.2.2.2.2.2.2.2.2
  have e := (idx t).2.1
  funext i; idx_vars i
  refine Eq.trans ?_ (congrFun a.db (ix3 ⟨(512 * t.val + i0.val) / 2048 % 2, by omega⟩ ⟨(512 * t.val + i0.val) % 2048, by omega⟩ i1))
  refine (congrFun (V_db m c) (((cfg0.win 1).blk t).view.emb _)).trans (rows768_at _ _ _ _ _ ?_ ?_) <;>
    (blk_simp [e] <;> (try simp only []) <;> (try omega))

theorem Args.blk_dc (a : Args m c H M G W DA DB DC) (t : Fin cfg0.N) :
    (iblk m c 2 t : S512x2048.Idx → EReal) = lift2 fun (r : Fin 512) (d : Fin 2048) => Dx.tok DC (512 * t.val + r.val) d := by
  have ht : t.val < 8 := (idx t).2.2.2.2.2.2.2.2.2.2.2.2
  have e := (idx t).2.2.1
  funext i; idx_vars i
  refine Eq.trans ?_ (congrFun a.dc (ix3 ⟨(512 * t.val + i0.val) / 2048 % 2, by omega⟩ ⟨(512 * t.val + i0.val) % 2048, by omega⟩ i1))
  refine (congrFun (V_dc m c) (((cfg0.win 2).blk t).view.emb _)).trans (rows2048_at _ _ _ _ _ ?_ ?_) <;>
    (blk_simp [e] <;> (try simp only []) <;> (try omega))

theorem Args.blk_h (a : Args m c H M G W DA DB DC) (t : Fin cfg0.N) :
    (iblk m c 4 t : S512x1024.Idx → EReal) = lift2 fun (r : Fin 512) (d : Fin 1024) => Dx.tok H (512 * t.val + r.val) d := by
  have ht : t.val < 8 := (idx t).2.2.2.2.2.2.2.2.2.2.2.2
  have e := (idx t).2.2.2.2.1
  funext i; idx_vars i
  refine Eq.trans ?_ (congrFun a.h (ix3 ⟨(512 * t.val + i0.val) / 2048 % 2, by omega⟩ ⟨(512 * t.val + i0.val) % 2048, by omega⟩ i1))
  refine (congrFun (V_h m c) (((cfg0.win 4).blk t).view.emb _)).trans (rows1024_at _ _ _ _ _ ?_ ?_) <;>
    (blk_simp [e] <;> (try simp only []) <;> (try omega))

theorem blk_y (t : Fin cfg0.N) (r : Fin 512) (d : Fin 1024) : (iblk m c 5 t : S512x1024.Idx → EReal) (ix2 r d)
    = Dx.tok (fun b s => (m ((c : Thread nD τ).loc main_arg4) : S2x2048x1024.Idx → EReal) (ix3 b s d)) (512 * t.val + r.val) := by
  have ht : t.val < 8 := (idx t).2.2.2.2.2.2.2.2.2.2.2.2
  have e := (idx t).2.2.2.2.2.1
  refine (congrFun (V_y m c) (((cfg0.win 5).blk t).view.emb _)).trans (rows1024_at _ _ _ _ _ ?_ ?_) <;>
    (blk_simp [e] <;> (try simp only []) <;> (try omega))

theorem Args.blk_w (a : Args m c H M G W DA DB DC) (t : Fin cfg0.N) : (iblk m c 3 t : S3840x1024.Idx → EReal) = lift2 fun (k : Fin 3840) (d : Fin 1024) => W d k := by
  have e := (idx t).2.2.2.1
  have hV : (V m c main_v2 : S3840x1024.Idx → EReal) = lift2 fun (k : Fin 3840) (d : Fin 1024) => W d k := by
    rw [V_w, a.w]
    funext i; idx_vars i
    pointwise [lift2_at]
  refine Eq.trans ?_ hV
  blk_ext! [iblk, e]

theorem Args.blk_g (a : Args m c H M G W DA DB DC) (t : Fin cfg0.N) : (iblk m c 6 t : S1x1024.Idx → EReal) = lift2 fun _ => G := by
  have e := (idx t).2.2.2.2.2.2.1
  refine Eq.trans ?_ a.g
  blk_ext! [iblk, V, e]

theorem Args.blk_m (a : Args m c H M G W DA DB DC) (t : Fin cfg0.N) (b : Fin 2) (hb : b.val = t.val / 4) :
    (iblk m c 7 t : S1x1x1x1024.Idx → EReal) = lift4 fun (_ _ _ : Fin 1) => scale M b := by
  have e := (idx t).2.2.2.2.2.2.2.1
  funext i; idx_vars i
  refine Eq.trans ?_ (congrFun a.mo (ix2 b ⟨4096 + i3.val, by omega⟩))
  refine (congrFun (V_m m c) (((cfg0.win 7).blk t).view.emb _)).trans (mods_at _ _ _ _ ?_ ?_) <;>
    (blk_simp [e] <;> (try simp only []) <;> (try omega))

end Cert.KernelDxMIdeal.Value

end
-- ==== Proof.DxMOuts.lean ====
/- What every grid point of the norm's backward call after the mixer's products leaves, over ℝ. -/
module

public import proofs.«01_k».proof.Proof.DxMValue

@[expose] public section

set_option maxRecDepth 16384

noncomputable section

namespace Cert.KernelDxMIdeal.Value

open Cert.KernelDxMIdeal Cert.KernelDxMIdeal.Gen Idealize.ShloMosaic Idealize.ShloMosaic.TcCoe Idealize.SL.Sem
open Cert.Reals Cert.Consts
open Idealize.ShloMosaic.Pipeline (Dat)

variable {m : (ℓ : Loc nD τ sig) → Buf (Elt Ideal) ℓ} {c : Dev nD} {H : Fin 2 → Fin 2048 → Fin 1024 → ℝ} {M : Fin 2 → Fin 9216 → ℝ} {G : Fin 1024 → ℝ}
  {W : Fin 1024 → Fin 3840 → ℝ}
  {DA : Fin 2 → Fin 2048 → Fin 1024 → ℝ} {DB : Fin 2 → Fin 2048 → Fin 768 → ℝ} {DC : Fin 2 → Fin 2048 → Fin 2048 → ℝ}

/-- The gradient by the norm's result at a point: three products with row groups of one matrix. -/
abbrev bX (x0 : FVec Ideal S512x1024 .bf16) (x1 : FVec Ideal S512x768 .bf16) (x2 : FVec Ideal S512x2048 .bf16) (x3 : FVec Ideal S3840x1024 .bf16) : FVec Ideal S512x1024 .f32 :=
  k0_pay6 (F := Ideal) x0 (@View.ld (Elt Ideal) S3840x1024 .bf16 x3 (Rect.unit (s := S3840x1024) ![0, 0] S1024x1024.size inb_S3840x1024_S1024x1024_0_0))
    x1 (@View.ld (Elt Ideal) S3840x1024 .bf16 x3 (Rect.unit (s := S3840x1024) ![1024, 0] S768x1024.size inb_S3840x1024_S768x1024_1024_0))
    x2 (@View.ld (Elt Ideal) S3840x1024 .bf16 x3 (Rect.unit (s := S3840x1024) ![1792, 0] S2048x1024.size inb_S3840x1024_S2048x1024_1792_0))

theorem bX_eq (A : Fin 512 → Fin 1024 → ℝ) (B : Fin 512 → Fin 768 → ℝ) (C : Fin 512 → Fin 2048 → ℝ) (W : Fin 3840 → Fin 1024 → ℝ) : bX (lift2 A) (lift2 B) (lift2 C) (lift2 W)
    = lift2 fun r d => ∑ k, A r k * W ⟨k.val, by omega⟩ d + ∑ k, B r k * W ⟨1024 + k.val, by omega⟩ d + ∑ k, C r k * W ⟨1792 + k.val, by omega⟩ d := by
  funext i; idx_vars i
  pointwise [bX, k0_pay6, lift2_at]
  simp only [mul_coe, add_coe, sum_coe]

theorem Args.blk_x (a : Args m c H M G W DA DB DC) (t : Fin cfg0.N) : bX (iblk m c 0 t) (iblk m c 1 t) (iblk m c 2 t) (iblk m c 3 t)
    = lift2 fun (r : Fin 512) (d : Fin 1024) => Dx.tok (Dx.mix DA DB DC W) (512 * t.val + r.val) d := by
  rw [a.blk_da, a.blk_db, a.blk_dc, a.blk_w, bX_eq]
  rfl

theorem Args.sh (a : Args m c H M G W DA DB DC) (t : Fin cfg0.N) : bSh (bX (iblk m c 0 t) (iblk m c 1 t) (iblk m c 2 t) (iblk m c 3 t))
    = lift2 fun _ => Dx.pSh (Dx.mix DA DB DC W) t.val := by
  rw [a.blk_x, sh_eq]
  rfl
theorem Args.sc (a : Args m c H M G W DA DB DC) (t : Fin cfg0.N) : bSc (bX (iblk m c 0 t) (iblk m c 1 t) (iblk m c 2 t) (iblk m c 3 t)) (iblk m c 4 t) (iblk m c 6 t)
    = lift2 fun _ => Dx.pSc H (Dx.mix DA DB DC W) G t.val := by
  rw [a.blk_x, a.blk_h, a.blk_g, sc_eq]
  rfl
theorem Args.gn (a : Args m c H M G W DA DB DC) (t : Fin cfg0.N) : bGn (bX (iblk m c 0 t) (iblk m c 1 t) (iblk m c 2 t) (iblk m c 3 t)) (iblk m c 4 t) (iblk m c 7 t)
    = lift2 fun _ => Dx.pGn H (Dx.mix DA DB DC W) (scale M) t.val := by
  have ht : t.val < 8 := (idx t).2.2.2.2.2.2.2.2.2.2.2.2
  rw [a.blk_x, a.blk_h, a.blk_m t (Dx.seq t.val) (by simp only []; omega), gn_eq]
  rfl

theorem Args.dh (a : Args m c H M G W DA DB DC) (t : Fin cfg0.N) (r : Fin 512) (d : Fin 1024) : bDh (bX (iblk m c 0 t) (iblk m c 1 t) (iblk m c 2 t) (iblk m c 3 t)) (iblk m c 4 t) (iblk m c 6 t)
      (iblk m c 7 t) (iblk m c 5 t) (ix2 r d)
    = Dx.addAt (m ((c : Thread nD τ).loc main_arg4)) (Dx.dhA H (Dx.mix DA DB DC W) (scale M) G) (512 * t.val + r.val) d := by
  have ht : t.val < 8 := (idx t).2.2.2.2.2.2.2.2.2.2.2.2
  rw [a.blk_x, a.blk_h, a.blk_g, a.blk_m t ⟨(512 * t.val + r.val) / 2048 % 2, Nat.mod_lt _ (by decide)⟩ (by simp only []; omega), dh_at, blk_y]
  rfl

theorem Args.out8 (a : Args m c H M G W DA DB DC) (t : Fin cfg0.N) (r : Fin 512) (d : Fin 1024) : (outsAt0 m c t.val t.isLt).1 (ix2 r d)
    = Dx.addAt (m ((c : Thread nD τ).loc main_arg4)) (Dx.dhA H (Dx.mix DA DB DC W) (scale M) G) (512 * t.val + r.val) d := by
  have ht : t.val < 8 := (idx t).2.2.2.2.2.2.2.2.2.2.2.2
  rw [← a.dh t r d]
  by_cases h0 : t.val % 8 = 0
  · rw [outsAt0_A m c t (by omega) (by omega) h0 (by omega)]
    dsimp only
    frame_out
    rfl
  · by_cases h1 : t.val % 4 = 0
    · rw [outsAt0_C m c t (by omega) (by omega) (by omega) (by omega)]
      dsimp only
      frame_out
      rfl
    · rw [outsAt0_B m c t (by omega) (by omega) (by omega) (by omega)]
      dsimp only
      frame_out
      rfl

/-- The first points of a sequence leave their parts of the gradient of the shift. -/
theorem Args.acc9 (a : Args m c H M G W DA DB DC) (n : ℕ) (hn : n < cfg0.N) (i : S1x1x1024.Idx) : (outsAt0 m c n hn).2.1 i
    = ((∑ p ∈ Finset.range (n % 4 + 1), Dx.pSh (Dx.mix DA DB DC W) (4 * (n / 4) + p) (i 2) : ℝ) : EReal) := by
  have hN : n < 8 := (idx ⟨n, hn⟩).2.2.2.2.2.2.2.2.2.2.2.2
  induction n generalizing i with
  | zero =>
    refine (congrFun (congrArg (fun o => o.2.1) (outsAt0_A m c ⟨0, hn⟩ rfl (by simp) rfl (by simp))) i).trans ?_
    dsimp only
    frame_out
    refine (first3 _ _ (a.sh ⟨0, hn⟩) i).trans ?_
    simp
  | succ n ih =>
    by_cases h1 : (n + 1) % 4 = 0
    · refine (congrFun (congrArg (fun o => o.2.1) (outsAt0_C m c ⟨n + 1, hn⟩ h1 (by simpa using h1) (by simp only []; omega) (by simp))) i).trans ?_
      dsimp only
      frame_out
      refine (first3 _ _ (a.sh ⟨n + 1, hn⟩) i).trans ?_
      rw [h1, show 4 * ((n + 1) / 4) = n + 1 by omega]
      simp
    · have ih := ih (by omega) (ix3 0 0 (i 2)) (by omega)
      refine (congrFun (congrArg (fun o => o.2.1) (outsAt0_B m c ⟨n + 1, hn⟩ h1 h1 (by simp only []; omega) (by simp))) i).trans ?_
      dsimp only
      frame_out
      refine (next3 _ _ (a.sh ⟨n + 1, hn⟩) _ i _ ih).trans ?_
      rw [show (n + 1) % 4 = n % 4 + 1 by omega, show (n + 1) / 4 = n / 4 by omega, Finset.sum_range_succ _ (n % 4 + 1),
        show 4 * (n / 4) + (n % 4 + 1) = n + 1 by omega]
      rfl

/-- The first points of a sequence leave their parts of the gradient of the scale. -/
theorem Args.acc10 (a : Args m c H M G W DA DB DC) (n : ℕ) (hn : n < cfg0.N) (i : S1x1x1024.Idx) : (outsAt0 m c n hn).2.2.1 i
    = ((∑ p ∈ Finset.range (n % 4 + 1), Dx.pSc H (Dx.mix DA DB DC W) G (4 * (n / 4) + p) (i 2) : ℝ) : EReal) := by
  have hN : n < 8 := (idx ⟨n, hn⟩).2.2.2.2.2.2.2.2.2.2.2.2
  induction n generalizing i with
  | zero =>
    refine (congrFun (congrArg (fun o => o.2.2.1) (outsAt0_A m c ⟨0, hn⟩ rfl (by simp) rfl (by simp))) i).trans ?_
    dsimp only
    frame_out
    refine (first3 _ _ (a.sc ⟨0, hn⟩) i).trans ?_
    simp
  | succ n ih =>
    by_cases h1 : (n + 1) % 4 = 0
    · refine (congrFun (congrArg (fun o => o.2.2.1) (outsAt0_C m c ⟨n + 1, hn⟩ h1 (by simpa using h1) (by simp only []; omega) (by simp))) i).trans ?_
      dsimp only
      frame_out
      refine (first3 _ _ (a.sc ⟨n + 1, hn⟩) i).trans ?_
      rw [h1, show 4 * ((n + 1) / 4) = n + 1 by omega]
      simp
    · have ih := ih (by omega) (ix3 0 0 (i 2)) (by omega)
      refine (congrFun (congrArg (fun o => o.2.2.1) (outsAt0_B m c ⟨n + 1, hn⟩ h1 h1 (by simp only []; omega) (by simp))) i).trans ?_
      dsimp only
      frame_out
      refine (next3 _ _ (a.sc ⟨n + 1, hn⟩) _ i _ ih).trans ?_
      rw [show (n + 1) % 4 = n % 4 + 1 by omega, show (n + 1) / 4 = n / 4 by omega, Finset.sum_range_succ _ (n % 4 + 1),
        show 4 * (n / 4) + (n % 4 + 1) = n + 1 by omega]
      rfl

/-- The first points leave their parts of the gradient of the gain. -/
theorem Args.acc11 (a : Args m c H M G W DA DB DC) (n : ℕ) (hn : n < cfg0.N) (i : S1x1024.Idx) : (outsAt0 m c n hn).2.2.2 i
    = ((∑ p ∈ Finset.range (n + 1), Dx.pGn H (Dx.mix DA DB DC W) (scale M) p (i 1) : ℝ) : EReal) := by
  have hN : n < 8 := (idx ⟨n, hn⟩).2.2.2.2.2.2.2.2.2.2.2.2
  induction n generalizing i with
  | zero =>
    refine (congrFun (congrArg (fun o => o.2.2.2) (outsAt0_A m c ⟨0, hn⟩ rfl (by simp) rfl (by simp))) i).trans ?_
    dsimp only
    frame_out
    refine (congrFun (a.gn ⟨0, hn⟩) i).trans ?_
    simp [lift2]
  | succ n ih =>
    have ih := ih (by omega) (ix2 0 (i 1)) (by omega)
    by_cases h1 : (n + 1) % 4 = 0
    · refine (congrFun (congrArg (fun o => o.2.2.2) (outsAt0_C m c ⟨n + 1, hn⟩ h1 (by simpa using h1) (by simp only []; omega) (by simp))) i).trans ?_
      dsimp only
      frame_out
      refine (next2 _ _ (a.gn ⟨n + 1, hn⟩) _ i _ ih).trans ?_
      rw [Finset.sum_range_succ _ (n + 1)]
      rfl
    · refine (congrFun (congrArg (fun o => o.2.2.2) (outsAt0_B m c ⟨n + 1, hn⟩ h1 h1 (by simp only []; omega) (by simp))) i).trans ?_
      dsimp only
      frame_out
      refine (next2 _ _ (a.gn ⟨n + 1, hn⟩) _ i _ ih).trans ?_
      rw [Finset.sum_range_succ _ (n + 1)]
      rfl

/-! ## The arrays after the call -/

theorem Args.final8 (a : Args m c H M G W DA DB DC) : ((dats m 0 c).arrAt 8 cfg0.N : S4096x1024.Idx → EReal)
    = Dx.resid (m ((c : Thread nD τ).loc main_arg4)) (Dx.dhA H (Dx.mix DA DB DC W) (scale M) G) := by
  refine (dats m 0 c).arrAt_eq_of_covers 8 _ (by decide +kernel) fun t hf y => ?_
  have ht : t.val < 8 := (idx t).2.2.2.2.2.2.2.2.2.2.2.2
  have e8 := (idx t).2.2.2.2.2.2.2.2.1
  idx_vars y
  blk_simp
  rw [after0_8, a.out8]
  refine Dx.resid_of _ _ _ _ _ ?_ ?_ <;> blk_simp [e8]
  omega

theorem flush9 : ∀ t : Fin cfg0.N, (cfg0.win 9).flush t = true → t.val % 4 = 3 := (by decide +kernel : ∀ t : Fin grid0.N, _)
theorem flush10 : ∀ t : Fin cfg0.N, (cfg0.win 10).flush t = true → t.val % 4 = 3 := (by decide +kernel : ∀ t : Fin grid0.N, _)

theorem Args.final9 (a : Args m c H M G W DA DB DC) : ((dats m 0 c).arrAt 9 cfg0.N : S2x1x1024.Idx → EReal) = lift3 fun b _ => Dx.shA (Dx.mix DA DB DC W) b := by
  refine (dats m 0 c).arrAt_eq_of_covers 9 _ (by decide +kernel) fun t hf y => ?_
  have ht : t.val < 8 := (idx t).2.2.2.2.2.2.2.2.2.2.2.2
  have e9 := (idx t).2.2.2.2.2.2.2.2.2.1
  idx_vars y
  have h := (congrFun (after0_9 m c t) (ix3 y0 y1 y2)).trans (a.acc9 t.val t.isLt (ix3 y0 y1 y2))
  have k := Dx.seq_of _ _ (Dx.sh_total (Dx.mix DA DB DC W)) t.val (flush9 t hf)
  blk_simp
  refine h.trans (k _ _ ?_ ?_) <;> blk_simp [e9]

theorem Args.final10 (a : Args m c H M G W DA DB DC) : ((dats m 0 c).arrAt 10 cfg0.N : S2x1x1024.Idx → EReal) = lift3 fun b _ => Dx.scA H (Dx.mix DA DB DC W) G b := by
  refine (dats m 0 c).arrAt_eq_of_covers 10 _ (by decide +kernel) fun t hf y => ?_
  have ht : t.val < 8 := (idx t).2.2.2.2.2.2.2.2.2.2.2.2
  have e10 := (idx t).2.2.2.2.2.2.2.2.2.2.1
  idx_vars y
  have h := (congrFun (after0_10 m c t) (ix3 y0 y1 y2)).trans (a.acc10 t.val t.isLt (ix3 y0 y1 y2))
  have k := Dx.seq_of _ _ (Dx.sc_total H (Dx.mix DA DB DC W) G) t.val (flush10 t hf)
  blk_simp
  refine h.trans (k _ _ ?_ ?_) <;> blk_simp [e10]

theorem Args.final11 (a : Args m c H M G W DA DB DC) : ((dats m 0 c).arrAt 11 cfg0.N : S1x1024.Idx → EReal) = lift2 fun _ => Dx.gnA H (Dx.mix DA DB DC W) (scale M) := by
  refine (dats m 0 c).arrAt_eq_of_after_last 11 ⟨7, by decide⟩ (by decide +kernel) _ fun j => ?_
  idx_vars j
  have h := (congrFun (after0_11 m c ⟨7, by decide⟩) (ix2 j0 j1)).trans ((a.acc11 7 (by decide) (ix2 j0 j1)).trans
    (congrArg (fun x : ℝ => (x : EReal)) (Dx.gn_total H (Dx.mix DA DB DC W) (scale M) j1)))
  blk_simp
  exact h

end Cert.KernelDxMIdeal.Value

end
-- ==== Proof.DxMReference.lean ====
/- The reference of the norm's backward call after the mixer's products, over ℝ. -/
module

public import proofs.«01_k».proof.Proof.DxReference
public import proofs.«01_k».proof.Proof.Gen.ReferenceDxMIdeal.Run

@[expose] public section

set_option maxRecDepth 16384

noncomputable section

namespace Cert.ReferenceDxMIdeal.Value

open Cert.ReferenceDxMIdeal Cert.ReferenceDxMIdeal.Gen Idealize.ShloMosaic Idealize.ShloMosaic.TcCoe Idealize.SL.Sem
open Cert.Reals Cert.Consts

theorem slice_eq (M : Fin 2 → Fin 9216 → ℝ) : (extractStridedSlice S2x1024 ![0, 4096] (lift2 M : FVec Ideal S2x9216 .f32) slices_S2x9216_S2x1024_0_4096 : FVec Ideal S2x1024 .f32)
    = lift2 fun b d => M b ⟨4096 + d.val, by omega⟩ := by
  funext i; idx_vars i
  pointwise [lift2_at]
  blk_ext []

/-- Three groups of columns side by side. -/
def cat (DA : Fin 2 → Fin 2048 → Fin 1024 → ℝ) (DB : Fin 2 → Fin 2048 → Fin 768 → ℝ) (DC : Fin 2 → Fin 2048 → Fin 2048 → ℝ) (b : Fin 2) (s : Fin 2048) (k : Fin 3840) : ℝ :=
  if h : k.val < 1024 then DA b s ⟨k.val, h⟩ else if h' : k.val - 1024 < 768 then DB b s ⟨k.val - 1024, h'⟩ else DC b s ⟨k.val - 1024 - 768, by omega⟩

theorem cat_eq (DA : Fin 2 → Fin 2048 → Fin 1024 → ℝ) (DB : Fin 2 → Fin 2048 → Fin 768 → ℝ) (DC : Fin 2 → Fin 2048 → Fin 2048 → ℝ) :
    (concatenate S2x2048x3840 2 [⟨S2x2048x1024, (lift3 DA : FVec Ideal S2x2048x1024 .f32)⟩, ⟨S2x2048x768, (lift3 DB : FVec Ideal S2x2048x768 .f32)⟩,
      ⟨S2x2048x2048, (lift3 DC : FVec Ideal S2x2048x2048 .f32)⟩] concatenates_S2x2048x1024_S2x2048x768_S2x2048x2048_S2x2048x3840_d2 : FVec Ideal S2x2048x3840 .f32) = lift3 (cat DA DB DC) := by
  funext i; idx_vars i
  pointwise [lift3_at]
  unfold cat
  split
  · rfl
  · split <;> rfl

theorem sum_groups (f : Fin 3840 → ℝ) : ∑ k, f k = ∑ k : Fin 1024, f ⟨k.val, by omega⟩ + ∑ k : Fin 768, f ⟨1024 + k.val, by omega⟩ + ∑ k : Fin 2048, f ⟨1792 + k.val, by omega⟩ :=
  (Fin.sum_univ_add (a := 1792) (b := 2048) f).trans (congrArg (· + _) (Fin.sum_univ_add (a := 1024) (b := 768) fun k => f ⟨k.val, by omega⟩))

theorem d_eq (DA : Fin 2 → Fin 2048 → Fin 1024 → ℝ) (DB : Fin 2 → Fin 2048 → Fin 768 → ℝ) (DC : Fin 2 → Fin 2048 → Fin 2048 → ℝ) (W : Fin 1024 → Fin 3840 → ℝ) :
    (Host.dotGeneral (φ₁ := .f32) (φ₂ := .f32) dot_S2x2048x3840_S1024x3840_S2x2048x1024_2_1_01_0_n_n none (concatenate S2x2048x3840 2 [⟨S2x2048x1024, (lift3 DA : FVec Ideal S2x2048x1024 .f32)⟩,
      ⟨S2x2048x768, (lift3 DB : FVec Ideal S2x2048x768 .f32)⟩, ⟨S2x2048x2048, (lift3 DC : FVec Ideal S2x2048x2048 .f32)⟩] concatenates_S2x2048x1024_S2x2048x768_S2x2048x2048_S2x2048x3840_d2
      : FVec Ideal S2x2048x3840 .f32) (lift2 W) : FVec Ideal S2x2048x1024 .f32) = lift3 (Dx.mix DA DB DC W) := by
  rw [cat_eq]
  funext i; idx_vars i
  pointwise [lift2_at, lift3_at]
  simp only [mul_coe, sum_coe]
  refine congrArg (fun x : ℝ => (x : EReal)) ((sum_groups _).trans ?_)
  unfold Dx.mix
  refine congrArg₂ (· + ·) (congrArg₂ (· + ·) (Finset.sum_congr rfl fun k _ => congrArg (· * _) ?_) (Finset.sum_congr rfl fun k _ => congrArg (· * _) ?_))
    (Finset.sum_congr rfl fun k _ => congrArg (· * _) ?_)
  · exact dif_pos k.isLt
  · refine (dif_neg (by simp only []; omega)).trans ((dif_pos (by simp only []; omega)).trans (congrArg (DB i0 i1) (Fin.ext ?_)))
    simp only []
    omega
  · refine (dif_neg (by simp only []; omega)).trans ((dif_neg (by simp only []; omega)).trans (congrArg (DC i0 i1) (Fin.ext ?_)))
    simp only []
    omega

/-- The arguments as arrays of reals, the incoming gradient of the rows left as it is. -/
structure Args (m : (ℓ : Loc nD τ sig) → Buf (Elt Ideal) ℓ) (c : Dev nD) (H : Fin 2 → Fin 2048 → Fin 1024 → ℝ) (M : Fin 2 → Fin 9216 → ℝ) (G : Fin 1024 → ℝ) (W : Fin 1024 → Fin 3840 → ℝ)
    (DA : Fin 2 → Fin 2048 → Fin 1024 → ℝ) (DB : Fin 2 → Fin 2048 → Fin 768 → ℝ) (DC : Fin 2 → Fin 2048 → Fin 2048 → ℝ) (Y : FVec Ideal S2x2048x1024 .f32) : Prop where
  h : (m ((c.tc : Thread nD τ).loc main_arg0) : FVec Ideal S2x2048x1024 .f32) = lift3 H
  mo : (m ((c.tc : Thread nD τ).loc main_arg1) : FVec Ideal S2x9216 .f32) = lift2 M
  g : (m ((c.tc : Thread nD τ).loc main_arg2) : FVec Ideal S1x1024 .f32) = lift2 fun _ => G
  w : (m ((c.tc : Thread nD τ).loc main_arg3) : FVec Ideal S1024x3840 .f32) = lift2 W
  y : (m ((c.tc : Thread nD τ).loc main_arg4) : FVec Ideal S2x2048x1024 .f32) = Y
  da : (m ((c.tc : Thread nD τ).loc main_arg5) : FVec Ideal S2x2048x1024 .f32) = lift3 DA
  db : (m ((c.tc : Thread nD τ).loc main_arg6) : FVec Ideal S2x2048x768 .f32) = lift3 DB
  dc : (m ((c.tc : Thread nD τ).loc main_arg7) : FVec Ideal S2x2048x2048 .f32) = lift3 DC

variable {m : (ℓ : Loc nD τ sig) → Buf (Elt Ideal) ℓ}

/-- The reference's four results on arrays of reals, and its arguments. -/
theorem run_reals (ρ : Dev nD → PrngReg) (H : Dev nD → Fin 2 → Fin 2048 → Fin 1024 → ℝ) (M : Dev nD → Fin 2 → Fin 9216 → ℝ) (G : Dev nD → Fin 1024 → ℝ)
    (W : Dev nD → Fin 1024 → Fin 3840 → ℝ)
    (DA : Dev nD → Fin 2 → Fin 2048 → Fin 1024 → ℝ) (DB : Dev nD → Fin 2 → Fin 2048 → Fin 768 → ℝ) (DC : Dev nD → Fin 2 → Fin 2048 → Fin 2048 → ℝ) (Y : Dev nD → FVec Ideal S2x2048x1024 .f32)
    (a : ∀ c, Args m c (H c) (M c) (G c) (W c) (DA c) (DB c) (DC c) (Y c)) :
    θ_run defs (onTc (τ := τ) (main (F := Ideal))) ⟨m, fun _ => 0, ρ⟩ fun r => ∀ c : Dev nD,
      r.2.mem ((c.tc : Thread nD τ).loc main_v70) = (Dx.resid (Y c) (Dx.dhA (H c) (Dx.mix (DA c) (DB c) (DC c) (W c)) (fun b d => M c b ⟨4096 + d.val, by omega⟩) (G c)) : FVec Ideal S4096x1024 .f32)
      ∧ r.2.mem ((c.tc : Thread nD τ).loc main_v71) = (lift3 (fun b _ => Dx.shA (Dx.mix (DA c) (DB c) (DC c) (W c)) b) : FVec Ideal S2x1x1024 .f32)
      ∧ r.2.mem ((c.tc : Thread nD τ).loc main_v72) = (lift3 (fun b _ => Dx.scA (H c) (Dx.mix (DA c) (DB c) (DC c) (W c)) (G c) b) : FVec Ideal S2x1x1024 .f32)
      ∧ r.2.mem ((c.tc : Thread nD τ).loc main_v73) = (lift2 (fun _ => Dx.gnA (H c) (Dx.mix (DA c) (DB c) (DC c) (W c)) (fun b d => M c b ⟨4096 + d.val, by omega⟩)) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ⟨(h c).1.trans ?_, (h c).2.1.trans ?_, (h c).2.2.1.trans ?_, (h c).2.2.2.1.trans ?_, (h c).2.2.2.2⟩) (run m ρ)
  · unfold res_main_v70
    rw [(a c).h, (a c).mo, (a c).g, (a c).w, (a c).y, (a c).da, (a c).db, (a c).dc, d_eq, slice_eq]
    exact Cert.ReferenceDxIdeal.Value.dh_eq _ _ _ _ _
  · rw [(a c).w, (a c).da, (a c).db, (a c).dc, d_eq]
    exact Cert.ReferenceDxIdeal.Value.sh_eq _
  · rw [(a c).h, (a c).g, (a c).w, (a c).da, (a c).db, (a c).dc, d_eq]
    exact Cert.ReferenceDxIdeal.Value.dsc_eq _ _ _
  · rw [(a c).h, (a c).mo, (a c).w, (a c).da, (a c).db, (a c).dc, d_eq, slice_eq]
    exact Cert.ReferenceDxIdeal.Value.dgn_eq _ _ _

end Cert.ReferenceDxMIdeal.Value

end
-- ==== Proof.DxMClaims.lean ====
/- The claims about the norm's backward call after the mixer's products. -/
module

public import proofs.«01_k».proof.Defs
public import proofs.«01_k».proof.Proof.Finite
public import proofs.«01_k».proof.Proof.DxMOuts
public import proofs.«01_k».proof.Proof.DxMReference
public import proofs.«01_k».proof.Proof.Gen.KernelDxM.Frame
public import proofs.«01_k».proof.Proof.Gen.Pre_finite_dxm

@[expose] public section

set_option maxRecDepth 16384

noncomputable section

namespace Cert.Proof.DxMix

open Idealize.ShloMosaic Idealize.ShloMosaic.TcCoe Idealize.SL.Sem Cert.Reals

theorem frameR : Cert.quiescent_ReferenceDxMIdeal := fun m g _ =>
  (θ_run Cert.ReferenceDxMIdeal.defs _ _).mono (fun r h => ⟨fun c => (h c).2.2.2.2, sem_eq_zero_of_no_sems (by decide) r.2⟩) (Cert.ReferenceDxMIdeal.Value.run m g)

theorem frameR_finite : Cert.quiescent_ReferenceDxMIdeal_pre_finite_dxm := fun m g _ => frameR m g trivial

open Cert.Pre_finite_dxm in
/-- Finite arguments are arrays of reals; an axis of length one is left out. -/
theorem reals (X0 : FVec Ideal S2x2048x1024 .f32) (X1 : FVec Ideal S2x9216 .f32) (X2 : FVec Ideal S1x1024 .f32) (X3 : FVec Ideal S1024x3840 .f32)
    (X4 X5 : FVec Ideal S2x2048x1024 .f32) (X6 : FVec Ideal S2x2048x768 .f32) (X7 : FVec Ideal S2x2048x2048 .f32)
    (h : Cert.Pre_finite_dxm.fn (F := Ideal) X0 X1 X2 X3 X4 X5 X6 X7 = fun _ => 1#1) :
    ∃ (H : Fin 2 → Fin 2048 → Fin 1024 → ℝ) (M : Fin 2 → Fin 9216 → ℝ) (G : Fin 1024 → ℝ) (W : Fin 1024 → Fin 3840 → ℝ)
        (DA : Fin 2 → Fin 2048 → Fin 1024 → ℝ) (DB : Fin 2 → Fin 2048 → Fin 768 → ℝ) (DC : Fin 2 → Fin 2048 → Fin 2048 → ℝ),
      X0 = lift3 H ∧ X1 = lift2 M ∧ X2 = (lift2 fun _ => G) ∧ X3 = lift2 W ∧ X5 = lift3 DA ∧ X6 = lift3 DB ∧ X7 = lift3 DC := by
  have e := congrFun h (Shape.Idx.first Facts.h_S_)
  dsimp only [fn, fn_part1] at e
  obtain ⟨e, h7⟩ := andi_at _ _ _ e
  obtain ⟨e, h6⟩ := andi_at _ _ _ e
  obtain ⟨e, h5⟩ := andi_at _ _ _ e
  obtain ⟨e, h3⟩ := andi_at _ _ _ e
  obtain ⟨e, h2⟩ := andi_at _ _ _ e
  obtain ⟨h0, h1⟩ := andi_at _ _ _ e
  haveI : Subsingleton S_.Idx := ⟨fun a b => funext fun k => k.elim0⟩
  obtain ⟨H, hH⟩ := exists_lift3 X0 (real_of_all X0 _ _ _ _ _ h0)
  obtain ⟨M, hM⟩ := exists_lift2 X1 (real_of_all X1 _ _ _ _ _ h1)
  obtain ⟨G, hG⟩ := exists_lift2 X2 (real_of_all X2 _ _ _ _ _ h2)
  obtain ⟨W, hW⟩ := exists_lift2 X3 (real_of_all X3 _ _ _ _ _ h3)
  obtain ⟨DA, hDA⟩ := exists_lift3 X5 (real_of_all X5 _ _ _ _ _ h5)
  obtain ⟨DB, hDB⟩ := exists_lift3 X6 (real_of_all X6 _ _ _ _ _ h6)
  obtain ⟨DC, hDC⟩ := exists_lift3 X7 (real_of_all X7 _ _ _ _ _ h7)
  have u1 : ∀ {α : Type} (f : Fin 1 → α), f = fun _ => f 0 := fun f => funext fun i => congrArg f (Subsingleton.elim i 0)
  exact ⟨H, M, G 0, W, DA, DB, DC, hH, hM, hG.trans (congrArg lift2 (u1 G)), hW, hDA, hDB, hDC⟩

open Cert.KernelDxMIdeal Cert.KernelDxMIdeal.Gen in
/-- The kernel's run on arrays of reals: its four results and its arguments. -/
theorem run (m : (ℓ : Loc nD τ sig) → Buf (Elt Ideal) ℓ) (g : Dev nD → PrngReg) (H : Dev nD → Fin 2 → Fin 2048 → Fin 1024 → ℝ) (M : Dev nD → Fin 2 → Fin 9216 → ℝ)
    (G : Dev nD → Fin 1024 → ℝ) (W : Dev nD → Fin 1024 → Fin 3840 → ℝ)
    (DA : Dev nD → Fin 2 → Fin 2048 → Fin 1024 → ℝ) (DB : Dev nD → Fin 2 → Fin 2048 → Fin 768 → ℝ) (DC : Dev nD → Fin 2 → Fin 2048 → Fin 2048 → ℝ)
    (a : ∀ c, Value.Args m c (H c) (M c) (G c) (W c) (DA c) (DB c) (DC c)) :
    θ_run defs (onTc (τ := τ) (main (F := Ideal))) ⟨m, fun _ => 0, g⟩ fun r => ∀ c : Dev nD,
      r.2.mem ((c.tc : Thread nD τ).loc main_v11_0) = (Dx.resid (m ((c.tc : Thread nD τ).loc main_arg4)) (Dx.dhA (H c) (Dx.mix (DA c) (DB c) (DC c) (W c)) (fun b d => M c b ⟨4096 + d.val, by omega⟩) (G c)) : FVec Ideal S4096x1024 .f32)
      ∧ r.2.mem ((c.tc : Thread nD τ).loc main_v11_1) = (lift3 (fun b _ => Dx.shA (Dx.mix (DA c) (DB c) (DC c) (W c)) b) : FVec Ideal S2x1x1024 .f32)
      ∧ r.2.mem ((c.tc : Thread nD τ).loc main_v11_2) = (lift3 (fun b _ => Dx.scA (H c) (Dx.mix (DA c) (DB c) (DC c) (W c)) (G c) b) : FVec Ideal S2x1x1024 .f32)
      ∧ r.2.mem ((c.tc : Thread nD τ).loc main_v11_3) = (lift2 (fun _ => Dx.gnA (H c) (Dx.mix (DA c) (DB c) (DC c) (W c)) (fun b d => M c b ⟨4096 + d.val, by omega⟩)) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.2 c).1 8).trans (Value.Args.final8 (a c)), ((h.2 c).1 9).trans (Value.Args.final9 (a c)),
    ((h.2 c).1 10).trans (Value.Args.final10 (a c)), ((h.2 c).1 11).trans (Value.Args.final11 (a c)), h.1 c⟩) (θ_run_and (unchanged m g) (run_main m g))

/-- At exact arithmetic and finite arguments the kernel's four results are the reference's. -/
theorem algebraic : Cert.algebraic_KernelDxMIdeal_ReferenceDxMIdeal_pre_finite_dxm := by
  intro m g m' g' hpre hag
  choose H M G W DA DB DC h0 h1 h2 h3 h5 h6 h7 using fun c => reals _ _ _ _ _ _ _ _ (hpre c)
  refine ⟨_, _, _, _, run m g H M G W DA DB DC fun c => ⟨h0 c, h1 c, h2 c, h3 c, h5 c, h6 c, h7 c⟩,
    Cert.ReferenceDxMIdeal.Value.run_reals g' H M G W DA DB DC _ fun c => ⟨?_, ?_, ?_, ?_, (hag c).2.2.2.2.1, ?_, ?_, ?_⟩⟩
  · exact (hag c).1.trans (h0 c)
  · exact (hag c).2.1.trans (h1 c)
  · exact (hag c).2.2.1.trans (h2 c)
  · exact (hag c).2.2.2.1.trans (h3 c)
  · exact (hag c).2.2.2.2.2.1.trans (h5 c)
  · exact (hag c).2.2.2.2.2.2.1.trans (h6 c)
  · exact (hag c).2.2.2.2.2.2.2.trans (h7 c)

end Cert.Proof.DxMix

end
-- ==== Proof.GateMath.lean ====
/- The mixer's gates over ℝ, one token at a time: the forward rows and their gradients. -/
module

public import proofs.«01_k».proof.Proof.DxMath

@[expose] public section

noncomputable section

namespace Cert.Gate

open Cert.Reals Idealize.ShloMosaic

/-- The logistic function. -/
def sig (x : ℝ) : ℝ := 1 * (1 / (1 + Real.exp (-x)))

theorem sig_coe (x : ℝ) : Ideal.div 1 (1 + Ideal.exp (-(x : EReal))) = ((sig x : ℝ) : EReal) := by
  have h : Ideal.exp ((-x : ℝ) : EReal) = ((Real.exp (-x) : ℝ) : EReal) := rfl
  rw [neg_coe, h, one_coe, add_coe, div_coe _ _ (add_pos one_pos (Real.exp_pos _)).ne']
  rfl

theorem logistic_coe (x : ℝ) : Ideal.logistic (x : EReal) = ((sig x : ℝ) : EReal) := sig_coe x

/-- A row through a matrix, and back through its transpose. -/
def mul {a b : ℕ} (W : Fin a → Fin b → ℝ) (x : Fin a → ℝ) (d : Fin b) : ℝ := ∑ k, x k * W k d
def back {a b : ℕ} (W : Fin a → Fin b → ℝ) (x : Fin b → ℝ) (k : Fin a) : ℝ := ∑ d, x d * W k d

/-- The gated sum of two rows. -/
def merged (ya yb ga gb : Fin 1024 → ℝ) (d : Fin 1024) : ℝ := sig (ga d) * ya d + sig (gb d) * yb d

/-- The residual's scale on a row, the gradient by a gate and by the row it gates. -/
def scaled (g dh : Fin 1024 → ℝ) (d : Fin 1024) : ℝ := g d * dh d
def dgate (x y g : Fin 1024 → ℝ) (d : Fin 1024) : ℝ := x d * y d * (sig (g d) * (1 - sig (g d)))
def drow (x g : Fin 1024 → ℝ) (d : Fin 1024) : ℝ := x d * sig (g d)

/-- Two rows side by side. -/
def beside (f g : Fin 1024 → ℝ) (j : Fin 2048) : ℝ := if h : j.val < 1024 then f ⟨j.val, h⟩ else g ⟨j.val - 1024, by omega⟩

theorem beside_left (f g : Fin 1024 → ℝ) (j : Fin 2048) (d : Fin 1024) (h : d.val = j.val) : beside f g j = f d := by
  unfold beside
  rw [dif_pos (by omega)]
  exact congrArg f (Fin.ext h.symm)
theorem beside_right (f g : Fin 1024 → ℝ) (j : Fin 2048) (d : Fin 1024) (h : 1024 + d.val = j.val) : beside f g j = g d := by
  unfold beside
  rw [dif_neg (by omega)]
  exact congrArg g (Fin.ext (by simp only []; omega))

/-- The mixer's arguments on one device. -/
structure Arr where
  S : Fin 2 → Fin 2048 → Fin 512 → ℝ
  A : Fin 2 → Fin 2048 → Fin 512 → ℝ
  GA : Fin 2 → Fin 2048 → Fin 1024 → ℝ
  GB : Fin 2 → Fin 2048 → Fin 1024 → ℝ
  M : Fin 2 → Fin 9216 → ℝ
  WA : Fin 512 → Fin 1024 → ℝ
  WB : Fin 512 → Fin 1024 → ℝ
  WO : Fin 1024 → Fin 1024 → ℝ
  DH : Fin 2 → Fin 2048 → Fin 1024 → ℝ

namespace Arr
variable (x : Arr)

/-- The scale of the residual: the columns from 5120 of the modulation vectors. -/
def G (b : Fin 2) (d : Fin 1024) : ℝ := x.M b ⟨5120 + d.val, by omega⟩
def YA (b : Fin 2) (s : Fin 2048) : Fin 1024 → ℝ := mul x.WA (x.S b s)
def YB (b : Fin 2) (s : Fin 2048) : Fin 1024 → ℝ := mul x.WB (x.A b s)
def Out (b : Fin 2) (s : Fin 2048) : Fin 1024 → ℝ := mul x.WO (merged (x.YA b s) (x.YB b s) (x.GA b s) (x.GB b s))
def DM (b : Fin 2) (s : Fin 2048) : Fin 1024 → ℝ := scaled (x.G b) (x.DH b s)
def DMG (b : Fin 2) (s : Fin 2048) : Fin 1024 → ℝ := back x.WO (x.DM b s)
def DGA (b : Fin 2) (s : Fin 2048) : Fin 1024 → ℝ := dgate (x.DMG b s) (x.YA b s) (x.GA b s)
def DGB (b : Fin 2) (s : Fin 2048) : Fin 1024 → ℝ := dgate (x.DMG b s) (x.YB b s) (x.GB b s)
def DYA (b : Fin 2) (s : Fin 2048) : Fin 1024 → ℝ := drow (x.DMG b s) (x.GA b s)
def DYB (b : Fin 2) (s : Fin 2048) : Fin 1024 → ℝ := drow (x.DMG b s) (x.GB b s)
def DS (b : Fin 2) (s : Fin 2048) : Fin 512 → ℝ := back x.WA (x.DYA b s)
def DT (b : Fin 2) (s : Fin 2048) : Fin 512 → ℝ := back x.WB (x.DYB b s)
def DG (b : Fin 2) (s : Fin 2048) : Fin 2048 → ℝ := beside (x.DGA b s) (x.DGB b s)

/-- The product of the gradient and of what the scale multiplies, whose sum over a sequence is the gradient of the scale. -/
def P (b : Fin 2) (s : Fin 2048) (d : Fin 1024) : ℝ := x.DH b s d * x.Out b s d
end Arr

/-- The rows of both sequences one below the other. -/
def rows {n : ℕ} (f : Fin 2 → Fin 2048 → Fin n → ℝ) : (⟨2, ![4096, n]⟩ : Shape).Idx → EReal := lift2 fun (t : Fin 4096) => Dx.tok f t.val

theorem rows_of {n : ℕ} (f : Fin 2 → Fin 2048 → Fin n → ℝ) (t : ℕ) (d : Fin n) (i : (⟨2, ![4096, n]⟩ : Shape).Idx) (e0 : t = (i 0).val) (e1 : d.val = (i 1).val) :
    ((Dx.tok f t d : ℝ) : EReal) = rows f i := by
  subst e0
  obtain rfl : d = i 1 := Fin.ext e1
  rfl

theorem tok_comp {α β : Type} (g : α → β) (f : Fin 2 → Fin 2048 → α) (n : ℕ) : Dx.tok (fun b s => g (f b s)) n = g (Dx.tok f n) := rfl

end Cert.Gate

end
-- ==== Proof.MixPoint.lean ====
/- One grid point of the mixer's backward call, over ℝ. -/
module

public import proofs.«01_k».proof.Proof.GateMath
public import proofs.«01_k».proof.Proof.Consts
public import proofs.«01_k».proof.Proof.Gen.KernelMixIdeal.Skeleton
public import Idealize.ShloMosaic.Lib.Pointwise

@[expose] public section

set_option maxRecDepth 16384

noncomputable section

namespace Cert.KernelMixIdeal.Value

open Cert.KernelMixIdeal Cert.KernelMixIdeal.Gen Idealize.ShloMosaic
open Cert.Reals Cert.Consts

variable (dh m y g : Fin 512 → Fin 1024 → ℝ) (ga : Fin 1024 → ℝ) (WO : Fin 1024 → Fin 1024 → ℝ) (W : Fin 512 → Fin 1024 → ℝ)

theorem dm_eq : k0_pay6 (F := Ideal) (lift2 dh) (lift4 fun (_ _ _ : Fin 1) => ga) = lift2 fun r => Gate.scaled ga (dh r) := by
  funext i; idx_vars i
  pointwise [k0_pay6, k0_pay5, lift2_at, lift4_at]
  simp only [mul_coe]
  rfl

theorem part_eq : k0_pay7 (F := Ideal) (lift2 dh) (lift2 m) = lift2 fun (_ : Fin 1) d => ∑ r, dh r d * m r d := by
  funext i; idx_vars i
  pointwise [k0_pay7, k0_pay5, lift2_at]
  simp only [mul_coe, sum_coe]

theorem dmg_eq : k0_pay10 (F := Ideal) (lift2 dh) (lift2 WO) = lift2 fun r => Gate.back WO (dh r) := by
  funext i; idx_vars i
  pointwise [k0_pay10, lift2_at]
  simp only [mul_coe, sum_coe]
  rfl

theorem sa_eq : k0_pay11 (F := Ideal) (lift2 g) = lift2 fun r d => Gate.sig (g r d) := by
  funext i; idx_vars i
  pointwise [k0_pay11, lift2_at]
  exact Gate.logistic_coe _
theorem sb_eq : k0_pay12 (F := Ideal) (lift2 g) = lift2 fun r d => Gate.sig (g r d) := sa_eq g

theorem dga_eq : k0_pay13 (F := Ideal) (lift2 dh) (lift2 WO) (lift2 g) (lift2 y) = lift2 fun r => Gate.dgate (Gate.back WO (dh r)) (y r) (g r) := by
  unfold k0_pay13
  rw [dmg_eq, sa_eq]
  funext i; idx_vars i
  pointwise [lift2_at]
  simp only [mul_coe, sub_coe, one_coe]
  rfl
theorem dgb_eq : k0_pay14 (F := Ideal) (lift2 dh) (lift2 WO) (lift2 g) (lift2 y) = lift2 fun r => Gate.dgate (Gate.back WO (dh r)) (y r) (g r) :=
  dga_eq dh y g WO

theorem dya_eq : k0_pay1 (F := Ideal) (k0_pay10 (F := Ideal) (lift2 dh) (lift2 WO)) (k0_pay11 (F := Ideal) (lift2 g)) = lift2 fun r => Gate.drow (Gate.back WO (dh r)) (g r) := by
  rw [dmg_eq, sa_eq]
  funext i; idx_vars i
  pointwise [k0_pay1, lift2_at]
  simp only [mul_coe]
  rfl
theorem dyb_eq : k0_pay2 (F := Ideal) (k0_pay10 (F := Ideal) (lift2 dh) (lift2 WO)) (k0_pay12 (F := Ideal) (lift2 g)) = lift2 fun r => Gate.drow (Gate.back WO (dh r)) (g r) :=
  dya_eq dh g WO

theorem ds_eq : k0_pay3 (F := Ideal) (k0_pay10 (F := Ideal) (lift2 dh) (lift2 WO)) (k0_pay11 (F := Ideal) (lift2 g)) (lift2 W)
    = lift2 fun r => Gate.back W (Gate.drow (Gate.back WO (dh r)) (g r)) := by
  unfold k0_pay3
  rw [dya_eq]
  funext i; idx_vars i
  pointwise [lift2_at]
  simp only [mul_coe, sum_coe]
  rfl
theorem dt_eq : k0_pay4 (F := Ideal) (k0_pay10 (F := Ideal) (lift2 dh) (lift2 WO)) (k0_pay12 (F := Ideal) (lift2 g)) (lift2 W)
    = lift2 fun r => Gate.back W (Gate.drow (Gate.back WO (dh r)) (g r)) := ds_eq dh g WO W

/-- The first tile of a sequence leaves its own part, and a later one adds to what it finds. -/
theorem first3 (a b : FVec Ideal S512x1024 .f32) (f : Fin 1024 → ℝ) (hv : k0_pay7 (F := Ideal) a b = lift2 fun _ => f) (i : S1x1x1024.Idx) :
    k0_pay8 (F := Ideal) a b i = ((f (i 2) : ℝ) : EReal) := by
  unfold k0_pay8
  rw [hv]
  idx_vars i
  pointwise [lift2_at]
theorem next3 (v : FVec Ideal S1x1024 .f32) (f : Fin 1024 → ℝ) (hv : v = lift2 fun _ => f) (o : FVec Ideal S1x1x1024 .f32) (i : S1x1x1024.Idx) (z : ℝ)
    (ho : o (ix3 0 0 (i 2)) = ((z : ℝ) : EReal)) : k0_pay9 (F := Ideal) v o i = ((z + f (i 2) : ℝ) : EReal) := by
  subst hv; idx_vars i
  pointwise [k0_pay9, lift2_at]
  rw [← add_coe]
  exact congrArg (· + _) ho

end Cert.KernelMixIdeal.Value

end
-- ==== Proof.MixValue.lean ====
/- The mixer's backward call over ℝ: the arrays the host prepares, and the call's blocks. -/
module

public import proofs.«01_k».proof.Proof.MixPoint
public import proofs.«01_k».proof.Proof.Gen.KernelMixIdeal.Frame
public import Idealize.ShloMosaic.Lib.Pipeline.ValueKit

@[expose] public section

set_option maxRecDepth 16384

noncomputable section

namespace Cert.KernelMixIdeal.Value

open Cert.KernelMixIdeal Cert.KernelMixIdeal.Gen Idealize.ShloMosaic Idealize.ShloMosaic.TcCoe Idealize.SL.Sem
open Cert.Reals Cert.Consts
open Idealize.ShloMosaic.Pipeline (Dat)

variable (m : (ℓ : Loc nD τ sig) → Buf (Elt Ideal) ℓ)

/-- Every window's block index, over all eight grid points. -/
theorem idx : ∀ t : Fin cfg0.N, win0_0.index t = ![t.val, 0] ∧ win0_1.index t = ![t.val, 0] ∧ win0_2.index t = ![t.val / 4, 5, 0, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![t.val, 0] ∧ win0_10.index t = ![t.val, 0] ∧ win0_11.index t = ![t.val, 0] ∧ win0_12.index t = ![t.val, 0] ∧ win0_13.index t = ![t.val, 0]
    ∧ win0_14.index t = ![t.val, 0] ∧ win0_15.index t = ![t.val / 4, 0, 0] ∧ t.val < 8 :=
  (by decide +kernel : ∀ t : Fin grid0.N, _)

theorem lt8 (t : Fin cfg0.N) : t.val < 8 := (idx t).2.2.2.2.2.2.2.2.2.2.2.2.2.2.2.2

/-! ## The arrays the call reads -/

theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

theorem rows_eq (f : Fin 2 → Fin 2048 → Fin 1024 → ℝ) : (shapeCast S4096x1024 (lift3 f : FVec Ideal S2x2048x1024 .f32) shapeCasts_S2x2048x1024_S4096x1024 : FVec Ideal S4096x1024 .f32) = Gate.rows f := by
  funext i; idx_vars i
  refine Eq.trans ?_ (lift3_at f ⟨i0.val / 2048 % 2, by omega⟩ ⟨i0.val % 2048, by omega⟩ i1)
  pointwise
  blk_ext []

theorem rows512_eq (f : Fin 2 → Fin 2048 → Fin 512 → ℝ) : (shapeCast S4096x512 (lift3 f : FVec Ideal S2x2048x512 .f32) shapeCasts_S2x2048x512_S4096x512 : FVec Ideal S4096x512 .f32) = Gate.rows f := by
  funext i; idx_vars i
  refine Eq.trans ?_ (lift3_at f ⟨i0.val / 2048 % 2, by omega⟩ ⟨i0.val % 2048, by omega⟩ i1)
  pointwise
  blk_ext []

/-- A projection, the two gates side by side, and the output product of the gated sum. -/
def hY (X : FVec Ideal S2x2048x512 .f32) (W : FVec Ideal S512x1024 .f32) : FVec Ideal S4096x1024 .f32 :=
  Host.dotGeneral dot_S4096x512_S512x1024_S4096x1024_1_0_0_1_n_n none (truncf .bf16 (shapeCast S4096x512 X shapeCasts_S2x2048x512_S4096x512) bitsLt_bf16_f32 : FVec Ideal S4096x512 .bf16)
    (truncf .bf16 W bitsLt_bf16_f32 : FVec Ideal S512x1024 .bf16)
def hG (A B : FVec Ideal S2x2048x1024 .f32) : FVec Ideal S4096x2048 .bf16 :=
  truncf .bf16 (shapeCast S4096x2048 (concatenate S2x2048x2048 2 [⟨S2x2048x1024, A⟩, ⟨S2x2048x1024, B⟩] concatenates_S2x2048x1024_S2x2048x1024_S2x2048x2048_d2 : FVec Ideal S2x2048x2048 .f32) shapeCasts_S2x2048x2048_S4096x2048) bitsLt_bf16_f32
def hSig (X : FVec Ideal S4096x1024 .bf16) : FVec Ideal S4096x1024 .f32 :=
  Host.divf (broadcastInDim S4096x1024 ![] bcast_S_S4096x1024 (constant S_ .f32 0x3F800000#32)) (addf (broadcastInDim S4096x1024 ![] bcast_S_S4096x1024 (constant S_ .f32 0x3F800000#32)) (Host.exp (Host.negf (extf .f32 X bitsLt_bf16_f32))))
def hO (G : FVec Ideal S4096x2048 .bf16) (YA YB : FVec Ideal S4096x1024 .f32) (W : FVec Ideal S1024x1024 .f32) : FVec Ideal S4096x1024 .bf16 :=
  truncf .bf16 (Host.dotGeneral dot_S4096x1024_S1024x1024_S4096x1024_1_0_0_1_n_n none
    (truncf .bf16 (addf (mulf (hSig (extractStridedSlice S4096x1024 ![0, 0] G slices_S4096x2048_S4096x1024_0_0)) YA) (mulf (hSig (extractStridedSlice S4096x1024 ![0, 1024] G slices_S4096x2048_S4096x1024_0_1024)) YB)) bitsLt_bf16_f32 : FVec Ideal S4096x1024 .bf16)
    (truncf .bf16 W bitsLt_bf16_f32 : FVec Ideal S1024x1024 .bf16)) bitsLt_bf16_f32

theorem hY_eq (S : Fin 2 → Fin 2048 → Fin 512 → ℝ) (W : Fin 512 → Fin 1024 → ℝ) : hY (lift3 S) (lift2 W) = Gate.rows fun b s => Gate.mul W (S b s) := by
  unfold hY
  rw [rows512_eq]
  funext i; idx_vars i
  pointwise [Gate.rows, lift2_at]
  simp only [mul_coe, sum_coe]
  rfl

theorem hG_eq (A B : Fin 2 → Fin 2048 → Fin 1024 → ℝ) : hG (lift3 A) (lift3 B) = Gate.rows fun b s => Gate.beside (A b s) (B b s) := by
  have h : (concatenate S2x2048x2048 2 [⟨S2x2048x1024, lift3 A⟩, ⟨S2x2048x1024, lift3 B⟩] concatenates_S2x2048x1024_S2x2048x1024_S2x2048x2048_d2 : FVec Ideal S2x2048x2048 .f32)
      = lift3 fun b s => Gate.beside (A b s) (B b s) := by
    funext i; idx_vars i
    pointwise [lift3_at]
    split
    · exact congrArg (fun x : ℝ => (x : EReal)) (Gate.beside_left _ _ _ _ rfl).symm
    · exact congrArg (fun x : ℝ => (x : EReal)) (Gate.beside_right _ _ _ _ (by simp only []; omega)).symm
  unfold hG
  rw [h]
  generalize (fun b s => Gate.beside (A b s) (B b s)) = f
  funext i; idx_vars i
  refine Eq.trans ?_ (lift3_at f ⟨i0.val / 2048 % 2, by omega⟩ ⟨i0.val % 2048, by omega⟩ i1)
  pointwise
  blk_ext []

theorem hSig_eq (g : Fin 2 → Fin 2048 → Fin 1024 → ℝ) : hSig (Gate.rows g) = Gate.rows fun b s d => Gate.sig (g b s d) := by
  funext i; idx_vars i
  pointwise [hSig, Gate.rows, lift2_at]
  exact Gate.sig_coe _

theorem hO_eq (A B YA YB : Fin 2 → Fin 2048 → Fin 1024 → ℝ) (W : Fin 1024 → Fin 1024 → ℝ) : hO (Gate.rows fun b s => Gate.beside (A b s) (B b s)) (Gate.rows YA) (Gate.rows YB) (lift2 W)
    = Gate.rows fun b s => Gate.mul W (Gate.merged (YA b s) (YB b s) (A b s) (B b s)) := by
  have ha : (extractStridedSlice S4096x1024 ![0, 0] (Gate.rows fun b s => Gate.beside (A b s) (B b s) : FVec Ideal S4096x2048 .bf16) slices_S4096x2048_S4096x1024_0_0 : FVec Ideal S4096x1024 .bf16) = Gate.rows A := by
    funext i; idx_vars i
    pointwise [Gate.rows, lift2_at]
    exact congrArg (fun x : ℝ => (x : EReal)) (Gate.beside_left _ _ _ _ (by simp))
  have hb : (extractStridedSlice S4096x1024 ![0, 1024] (Gate.rows fun b s => Gate.beside (A b s) (B b s) : FVec Ideal S4096x2048 .bf16) slices_S4096x2048_S4096x1024_0_1024 : FVec Ideal S4096x1024 .bf16) = Gate.rows B := by
    funext i; idx_vars i
    pointwise [Gate.rows, lift2_at]
    exact congrArg (fun x : ℝ => (x : EReal)) (Gate.beside_right _ _ _ _ (by simp))
  unfold hO
  rw [ha, hb, hSig_eq, hSig_eq]
  funext i; idx_vars i
  pointwise [Gate.rows, lift2_at]
  simp only [mul_coe, add_coe, sum_coe]
  rfl

theorem V_dh (c : Dev nD) : V m c main_v35 = shapeCast S4096x1024 (m ((c : Thread nD τ).loc main_arg8)) shapeCasts_S2x2048x1024_S4096x1024 := by
  unfold V
  after_results; rfl
theorem V_m (c : Dev nD) : V m c main_v0 = shapeCast S2x9x1x1024 (m ((c : Thread nD τ).loc main_arg4)) shapeCasts_S2x9216_S2x9x1x1024 := by
  unfold V
  after_results; rfl
theorem V_ya (c : Dev nD) : (V m c main_v36 : S4096x1024.Idx → EReal) = hY (m ((c : Thread nD τ).loc main_arg0)) (m ((c : Thread nD τ).loc main_arg5)) := by
  unfold V
  after_results; rfl
theorem V_yb (c : Dev nD) : (V m c main_v37 : S4096x1024.Idx → EReal) = hY (m ((c : Thread nD τ).loc main_arg1)) (m ((c : Thread nD τ).loc main_arg6)) := by
  unfold V
  after_results; rfl
theorem V_g (c : Dev nD) : (V m c main_v6 : S4096x2048.Idx → EReal) = hG (m ((c : Thread nD τ).loc main_arg2)) (m ((c : Thread nD τ).loc main_arg3)) := by
  unfold V
  after_results; rfl
theorem V_wa (c : Dev nD) : (V m c main_v1 : S512x1024.Idx → EReal) = m ((c : Thread nD τ).loc main_arg5) := by
  unfold V
  after_results; rfl
theorem V_wb (c : Dev nD) : (V m c main_v2 : S512x1024.Idx → EReal) = m ((c : Thread nD τ).loc main_arg6) := by
  unfold V
  after_results; rfl
theorem V_wo (c : Dev nD) : (V m c main_v3 : S1024x1024.Idx → EReal) = m ((c : Thread nD τ).loc main_arg7) := by
  unfold V
  after_results; rfl
theorem V_o (c : Dev nD) : (V m c main_v34 : S4096x1024.Idx → EReal) = hO (hG (m ((c : Thread nD τ).loc main_arg2)) (m ((c : Thread nD τ).loc main_arg3)))
    (hY (m ((c : Thread nD τ).loc main_arg0)) (m ((c : Thread nD τ).loc main_arg5))) (hY (m ((c : Thread nD τ).loc main_arg1)) (m ((c : Thread nD τ).loc main_arg6)))
    (m ((c : Thread nD τ).loc main_arg7)) := by
  unfold V
  after_results; rfl

/-- The arguments of one device as arrays of reals. -/
structure Args (c : Dev nD) (x : Gate.Arr) : Prop where
  s : (m ((c : Thread nD τ).loc main_arg0) : S2x2048x512.Idx → EReal) = lift3 x.S
  a : (m ((c : Thread nD τ).loc main_arg1) : S2x2048x512.Idx → EReal) = lift3 x.A
  ga : (m ((c : Thread nD τ).loc main_arg2) : S2x2048x1024.Idx → EReal) = lift3 x.GA
  gb : (m ((c : Thread nD τ).loc main_arg3) : S2x2048x1024.Idx → EReal) = lift3 x.GB
  mo : (m ((c : Thread nD τ).loc main_arg4) : S2x9216.Idx → EReal) = lift2 x.M
  wa : (m ((c : Thread nD τ).loc main_arg5) : S512x1024.Idx → EReal) = lift2 x.WA
  wb : (m ((c : Thread nD τ).loc main_arg6) : S512x1024.Idx → EReal) = lift2 x.WB
  wo : (m ((c : Thread nD τ).loc main_arg7) : S1024x1024.Idx → EReal) = lift2 x.WO
  dh : (m ((c : Thread nD τ).loc main_arg8) : S2x2048x1024.Idx → EReal) = lift3 x.DH

/-! ## The blocks -/

/-- A tile of 512 rows of an array of both sequences' rows. -/
abbrev tile {n : ℕ} (f : Fin 2 → Fin 2048 → Fin n → ℝ) (t : ℕ) : (⟨2, ![512, n]⟩ : Shape).Idx → EReal := lift2 fun (r : Fin 512) => Dx.tok f (512 * t + r.val)

variable {m} {c : Dev nD} {x : Gate.Arr}

theorem Args.v_dh (a : Args m c x) : (V m c main_v35 : S4096x1024.Idx → EReal) = Gate.rows x.DH :=
  (V_dh m c).trans ((congrArg (fun X : FVec Ideal S2x2048x1024 .f32 => (shapeCast S4096x1024 X shapeCasts_S2x2048x1024_S4096x1024 : FVec Ideal S4096x1024 .f32)) a.dh).trans (rows_eq x.DH))
theorem Args.v_ya (a : Args m c x) : (V m c main_v36 : S4096x1024.Idx → EReal) = Gate.rows x.YA :=
  (V_ya m c).trans ((congrArg₂ hY a.s a.wa).trans (hY_eq _ _))
theorem Args.v_yb (a : Args m c x) : (V m c main_v37 : S4096x1024.Idx → EReal) = Gate.rows x.YB :=
  (V_yb m c).trans ((congrArg₂ hY a.a a.wb).trans (hY_eq _ _))
theorem Args.v_g (a : Args m c x) : (V m c main_v6 : S4096x2048.Idx → EReal) = Gate.rows fun b s => Gate.beside (x.GA b s) (x.GB b s) :=
  (V_g m c).trans ((congrArg₂ hG a.ga a.gb).trans (hG_eq _ _))
theorem Args.v_o (a : Args m c x) : (V m c main_v34 : S4096x1024.Idx → EReal) = Gate.rows x.Out := by
  refine (V_o m c).trans ((congr (congr (congrArg₂ hO ((congrArg₂ hG a.ga a.gb).trans (hG_eq _ _)) ((congrArg₂ hY a.s a.wa).trans (hY_eq _ _)))
    ((congrArg₂ hY a.a a.wb).trans (hY_eq _ _))) a.wo).trans (hO_eq _ _ _ _ _))

theorem Args.b_dh (a : Args m c x) (t : Fin cfg0.N) : (iblk m c 0 t : S512x1024.Idx → EReal) = tile x.DH t.val := by
  have e := (idx t).1
  funext i; idx_vars i
  refine (congrFun a.v_dh (((cfg0.win 0).blk t).view.emb _)).trans ((Gate.rows_of _ (512 * t.val + i0.val) i1 _ ?_ ?_).symm) <;> (blk_simp [e] <;> (try omega))
theorem Args.b_o (a : Args m c x) (t : Fin cfg0.N) : (iblk m c 1 t : S512x1024.Idx → EReal) = tile x.Out t.val := by
  have e := (idx t).2.1
  funext i; idx_vars i
  refine (congrFun a.v_o (((cfg0.win 1).blk t).view.emb _)).trans ((Gate.rows_of _ (512 * t.val + i0.val) i1 _ ?_ ?_).symm) <;> (blk_simp [e] <;> (try omega))
theorem Args.b_m (a : Args m c x) (t : Fin cfg0.N) : (iblk m c 2 t : S1x1x1x1024.Idx → EReal) = lift4 fun (_ _ _ : Fin 1) => x.G (Dx.seq t.val) := by
  have e := (idx t).2.2.1
  have h8 := lt8 t
  funext i; idx_vars i
  refine Eq.trans ?_ (congrFun a.mo (ix2 (Dx.seq t.val) ⟨5120 + i3.val, by omega⟩))
  refine (congrFun (V_m m c) (((cfg0.win 2).blk t).view.emb _)).trans (mods_at _ _ _ _ ?_ ?_) <;> (blk_simp [e] <;> (try simp only []) <;> (try omega))
theorem Args.b_ya (a : Args m c x) (t : Fin cfg0.N) : (iblk m c 3 t : S512x1024.Idx → EReal) = tile x.YA t.val := by
  have e := (idx t).2.2.2.1
  funext i; idx_vars i
  refine (congrFun a.v_ya (((cfg0.win 3).blk t).view.emb _)).trans ((Gate.rows_of _ (512 * t.val + i0.val) i1 _ ?_ ?_).symm) <;> (blk_simp [e] <;> (try omega))
theorem Args.b_yb (a : Args m c x) (t : Fin cfg0.N) : (iblk m c 4 t : S512x1024.Idx → EReal) = tile x.YB t.val := by
  have e := (idx t).2.2.2.2.1
  funext i; idx_vars i
  refine (congrFun a.v_yb (((cfg0.win 4).blk t).view.emb _)).trans ((Gate.rows_of _ (512 * t.val + i0.val) i1 _ ?_ ?_).symm) <;> (blk_simp [e] <;> (try omega))
theorem Args.b_g (a : Args m c x) (t : Fin cfg0.N) : (iblk m c 5 t : S512x2048.Idx → EReal) = tile (fun b s => Gate.beside (x.GA b s) (x.GB b s)) t.val := by
  have e := (idx t).2.2.2.2.2.1
  funext i; idx_vars i
  refine (congrFun a.v_g (((cfg0.win 5).blk t).view.emb _)).trans ((Gate.rows_of _ (512 * t.val + i0.val) i1 _ ?_ ?_).symm) <;> (blk_simp [e] <;> (try omega))
theorem Args.b_wa (a : Args m c x) (t : Fin cfg0.N) : (iblk m c 6 t : S512x1024.Idx → EReal) = lift2 x.WA := by
  have e := (idx t).2.2.2.2.2.2.1
  refine Eq.trans ?_ ((V_wa m c).trans a.wa)
  blk_ext! [iblk, e]
theorem Args.b_wb (a : Args m c x) (t : Fin cfg0.N) : (iblk m c 7 t : S512x1024.Idx → EReal) = lift2 x.WB := by
  have e := (idx t).2.2.2.2.2.2.2.1
  refine Eq.trans ?_ ((V_wb m c).trans a.wb)
  blk_ext! [iblk, e]
theorem Args.b_wo (a : Args m c x) (t : Fin cfg0.N) : (iblk m c 8 t : S1024x1024.Idx → EReal) = lift2 x.WO := by
  have e := (idx t).2.2.2.2.2.2.2.2.1
  refine Eq.trans ?_ ((V_wo m c).trans a.wo)
  blk_ext! [iblk, e]

end Cert.KernelMixIdeal.Value

end
-- ==== Proof.MixOuts.lean ====
/- What every grid point of the mixer's backward call leaves, over ℝ, and the arrays after the call. -/
module

public import proofs.«01_k».proof.Proof.MixValue

@[expose] public section

set_option maxRecDepth 16384

noncomputable section

namespace Cert.KernelMixIdeal.Value

open Cert.KernelMixIdeal Cert.KernelMixIdeal.Gen Idealize.ShloMosaic Idealize.ShloMosaic.TcCoe Idealize.SL.Sem
open Cert.Reals Cert.Consts
open Idealize.ShloMosaic.Pipeline (Dat)

variable {m : (ℓ : Loc nD τ sig) → Buf (Elt Ideal) ℓ} {c : Dev nD} {x : Gate.Arr}

theorem inbA : ∀ a, ![0, 0] a + S512x1024.size a ≤ (S512x2048).size a := by decide
theorem inbB : ∀ a, ![0, 1024] a + S512x1024.size a ≤ (S512x2048).size a := by decide

/-- The two halves of a tile of the gates. -/
abbrev ldA (v : FVec Ideal S512x2048 .bf16) : FVec Ideal S512x1024 .bf16 :=
  @View.ld (Elt Ideal) S512x2048 .bf16 v (Rect.unit (s := S512x2048) ![0, 0] S512x1024.size inbA)
abbrev ldB (v : FVec Ideal S512x2048 .bf16) : FVec Ideal S512x1024 .bf16 :=
  @View.ld (Elt Ideal) S512x2048 .bf16 v (Rect.unit (s := S512x2048) ![0, 1024] S512x1024.size inbB)

theorem ldA_eq (f g : Fin 2 → Fin 2048 → Fin 1024 → ℝ) (t : ℕ) : ldA (tile (fun b s => Gate.beside (f b s) (g b s)) t) = tile f t := by
  funext i; idx_vars i
  pointwise [ldA, lift2_at]
  exact congrArg (fun x : ℝ => (x : EReal)) (Gate.beside_left _ _ _ _ (by simp))
theorem ldB_eq (f g : Fin 2 → Fin 2048 → Fin 1024 → ℝ) (t : ℕ) : ldB (tile (fun b s => Gate.beside (f b s) (g b s)) t) = tile g t := by
  funext i; idx_vars i
  pointwise [ldB, lift2_at]
  exact congrArg (fun x : ℝ => (x : EReal)) (Gate.beside_right _ _ _ _ (by simp))

/-- The tile of the scaled gradient. -/
theorem Args.dm (a : Args m c x) (t : Fin cfg0.N) : k0_pay6 (F := Ideal) (iblk m c 0 t) (iblk m c 2 t) = tile x.DM t.val := by
  have h8 := lt8 t
  rw [a.b_dh, a.b_m, dm_eq]
  refine congrArg lift2 (funext fun r => ?_)
  refine (congrArg (fun b => Gate.scaled (x.G b) (Dx.tok x.DH (512 * t.val + r.val))) (Fin.ext ?_ : Dx.seq t.val = ⟨(512 * t.val + r.val) / 2048 % 2, Nat.mod_lt _ (by decide)⟩))
  simp only []
  omega

theorem Args.g_a (a : Args m c x) (t : Fin cfg0.N) : ldA (iblk m c 5 t) = tile x.GA t.val := by rw [a.b_g, ldA_eq]
theorem Args.g_b (a : Args m c x) (t : Fin cfg0.N) : ldB (iblk m c 5 t) = tile x.GB t.val := by rw [a.b_g, ldB_eq]

theorem Args.o14 (a : Args m c x) (t : Fin cfg0.N) : (outsAt0 m c t.val t.isLt).2.2.2.2.2.1 = tile x.DM t.val := by
  rw [← a.dm t]
  by_cases h0 : t.val % 4 = 0
  · rw [outsAt0_A m c t h0 (by omega)]
    dsimp only
    frame_out
    try rfl
  · rw [outsAt0_B m c t h0 h0]
    dsimp only
    frame_out
    try rfl

theorem Args.o10 (a : Args m c x) (t : Fin cfg0.N) : (outsAt0 m c t.val t.isLt).2.1 = tile x.DYA t.val := by
  refine Eq.trans ?_ ((congr (congrArg₂ (fun d w g => k0_pay1 (F := Ideal) (k0_pay10 (F := Ideal) d w) (k0_pay11 (F := Ideal) g)) (a.dm t) (a.b_wo t)) (a.g_a t)).trans (dya_eq _ _ _))
  by_cases h0 : t.val % 4 = 0
  · rw [outsAt0_A m c t h0 (by omega)]
    dsimp only
    frame_out
    try rfl
  · rw [outsAt0_B m c t h0 h0]
    dsimp only
    frame_out
    try rfl

theorem Args.o11 (a : Args m c x) (t : Fin cfg0.N) : (outsAt0 m c t.val t.isLt).2.2.1 = tile x.DYB t.val := by
  refine Eq.trans ?_ ((congr (congrArg₂ (fun d w g => k0_pay2 (F := Ideal) (k0_pay10 (F := Ideal) d w) (k0_pay12 (F := Ideal) g)) (a.dm t) (a.b_wo t)) (a.g_b t)).trans (dyb_eq _ _ _))
  by_cases h0 : t.val % 4 = 0
  · rw [outsAt0_A m c t h0 (by omega)]
    dsimp only
    frame_out
    try rfl
  · rw [outsAt0_B m c t h0 h0]
    dsimp only
    frame_out
    try rfl

theorem Args.o12 (a : Args m c x) (t : Fin cfg0.N) : (outsAt0 m c t.val t.isLt).2.2.2.1 = tile x.DS t.val := by
  refine Eq.trans ?_ ((congr (congr (congrArg₂ (fun d w g u => k0_pay3 (F := Ideal) (k0_pay10 (F := Ideal) d w) (k0_pay11 (F := Ideal) g) u) (a.dm t) (a.b_wo t)) (a.g_a t)) (a.b_wa t)).trans (ds_eq _ _ _ _))
  by_cases h0 : t.val % 4 = 0
  · rw [outsAt0_A m c t h0 (by omega)]
    dsimp only
    frame_out
    try rfl
  · rw [outsAt0_B m c t h0 h0]
    dsimp only
    frame_out
    try rfl

theorem Args.o13 (a : Args m c x) (t : Fin cfg0.N) : (outsAt0 m c t.val t.isLt).2.2.2.2.1 = tile x.DT t.val := by
  refine Eq.trans ?_ ((congr (congr (congrArg₂ (fun d w g u => k0_pay4 (F := Ideal) (k0_pay10 (F := Ideal) d w) (k0_pay12 (F := Ideal) g) u) (a.dm t) (a.b_wo t)) (a.g_b t)) (a.b_wb t)).trans (dt_eq _ _ _ _))
  by_cases h0 : t.val % 4 = 0
  · rw [outsAt0_A m c t h0 (by omega)]
    dsimp only
    frame_out
    try rfl
  · rw [outsAt0_B m c t h0 h0]
    dsimp only
    frame_out
    try rfl

theorem Args.part (a : Args m c x) (t : Fin cfg0.N) : k0_pay7 (F := Ideal) (iblk m c 0 t) (iblk m c 1 t) = lift2 fun _ => Dx.pSh x.P t.val := by
  rw [a.b_dh, a.b_o, part_eq]
  rfl

/-- The points of a sequence so far leave their parts of the gradient of the scale. -/
theorem Args.acc15 (a : Args m c x) (n : ℕ) (hn : n < cfg0.N) (i : S1x1x1024.Idx) : (outsAt0 m c n hn).2.2.2.2.2.2 i
    = ((∑ p ∈ Finset.range (n % 4 + 1), Dx.pSh x.P (4 * (n / 4) + p) (i 2) : ℝ) : EReal) := by
  have hN : n < 8 := lt8 ⟨n, hn⟩
  induction n generalizing i with
  | zero =>
    refine (congrFun (congrArg (fun o => o.2.2.2.2.2.2) (outsAt0_A m c ⟨0, hn⟩ rfl (by simp))) i).trans ?_
    dsimp only
    frame_out
    refine (first3 _ _ _ (a.part ⟨0, hn⟩) i).trans ?_
    simp
  | succ n ih =>
    by_cases h1 : (n + 1) % 4 = 0
    · refine (congrFun (congrArg (fun o => o.2.2.2.2.2.2) (outsAt0_A m c ⟨n + 1, hn⟩ h1 (by simpa using h1))) i).trans ?_
      dsimp only
      frame_out
      refine (first3 _ _ _ (a.part ⟨n + 1, hn⟩) i).trans ?_
      rw [h1, show 4 * ((n + 1) / 4) = n + 1 by omega]
      simp
    · have ih := ih (by omega) (ix3 0 0 (i 2)) (by omega)
      refine (congrFun (congrArg (fun o => o.2.2.2.2.2.2) (outsAt0_B m c ⟨n + 1, hn⟩ h1 h1)) i).trans ?_
      dsimp only
      frame_out
      refine (next3 _ _ (a.part ⟨n + 1, hn⟩) _ i _ ih).trans ?_
      rw [show (n + 1) % 4 = n % 4 + 1 by omega, show (n + 1) / 4 = n / 4 by omega, Finset.sum_range_succ _ (n % 4 + 1),
        show 4 * (n / 4) + (n % 4 + 1) = n + 1 by omega]
      rfl

/-- An entry of one half of the gradient by the gates is the entry of the row of both halves. -/
theorem half_a (v : FVec Ideal S512x1024 .bf16) (f : Fin 512 → Fin 1024 → ℝ) (hv : v = lift2 f) (z : S512x1024.Idx) (F : Fin 2 → Fin 2048 → Fin 2048 → ℝ) (t : ℕ) (r : Fin 512) (j : Fin 2048)
    (g : Fin 512 → Fin 1024 → ℝ) (hF : ∀ r : Fin 512, Dx.tok F (512 * t + r.val) = Gate.beside (f r) (g r)) (e0 : r.val = (z 0).val) (e1 : j.val = (z 1).val) :
    v z = ((Dx.tok F (512 * t + r.val) j : ℝ) : EReal) := by
  rw [hF r, Gate.beside_left _ _ _ (z 1) e1.symm, hv]
  exact congrArg (fun r => ((f r (z 1) : ℝ) : EReal)) (Fin.ext e0.symm)
theorem half_b (v : FVec Ideal S512x1024 .bf16) (g : Fin 512 → Fin 1024 → ℝ) (hv : v = lift2 g) (z : S512x1024.Idx) (F : Fin 2 → Fin 2048 → Fin 2048 → ℝ) (t : ℕ) (r : Fin 512) (j : Fin 2048)
    (f : Fin 512 → Fin 1024 → ℝ) (hF : ∀ r : Fin 512, Dx.tok F (512 * t + r.val) = Gate.beside (f r) (g r)) (e0 : r.val = (z 0).val) (e1 : j.val = 1024 + (z 1).val) :
    v z = ((Dx.tok F (512 * t + r.val) j : ℝ) : EReal) := by
  rw [hF r, Gate.beside_right _ _ _ (z 1) e1.symm, hv]
  exact congrArg (fun r => ((g r (z 1) : ℝ) : EReal)) (Fin.ext e0.symm)

theorem Args.o9 (a : Args m c x) (t : Fin cfg0.N) (r : Fin 512) (j : Fin 2048) : (outsAt0 m c t.val t.isLt).1 (ix2 r j) = ((Dx.tok x.DG (512 * t.val + r.val) j : ℝ) : EReal) := by
  have kA := (congr (congr (congrArg₂ (fun d w g y => k0_pay13 (F := Ideal) d w g y) (a.dm t) (a.b_wo t)) (a.g_a t)) (a.b_ya t)).trans (dga_eq _ _ _ _)
  have kB := (congr (congr (congrArg₂ (fun d w g y => k0_pay14 (F := Ideal) d w g y) (a.dm t) (a.b_wo t)) (a.g_b t)) (a.b_yb t)).trans (dgb_eq _ _ _ _)
  by_cases c0 : t.val % 4 = 0
  · rw [outsAt0_A m c t c0 (by omega)]
    dsimp only
    frame_out
    canon_tiles z e
    · exact half_b _ _ kB z _ _ r j _ (fun _ => rfl) (by simpa using e0) (by simpa using e1)
    · exact half_a _ _ kA z _ _ r j _ (fun _ => rfl) (by simpa using e0) (by simpa using e1)
  · rw [outsAt0_B m c t c0 c0]
    dsimp only
    frame_out
    canon_tiles z e
    · exact half_b _ _ kB z _ _ r j _ (fun _ => rfl) (by simpa using e0) (by simpa using e1)
    · exact half_a _ _ kA z _ _ r j _ (fun _ => rfl) (by simpa using e0) (by simpa using e1)

/-! ## The arrays after the call -/

theorem Args.final9 (a : Args m c x) : ((dats m 0 c).arrAt 9 cfg0.N : S4096x2048.Idx → EReal) = Gate.rows x.DG := by
  refine (dats m 0 c).arrAt_eq_of_covers 9 _ (by decide +kernel) fun t hf y => ?_
  have e := (idx t).2.2.2.2.2.2.2.2.2.1
  idx_vars y
  blk_simp
  rw [after0_9, a.o9]
  refine Gate.rows_of _ _ _ _ ?_ ?_ <;> (blk_simp [e] <;> (try omega))

theorem Args.final10 (a : Args m c x) : ((dats m 0 c).arrAt 10 cfg0.N : S4096x1024.Idx → EReal) = Gate.rows x.DYA := by
  refine (dats m 0 c).arrAt_eq_of_covers 10 _ (by decide +kernel) fun t hf y => ?_
  have e := (idx t).2.2.2.2.2.2.2.2.2.2.1
  idx_vars y
  blk_simp
  rw [after0_10, a.o10]
  refine Gate.rows_of _ _ _ _ ?_ ?_ <;> (blk_simp [e] <;> (try omega))

theorem Args.final11 (a : Args m c x) : ((dats m 0 c).arrAt 11 cfg0.N : S4096x1024.Idx → EReal) = Gate.rows x.DYB := by
  refine (dats m 0 c).arrAt_eq_of_covers 11 _ (by decide +kernel) fun t hf y => ?_
  have e := (idx t).2.2.2.2.2.2.2.2.2.2.2.1
  idx_vars y
  blk_simp
  rw [after0_11, a.o11]
  refine Gate.rows_of _ _ _ _ ?_ ?_ <;> (blk_simp [e] <;> (try omega))

theorem Args.final12 (a : Args m c x) : ((dats m 0 c).arrAt 12 cfg0.N : S4096x512.Idx → EReal) = Gate.rows x.DS := by
  refine (dats m 0 c).arrAt_eq_of_covers 12 _ (by decide +kernel) fun t hf y => ?_
  have e := (idx t).2.2.2.2.2.2.2.2.2.2.2.2.1
  idx_vars y
  blk_simp
  rw [after0_12, a.o12]
  refine Gate.rows_of _ _ _ _ ?_ ?_ <;> (blk_simp [e] <;> (try omega))

theorem Args.final13 (a : Args m c x) : ((dats m 0 c).arrAt 13 cfg0.N : S4096x512.Idx → EReal) = Gate.rows x.DT := by
  refine (dats m 0 c).arrAt_eq_of_covers 13 _ (by decide +kernel) fun t hf y => ?_
  have e := (idx t).2.2.2.2.2.2.2.2.2.2.2.2.2.1
  idx_vars y
  blk_simp
  rw [after0_13, a.o13]
  refine Gate.rows_of _ _ _ _ ?_ ?_ <;> (blk_simp [e] <;> (try omega))

theorem Args.final14 (a : Args m c x) : ((dats m 0 c).arrAt 14 cfg0.N : S4096x1024.Idx → EReal) = Gate.rows x.DM := by
  refine (dats m 0 c).arrAt_eq_of_covers 14 _ (by decide +kernel) fun t hf y => ?_
  have e := (idx t).2.2.2.2.2.2.2.2.2.2.2.2.2.2.1
  idx_vars y
  blk_simp
  rw [after0_14, a.o14]
  refine Gate.rows_of _ _ _ _ ?_ ?_ <;> (blk_simp [e] <;> (try omega))

theorem Args.final15 (a : Args m c x) : ((dats m 0 c).arrAt 15 cfg0.N : S2x1x1024.Idx → EReal) = lift3 fun b _ => Dx.shA x.P b := by
  refine (dats m 0 c).arrAt_eq_of_covers 15 _ (by decide +kernel) fun t hf y => ?_
  have e := (idx t).2.2.2.2.2.2.2.2.2.2.2.2.2.2.2.1
  have h8 := lt8 t
  have hq : t.val % 4 = 3 := (by decide +kernel : ∀ t : Fin grid0.N, (cfg0.win 15).flush t = true → t.val % 4 = 3) t hf
  idx_vars y
  have h := (congrFun (after0_15 m c t) (ix3 y0 y1 y2)).trans (a.acc15 t.val t.isLt (ix3 y0 y1 y2))
  have k := Dx.seq_of _ _ (Dx.sh_total x.P) t.val hq
  blk_simp
  refine h.trans (k _ _ ?_ ?_) <;> blk_simp [e]

end Cert.KernelMixIdeal.Value

end
-- ==== Proof.MixReference.lean ====
/- The mixer's reference, over ℝ: its program is the transposed products, and its results are the rows' gradients. -/
module

public import proofs.«01_k».proof.Proof.GateMath
public import proofs.«01_k».proof.Proof.Consts
public import proofs.«01_k».proof.Proof.Gen.ReferenceMixIdeal.Run
public import Idealize.ShloMosaic.Lib.Pointwise
public import Idealize.ShloMosaic.Lib.Pipeline.ValueKit

@[expose] public section

set_option maxRecDepth 16384

noncomputable section

namespace Cert.ReferenceMixIdeal.Value

open Cert.ReferenceMixIdeal Cert.ReferenceMixIdeal.Gen Idealize.ShloMosaic Idealize.ShloMosaic.TcCoe Idealize.SL.Sem
open Cert.Reals Cert.Consts

/-! ## The reference's arrays -/

def rOne : FVec Ideal S2x2048x1024 .f32 := broadcastInDim S2x2048x1024 ![] bcast_S_S2x2048x1024 (constant S_ .f32 0x3F800000#32)
def rZero : FVec Ideal S2x2048x1024 .f32 := broadcastInDim S2x2048x1024 ![] bcast_S_S2x2048x1024 (constant S_ .f32 0x00000000#32)
def rSig (G : FVec Ideal S2x2048x1024 .f32) : FVec Ideal S2x2048x1024 .f32 := Host.divf rOne (addf rOne (Host.exp (Host.negf G)))
def rY (S : FVec Ideal S2x2048x512 .f32) (W : FVec Ideal S512x1024 .f32) : FVec Ideal S2x2048x1024 .f32 :=
  addf (Host.dotGeneral dot_S2x2048x512_S512x1024_S2x2048x1024_2_0_01_1_n_n none S W) rZero
def rOut (YA YB GA GB : FVec Ideal S2x2048x1024 .f32) (W : FVec Ideal S1024x1024 .f32) : FVec Ideal S2x2048x1024 .f32 :=
  addf (Host.dotGeneral dot_S2x2048x1024_S1024x1024_S2x2048x1024_2_0_01_1_n_n none (addf (mulf (rSig GA) YA) (mulf (rSig GB) YB)) W) rZero
def rDm (M : FVec Ideal S2x9216 .f32) (D : FVec Ideal S2x2048x1024 .f32) : FVec Ideal S2x2048x1024 .f32 :=
  mulf (broadcastInDim S2x2048x1024 ![0, 1, 2] bcast_S2x1x1024_S2x2048x1024_0_1_2 (broadcastInDim S2x1x1024 ![0, 2] bcast_S2x1024_S2x1x1024_0_2 (extractStridedSlice S2x1024 ![0, 5120] M slices_S2x9216_S2x1024_0_5120))) D
def rDmg (M : FVec Ideal S2x9216 .f32) (D : FVec Ideal S2x2048x1024 .f32) (W : FVec Ideal S1024x1024 .f32) : FVec Ideal S2x2048x1024 .f32 :=
  Host.dotGeneral dot_S2x2048x1024_S1024x1024_S2x2048x1024_2_1_01_0_n_n none (rDm M D) W
def rDy (X G : FVec Ideal S2x2048x1024 .f32) : FVec Ideal S2x2048x1024 .f32 := mulf (rSig G) X
def rDg (X Y G : FVec Ideal S2x2048x1024 .f32) : FVec Ideal S2x2048x1024 .f32 := mulf (mulf X Y) (mulf (rSig G) (subf rOne (rSig G)))
def rDs (X : FVec Ideal S2x2048x1024 .f32) (W : FVec Ideal S512x1024 .f32) : FVec Ideal S2x2048x512 .f32 :=
  Host.dotGeneral dot_S2x2048x1024_S512x1024_S2x2048x512_2_1_01_0_n_n none X W
def rSum (P : FVec Ideal S2x2048x1024 .f32) : FVec Ideal S2x1x1024 .f32 :=
  broadcastInDim S2x1x1024 ![0, 2] bcast_S2x1024_S2x1x1024_0_2 (Host.reduceAdd (shapeCast S2x1x1024 (Host.reduceAdd P (constant S_ .f32 0x00000000#32) reducesTo_S2x2048x1024_S2x1024_d1 h_S_) shapeCasts_S2x1024_S2x1x1024) (constant S_ .f32 0x00000000#32) reducesTo_S2x1x1024_S2x1024_d1 h_S_)
def rBeside (A B : FVec Ideal S2x2048x1024 .f32) : FVec Ideal S2x2048x2048 .f32 :=
  concatenate S2x2048x2048 2 [⟨S2x2048x1024, A⟩, ⟨S2x2048x1024, B⟩] concatenates_S2x2048x1024_S2x2048x1024_S2x2048x2048_d2

/-! ## Over ℝ -/

theorem sig_eq (G : Fin 2 → Fin 2048 → Fin 1024 → ℝ) : rSig (lift3 G) = lift3 fun b s d => Gate.sig (G b s d) := by
  funext i; idx_vars i
  pointwise [rSig, rOne, lift3_at]
  exact Gate.sig_coe _

theorem y_eq (S : Fin 2 → Fin 2048 → Fin 512 → ℝ) (W : Fin 512 → Fin 1024 → ℝ) : rY (lift3 S) (lift2 W) = lift3 fun b s => Gate.mul W (S b s) := by
  funext i; idx_vars i
  pointwise [rY, rZero, lift2_at, lift3_at]
  simp only [mul_coe, sum_coe]
  rfl

theorem out_eq (YA YB GA GB : Fin 2 → Fin 2048 → Fin 1024 → ℝ) (W : Fin 1024 → Fin 1024 → ℝ) : rOut (lift3 YA) (lift3 YB) (lift3 GA) (lift3 GB) (lift2 W)
    = lift3 fun b s => Gate.mul W (Gate.merged (YA b s) (YB b s) (GA b s) (GB b s)) := by
  unfold rOut
  rw [sig_eq, sig_eq]
  funext i; idx_vars i
  pointwise [rZero, lift2_at, lift3_at]
  simp only [mul_coe, add_coe, sum_coe]
  rfl

theorem dm_eq (M : Fin 2 → Fin 9216 → ℝ) (D : Fin 2 → Fin 2048 → Fin 1024 → ℝ) : rDm (lift2 M) (lift3 D) = lift3 fun b s => Gate.scaled (fun d => M b ⟨5120 + d.val, by omega⟩) (D b s) := by
  funext i; idx_vars i
  pointwise [rDm, lift2_at, lift3_at]
  simp only [mul_coe]
  rfl

theorem dmg_eq (M : Fin 2 → Fin 9216 → ℝ) (D : Fin 2 → Fin 2048 → Fin 1024 → ℝ) (W : Fin 1024 → Fin 1024 → ℝ) : rDmg (lift2 M) (lift3 D) (lift2 W)
    = lift3 fun b s => Gate.back W (Gate.scaled (fun d => M b ⟨5120 + d.val, by omega⟩) (D b s)) := by
  unfold rDmg
  rw [dm_eq]
  funext i; idx_vars i
  pointwise [lift2_at, lift3_at]
  simp only [mul_coe, sum_coe]
  rfl

theorem dy_eq (X G : Fin 2 → Fin 2048 → Fin 1024 → ℝ) : rDy (lift3 X) (lift3 G) = lift3 fun b s => Gate.drow (X b s) (G b s) := by
  unfold rDy
  rw [sig_eq]
  funext i; idx_vars i
  pointwise [lift3_at]
  simp only [mul_coe]
  exact congrArg (fun x : ℝ => (x : EReal)) (mul_comm _ _)

theorem dg_eq (X Y G : Fin 2 → Fin 2048 → Fin 1024 → ℝ) : rDg (lift3 X) (lift3 Y) (lift3 G) = lift3 fun b s => Gate.dgate (X b s) (Y b s) (G b s) := by
  unfold rDg
  rw [sig_eq]
  funext i; idx_vars i
  pointwise [rOne, lift3_at]
  simp only [mul_coe, sub_coe, one_coe]
  rfl

theorem ds_eq (X : Fin 2 → Fin 2048 → Fin 1024 → ℝ) (W : Fin 512 → Fin 1024 → ℝ) : rDs (lift3 X) (lift2 W) = lift3 fun b s => Gate.back W (X b s) := by
  funext i; idx_vars i
  pointwise [rDs, lift2_at, lift3_at]
  simp only [mul_coe, sum_coe]
  rfl

theorem sum_eq (P : Fin 2 → Fin 2048 → Fin 1024 → ℝ) : rSum (lift3 P) = lift3 fun b _ => Dx.shA P b := by
  funext i; idx_vars i
  pointwise [rSum, lift3_at]
  simp only [sum_coe, Fin.sum_univ_one]
  rfl

theorem beside_eq (A B : Fin 2 → Fin 2048 → Fin 1024 → ℝ) : rBeside (lift3 A) (lift3 B) = lift3 fun b s => Gate.beside (A b s) (B b s) := by
  funext i; idx_vars i
  pointwise [rBeside, lift3_at]
  split
  · exact congrArg (fun x : ℝ => (x : EReal)) (Gate.beside_left _ _ _ _ rfl).symm
  · exact congrArg (fun x : ℝ => (x : EReal)) (Gate.beside_right _ _ _ _ (by simp only []; omega)).symm

theorem rows_eq (f : Fin 2 → Fin 2048 → Fin 1024 → ℝ) : (shapeCast S4096x1024 (lift3 f : FVec Ideal S2x2048x1024 .f32) shapeCasts_S2x2048x1024_S4096x1024 : FVec Ideal S4096x1024 .f32) = Gate.rows f := by
  funext i; idx_vars i
  refine Eq.trans ?_ (lift3_at f ⟨i0.val / 2048 % 2, by omega⟩ ⟨i0.val % 2048, by omega⟩ i1)
  pointwise
  blk_ext []
theorem rows512_eq (f : Fin 2 → Fin 2048 → Fin 512 → ℝ) : (shapeCast S4096x512 (lift3 f : FVec Ideal S2x2048x512 .f32) shapeCasts_S2x2048x512_S4096x512 : FVec Ideal S4096x512 .f32) = Gate.rows f := by
  funext i; idx_vars i
  refine Eq.trans ?_ (lift3_at f ⟨i0.val / 2048 % 2, by omega⟩ ⟨i0.val % 2048, by omega⟩ i1)
  pointwise
  blk_ext []
theorem rows2048_eq (f : Fin 2 → Fin 2048 → Fin 2048 → ℝ) : (shapeCast S4096x2048 (lift3 f : FVec Ideal S2x2048x2048 .f32) shapeCasts_S2x2048x2048_S4096x2048 : FVec Ideal S4096x2048 .f32) = Gate.rows f := by
  funext i; idx_vars i
  refine Eq.trans ?_ (lift3_at f ⟨i0.val / 2048 % 2, by omega⟩ ⟨i0.val % 2048, by omega⟩ i1)
  pointwise
  blk_ext []

/-- The arguments of one device as arrays of reals. -/
structure Args (m : (ℓ : Loc nD τ sig) → Buf (Elt Ideal) ℓ) (c : Dev nD) (x : Gate.Arr) : Prop where
  s : (m ((c.tc : Thread nD τ).loc main_arg0) : FVec Ideal S2x2048x512 .f32) = lift3 x.S
  a : (m ((c.tc : Thread nD τ).loc main_arg1) : FVec Ideal S2x2048x512 .f32) = lift3 x.A
  ga : (m ((c.tc : Thread nD τ).loc main_arg2) : FVec Ideal S2x2048x1024 .f32) = lift3 x.GA
  gb : (m ((c.tc : Thread nD τ).loc main_arg3) : FVec Ideal S2x2048x1024 .f32) = lift3 x.GB
  mo : (m ((c.tc : Thread nD τ).loc main_arg4) : FVec Ideal S2x9216 .f32) = lift2 x.M
  wa : (m ((c.tc : Thread nD τ).loc main_arg5) : FVec Ideal S512x1024 .f32) = lift2 x.WA
  wb : (m ((c.tc : Thread nD τ).loc main_arg6) : FVec Ideal S512x1024 .f32) = lift2 x.WB
  wo : (m ((c.tc : Thread nD τ).loc main_arg7) : FVec Ideal S1024x1024 .f32) = lift2 x.WO
  dh : (m ((c.tc : Thread nD τ).loc main_arg8) : FVec Ideal S2x2048x1024 .f32) = lift3 x.DH

variable {m : (ℓ : Loc nD τ sig) → Buf (Elt Ideal) ℓ}

/-- The reference's seven results on arrays of reals, and its arguments. -/
theorem run_reals (ρ : Dev nD → PrngReg) (x : Dev nD → Gate.Arr) (a : ∀ c, Args m c (x c)) :
    θ_run defs (onTc (τ := τ) (main (F := Ideal))) ⟨m, fun _ => 0, ρ⟩ fun r => ∀ c : Dev nD,
      r.2.mem ((c.tc : Thread nD τ).loc main_v57) = (Gate.rows (x c).DG : FVec Ideal S4096x2048 .bf16)
      ∧ r.2.mem ((c.tc : Thread nD τ).loc main_v59) = (Gate.rows (x c).DYA : FVec Ideal S4096x1024 .bf16)
      ∧ r.2.mem ((c.tc : Thread nD τ).loc main_v61) = (Gate.rows (x c).DYB : FVec Ideal S4096x1024 .bf16)
      ∧ r.2.mem ((c.tc : Thread nD τ).loc main_v63) = (Gate.rows (x c).DS : FVec Ideal S4096x512 .bf16)
      ∧ r.2.mem ((c.tc : Thread nD τ).loc main_v65) = (Gate.rows (x c).DT : FVec Ideal S4096x512 .bf16)
      ∧ r.2.mem ((c.tc : Thread nD τ).loc main_v67) = (Gate.rows (x c).DM : FVec Ideal S4096x1024 .bf16)
      ∧ r.2.mem ((c.tc : Thread nD τ).loc main_v68) = (lift3 fun b _ => Dx.shA (x c).P b : FVec Ideal S2x1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine (θ_run defs _ _).mono (fun r h c => ⟨(h c).1.trans ?_, (h c).2.1.trans ?_, (h c).2.2.1.trans ?_, (h c).2.2.2.1.trans ?_, (h c).2.2.2.2.1.trans ?_,
    (h c).2.2.2.2.2.1.trans ?_, (h c).2.2.2.2.2.2.1.trans ?_, (h c).2.2.2.2.2.2.2⟩) (run m ρ)
  · rw [(a c).s, (a c).a, (a c).ga, (a c).gb, (a c).mo, (a c).wa, (a c).wb, (a c).wo, (a c).dh]
    change truncf .bf16 (shapeCast S4096x2048 (rBeside (rDg (rDmg (lift2 (x c).M) (lift3 (x c).DH) (lift2 (x c).WO)) (rY (lift3 (x c).S) (lift2 (x c).WA)) (lift3 (x c).GA)) (rDg (rDmg (lift2 (x c).M) (lift3 (x c).DH) (lift2 (x c).WO)) (rY (lift3 (x c).A) (lift2 (x c).WB)) (lift3 (x c).GB))) shapeCasts_S2x2048x2048_S4096x2048 : FVec Ideal S4096x2048 .f32) bitsLt_bf16_f32 = _
    rw [y_eq, y_eq, dmg_eq, dg_eq, dg_eq, beside_eq, rows2048_eq]
    rfl
  · rw [(a c).ga, (a c).mo, (a c).wo, (a c).dh]
    change truncf .bf16 (shapeCast S4096x1024 (rDy (rDmg (lift2 (x c).M) (lift3 (x c).DH) (lift2 (x c).WO)) (lift3 (x c).GA)) shapeCasts_S2x2048x1024_S4096x1024 : FVec Ideal S4096x1024 .f32) bitsLt_bf16_f32 = _
    rw [dmg_eq, dy_eq, rows_eq]
    rfl
  · rw [(a c).gb, (a c).mo, (a c).wo, (a c).dh]
    change truncf .bf16 (shapeCast S4096x1024 (rDy (rDmg (lift2 (x c).M) (lift3 (x c).DH) (lift2 (x c).WO)) (lift3 (x c).GB)) shapeCasts_S2x2048x1024_S4096x1024 : FVec Ideal S4096x1024 .f32) bitsLt_bf16_f32 = _
    rw [dmg_eq, dy_eq, rows_eq]
    rfl
  · rw [(a c).ga, (a c).mo, (a c).wa, (a c).wo, (a c).dh]
    change truncf .bf16 (shapeCast S4096x512 (rDs (rDy (rDmg (lift2 (x c).M) (lift3 (x c).DH) (lift2 (x c).WO)) (lift3 (x c).GA)) (lift2 (x c).WA)) shapeCasts_S2x2048x512_S4096x512 : FVec Ideal S4096x512 .f32) bitsLt_bf16_f32 = _
    rw [dmg_eq, dy_eq, ds_eq, rows512_eq]
    rfl
  · rw [(a c).gb, (a c).mo, (a c).wb, (a c).wo, (a c).dh]
    change truncf .bf16 (shapeCast S4096x512 (rDs (rDy (rDmg (lift2 (x c).M) (lift3 (x c).DH) (lift2 (x c).WO)) (lift3 (x c).GB)) (lift2 (x c).WB)) shapeCasts_S2x2048x512_S4096x512 : FVec Ideal S4096x512 .f32) bitsLt_bf16_f32 = _
    rw [dmg_eq, dy_eq, ds_eq, rows512_eq]
    rfl
  · rw [(a c).mo, (a c).dh]
    change truncf .bf16 (shapeCast S4096x1024 (rDm (lift2 (x c).M) (lift3 (x c).DH)) shapeCasts_S2x2048x1024_S4096x1024 : FVec Ideal S4096x1024 .f32) bitsLt_bf16_f32 = _
    rw [dm_eq, rows_eq]
    rfl
  · rw [(a c).s, (a c).a, (a c).ga, (a c).gb, (a c).wa, (a c).wb, (a c).wo, (a c).dh]
    change rSum (mulf (lift3 (x c).DH) (rOut (rY (lift3 (x c).S) (lift2 (x c).WA)) (rY (lift3 (x c).A) (lift2 (x c).WB)) (lift3 (x c).GA) (lift3 (x c).GB) (lift2 (x c).WO))) = _
    rw [y_eq, y_eq, out_eq, ← sum_eq]
    refine congrArg rSum ?_
    funext i; idx_vars i
    pointwise [lift3_at]
    simp only [mul_coe]
    rfl

end Cert.ReferenceMixIdeal.Value

end
-- ==== Proof.MixClaims.lean ====
/- The claims about the mixer's backward call. -/
module

public import proofs.«01_k».proof.Defs
public import proofs.«01_k».proof.Proof.Finite
public import proofs.«01_k».proof.Proof.MixOuts
public import proofs.«01_k».proof.Proof.MixReference
public import proofs.«01_k».proof.Proof.Gen.KernelMix.Frame
public import proofs.«01_k».proof.Proof.Gen.Pre_finite_mix

@[expose] public section

set_option maxRecDepth 16384

noncomputable section

namespace Cert.Proof.Mix

open Idealize.ShloMosaic Idealize.ShloMosaic.TcCoe Idealize.SL.Sem Cert.Reals

theorem frameR : Cert.quiescent_ReferenceMixIdeal := fun m g _ =>
  (θ_run Cert.ReferenceMixIdeal.defs _ _).mono (fun r h => ⟨fun c => (h c).2.2.2.2.2.2.2, sem_eq_zero_of_no_sems (by decide) r.2⟩) (Cert.ReferenceMixIdeal.Value.run m g)

theorem frameR_finite : Cert.quiescent_ReferenceMixIdeal_pre_finite_mix := fun m g _ => frameR m g trivial

open Cert.Pre_finite_mix in
/-- Finite arguments are arrays of reals. -/
theorem reals (X0 : FVec Ideal S2x2048x512 .f32)
    (X1 : FVec Ideal S2x2048x512 .f32)
    (X2 : FVec Ideal S2x2048x1024 .f32)
    (X3 : FVec Ideal S2x2048x1024 .f32)
    (X4 : FVec Ideal S2x9216 .f32)
    (X5 : FVec Ideal S512x1024 .f32)
    (X6 : FVec Ideal S512x1024 .f32)
    (X7 : FVec Ideal S1024x1024 .f32)
    (X8 : FVec Ideal S2x2048x1024 .f32)
    (h : Cert.Pre_finite_mix.fn (F := Ideal) X0 X1 X2 X3 X4 X5 X6 X7 X8 = fun _ => 1#1) :
    ∃ x : Gate.Arr, X0 = lift3 x.S ∧ X1 = lift3 x.A ∧ X2 = lift3 x.GA ∧ X3 = lift3 x.GB ∧ X4 = lift2 x.M ∧ X5 = lift2 x.WA ∧ X6 = lift2 x.WB ∧ X7 = lift2 x.WO ∧ X8 = lift3 x.DH := by
  have e := congrFun h (Shape.Idx.first Facts.h_S_)
  dsimp only [fn, fn_part2, fn_part1] at e
  obtain ⟨e, h8⟩ := andi_at _ _ _ e
  obtain ⟨e, h7⟩ := andi_at _ _ _ e
  obtain ⟨e, h6⟩ := andi_at _ _ _ e
  obtain ⟨e, h5⟩ := andi_at _ _ _ e
  obtain ⟨e, h4⟩ := andi_at _ _ _ e
  obtain ⟨e, h3⟩ := andi_at _ _ _ e
  obtain ⟨e, h2⟩ := andi_at _ _ _ e
  obtain ⟨h0, h1⟩ := andi_at _ _ _ e
  haveI : Subsingleton S_.Idx := ⟨fun a b => funext fun k => k.elim0⟩
  obtain ⟨A0, r0⟩ := exists_lift3 X0 (real_of_all X0 _ _ _ _ _ h0)
  obtain ⟨A1, r1⟩ := exists_lift3 X1 (real_of_all X1 _ _ _ _ _ h1)
  obtain ⟨A2, r2⟩ := exists_lift3 X2 (real_of_all X2 _ _ _ _ _ h2)
  obtain ⟨A3, r3⟩ := exists_lift3 X3 (real_of_all X3 _ _ _ _ _ h3)
  obtain ⟨A4, r4⟩ := exists_lift2 X4 (real_of_all X4 _ _ _ _ _ h4)
  obtain ⟨A5, r5⟩ := exists_lift2 X5 (real_of_all X5 _ _ _ _ _ h5)
  obtain ⟨A6, r6⟩ := exists_lift2 X6 (real_of_all X6 _ _ _ _ _ h6)
  obtain ⟨A7, r7⟩ := exists_lift2 X7 (real_of_all X7 _ _ _ _ _ h7)
  obtain ⟨A8, r8⟩ := exists_lift3 X8 (real_of_all X8 _ _ _ _ _ h8)
  exact ⟨⟨A0, A1, A2, A3, A4, A5, A6, A7, A8⟩, r0, r1, r2, r3, r4, r5, r6, r7, r8⟩

open Cert.KernelMixIdeal Cert.KernelMixIdeal.Gen in
set_option maxHeartbeats 2000000 in
/-- The kernel's run on arrays of reals: its results and its arguments. -/
theorem run (m : (ℓ : Loc nD τ sig) → Buf (Elt Ideal) ℓ) (g : Dev nD → PrngReg) (x : Dev nD → Gate.Arr) (a : ∀ c, Value.Args m c (x c)) :
    θ_run defs (onTc (τ := τ) (main (F := Ideal))) ⟨m, fun _ => 0, g⟩ fun r => ∀ c : Dev nD,
      r.2.mem ((c.tc : Thread nD τ).loc main_v38_0) = (Gate.rows (x c).DG : FVec Ideal S4096x2048 .bf16)
      ∧ r.2.mem ((c.tc : Thread nD τ).loc main_v38_1) = (Gate.rows (x c).DYA : FVec Ideal S4096x1024 .bf16)
      ∧ r.2.mem ((c.tc : Thread nD τ).loc main_v38_2) = (Gate.rows (x c).DYB : FVec Ideal S4096x1024 .bf16)
      ∧ r.2.mem ((c.tc : Thread nD τ).loc main_v38_3) = (Gate.rows (x c).DS : FVec Ideal S4096x512 .bf16)
      ∧ r.2.mem ((c.tc : Thread nD τ).loc main_v38_4) = (Gate.rows (x c).DT : FVec Ideal S4096x512 .bf16)
      ∧ r.2.mem ((c.tc : Thread nD τ).loc main_v38_5) = (Gate.rows (x c).DM : FVec Ideal S4096x1024 .bf16)
      ∧ r.2.mem ((c.tc : Thread nD τ).loc main_v38_6) = (lift3 fun b _ => Dx.shA (x c).P b : FVec Ideal S2x1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.2 c).1 9).trans (Value.Args.final9 (a c)), ((h.2 c).1 10).trans (Value.Args.final10 (a c)), ((h.2 c).1 11).trans (Value.Args.final11 (a c)), ((h.2 c).1 12).trans (Value.Args.final12 (a c)), ((h.2 c).1 13).trans (Value.Args.final13 (a c)), ((h.2 c).1 14).trans (Value.Args.final14 (a c)), ((h.2 c).1 15).trans (Value.Args.final15 (a c)), h.1 c⟩)
    (θ_run_and (unchanged m g) (run_main m g))

/-- At exact arithmetic and finite arguments the kernel's results are the reference's. -/
theorem algebraic : Cert.algebraic_KernelMixIdeal_ReferenceMixIdeal_pre_finite_mix := by
  intro m g m' g' hpre hag
  choose x h0 h1 h2 h3 h4 h5 h6 h7 h8 using fun c => reals _ _ _ _ _ _ _ _ _ (hpre c)
  refine ⟨_, _, _, _, _, _, _, run m g x fun c => ⟨h0 c, h1 c, h2 c, h3 c, h4 c, h5 c, h6 c, h7 c, h8 c⟩,
    Cert.ReferenceMixIdeal.Value.run_reals g' x fun c => ⟨?_, ?_, ?_, ?_, ?_, ?_, ?_, ?_, ?_⟩⟩
  · exact (hag c).1.trans (h0 c)
  · exact (hag c).2.1.trans (h1 c)
  · exact (hag c).2.2.1.trans (h2 c)
  · exact (hag c).2.2.2.1.trans (h3 c)
  · exact (hag c).2.2.2.2.1.trans (h4 c)
  · exact (hag c).2.2.2.2.2.1.trans (h5 c)
  · exact (hag c).2.2.2.2.2.2.1.trans (h6 c)
  · exact (hag c).2.2.2.2.2.2.2.1.trans (h7 c)
  · exact (hag c).2.2.2.2.2.2.2.2.trans (h8 c)

end Cert.Proof.Mix

end
-- ==== Proof.ActMath.lean ====
/- A feed-forward over ℝ, one token at a time: its gate, its product and the gradients through them. -/
module

public import proofs.«01_k».proof.Proof.GateMath

@[expose] public section

set_option maxRecDepth 16384

noncomputable section

namespace Cert.Gate

open Cert.Reals Idealize.ShloMosaic

/-- The feed-forward's arguments on one device. -/
structure Act where
  X : Fin 2 → Fin 2048 → Fin 1024 → ℝ
  M : Fin 2 → Fin 9216 → ℝ
  WG : Fin 1024 → Fin 2816 → ℝ
  WU : Fin 1024 → Fin 2816 → ℝ
  WD : Fin 2816 → Fin 1024 → ℝ
  DH : Fin 2 → Fin 2048 → Fin 1024 → ℝ

/-- silu, its derivative times the other factor, and the product of the two. -/
def silu {n : ℕ} (g : Fin n → ℝ) (j : Fin n) : ℝ := g j * sig (g j)
def dsilu {n : ℕ} (g u : Fin n → ℝ) (j : Fin n) : ℝ := u j * (sig (g j) + silu g j * (1 - sig (g j)))
def act {n : ℕ} (g u : Fin n → ℝ) (j : Fin n) : ℝ := silu g j * u j
def prod {n : ℕ} (x y : Fin n → ℝ) (j : Fin n) : ℝ := x j * y j

namespace Act
variable (x : Act)

/-- Half the residual's scale: the columns from 8192 of the modulation vectors. -/
def C (b : Fin 2) (d : Fin 1024) : ℝ := 1 / 2 * x.M b ⟨8192 + d.val, by omega⟩
def G (b : Fin 2) (s : Fin 2048) : Fin 2816 → ℝ := mul x.WG (x.X b s)
def U (b : Fin 2) (s : Fin 2048) : Fin 2816 → ℝ := mul x.WU (x.X b s)
def Si (b : Fin 2) (s : Fin 2048) : Fin 2816 → ℝ := silu (x.G b s)
def Q (b : Fin 2) (s : Fin 2048) : Fin 2816 → ℝ := dsilu (x.G b s) (x.U b s)
def Fo (b : Fin 2) (s : Fin 2048) : Fin 1024 → ℝ := mul x.WD (act (x.G b s) (x.U b s))
def DF (b : Fin 2) (s : Fin 2048) : Fin 1024 → ℝ := scaled (x.C b) (x.DH b s)
def DA (b : Fin 2) (s : Fin 2048) : Fin 2816 → ℝ := back x.WD (x.DF b s)
def DG (b : Fin 2) (s : Fin 2048) : Fin 2816 → ℝ := prod (x.DA b s) (x.Q b s)
def DU (b : Fin 2) (s : Fin 2048) : Fin 2816 → ℝ := prod (x.DA b s) (x.Si b s)

/-- Half the product of the gradient and of what the scale multiplies, whose sum over a sequence is the gradient of the scale. -/
def P (b : Fin 2) (s : Fin 2048) (d : Fin 1024) : ℝ := 1 / 2 * (x.DH b s d * x.Fo b s d)
end Act

/-- The rows of both sequences, their columns in four parts, the parts first. -/
def stack (f : Fin 2 → Fin 2048 → Fin 2816 → ℝ) : (⟨3, ![4, 4096, 704]⟩ : Shape).Idx → EReal :=
  lift3 fun (q : Fin 4) (t : Fin 4096) (k : Fin 704) => Dx.tok f t.val ⟨704 * q.val + k.val, by omega⟩

theorem stack_of (f : Fin 2 → Fin 2048 → Fin 2816 → ℝ) (t : ℕ) (j : Fin 2816) (i : (⟨3, ![4, 4096, 704]⟩ : Shape).Idx) (e0 : t = (i 1).val)
    (e1 : j.val = 704 * (i 0).val + (i 2).val) : ((Dx.tok f t j : ℝ) : EReal) = stack f i := by
  subst e0
  exact congrArg (fun j => ((Dx.tok f (i 1).val j : ℝ) : EReal)) (Fin.ext e1)

end Cert.Gate

end
-- ==== Proof.FfnPoint.lean ====
/- One grid point of the feed-forward's backward call through its gate, over ℝ. -/
module

public import proofs.«01_k».proof.Proof.ActMath
public import proofs.«01_k».proof.Proof.Consts
public import proofs.«01_k».proof.Proof.Gen.KernelFfnIdeal.Skeleton
public import Idealize.ShloMosaic.Lib.Pointwise

@[expose] public section

set_option maxRecDepth 16384

noncomputable section

namespace Cert.KernelFfnIdeal.Value

open Cert.KernelFfnIdeal Cert.KernelFfnIdeal.Gen Idealize.ShloMosaic
open Cert.Reals Cert.Consts

variable (dh f : Fin 512 → Fin 1024 → ℝ) (ga : Fin 1024 → ℝ) (W : Fin 704 → Fin 1024 → ℝ) (y : Fin 512 → Fin 704 → ℝ)

theorem df_eq : k0_pay4 (F := Ideal) (lift2 dh) (lift4 fun (_ _ _ : Fin 1) => ga) = lift2 fun r => Gate.scaled (fun d => 1 / 2 * ga d) (dh r) := by
  funext i; idx_vars i
  pointwise [k0_pay4, k0_pay3, half, lift2_at, lift4_at]
  simp only [mul_coe]
  rfl

theorem part_eq : k0_pay5 (F := Ideal) (lift2 dh) (lift2 f) = lift2 fun (_ : Fin 1) d => ∑ r, 1 / 2 * (dh r d * f r d) := by
  funext i; idx_vars i
  pointwise [k0_pay5, k0_pay3, half, lift2_at]
  simp only [mul_coe, sum_coe, Finset.mul_sum]

/-- One part of a gradient: the scaled gradient through a part of the matrix, times a part of a saved array. -/
theorem piece_eq : k0_pay12 (F := Ideal) (lift2 dh) (lift3 fun (_ : Fin 1) => W) (lift3 fun (_ : Fin 1) => y)
    = lift3 fun (_ : Fin 1) r => Gate.prod (Gate.back W (dh r)) (y r) := by
  funext i; idx_vars i
  pointwise [k0_pay12, k0_pay10, lift2_at, lift3_at]
  simp only [mul_coe, sum_coe]
  rfl

/-- The first tile of a sequence leaves its own part, and a later one adds to what it finds. -/
theorem first3 (v : FVec Ideal S1x1024 .f32) (f : Fin 1024 → ℝ) (hv : v = lift2 fun _ => f) (i : S1x1x1024.Idx) :
    k0_pay1 (F := Ideal) v i = ((f (i 2) : ℝ) : EReal) := by
  unfold k0_pay1
  rw [hv]
  idx_vars i
  pointwise [lift2_at]
theorem next3 (v : FVec Ideal S1x1024 .f32) (f : Fin 1024 → ℝ) (hv : v = lift2 fun _ => f) (o : FVec Ideal S1x1x1024 .f32) (i : S1x1x1024.Idx) (z : ℝ)
    (ho : o (ix3 0 0 (i 2)) = ((z : ℝ) : EReal)) : k0_pay2 (F := Ideal) v o i = ((z + f (i 2) : ℝ) : EReal) := by
  subst hv; idx_vars i
  pointwise [k0_pay2, lift2_at]
  rw [← add_coe]
  exact congrArg (· + _) ho

end Cert.KernelFfnIdeal.Value

end
-- ==== Proof.FfnValue.lean ====
/- The feed-forward's backward call over ℝ: the arrays the host prepares, and the call's blocks. -/
module

public import proofs.«01_k».proof.Proof.FfnPoint
public import proofs.«01_k».proof.Proof.Gen.KernelFfnIdeal.Frame
public import Idealize.ShloMosaic.Lib.Pipeline.ValueKit

@[expose] public section

set_option maxRecDepth 16384

noncomputable section

namespace Cert.KernelFfnIdeal.Value

open Cert.KernelFfnIdeal Cert.KernelFfnIdeal.Gen Idealize.ShloMosaic Idealize.ShloMosaic.TcCoe Idealize.SL.Sem
open Cert.Reals Cert.Consts
open Idealize.ShloMosaic.Pipeline (Dat)

variable (m : (ℓ : Loc nD τ sig) → Buf (Elt Ideal) ℓ)

/-- Every window's block index, over all eight grid points. -/
theorem idx : ∀ t : Fin cfg0.N, win0_0.index t = ![t.val, 0] ∧ win0_1.index t = ![t.val, 0] ∧ win0_2.index t = ![t.val / 4, 8, 0, 0] ∧ win0_3.index t = ![0, 0, 0]
    ∧ win0_4.index t = ![0, t.val, 0] ∧ win0_5.index t = ![0, t.val, 0] ∧ win0_6.index t = ![0, t.val, 0] ∧ win0_7.index t = ![0, t.val, 0] ∧ win0_8.index t = ![t.val, 0]
    ∧ win0_9.index t = ![t.val / 4, 0, 0] ∧ t.val < 8 :=
  (by decide +kernel : ∀ t : Fin grid0.N, _)

theorem lt8 (t : Fin cfg0.N) : t.val < 8 := (idx t).2.2.2.2.2.2.2.2.2.2

/-! ## The arrays the call reads -/

theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

theorem wd_at (X : FVec Ideal S2816x1024 .f32) (i : S4x704x1024.Idx) (k : Fin 2816) (d : Fin 1024) (hk : k.val = 704 * (i 0).val + (i 1).val) (hd : d.val = (i 2).val) :
    shapeCast S4x704x1024 X shapeCasts_S2816x1024_S4x704x1024 i = X (ix2 k d) := by
  idx_vars i
  pointwise
  blk_ext []

theorem rows_eq (f : Fin 2 → Fin 2048 → Fin 1024 → ℝ) : (shapeCast S4096x1024 (lift3 f : FVec Ideal S2x2048x1024 .f32) shapeCasts_S2x2048x1024_S4096x1024 : FVec Ideal S4096x1024 .f32) = Gate.rows f := by
  funext i; idx_vars i
  refine Eq.trans ?_ (lift3_at f ⟨i0.val / 2048 % 2, by omega⟩ ⟨i0.val % 2048, by omega⟩ i1)
  pointwise
  blk_ext []

/-- A product with one of the two wide matrices, silu of it, silu's derivative times the other product, the result of the feed-forward, and the arrays in four parts. -/
def hP (X : FVec Ideal S2x2048x1024 .f32) (W : FVec Ideal S1024x2816 .f32) : FVec Ideal S4096x2816 .f32 :=
  Host.dotGeneral dot_S4096x1024_S1024x2816_S4096x2816_1_0_0_1_n_n none (truncf .bf16 (shapeCast S4096x1024 X shapeCasts_S2x2048x1024_S4096x1024) bitsLt_bf16_f32 : FVec Ideal S4096x1024 .bf16)
    (truncf .bf16 W bitsLt_bf16_f32 : FVec Ideal S1024x2816 .bf16)
def hOne : FVec Ideal S4096x2816 .f32 := broadcastInDim S4096x2816 ![] bcast_S_S4096x2816 (constant S_ .f32 0x3F800000#32)
def hSig (G : FVec Ideal S4096x2816 .f32) : FVec Ideal S4096x2816 .f32 := Host.divf hOne (addf hOne (Host.exp (Host.negf G)))
def hS (G : FVec Ideal S4096x2816 .f32) : FVec Ideal S4096x2816 .f32 := mulf G (hSig G)
def hQ (G U : FVec Ideal S4096x2816 .f32) : FVec Ideal S4096x2816 .f32 := mulf U (addf (hSig G) (mulf (hS G) (subf hOne (hSig G))))
def hF (G U : FVec Ideal S4096x2816 .f32) (W : FVec Ideal S2816x1024 .f32) : FVec Ideal S4096x1024 .bf16 :=
  truncf .bf16 (Host.dotGeneral dot_S4096x2816_S2816x1024_S4096x1024_1_0_0_1_n_n none (truncf .bf16 (mulf (hS G) U) bitsLt_bf16_f32 : FVec Ideal S4096x2816 .bf16)
    (truncf .bf16 W bitsLt_bf16_f32 : FVec Ideal S2816x1024 .bf16)) bitsLt_bf16_f32
def hStack (X : FVec Ideal S4096x2816 .f32) : FVec Ideal S4x4096x704 .bf16 :=
  truncf .bf16 (transpose S4x4096x704 [1, 0, 2] (shapeCast S4096x4x704 X shapeCasts_S4096x2816_S4096x4x704) transposes_S4096x4x704_S4x4096x704_1_0_2) bitsLt_bf16_f32

theorem hP_eq (X : Fin 2 → Fin 2048 → Fin 1024 → ℝ) (W : Fin 1024 → Fin 2816 → ℝ) : hP (lift3 X) (lift2 W) = Gate.rows fun b s => Gate.mul W (X b s) := by
  unfold hP
  rw [rows_eq]
  funext i; idx_vars i
  pointwise [Gate.rows, lift2_at]
  simp only [mul_coe, sum_coe]
  rfl

theorem hSig_eq (g : Fin 2 → Fin 2048 → Fin 2816 → ℝ) : hSig (Gate.rows g) = Gate.rows fun b s d => Gate.sig (g b s d) := by
  funext i; idx_vars i
  pointwise [hSig, hOne, Gate.rows, lift2_at]
  exact Gate.sig_coe _

theorem hS_eq (g : Fin 2 → Fin 2048 → Fin 2816 → ℝ) : hS (Gate.rows g) = Gate.rows fun b s => Gate.silu (g b s) := by
  unfold hS
  rw [hSig_eq]
  funext i; idx_vars i
  pointwise [Gate.rows, lift2_at]
  simp only [mul_coe]
  rfl

theorem hQ_eq (g u : Fin 2 → Fin 2048 → Fin 2816 → ℝ) : hQ (Gate.rows g) (Gate.rows u) = Gate.rows fun b s => Gate.dsilu (g b s) (u b s) := by
  unfold hQ
  rw [hSig_eq, hS_eq]
  funext i; idx_vars i
  pointwise [hOne, Gate.rows, lift2_at]
  simp only [mul_coe, add_coe, sub_coe, one_coe]
  rfl

theorem hF_eq (g u : Fin 2 → Fin 2048 → Fin 2816 → ℝ) (W : Fin 2816 → Fin 1024 → ℝ) : hF (Gate.rows g) (Gate.rows u) (lift2 W)
    = Gate.rows fun b s => Gate.mul W (Gate.act (g b s) (u b s)) := by
  unfold hF
  rw [hS_eq]
  funext i; idx_vars i
  pointwise [Gate.rows, lift2_at]
  simp only [mul_coe, sum_coe]
  rfl

theorem hStack_eq (f : Fin 2 → Fin 2048 → Fin 2816 → ℝ) : hStack (Gate.rows f) = Gate.stack f := by
  funext i; idx_vars i
  refine Eq.trans ?_ (lift2_at (fun (t : Fin 4096) => Dx.tok f t.val) i1 ⟨704 * i0.val + i2.val, by omega⟩)
  pointwise [hStack, Gate.rows]
  blk_ext []

theorem V_dh (c : Dev nD) : V m c main_v26 = shapeCast S4096x1024 (m ((c : Thread nD τ).loc main_arg5)) shapeCasts_S2x2048x1024_S4096x1024 := by
  unfold V
  after_results; rfl
theorem V_m (c : Dev nD) : V m c main_v0 = shapeCast S2x9x1x1024 (m ((c : Thread nD τ).loc main_arg1)) shapeCasts_S2x9216_S2x9x1x1024 := by
  unfold V
  after_results; rfl
theorem V_f (c : Dev nD) : (V m c main_v25 : S4096x1024.Idx → EReal) = hF (hP (m ((c : Thread nD τ).loc main_arg0)) (m ((c : Thread nD τ).loc main_arg2)))
    (hP (m ((c : Thread nD τ).loc main_arg0)) (m ((c : Thread nD τ).loc main_arg3))) (m ((c : Thread nD τ).loc main_arg4)) := by
  unfold V
  after_results; rfl
theorem V_wd (c : Dev nD) : (V m c main_v4 : S4x704x1024.Idx → EReal) = shapeCast S4x704x1024 (m ((c : Thread nD τ).loc main_arg4) : FVec Ideal S2816x1024 .f32) shapeCasts_S2816x1024_S4x704x1024 := by
  unfold V
  after_results; rfl
theorem V_s (c : Dev nD) : (V m c main_v29 : S4x4096x704.Idx → EReal) = hStack (hS (hP (m ((c : Thread nD τ).loc main_arg0)) (m ((c : Thread nD τ).loc main_arg2)))) := by
  unfold V
  after_results; rfl
theorem V_q (c : Dev nD) : (V m c main_v32 : S4x4096x704.Idx → EReal) = hStack (hQ (hP (m ((c : Thread nD τ).loc main_arg0)) (m ((c : Thread nD τ).loc main_arg2)))
    (hP (m ((c : Thread nD τ).loc main_arg0)) (m ((c : Thread nD τ).loc main_arg3)))) := by
  unfold V
  after_results; rfl

/-- The arguments of one device as arrays of reals. -/
structure Args (c : Dev nD) (x : Gate.Act) : Prop where
  xn : (m ((c : Thread nD τ).loc main_arg0) : S2x2048x1024.Idx → EReal) = lift3 x.X
  mo : (m ((c : Thread nD τ).loc main_arg1) : S2x9216.Idx → EReal) = lift2 x.M
  wg : (m ((c : Thread nD τ).loc main_arg2) : S1024x2816.Idx → EReal) = lift2 x.WG
  wu : (m ((c : Thread nD τ).loc main_arg3) : S1024x2816.Idx → EReal) = lift2 x.WU
  wd : (m ((c : Thread nD τ).loc main_arg4) : S2816x1024.Idx → EReal) = lift2 x.WD
  dh : (m ((c : Thread nD τ).loc main_arg5) : S2x2048x1024.Idx → EReal) = lift3 x.DH

/-! ## The blocks -/

/-- A tile of 512 rows of an array of both sequences' rows, as it is and in four parts. -/
abbrev tile {n : ℕ} (f : Fin 2 → Fin 2048 → Fin n → ℝ) (t : ℕ) : (⟨2, ![512, n]⟩ : Shape).Idx → EReal := lift2 fun (r : Fin 512) => Dx.tok f (512 * t + r.val)
abbrev part (f : Fin 2 → Fin 2048 → Fin 2816 → ℝ) (t : ℕ) (q : Fin 4) (r : Fin 512) (k : Fin 704) : ℝ := Dx.tok f (512 * t + r.val) ⟨704 * q.val + k.val, by omega⟩

variable {m} {c : Dev nD} {x : Gate.Act}

theorem Args.v_g (a : Args m c x) : hP (m ((c : Thread nD τ).loc main_arg0)) (m ((c : Thread nD τ).loc main_arg2)) = Gate.rows x.G := (congrArg₂ hP a.xn a.wg).trans (hP_eq _ _)
theorem Args.v_u (a : Args m c x) : hP (m ((c : Thread nD τ).loc main_arg0)) (m ((c : Thread nD τ).loc main_arg3)) = Gate.rows x.U := (congrArg₂ hP a.xn a.wu).trans (hP_eq _ _)
theorem Args.v_dh (a : Args m c x) : (V m c main_v26 : S4096x1024.Idx → EReal) = Gate.rows x.DH :=
  (V_dh m c).trans ((congrArg (fun X : FVec Ideal S2x2048x1024 .f32 => (shapeCast S4096x1024 X shapeCasts_S2x2048x1024_S4096x1024 : FVec Ideal S4096x1024 .f32)) a.dh).trans (rows_eq x.DH))
theorem Args.v_f (a : Args m c x) : (V m c main_v25 : S4096x1024.Idx → EReal) = Gate.rows x.Fo :=
  (V_f m c).trans ((congr (congrArg₂ hF a.v_g a.v_u) a.wd).trans (hF_eq _ _ _))
theorem Args.v_s (a : Args m c x) : (V m c main_v29 : S4x4096x704.Idx → EReal) = Gate.stack x.Si :=
  (V_s m c).trans ((congrArg (fun g => hStack (hS g)) a.v_g).trans ((congrArg hStack (hS_eq _)).trans (hStack_eq _)))
theorem Args.v_q (a : Args m c x) : (V m c main_v32 : S4x4096x704.Idx → EReal) = Gate.stack x.Q :=
  (V_q m c).trans ((congrArg₂ (fun g u => hStack (hQ g u)) a.v_g a.v_u).trans ((congrArg hStack (hQ_eq _ _)).trans (hStack_eq _)))

theorem Args.b_dh (a : Args m c x) (t : Fin cfg0.N) : (iblk m c 0 t : S512x1024.Idx → EReal) = tile x.DH t.val := by
  have e := (idx t).1
  funext i; idx_vars i
  refine (congrFun a.v_dh (((cfg0.win 0).blk t).view.emb _)).trans ((Gate.rows_of _ (512 * t.val + i0.val) i1 _ ?_ ?_).symm) <;> (blk_simp [e] <;> (try omega))
theorem Args.b_f (a : Args m c x) (t : Fin cfg0.N) : (iblk m c 1 t : S512x1024.Idx → EReal) = tile x.Fo t.val := by
  have e := (idx t).2.1
  funext i; idx_vars i
  refine (congrFun a.v_f (((cfg0.win 1).blk t).view.emb _)).trans ((Gate.rows_of _ (512 * t.val + i0.val) i1 _ ?_ ?_).symm) <;> (blk_simp [e] <;> (try omega))
theorem Args.b_m (a : Args m c x) (t : Fin cfg0.N) : (iblk m c 2 t : S1x1x1x1024.Idx → EReal) = lift4 fun (_ _ _ : Fin 1) d => x.M (Dx.seq t.val) ⟨8192 + d.val, by omega⟩ := by
  have e := (idx t).2.2.1
  have h8 := lt8 t
  funext i; idx_vars i
  refine Eq.trans ?_ (congrFun a.mo (ix2 (Dx.seq t.val) ⟨8192 + i3.val, by omega⟩))
  refine (congrFun (V_m m c) (((cfg0.win 2).blk t).view.emb _)).trans (mods_at _ _ _ _ ?_ ?_) <;> (blk_simp [e] <;> (try simp only []) <;> (try omega))
theorem Args.b_wd (a : Args m c x) (t : Fin cfg0.N) : (iblk m c 3 t : S4x704x1024.Idx → EReal) = lift3 fun (q : Fin 4) (k : Fin 704) => x.WD ⟨704 * q.val + k.val, by omega⟩ := by
  have e := (idx t).2.2.2.1
  funext i; idx_vars i
  refine Eq.trans ?_ (congrFun a.wd (ix2 ⟨704 * i0.val + i1.val, by omega⟩ i2))
  refine (congrFun (V_wd m c) (((cfg0.win 3).blk t).view.emb _)).trans (wd_at _ _ _ _ ?_ ?_) <;> (blk_simp [e] <;> (try simp only []) <;> (try omega))
theorem Args.b_s (a : Args m c x) (t : Fin cfg0.N) : (iblk m c 4 t : S4x512x704.Idx → EReal) = lift3 (part x.Si t.val) := by
  have e := (idx t).2.2.2.2.1
  funext i; idx_vars i
  refine (congrFun a.v_s (((cfg0.win 4).blk t).view.emb _)).trans ((Gate.stack_of _ (512 * t.val + i1.val) ⟨704 * i0.val + i2.val, by omega⟩ _ ?_ ?_).symm) <;> (blk_simp [e] <;> (try omega))
theorem Args.b_q (a : Args m c x) (t : Fin cfg0.N) : (iblk m c 5 t : S4x512x704.Idx → EReal) = lift3 (part x.Q t.val) := by
  have e := (idx t).2.2.2.2.2.1
  funext i; idx_vars i
  refine (congrFun a.v_q (((cfg0.win 5).blk t).view.emb _)).trans ((Gate.stack_of _ (512 * t.val + i1.val) ⟨704 * i0.val + i2.val, by omega⟩ _ ?_ ?_).symm) <;> (blk_simp [e] <;> (try omega))

end Cert.KernelFfnIdeal.Value

end
-- ==== Proof.FfnOuts.lean ====
/- What every grid point of the feed-forward's backward call leaves, over ℝ, and the arrays after the call. -/
module

public import proofs.«01_k».proof.Proof.FfnValue

@[expose] public section

set_option maxRecDepth 16384

noncomputable section

namespace Cert.KernelFfnIdeal.Value

open Cert.KernelFfnIdeal Cert.KernelFfnIdeal.Gen Idealize.ShloMosaic Idealize.ShloMosaic.TcCoe Idealize.SL.Sem
open Cert.Reals Cert.Consts
open Idealize.ShloMosaic.Pipeline (Dat)

variable {m : (ℓ : Loc nD τ sig) → Buf (Elt Ideal) ℓ} {c : Dev nD} {x : Gate.Act}

theorem inbD (q : Fin 4) : ∀ a, ![q.val, 0, 0] a + S1x512x704.size a ≤ (S4x512x704).size a := by
  revert q; decide
theorem inbW (q : Fin 4) : ∀ a, ![q.val, 0, 0] a + S1x704x1024.size a ≤ (S4x704x1024).size a := by
  revert q; decide

/-- One of four parts of a saved array's tile, and of the matrix. -/
abbrev ldD (v : FVec Ideal S4x512x704 .bf16) (q : Fin 4) : FVec Ideal S1x512x704 .bf16 :=
  @View.ld (Elt Ideal) S4x512x704 .bf16 v (Rect.unit (s := S4x512x704) ![q.val, 0, 0] S1x512x704.size (inbD q))
abbrev ldW (v : FVec Ideal S4x704x1024 .bf16) (q : Fin 4) : FVec Ideal S1x704x1024 .bf16 :=
  @View.ld (Elt Ideal) S4x704x1024 .bf16 v (Rect.unit (s := S4x704x1024) ![q.val, 0, 0] S1x704x1024.size (inbW q))

theorem ldD_eq (A : Fin 4 → Fin 512 → Fin 704 → ℝ) (q : Fin 4) : ldD (lift3 A) q = lift3 fun _ => A q := by
  funext i; idx_vars i
  pointwise [ldD, lift3_at]
theorem ldW_eq (A : Fin 4 → Fin 704 → Fin 1024 → ℝ) (q : Fin 4) : ldW (lift3 A) q = lift3 fun _ => A q := by
  funext i; idx_vars i
  pointwise [ldW, lift3_at]

/-- The tile of the scaled gradient. -/
theorem Args.df (a : Args m c x) (t : Fin cfg0.N) : k0_pay4 (F := Ideal) (iblk m c 0 t) (iblk m c 2 t) = tile x.DF t.val := by
  have h8 := lt8 t
  rw [a.b_dh, a.b_m, df_eq]
  refine congrArg lift2 (funext fun r => ?_)
  refine (congrArg (fun b => Gate.scaled (x.C b) (Dx.tok x.DH (512 * t.val + r.val))) (Fin.ext ?_ : Dx.seq t.val = ⟨(512 * t.val + r.val) / 2048 % 2, Nat.mod_lt _ (by decide)⟩))
  simp only []
  omega

theorem Args.o8 (a : Args m c x) (t : Fin cfg0.N) : (outsAt0 m c t.val t.isLt).2.2.1 = tile x.DF t.val := by
  rw [← a.df t]
  by_cases c0 : t.val % 4 = 0
  · rw [outsAt0_A m c t c0 (by omega)]
    dsimp only
    frame_out
    try rfl
  · rw [outsAt0_B m c t c0 c0]
    dsimp only
    frame_out
    try rfl

/-- A part of each of the two gradients. -/
theorem Args.p_g (a : Args m c x) (t : Fin cfg0.N) (q : Fin 4) : k0_pay12 (F := Ideal) (k0_pay4 (F := Ideal) (iblk m c 0 t) (iblk m c 2 t)) (ldW (iblk m c 3 t) q) (ldD (iblk m c 5 t) q)
    = lift3 fun (_ : Fin 1) => part x.DG t.val q := by
  rw [a.df, a.b_wd, a.b_q, ldW_eq, ldD_eq, piece_eq]
  rfl
theorem Args.p_u (a : Args m c x) (t : Fin cfg0.N) (q : Fin 4) : k0_pay12 (F := Ideal) (k0_pay4 (F := Ideal) (iblk m c 0 t) (iblk m c 2 t)) (ldW (iblk m c 3 t) q) (ldD (iblk m c 4 t) q)
    = lift3 fun (_ : Fin 1) => part x.DU t.val q := by
  rw [a.df, a.b_wd, a.b_s, ldW_eq, ldD_eq, piece_eq]
  rfl

/-- An entry of a part is the entry of the four parts together. -/
theorem piece_at {p : Fin 4} (v : FVec Ideal S1x512x704 .bf16) (F : Fin 4 → Fin 512 → Fin 704 → ℝ) (hv : v = lift3 fun (_ : Fin 1) => F p) (z : S1x512x704.Idx) (q : Fin 4) (r : Fin 512) (k : Fin 704)
    (e0 : q.val = p.val) (e1 : r.val = (z 1).val) (e2 : k.val = (z 2).val) : v z = ((F q r k : ℝ) : EReal) := by
  obtain rfl : q = p := Fin.ext e0
  rw [hv]
  exact congrArg₂ (fun r k => ((F q r k : ℝ) : EReal)) (Fin.ext e1.symm) (Fin.ext e2.symm)

theorem Args.o6 (a : Args m c x) (t : Fin cfg0.N) (q : Fin 4) (r : Fin 512) (j : Fin 704) : (outsAt0 m c t.val t.isLt).1 (ix3 q r j) = ((part x.DG t.val q r j : ℝ) : EReal) := by
  have k := a.p_g t
  by_cases c0 : t.val % 4 = 0
  · rw [outsAt0_A m c t c0 (by omega)]
    dsimp only
    frame_out
    canon_tiles z e
    · exact piece_at _ (part x.DG t.val) (k 3) z q r j (by simpa using e0) (by simpa using e1) (by simpa using e2)
    · exact piece_at _ (part x.DG t.val) (k 2) z q r j (by simpa using e0) (by simpa using e1) (by simpa using e2)
    · exact piece_at _ (part x.DG t.val) (k 1) z q r j (by simpa using e0) (by simpa using e1) (by simpa using e2)
    · exact piece_at _ (part x.DG t.val) (k 0) z q r j (by simpa using e0) (by simpa using e1) (by simpa using e2)
  · rw [outsAt0_B m c t c0 c0]
    dsimp only
    frame_out
    canon_tiles z e
    · exact piece_at _ (part x.DG t.val) (k 3) z q r j (by simpa using e0) (by simpa using e1) (by simpa using e2)
    · exact piece_at _ (part x.DG t.val) (k 2) z q r j (by simpa using e0) (by simpa using e1) (by simpa using e2)
    · exact piece_at _ (part x.DG t.val) (k 1) z q r j (by simpa using e0) (by simpa using e1) (by simpa using e2)
    · exact piece_at _ (part x.DG t.val) (k 0) z q r j (by simpa using e0) (by simpa using e1) (by simpa using e2)

theorem Args.o7 (a : Args m c x) (t : Fin cfg0.N) (q : Fin 4) (r : Fin 512) (j : Fin 704) : (outsAt0 m c t.val t.isLt).2.1 (ix3 q r j) = ((part x.DU t.val q r j : ℝ) : EReal) := by
  have k := a.p_u t
  by_cases c0 : t.val % 4 = 0
  · rw [outsAt0_A m c t c0 (by omega)]
    dsimp only
    frame_out
    canon_tiles z e
    · exact piece_at _ (part x.DU t.val) (k 3) z q r j (by simpa using e0) (by simpa using e1) (by simpa using e2)
    · exact piece_at _ (part x.DU t.val) (k 2) z q r j (by simpa using e0) (by simpa using e1) (by simpa using e2)
    · exact piece_at _ (part x.DU t.val) (k 1) z q r j (by simpa using e0) (by simpa using e1) (by simpa using e2)
    · exact piece_at _ (part x.DU t.val) (k 0) z q r j (by simpa using e0) (by simpa using e1) (by simpa using e2)
  · rw [outsAt0_B m c t c0 c0]
    dsimp only
    frame_out
    canon_tiles z e
    · exact piece_at _ (part x.DU t.val) (k 3) z q r j (by simpa using e0) (by simpa using e1) (by simpa using e2)
    · exact piece_at _ (part x.DU t.val) (k 2) z q r j (by simpa using e0) (by simpa using e1) (by simpa using e2)
    · exact piece_at _ (part x.DU t.val) (k 1) z q r j (by simpa using e0) (by simpa using e1) (by simpa using e2)
    · exact piece_at _ (part x.DU t.val) (k 0) z q r j (by simpa using e0) (by simpa using e1) (by simpa using e2)

theorem Args.part (a : Args m c x) (t : Fin cfg0.N) : k0_pay5 (F := Ideal) (iblk m c 0 t) (iblk m c 1 t) = lift2 fun _ => Dx.pSh x.P t.val := by
  rw [a.b_dh, a.b_f, part_eq]
  rfl

/-- The points of a sequence so far leave their parts of the gradient of the scale. -/
theorem Args.acc9 (a : Args m c x) (n : ℕ) (hn : n < cfg0.N) (i : S1x1x1024.Idx) : (outsAt0 m c n hn).2.2.2 i
    = ((∑ p ∈ Finset.range (n % 4 + 1), Dx.pSh x.P (4 * (n / 4) + p) (i 2) : ℝ) : EReal) := by
  have hN : n < 8 := lt8 ⟨n, hn⟩
  induction n generalizing i with
  | zero =>
    refine (congrFun (congrArg (fun o => o.2.2.2) (outsAt0_A m c ⟨0, hn⟩ rfl (by simp))) i).trans ?_
    dsimp only
    frame_out
    refine (first3 _ _ (a.part ⟨0, hn⟩) i).trans ?_
    simp
  | succ n ih =>
    by_cases h1 : (n + 1) % 4 = 0
    · refine (congrFun (congrArg (fun o => o.2.2.2) (outsAt0_A m c ⟨n + 1, hn⟩ h1 (by simpa using h1))) i).trans ?_
      dsimp only
      frame_out
      refine (first3 _ _ (a.part ⟨n + 1, hn⟩) i).trans ?_
      rw [h1, show 4 * ((n + 1) / 4) = n + 1 by omega]
      simp
    · have ih := ih (by omega) (ix3 0 0 (i 2)) (by omega)
      refine (congrFun (congrArg (fun o => o.2.2.2) (outsAt0_B m c ⟨n + 1, hn⟩ h1 h1)) i).trans ?_
      dsimp only
      frame_out
      refine (next3 _ _ (a.part ⟨n + 1, hn⟩) _ i _ ih).trans ?_
      rw [show (n + 1) % 4 = n % 4 + 1 by omega, show (n + 1) / 4 = n / 4 by omega, Finset.sum_range_succ _ (n % 4 + 1),
        show 4 * (n / 4) + (n % 4 + 1) = n + 1 by omega]
      rfl

/-! ## The arrays after the call -/

theorem Args.final6 (a : Args m c x) : ((dats m 0 c).arrAt 6 cfg0.N : S4x4096x704.Idx → EReal) = Gate.stack x.DG := by
  refine (dats m 0 c).arrAt_eq_of_covers 6 _ (by decide +kernel) fun t hf y => ?_
  have e := (idx t).2.2.2.2.2.2.1
  idx_vars y
  blk_simp
  rw [after0_6, a.o6]
  refine Gate.stack_of _ _ _ _ ?_ ?_ <;> (blk_simp [e] <;> (try omega))

theorem Args.final7 (a : Args m c x) : ((dats m 0 c).arrAt 7 cfg0.N : S4x4096x704.Idx → EReal) = Gate.stack x.DU := by
  refine (dats m 0 c).arrAt_eq_of_covers 7 _ (by decide +kernel) fun t hf y => ?_
  have e := (idx t).2.2.2.2.2.2.2.1
  idx_vars y
  blk_simp
  rw [after0_7, a.o7]
  refine Gate.stack_of _ _ _ _ ?_ ?_ <;> (blk_simp [e] <;> (try omega))

theorem Args.final8 (a : Args m c x) : ((dats m 0 c).arrAt 8 cfg0.N : S4096x1024.Idx → EReal) = Gate.rows x.DF := by
  refine (dats m 0 c).arrAt_eq_of_covers 8 _ (by decide +kernel) fun t hf y => ?_
  have e := (idx t).2.2.2.2.2.2.2.2.1
  idx_vars y
  blk_simp
  rw [after0_8, a.o8]
  refine Gate.rows_of _ _ _ _ ?_ ?_ <;> (blk_simp [e] <;> (try omega))

theorem Args.final9 (a : Args m c x) : ((dats m 0 c).arrAt 9 cfg0.N : S2x1x1024.Idx → EReal) = lift3 fun b _ => Dx.shA x.P b := by
  refine (dats m 0 c).arrAt_eq_of_covers 9 _ (by decide +kernel) fun t hf y => ?_
  have e := (idx t).2.2.2.2.2.2.2.2.2.1
  have h8 := lt8 t
  have hq : t.val % 4 = 3 := (by decide +kernel : ∀ t : Fin grid0.N, (cfg0.win 9).flush t = true → t.val % 4 = 3) t hf
  idx_vars y
  have h := (congrFun (after0_9 m c t) (ix3 y0 y1 y2)).trans (a.acc9 t.val t.isLt (ix3 y0 y1 y2))
  have k := Dx.seq_of _ _ (Dx.sh_total x.P) t.val hq
  blk_simp
  refine h.trans (k _ _ ?_ ?_) <;> blk_simp [e]

end Cert.KernelFfnIdeal.Value

end
-- ==== Proof.FfnReference.lean ====
/- The feed-forward's reference, over ℝ: its program is the transposed products, and its results are the rows' gradients. -/
module

public import proofs.«01_k».proof.Proof.ActMath
public import proofs.«01_k».proof.Proof.Consts
public import proofs.«01_k».proof.Proof.Gen.ReferenceFfnIdeal.Run
public import Idealize.ShloMosaic.Lib.Pointwise
public import Idealize.ShloMosaic.Lib.Pipeline.ValueKit

@[expose] public section

set_option maxRecDepth 16384

noncomputable section

namespace Cert.ReferenceFfnIdeal.Value

open Cert.ReferenceFfnIdeal Cert.ReferenceFfnIdeal.Gen Idealize.ShloMosaic Idealize.ShloMosaic.TcCoe Idealize.SL.Sem
open Cert.Reals Cert.Consts

/-! ## The reference's arrays -/

def rOne : FVec Ideal S2x2048x2816 .f32 := broadcastInDim S2x2048x2816 ![] bcast_S_S2x2048x2816 (constant S_ .f32 0x3F800000#32)
def rSig (G : FVec Ideal S2x2048x2816 .f32) : FVec Ideal S2x2048x2816 .f32 := Host.divf rOne (addf rOne (Host.exp (Host.negf G)))
def rP (X : FVec Ideal S2x2048x1024 .f32) (W : FVec Ideal S1024x2816 .f32) : FVec Ideal S2x2048x2816 .f32 :=
  Host.dotGeneral dot_S2x2048x1024_S1024x2816_S2x2048x2816_2_0_01_1_n_n none X W
def rDf (M : FVec Ideal S2x9216 .f32) (D : FVec Ideal S2x2048x1024 .f32) : FVec Ideal S2x2048x1024 .f32 :=
  mulf (broadcastInDim S2x2048x1024 ![0, 1, 2] bcast_S2x1x1024_S2x2048x1024_0_1_2 (mulf (broadcastInDim S2x1x1024 ![] bcast_S_S2x1x1024 (constant S_ .f32 0x3F000000#32))
    (broadcastInDim S2x1x1024 ![0, 2] bcast_S2x1024_S2x1x1024_0_2 (extractStridedSlice S2x1024 ![0, 8192] M slices_S2x9216_S2x1024_0_8192)))) D
def rDa (M : FVec Ideal S2x9216 .f32) (D : FVec Ideal S2x2048x1024 .f32) (W : FVec Ideal S2816x1024 .f32) : FVec Ideal S2x2048x2816 .f32 :=
  Host.dotGeneral dot_S2x2048x1024_S2816x1024_S2x2048x2816_2_1_01_0_n_n none (rDf M D) W
def rDg (A U G : FVec Ideal S2x2048x2816 .f32) : FVec Ideal S2x2048x2816 .f32 :=
  addf (mulf (mulf A U) (rSig G)) (mulf (mulf G (mulf A U)) (mulf (rSig G) (subf rOne (rSig G))))
def rDu (A G : FVec Ideal S2x2048x2816 .f32) : FVec Ideal S2x2048x2816 .f32 := mulf (mulf G (rSig G)) A
def rF (G U : FVec Ideal S2x2048x2816 .f32) (W : FVec Ideal S2816x1024 .f32) : FVec Ideal S2x2048x1024 .f32 :=
  addf (Host.dotGeneral dot_S2x2048x2816_S2816x1024_S2x2048x1024_2_0_01_1_n_n none (mulf (mulf G (rSig G)) U) W) (broadcastInDim S2x2048x1024 ![] bcast_S_S2x2048x1024 (constant S_ .f32 0x00000000#32))
def rSum (P : FVec Ideal S2x2048x1024 .f32) : FVec Ideal S2x1x1024 .f32 :=
  broadcastInDim S2x1x1024 ![0, 2] bcast_S2x1024_S2x1x1024_0_2 (Host.reduceAdd (mulf (broadcastInDim S2x1x1024 ![] bcast_S_S2x1x1024 (constant S_ .f32 0x3F000000#32)) (shapeCast S2x1x1024 (Host.reduceAdd P (constant S_ .f32 0x00000000#32) reducesTo_S2x2048x1024_S2x1024_d1 h_S_) shapeCasts_S2x1024_S2x1x1024)) (constant S_ .f32 0x00000000#32) reducesTo_S2x1x1024_S2x1024_d1 h_S_)
def rStack (X : FVec Ideal S2x2048x2816 .f32) : FVec Ideal S4x4096x704 .f32 :=
  transpose S4x4096x704 [1, 0, 2] (shapeCast S4096x4x704 X shapeCasts_S2x2048x2816_S4096x4x704) transposes_S4096x4x704_S4x4096x704_1_0_2

/-! ## Over ℝ -/

theorem sig_eq (G : Fin 2 → Fin 2048 → Fin 2816 → ℝ) : rSig (lift3 G) = lift3 fun b s d => Gate.sig (G b s d) := by
  funext i; idx_vars i
  pointwise [rSig, rOne, lift3_at]
  exact Gate.sig_coe _

theorem p_eq (X : Fin 2 → Fin 2048 → Fin 1024 → ℝ) (W : Fin 1024 → Fin 2816 → ℝ) : rP (lift3 X) (lift2 W) = lift3 fun b s => Gate.mul W (X b s) := by
  funext i; idx_vars i
  pointwise [rP, lift2_at, lift3_at]
  simp only [mul_coe, sum_coe]
  rfl

theorem df_eq (M : Fin 2 → Fin 9216 → ℝ) (D : Fin 2 → Fin 2048 → Fin 1024 → ℝ) : rDf (lift2 M) (lift3 D) = lift3 fun b s => Gate.scaled (fun d => 1 / 2 * M b ⟨8192 + d.val, by omega⟩) (D b s) := by
  funext i; idx_vars i
  pointwise [rDf, half, lift2_at, lift3_at]
  simp only [mul_coe]
  rfl

theorem da_eq (M : Fin 2 → Fin 9216 → ℝ) (D : Fin 2 → Fin 2048 → Fin 1024 → ℝ) (W : Fin 2816 → Fin 1024 → ℝ) : rDa (lift2 M) (lift3 D) (lift2 W)
    = lift3 fun b s => Gate.back W (Gate.scaled (fun d => 1 / 2 * M b ⟨8192 + d.val, by omega⟩) (D b s)) := by
  unfold rDa
  rw [df_eq]
  funext i; idx_vars i
  pointwise [lift2_at, lift3_at]
  simp only [mul_coe, sum_coe]
  rfl

theorem dg_eq (A U G : Fin 2 → Fin 2048 → Fin 2816 → ℝ) : rDg (lift3 A) (lift3 U) (lift3 G) = lift3 fun b s => Gate.prod (A b s) (Gate.dsilu (G b s) (U b s)) := by
  unfold rDg
  rw [sig_eq]
  funext i; idx_vars i
  pointwise [rOne, lift3_at]
  simp only [mul_coe, add_coe, sub_coe, one_coe]
  refine congrArg (fun x : ℝ => (x : EReal)) ?_
  unfold Gate.prod Gate.dsilu Gate.silu
  ring

theorem du_eq (A G : Fin 2 → Fin 2048 → Fin 2816 → ℝ) : rDu (lift3 A) (lift3 G) = lift3 fun b s => Gate.prod (A b s) (Gate.silu (G b s)) := by
  unfold rDu
  rw [sig_eq]
  funext i; idx_vars i
  pointwise [lift3_at]
  simp only [mul_coe]
  exact congrArg (fun x : ℝ => (x : EReal)) (mul_comm _ _)

theorem f_eq (G U : Fin 2 → Fin 2048 → Fin 2816 → ℝ) (W : Fin 2816 → Fin 1024 → ℝ) : rF (lift3 G) (lift3 U) (lift2 W) = lift3 fun b s => Gate.mul W (Gate.act (G b s) (U b s)) := by
  unfold rF
  rw [sig_eq]
  funext i; idx_vars i
  pointwise [lift2_at, lift3_at]
  simp only [mul_coe, sum_coe]
  rfl

theorem sum_eq (P : Fin 2 → Fin 2048 → Fin 1024 → ℝ) : rSum (lift3 P) = lift3 fun b _ => Dx.shA (fun b s d => 1 / 2 * P b s d) b := by
  funext i; idx_vars i
  pointwise [rSum, half, lift3_at]
  simp only [mul_coe, sum_coe, Fin.sum_univ_one]
  exact congrArg (fun x : ℝ => (x : EReal)) (Finset.mul_sum _ _ _)

theorem rows_eq (f : Fin 2 → Fin 2048 → Fin 1024 → ℝ) : (shapeCast S4096x1024 (lift3 f : FVec Ideal S2x2048x1024 .f32) shapeCasts_S2x2048x1024_S4096x1024 : FVec Ideal S4096x1024 .f32) = Gate.rows f := by
  funext i; idx_vars i
  refine Eq.trans ?_ (lift3_at f ⟨i0.val / 2048 % 2, by omega⟩ ⟨i0.val % 2048, by omega⟩ i1)
  pointwise
  blk_ext []
theorem stack_eq (f : Fin 2 → Fin 2048 → Fin 2816 → ℝ) : rStack (lift3 f) = Gate.stack f := by
  funext i; idx_vars i
  refine Eq.trans ?_ (lift3_at f ⟨i1.val / 2048 % 2, by omega⟩ ⟨i1.val % 2048, by omega⟩ ⟨704 * i0.val + i2.val, by omega⟩)
  pointwise [rStack]
  blk_ext []

/-- The arguments of one device as arrays of reals. -/
structure Args (m : (ℓ : Loc nD τ sig) → Buf (Elt Ideal) ℓ) (c : Dev nD) (x : Gate.Act) : Prop where
  xn : (m ((c.tc : Thread nD τ).loc main_arg0) : FVec Ideal S2x2048x1024 .f32) = lift3 x.X
  mo : (m ((c.tc : Thread nD τ).loc main_arg1) : FVec Ideal S2x9216 .f32) = lift2 x.M
  wg : (m ((c.tc : Thread nD τ).loc main_arg2) : FVec Ideal S1024x2816 .f32) = lift2 x.WG
  wu : (m ((c.tc : Thread nD τ).loc main_arg3) : FVec Ideal S1024x2816 .f32) = lift2 x.WU
  wd : (m ((c.tc : Thread nD τ).loc main_arg4) : FVec Ideal S2816x1024 .f32) = lift2 x.WD
  dh : (m ((c.tc : Thread nD τ).loc main_arg5) : FVec Ideal S2x2048x1024 .f32) = lift3 x.DH

variable {m : (ℓ : Loc nD τ sig) → Buf (Elt Ideal) ℓ}

/-- The reference's four results on arrays of reals, and its arguments. -/
theorem run_reals (ρ : Dev nD → PrngReg) (x : Dev nD → Gate.Act) (a : ∀ c, Args m c (x c)) :
    θ_run defs (onTc (τ := τ) (main (F := Ideal))) ⟨m, fun _ => 0, ρ⟩ fun r => ∀ c : Dev nD,
      r.2.mem ((c.tc : Thread nD τ).loc main_v35) = (Gate.stack (x c).DG : FVec Ideal S4x4096x704 .bf16)
      ∧ r.2.mem ((c.tc : Thread nD τ).loc main_v38) = (Gate.stack (x c).DU : FVec Ideal S4x4096x704 .bf16)
      ∧ r.2.mem ((c.tc : Thread nD τ).loc main_v40) = (Gate.rows (x c).DF : FVec Ideal S4096x1024 .bf16)
      ∧ r.2.mem ((c.tc : Thread nD τ).loc main_v41) = (lift3 fun b _ => Dx.shA (x c).P b : FVec Ideal S2x1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans ?_, (h c).2.1.trans ?_, (h c).2.2.1.trans ?_, (h c).2.2.2.1.trans ?_, (h c).2.2.2.2⟩) (run m ρ)
  · rw [(a c).xn, (a c).mo, (a c).wg, (a c).wu, (a c).wd, (a c).dh]
    change truncf .bf16 (rStack (rDg (rDa (lift2 (x c).M) (lift3 (x c).DH) (lift2 (x c).WD)) (rP (lift3 (x c).X) (lift2 (x c).WU)) (rP (lift3 (x c).X) (lift2 (x c).WG)))) bitsLt_bf16_f32 = _
    rw [da_eq, p_eq, p_eq, dg_eq, stack_eq]
    rfl
  · rw [(a c).xn, (a c).mo, (a c).wg, (a c).wd, (a c).dh]
    change truncf .bf16 (rStack (rDu (rDa (lift2 (x c).M) (lift3 (x c).DH) (lift2 (x c).WD)) (rP (lift3 (x c).X) (lift2 (x c).WG)))) bitsLt_bf16_f32 = _
    rw [da_eq, p_eq, du_eq, stack_eq]
    rfl
  · rw [(a c).mo, (a c).dh]
    change truncf .bf16 (shapeCast S4096x1024 (rDf (lift2 (x c).M) (lift3 (x c).DH)) shapeCasts_S2x2048x1024_S4096x1024 : FVec Ideal S4096x1024 .f32) bitsLt_bf16_f32 = _
    rw [df_eq, rows_eq]
    rfl
  · rw [(a c).xn, (a c).wg, (a c).wu, (a c).wd, (a c).dh]
    change rSum (mulf (lift3 (x c).DH) (rF (rP (lift3 (x c).X) (lift2 (x c).WG)) (rP (lift3 (x c).X) (lift2 (x c).WU)) (lift2 (x c).WD))) = _
    rw [p_eq, p_eq, f_eq]
    refine Eq.trans ?_ (sum_eq fun b s d => (x c).DH b s d * (x c).Fo b s d)
    refine congrArg rSum ?_
    funext i; idx_vars i
    pointwise [lift3_at]
    simp only [mul_coe]
    rfl

end Cert.ReferenceFfnIdeal.Value

end
-- ==== Proof.FfnClaims.lean ====
/- The claims about the feed-forward's backward call through its gate. -/
module

public import proofs.«01_k».proof.Defs
public import proofs.«01_k».proof.Proof.Finite
public import proofs.«01_k».proof.Proof.FfnOuts
public import proofs.«01_k».proof.Proof.FfnReference
public import proofs.«01_k».proof.Proof.Gen.KernelFfn.Frame
public import proofs.«01_k».proof.Proof.Gen.Pre_finite_ffn

@[expose] public section

set_option maxRecDepth 16384

noncomputable section

namespace Cert.Proof.Ffn

open Idealize.ShloMosaic Idealize.ShloMosaic.TcCoe Idealize.SL.Sem Cert.Reals

theorem frameR : Cert.quiescent_ReferenceFfnIdeal := fun m g _ =>
  (θ_run Cert.ReferenceFfnIdeal.defs _ _).mono (fun r h => ⟨fun c => (h c).2.2.2.2, sem_eq_zero_of_no_sems (by decide) r.2⟩) (Cert.ReferenceFfnIdeal.Value.run m g)

theorem frameR_finite : Cert.quiescent_ReferenceFfnIdeal_pre_finite_ffn := fun m g _ => frameR m g trivial

open Cert.Pre_finite_ffn in
/-- Finite arguments are arrays of reals. -/
theorem reals (X0 : FVec Ideal S2x2048x1024 .f32)
    (X1 : FVec Ideal S2x9216 .f32)
    (X2 : FVec Ideal S1024x2816 .f32)
    (X3 : FVec Ideal S1024x2816 .f32)
    (X4 : FVec Ideal S2816x1024 .f32)
    (X5 : FVec Ideal S2x2048x1024 .f32)
    (h : Cert.Pre_finite_ffn.fn (F := Ideal) X0 X1 X2 X3 X4 X5 = fun _ => 1#1) :
    ∃ x : Gate.Act, X0 = lift3 x.X ∧ X1 = lift2 x.M ∧ X2 = lift2 x.WG ∧ X3 = lift2 x.WU ∧ X4 = lift2 x.WD ∧ X5 = lift3 x.DH := by
  have e := congrFun h (Shape.Idx.first Facts.h_S_)
  dsimp only [fn, fn_part1] at e
  obtain ⟨e, h5⟩ := andi_at _ _ _ e
  obtain ⟨e, h4⟩ := andi_at _ _ _ e
  obtain ⟨e, h3⟩ := andi_at _ _ _ e
  obtain ⟨e, h2⟩ := andi_at _ _ _ e
  obtain ⟨h0, h1⟩ := andi_at _ _ _ e
  haveI : Subsingleton S_.Idx := ⟨fun a b => funext fun k => k.elim0⟩
  obtain ⟨A0, r0⟩ := exists_lift3 X0 (real_of_all X0 _ _ _ _ _ h0)
  obtain ⟨A1, r1⟩ := exists_lift2 X1 (real_of_all X1 _ _ _ _ _ h1)
  obtain ⟨A2, r2⟩ := exists_lift2 X2 (real_of_all X2 _ _ _ _ _ h2)
  obtain ⟨A3, r3⟩ := exists_lift2 X3 (real_of_all X3 _ _ _ _ _ h3)
  obtain ⟨A4, r4⟩ := exists_lift2 X4 (real_of_all X4 _ _ _ _ _ h4)
  obtain ⟨A5, r5⟩ := exists_lift3 X5 (real_of_all X5 _ _ _ _ _ h5)
  exact ⟨⟨A0, A1, A2, A3, A4, A5⟩, r0, r1, r2, r3, r4, r5⟩

open Cert.KernelFfnIdeal Cert.KernelFfnIdeal.Gen in
set_option maxHeartbeats 2000000 in
/-- The kernel's run on arrays of reals: its results and its arguments. -/
theorem run (m : (ℓ : Loc nD τ sig) → Buf (Elt Ideal) ℓ) (g : Dev nD → PrngReg) (x : Dev nD → Gate.Act) (a : ∀ c, Value.Args m c (x c)) :
    θ_run defs (onTc (τ := τ) (main (F := Ideal))) ⟨m, fun _ => 0, g⟩ fun r => ∀ c : Dev nD,
      r.2.mem ((c.tc : Thread nD τ).loc main_v33_0) = (Gate.stack (x c).DG : FVec Ideal S4x4096x704 .bf16)
      ∧ r.2.mem ((c.tc : Thread nD τ).loc main_v33_1) = (Gate.stack (x c).DU : FVec Ideal S4x4096x704 .bf16)
      ∧ r.2.mem ((c.tc : Thread nD τ).loc main_v33_2) = (Gate.rows (x c).DF : FVec Ideal S4096x1024 .bf16)
      ∧ r.2.mem ((c.tc : Thread nD τ).loc main_v33_3) = (lift3 fun b _ => Dx.shA (x c).P b : FVec Ideal S2x1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.2 c).1 6).trans (Value.Args.final6 (a c)), ((h.2 c).1 7).trans (Value.Args.final7 (a c)), ((h.2 c).1 8).trans (Value.Args.final8 (a c)), ((h.2 c).1 9).trans (Value.Args.final9 (a c)), h.1 c⟩)
    (θ_run_and (unchanged m g) (run_main m g))

/-- At exact arithmetic and finite arguments the kernel's results are the reference's. -/
theorem algebraic : Cert.algebraic_KernelFfnIdeal_ReferenceFfnIdeal_pre_finite_ffn := by
  intro m g m' g' hpre hag
  choose x h0 h1 h2 h3 h4 h5 using fun c => reals _ _ _ _ _ _ (hpre c)
  refine ⟨_, _, _, _, run m g x fun c => ⟨h0 c, h1 c, h2 c, h3 c, h4 c, h5 c⟩,
    Cert.ReferenceFfnIdeal.Value.run_reals g' x fun c => ⟨?_, ?_, ?_, ?_, ?_, ?_⟩⟩
  · exact (hag c).1.trans (h0 c)
  · exact (hag c).2.1.trans (h1 c)
  · exact (hag c).2.2.1.trans (h2 c)
  · exact (hag c).2.2.2.1.trans (h3 c)
  · exact (hag c).2.2.2.2.1.trans (h4 c)
  · exact (hag c).2.2.2.2.2.trans (h5 c)

end Cert.Proof.Ffn

end
-- ==== Proof.AdaMath.lean ====
/- The conditioning's gradient: sums over the examples, at exact arithmetic. -/
module

public import Idealize.ShloMosaic.Lib.Pointwise

@[expose] public section

set_option maxRecDepth 16384

noncomputable section

namespace Cert.Ada

open Idealize.ShloMosaic

/-- The gradient by the bias, by the weights (through silu of the conditioning), and the sum of the devices' rows. -/
def db (D : (⟨2, ![16, 9216]⟩ : Shape).Idx → EReal) (i : (⟨2, ![1, 9216]⟩ : Shape).Idx) : EReal := ∑ r : Fin 16, D (ix2 r (i 1))
def dw (C : (⟨2, ![16, 1024]⟩ : Shape).Idx → EReal) (M : (⟨2, ![16, 2304]⟩ : Shape).Idx → EReal) (i : (⟨2, ![1024, 2304]⟩ : Shape).Idx) : EReal :=
  ∑ r : Fin 16, C (ix2 r (i 0)) * Ideal.logistic (C (ix2 r (i 0))) * M (ix2 r (i 1))
def dgn (G : (⟨2, ![8, 1024]⟩ : Shape).Idx → EReal) (i : (⟨2, ![1, 1024]⟩ : Shape).Idx) : EReal := ∑ r : Fin 8, G (ix2 r (i 1))

theorem dw_at (C : (⟨2, ![16, 1024]⟩ : Shape).Idx → EReal) (M : (⟨2, ![16, 2304]⟩ : Shape).Idx → EReal) (i : (⟨2, ![1024, 2304]⟩ : Shape).Idx) (a : Fin 1024) (b : Fin 2304)
    (ha : a.val = (i 0).val) (hb : b.val = (i 1).val) : dw C M i = ∑ r : Fin 16, C (ix2 r a) * Ideal.logistic (C (ix2 r a)) * M (ix2 r b) := by
  obtain rfl : a = i 0 := Fin.ext ha
  obtain rfl : b = i 1 := Fin.ext hb
  rfl

end Cert.Ada

end
-- ==== Proof.AdaValue.lean ====
/- The conditioning's backward call: what it leaves, at exact arithmetic. -/
module

public import proofs.«01_k».proof.Proof.AdaMath
public import proofs.«01_k».proof.Proof.Gen.KernelAdaIdeal.Frame
public import proofs.«01_k».proof.Proof.Gen.KernelAdaIdeal.Value
public import Idealize.ShloMosaic.Lib.Pipeline.ValueKit

@[expose] public section

set_option maxRecDepth 16384

noncomputable section

namespace Cert.KernelAdaIdeal.Value

open Cert.KernelAdaIdeal Cert.KernelAdaIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Every window's block index, over all three grid points. -/
theorem idx : ∀ t : Fin cfg0.N, win0_0.index t = ![0, 0] ∧ win0_1.index t = ![0, 0] ∧ win0_2.index t = ![0, t.val] ∧ win0_3.index t = ![0, 0]
    ∧ win0_4.index t = ![0, 0] ∧ win0_5.index t = ![0, t.val] ∧ win0_6.index t = ![0, 0] ∧ t.val < 3 :=
  (by decide +kernel : ∀ t : Fin grid0.N, _)

theorem b_c (t : Fin cfg0.N) : (iblk m c 0 t : S16x1024.Idx → EReal) = (m ((c : Thread nD τ).loc main_arg0)) := by
  have e := (idx t).1
  blk_ext! [iblk, e]
theorem b_d (t : Fin cfg0.N) : (iblk m c 1 t : S16x9216.Idx → EReal) = (m ((c : Thread nD τ).loc main_arg3)) := by
  have e := (idx t).2.1
  blk_ext! [iblk, e]
theorem b_m (t : Fin cfg0.N) (r : Fin 16) (j : Fin 768) (b : Fin 2304) (h : b.val = 768 * t.val + j.val) :
    (iblk m c 2 t : S16x768.Idx → EReal) (ix2 r j) = ((m ((c : Thread nD τ).loc main_arg4)) : S16x2304.Idx → EReal) (ix2 r b) := by
  have e := (idx t).2.2.1
  refine congrArg ((m ((c : Thread nD τ).loc main_arg4)) : S16x2304.Idx → EReal) ?_
  blk_ext [e]
theorem b_g (t : Fin cfg0.N) : (iblk m c 3 t : S8x1024.Idx → EReal) = (m ((c : Thread nD τ).loc main_arg5)) := by
  have e := (idx t).2.2.2.1
  blk_ext! [iblk, e]

theorem final4 : ((dats m 0 c).arrAt 4 cfg0.N : S1x9216.Idx → EReal) = Ada.db (m ((c : Thread nD τ).loc main_arg3)) := by
  refine (dats m 0 c).arrAt_eq_of_covers 4 _ (by decide +kernel) fun t hf y => ?_
  have e := (idx t).2.2.2.2.1
  idx_vars y
  blk_simp
  rw [after0_4]
  frame_out
  rw [b_d]
  have h : (((View.whole main_v0_0).slice (win0_4.rect t)).emb (ix2 y0 y1) 1 : Fin 9216) = y1 := Fin.ext (by blk_simp [e])
  unfold Ada.db
  rw [h]
  pointwise [k0_pay2]

theorem final5 : ((dats m 0 c).arrAt 5 cfg0.N : S1024x2304.Idx → EReal) = Ada.dw (m ((c : Thread nD τ).loc main_arg0)) (m ((c : Thread nD τ).loc main_arg4)) := by
  refine (dats m 0 c).arrAt_eq_of_covers 5 _ (by decide +kernel) fun t hf y => ?_
  have e := (idx t).2.2.2.2.2.1
  have h3 := (idx t).2.2.2.2.2.2.2
  idx_vars y
  blk_simp
  rw [after0_5]
  frame_out
  have hb : 768 * t.val + y1.val < 2304 := by omega
  rw [b_c, Ada.dw_at _ _ _ y0 ⟨768 * t.val + y1.val, hb⟩ (by blk_simp [e]) (by blk_simp [e]; simp only []; omega)]
  refine (?_ : (_ : EReal) = ∑ r : Fin 16, _ * (iblk m c 2 t : S16x768.Idx → EReal) (ix2 r y1)).trans (Finset.sum_congr rfl fun r _ => congrArg _ (b_m m c t r y1 ⟨768 * t.val + y1.val, hb⟩ rfl))
  pointwise [k0_pay1]

theorem final6 : ((dats m 0 c).arrAt 6 cfg0.N : S1x1024.Idx → EReal) = Ada.dgn (m ((c : Thread nD τ).loc main_arg5)) := by
  refine (dats m 0 c).arrAt_eq_of_covers 6 _ (by decide +kernel) fun t hf y => ?_
  have e := (idx t).2.2.2.2.2.2.1
  idx_vars y
  blk_simp
  rw [after0_6]
  frame_out
  rw [b_g]
  have h : (((View.whole main_v0_2).slice (win0_6.rect t)).emb (ix2 y0 y1) 1 : Fin 1024) = y1 := Fin.ext (by blk_simp [e])
  unfold Ada.dgn
  rw [h, Fin.sum_univ_eight]
  pointwise [k0_pay3]

end Cert.KernelAdaIdeal.Value

end
-- ==== Proof.AdaReference.lean ====
/- The conditioning's reference at exact arithmetic: its transposed program gives the same sums. -/
module

public import proofs.«01_k».proof.Proof.AdaMath
public import proofs.«01_k».proof.Proof.Gen.ReferenceAdaIdeal.Run
public import Idealize.ShloMosaic.Lib.Pipeline.ValueKit

@[expose] public section

set_option maxRecDepth 16384

noncomputable section

namespace Cert.ReferenceAdaIdeal.Value

open Cert.ReferenceAdaIdeal Cert.ReferenceAdaIdeal.Gen Idealize.ShloMosaic Idealize.ShloMosaic.TcCoe Idealize.SL.Sem

theorem db_eq (D : FVec Ideal S16x9216 .f32) : (broadcastInDim S1x9216 ![1] bcast_S9216_S1x9216_1 (Host.reduceAdd D (constant S_ .f32 0x00000000#32) reducesTo_S16x9216_S9216_d0 h_S_) : FVec Ideal S1x9216 .f32) = Ada.db D := by
  funext i; idx_vars i
  pointwise [Ada.db]

theorem dw_eq (C : FVec Ideal S16x1024 .f32) (M : FVec Ideal S16x2304 .f32) :
    (transpose S1024x2304 [1, 0] (Host.dotGeneral (φ₁ := .f32) (φ₂ := .f32) dot_S16x2304_S16x1024_S2304x1024_0_0_1_1_n_n none M (mulf C (Host.divf (broadcastInDim S16x1024 ![] bcast_S_S16x1024 (constant S_ .f32 0x3F800000#32))
      (addf (broadcastInDim S16x1024 ![] bcast_S_S16x1024 (constant S_ .f32 0x3F800000#32)) (Host.exp (Host.negf C))))) : FVec Ideal S2304x1024 .f32) transposes_S2304x1024_S1024x2304_1_0 : FVec Ideal S1024x2304 .f32) = Ada.dw C M := by
  funext i; idx_vars i
  pointwise [Ada.dw]
  exact Finset.sum_congr rfl fun r _ => mul_comm _ _

theorem dgn_eq (G : FVec Ideal S8x1024 .f32) : (broadcastInDim S1x1024 ![1] bcast_S1024_S1x1024_1 (Host.reduceAdd G (constant S_ .f32 0x00000000#32) reducesTo_S8x1024_S1024_d0 h_S_) : FVec Ideal S1x1024 .f32) = Ada.dgn G := by
  funext i; idx_vars i
  pointwise [Ada.dgn]

variable (m : (ℓ : Loc nD τ sig) → Buf (Elt Ideal) ℓ)

/-- The reference's three results and its arguments. -/
theorem run_sums (ρ : Dev nD → PrngReg) :
    θ_run defs (onTc (τ := τ) (main (F := Ideal))) ⟨m, fun _ => 0, ρ⟩ fun r => ∀ c : Dev nD,
      r.2.mem ((c.tc : Thread nD τ).loc main_v3) = (Ada.db (m ((c.tc : Thread nD τ).loc main_arg3)) : FVec Ideal S1x9216 .f32)
      ∧ r.2.mem ((c.tc : Thread nD τ).loc main_v6) = (Ada.dw (m ((c.tc : Thread nD τ).loc main_arg0)) (m ((c.tc : Thread nD τ).loc main_arg4)) : FVec Ideal S1024x2304 .f32)
      ∧ r.2.mem ((c.tc : Thread nD τ).loc main_v8) = (Ada.dgn (m ((c.tc : Thread nD τ).loc main_arg5)) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (db_eq _), (h c).2.1.trans (dw_eq _ _), (h c).2.2.1.trans (dgn_eq _), (h c).2.2.2⟩) (run m ρ)

end Cert.ReferenceAdaIdeal.Value

end
-- ==== Proof.AdaClaims.lean ====
/- The claims about the conditioning's backward call. -/
module

public import proofs.«01_k».proof.Defs
public import proofs.«01_k».proof.Proof.AdaValue
public import proofs.«01_k».proof.Proof.AdaReference
public import proofs.«01_k».proof.Proof.Gen.KernelAda.Frame

@[expose] public section

set_option maxRecDepth 16384

noncomputable section

namespace Cert.Proof.Ada

open Idealize.ShloMosaic Idealize.ShloMosaic.TcCoe Idealize.SL.Sem

theorem frameR : Cert.quiescent_ReferenceAdaIdeal := fun m g _ =>
  (θ_run Cert.ReferenceAdaIdeal.defs _ _).mono (fun r h => ⟨fun c => (h c).2.2.2, sem_eq_zero_of_no_sems (by decide) r.2⟩) (Cert.ReferenceAdaIdeal.Value.run m g)

open Cert.KernelAdaIdeal Cert.KernelAdaIdeal.Gen in
/-- The kernel's run: its three results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0_0) = (Cert.Ada.db (m ((c.tc : Thread nD τ).loc main_arg3)) : FVec Ideal S1x9216 .f32)
      ∧ r.2.mem ((c.tc : Thread nD τ).loc main_v0_1) = (Cert.Ada.dw (m ((c.tc : Thread nD τ).loc main_arg0)) (m ((c.tc : Thread nD τ).loc main_arg4)) : FVec Ideal S1024x2304 .f32)
      ∧ r.2.mem ((c.tc : Thread nD τ).loc main_v0_2) = (Cert.Ada.dgn (m ((c.tc : Thread nD τ).loc main_arg5)) : FVec Ideal S1x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Value.final4 m c), (h c).2.1.trans (Value.final5 m c), (h c).2.2.1.trans (Value.final6 m c), (h c).2.2.2⟩) (Value.run_blocks m g)

/-- At exact arithmetic the kernel's three results are the reference's, for all arguments. -/
theorem algebraic : Cert.algebraic_KernelAdaIdeal_ReferenceAdaIdeal := by
  intro m g m' g' hpre hag
  refine ⟨_, _, _, run m g, (θ_run Cert.ReferenceAdaIdeal.defs _ _).mono (fun r h c => ⟨(h c).1.trans ?_, (h c).2.1.trans ?_, (h c).2.2.1.trans ?_, (h c).2.2.2⟩)
    (Cert.ReferenceAdaIdeal.Value.run_sums m' g')⟩
  · exact congrArg Cert.Ada.db (hag c).2.2.2.1
  · exact congrArg₂ Cert.Ada.dw (hag c).1 (hag c).2.2.2.2.1
  · exact congrArg Cert.Ada.dgn (hag c).2.2.2.2.2

end Cert.Proof.Ada

end
-- ==== Proof.FwMath.lean ====
/- The forward pass at exact arithmetic, one token at a time: the modulated norm, the residuals, the products and the gates. -/
module

public import Idealize.ShloMosaic.Lib.Pointwise

@[expose] public section

set_option maxRecDepth 16384

noncomputable section

namespace Cert.Fw

open Idealize.ShloMosaic

/-- The shapes of the arguments. -/
abbrev Sq (n : ℕ) : Type := (⟨3, ![2, 2048, n]⟩ : Shape).Idx → EReal
abbrev Mat (k n : ℕ) : Type := (⟨2, ![k, n]⟩ : Shape).Idx → EReal

/-- A modulated norm of one token's row: the row over its root mean square, times the gain, scaled and shifted. -/
def nm (h g sc sh : Fin 1024 → EReal) (d : Fin 1024) : EReal :=
  h d * Ideal.rsqrt (Ideal.div (∑ k : Fin 1024, h k * h k) (Ideal.ofBits .f32 0x44800000#32) + Ideal.ofBits .f32 0x358637BD#32) * g d * (1 + sc d) + sh d

/-- One of the nine modulation vectors of a sequence. -/
def md (M : Mat 2 9216) (j : Fin 9) (b : Fin 2) (d : Fin 1024) : EReal := M (ix2 b ⟨1024 * j.val + d.val, by omega⟩)

/-- The rows of both sequences one below the other. -/
def rows {n : ℕ} (f : Fin 2 → Fin 2048 → Fin n → EReal) : (⟨2, ![4096, n]⟩ : Shape).Idx → EReal := fun i =>
  f ⟨(i 0).val / 2048 % 2, Nat.mod_lt _ (by decide)⟩ ⟨(i 0).val % 2048, Nat.mod_lt _ (by decide)⟩ (i 1)

theorem rows_of {n : ℕ} (f : Fin 2 → Fin 2048 → Fin n → EReal) (i : (⟨2, ![4096, n]⟩ : Shape).Idx) (b : Fin 2) (s : Fin 2048) (d : Fin n)
    (h : 2048 * b.val + s.val = (i 0).val) (hd : d.val = (i 1).val) : rows f i = f b s d := by
  unfold rows
  congr 1 <;> refine Fin.ext ?_ <;> (simp only []) <;> omega

/-- The rows of both sequences with their columns in four parts, the parts first. -/
def stack (f : Fin 2 → Fin 2048 → Fin 2816 → EReal) : (⟨3, ![4, 4096, 704]⟩ : Shape).Idx → EReal := fun i =>
  f ⟨(i 1).val / 2048 % 2, Nat.mod_lt _ (by decide)⟩ ⟨(i 1).val % 2048, Nat.mod_lt _ (by decide)⟩
    ⟨704 * (i 0).val + (i 2).val, by have h0 : (i 0).val < 4 := (i 0).isLt; have h2 : (i 2).val < 704 := (i 2).isLt; omega⟩

theorem stack_of (f : Fin 2 → Fin 2048 → Fin 2816 → EReal) (i : (⟨3, ![4, 4096, 704]⟩ : Shape).Idx) (b : Fin 2) (s : Fin 2048) (j : Fin 2816)
    (h : 2048 * b.val + s.val = (i 1).val) (hj : j.val = 704 * (i 0).val + (i 2).val) : stack f i = f b s j := by
  unfold stack
  congr 1 <;> refine Fin.ext ?_ <;> (simp only []) <;> omega

/-- A product of the tokens' rows with a matrix. -/
def dot {k n : ℕ} (X : Sq k) (W : Mat k n) (b : Fin 2) (s : Fin 2048) (j : Fin n) : EReal := ∑ r : Fin k, X (ix3 b s r) * W (ix2 r j)

/-- The first norm. -/
def norm1 (X : Sq 1024) (G : Mat 1 1024) (M : Mat 2 9216) (b : Fin 2) (s : Fin 2048) : Fin 1024 → EReal :=
  nm (fun d => X (ix3 b s d)) (fun d => G (ix2 0 d)) (md M 1 b) (md M 0 b)

/-- The first feed-forward's residual and the norm after it. -/
def res1 (A : Sq 2816) (W : Mat 2816 1024) (H : Sq 1024) (M : Mat 2 9216) (b : Fin 2) (s : Fin 2048) (d : Fin 1024) : EReal :=
  H (ix3 b s d) + Ideal.ofBits .f32 0x3F000000#32 * md M 2 b d * dot A W b s d
def norm2 (A : Sq 2816) (W : Mat 2816 1024) (H : Sq 1024) (M : Mat 2 9216) (G : Mat 1 1024) (b : Fin 2) (s : Fin 2048) : Fin 1024 → EReal :=
  nm (res1 A W H M b s) (fun d => G (ix2 0 d)) (md M 4 b) (md M 3 b)

/-- The mixer's gated sum of its two branches, the product after it, the residual and the norm after that. -/
def gated (S A : Sq 512) (GA GB : Sq 1024) (WA WB : Mat 512 1024) (b : Fin 2) (s : Fin 2048) (d : Fin 1024) : EReal :=
  Ideal.logistic (GA (ix3 b s d)) * dot S WA b s d + Ideal.logistic (GB (ix3 b s d)) * dot A WB b s d
def mixed (S A : Sq 512) (GA GB : Sq 1024) (WA WB : Mat 512 1024) (WO : Mat 1024 1024) (b : Fin 2) (s : Fin 2048) (d : Fin 1024) : EReal :=
  ∑ k : Fin 1024, gated S A GA GB WA WB b s k * WO (ix2 k d)
def res2 (S A : Sq 512) (GA GB H : Sq 1024) (M : Mat 2 9216) (WA WB : Mat 512 1024) (WO : Mat 1024 1024) (b : Fin 2) (s : Fin 2048) (d : Fin 1024) : EReal :=
  H (ix3 b s d) + md M 5 b d * mixed S A GA GB WA WB WO b s d
def norm3 (S A : Sq 512) (GA GB H : Sq 1024) (M : Mat 2 9216) (WA WB : Mat 512 1024) (WO : Mat 1024 1024) (G : Mat 1 1024) (b : Fin 2) (s : Fin 2048) : Fin 1024 → EReal :=
  nm (res2 S A GA GB H M WA WB WO b s) (fun d => G (ix2 0 d)) (md M 7 b) (md M 6 b)

/-- A feed-forward's gate by silu, the product with its second factor, and the gradient of the product by the gate's argument. -/
def silu (X : Sq 1024) (WG : Mat 1024 2816) (b : Fin 2) (s : Fin 2048) (j : Fin 2816) : EReal := dot X WG b s j * Ideal.logistic (dot X WG b s j)
def prod (X : Sq 1024) (WG WU : Mat 1024 2816) (b : Fin 2) (s : Fin 2048) (j : Fin 2816) : EReal := silu X WG b s j * dot X WU b s j
def dsilu (X : Sq 1024) (WG WU : Mat 1024 2816) (b : Fin 2) (s : Fin 2048) (j : Fin 2816) : EReal :=
  dot X WU b s j * (Ideal.logistic (dot X WG b s j) + silu X WG b s j * (1 - Ideal.logistic (dot X WG b s j)))

end Cert.Fw

end
-- ==== Proof.NormValue.lean ====
/- The first modulated norm: what the pipelined call leaves in its result. -/
module

public import proofs.«01_k».proof.Proof.Gen.KernelNormIdeal.Frame
public import Idealize.ShloMosaic.Lib.Pipeline.ValueKit
public import Idealize.ShloMosaic.Lib.Pointwise
public import proofs.«01_k».proof.Proof.FwMath

@[expose] public section

set_option maxRecDepth 16384

noncomputable section

namespace Cert.KernelNormIdeal.Value

open Cert.KernelNormIdeal Cert.KernelNormIdeal.Gen Idealize.ShloMosaic Idealize.ShloMosaic.TcCoe Idealize.SL.Sem
open Idealize.ShloMosaic.Pipeline (Dat)

variable (m : (ℓ : Loc nD τ sig) → Buf (Elt Ideal) ℓ)

/-- A shape cast from sequences to tokens, read at a token. -/
theorem rows_at (X : FVec Ideal S2x2048x1024 .f32) (i : S4096x1024.Idx) (b : Fin 2) (s : Fin 2048) (d : Fin 1024)
    (h : 2048 * b.val + s.val = (i 0).val) (hd : d.val = (i 1).val) : shapeCast S4096x1024 X shapeCasts_S2x2048x1024_S4096x1024 i = X (ix3 b s d) := by
  idx_vars i
  pointwise
  blk_ext []

/-- The modulation vectors, nine side by side. -/
theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

/-- Every window's block index, over all grid points. -/
theorem idx : ∀ t : Fin cfg0.N, win0_0.index t = ![t.val, 0]
    ∧ win0_1.index t = ![0, 0]
    ∧ win0_2.index t = ![t.val / 4, 1, 0, 0]
    ∧ win0_3.index t = ![t.val / 4, 0, 0, 0]
    ∧ win0_4.index t = ![t.val, 0]
    ∧ t.val < 8 :=
  (by decide +kernel : ∀ t : Fin grid0.N, _)

/-- The rows, one per token. -/
theorem V_x (c : Dev nD) : (V m c main_v1 : S4096x1024.Idx → EReal) = (shapeCast S4096x1024 (m ((c : Thread nD τ).loc main_arg0) : FVec Ideal S2x2048x1024 .f32) shapeCasts_S2x2048x1024_S4096x1024 : FVec Ideal S4096x1024 .f32) := by
  unfold V
  after_results <;> rfl

/-- The nine modulation vectors, apart. -/
theorem V_m (c : Dev nD) : (V m c main_v0 : S2x9x1x1024.Idx → EReal) = (shapeCast S2x9x1x1024 (m ((c : Thread nD τ).loc main_arg2) : FVec Ideal S2x9216 .f32) shapeCasts_S2x9216_S2x9x1x1024 : FVec Ideal S2x9x1x1024 .f32) := by
  unfold V
  after_results <;> rfl

/-- The block of rows. -/
theorem blk_x (c : Dev nD) (t : Fin cfg0.N) (r : Fin 512) (d : Fin 1024) (b : Fin 2) (s : Fin 2048) (h : 2048 * b.val + s.val = 512 * t.val + r.val) :
    (iblk m c 0 t : S512x1024.Idx → EReal) (ix2 r d) = ((m ((c : Thread nD τ).loc main_arg0)) : S2x2048x1024.Idx → EReal) (ix3 b s d) := by
  have ht : t.val < 8 := (idx t).2.2.2.2.2
  have e0 := (idx t).1
  refine (congrFun (V_x m c) (((cfg0.win 0).blk t).view.emb (ix2 r d))).trans (rows_at _ _ b s d ?_ ?_) <;>
    (blk_simp [e0] <;> (try simp only []) <;> (try omega))

/-- A block that is a whole argument. -/
theorem blk_g (c : Dev nD) (t : Fin cfg0.N) (d : Fin 1024) : (iblk m c 1 t : S1x1024.Idx → EReal) (ix2 0 d) = ((m ((c : Thread nD τ).loc main_arg1)) : S1x1024.Idx → EReal) (ix2 0 d) := by
  have ht : t.val < 8 := (idx t).2.2.2.2.2
  have e1 := (idx t).2.1
  blk_ext! [iblk, e1]

/-- The block of the modulation vectors: vector 1 of the token's sequence. -/
theorem blk_c (c : Dev nD) (t : Fin cfg0.N) (r : Fin 512) (d : Fin 1024) (b : Fin 2) (s : Fin 2048) (h : 2048 * b.val + s.val = 512 * t.val + r.val) :
    (iblk m c 2 t : S1x1x1x1024.Idx → EReal) (ix4 0 0 0 d) = Fw.md (m ((c : Thread nD τ).loc main_arg2)) 1 b d := by
  have ht : t.val < 8 := (idx t).2.2.2.2.2
  have e2 := (idx t).2.2.1
  refine (congrFun (V_m m c) (((cfg0.win 2).blk t).view.emb (ix4 0 0 0 d))).trans (mods_at _ _ b _ ?_ ?_) <;>
    (blk_simp [e2] <;> (try simp only []) <;> (try omega))

/-- The block of the modulation vectors: vector 0 of the token's sequence. -/
theorem blk_s (c : Dev nD) (t : Fin cfg0.N) (r : Fin 512) (d : Fin 1024) (b : Fin 2) (s : Fin 2048) (h : 2048 * b.val + s.val = 512 * t.val + r.val) :
    (iblk m c 3 t : S1x1x1x1024.Idx → EReal) (ix4 0 0 0 d) = Fw.md (m ((c : Thread nD τ).loc main_arg2)) 0 b d := by
  have ht : t.val < 8 := (idx t).2.2.2.2.2
  have e3 := (idx t).2.2.2.1
  refine (congrFun (V_m m c) (((cfg0.win 3).blk t).view.emb (ix4 0 0 0 d))).trans (mods_at _ _ b _ ?_ ?_) <;>
    (blk_simp [e3] <;> (try simp only []) <;> (try omega))

/-- A block's row is a token of a sequence. -/
theorem token (t : Fin cfg0.N) (r : Fin 512) : ∃ (b : Fin 2) (s : Fin 2048), 2048 * b.val + s.val = 512 * t.val + r.val := by
  have ht : t.val < 8 := (idx t).2.2.2.2.2
  exact ⟨⟨(512 * t.val + r.val) / 2048, by omega⟩, ⟨(512 * t.val + r.val) % 2048, by omega⟩, by simp only []; omega⟩

/-- The block's norm at one of its elements. -/
theorem nm_pay (x : FVec Ideal S512x1024 .f32) (g : FVec Ideal S1x1024 .f32) (sc sh : FVec Ideal S1x1x1x1024 .f32) (r : Fin 512) (d : Fin 1024) :
    k0_pay1 (F := Ideal) x g sc sh (ix2 r d) = Fw.nm (fun k => x (ix2 r k)) (fun k => g (ix2 0 k)) (fun k => sc (ix4 0 0 0 k)) (fun k => sh (ix4 0 0 0 k)) d := by
  unfold Fw.nm
  pointwise [k0_pay1]

/-- A result array after the region. -/
theorem final4 (c : Dev nD) : (dats m 0 c).arrAt 4 cfg0.N = Fw.rows (Fw.norm1 (m ((c : Thread nD τ).loc main_arg0)) (m ((c : Thread nD τ).loc main_arg1)) (m ((c : Thread nD τ).loc main_arg2))) := by
  refine (dats m 0 c).arrAt_eq_of_covers 4 _ (by decide +kernel) fun t hf y => ?_
  have ht : t.val < 8 := (idx t).2.2.2.2.2
  have e4 := (idx t).2.2.2.2.1
  idx_vars y
  blk_simp
  rw [after0_4]
  frame_out
  obtain ⟨b, s, h⟩ := token t y0
  rw [Fw.rows_of _ _ b s y1 (by blk_simp [e4]; omega) (by blk_simp [e4])]
  refine (nm_pay _ _ _ _ y0 y1).trans ?_
  unfold Fw.norm1
  congr 1 <;> funext d
  · exact blk_x m c t y0 d b s h
  · exact blk_g m c t d
  · exact blk_c m c t y0 d b s h
  · exact blk_s m c t y0 d b s h

end Cert.KernelNormIdeal.Value

end
-- ==== Proof.NormReference.lean ====
/- The first norm as the reference writes it, read at its elements. -/
module

public import proofs.«01_k».proof.Proof.NormValue
public import proofs.«01_k».proof.Proof.Gen.ReferenceNormIdeal.Run

@[expose] public section

set_option maxRecDepth 16384

noncomputable section

namespace Cert.ReferenceNormIdeal.Value

open Cert.ReferenceNormIdeal Cert.ReferenceNormIdeal.Gen Idealize.ShloMosaic Idealize.ShloMosaic.TcCoe Idealize.SL.Sem

/-- The modulated norm as the reference writes it. -/
abbrev nmR (E : FVec Ideal S2x2048x1024 .f32) (G : FVec Ideal S1x1024 .f32) (M : FVec Ideal S2x9216 .f32) : FVec Ideal S2x2048x1024 .f32 :=
  addf (mulf (mulf (mulf E (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf E E) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ G shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 1024] M slices_S2x9216_S2x1024_0_1024))))) (broadcastInDim S2x2048x1024 ![0, 1, 2] bcast_S2x1x1024_S2x2048x1024_0_1_2 (broadcastInDim S2x1x1024 ![0, 2] bcast_S2x1024_S2x1x1024_0_2 (extractStridedSlice S2x1024 ![0, 0] M slices_S2x9216_S2x1024_0_0)))

theorem nmR_at (E : FVec Ideal S2x2048x1024 .f32) (G : FVec Ideal S1x1024 .f32) (M : FVec Ideal S2x9216 .f32) (b : Fin 2) (s : Fin 2048) (d : Fin 1024) :
    nmR E G M (ix3 b s d) = Fw.nm (fun k => E (ix3 b s k)) (fun k => G (ix2 0 k)) (Fw.md M 1 b) (Fw.md M 0 b) d := by
  unfold Fw.nm Fw.md
  pointwise
  blk_ext []

/-- An array over the sequences, its rows one below the other. -/
theorem rows_eq (X : FVec Ideal S2x2048x1024 .f32) : (shapeCast S4096x1024 X shapeCasts_S2x2048x1024_S4096x1024 : FVec Ideal S4096x1024 .f32) = Fw.rows fun b s d => X (ix3 b s d) := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  exact (Cert.KernelNormIdeal.Value.rows_at X (ix2 i0 i1) b s i1 h rfl).trans (Fw.rows_of (fun b s d => X (ix3 b s d)) (ix2 i0 i1) b s i1 h rfl).symm

theorem rows16_eq (X : FVec Ideal S2x2048x1024 .f32) : (truncf .bf16 (shapeCast S4096x1024 X shapeCasts_S2x2048x1024_S4096x1024) bitsLt_bf16_f32 : FVec Ideal S4096x1024 .bf16) = Fw.rows fun b s d => X (ix3 b s d) := by
  funext i
  rw [truncf_apply]
  exact congrFun (rows_eq X) i

theorem rows_congr (f g : Fin 2 → Fin 2048 → Fin 1024 → EReal) (h : ∀ b s d, f b s d = g b s d) : Fw.rows f = Fw.rows g :=
  congrArg Fw.rows (funext fun b => funext fun s => funext fun d => h b s d)

theorem xn_eq (X : FVec Ideal S2x2048x1024 .f32) (G : FVec Ideal S1x1024 .f32) (M : FVec Ideal S2x9216 .f32) :
    (truncf .bf16 (shapeCast S4096x1024 (nmR X G M) shapeCasts_S2x2048x1024_S4096x1024) bitsLt_bf16_f32 : FVec Ideal S4096x1024 .bf16) = Fw.rows (Fw.norm1 X G M) :=
  (rows16_eq _).trans (rows_congr _ _ fun b s d => nmR_at X G M b s d)

end Cert.ReferenceNormIdeal.Value

end
-- ==== Proof.NormClaims.lean ====
/- The claims about the first norm. -/
module

public import proofs.«01_k».proof.Defs
public import proofs.«01_k».proof.Proof.Finite
public import proofs.«01_k».proof.Proof.NormValue
public import proofs.«01_k».proof.Proof.NormReference
public import proofs.«01_k».proof.Proof.Gen.KernelNorm.Frame
public import proofs.«01_k».proof.Proof.Gen.KernelNormIdeal.Value

@[expose] public section

set_option maxRecDepth 16384

noncomputable section

namespace Cert.Proof.Norm

open Idealize.ShloMosaic Idealize.ShloMosaic.TcCoe Idealize.SL.Sem Cert.Reals

theorem frameR : Cert.quiescent_ReferenceNormIdeal := fun m g _ =>
  (θ_run Cert.ReferenceNormIdeal.defs _ _).mono (fun r h => ⟨fun c => (h c).2, sem_eq_zero_of_no_sems (by decide) r.2⟩) (Cert.ReferenceNormIdeal.Value.run m g)

open Cert.KernelNormIdeal Cert.KernelNormIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v2) = (Fw.rows (Fw.norm1 (m ((c.tc : Thread nD τ).loc main_arg0)) (m ((c.tc : Thread nD τ).loc main_arg1)) (m ((c.tc : Thread nD τ).loc main_arg2))) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Value.final4 m c), (h c).2⟩) (Value.run_blocks m g)

/-- At exact arithmetic the kernel's results are the reference's, for all arguments. -/
theorem algebraic : Cert.algebraic_KernelNormIdeal_ReferenceNormIdeal := by
  intro m g m' g' hpre hag
  refine ⟨_, run m g, (θ_run Cert.ReferenceNormIdeal.defs _ _).mono (fun r h c => ⟨(h c).1.trans ?_, (h c).2⟩)
    (Cert.ReferenceNormIdeal.Value.run m' g')⟩
  · obtain ⟨a0, a1, a2⟩ := hag c
    refine (Cert.ReferenceNormIdeal.Value.xn_eq _ _ _ ).trans ?_
    rw [a0, a1, a2]

end Cert.Proof.Norm

end
-- ==== Proof.UpValue.lean ====
/- The feed-forward's first products and its gate: what the pipelined call leaves in its three results. -/
module

public import proofs.«01_k».proof.Proof.Gen.KernelUpIdeal.Frame
public import Idealize.ShloMosaic.Lib.Pipeline.ValueKit
public import Idealize.ShloMosaic.Lib.Pointwise
public import proofs.«01_k».proof.Proof.FwMath

@[expose] public section

set_option maxRecDepth 16384

noncomputable section

namespace Cert.KernelUpIdeal.Value

open Cert.KernelUpIdeal Cert.KernelUpIdeal.Gen Idealize.ShloMosaic Idealize.ShloMosaic.TcCoe Idealize.SL.Sem
open Idealize.ShloMosaic.Pipeline (Dat)

variable (m : (ℓ : Loc nD τ sig) → Buf (Elt Ideal) ℓ)

/-- The same with a cast. -/
theorem rows16_at (X : FVec Ideal S2x2048x1024 .f32) (i : S4096x1024.Idx) (b : Fin 2) (s : Fin 2048) (d : Fin 1024)
    (h : 2048 * b.val + s.val = (i 0).val) (hd : d.val = (i 1).val) : (truncf .bf16 (shapeCast S4096x1024 X shapeCasts_S2x2048x1024_S4096x1024) bitsLt_bf16_f32 : FVec Ideal S4096x1024 .bf16) i = X (ix3 b s d) := by
  idx_vars i
  pointwise
  blk_ext []

/-- A matrix's columns in four parts, each with its rows last. -/
theorem wcols_at (X : FVec Ideal S1024x2816 .f32) (i : S4x704x1024.Idx) (k : Fin 2816) (d : Fin 1024)
    (hk : k.val = 704 * (i 0).val + (i 1).val) (hd : d.val = (i 2).val) :
    (truncf .bf16 (shapeCast S4x704x1024 (transpose S2816x1024 [1, 0] X transposes_S1024x2816_S2816x1024_1_0) shapeCasts_S2816x1024_S4x704x1024) bitsLt_bf16_f32 : FVec Ideal S4x704x1024 .bf16) i = X (ix2 d k) := by
  idx_vars i
  pointwise
  blk_ext []

/-- Every window's block index, over all grid points. -/
theorem idx : ∀ t : Fin cfg0.N, win0_0.index t = ![t.val % 4, 0]
    ∧ win0_1.index t = ![t.val / 4, 0, 0]
    ∧ win0_2.index t = ![t.val / 4, 0, 0]
    ∧ win0_3.index t = ![t.val / 4, t.val % 4, 0]
    ∧ win0_4.index t = ![t.val / 4, t.val % 4, 0]
    ∧ win0_5.index t = ![t.val / 4, t.val % 4, 0]
    ∧ t.val < 16 :=
  (by decide +kernel : ∀ t : Fin grid0.N, _)

/-- The rows, one per token. -/
theorem V_x (c : Dev nD) : (V m c main_v1 : S4096x1024.Idx → EReal) = (truncf .bf16 (shapeCast S4096x1024 (m ((c : Thread nD τ).loc main_arg0) : FVec Ideal S2x2048x1024 .f32) shapeCasts_S2x2048x1024_S4096x1024) bitsLt_bf16_f32 : FVec Ideal S4096x1024 .bf16) := by
  unfold V
  after_results <;> rfl

/-- A matrix as the call reads it: its columns in four parts. -/
theorem V_g (c : Dev nD) : (V m c main_v4 : S4x704x1024.Idx → EReal) = (truncf .bf16 (shapeCast S4x704x1024 (transpose S2816x1024 [1, 0] (m ((c : Thread nD τ).loc main_arg1) : FVec Ideal S1024x2816 .f32) transposes_S1024x2816_S2816x1024_1_0) shapeCasts_S2816x1024_S4x704x1024) bitsLt_bf16_f32 : FVec Ideal S4x704x1024 .bf16) := by
  unfold V
  after_results <;> rfl

/-- A matrix as the call reads it: its columns in four parts. -/
theorem V_u (c : Dev nD) : (V m c main_v7 : S4x704x1024.Idx → EReal) = (truncf .bf16 (shapeCast S4x704x1024 (transpose S2816x1024 [1, 0] (m ((c : Thread nD τ).loc main_arg2) : FVec Ideal S1024x2816 .f32) transposes_S1024x2816_S2816x1024_1_0) shapeCasts_S2816x1024_S4x704x1024) bitsLt_bf16_f32 : FVec Ideal S4x704x1024 .bf16) := by
  unfold V
  after_results <;> rfl

/-- The block of rows. -/
theorem blk_x (c : Dev nD) (t : Fin cfg0.N) (r : Fin 1024) (d : Fin 1024) (b : Fin 2) (s : Fin 2048) (h : 2048 * b.val + s.val = 1024 * (t.val % 4) + r.val) :
    (iblk m c 0 t : S1024x1024.Idx → EReal) (ix2 r d) = ((m ((c : Thread nD τ).loc main_arg0)) : S2x2048x1024.Idx → EReal) (ix3 b s d) := by
  have ht : t.val < 16 := (idx t).2.2.2.2.2.2
  have e0 := (idx t).1
  refine (congrFun (V_x m c) (((cfg0.win 0).blk t).view.emb (ix2 r d))).trans (rows16_at _ _ b s d ?_ ?_) <;>
    (blk_simp [e0] <;> (try simp only []) <;> (try omega))

/-- The block of a matrix: one part of its columns. -/
theorem blk_g (c : Dev nD) (t : Fin cfg0.N) (x : Fin 704) (d : Fin 1024) (j : Fin 2816) (hj : j.val = 704 * (t.val / 4) + x.val) :
    (iblk m c 1 t : S1x704x1024.Idx → EReal) (ix3 0 x d) = ((m ((c : Thread nD τ).loc main_arg1)) : S1024x2816.Idx → EReal) (ix2 d j) := by
  have ht : t.val < 16 := (idx t).2.2.2.2.2.2
  have e1 := (idx t).2.1
  refine (congrFun (V_g m c) (((cfg0.win 1).blk t).view.emb (ix3 0 x d))).trans (wcols_at _ _ j d ?_ ?_) <;>
    (blk_simp [e1] <;> (try simp only []) <;> (try omega))

/-- The block of a matrix: one part of its columns. -/
theorem blk_u (c : Dev nD) (t : Fin cfg0.N) (x : Fin 704) (d : Fin 1024) (j : Fin 2816) (hj : j.val = 704 * (t.val / 4) + x.val) :
    (iblk m c 2 t : S1x704x1024.Idx → EReal) (ix3 0 x d) = ((m ((c : Thread nD τ).loc main_arg2)) : S1024x2816.Idx → EReal) (ix2 d j) := by
  have ht : t.val < 16 := (idx t).2.2.2.2.2.2
  have e2 := (idx t).2.2.1
  refine (congrFun (V_u m c) (((cfg0.win 2).blk t).view.emb (ix3 0 x d))).trans (wcols_at _ _ j d ?_ ?_) <;>
    (blk_simp [e2] <;> (try simp only []) <;> (try omega))

/-- A block's row is a token of a sequence, its column one of all. -/
theorem token (t : Fin cfg0.N) (r : Fin 1024) : ∃ (b : Fin 2) (s : Fin 2048), 2048 * b.val + s.val = 1024 * (t.val % 4) + r.val :=
  ⟨⟨(1024 * (t.val % 4) + r.val) / 2048, by omega⟩, ⟨(1024 * (t.val % 4) + r.val) % 2048, by omega⟩, by simp only []; omega⟩

theorem column (t : Fin cfg0.N) (x : Fin 704) : ∃ j : Fin 2816, j.val = 704 * (t.val / 4) + x.val := by
  have ht : t.val < 16 := (idx t).2.2.2.2.2.2
  exact ⟨⟨704 * (t.val / 4) + x.val, by omega⟩, rfl⟩

/-- The first product at one of a block's elements. -/
theorem g_point (c : Dev nD) (t : Fin cfg0.N) (r : Fin 1024) (x : Fin 704) (b : Fin 2) (s : Fin 2048) (h : 2048 * b.val + s.val = 1024 * (t.val % 4) + r.val) (j : Fin 2816) (hj : j.val = 704 * (t.val / 4) + x.val) :
    k0_pay2 (F := Ideal) (iblk m c 0 t) (iblk m c 1 t) (ix2 r x) = Fw.dot (m ((c : Thread nD τ).loc main_arg0)) (m ((c : Thread nD τ).loc main_arg1)) b s j := by
  unfold Fw.dot
  pointwise [k0_pay2, k0_pay1]
  simp only [blk_x m c t r _ b s h, blk_g m c t x _ j hj]

/-- The second product at one of a block's elements. -/
theorem u_point (c : Dev nD) (t : Fin cfg0.N) (r : Fin 1024) (x : Fin 704) (b : Fin 2) (s : Fin 2048) (h : 2048 * b.val + s.val = 1024 * (t.val % 4) + r.val) (j : Fin 2816) (hj : j.val = 704 * (t.val / 4) + x.val) :
    k0_pay3 (F := Ideal) (iblk m c 0 t) (iblk m c 2 t) (ix2 r x) = Fw.dot (m ((c : Thread nD τ).loc main_arg0)) (m ((c : Thread nD τ).loc main_arg2)) b s j := by
  unfold Fw.dot
  pointwise [k0_pay3, k0_pay1]
  simp only [blk_x m c t r _ b s h, blk_u m c t x _ j hj]

/-- A result array after the region. -/
theorem final3 (c : Dev nD) : (dats m 0 c).arrAt 3 cfg0.N = Fw.stack (Fw.silu (m ((c : Thread nD τ).loc main_arg0)) (m ((c : Thread nD τ).loc main_arg1))) := by
  refine (dats m 0 c).arrAt_eq_of_covers 3 _ (by decide +kernel) fun t hf y => ?_
  have ht : t.val < 16 := (idx t).2.2.2.2.2.2
  have e3 := (idx t).2.2.2.1
  idx_vars y
  blk_simp
  rw [after0_3]
  frame_out
  obtain ⟨b, s, h⟩ := token t y1
  obtain ⟨j, hj⟩ := column t y2
  rw [Fw.stack_of _ _ b s j (by blk_simp [e3]; omega) (by blk_simp [e3]; omega)]
  unfold Fw.silu
  rw [← g_point m c t y1 y2 b s h j hj]
  pointwise [k0_pay6, k0_pay5, k0_pay4]

/-- A result array after the region. -/
theorem final4 (c : Dev nD) : (dats m 0 c).arrAt 4 cfg0.N = Fw.stack (Fw.dsilu (m ((c : Thread nD τ).loc main_arg0)) (m ((c : Thread nD τ).loc main_arg1)) (m ((c : Thread nD τ).loc main_arg2))) := by
  refine (dats m 0 c).arrAt_eq_of_covers 4 _ (by decide +kernel) fun t hf y => ?_
  have ht : t.val < 16 := (idx t).2.2.2.2.2.2
  have e4 := (idx t).2.2.2.2.1
  idx_vars y
  blk_simp
  rw [after0_4]
  frame_out
  obtain ⟨b, s, h⟩ := token t y1
  obtain ⟨j, hj⟩ := column t y2
  rw [Fw.stack_of _ _ b s j (by blk_simp [e4]; omega) (by blk_simp [e4]; omega)]
  unfold Fw.dsilu Fw.silu
  rw [← g_point m c t y1 y2 b s h j hj, ← u_point m c t y1 y2 b s h j hj]
  pointwise [k0_pay7, k0_pay5, k0_pay4]

/-- A result array after the region. -/
theorem final5 (c : Dev nD) : (dats m 0 c).arrAt 5 cfg0.N = Fw.stack (Fw.prod (m ((c : Thread nD τ).loc main_arg0)) (m ((c : Thread nD τ).loc main_arg1)) (m ((c : Thread nD τ).loc main_arg2))) := by
  refine (dats m 0 c).arrAt_eq_of_covers 5 _ (by decide +kernel) fun t hf y => ?_
  have ht : t.val < 16 := (idx t).2.2.2.2.2.2
  have e5 := (idx t).2.2.2.2.2.1
  idx_vars y
  blk_simp
  rw [after0_5]
  frame_out
  obtain ⟨b, s, h⟩ := token t y1
  obtain ⟨j, hj⟩ := column t y2
  rw [Fw.stack_of _ _ b s j (by blk_simp [e5]; omega) (by blk_simp [e5]; omega)]
  unfold Fw.prod Fw.silu
  rw [← g_point m c t y1 y2 b s h j hj, ← u_point m c t y1 y2 b s h j hj]
  pointwise [k0_pay8, k0_pay5, k0_pay4]

end Cert.KernelUpIdeal.Value

end
-- ==== Proof.UpReference.lean ====
/- The feed-forward's first products and its gate as the reference writes them, read at their elements. -/
module

public import proofs.«01_k».proof.Proof.UpValue
public import proofs.«01_k».proof.Proof.Gen.ReferenceUpIdeal.Run
public import proofs.«01_k».proof.Proof.GateMath

@[expose] public section

set_option maxRecDepth 16384

noncomputable section

namespace Cert.ReferenceUpIdeal.Value

open Cert.ReferenceUpIdeal Cert.ReferenceUpIdeal.Gen Idealize.ShloMosaic Idealize.ShloMosaic.TcCoe Idealize.SL.Sem

/-- An array over the sequences with its columns in four parts. -/
theorem stack_eq (X : FVec Ideal S2x2048x2816 .f32) : (truncf .bf16 (transpose S4x4096x704 [1, 0, 2] (shapeCast S4096x4x704 X shapeCasts_S2x2048x2816_S4096x4x704) transposes_S4096x4x704_S4x4096x704_1_0_2) bitsLt_bf16_f32 : FVec Ideal S4x4096x704 .bf16) = Fw.stack fun b s j => X (ix3 b s j) := by
  funext i
  idx_vars i
  obtain ⟨b, s, h⟩ : ∃ (b : Fin 2) (s : Fin 2048), 2048 * b.val + s.val = i1.val :=
    ⟨⟨i1.val / 2048, by omega⟩, ⟨i1.val % 2048, by omega⟩, by simp only []; omega⟩
  rw [Fw.stack_of _ (ix3 i0 i1 i2) b s ⟨704 * i0.val + i2.val, by omega⟩ h rfl]
  pointwise
  blk_ext []

theorem stack_congr (f g : Fin 2 → Fin 2048 → Fin 2816 → EReal) (h : ∀ b s j, f b s j = g b s j) : Fw.stack f = Fw.stack g :=
  congrArg Fw.stack (funext fun b => funext fun s => funext fun j => h b s j)

/-- The products and what the gate makes of them, as the reference writes them. -/
abbrev pR (X : FVec Ideal S2x2048x1024 .f32) (W : FVec Ideal S1024x2816 .f32) : FVec Ideal S2x2048x2816 .f32 := Host.dotGeneral dot_S2x2048x1024_S1024x2816_S2x2048x2816_2_0_01_1_n_n none X W
abbrev sR (g : FVec Ideal S2x2048x2816 .f32) : FVec Ideal S2x2048x2816 .f32 := mulf g (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf g))))
abbrev qR (g u : FVec Ideal S2x2048x2816 .f32) : FVec Ideal S2x2048x2816 .f32 := addf (mulf (mulf (broadcastInDim S2x2048x2816 ![] bcast_S_S2x2048x2816 (constant S_ .f32 0x3F800000#32)) u) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf g))))) (mulf (mulf g (mulf (broadcastInDim S2x2048x2816 ![] bcast_S_S2x2048x2816 (constant S_ .f32 0x3F800000#32)) u)) (mulf (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf g)))) (subf (broadcastInDim S2x2048x2816 ![] bcast_S_S2x2048x2816 (constant S_ .f32 0x3F800000#32)) (Host.divf (broadcastInDim S2x2048x2816 ![] bcast_S_S2x2048x2816 (constant S_ .f32 0x3F800000#32)) (addf (broadcastInDim S2x2048x2816 ![] bcast_S_S2x2048x2816 (constant S_ .f32 0x3F800000#32)) (Host.exp (Host.negf g)))))))

theorem p_at (X : FVec Ideal S2x2048x1024 .f32) (W : FVec Ideal S1024x2816 .f32) (b : Fin 2) (s : Fin 2048) (j : Fin 2816) : pR X W (ix3 b s j) = Fw.dot X W b s j := by
  unfold Fw.dot
  pointwise

theorem s_at (X : FVec Ideal S2x2048x1024 .f32) (WG : FVec Ideal S1024x2816 .f32) (b : Fin 2) (s : Fin 2048) (j : Fin 2816) : sR (pR X WG) (ix3 b s j) = Fw.silu X WG b s j := by
  unfold Fw.silu
  rw [← p_at]
  unfold sR
  generalize pR X WG = g
  pointwise
  rfl

theorem a_at (X : FVec Ideal S2x2048x1024 .f32) (WG WU : FVec Ideal S1024x2816 .f32) (b : Fin 2) (s : Fin 2048) (j : Fin 2816) : mulf (sR (pR X WG)) (pR X WU) (ix3 b s j) = Fw.prod X WG WU b s j := by
  unfold Fw.prod
  rw [← s_at, ← p_at]
  rfl

/-- The gradient of the product, over the reals, in its two forms. -/
theorem gate_real (g u : ℝ) : (u : EReal) * Ideal.logistic (g : EReal) + (g : EReal) * (u : EReal) * (Ideal.logistic (g : EReal) * (1 - Ideal.logistic (g : EReal)))
    = (u : EReal) * (Ideal.logistic (g : EReal) + (g : EReal) * Ideal.logistic (g : EReal) * (1 - Ideal.logistic (g : EReal))) := by
  rw [Cert.Gate.logistic_coe]
  simp only [← EReal.coe_one, ← EReal.coe_sub, ← EReal.coe_mul, ← EReal.coe_add]
  exact congrArg Real.toEReal (by ring)

theorem dot_real (X : Fin 2 → Fin 2048 → Fin 1024 → ℝ) (W : Fin 1024 → Fin 2816 → ℝ) (b : Fin 2) (s : Fin 2048) (j : Fin 2816) :
    Fw.dot (Cert.Reals.lift3 X) (Cert.Reals.lift2 W) b s j = ((∑ r : Fin 1024, X b s r * W r j : ℝ) : EReal) := by
  unfold Fw.dot
  exact (Finset.sum_congr rfl fun r _ => Cert.Reals.mul_coe _ _).trans (Cert.Reals.sum_coe _ _)

theorem q_at (X : Fin 2 → Fin 2048 → Fin 1024 → ℝ) (WG WU : Fin 1024 → Fin 2816 → ℝ) (b : Fin 2) (s : Fin 2048) (j : Fin 2816) :
    qR (pR (Cert.Reals.lift3 X) (Cert.Reals.lift2 WG)) (pR (Cert.Reals.lift3 X) (Cert.Reals.lift2 WU)) (ix3 b s j)
      = Fw.dsilu (Cert.Reals.lift3 X) (Cert.Reals.lift2 WG) (Cert.Reals.lift2 WU) b s j := by
  have hg := (p_at (Cert.Reals.lift3 X) (Cert.Reals.lift2 WG) b s j).trans (dot_real X WG b s j)
  have hu := (p_at (Cert.Reals.lift3 X) (Cert.Reals.lift2 WU) b s j).trans (dot_real X WU b s j)
  unfold Fw.dsilu Fw.silu
  rw [dot_real, dot_real, ← gate_real, ← hg, ← hu]
  unfold qR
  generalize pR (Cert.Reals.lift3 X) (Cert.Reals.lift2 WG) = g
  generalize pR (Cert.Reals.lift3 X) (Cert.Reals.lift2 WU) = u
  pointwise
  rfl

theorem s_eq (X : FVec Ideal S2x2048x1024 .f32) (WG : FVec Ideal S1024x2816 .f32) : (truncf .bf16 (transpose S4x4096x704 [1, 0, 2] (shapeCast S4096x4x704 (sR (pR X WG)) shapeCasts_S2x2048x2816_S4096x4x704) transposes_S4096x4x704_S4x4096x704_1_0_2) bitsLt_bf16_f32 : FVec Ideal S4x4096x704 .bf16) = Fw.stack (Fw.silu X WG) :=
  (stack_eq _).trans (stack_congr _ _ (s_at X WG))

theorem a_eq (X : FVec Ideal S2x2048x1024 .f32) (WG WU : FVec Ideal S1024x2816 .f32) : (truncf .bf16 (transpose S4x4096x704 [1, 0, 2] (shapeCast S4096x4x704 (mulf (sR (pR X WG)) (pR X WU)) shapeCasts_S2x2048x2816_S4096x4x704) transposes_S4096x4x704_S4x4096x704_1_0_2) bitsLt_bf16_f32 : FVec Ideal S4x4096x704 .bf16) = Fw.stack (Fw.prod X WG WU) :=
  (stack_eq _).trans (stack_congr _ _ (a_at X WG WU))

theorem q_eq (X : FVec Ideal S2x2048x1024 .f32) (WG WU : FVec Ideal S1024x2816 .f32) (hX : ∃ x, X = Cert.Reals.lift3 x) (hG : ∃ x, WG = Cert.Reals.lift2 x) (hU : ∃ x, WU = Cert.Reals.lift2 x) :
    (truncf .bf16 (transpose S4x4096x704 [1, 0, 2] (shapeCast S4096x4x704 (qR (pR X WG) (pR X WU)) shapeCasts_S2x2048x2816_S4096x4x704) transposes_S4096x4x704_S4x4096x704_1_0_2) bitsLt_bf16_f32 : FVec Ideal S4x4096x704 .bf16) = Fw.stack (Fw.dsilu X WG WU) := by
  obtain ⟨x, rfl⟩ := hX
  obtain ⟨g, rfl⟩ := hG
  obtain ⟨u, rfl⟩ := hU
  exact (stack_eq _).trans (stack_congr _ _ (q_at x g u))

end Cert.ReferenceUpIdeal.Value

end
-- ==== Proof.UpClaims.lean ====
/- The claims about the feed-forward's first products and its gate. -/
module

public import proofs.«01_k».proof.Defs
public import proofs.«01_k».proof.Proof.Finite
public import proofs.«01_k».proof.Proof.UpValue
public import proofs.«01_k».proof.Proof.UpReference
public import proofs.«01_k».proof.Proof.Gen.KernelUp.Frame
public import proofs.«01_k».proof.Proof.Gen.KernelUpIdeal.Value
public import proofs.«01_k».proof.Proof.Gen.Pre_finite_up

@[expose] public section

set_option maxRecDepth 16384

noncomputable section

namespace Cert.Proof.Up

open Idealize.ShloMosaic Idealize.ShloMosaic.TcCoe Idealize.SL.Sem Cert.Reals

theorem frameR : Cert.quiescent_ReferenceUpIdeal := fun m g _ =>
  (θ_run Cert.ReferenceUpIdeal.defs _ _).mono (fun r h => ⟨fun c => (h c).2.2.2, sem_eq_zero_of_no_sems (by decide) r.2⟩) (Cert.ReferenceUpIdeal.Value.run m g)

theorem frameR_finite : Cert.quiescent_ReferenceUpIdeal_pre_finite_up := fun m g _ => frameR m g trivial

open Cert.KernelUpIdeal Cert.KernelUpIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v8_0) = (Fw.stack (Fw.silu (m ((c.tc : Thread nD τ).loc main_arg0)) (m ((c.tc : Thread nD τ).loc main_arg1))) : FVec Ideal S4x4096x704 .bf16)
      ∧ r.2.mem ((c.tc : Thread nD τ).loc main_v8_1) = (Fw.stack (Fw.dsilu (m ((c.tc : Thread nD τ).loc main_arg0)) (m ((c.tc : Thread nD τ).loc main_arg1)) (m ((c.tc : Thread nD τ).loc main_arg2))) : FVec Ideal S4x4096x704 .bf16)
      ∧ r.2.mem ((c.tc : Thread nD τ).loc main_v8_2) = (Fw.stack (Fw.prod (m ((c.tc : Thread nD τ).loc main_arg0)) (m ((c.tc : Thread nD τ).loc main_arg1)) (m ((c.tc : Thread nD τ).loc main_arg2))) : FVec Ideal S4x4096x704 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Value.final3 m c), (h c).2.1.trans (Value.final4 m c), (h c).2.2.1.trans (Value.final5 m c), (h c).2.2.2⟩) (Value.run_blocks m g)

open Cert.Pre_finite_up in
/-- Finite arguments are arrays of reals. -/
theorem reals (X0 : FVec Ideal S2x2048x1024 .f32) (X1 X2 : FVec Ideal S1024x2816 .f32) (h : Cert.Pre_finite_up.fn (F := Ideal) X0 X1 X2 = fun _ => 1#1) :
    (∃ x, X0 = lift3 x) ∧ (∃ x, X1 = lift2 x) ∧ ∃ x, X2 = lift2 x := by
  have e := congrFun h (Shape.Idx.first Facts.h_S_)
  dsimp only [fn] at e
  obtain ⟨e, h2⟩ := andi_at _ _ _ e
  obtain ⟨h0, h1⟩ := andi_at _ _ _ e
  haveI : Subsingleton S_.Idx := ⟨fun a b => funext fun k => k.elim0⟩
  exact ⟨exists_lift3 X0 (real_of_all X0 _ _ _ _ _ h0), exists_lift2 X1 (real_of_all X1 _ _ _ _ _ h1), exists_lift2 X2 (real_of_all X2 _ _ _ _ _ h2)⟩

/-- At exact arithmetic the kernel's results are the reference's, for finite arguments. -/
theorem algebraic : Cert.algebraic_KernelUpIdeal_ReferenceUpIdeal_pre_finite_up := by
  intro m g m' g' hpre hag
  refine ⟨_, _, _, run m g, (θ_run Cert.ReferenceUpIdeal.defs _ _).mono (fun r h c => ⟨(h c).1.trans ?_, (h c).2.1.trans ?_, (h c).2.2.1.trans ?_, (h c).2.2.2⟩)
    (Cert.ReferenceUpIdeal.Value.run m' g')⟩
  · obtain ⟨a0, a1, a2⟩ := hag c
    refine (Cert.ReferenceUpIdeal.Value.s_eq _ _ ).trans ?_
    rw [a0, a1]
  · obtain ⟨a0, a1, a2⟩ := hag c
    refine (Cert.ReferenceUpIdeal.Value.q_eq _ _ _ ?_ ?_ ?_).trans ?_
    · rw [a0]; exact (reals _ _ _ (hpre c)).1
    · rw [a1]; exact (reals _ _ _ (hpre c)).2.1
    · rw [a2]; exact (reals _ _ _ (hpre c)).2.2
    rw [a0, a1, a2]
  · obtain ⟨a0, a1, a2⟩ := hag c
    refine (Cert.ReferenceUpIdeal.Value.a_eq _ _ _ ).trans ?_
    rw [a0, a1, a2]

end Cert.Proof.Up

end
-- ==== Proof.DownValue.lean ====
/- The second feed-forward product, the residual and the norm after it: what the pipelined call leaves in its three results. -/
module

public import proofs.«01_k».proof.Proof.Gen.KernelDownIdeal.Frame
public import Idealize.ShloMosaic.Lib.Pipeline.ValueKit
public import Idealize.ShloMosaic.Lib.Pointwise
public import proofs.«01_k».proof.Proof.FwMath

@[expose] public section

set_option maxRecDepth 16384

noncomputable section

namespace Cert.KernelDownIdeal.Value

open Cert.KernelDownIdeal Cert.KernelDownIdeal.Gen Idealize.ShloMosaic Idealize.ShloMosaic.TcCoe Idealize.SL.Sem
open Idealize.ShloMosaic.Pipeline (Dat)

variable (m : (ℓ : Loc nD τ sig) → Buf (Elt Ideal) ℓ)

/-- A shape cast from sequences to tokens, read at a token. -/
theorem rows_at (X : FVec Ideal S2x2048x1024 .f32) (i : S4096x1024.Idx) (b : Fin 2) (s : Fin 2048) (d : Fin 1024)
    (h : 2048 * b.val + s.val = (i 0).val) (hd : d.val = (i 1).val) : shapeCast S4096x1024 X shapeCasts_S2x2048x1024_S4096x1024 i = X (ix3 b s d) := by
  idx_vars i
  pointwise
  blk_ext []

/-- The hidden axis in four parts, read at a token. -/
theorem parts_at (X : FVec Ideal S2x2048x2816 .f32) (i : S4x4096x704.Idx) (b : Fin 2) (s : Fin 2048) (k : Fin 2816)
    (h : 2048 * b.val + s.val = (i 1).val) (hd : k.val = 704 * (i 0).val + (i 2).val) : (truncf .bf16 (transpose S4x4096x704 [1, 0, 2] (shapeCast S4096x4x704
    X shapeCasts_S2x2048x2816_S4096x4x704) transposes_S4096x4x704_S4x4096x704_1_0_2) bitsLt_bf16_f32 : FVec Ideal S4x4096x704 .bf16) i = X (ix3 b s k) := by
  idx_vars i
  pointwise
  blk_ext []

/-- The matrix's rows in four parts. -/
theorem wparts_at (X : FVec Ideal S2816x1024 .f32) (i : S4x704x1024.Idx) (k : Fin 2816) (d : Fin 1024)
    (hk : k.val = 704 * (i 0).val + (i 1).val) (hd : d.val = (i 2).val) :
    (truncf .bf16 (shapeCast S4x704x1024 X shapeCasts_S2816x1024_S4x704x1024) bitsLt_bf16_f32 : FVec Ideal S4x704x1024 .bf16) i = X (ix2 k d) := by
  idx_vars i
  pointwise
  blk_ext []

/-- The modulation vectors, nine side by side. -/
theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

/-- Every window's block index, over all grid points. -/
theorem idx : ∀ t : Fin cfg0.N, win0_0.index t = ![0, t.val, 0]
    ∧ win0_1.index t = ![0, 0, 0]
    ∧ win0_2.index t = ![t.val, 0]
    ∧ win0_3.index t = ![t.val / 4, 2, 0, 0]
    ∧ win0_4.index t = ![0, 0]
    ∧ win0_5.index t = ![t.val / 4, 4, 0, 0]
    ∧ win0_6.index t = ![t.val / 4, 3, 0, 0]
    ∧ win0_7.index t = ![t.val, 0]
    ∧ win0_8.index t = ![t.val, 0]
    ∧ win0_9.index t = ![t.val, 0]
    ∧ t.val < 8 :=
  (by decide +kernel : ∀ t : Fin grid0.N, _)

/-- The activations as the call reads them: the hidden axis in four parts. -/
theorem V_a (c : Dev nD) : (V m c main_v3 : S4x4096x704.Idx → EReal) = (truncf .bf16 (transpose S4x4096x704 [1, 0, 2] (shapeCast S4096x4x704 (m ((c : Thread nD τ).loc main_arg0) : FVec Ideal S2x2048x2816 .f32) shapeCasts_S2x2048x2816_S4096x4x704) transposes_S4096x4x704_S4x4096x704_1_0_2) bitsLt_bf16_f32 : FVec Ideal S4x4096x704 .bf16) := by
  unfold V
  after_results <;> rfl

/-- The second feed-forward matrix as the call reads it. -/
theorem V_w (c : Dev nD) : (V m c main_v5 : S4x704x1024.Idx → EReal) = (truncf .bf16 (shapeCast S4x704x1024 (m ((c : Thread nD τ).loc main_arg1) : FVec Ideal S2816x1024 .f32) shapeCasts_S2816x1024_S4x704x1024) bitsLt_bf16_f32 : FVec Ideal S4x704x1024 .bf16) := by
  unfold V
  after_results <;> rfl

/-- The residual, one row per token. -/
theorem V_h (c : Dev nD) : (V m c main_v6 : S4096x1024.Idx → EReal) = (shapeCast S4096x1024 (m ((c : Thread nD τ).loc main_arg2) : FVec Ideal S2x2048x1024 .f32) shapeCasts_S2x2048x1024_S4096x1024 : FVec Ideal S4096x1024 .f32) := by
  unfold V
  after_results <;> rfl

/-- The nine modulation vectors, apart. -/
theorem V_m (c : Dev nD) : (V m c main_v0 : S2x9x1x1024.Idx → EReal) = (shapeCast S2x9x1x1024 (m ((c : Thread nD τ).loc main_arg3) : FVec Ideal S2x9216 .f32) shapeCasts_S2x9216_S2x9x1x1024 : FVec Ideal S2x9x1x1024 .f32) := by
  unfold V
  after_results <;> rfl

/-- The block of activations. -/
theorem blk_a (c : Dev nD) (t : Fin cfg0.N) (q : Fin 4) (r : Fin 512) (x : Fin 704) (b : Fin 2) (s : Fin 2048) (h : 2048 * b.val + s.val = 512 * t.val + r.val) :
    (iblk m c 0 t : S4x512x704.Idx → EReal) (ix3 q r x) = ((m ((c : Thread nD τ).loc main_arg0)) : S2x2048x2816.Idx → EReal) (ix3 b s ⟨q.val * 704 + x.val, by omega⟩) := by
  have ht : t.val < 8 := (idx t).2.2.2.2.2.2.2.2.2.2
  have e0 := (idx t).1
  refine (congrFun (V_a m c) (((cfg0.win 0).blk t).view.emb (ix3 q r x))).trans (parts_at _ _ b s _ ?_ ?_) <;>
    (blk_simp [e0] <;> (try simp only []) <;> (try omega))

/-- The block of the matrix: all of it. -/
theorem blk_w (c : Dev nD) (t : Fin cfg0.N) (q : Fin 4) (x : Fin 704) (d : Fin 1024) :
    (iblk m c 1 t : S4x704x1024.Idx → EReal) (ix3 q x d) = ((m ((c : Thread nD τ).loc main_arg1)) : S2816x1024.Idx → EReal) (ix2 ⟨q.val * 704 + x.val, by omega⟩ d) := by
  have ht : t.val < 8 := (idx t).2.2.2.2.2.2.2.2.2.2
  have e1 := (idx t).2.1
  refine (congrFun (V_w m c) (((cfg0.win 1).blk t).view.emb (ix3 q x d))).trans (wparts_at _ _ _ d ?_ ?_) <;>
    (blk_simp [e1] <;> (try simp only []) <;> (try omega))

/-- The block of the residual. -/
theorem blk_h (c : Dev nD) (t : Fin cfg0.N) (r : Fin 512) (d : Fin 1024) (b : Fin 2) (s : Fin 2048) (h : 2048 * b.val + s.val = 512 * t.val + r.val) :
    (iblk m c 2 t : S512x1024.Idx → EReal) (ix2 r d) = ((m ((c : Thread nD τ).loc main_arg2)) : S2x2048x1024.Idx → EReal) (ix3 b s d) := by
  have ht : t.val < 8 := (idx t).2.2.2.2.2.2.2.2.2.2
  have e2 := (idx t).2.2.1
  refine (congrFun (V_h m c) (((cfg0.win 2).blk t).view.emb (ix2 r d))).trans (rows_at _ _ b s d ?_ ?_) <;>
    (blk_simp [e2] <;> (try simp only []) <;> (try omega))

/-- The block of the modulation vectors: vector 2 of the token's sequence. -/
theorem blk_o (c : Dev nD) (t : Fin cfg0.N) (r : Fin 512) (d : Fin 1024) (b : Fin 2) (s : Fin 2048) (h : 2048 * b.val + s.val = 512 * t.val + r.val) :
    (iblk m c 3 t : S1x1x1x1024.Idx → EReal) (ix4 0 0 0 d) = Fw.md (m ((c : Thread nD τ).loc main_arg3)) 2 b d := by
  have ht : t.val < 8 := (idx t).2.2.2.2.2.2.2.2.2.2
  have e3 := (idx t).2.2.2.1
  refine (congrFun (V_m m c) (((cfg0.win 3).blk t).view.emb (ix4 0 0 0 d))).trans (mods_at _ _ b _ ?_ ?_) <;>
    (blk_simp [e3] <;> (try simp only []) <;> (try omega))

/-- A block that is a whole argument. -/
theorem blk_g (c : Dev nD) (t : Fin cfg0.N) (d : Fin 1024) : (iblk m c 4 t : S1x1024.Idx → EReal) (ix2 0 d) = ((m ((c : Thread nD τ).loc main_arg4)) : S1x1024.Idx → EReal) (ix2 0 d) := by
  have ht : t.val < 8 := (idx t).2.2.2.2.2.2.2.2.2.2
  have e4 := (idx t).2.2.2.2.1
  blk_ext! [iblk, e4]

/-- The block of the modulation vectors: vector 4 of the token's sequence. -/
theorem blk_c (c : Dev nD) (t : Fin cfg0.N) (r : Fin 512) (d : Fin 1024) (b : Fin 2) (s : Fin 2048) (h : 2048 * b.val + s.val = 512 * t.val + r.val) :
    (iblk m c 5 t : S1x1x1x1024.Idx → EReal) (ix4 0 0 0 d) = Fw.md (m ((c : Thread nD τ).loc main_arg3)) 4 b d := by
  have ht : t.val < 8 := (idx t).2.2.2.2.2.2.2.2.2.2
  have e5 := (idx t).2.2.2.2.2.1
  refine (congrFun (V_m m c) (((cfg0.win 5).blk t).view.emb (ix4 0 0 0 d))).trans (mods_at _ _ b _ ?_ ?_) <;>
    (blk_simp [e5] <;> (try simp only []) <;> (try omega))

/-- The block of the modulation vectors: vector 3 of the token's sequence. -/
theorem blk_s (c : Dev nD) (t : Fin cfg0.N) (r : Fin 512) (d : Fin 1024) (b : Fin 2) (s : Fin 2048) (h : 2048 * b.val + s.val = 512 * t.val + r.val) :
    (iblk m c 6 t : S1x1x1x1024.Idx → EReal) (ix4 0 0 0 d) = Fw.md (m ((c : Thread nD τ).loc main_arg3)) 3 b d := by
  have ht : t.val < 8 := (idx t).2.2.2.2.2.2.2.2.2.2
  have e6 := (idx t).2.2.2.2.2.2.1
  refine (congrFun (V_m m c) (((cfg0.win 6).blk t).view.emb (ix4 0 0 0 d))).trans (mods_at _ _ b _ ?_ ?_) <;>
    (blk_simp [e6] <;> (try simp only []) <;> (try omega))

/-- A block's row is a token of a sequence. -/
theorem token (t : Fin cfg0.N) (r : Fin 512) : ∃ (b : Fin 2) (s : Fin 2048), 2048 * b.val + s.val = 512 * t.val + r.val := by
  have ht : t.val < 8 := (idx t).2.2.2.2.2.2.2.2.2.2
  exact ⟨⟨(512 * t.val + r.val) / 2048, by omega⟩, ⟨(512 * t.val + r.val) % 2048, by omega⟩, by simp only []; omega⟩

/-- The block's product, the hidden axis in four parts, is the whole product. -/
theorem f_point (c : Dev nD) (t : Fin cfg0.N) (r : Fin 512) (d : Fin 1024) (b : Fin 2) (s : Fin 2048) (h : 2048 * b.val + s.val = 512 * t.val + r.val) :
    k0_pay5 (F := Ideal) (iblk m c 0 t) (iblk m c 1 t) (iblk m c 2 t) (iblk m c 3 t) (iblk m c 4 t) (iblk m c 5 t) (iblk m c 6 t) (ix2 r d) = Fw.dot (m ((c : Thread nD τ).loc main_arg0)) (m ((c : Thread nD τ).loc main_arg1)) b s d := by
  rw [Fw.dot, Fin.sum_univ_tiles 4 704 rfl, Fin.sum_univ_four]
  pointwise [k0_pay5, k0_pay1]
  simp only [blk_a m c t _ r _ b s h, blk_w m c t]
  rfl

/-- The block's residual at one of its elements. -/
theorem y_point (c : Dev nD) (t : Fin cfg0.N) (r : Fin 512) (d : Fin 1024) (b : Fin 2) (s : Fin 2048) (h : 2048 * b.val + s.val = 512 * t.val + r.val) :
    k0_pay3 (F := Ideal) (k0_pay5 (F := Ideal) (iblk m c 0 t) (iblk m c 1 t) (iblk m c 2 t) (iblk m c 3 t) (iblk m c 4 t) (iblk m c 5 t) (iblk m c 6 t)) (iblk m c 2 t) (iblk m c 3 t) (ix2 r d) = Fw.res1 (m ((c : Thread nD τ).loc main_arg0)) (m ((c : Thread nD τ).loc main_arg1)) (m ((c : Thread nD τ).loc main_arg2)) (m ((c : Thread nD τ).loc main_arg3)) b s d := by
  rw [Fw.res1, ← f_point m c t r d b s h]
  pointwise [k0_pay3]
  simp only [blk_h m c t r d b s h, blk_o m c t r d b s h]

/-- The block's norm at one of its elements. -/
theorem nm_pay (f x : FVec Ideal S512x1024 .f32) (o sc sh : FVec Ideal S1x1x1x1024 .f32) (g : FVec Ideal S1x1024 .f32) (r : Fin 512) (d : Fin 1024) :
    k0_pay4 (F := Ideal) f x o g sc sh (ix2 r d) = Fw.nm (fun k => k0_pay3 (F := Ideal) f x o (ix2 r k)) (fun k => g (ix2 0 k)) (fun k => sc (ix4 0 0 0 k)) (fun k => sh (ix4 0 0 0 k)) d := by
  unfold Fw.nm
  pointwise [k0_pay4]

/-- A result array after the region. -/
theorem final7 (c : Dev nD) : (dats m 0 c).arrAt 7 cfg0.N = Fw.rows (Fw.res1 (m ((c : Thread nD τ).loc main_arg0)) (m ((c : Thread nD τ).loc main_arg1)) (m ((c : Thread nD τ).loc main_arg2)) (m ((c : Thread nD τ).loc main_arg3))) := by
  refine (dats m 0 c).arrAt_eq_of_covers 7 _ (by decide +kernel) fun t hf y => ?_
  have ht : t.val < 8 := (idx t).2.2.2.2.2.2.2.2.2.2
  have e7 := (idx t).2.2.2.2.2.2.2.1
  idx_vars y
  blk_simp
  rw [after0_7]
  frame_out
  obtain ⟨b, s, h⟩ := token t y0
  rw [Fw.rows_of _ _ b s y1 (by blk_simp [e7]; omega) (by blk_simp [e7])]
  exact y_point m c t y0 y1 b s h

/-- A result array after the region. -/
theorem final8 (c : Dev nD) : (dats m 0 c).arrAt 8 cfg0.N = Fw.rows (Fw.dot (m ((c : Thread nD τ).loc main_arg0)) (m ((c : Thread nD τ).loc main_arg1))) := by
  refine (dats m 0 c).arrAt_eq_of_covers 8 _ (by decide +kernel) fun t hf y => ?_
  have ht : t.val < 8 := (idx t).2.2.2.2.2.2.2.2.2.2
  have e8 := (idx t).2.2.2.2.2.2.2.2.1
  idx_vars y
  blk_simp
  rw [after0_8]
  frame_out
  obtain ⟨b, s, h⟩ := token t y0
  rw [Fw.rows_of _ _ b s y1 (by blk_simp [e8]; omega) (by blk_simp [e8])]
  rw [← f_point m c t y0 y1 b s h]
  rfl

/-- A result array after the region. -/
theorem final9 (c : Dev nD) : (dats m 0 c).arrAt 9 cfg0.N = Fw.rows (Fw.norm2 (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 9 _ (by decide +kernel) fun t hf y => ?_
  have ht : t.val < 8 := (idx t).2.2.2.2.2.2.2.2.2.2
  have e9 := (idx t).2.2.2.2.2.2.2.2.2.1
  idx_vars y
  blk_simp
  rw [after0_9]
  frame_out
  obtain ⟨b, s, h⟩ := token t y0
  rw [Fw.rows_of _ _ b s y1 (by blk_simp [e9]; omega) (by blk_simp [e9])]
  refine (nm_pay _ _ _ _ _ _ y0 y1).trans ?_
  unfold Fw.norm2
  congr 1 <;> funext d
  · exact y_point m c t y0 d b s h
  · exact blk_g m c t d
  · exact blk_c m c t y0 d b s h
  · exact blk_s m c t y0 d b s h

end Cert.KernelDownIdeal.Value

end
-- ==== Proof.DownReference.lean ====
/- The second feed-forward product, the residual and the norm after it as the reference writes them, read at their elements. -/
module

public import proofs.«01_k».proof.Proof.DownValue
public import proofs.«01_k».proof.Proof.Gen.ReferenceDownIdeal.Run

@[expose] public section

set_option maxRecDepth 16384

noncomputable section

namespace Cert.ReferenceDownIdeal.Value

open Cert.ReferenceDownIdeal Cert.ReferenceDownIdeal.Gen Idealize.ShloMosaic Idealize.ShloMosaic.TcCoe Idealize.SL.Sem

/-- The modulated norm as the reference writes it. -/
abbrev nmR (E : FVec Ideal S2x2048x1024 .f32) (G : FVec Ideal S1x1024 .f32) (M : FVec Ideal S2x9216 .f32) : FVec Ideal S2x2048x1024 .f32 :=
  addf (mulf (mulf (mulf E (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf E E) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ G shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 4096] M slices_S2x9216_S2x1024_0_4096))))) (broadcastInDim S2x2048x1024 ![0, 1, 2] bcast_S2x1x1024_S2x2048x1024_0_1_2 (broadcastInDim S2x1x1024 ![0, 2] bcast_S2x1024_S2x1x1024_0_2 (extractStridedSlice S2x1024 ![0, 3072] M slices_S2x9216_S2x1024_0_3072)))

theorem nmR_at (E : FVec Ideal S2x2048x1024 .f32) (G : FVec Ideal S1x1024 .f32) (M : FVec Ideal S2x9216 .f32) (b : Fin 2) (s : Fin 2048) (d : Fin 1024) :
    nmR E G M (ix3 b s d) = Fw.nm (fun k => E (ix3 b s k)) (fun k => G (ix2 0 k)) (Fw.md M 4 b) (Fw.md M 3 b) d := by
  unfold Fw.nm Fw.md
  pointwise
  blk_ext []

/-- An array over the sequences, its rows one below the other. -/
theorem rows_eq (X : FVec Ideal S2x2048x1024 .f32) : (shapeCast S4096x1024 X shapeCasts_S2x2048x1024_S4096x1024 : FVec Ideal S4096x1024 .f32) = Fw.rows fun b s d => X (ix3 b s d) := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  exact (Cert.KernelDownIdeal.Value.rows_at X (ix2 i0 i1) b s i1 h rfl).trans (Fw.rows_of (fun b s d => X (ix3 b s d)) (ix2 i0 i1) b s i1 h rfl).symm

theorem rows16_eq (X : FVec Ideal S2x2048x1024 .f32) : (truncf .bf16 (shapeCast S4096x1024 X shapeCasts_S2x2048x1024_S4096x1024) bitsLt_bf16_f32 : FVec Ideal S4096x1024 .bf16) = Fw.rows fun b s d => X (ix3 b s d) := by
  funext i
  rw [truncf_apply]
  exact congrFun (rows_eq X) i

theorem rows_congr (f g : Fin 2 → Fin 2048 → Fin 1024 → EReal) (h : ∀ b s d, f b s d = g b s d) : Fw.rows f = Fw.rows g :=
  congrArg Fw.rows (funext fun b => funext fun s => funext fun d => h b s d)

/-- The residual as the reference writes it. -/
abbrev yR (A : FVec Ideal S2x2048x2816 .f32) (W : FVec Ideal S2816x1024 .f32) (H : FVec Ideal S2x2048x1024 .f32) (M : FVec Ideal S2x9216 .f32) : FVec Ideal S2x2048x1024 .f32 := (addf H (mulf (broadcastInDim S2x2048x1024 ![0, 1, 2] bcast_S2x1x1024_S2x2048x1024_0_1_2 (mulf (broadcastInDim S2x1x1024 ![] bcast_S_S2x1x1024 (constant S_ .f32 0x3F000000#32)) (broadcastInDim S2x1x1024 ![0, 2] bcast_S2x1024_S2x1x1024_0_2 (extractStridedSlice S2x1024 ![0, 2048] M slices_S2x9216_S2x1024_0_2048)))) (Host.dotGeneral dot_S2x2048x2816_S2816x1024_S2x2048x1024_2_0_01_1_n_n none A W)))

theorem f_at (A : FVec Ideal S2x2048x2816 .f32) (W : FVec Ideal S2816x1024 .f32) (b : Fin 2) (s : Fin 2048) (d : Fin 1024) :
    (Host.dotGeneral dot_S2x2048x2816_S2816x1024_S2x2048x1024_2_0_01_1_n_n none A W : FVec Ideal S2x2048x1024 .f32) (ix3 b s d) = Fw.dot A W b s d := by
  unfold Fw.dot
  pointwise

theorem yR_at (A : FVec Ideal S2x2048x2816 .f32) (W : FVec Ideal S2816x1024 .f32) (H : FVec Ideal S2x2048x1024 .f32) (M : FVec Ideal S2x9216 .f32) (b : Fin 2) (s : Fin 2048) (d : Fin 1024) : yR A W H M (ix3 b s d) = Fw.res1 A W H M b s d := by
  unfold Fw.res1 Fw.md Fw.dot
  pointwise
  blk_ext []

theorem y_eq (A : FVec Ideal S2x2048x2816 .f32) (W : FVec Ideal S2816x1024 .f32) (H : FVec Ideal S2x2048x1024 .f32) (M : FVec Ideal S2x9216 .f32) : (shapeCast S4096x1024 (yR A W H M) shapeCasts_S2x2048x1024_S4096x1024 : FVec Ideal S4096x1024 .f32) = Fw.rows (Fw.res1 A W H M) :=
  (rows_eq _).trans (rows_congr _ _ (yR_at A W H M))

theorem f_eq (A : FVec Ideal S2x2048x2816 .f32) (W : FVec Ideal S2816x1024 .f32) : (truncf .bf16 (shapeCast S4096x1024 (Host.dotGeneral dot_S2x2048x2816_S2816x1024_S2x2048x1024_2_0_01_1_n_n none A W : FVec Ideal S2x2048x1024 .f32) shapeCasts_S2x2048x1024_S4096x1024) bitsLt_bf16_f32 : FVec Ideal S4096x1024 .bf16) = Fw.rows (Fw.dot A W) :=
  (rows16_eq _).trans (rows_congr _ _ (f_at A W))

theorem xn_eq (A : FVec Ideal S2x2048x2816 .f32) (W : FVec Ideal S2816x1024 .f32) (H : FVec Ideal S2x2048x1024 .f32) (M : FVec Ideal S2x9216 .f32) (G : FVec Ideal S1x1024 .f32) :
    (truncf .bf16 (shapeCast S4096x1024 (nmR (yR A W H M) G M) shapeCasts_S2x2048x1024_S4096x1024) bitsLt_bf16_f32 : FVec Ideal S4096x1024 .bf16) = Fw.rows (Fw.norm2 A W H M G) :=
  (rows16_eq _).trans (rows_congr _ _ fun b s d => (nmR_at _ G M b s d).trans (by
    unfold Fw.norm2
    rw [show (fun k => yR A W H M (ix3 b s k)) = Fw.res1 A W H M b s from funext fun k => yR_at A W H M b s k]))

end Cert.ReferenceDownIdeal.Value

end
-- ==== Proof.DownClaims.lean ====
/- The claims about the second feed-forward product with the residual and the norm after it. -/
module

public import proofs.«01_k».proof.Defs
public import proofs.«01_k».proof.Proof.Finite
public import proofs.«01_k».proof.Proof.DownValue
public import proofs.«01_k».proof.Proof.DownReference
public import proofs.«01_k».proof.Proof.Gen.KernelDown.Frame
public import proofs.«01_k».proof.Proof.Gen.KernelDownIdeal.Value

@[expose] public section

set_option maxRecDepth 16384

noncomputable section

namespace Cert.Proof.Down

open Idealize.ShloMosaic Idealize.ShloMosaic.TcCoe Idealize.SL.Sem Cert.Reals

theorem frameR : Cert.quiescent_ReferenceDownIdeal := fun m g _ =>
  (θ_run Cert.ReferenceDownIdeal.defs _ _).mono (fun r h => ⟨fun c => (h c).2.2.2, sem_eq_zero_of_no_sems (by decide) r.2⟩) (Cert.ReferenceDownIdeal.Value.run m g)

open Cert.KernelDownIdeal Cert.KernelDownIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v7_0) = (Fw.rows (Fw.res1 (m ((c.tc : Thread nD τ).loc main_arg0)) (m ((c.tc : Thread nD τ).loc main_arg1)) (m ((c.tc : Thread nD τ).loc main_arg2)) (m ((c.tc : Thread nD τ).loc main_arg3))) : FVec Ideal S4096x1024 .f32)
      ∧ r.2.mem ((c.tc : Thread nD τ).loc main_v7_1) = (Fw.rows (Fw.dot (m ((c.tc : Thread nD τ).loc main_arg0)) (m ((c.tc : Thread nD τ).loc main_arg1))) : FVec Ideal S4096x1024 .bf16)
      ∧ r.2.mem ((c.tc : Thread nD τ).loc main_v7_2) = (Fw.rows (Fw.norm2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Value.final7 m c), (h c).2.1.trans (Value.final8 m c), (h c).2.2.1.trans (Value.final9 m c), (h c).2.2.2⟩) (Value.run_blocks m g)

/-- At exact arithmetic the kernel's results are the reference's, for all arguments. -/
theorem algebraic : Cert.algebraic_KernelDownIdeal_ReferenceDownIdeal := by
  intro m g m' g' hpre hag
  refine ⟨_, _, _, run m g, (θ_run Cert.ReferenceDownIdeal.defs _ _).mono (fun r h c => ⟨(h c).1.trans ?_, (h c).2.1.trans ?_, (h c).2.2.1.trans ?_, (h c).2.2.2⟩)
    (Cert.ReferenceDownIdeal.Value.run m' g')⟩
  · obtain ⟨a0, a1, a2, a3, a4⟩ := hag c
    refine (Cert.ReferenceDownIdeal.Value.y_eq _ _ _ _ ).trans ?_
    rw [a0, a1, a2, a3]
  · obtain ⟨a0, a1, a2, a3, a4⟩ := hag c
    refine (Cert.ReferenceDownIdeal.Value.f_eq _ _ ).trans ?_
    rw [a0, a1]
  · obtain ⟨a0, a1, a2, a3, a4⟩ := hag c
    refine (Cert.ReferenceDownIdeal.Value.xn_eq _ _ _ _ _ ).trans ?_
    rw [a0, a1, a2, a3, a4]

end Cert.Proof.Down

end
-- ==== Proof.MixFValue.lean ====
/- The mixer's forward call: what the pipelined call leaves in its six results. -/
module

public import proofs.«01_k».proof.Proof.Gen.KernelMixFIdeal.Frame
public import Idealize.ShloMosaic.Lib.Pipeline.ValueKit
public import Idealize.ShloMosaic.Lib.Pointwise
public import proofs.«01_k».proof.Proof.FwMath

@[expose] public section

set_option maxRecDepth 16384

noncomputable section

namespace Cert.KernelMixFIdeal.Value

open Cert.KernelMixFIdeal Cert.KernelMixFIdeal.Gen Idealize.ShloMosaic Idealize.ShloMosaic.TcCoe Idealize.SL.Sem
open Idealize.ShloMosaic.Pipeline (Dat)

variable (m : (ℓ : Loc nD τ sig) → Buf (Elt Ideal) ℓ)

/-- A shape cast from sequences to tokens, read at a token. -/
theorem rows_at (X : FVec Ideal S2x2048x1024 .f32) (i : S4096x1024.Idx) (b : Fin 2) (s : Fin 2048) (d : Fin 1024)
    (h : 2048 * b.val + s.val = (i 0).val) (hd : d.val = (i 1).val) : shapeCast S4096x1024 X shapeCasts_S2x2048x1024_S4096x1024 i = X (ix3 b s d) := by
  idx_vars i
  pointwise
  blk_ext []

/-- A branch's rows, read at a token. -/
theorem halves_at (X : FVec Ideal S2x2048x512 .f32) (i : S4096x512.Idx) (b : Fin 2) (s : Fin 2048) (d : Fin 512)
    (h : 2048 * b.val + s.val = (i 0).val) (hd : d.val = (i 1).val) : (truncf .bf16 (shapeCast S4096x512 X shapeCasts_S2x2048x512_S4096x512) bitsLt_bf16_f32 : FVec Ideal S4096x512 .bf16) i = X (ix3 b s d) := by
  idx_vars i
  pointwise
  blk_ext []

/-- The modulation vectors, nine side by side. -/
theorem mods_at (X : FVec Ideal S2x9216 .f32) (i : S2x9x1x1024.Idx) (b : Fin 2) (k : Fin 9216) (hb : b.val = (i 0).val)
    (hk : k.val = 1024 * (i 1).val + (i 3).val) : shapeCast S2x9x1x1024 X shapeCasts_S2x9216_S2x9x1x1024 i = X (ix2 b k) := by
  idx_vars i
  pointwise
  blk_ext []

/-- The two gates side by side, read at a token. -/
theorem gates_at (X Y : FVec Ideal S2x2048x1024 .f32) (i : S4096x2048.Idx) (b : Fin 2) (s : Fin 2048) (k : Fin 2048)
    (h : 2048 * b.val + s.val = (i 0).val) (hd : k.val = (i 1).val) :
    (truncf .bf16 (shapeCast S4096x2048 (concatenate S2x2048x2048 2 [⟨S2x2048x1024, X⟩, ⟨S2x2048x1024, Y⟩] concatenates_S2x2048x1024_S2x2048x1024_S2x2048x2048_d2 : FVec Ideal S2x2048x2048 .f32)
      shapeCasts_S2x2048x2048_S4096x2048) bitsLt_bf16_f32 : FVec Ideal S4096x2048 .bf16) i
      = (concatenate S2x2048x2048 2 [⟨S2x2048x1024, X⟩, ⟨S2x2048x1024, Y⟩] concatenates_S2x2048x1024_S2x2048x1024_S2x2048x2048_d2 : FVec Ideal S2x2048x2048 .f32) (ix3 b s k) := by
  generalize (concatenate S2x2048x2048 2 [⟨S2x2048x1024, X⟩, ⟨S2x2048x1024, Y⟩] concatenates_S2x2048x1024_S2x2048x1024_S2x2048x2048_d2 : FVec Ideal S2x2048x2048 .f32) = Z
  idx_vars i
  pointwise
  blk_ext []

theorem left_at (X Y : FVec Ideal S2x2048x1024 .f32) (b : Fin 2) (s : Fin 2048) (d : Fin 1024) :
    (concatenate S2x2048x2048 2 [⟨S2x2048x1024, X⟩, ⟨S2x2048x1024, Y⟩] concatenates_S2x2048x1024_S2x2048x1024_S2x2048x2048_d2 : FVec Ideal S2x2048x2048 .f32) (ix3 b s ⟨d.val, by omega⟩) = X (ix3 b s d) := by
  pointwise

theorem right_at (X Y : FVec Ideal S2x2048x1024 .f32) (b : Fin 2) (s : Fin 2048) (d : Fin 1024) :
    (concatenate S2x2048x2048 2 [⟨S2x2048x1024, X⟩, ⟨S2x2048x1024, Y⟩] concatenates_S2x2048x1024_S2x2048x1024_S2x2048x2048_d2 : FVec Ideal S2x2048x2048 .f32) (ix3 b s ⟨1024 + d.val, by omega⟩) = Y (ix3 b s d) := by
  pointwise

/-- Every window's block index, over all grid points. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![t.val / 4, 5, 0, 0]
    ∧ win0_5.index t = ![0, 0]
    ∧ win0_6.index t = ![0, 0]
    ∧ win0_7.index t = ![0, 0]
    ∧ win0_8.index t = ![0, 0]
    ∧ win0_9.index t = ![t.val / 4, 7, 0, 0]
    ∧ win0_10.index t = ![t.val / 4, 6, 0, 0]
    ∧ win0_11.index t = ![t.val, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ t.val < 8 :=
  (by decide +kernel : ∀ t : Fin grid0.N, _)

/-- The first branch, one row per token. -/
theorem V_s (c : Dev nD) : (V m c main_v5 : S4096x512.Idx → EReal) = (truncf .bf16 (shapeCast S4096x512 (m ((c : Thread nD τ).loc main_arg0) : FVec Ideal S2x2048x512 .f32) shapeCasts_S2x2048x512_S4096x512) bitsLt_bf16_f32 : FVec Ideal S4096x512 .bf16) := by
  unfold V
  after_results <;> rfl

/-- The second branch, one row per token. -/
theorem V_t (c : Dev nD) : (V m c main_v7 : S4096x512.Idx → EReal) = (truncf .bf16 (shapeCast S4096x512 (m ((c : Thread nD τ).loc main_arg1) : FVec Ideal S2x2048x512 .f32) shapeCasts_S2x2048x512_S4096x512) bitsLt_bf16_f32 : FVec Ideal S4096x512 .bf16) := by
  unfold V
  after_results <;> rfl

/-- The two gates side by side, one row per token. -/
theorem V_g (c : Dev nD) : (V m c main_v3 : S4096x2048.Idx → EReal) = (truncf .bf16 (shapeCast S4096x2048 (concatenate S2x2048x2048 2 [⟨S2x2048x1024, (m ((c : Thread nD τ).loc main_arg2))⟩, ⟨S2x2048x1024, (m ((c : Thread nD τ).loc main_arg3))⟩] concatenates_S2x2048x1024_S2x2048x1024_S2x2048x2048_d2 : FVec Ideal S2x2048x2048 .f32) shapeCasts_S2x2048x2048_S4096x2048) bitsLt_bf16_f32 : FVec Ideal S4096x2048 .bf16) := by
  unfold V
  after_results <;> rfl

/-- The residual, one row per token. -/
theorem V_h (c : Dev nD) : (V m c main_v8 : S4096x1024.Idx → EReal) = (shapeCast S4096x1024 (m ((c : Thread nD τ).loc main_arg4) : FVec Ideal S2x2048x1024 .f32) shapeCasts_S2x2048x1024_S4096x1024 : FVec Ideal S4096x1024 .f32) := by
  unfold V
  after_results <;> rfl

/-- The nine modulation vectors, apart. -/
theorem V_m (c : Dev nD) : (V m c main_v0 : S2x9x1x1024.Idx → EReal) = (shapeCast S2x9x1x1024 (m ((c : Thread nD τ).loc main_arg5) : FVec Ideal S2x9216 .f32) shapeCasts_S2x9216_S2x9x1x1024 : FVec Ideal S2x9x1x1024 .f32) := by
  unfold V
  after_results <;> rfl

/-- A matrix as the call reads it. -/
theorem V_wa (c : Dev nD) : (V m c main_v9 : S512x1024.Idx → EReal) = (truncf .bf16 (m ((c : Thread nD τ).loc main_arg6) : FVec Ideal S512x1024 .f32) bitsLt_bf16_f32 : FVec Ideal S512x1024 .bf16) := by
  unfold V
  after_results <;> rfl

/-- A matrix as the call reads it. -/
theorem V_wb (c : Dev nD) : (V m c main_v10 : S512x1024.Idx → EReal) = (truncf .bf16 (m ((c : Thread nD τ).loc main_arg7) : FVec Ideal S512x1024 .f32) bitsLt_bf16_f32 : FVec Ideal S512x1024 .bf16) := by
  unfold V
  after_results <;> rfl

/-- A matrix as the call reads it. -/
theorem V_wo (c : Dev nD) : (V m c main_v11 : S1024x1024.Idx → EReal) = (truncf .bf16 (m ((c : Thread nD τ).loc main_arg8) : FVec Ideal S1024x1024 .f32) bitsLt_bf16_f32 : FVec Ideal S1024x1024 .bf16) := by
  unfold V
  after_results <;> rfl

/-- The block of the first branch. -/
theorem blk_s (c : Dev nD) (t : Fin cfg0.N) (r : Fin 512) (d : Fin 512) (b : Fin 2) (s : Fin 2048) (h : 2048 * b.val + s.val = 512 * t.val + r.val) :
    (iblk m c 0 t : S512x512.Idx → EReal) (ix2 r d) = ((m ((c : Thread nD τ).loc main_arg0)) : S2x2048x512.Idx → EReal) (ix3 b s d) := by
  have ht : t.val < 8 := (idx t).2.2.2.2.2.2.2.2.2.2.2.2.2.2.2.2.2
  have e0 := (idx t).1
  refine (congrFun (V_s m c) (((cfg0.win 0).blk t).view.emb (ix2 r d))).trans (halves_at _ _ b s d ?_ ?_) <;>
    (blk_simp [e0] <;> (try simp only []) <;> (try omega))

/-- The block of the second branch. -/
theorem blk_t (c : Dev nD) (t : Fin cfg0.N) (r : Fin 512) (d : Fin 512) (b : Fin 2) (s : Fin 2048) (h : 2048 * b.val + s.val = 512 * t.val + r.val) :
    (iblk m c 1 t : S512x512.Idx → EReal) (ix2 r d) = ((m ((c : Thread nD τ).loc main_arg1)) : S2x2048x512.Idx → EReal) (ix3 b s d) := by
  have ht : t.val < 8 := (idx t).2.2.2.2.2.2.2.2.2.2.2.2.2.2.2.2.2
  have e1 := (idx t).2.1
  refine (congrFun (V_t m c) (((cfg0.win 1).blk t).view.emb (ix2 r d))).trans (halves_at _ _ b s d ?_ ?_) <;>
    (blk_simp [e1] <;> (try simp only []) <;> (try omega))

/-- The block of the first gate. -/
theorem blk_ga (c : Dev nD) (t : Fin cfg0.N) (r : Fin 512) (d : Fin 1024) (b : Fin 2) (s : Fin 2048) (h : 2048 * b.val + s.val = 512 * t.val + r.val) :
    (iblk m c 2 t : S512x2048.Idx → EReal) (ix2 r ⟨d.val, by omega⟩) = ((m ((c : Thread nD τ).loc main_arg2)) : S2x2048x1024.Idx → EReal) (ix3 b s d) := by
  have ht : t.val < 8 := (idx t).2.2.2.2.2.2.2.2.2.2.2.2.2.2.2.2.2
  have e2 := (idx t).2.2.1
  refine (congrFun (V_g m c) (((cfg0.win 2).blk t).view.emb (ix2 r ⟨d.val, by omega⟩))).trans ((gates_at _ _ _ b s ⟨d.val, by omega⟩ ?_ ?_).trans (left_at (m ((c : Thread nD τ).loc main_arg2)) (m ((c : Thread nD τ).loc main_arg3)) b s d)) <;>
    (blk_simp [e2] <;> (try simp only []) <;> (try omega))

/-- The block of the second gate. -/
theorem blk_gb (c : Dev nD) (t : Fin cfg0.N) (r : Fin 512) (d : Fin 1024) (b : Fin 2) (s : Fin 2048) (h : 2048 * b.val + s.val = 512 * t.val + r.val) :
    (iblk m c 2 t : S512x2048.Idx → EReal) (ix2 r ⟨1024 + d.val, by omega⟩) = ((m ((c : Thread nD τ).loc main_arg3)) : S2x2048x1024.Idx → EReal) (ix3 b s d) := by
  have ht : t.val < 8 := (idx t).2.2.2.2.2.2.2.2.2.2.2.2.2.2.2.2.2
  have e2 := (idx t).2.2.1
  refine (congrFun (V_g m c) (((cfg0.win 2).blk t).view.emb (ix2 r ⟨1024 + d.val, by omega⟩))).trans ((gates_at _ _ _ b s ⟨1024 + d.val, by omega⟩ ?_ ?_).trans (right_at (m ((c : Thread nD τ).loc main_arg2)) (m ((c : Thread nD τ).loc main_arg3)) b s d)) <;>
    (blk_simp [e2] <;> (try simp only []) <;> (try omega))

/-- The block of the residual. -/
theorem blk_h (c : Dev nD) (t : Fin cfg0.N) (r : Fin 512) (d : Fin 1024) (b : Fin 2) (s : Fin 2048) (h : 2048 * b.val + s.val = 512 * t.val + r.val) :
    (iblk m c 3 t : S512x1024.Idx → EReal) (ix2 r d) = ((m ((c : Thread nD τ).loc main_arg4)) : S2x2048x1024.Idx → EReal) (ix3 b s d) := by
  have ht : t.val < 8 := (idx t).2.2.2.2.2.2.2.2.2.2.2.2.2.2.2.2.2
  have e3 := (idx t).2.2.2.1
  refine (congrFun (V_h m c) (((cfg0.win 3).blk t).view.emb (ix2 r d))).trans (rows_at _ _ b s d ?_ ?_) <;>
    (blk_simp [e3] <;> (try simp only []) <;> (try omega))

/-- The block of the modulation vectors: vector 5 of the token's sequence. -/
theorem blk_o (c : Dev nD) (t : Fin cfg0.N) (r : Fin 512) (d : Fin 1024) (b : Fin 2) (s : Fin 2048) (h : 2048 * b.val + s.val = 512 * t.val + r.val) :
    (iblk m c 4 t : S1x1x1x1024.Idx → EReal) (ix4 0 0 0 d) = Fw.md (m ((c : Thread nD τ).loc main_arg5)) 5 b d := by
  have ht : t.val < 8 := (idx t).2.2.2.2.2.2.2.2.2.2.2.2.2.2.2.2.2
  have e4 := (idx t).2.2.2.2.1
  refine (congrFun (V_m m c) (((cfg0.win 4).blk t).view.emb (ix4 0 0 0 d))).trans (mods_at _ _ b _ ?_ ?_) <;>
    (blk_simp [e4] <;> (try simp only []) <;> (try omega))

/-- The block of a matrix: all of it. -/
theorem blk_wa (c : Dev nD) (t : Fin cfg0.N) (r : Fin 512) (d : Fin 1024) : (iblk m c 5 t : S512x1024.Idx → EReal) (ix2 r d) = ((m ((c : Thread nD τ).loc main_arg6)) : S512x1024.Idx → EReal) (ix2 r d) := by
  have ht : t.val < 8 := (idx t).2.2.2.2.2.2.2.2.2.2.2.2.2.2.2.2.2
  have e := (idx t).2.2.2.2.2.1
  refine Eq.trans ?_ (congrFun (V_wa m c) (ix2 r d))
  blk_ext! [iblk, e]

/-- The block of a matrix: all of it. -/
theorem blk_wb (c : Dev nD) (t : Fin cfg0.N) (r : Fin 512) (d : Fin 1024) : (iblk m c 6 t : S512x1024.Idx → EReal) (ix2 r d) = ((m ((c : Thread nD τ).loc main_arg7)) : S512x1024.Idx → EReal) (ix2 r d) := by
  have ht : t.val < 8 := (idx t).2.2.2.2.2.2.2.2.2.2.2.2.2.2.2.2.2
  have e := (idx t).2.2.2.2.2.2.1
  refine Eq.trans ?_ (congrFun (V_wb m c) (ix2 r d))
  blk_ext! [iblk, e]

/-- The block of a matrix: all of it. -/
theorem blk_wo (c : Dev nD) (t : Fin cfg0.N) (r : Fin 1024) (d : Fin 1024) : (iblk m c 7 t : S1024x1024.Idx → EReal) (ix2 r d) = ((m ((c : Thread nD τ).loc main_arg8)) : S1024x1024.Idx → EReal) (ix2 r d) := by
  have ht : t.val < 8 := (idx t).2.2.2.2.2.2.2.2.2.2.2.2.2.2.2.2.2
  have e := (idx t).2.2.2.2.2.2.2.1
  refine Eq.trans ?_ (congrFun (V_wo m c) (ix2 r d))
  blk_ext! [iblk, e]

/-- A block that is a whole argument. -/
theorem blk_g (c : Dev nD) (t : Fin cfg0.N) (d : Fin 1024) : (iblk m c 8 t : S1x1024.Idx → EReal) (ix2 0 d) = ((m ((c : Thread nD τ).loc main_arg9)) : S1x1024.Idx → EReal) (ix2 0 d) := by
  have ht : t.val < 8 := (idx t).2.2.2.2.2.2.2.2.2.2.2.2.2.2.2.2.2
  have e8 := (idx t).2.2.2.2.2.2.2.2.1
  blk_ext! [iblk, e8]

/-- The block of the modulation vectors: vector 7 of the token's sequence. -/
theorem blk_c (c : Dev nD) (t : Fin cfg0.N) (r : Fin 512) (d : Fin 1024) (b : Fin 2) (s : Fin 2048) (h : 2048 * b.val + s.val = 512 * t.val + r.val) :
    (iblk m c 9 t : S1x1x1x1024.Idx → EReal) (ix4 0 0 0 d) = Fw.md (m ((c : Thread nD τ).loc main_arg5)) 7 b d := by
  have ht : t.val < 8 := (idx t).2.2.2.2.2.2.2.2.2.2.2.2.2.2.2.2.2
  have e9 := (idx t).2.2.2.2.2.2.2.2.2.1
  refine (congrFun (V_m m c) (((cfg0.win 9).blk t).view.emb (ix4 0 0 0 d))).trans (mods_at _ _ b _ ?_ ?_) <;>
    (blk_simp [e9] <;> (try simp only []) <;> (try omega))

/-- The block of the modulation vectors: vector 6 of the token's sequence. -/
theorem blk_z (c : Dev nD) (t : Fin cfg0.N) (r : Fin 512) (d : Fin 1024) (b : Fin 2) (s : Fin 2048) (h : 2048 * b.val + s.val = 512 * t.val + r.val) :
    (iblk m c 10 t : S1x1x1x1024.Idx → EReal) (ix4 0 0 0 d) = Fw.md (m ((c : Thread nD τ).loc main_arg5)) 6 b d := by
  have ht : t.val < 8 := (idx t).2.2.2.2.2.2.2.2.2.2.2.2.2.2.2.2.2
  have e10 := (idx t).2.2.2.2.2.2.2.2.2.2.1
  refine (congrFun (V_m m c) (((cfg0.win 10).blk t).view.emb (ix4 0 0 0 d))).trans (mods_at _ _ b _ ?_ ?_) <;>
    (blk_simp [e10] <;> (try simp only []) <;> (try omega))

/-- A block's row is a token of a sequence. -/
theorem token (t : Fin cfg0.N) (r : Fin 512) : ∃ (b : Fin 2) (s : Fin 2048), 2048 * b.val + s.val = 512 * t.val + r.val := by
  have ht : t.val < 8 := (idx t).2.2.2.2.2.2.2.2.2.2.2.2.2.2.2.2.2
  exact ⟨⟨(512 * t.val + r.val) / 2048, by omega⟩, ⟨(512 * t.val + r.val) % 2048, by omega⟩, by simp only []; omega⟩

/-- The two branches' products at one of a block's elements. -/
theorem ya_point (c : Dev nD) (t : Fin cfg0.N) (r : Fin 512) (d : Fin 1024) (b : Fin 2) (s : Fin 2048) (h : 2048 * b.val + s.val = 512 * t.val + r.val) :
    k0_pay1 (F := Ideal) (iblk m c 0 t) (iblk m c 5 t) (ix2 r d) = Fw.dot (m ((c : Thread nD τ).loc main_arg0)) (m ((c : Thread nD τ).loc main_arg6)) b s d := by
  unfold Fw.dot
  pointwise [k0_pay1]
  simp only [blk_s m c t r _ b s h, blk_wa m c t]

theorem yb_point (c : Dev nD) (t : Fin cfg0.N) (r : Fin 512) (d : Fin 1024) (b : Fin 2) (s : Fin 2048) (h : 2048 * b.val + s.val = 512 * t.val + r.val) :
    k0_pay2 (F := Ideal) (iblk m c 1 t) (iblk m c 6 t) (ix2 r d) = Fw.dot (m ((c : Thread nD τ).loc main_arg1)) (m ((c : Thread nD τ).loc main_arg7)) b s d := by
  unfold Fw.dot
  pointwise [k0_pay2]
  simp only [blk_t m c t r _ b s h, blk_wb m c t]

/-- The gated sum at one of a block's elements. -/
theorem g_point (c : Dev nD) (t : Fin cfg0.N) (r : Fin 512) (d : Fin 1024) (b : Fin 2) (s : Fin 2048) (h : 2048 * b.val + s.val = 512 * t.val + r.val) :
    k0_pay3 (F := Ideal) (iblk m c 0 t) (iblk m c 5 t) (iblk m c 1 t) (iblk m c 6 t) (View.ld (iblk m c 2 t) r0_2) (View.ld (iblk m c 2 t) r0_3) (ix2 r d)
      = Fw.gated (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) b s d := by
  unfold Fw.gated
  rw [← ya_point m c t r d b s h, ← yb_point m c t r d b s h, ← blk_ga m c t r d b s h, ← blk_gb m c t r d b s h]
  pointwise [k0_pay3]

/-- The product after it. -/
theorem m_point (c : Dev nD) (t : Fin cfg0.N) (r : Fin 512) (d : Fin 1024) (b : Fin 2) (s : Fin 2048) (h : 2048 * b.val + s.val = 512 * t.val + r.val) :
    k0_pay4 (F := Ideal) (iblk m c 0 t) (iblk m c 5 t) (iblk m c 1 t) (iblk m c 6 t) (View.ld (iblk m c 2 t) r0_2) (View.ld (iblk m c 2 t) r0_3) (iblk m c 7 t) (ix2 r d)
      = Fw.mixed (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) b s d := by
  unfold Fw.mixed
  pointwise [k0_pay4]
  simp only [g_point m c t r _ b s h, blk_wo m c t]

theorem m_block (c : Dev nD) (t : Fin cfg0.N) : k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)
    = k0_pay4 (F := Ideal) (iblk m c 0 t) (iblk m c 5 t) (iblk m c 1 t) (iblk m c 6 t) (View.ld (iblk m c 2 t) r0_2) (View.ld (iblk m c 2 t) r0_3) (iblk m c 7 t) := by
  unfold k0_pay10
  frame_out
  rfl

/-- The residual at one of a block's elements. -/
theorem y_point (c : Dev nD) (t : Fin cfg0.N) (r : Fin 512) (d : Fin 1024) (b : Fin 2) (s : Fin 2048) (h : 2048 * b.val + s.val = 512 * t.val + r.val) :
    k0_pay8 (F := Ideal) (k0_pay10 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t)) (iblk m c 3 t) (iblk m c 4 t) (ix2 r d) = Fw.res2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) b s d := by
  rw [Fw.res2, ← m_point m c t r d b s h, ← m_block m c t]
  pointwise [k0_pay8]
  simp only [blk_h m c t r d b s h, blk_o m c t r d b s h]

/-- The block's norm at one of its elements. -/
theorem nm_pay (f x : FVec Ideal S512x1024 .f32) (o sc sh : FVec Ideal S1x1x1x1024 .f32) (g : FVec Ideal S1x1024 .f32) (r : Fin 512) (d : Fin 1024) :
    k0_pay9 (F := Ideal) f x o g sc sh (ix2 r d) = Fw.nm (fun k => k0_pay8 (F := Ideal) f x o (ix2 r k)) (fun k => g (ix2 0 k)) (fun k => sc (ix4 0 0 0 k)) (fun k => sh (ix4 0 0 0 k)) d := by
  unfold Fw.nm
  pointwise [k0_pay9]

/-- A result array after the region. -/
theorem final11 (c : Dev nD) : (dats m 0 c).arrAt 11 cfg0.N = Fw.rows (Fw.dot (m ((c : Thread nD τ).loc main_arg0)) (m ((c : Thread nD τ).loc main_arg6))) := by
  refine (dats m 0 c).arrAt_eq_of_covers 11 _ (by decide +kernel) fun t hf y => ?_
  have ht : t.val < 8 := (idx t).2.2.2.2.2.2.2.2.2.2.2.2.2.2.2.2.2
  have e11 := (idx t).2.2.2.2.2.2.2.2.2.2.2.1
  idx_vars y
  blk_simp
  rw [after0_11]
  frame_out
  obtain ⟨b, s, h⟩ := token t y0
  rw [Fw.rows_of _ _ b s y1 (by blk_simp [e11]; omega) (by blk_simp [e11])]
  exact ya_point m c t y0 y1 b s h

/-- A result array after the region. -/
theorem final12 (c : Dev nD) : (dats m 0 c).arrAt 12 cfg0.N = Fw.rows (Fw.dot (m ((c : Thread nD τ).loc main_arg1)) (m ((c : Thread nD τ).loc main_arg7))) := by
  refine (dats m 0 c).arrAt_eq_of_covers 12 _ (by decide +kernel) fun t hf y => ?_
  have ht : t.val < 8 := (idx t).2.2.2.2.2.2.2.2.2.2.2.2.2.2.2.2.2
  have e12 := (idx t).2.2.2.2.2.2.2.2.2.2.2.2.1
  idx_vars y
  blk_simp
  rw [after0_12]
  frame_out
  obtain ⟨b, s, h⟩ := token t y0
  rw [Fw.rows_of _ _ b s y1 (by blk_simp [e12]; omega) (by blk_simp [e12])]
  exact yb_point m c t y0 y1 b s h

/-- A result array after the region. -/
theorem final13 (c : Dev nD) : (dats m 0 c).arrAt 13 cfg0.N = Fw.rows (Fw.gated (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7))) := by
  refine (dats m 0 c).arrAt_eq_of_covers 13 _ (by decide +kernel) fun t hf y => ?_
  have ht : t.val < 8 := (idx t).2.2.2.2.2.2.2.2.2.2.2.2.2.2.2.2.2
  have e13 := (idx t).2.2.2.2.2.2.2.2.2.2.2.2.2.1
  idx_vars y
  blk_simp
  rw [after0_13]
  frame_out
  obtain ⟨b, s, h⟩ := token t y0
  rw [Fw.rows_of _ _ b s y1 (by blk_simp [e13]; omega) (by blk_simp [e13])]
  exact g_point m c t y0 y1 b s h

/-- A result array after the region. -/
theorem final14 (c : Dev nD) : (dats m 0 c).arrAt 14 cfg0.N = Fw.rows (Fw.mixed (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))) := by
  refine (dats m 0 c).arrAt_eq_of_covers 14 _ (by decide +kernel) fun t hf y => ?_
  have ht : t.val < 8 := (idx t).2.2.2.2.2.2.2.2.2.2.2.2.2.2.2.2.2
  have e14 := (idx t).2.2.2.2.2.2.2.2.2.2.2.2.2.2.1
  idx_vars y
  blk_simp
  rw [after0_14]
  frame_out
  obtain ⟨b, s, h⟩ := token t y0
  rw [Fw.rows_of _ _ b s y1 (by blk_simp [e14]; omega) (by blk_simp [e14])]
  exact m_point m c t y0 y1 b s h

/-- A result array after the region. -/
theorem final15 (c : Dev nD) : (dats m 0 c).arrAt 15 cfg0.N = Fw.rows (Fw.res2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (dats m 0 c).arrAt_eq_of_covers 15 _ (by decide +kernel) fun t hf y => ?_
  have ht : t.val < 8 := (idx t).2.2.2.2.2.2.2.2.2.2.2.2.2.2.2.2.2
  have e15 := (idx t).2.2.2.2.2.2.2.2.2.2.2.2.2.2.2.1
  idx_vars y
  blk_simp
  rw [after0_15]
  frame_out
  obtain ⟨b, s, h⟩ := token t y0
  rw [Fw.rows_of _ _ b s y1 (by blk_simp [e15]; omega) (by blk_simp [e15])]
  exact y_point m c t y0 y1 b s h

/-- A result array after the region. -/
theorem final16 (c : Dev nD) : (dats m 0 c).arrAt 16 cfg0.N = Fw.rows (Fw.norm3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (dats m 0 c).arrAt_eq_of_covers 16 _ (by decide +kernel) fun t hf y => ?_
  have ht : t.val < 8 := (idx t).2.2.2.2.2.2.2.2.2.2.2.2.2.2.2.2.2
  have e16 := (idx t).2.2.2.2.2.2.2.2.2.2.2.2.2.2.2.2.1
  idx_vars y
  blk_simp
  rw [after0_16]
  frame_out
  obtain ⟨b, s, h⟩ := token t y0
  rw [Fw.rows_of _ _ b s y1 (by blk_simp [e16]; omega) (by blk_simp [e16])]
  refine (nm_pay _ _ _ _ _ _ y0 y1).trans ?_
  unfold Fw.norm3
  congr 1 <;> funext d
  · exact y_point m c t y0 d b s h
  · exact blk_g m c t d
  · exact blk_c m c t y0 d b s h
  · exact blk_z m c t y0 d b s h

end Cert.KernelMixFIdeal.Value

end
-- ==== Proof.MixFReference.lean ====
/- The mixer's forward lines as the reference writes them, read at their elements. -/
module

public import proofs.«01_k».proof.Proof.MixFValue
public import proofs.«01_k».proof.Proof.Gen.ReferenceMixFIdeal.Run

@[expose] public section

set_option maxRecDepth 16384

noncomputable section

namespace Cert.ReferenceMixFIdeal.Value

open Cert.ReferenceMixFIdeal Cert.ReferenceMixFIdeal.Gen Idealize.ShloMosaic Idealize.ShloMosaic.TcCoe Idealize.SL.Sem

/-- The modulated norm as the reference writes it. -/
abbrev nmR (E : FVec Ideal S2x2048x1024 .f32) (G : FVec Ideal S1x1024 .f32) (M : FVec Ideal S2x9216 .f32) : FVec Ideal S2x2048x1024 .f32 :=
  addf (mulf (mulf (mulf E (broadcastInDim S2x2048x1024 ![0, 1, 2] bcast_S2x2048x1_S2x2048x1024_0_1_2 (Host.rsqrt (addf (Host.divf (broadcastInDim S2x2048x1 ![0, 1] bcast_S2x2048_S2x2048x1_0_1 (Host.reduceAdd (mulf E E) (constant S_ .f32 0x00000000#32) reducesTo_S2x2048x1024_S2x2048_d2 h_S_)) (broadcastInDim S2x2048x1 ![] bcast_S_S2x2048x1 (constant S_ .f32 0x44800000#32))) (broadcastInDim S2x2048x1 ![] bcast_S_S2x2048x1 (constant S_ .f32 0x358637BD#32)))))) (broadcastInDim S2x2048x1024 ![0, 1, 2] bcast_S1x1x1024_S2x2048x1024_0_1_2 (broadcastInDim S1x1x1024 ![2] bcast_S1024_S1x1x1024_2 (shapeCast _ G shapeCasts_S1x1024_S1024)))) (broadcastInDim S2x2048x1024 ![0, 1, 2] bcast_S2x1x1024_S2x2048x1024_0_1_2 (addf (broadcastInDim S2x1x1024 ![] bcast_S_S2x1x1024 (constant S_ .f32 0x3F800000#32)) (broadcastInDim S2x1x1024 ![0, 2] bcast_S2x1024_S2x1x1024_0_2 (extractStridedSlice S2x1024 ![0, 7168] M slices_S2x9216_S2x1024_0_7168))))) (broadcastInDim S2x2048x1024 ![0, 1, 2] bcast_S2x1x1024_S2x2048x1024_0_1_2 (broadcastInDim S2x1x1024 ![0, 2] bcast_S2x1024_S2x1x1024_0_2 (extractStridedSlice S2x1024 ![0, 6144] M slices_S2x9216_S2x1024_0_6144)))

theorem nmR_at (E : FVec Ideal S2x2048x1024 .f32) (G : FVec Ideal S1x1024 .f32) (M : FVec Ideal S2x9216 .f32) (b : Fin 2) (s : Fin 2048) (d : Fin 1024) :
    nmR E G M (ix3 b s d) = Fw.nm (fun k => E (ix3 b s k)) (fun k => G (ix2 0 k)) (Fw.md M 7 b) (Fw.md M 6 b) d := by
  unfold Fw.nm Fw.md
  pointwise
  blk_ext []

/-- An array over the sequences, its rows one below the other. -/
theorem rows_eq (X : FVec Ideal S2x2048x1024 .f32) : (shapeCast S4096x1024 X shapeCasts_S2x2048x1024_S4096x1024 : FVec Ideal S4096x1024 .f32) = Fw.rows fun b s d => X (ix3 b s d) := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  exact (Cert.KernelMixFIdeal.Value.rows_at X (ix2 i0 i1) b s i1 h rfl).trans (Fw.rows_of (fun b s d => X (ix3 b s d)) (ix2 i0 i1) b s i1 h rfl).symm

theorem rows16_eq (X : FVec Ideal S2x2048x1024 .f32) : (truncf .bf16 (shapeCast S4096x1024 X shapeCasts_S2x2048x1024_S4096x1024) bitsLt_bf16_f32 : FVec Ideal S4096x1024 .bf16) = Fw.rows fun b s d => X (ix3 b s d) := by
  funext i
  rw [truncf_apply]
  exact congrFun (rows_eq X) i

theorem rows_congr (f g : Fin 2 → Fin 2048 → Fin 1024 → EReal) (h : ∀ b s d, f b s d = g b s d) : Fw.rows f = Fw.rows g :=
  congrArg Fw.rows (funext fun b => funext fun s => funext fun d => h b s d)

/-- The gated sum, the product after it and the residual as the reference writes them. -/
abbrev gR (S A : FVec Ideal S2x2048x512 .f32) (GA GB : FVec Ideal S2x2048x1024 .f32) (WA WB : FVec Ideal S512x1024 .f32) : FVec Ideal S2x2048x1024 .f32 := addf (mulf (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf GA)))) (Host.dotGeneral (φ₁ := .f32) (φ₂ := .f32) dot_S2x2048x512_S512x1024_S2x2048x1024_2_0_01_1_n_n none S WA : FVec Ideal S2x2048x1024 .f32)) (mulf (Host.divf (broadcastInDim S2x2048x1024 ![] bcast_S_S2x2048x1024 (constant S_ .f32 0x3F800000#32)) (addf (broadcastInDim S2x2048x1024 ![] bcast_S_S2x2048x1024 (constant S_ .f32 0x3F800000#32)) (Host.exp (Host.negf GB)))) (Host.dotGeneral (φ₁ := .f32) (φ₂ := .f32) dot_S2x2048x512_S512x1024_S2x2048x1024_2_0_01_1_n_n none A WB : FVec Ideal S2x2048x1024 .f32))
abbrev mR (S A : FVec Ideal S2x2048x512 .f32) (GA GB : FVec Ideal S2x2048x1024 .f32) (WA WB : FVec Ideal S512x1024 .f32) (WO : FVec Ideal S1024x1024 .f32) : FVec Ideal S2x2048x1024 .f32 := Host.dotGeneral dot_S2x2048x1024_S1024x1024_S2x2048x1024_2_0_01_1_n_n none (gR S A GA GB WA WB) WO
abbrev yR (S A : FVec Ideal S2x2048x512 .f32) (GA GB H : FVec Ideal S2x2048x1024 .f32) (M : FVec Ideal S2x9216 .f32) (WA WB : FVec Ideal S512x1024 .f32) (WO : FVec Ideal S1024x1024 .f32) : FVec Ideal S2x2048x1024 .f32 :=
  addf H (mulf (broadcastInDim S2x2048x1024 ![0, 1, 2] bcast_S2x1x1024_S2x2048x1024_0_1_2 (broadcastInDim S2x1x1024 ![0, 2] bcast_S2x1024_S2x1x1024_0_2 (extractStridedSlice S2x1024 ![0, 5120] M slices_S2x9216_S2x1024_0_5120))) (mR S A GA GB WA WB WO))

theorem p_at (X : FVec Ideal S2x2048x512 .f32) (W : FVec Ideal S512x1024 .f32) (b : Fin 2) (s : Fin 2048) (d : Fin 1024) : (Host.dotGeneral (φ₁ := .f32) (φ₂ := .f32) dot_S2x2048x512_S512x1024_S2x2048x1024_2_0_01_1_n_n none X W : FVec Ideal S2x2048x1024 .f32) (ix3 b s d) = Fw.dot X W b s d := by
  unfold Fw.dot
  pointwise

theorem gR_at (S A : FVec Ideal S2x2048x512 .f32) (GA GB : FVec Ideal S2x2048x1024 .f32) (WA WB : FVec Ideal S512x1024 .f32) (b : Fin 2) (s : Fin 2048) (d : Fin 1024) : gR S A GA GB WA WB (ix3 b s d) = Fw.gated S A GA GB WA WB b s d := by
  unfold Fw.gated Fw.dot
  pointwise
  rfl

theorem mR_at (S A : FVec Ideal S2x2048x512 .f32) (GA GB : FVec Ideal S2x2048x1024 .f32) (WA WB : FVec Ideal S512x1024 .f32) (WO : FVec Ideal S1024x1024 .f32) (b : Fin 2) (s : Fin 2048) (d : Fin 1024) : mR S A GA GB WA WB WO (ix3 b s d) = Fw.mixed S A GA GB WA WB WO b s d := by
  unfold Fw.mixed
  simp only [← gR_at]
  unfold mR
  generalize gR S A GA GB WA WB = Z
  pointwise

theorem yR_at (S A : FVec Ideal S2x2048x512 .f32) (GA GB H : FVec Ideal S2x2048x1024 .f32) (M : FVec Ideal S2x9216 .f32) (WA WB : FVec Ideal S512x1024 .f32) (WO : FVec Ideal S1024x1024 .f32) (b : Fin 2) (s : Fin 2048) (d : Fin 1024) : yR S A GA GB H M WA WB WO (ix3 b s d) = Fw.res2 S A GA GB H M WA WB WO b s d := by
  unfold Fw.res2 Fw.md
  rw [← mR_at]
  unfold yR
  generalize mR S A GA GB WA WB WO = Z
  pointwise
  blk_ext []

theorem p_eq (X : FVec Ideal S2x2048x512 .f32) (W : FVec Ideal S512x1024 .f32) : (truncf .bf16 (shapeCast S4096x1024 (Host.dotGeneral (φ₁ := .f32) (φ₂ := .f32) dot_S2x2048x512_S512x1024_S2x2048x1024_2_0_01_1_n_n none X W : FVec Ideal S2x2048x1024 .f32) shapeCasts_S2x2048x1024_S4096x1024) bitsLt_bf16_f32 : FVec Ideal S4096x1024 .bf16) = Fw.rows (Fw.dot X W) :=
  (rows16_eq _).trans (rows_congr _ _ (p_at X W))

theorem g_eq (S A : FVec Ideal S2x2048x512 .f32) (GA GB : FVec Ideal S2x2048x1024 .f32) (WA WB : FVec Ideal S512x1024 .f32) : (truncf .bf16 (shapeCast S4096x1024 (gR S A GA GB WA WB) shapeCasts_S2x2048x1024_S4096x1024) bitsLt_bf16_f32 : FVec Ideal S4096x1024 .bf16) = Fw.rows (Fw.gated S A GA GB WA WB) :=
  (rows16_eq _).trans (rows_congr _ _ (gR_at S A GA GB WA WB))

theorem m_eq (S A : FVec Ideal S2x2048x512 .f32) (GA GB : FVec Ideal S2x2048x1024 .f32) (WA WB : FVec Ideal S512x1024 .f32) (WO : FVec Ideal S1024x1024 .f32) : (truncf .bf16 (shapeCast S4096x1024 (mR S A GA GB WA WB WO) shapeCasts_S2x2048x1024_S4096x1024) bitsLt_bf16_f32 : FVec Ideal S4096x1024 .bf16) = Fw.rows (Fw.mixed S A GA GB WA WB WO) :=
  (rows16_eq _).trans (rows_congr _ _ (mR_at S A GA GB WA WB WO))

theorem y_eq (S A : FVec Ideal S2x2048x512 .f32) (GA GB H : FVec Ideal S2x2048x1024 .f32) (M : FVec Ideal S2x9216 .f32) (WA WB : FVec Ideal S512x1024 .f32) (WO : FVec Ideal S1024x1024 .f32) : (shapeCast S4096x1024 (yR S A GA GB H M WA WB WO) shapeCasts_S2x2048x1024_S4096x1024 : FVec Ideal S4096x1024 .f32) = Fw.rows (Fw.res2 S A GA GB H M WA WB WO) :=
  (rows_eq _).trans (rows_congr _ _ (yR_at S A GA GB H M WA WB WO))

theorem xn_eq (S A : FVec Ideal S2x2048x512 .f32) (GA GB H : FVec Ideal S2x2048x1024 .f32) (M : FVec Ideal S2x9216 .f32) (WA WB : FVec Ideal S512x1024 .f32) (WO : FVec Ideal S1024x1024 .f32) (G : FVec Ideal S1x1024 .f32) : (truncf .bf16 (shapeCast S4096x1024 (nmR (yR S A GA GB H M WA WB WO) G M) shapeCasts_S2x2048x1024_S4096x1024) bitsLt_bf16_f32 : FVec Ideal S4096x1024 .bf16) = Fw.rows (Fw.norm3 S A GA GB H M WA WB WO G) :=
  (rows16_eq _).trans (rows_congr _ _ fun b s d => (nmR_at _ G M b s d).trans (by
    unfold Fw.norm3
    rw [show (fun k => yR S A GA GB H M WA WB WO (ix3 b s k)) = Fw.res2 S A GA GB H M WA WB WO b s from funext fun k => yR_at S A GA GB H M WA WB WO b s k]))

end Cert.ReferenceMixFIdeal.Value

end
-- ==== Proof.MixFClaims.lean ====
/- The claims about the mixer's forward call. -/
module

public import proofs.«01_k».proof.Defs
public import proofs.«01_k».proof.Proof.Finite
public import proofs.«01_k».proof.Proof.MixFValue
public import proofs.«01_k».proof.Proof.MixFReference
public import proofs.«01_k».proof.Proof.Gen.KernelMixF.Frame
public import proofs.«01_k».proof.Proof.Gen.KernelMixFIdeal.Value

@[expose] public section

set_option maxRecDepth 16384

noncomputable section

namespace Cert.Proof.MixF

open Idealize.ShloMosaic Idealize.ShloMosaic.TcCoe Idealize.SL.Sem Cert.Reals

theorem frameR : Cert.quiescent_ReferenceMixFIdeal := fun m g _ =>
  (θ_run Cert.ReferenceMixFIdeal.defs _ _).mono (fun r h => ⟨fun c => (h c).2.2.2.2.2.2, sem_eq_zero_of_no_sems (by decide) r.2⟩) (Cert.ReferenceMixFIdeal.Value.run m g)

open Cert.KernelMixFIdeal Cert.KernelMixFIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v12_0) = (Fw.rows (Fw.dot (m ((c.tc : Thread nD τ).loc main_arg0)) (m ((c.tc : Thread nD τ).loc main_arg6))) : FVec Ideal S4096x1024 .bf16)
      ∧ r.2.mem ((c.tc : Thread nD τ).loc main_v12_1) = (Fw.rows (Fw.dot (m ((c.tc : Thread nD τ).loc main_arg1)) (m ((c.tc : Thread nD τ).loc main_arg7))) : FVec Ideal S4096x1024 .bf16)
      ∧ r.2.mem ((c.tc : Thread nD τ).loc main_v12_2) = (Fw.rows (Fw.gated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7))) : FVec Ideal S4096x1024 .bf16)
      ∧ r.2.mem ((c.tc : Thread nD τ).loc main_v12_3) = (Fw.rows (Fw.mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8))) : FVec Ideal S4096x1024 .bf16)
      ∧ r.2.mem ((c.tc : Thread nD τ).loc main_v12_4) = (Fw.rows (Fw.res2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) : FVec Ideal S4096x1024 .f32)
      ∧ r.2.mem ((c.tc : Thread nD τ).loc main_v12_5) = (Fw.rows (Fw.norm3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))) : FVec Ideal S4096x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans (Value.final11 m c), (h c).2.1.trans (Value.final12 m c), (h c).2.2.1.trans (Value.final13 m c), (h c).2.2.2.1.trans (Value.final14 m c), (h c).2.2.2.2.1.trans (Value.final15 m c), (h c).2.2.2.2.2.1.trans (Value.final16 m c), (h c).2.2.2.2.2.2⟩) (Value.run_blocks m g)

/-- At exact arithmetic the kernel's results are the reference's, for all arguments. -/
theorem algebraic : Cert.algebraic_KernelMixFIdeal_ReferenceMixFIdeal := by
  intro m g m' g' hpre hag
  refine ⟨_, _, _, _, _, _, run m g, (θ_run Cert.ReferenceMixFIdeal.defs _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.ReferenceMixFIdeal.Value.run m' g')⟩
  · obtain ⟨a0, a1, a2, a3, a4, a5, a6, a7, a8, a9⟩ := hag c
    refine (Cert.ReferenceMixFIdeal.Value.p_eq _ _ ).trans ?_
    rw [a0, a6]
  · obtain ⟨a0, a1, a2, a3, a4, a5, a6, a7, a8, a9⟩ := hag c
    refine (Cert.ReferenceMixFIdeal.Value.p_eq _ _ ).trans ?_
    rw [a1, a7]
  · obtain ⟨a0, a1, a2, a3, a4, a5, a6, a7, a8, a9⟩ := hag c
    refine (Cert.ReferenceMixFIdeal.Value.g_eq _ _ _ _ _ _ ).trans ?_
    rw [a0, a1, a2, a3, a6, a7]
  · obtain ⟨a0, a1, a2, a3, a4, a5, a6, a7, a8, a9⟩ := hag c
    refine (Cert.ReferenceMixFIdeal.Value.m_eq _ _ _ _ _ _ _ ).trans ?_
    rw [a0, a1, a2, a3, a6, a7, a8]
  · obtain ⟨a0, a1, a2, a3, a4, a5, a6, a7, a8, a9⟩ := hag c
    refine (Cert.ReferenceMixFIdeal.Value.y_eq _ _ _ _ _ _ _ _ _ ).trans ?_
    rw [a0, a1, a2, a3, a4, a5, a6, a7, a8]
  · obtain ⟨a0, a1, a2, a3, a4, a5, a6, a7, a8, a9⟩ := hag c
    refine (Cert.ReferenceMixFIdeal.Value.xn_eq _ _ _ _ _ _ _ _ _ _ ).trans ?_
    rw [a0, a1, a2, a3, a4, a5, a6, a7, a8, a9]

end Cert.Proof.MixF

end
-- ==== Proof.SguFMath.lean ====
/- The spatial gate at exact arithmetic: the gelu, the layer norm and the causal product over a chunk. -/
module

public import proofs.«01_k».proof.Proof.FwMath

@[expose] public section

set_option maxRecDepth 16384

noncomputable section

namespace Cert.SguF

open Idealize.ShloMosaic

/-- The gelu's two constants, a half, the number of features and the layer norm's constant. -/
def K : EReal := ((6693141 / 2 ^ 23 : ℝ) : EReal)
def C : EReal := ((8943 / 200000 : ℝ) : EReal)
def half : EReal := ((1 / 2 : ℝ) : EReal)
def n : EReal := ((512 : ℝ) : EReal)
def eps : EReal := ((8796093 / 2 ^ 43 : ℝ) : EReal)

def gl (x : EReal) : EReal := half * x * (1 + Ideal.tanh (K * (x + C * x * x * x)))
def mean (f : Fin 512 → EReal) : EReal := Ideal.div (∑ d, f d) n
def xc (v : Fin 512 → EReal) (d : Fin 512) : EReal := gl (v d) - mean fun d => gl (v d)
/-- The layer norm of the gelu of a token. -/
def vn (g b v : Fin 512 → EReal) (d : Fin 512) : EReal := xc v d * Ideal.rsqrt (mean (fun d => xc v d * xc v d) + eps) * g d + b d
/-- A chunk's result: the gate of each position comes from the positions up to it. -/
def out (u v : Fin 128 → Fin 512 → EReal) (g b : Fin 512 → EReal) (w : Fin 128 → Fin 128 → EReal) (bs : Fin 128 → EReal) (s : Fin 128) (c : Fin 512) : EReal :=
  gl (u s c) * (∑ t, (if t.val ≤ s.val then w s t else 0) * vn g b (v t) c + bs s)

/-- The 128 tokens of a chunk. -/
def chunk (X : (⟨3, ![2, 2048, 512]⟩ : Shape).Idx → EReal) (b : Fin 2) (q : Fin 16) (r : Fin 128) (d : Fin 512) : EReal := X (ix3 b ⟨128 * q.val + r.val, by omega⟩ d)

theorem chunk_at (X : (⟨3, ![2, 2048, 512]⟩ : Shape).Idx → EReal) (b : Fin 2) (q : Fin 16) (r : Fin 128) (d : Fin 512) (s : Fin 2048) (h : s.val = 128 * q.val + r.val) :
    X (ix3 b s d) = chunk X b q r d := congrArg (fun s => X (ix3 b s d)) (Fin.ext h)

/-- A chunk's result from the whole arrays; the weights and the offset are those of the feature's group. -/
def part (U V : (⟨3, ![2, 2048, 512]⟩ : Shape).Idx → EReal) (G B : (⟨2, ![1, 512]⟩ : Shape).Idx → EReal) (W : (⟨4, ![1, 4, 128, 128]⟩ : Shape).Idx → EReal)
    (S : (⟨3, ![1, 4, 128]⟩ : Shape).Idx → EReal) (b : Fin 2) (q : Fin 16) (h : Fin 4) : Fin 128 → Fin 512 → EReal :=
  out (chunk U b q) (chunk V b q) (fun d => G (ix2 0 d)) (fun d => B (ix2 0 d)) (fun r t => W (ix4 0 h r t)) (fun r => S (ix3 0 h r))

def gated (U V : (⟨3, ![2, 2048, 512]⟩ : Shape).Idx → EReal) (G B : (⟨2, ![1, 512]⟩ : Shape).Idx → EReal) (W : (⟨4, ![1, 4, 128, 128]⟩ : Shape).Idx → EReal)
    (S : (⟨3, ![1, 4, 128]⟩ : Shape).Idx → EReal) (b : Fin 2) (s : Fin 2048) (d : Fin 512) : EReal :=
  part U V G B W S b ⟨s.val / 128, by omega⟩ ⟨d.val / 128, by omega⟩ ⟨s.val % 128, by omega⟩ d

theorem gated_at (U V : (⟨3, ![2, 2048, 512]⟩ : Shape).Idx → EReal) (G B : (⟨2, ![1, 512]⟩ : Shape).Idx → EReal) (W : (⟨4, ![1, 4, 128, 128]⟩ : Shape).Idx → EReal)
    (S : (⟨3, ![1, 4, 128]⟩ : Shape).Idx → EReal) (b : Fin 2) (s : Fin 2048) (d : Fin 512) (q : Fin 16) (h : Fin 4) (r : Fin 128) (l : Fin 128)
    (hs : s.val = 128 * q.val + r.val) (hd : d.val = 128 * h.val + l.val) : gated U V G B W S b s d = part U V G B W S b q h r d := by
  unfold gated
  rw [show (⟨s.val / 128, by omega⟩ : Fin 16) = q from Fin.ext (by simp only []; omega), show (⟨d.val / 128, by omega⟩ : Fin 4) = h from Fin.ext (by simp only []; omega),
    show (⟨s.val % 128, by omega⟩ : Fin 128) = r from Fin.ext (by simp only []; omega)]

/-- The gelu with its factors in another order. -/
theorem gl_order (x : EReal) : x * (half * (1 + Ideal.tanh (K * (x + C * (x * x * x))))) = gl x := by
  rw [gl, mul_left_comm, ← mul_assoc]
  simp only [mul_assoc]

end Cert.SguF

end
-- ==== Proof.SguFValue.lean ====
/- The spatial gate's forward call: what the pipelined call leaves in its result. -/
module

public import proofs.«01_k».proof.Proof.SguFMath
public import proofs.«01_k».proof.Proof.Consts
public import proofs.«01_k».proof.Proof.Gen.KernelSguFIdeal.Value
public import Idealize.ShloMosaic.Lib.Pipeline.ValueKit
public import Idealize.ShloMosaic.Lib.Pointwise
public import Idealize.ShloMosaic.Lib.WordCmp
public import Idealize.ShloMosaic.Lib.Tactic

@[expose] public section

set_option maxRecDepth 16384

noncomputable section

namespace Cert.KernelSguFIdeal.Value

open Cert.KernelSguFIdeal Cert.KernelSguFIdeal.Gen Idealize.ShloMosaic Idealize.ShloMosaic.TcCoe Idealize.SL.Sem
open Cert.Consts
open Idealize.ShloMosaic.Pipeline (Dat)

variable (m : (ℓ : Loc nD τ sig) → Buf (Elt Ideal) ℓ)

theorem gelu_c (b : BitVec 32) : Named.named (F := Ideal) (φ := .f32) κ "gelu_c" b = ((8943 / 200000 : ℝ) : EReal) :=
  IdealRules.named_const.ideal_named_scalar (φ := .f32) κ "gelu_c" b _ rfl

/-! ## A chunk -/

variable (w : FVec Ideal S1x128x128 .f32) (o : FVec Ideal S128x1 .f32) (u v : FVec Ideal S128x512 .bf16) (g b : FVec Ideal S1x512 .f32)

/-- The gelu of the left half, the norm of the right one, and the causal weights. -/
abbrev cGl (u : FVec Ideal S128x512 .bf16) : FVec Ideal S128x512 .f32 := k0_pay10 (k0_pay7 u) (k0_pay8 u) (k0_pay9 (F := Ideal))

theorem cGl_at (r : Fin 128) (d : Fin 512) : cGl u (ix2 r d) = SguF.gl (u (ix2 r d)) := by
  pointwise [cGl, k0_pay10, k0_pay9, k0_pay8, k0_pay7, k0_pay6, gelu_c, geluK, half]
  rfl

theorem cVn_at (r : Fin 128) (d : Fin 512) : ((k0_pay11 v g b : FVec Ideal S128x512 .bf16) (ix2 r d) : EReal) = SguF.vn (fun d => g (ix2 0 d)) (fun d => b (ix2 0 d)) (fun d => v (ix2 r d)) d := by
  pointwise [k0_pay11, gelu_c, geluK, half, d512, Consts.eps]
  rfl

theorem cW_at (s t : Fin 128) : ((k0_pay2 w : FVec Ideal S128x128 .bf16) (ix2 s t) : EReal) = if t.val ≤ s.val then w (ix3 0 s t) else 0 := by
  pointwise [k0_pay2, k0_pay1]
  word_cmp

/-- The first group's piece of a chunk. -/
abbrev cut0 (w : FVec Ideal S1x128x128 .f32) (o : FVec Ideal S128x1 .f32) (u v : FVec Ideal S128x512 .bf16) (g b : FVec Ideal S1x512 .f32) : FVec Ideal S128x128 .bf16 := k0_pay13 (cGl u) (k0_pay12 (k0_pay2 w) v g b) o
theorem cut0_at (r l : Fin 128) (d : Fin 512) (hd : d.val = 0 + l.val) : cut0 w o u v g b (ix2 r l)
    = SguF.out (fun r d => u (ix2 r d)) (fun r d => v (ix2 r d)) (fun d => g (ix2 0 d)) (fun d => b (ix2 0 d)) (fun s t => w (ix3 0 s t)) (fun s => o (ix2 s 0)) r d := by
  obtain rfl : d = ⟨0 + l.val, Nat.lt_of_lt_of_le (Nat.add_lt_add_left l.isLt _) (by decide)⟩ := Fin.ext hd
  unfold SguF.out cut0
  simp only [← cGl_at, ← cVn_at, ← cW_at]
  unfold k0_pay12
  generalize cGl u = X
  generalize k0_pay11 (F := Ideal) v g b = Y
  generalize k0_pay2 (F := Ideal) w = Z
  pointwise [k0_pay13]

/-- The second group's piece of a chunk. -/
abbrev cut1 (w : FVec Ideal S1x128x128 .f32) (o : FVec Ideal S128x1 .f32) (u v : FVec Ideal S128x512 .bf16) (g b : FVec Ideal S1x512 .f32) : FVec Ideal S128x128 .bf16 := k0_pay14 (k0_pay2 w) (cGl u) (k0_pay11 v g b) o
theorem cut1_at (r l : Fin 128) (d : Fin 512) (hd : d.val = 128 + l.val) : cut1 w o u v g b (ix2 r l)
    = SguF.out (fun r d => u (ix2 r d)) (fun r d => v (ix2 r d)) (fun d => g (ix2 0 d)) (fun d => b (ix2 0 d)) (fun s t => w (ix3 0 s t)) (fun s => o (ix2 s 0)) r d := by
  obtain rfl : d = ⟨128 + l.val, Nat.lt_of_lt_of_le (Nat.add_lt_add_left l.isLt _) (by decide)⟩ := Fin.ext hd
  unfold SguF.out cut1
  simp only [← cGl_at, ← cVn_at, ← cW_at]

  generalize cGl u = X
  generalize k0_pay11 (F := Ideal) v g b = Y
  generalize k0_pay2 (F := Ideal) w = Z
  pointwise [k0_pay14]

/-- The third group's piece of a chunk. -/
abbrev cut2 (w : FVec Ideal S1x128x128 .f32) (o : FVec Ideal S128x1 .f32) (u v : FVec Ideal S128x512 .bf16) (g b : FVec Ideal S1x512 .f32) : FVec Ideal S128x128 .bf16 := k0_pay15 (k0_pay2 w) (cGl u) (k0_pay11 v g b) o
theorem cut2_at (r l : Fin 128) (d : Fin 512) (hd : d.val = 256 + l.val) : cut2 w o u v g b (ix2 r l)
    = SguF.out (fun r d => u (ix2 r d)) (fun r d => v (ix2 r d)) (fun d => g (ix2 0 d)) (fun d => b (ix2 0 d)) (fun s t => w (ix3 0 s t)) (fun s => o (ix2 s 0)) r d := by
  obtain rfl : d = ⟨256 + l.val, Nat.lt_of_lt_of_le (Nat.add_lt_add_left l.isLt _) (by decide)⟩ := Fin.ext hd
  unfold SguF.out cut2
  simp only [← cGl_at, ← cVn_at, ← cW_at]

  generalize cGl u = X
  generalize k0_pay11 (F := Ideal) v g b = Y
  generalize k0_pay2 (F := Ideal) w = Z
  pointwise [k0_pay15]

/-- The fourth group's piece of a chunk. -/
abbrev cut3 (w : FVec Ideal S1x128x128 .f32) (o : FVec Ideal S128x1 .f32) (u v : FVec Ideal S128x512 .bf16) (g b : FVec Ideal S1x512 .f32) : FVec Ideal S128x128 .bf16 := k0_pay16 (k0_pay2 w) (cGl u) (k0_pay11 v g b) o
theorem cut3_at (r l : Fin 128) (d : Fin 512) (hd : d.val = 384 + l.val) : cut3 w o u v g b (ix2 r l)
    = SguF.out (fun r d => u (ix2 r d)) (fun r d => v (ix2 r d)) (fun d => g (ix2 0 d)) (fun d => b (ix2 0 d)) (fun s t => w (ix3 0 s t)) (fun s => o (ix2 s 0)) r d := by
  obtain rfl : d = ⟨384 + l.val, Nat.lt_of_lt_of_le (Nat.add_lt_add_left l.isLt _) (by decide)⟩ := Fin.ext hd
  unfold SguF.out cut3
  simp only [← cGl_at, ← cVn_at, ← cW_at]

  generalize cGl u = X
  generalize k0_pay11 (F := Ideal) v g b = Y
  generalize k0_pay2 (F := Ideal) w = Z
  pointwise [k0_pay16]

/-! ## The blocks -/

/-- Every window's block index, over all eight grid points. -/
theorem idx : ∀ t : Fin cfg0.N, win0_0.index t = ![t.val, 0] ∧ win0_1.index t = ![0, 0] ∧ win0_2.index t = ![0, 0]
    ∧ win0_3.index t = ![0, 0, 0] ∧ win0_4.index t = ![0, 0] ∧ win0_5.index t = ![t.val, 0] ∧ t.val < 8 :=
  (by decide +kernel : ∀ t : Fin grid0.N, _)

theorem u_at (X Y : FVec Ideal S2x2048x512 .f32) (i : S4096x1024.Idx) (b : Fin 2) (s : Fin 2048) (d : Fin 512) (h : 2048 * b.val + s.val = (i 0).val)
    (hd : d.val = (i 1).val) : (truncf .bf16 (shapeCast S4096x1024 (concatenate S2x2048x1024 2 [⟨S2x2048x512, X⟩, ⟨S2x2048x512, Y⟩]
      concatenates_S2x2048x512_S2x2048x512_S2x2048x1024_d2) shapeCasts_S2x2048x1024_S4096x1024) bitsLt_bf16_f32 : FVec Ideal S4096x1024 .bf16) i = X (ix3 b s d) := by
  have e : i = ix2 ⟨2048 * b.val + s.val, by omega⟩ ⟨d.val, by omega⟩ := by blk_ext []
  rw [e]
  pointwise
  blk_ext []

theorem v_at (X Y : FVec Ideal S2x2048x512 .f32) (i : S4096x1024.Idx) (b : Fin 2) (s : Fin 2048) (d : Fin 512) (h : 2048 * b.val + s.val = (i 0).val)
    (hd : 512 + d.val = (i 1).val) : (truncf .bf16 (shapeCast S4096x1024 (concatenate S2x2048x1024 2 [⟨S2x2048x512, X⟩, ⟨S2x2048x512, Y⟩]
      concatenates_S2x2048x512_S2x2048x512_S2x2048x1024_d2) shapeCasts_S2x2048x1024_S4096x1024) bitsLt_bf16_f32 : FVec Ideal S4096x1024 .bf16) i = Y (ix3 b s d) := by
  have e : i = ix2 ⟨2048 * b.val + s.val, by omega⟩ ⟨512 + d.val, by omega⟩ := by blk_ext []
  rw [e]
  pointwise
  blk_ext []

theorem w_at (X : FVec Ideal S1x4x128x128 .f32) (i : S4x128x128.Idx) (h : Fin 4) (s t : Fin 128) (e0 : h.val = (i 0).val) (e1 : s.val = (i 1).val) (e2 : t.val = (i 2).val) :
    shapeCast S4x128x128 X shapeCasts_S1x4x128x128_S4x128x128 i = X (ix4 0 h s t) := by
  idx_vars i
  pointwise
  blk_ext []

theorem s_at (X : FVec Ideal S1x4x128 .f32) (i : S128x4.Idx) (h : Fin 4) (s : Fin 128) (e0 : s.val = (i 0).val) (e1 : h.val = (i 1).val) :
    transpose S128x4 [1, 0] (shapeCast S4x128 X shapeCasts_S1x4x128_S4x128) transposes_S4x128_S128x4_1_0 i = X (ix3 0 h s) := by
  idx_vars i
  pointwise
  blk_ext []

theorem V_p (c : Dev nD) : (V m c main_v2 : S4096x1024.Idx → EReal) = (truncf .bf16 (shapeCast S4096x1024 (concatenate S2x2048x1024 2
      [⟨S2x2048x512, (m ((c : Thread nD τ).loc main_arg0) : FVec Ideal S2x2048x512 .f32)⟩, ⟨S2x2048x512, (m ((c : Thread nD τ).loc main_arg1) : FVec Ideal S2x2048x512 .f32)⟩]
      concatenates_S2x2048x512_S2x2048x512_S2x2048x1024_d2) shapeCasts_S2x2048x1024_S4096x1024) bitsLt_bf16_f32 : FVec Ideal S4096x1024 .bf16) := by
  unfold V
  after_results <;> rfl

theorem V_w (c : Dev nD) : (V m c main_v3 : S4x128x128.Idx → EReal) = (shapeCast S4x128x128 (m ((c : Thread nD τ).loc main_arg4) : FVec Ideal S1x4x128x128 .f32)
      shapeCasts_S1x4x128x128_S4x128x128 : FVec Ideal S4x128x128 .f32) := by
  unfold V
  after_results <;> rfl

theorem V_s (c : Dev nD) : (V m c main_v5 : S128x4.Idx → EReal) = (transpose S128x4 [1, 0] (shapeCast S4x128 (m ((c : Thread nD τ).loc main_arg5) : FVec Ideal S1x4x128 .f32)
      shapeCasts_S1x4x128_S4x128) transposes_S4x128_S128x4_1_0 : FVec Ideal S128x4 .f32) := by
  unfold V
  after_results <;> rfl

/-- The layer norm's gain and offset. -/
theorem V_g (c : Dev nD) : (V m c main_arg2 : S1x512.Idx → EReal) = m ((c : Thread nD τ).loc main_arg2) := by
  unfold V
  after_results <;> rfl
theorem blk_g (c : Dev nD) (t : Fin cfg0.N) (d : Fin 512) : View.ld (iblk m c 1 t) r0_6 (ix2 0 d) = (m ((c : Thread nD τ).loc main_arg2) : S1x512.Idx → EReal) (ix2 0 d) := by
  have e1 := (idx t).2.1
  refine (congrFun (V_g m c) (((cfg0.win 1).blk t).view.emb _)).trans (congrArg _ (funext fun k => Fin.ext ?_))
  fin_cases k <;> (blk_simp [e1] <;> (try simp only [Rect.idx_unit_val]) <;> (try simp [ix2]))
theorem V_b (c : Dev nD) : (V m c main_arg3 : S1x512.Idx → EReal) = m ((c : Thread nD τ).loc main_arg3) := by
  unfold V
  after_results <;> rfl
theorem blk_b (c : Dev nD) (t : Fin cfg0.N) (d : Fin 512) : View.ld (iblk m c 2 t) r0_6 (ix2 0 d) = (m ((c : Thread nD τ).loc main_arg3) : S1x512.Idx → EReal) (ix2 0 d) := by
  have e2 := (idx t).2.2.1
  refine (congrFun (V_b m c) (((cfg0.win 2).blk t).view.emb _)).trans (congrArg _ (funext fun k => Fin.ext ?_))
  fin_cases k <;> (blk_simp [e2] <;> (try simp only [Rect.idx_unit_val]) <;> (try simp [ix2]))

theorem blk_w0 (c : Dev nD) (t : Fin cfg0.N) (s x : Fin 128) : View.ld (iblk m c 3 t) r0_0 (ix3 0 s x) = ((m ((c : Thread nD τ).loc main_arg4)) : S1x4x128x128.Idx → EReal) (ix4 0 0 s x) := by
  have e3 := (idx t).2.2.2.1
  refine (congrFun (V_w m c) (((cfg0.win 3).blk t).view.emb _)).trans (w_at _ _ _ _ _ ?_ ?_ ?_) <;> (blk_simp [e3] <;> (try simp only [Rect.idx_unit_val]) <;> (try simp [ix3, ix2]) <;> (try omega))
theorem blk_s0 (c : Dev nD) (t : Fin cfg0.N) (s : Fin 128) : View.ld (iblk m c 4 t) r0_7 (ix2 s 0) = ((m ((c : Thread nD τ).loc main_arg5)) : S1x4x128.Idx → EReal) (ix3 0 0 s) := by
  have e4 := (idx t).2.2.2.2.1
  refine (congrFun (V_s m c) (((cfg0.win 4).blk t).view.emb _)).trans (s_at _ _ _ _ ?_ ?_) <;> (blk_simp [e4] <;> (try simp only [Rect.idx_unit_val]) <;> (try simp [ix3, ix2]) <;> (try omega))
theorem blk_w1 (c : Dev nD) (t : Fin cfg0.N) (s x : Fin 128) : View.ld (iblk m c 3 t) r0_1 (ix3 0 s x) = ((m ((c : Thread nD τ).loc main_arg4)) : S1x4x128x128.Idx → EReal) (ix4 0 1 s x) := by
  have e3 := (idx t).2.2.2.1
  refine (congrFun (V_w m c) (((cfg0.win 3).blk t).view.emb _)).trans (w_at _ _ _ _ _ ?_ ?_ ?_) <;> (blk_simp [e3] <;> (try simp only [Rect.idx_unit_val]) <;> (try simp [ix3, ix2]) <;> (try omega))
theorem blk_s1 (c : Dev nD) (t : Fin cfg0.N) (s : Fin 128) : View.ld (iblk m c 4 t) r0_9 (ix2 s 0) = ((m ((c : Thread nD τ).loc main_arg5)) : S1x4x128.Idx → EReal) (ix3 0 1 s) := by
  have e4 := (idx t).2.2.2.2.1
  refine (congrFun (V_s m c) (((cfg0.win 4).blk t).view.emb _)).trans (s_at _ _ _ _ ?_ ?_) <;> (blk_simp [e4] <;> (try simp only [Rect.idx_unit_val]) <;> (try simp [ix3, ix2]) <;> (try omega))
theorem blk_w2 (c : Dev nD) (t : Fin cfg0.N) (s x : Fin 128) : View.ld (iblk m c 3 t) r0_2 (ix3 0 s x) = ((m ((c : Thread nD τ).loc main_arg4)) : S1x4x128x128.Idx → EReal) (ix4 0 2 s x) := by
  have e3 := (idx t).2.2.2.1
  refine (congrFun (V_w m c) (((cfg0.win 3).blk t).view.emb _)).trans (w_at _ _ _ _ _ ?_ ?_ ?_) <;> (blk_simp [e3] <;> (try simp only [Rect.idx_unit_val]) <;> (try simp [ix3, ix2]) <;> (try omega))
theorem blk_s2 (c : Dev nD) (t : Fin cfg0.N) (s : Fin 128) : View.ld (iblk m c 4 t) r0_11 (ix2 s 0) = ((m ((c : Thread nD τ).loc main_arg5)) : S1x4x128.Idx → EReal) (ix3 0 2 s) := by
  have e4 := (idx t).2.2.2.2.1
  refine (congrFun (V_s m c) (((cfg0.win 4).blk t).view.emb _)).trans (s_at _ _ _ _ ?_ ?_) <;> (blk_simp [e4] <;> (try simp only [Rect.idx_unit_val]) <;> (try simp [ix3, ix2]) <;> (try omega))
theorem blk_w3 (c : Dev nD) (t : Fin cfg0.N) (s x : Fin 128) : View.ld (iblk m c 3 t) r0_3 (ix3 0 s x) = ((m ((c : Thread nD τ).loc main_arg4)) : S1x4x128x128.Idx → EReal) (ix4 0 3 s x) := by
  have e3 := (idx t).2.2.2.1
  refine (congrFun (V_w m c) (((cfg0.win 3).blk t).view.emb _)).trans (w_at _ _ _ _ _ ?_ ?_ ?_) <;> (blk_simp [e3] <;> (try simp only [Rect.idx_unit_val]) <;> (try simp [ix3, ix2]) <;> (try omega))
theorem blk_s3 (c : Dev nD) (t : Fin cfg0.N) (s : Fin 128) : View.ld (iblk m c 4 t) r0_13 (ix2 s 0) = ((m ((c : Thread nD τ).loc main_arg5)) : S1x4x128.Idx → EReal) (ix3 0 3 s) := by
  have e4 := (idx t).2.2.2.2.1
  refine (congrFun (V_s m c) (((cfg0.win 4).blk t).view.emb _)).trans (s_at _ _ _ _ ?_ ?_) <;> (blk_simp [e4] <;> (try simp only [Rect.idx_unit_val]) <;> (try simp [ix3, ix2]) <;> (try omega))
theorem blk_u0 (c : Dev nD) (t : Fin cfg0.N) (b : Fin 2) (q : Fin 16) (hq : 16 * b.val + q.val = 4 * t.val + 0) (r : Fin 128) (d : Fin 512) :
    View.ld (iblk m c 0 t) r0_4 (ix2 r d) = SguF.chunk (m ((c : Thread nD τ).loc main_arg0)) b q r d := by
  have e0 := (idx t).1
  refine (congrFun (V_p m c) (((cfg0.win 0).blk t).view.emb _)).trans (u_at _ _ _ _ _ _ ?_ ?_) <;> (blk_simp [e0] <;> (try simp only [Rect.idx_unit_val]) <;> (try simp [ix3, ix2]) <;> (try omega))
theorem blk_v0 (c : Dev nD) (t : Fin cfg0.N) (b : Fin 2) (q : Fin 16) (hq : 16 * b.val + q.val = 4 * t.val + 0) (r : Fin 128) (d : Fin 512) :
    View.ld (iblk m c 0 t) r0_5 (ix2 r d) = SguF.chunk (m ((c : Thread nD τ).loc main_arg1)) b q r d := by
  have e0 := (idx t).1
  refine (congrFun (V_p m c) (((cfg0.win 0).blk t).view.emb _)).trans (v_at _ _ _ _ _ _ ?_ ?_) <;> (blk_simp [e0] <;> (try simp only [Rect.idx_unit_val]) <;> (try simp [ix3, ix2]) <;> (try omega))
theorem blk_u1 (c : Dev nD) (t : Fin cfg0.N) (b : Fin 2) (q : Fin 16) (hq : 16 * b.val + q.val = 4 * t.val + 1) (r : Fin 128) (d : Fin 512) :
    View.ld (iblk m c 0 t) r0_15 (ix2 r d) = SguF.chunk (m ((c : Thread nD τ).loc main_arg0)) b q r d := by
  have e0 := (idx t).1
  refine (congrFun (V_p m c) (((cfg0.win 0).blk t).view.emb _)).trans (u_at _ _ _ _ _ _ ?_ ?_) <;> (blk_simp [e0] <;> (try simp only [Rect.idx_unit_val]) <;> (try simp [ix3, ix2]) <;> (try omega))
theorem blk_v1 (c : Dev nD) (t : Fin cfg0.N) (b : Fin 2) (q : Fin 16) (hq : 16 * b.val + q.val = 4 * t.val + 1) (r : Fin 128) (d : Fin 512) :
    View.ld (iblk m c 0 t) r0_16 (ix2 r d) = SguF.chunk (m ((c : Thread nD τ).loc main_arg1)) b q r d := by
  have e0 := (idx t).1
  refine (congrFun (V_p m c) (((cfg0.win 0).blk t).view.emb _)).trans (v_at _ _ _ _ _ _ ?_ ?_) <;> (blk_simp [e0] <;> (try simp only [Rect.idx_unit_val]) <;> (try simp [ix3, ix2]) <;> (try omega))
theorem blk_u2 (c : Dev nD) (t : Fin cfg0.N) (b : Fin 2) (q : Fin 16) (hq : 16 * b.val + q.val = 4 * t.val + 2) (r : Fin 128) (d : Fin 512) :
    View.ld (iblk m c 0 t) r0_21 (ix2 r d) = SguF.chunk (m ((c : Thread nD τ).loc main_arg0)) b q r d := by
  have e0 := (idx t).1
  refine (congrFun (V_p m c) (((cfg0.win 0).blk t).view.emb _)).trans (u_at _ _ _ _ _ _ ?_ ?_) <;> (blk_simp [e0] <;> (try simp only [Rect.idx_unit_val]) <;> (try simp [ix3, ix2]) <;> (try omega))
theorem blk_v2 (c : Dev nD) (t : Fin cfg0.N) (b : Fin 2) (q : Fin 16) (hq : 16 * b.val + q.val = 4 * t.val + 2) (r : Fin 128) (d : Fin 512) :
    View.ld (iblk m c 0 t) r0_22 (ix2 r d) = SguF.chunk (m ((c : Thread nD τ).loc main_arg1)) b q r d := by
  have e0 := (idx t).1
  refine (congrFun (V_p m c) (((cfg0.win 0).blk t).view.emb _)).trans (v_at _ _ _ _ _ _ ?_ ?_) <;> (blk_simp [e0] <;> (try simp only [Rect.idx_unit_val]) <;> (try simp [ix3, ix2]) <;> (try omega))
theorem blk_u3 (c : Dev nD) (t : Fin cfg0.N) (b : Fin 2) (q : Fin 16) (hq : 16 * b.val + q.val = 4 * t.val + 3) (r : Fin 128) (d : Fin 512) :
    View.ld (iblk m c 0 t) r0_27 (ix2 r d) = SguF.chunk (m ((c : Thread nD τ).loc main_arg0)) b q r d := by
  have e0 := (idx t).1
  refine (congrFun (V_p m c) (((cfg0.win 0).blk t).view.emb _)).trans (u_at _ _ _ _ _ _ ?_ ?_) <;> (blk_simp [e0] <;> (try simp only [Rect.idx_unit_val]) <;> (try simp [ix3, ix2]) <;> (try omega))
theorem blk_v3 (c : Dev nD) (t : Fin cfg0.N) (b : Fin 2) (q : Fin 16) (hq : 16 * b.val + q.val = 4 * t.val + 3) (r : Fin 128) (d : Fin 512) :
    View.ld (iblk m c 0 t) r0_28 (ix2 r d) = SguF.chunk (m ((c : Thread nD τ).loc main_arg1)) b q r d := by
  have e0 := (idx t).1
  refine (congrFun (V_p m c) (((cfg0.win 0).blk t).view.emb _)).trans (v_at _ _ _ _ _ _ ?_ ?_) <;> (blk_simp [e0] <;> (try simp only [Rect.idx_unit_val]) <;> (try simp [ix3, ix2]) <;> (try omega))

/-! ## The result -/

section
variable (x0 : Vec Ideal S512x1024 .bf16) (x1 x2 : Vec Ideal S1x512 .f32) (x3 : Vec Ideal S4x128x128 .f32) (x4 : Vec Ideal S128x4 .f32)
theorem same00 :
    k0_pay13 (k0_pay51 x0 x1 x2 x3 x4) (k0_pay12 (k0_pay47 x0 x1 x2 x3 x4) (View.ld x0 r0_5) (View.ld x1 r0_6) (View.ld x2 r0_6)) (View.ld x4 r0_7) = cut0 (View.ld x3 r0_0) (View.ld x4 r0_7) (View.ld x0 r0_4) (View.ld x0 r0_5) (View.ld x1 r0_6) (View.ld x2 r0_6) := by sl_kernel_rfl
theorem same01 :
    k0_pay14 (k0_pay48 x0 x1 x2 x3 x4) (k0_pay51 x0 x1 x2 x3 x4) (k0_pay52 x0 x1 x2 x3 x4) (View.ld x4 r0_9) = cut1 (View.ld x3 r0_1) (View.ld x4 r0_9) (View.ld x0 r0_4) (View.ld x0 r0_5) (View.ld x1 r0_6) (View.ld x2 r0_6) := by sl_kernel_rfl
theorem same02 :
    k0_pay15 (k0_pay49 x0 x1 x2 x3 x4) (k0_pay51 x0 x1 x2 x3 x4) (k0_pay52 x0 x1 x2 x3 x4) (View.ld x4 r0_11) = cut2 (View.ld x3 r0_2) (View.ld x4 r0_11) (View.ld x0 r0_4) (View.ld x0 r0_5) (View.ld x1 r0_6) (View.ld x2 r0_6) := by sl_kernel_rfl
theorem same03 :
    k0_pay16 (k0_pay50 x0 x1 x2 x3 x4) (k0_pay51 x0 x1 x2 x3 x4) (k0_pay52 x0 x1 x2 x3 x4) (View.ld x4 r0_13) = cut3 (View.ld x3 r0_3) (View.ld x4 r0_13) (View.ld x0 r0_4) (View.ld x0 r0_5) (View.ld x1 r0_6) (View.ld x2 r0_6) := by sl_kernel_rfl
theorem same10 :
    k0_pay21 (k0_pay47 x0 x1 x2 x3 x4) (k0_pay53 x0 x1 x2 x3 x4) (k0_pay54 x0 x1 x2 x3 x4) (k0_pay55 x0 x1 x2 x3 x4) (Scalar.ofBits (F := Ideal) .f32 0x358637BD#32) (View.ld x1 r0_6) (View.ld x2 r0_6) (View.ld x4 r0_7) = cut0 (View.ld x3 r0_0) (View.ld x4 r0_7) (View.ld x0 r0_15) (View.ld x0 r0_16) (View.ld x1 r0_6) (View.ld x2 r0_6) := by sl_kernel_rfl
theorem same11 :
    k0_pay22 (k0_pay48 x0 x1 x2 x3 x4) (k0_pay53 x0 x1 x2 x3 x4) (k0_pay54 x0 x1 x2 x3 x4) (k0_pay55 x0 x1 x2 x3 x4) (Scalar.ofBits (F := Ideal) .f32 0x358637BD#32) (View.ld x1 r0_6) (View.ld x2 r0_6) (View.ld x4 r0_9) = cut1 (View.ld x3 r0_1) (View.ld x4 r0_9) (View.ld x0 r0_15) (View.ld x0 r0_16) (View.ld x1 r0_6) (View.ld x2 r0_6) := by sl_kernel_rfl
theorem same12 :
    k0_pay23 (k0_pay49 x0 x1 x2 x3 x4) (k0_pay53 x0 x1 x2 x3 x4) (k0_pay54 x0 x1 x2 x3 x4) (k0_pay55 x0 x1 x2 x3 x4) (Scalar.ofBits (F := Ideal) .f32 0x358637BD#32) (View.ld x1 r0_6) (View.ld x2 r0_6) (View.ld x4 r0_11) = cut2 (View.ld x3 r0_2) (View.ld x4 r0_11) (View.ld x0 r0_15) (View.ld x0 r0_16) (View.ld x1 r0_6) (View.ld x2 r0_6) := by sl_kernel_rfl
theorem same13 :
    k0_pay24 (k0_pay50 x0 x1 x2 x3 x4) (k0_pay53 x0 x1 x2 x3 x4) (k0_pay20 (k0_pay54 x0 x1 x2 x3 x4) (k0_pay55 x0 x1 x2 x3 x4) (Scalar.ofBits (F := Ideal) .f32 0x358637BD#32) (View.ld x1 r0_6) (View.ld x2 r0_6)) (View.ld x4 r0_13) = cut3 (View.ld x3 r0_3) (View.ld x4 r0_13) (View.ld x0 r0_15) (View.ld x0 r0_16) (View.ld x1 r0_6) (View.ld x2 r0_6) := by sl_kernel_rfl
theorem same20 :
    k0_pay30 (k0_pay47 x0 x1 x2 x3 x4) (k0_pay56 x0 x1 x2 x3 x4) (k0_pay57 x0 x1 x2 x3 x4) (k0_pay58 x0 x1 x2 x3 x4) (View.ld x1 r0_6) (View.ld x2 r0_6) (View.ld x4 r0_7) = cut0 (View.ld x3 r0_0) (View.ld x4 r0_7) (View.ld x0 r0_21) (View.ld x0 r0_22) (View.ld x1 r0_6) (View.ld x2 r0_6) := by sl_kernel_rfl
theorem same21 :
    k0_pay33 (k0_pay56 x0 x1 x2 x3 x4) (k0_pay31 (k0_pay48 x0 x1 x2 x3 x4) (k0_pay57 x0 x1 x2 x3 x4) (k0_pay58 x0 x1 x2 x3 x4) (View.ld x1 r0_6) (View.ld x2 r0_6)) (k0_pay32 (View.ld x4 r0_9)) = cut1 (View.ld x3 r0_1) (View.ld x4 r0_9) (View.ld x0 r0_21) (View.ld x0 r0_22) (View.ld x1 r0_6) (View.ld x2 r0_6) := by sl_kernel_rfl
theorem same22 :
    k0_pay34 (k0_pay49 x0 x1 x2 x3 x4) (k0_pay56 x0 x1 x2 x3 x4) (k0_pay59 x0 x1 x2 x3 x4) (View.ld x4 r0_11) = cut2 (View.ld x3 r0_2) (View.ld x4 r0_11) (View.ld x0 r0_21) (View.ld x0 r0_22) (View.ld x1 r0_6) (View.ld x2 r0_6) := by sl_kernel_rfl
theorem same23 :
    k0_pay35 (k0_pay50 x0 x1 x2 x3 x4) (k0_pay56 x0 x1 x2 x3 x4) (k0_pay59 x0 x1 x2 x3 x4) (View.ld x4 r0_13) = cut3 (View.ld x3 r0_3) (View.ld x4 r0_13) (View.ld x0 r0_21) (View.ld x0 r0_22) (View.ld x1 r0_6) (View.ld x2 r0_6) := by sl_kernel_rfl
theorem same30 :
    k0_pay43 (k0_pay60 x0 x1 x2 x3 x4) (k0_pay42 (k0_pay47 x0 x1 x2 x3 x4) (View.ld x0 r0_28) (View.ld x1 r0_6) (View.ld x2 r0_6)) (View.ld x4 r0_7) = cut0 (View.ld x3 r0_0) (View.ld x4 r0_7) (View.ld x0 r0_27) (View.ld x0 r0_28) (View.ld x1 r0_6) (View.ld x2 r0_6) := by sl_kernel_rfl
theorem same31 :
    k0_pay44 (k0_pay48 x0 x1 x2 x3 x4) (k0_pay60 x0 x1 x2 x3 x4) (k0_pay61 x0 x1 x2 x3 x4) (View.ld x4 r0_9) = cut1 (View.ld x3 r0_1) (View.ld x4 r0_9) (View.ld x0 r0_27) (View.ld x0 r0_28) (View.ld x1 r0_6) (View.ld x2 r0_6) := by sl_kernel_rfl
theorem same32 :
    k0_pay45 (k0_pay49 x0 x1 x2 x3 x4) (k0_pay60 x0 x1 x2 x3 x4) (k0_pay61 x0 x1 x2 x3 x4) (View.ld x4 r0_11) = cut2 (View.ld x3 r0_2) (View.ld x4 r0_11) (View.ld x0 r0_27) (View.ld x0 r0_28) (View.ld x1 r0_6) (View.ld x2 r0_6) := by sl_kernel_rfl
theorem same33 :
    k0_pay46 (k0_pay50 x0 x1 x2 x3 x4) (k0_pay60 x0 x1 x2 x3 x4) (k0_pay61 x0 x1 x2 x3 x4) (View.ld x4 r0_13) = cut3 (View.ld x3 r0_3) (View.ld x4 r0_13) (View.ld x0 r0_27) (View.ld x0 r0_28) (View.ld x1 r0_6) (View.ld x2 r0_6) := by sl_kernel_rfl
end

variable (c : Dev nD) (t : Fin cfg0.N)

/-- A piece of a block: chunk `n`, the features of group `h`. -/
theorem tile (n h : Fin 4) {C : FVec Ideal S128x128 .bf16} {w : FVec Ideal S1x128x128 .f32} {o : FVec Ideal S128x1 .f32} {u v : FVec Ideal S128x512 .bf16}
    (hC : ∀ (r l : Fin 128) (d : Fin 512), d.val = 128 * h.val + l.val → C (ix2 r l) = SguF.out (fun r d => u (ix2 r d)) (fun r d => v (ix2 r d))
      (fun d => View.ld (iblk m c 1 t) r0_6 (ix2 0 d)) (fun d => View.ld (iblk m c 2 t) r0_6 (ix2 0 d)) (fun s t => w (ix3 0 s t)) (fun s => o (ix2 s 0)) r d)
    (hw : ∀ s x, w (ix3 0 s x) = (m ((c : Thread nD τ).loc main_arg4) : S1x4x128x128.Idx → EReal) (ix4 0 h s x))
    (ho : ∀ s, o (ix2 s 0) = (m ((c : Thread nD τ).loc main_arg5) : S1x4x128.Idx → EReal) (ix3 0 h s))
    (hu : ∀ (b : Fin 2) (q : Fin 16), 16 * b.val + q.val = 4 * t.val + n.val → ∀ r d, u (ix2 r d) = SguF.chunk (m ((c : Thread nD τ).loc main_arg0)) b q r d)
    (hv : ∀ (b : Fin 2) (q : Fin 16), 16 * b.val + q.val = 4 * t.val + n.val → ∀ r d, v (ix2 r d) = SguF.chunk (m ((c : Thread nD τ).loc main_arg1)) b q r d)
    (y0 y1 : Fin 512) (x : S128x128.Idx) (ht : t.val < 8) (h0 : y0.val = 128 * n.val + (x 0).val) (h1 : y1.val = 128 * h.val + (x 1).val) :
    C x = SguF.gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨t.val / 4, by omega⟩ ⟨512 * (t.val % 4) + y0.val, by omega⟩ y1 := by
  have hq : 16 * (⟨t.val / 4, by omega⟩ : Fin 2).val + (⟨4 * (t.val % 4) + n.val, by omega⟩ : Fin 16).val = 4 * t.val + n.val := by simp only []; omega
  rw [SguF.gated_at _ _ _ _ _ _ _ _ y1 ⟨4 * (t.val % 4) + n.val, by omega⟩ h (x 0) (x 1) (by simp only []; omega) h1]
  refine (congrArg C (show x = ix2 (x 0) (x 1) from by funext k; fin_cases k <;> rfl)).trans ((hC _ _ y1 h1).trans ?_)
  simp only [hw, ho, hu _ _ hq, hv _ _ hq, blk_g m c t, blk_b m c t]
  rfl

set_option maxHeartbeats 8000000 in
theorem final5 : (dats m 0 c).arrAt 5 cfg0.N = Fw.rows (SguF.gated (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 5 _ (by decide +kernel) fun t hf y => ?_
  have ht : t.val < 8 := (idx t).2.2.2.2.2.2
  have e5 := (idx t).2.2.2.2.2.1
  idx_vars y
  blk_simp
  rw [after0_5]
  unfold out0_5
  rw [Fw.rows_of _ _ ⟨t.val / 4, by omega⟩ ⟨512 * (t.val % 4) + y0.val, by omega⟩ y1 (by blk_simp [e5]; simp only []; omega) (by blk_simp [e5])]
  canon_tiles x e
  · exact (congrFun (same33 _ _ _ _ _) x).trans (tile m c t 3 3 (cut3_at _ _ _ _ _ _) (blk_w3 m c t) (blk_s3 m c t) (blk_u3 m c t) (blk_v3 m c t) y0 y1 x ht (by simpa using e0) (by simpa using e1))
  · exact (congrFun (same32 _ _ _ _ _) x).trans (tile m c t 3 2 (cut2_at _ _ _ _ _ _) (blk_w2 m c t) (blk_s2 m c t) (blk_u3 m c t) (blk_v3 m c t) y0 y1 x ht (by simpa using e0) (by simpa using e1))
  · exact (congrFun (same31 _ _ _ _ _) x).trans (tile m c t 3 1 (cut1_at _ _ _ _ _ _) (blk_w1 m c t) (blk_s1 m c t) (blk_u3 m c t) (blk_v3 m c t) y0 y1 x ht (by simpa using e0) (by simpa using e1))
  · exact (congrFun (same30 _ _ _ _ _) x).trans (tile m c t 3 0 (cut0_at _ _ _ _ _ _) (blk_w0 m c t) (blk_s0 m c t) (blk_u3 m c t) (blk_v3 m c t) y0 y1 x ht (by simpa using e0) (by simpa using e1))
  · exact (congrFun (same23 _ _ _ _ _) x).trans (tile m c t 2 3 (cut3_at _ _ _ _ _ _) (blk_w3 m c t) (blk_s3 m c t) (blk_u2 m c t) (blk_v2 m c t) y0 y1 x ht (by simpa using e0) (by simpa using e1))
  · exact (congrFun (same22 _ _ _ _ _) x).trans (tile m c t 2 2 (cut2_at _ _ _ _ _ _) (blk_w2 m c t) (blk_s2 m c t) (blk_u2 m c t) (blk_v2 m c t) y0 y1 x ht (by simpa using e0) (by simpa using e1))
  · exact (congrFun (same21 _ _ _ _ _) x).trans (tile m c t 2 1 (cut1_at _ _ _ _ _ _) (blk_w1 m c t) (blk_s1 m c t) (blk_u2 m c t) (blk_v2 m c t) y0 y1 x ht (by simpa using e0) (by simpa using e1))
  · exact (congrFun (same20 _ _ _ _ _) x).trans (tile m c t 2 0 (cut0_at _ _ _ _ _ _) (blk_w0 m c t) (blk_s0 m c t) (blk_u2 m c t) (blk_v2 m c t) y0 y1 x ht (by simpa using e0) (by simpa using e1))
  · exact (congrFun (same13 _ _ _ _ _) x).trans (tile m c t 1 3 (cut3_at _ _ _ _ _ _) (blk_w3 m c t) (blk_s3 m c t) (blk_u1 m c t) (blk_v1 m c t) y0 y1 x ht (by simpa using e0) (by simpa using e1))
  · exact (congrFun (same12 _ _ _ _ _) x).trans (tile m c t 1 2 (cut2_at _ _ _ _ _ _) (blk_w2 m c t) (blk_s2 m c t) (blk_u1 m c t) (blk_v1 m c t) y0 y1 x ht (by simpa using e0) (by simpa using e1))
  · exact (congrFun (same11 _ _ _ _ _) x).trans (tile m c t 1 1 (cut1_at _ _ _ _ _ _) (blk_w1 m c t) (blk_s1 m c t) (blk_u1 m c t) (blk_v1 m c t) y0 y1 x ht (by simpa using e0) (by simpa using e1))
  · exact (congrFun (same10 _ _ _ _ _) x).trans (tile m c t 1 0 (cut0_at _ _ _ _ _ _) (blk_w0 m c t) (blk_s0 m c t) (blk_u1 m c t) (blk_v1 m c t) y0 y1 x ht (by simpa using e0) (by simpa using e1))
  · exact (congrFun (same03 _ _ _ _ _) x).trans (tile m c t 0 3 (cut3_at _ _ _ _ _ _) (blk_w3 m c t) (blk_s3 m c t) (blk_u0 m c t) (blk_v0 m c t) y0 y1 x ht (by simpa using e0) (by simpa using e1))
  · exact (congrFun (same02 _ _ _ _ _) x).trans (tile m c t 0 2 (cut2_at _ _ _ _ _ _) (blk_w2 m c t) (blk_s2 m c t) (blk_u0 m c t) (blk_v0 m c t) y0 y1 x ht (by simpa using e0) (by simpa using e1))
  · exact (congrFun (same01 _ _ _ _ _) x).trans (tile m c t 0 1 (cut1_at _ _ _ _ _ _) (blk_w1 m c t) (blk_s1 m c t) (blk_u0 m c t) (blk_v0 m c t) y0 y1 x ht (by simpa using e0) (by simpa using e1))
  · exact (congrFun (same00 _ _ _ _ _) x).trans (tile m c t 0 0 (cut0_at _ _ _ _ _ _) (blk_w0 m c t) (blk_s0 m c t) (blk_u0 m c t) (blk_v0 m c t) y0 y1 x ht (by simpa using e0) (by simpa using e1))

end Cert.KernelSguFIdeal.Value

end
-- ==== Proof.SguFReference.lean ====
/- The reference of the spatial gate's forward call, read at its elements. -/
module

public import proofs.«01_k».proof.Proof.SguFMath
public import proofs.«01_k».proof.Proof.Consts
public import proofs.«01_k».proof.Proof.Reals
public import proofs.«01_k».proof.Proof.Gen.ReferenceSguFIdeal.Run
public import Idealize.ShloMosaic.Lib.Pointwise
public import Idealize.ShloMosaic.Lib.Pipeline.ValueKit
public import Idealize.ShloMosaic.Lib.WordCmp

@[expose] public section

set_option maxRecDepth 16384

noncomputable section

namespace Cert.ReferenceSguFIdeal.Value

open Cert.ReferenceSguFIdeal Cert.ReferenceSguFIdeal.Gen Idealize.ShloMosaic Idealize.ShloMosaic.TcCoe Idealize.SL.Sem
open Cert.Consts

/-- The reference's stages: the gelu, the mean over the features, the centred values, the norm, the causal weights, and the gate by chunks. -/
abbrev gR (X : FVec Ideal S2x2048x512 .f32) : FVec Ideal S2x2048x512 .f32 := (mulf X (mulf (broadcastInDim S2x2048x512 ![] bcast_S_S2x2048x512 (constant S_ .f32 0x3F000000#32)) (addf (broadcastInDim S2x2048x512 ![] bcast_S_S2x2048x512 (constant S_ .f32 0x3F800000#32)) (Host.tanh (mulf (broadcastInDim S2x2048x512 ![] bcast_S_S2x2048x512 (constant S_ .f32 0x3F4C422A#32)) (addf X (mulf (broadcastInDim S2x2048x512 ![] bcast_S_S2x2048x512 (Host.divf (constant S_ .f32 0x460BBC00#32) (constant S_ .f32 0x48435000#32))) (mulf (mulf X X) X))))))))
abbrev mR (X : FVec Ideal S2x2048x512 .f32) : FVec Ideal S2x2048x1 .f32 := (Host.divf (broadcastInDim S2x2048x1 ![0, 1] bcast_S2x2048_S2x2048x1_0_1 (Host.reduceAdd (X) (constant S_ .f32 0x00000000#32) reducesTo_S2x2048x512_S2x2048_d2 h_S_)) (broadcastInDim S2x2048x1 ![] bcast_S_S2x2048x1 (constant S_ .f32 0x44000000#32)))
abbrev xR (X : FVec Ideal S2x2048x512 .f32) : FVec Ideal S2x2048x512 .f32 := subf (gR X) (broadcastInDim S2x2048x512 ![0, 1, 2] bcast_S2x2048x1_S2x2048x512_0_1_2 (mR (gR X)))
abbrev nR (X : FVec Ideal S2x2048x512 .f32) (G B : FVec Ideal S1x512 .f32) : FVec Ideal S2x2048x512 .f32 := addf (mulf (mulf (xR X) (broadcastInDim S2x2048x512 ![0, 1, 2] bcast_S2x2048x1_S2x2048x512_0_1_2 (Host.rsqrt (addf (mR (mulf (xR X) (xR X))) (broadcastInDim S2x2048x1 ![] bcast_S_S2x2048x1 (constant S_ .f32 0x358637BD#32)))))) (broadcastInDim S2x2048x512 ![0, 1, 2] bcast_S1x1x512_S2x2048x512_0_1_2 (broadcastInDim S1x1x512 ![2] bcast_S512_S1x1x512_2 (shapeCast S512 G shapeCasts_S1x512_S512)))) (broadcastInDim S2x2048x512 ![0, 1, 2] bcast_S1x1x512_S2x2048x512_0_1_2 (broadcastInDim S1x1x512 ![2] bcast_S512_S1x1x512_2 (shapeCast S512 B shapeCasts_S1x512_S512)))
abbrev wR (W : FVec Ideal S1x4x128x128 .f32) : FVec Ideal S4x128x128 .f32 := select (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (shapeCast S4x128x128 W shapeCasts_S1x4x128x128_S4x128x128) (broadcastInDim S4x128x128 ![] bcast_S_S4x128x128 (constant S_ .f32 0x00000000#32))
abbrev zR (Y : FVec Ideal S2x2048x512 .f32) (Z : FVec Ideal S4x128x128 .f32) (S : FVec Ideal S1x4x128 .f32) : FVec Ideal S2x16x128x4x128 .f32 :=
  addf (transpose S2x16x128x4x128 [1, 2, 4, 0, 3] (Host.dotGeneral dot_S2x16x128x4x128_S4x128x128_S4x2x16x128x128_2_2_014_1_3_0 none (shapeCast S2x16x128x4x128 Y shapeCasts_S2x2048x512_S2x16x128x4x128) Z) transposes_S4x2x16x128x128_S2x16x128x4x128_1_2_4_0_3) (broadcastInDim S2x16x128x4x128 ![0, 1, 2, 3, 4] bcast_S1x1x128x4x1_S2x16x128x4x128_0_1_2_3_4 (broadcastInDim S1x1x128x4x1 ![2, 3] bcast_S128x4_S1x1x128x4x1_2_3 (transpose S128x4 [1, 0] (shapeCast S4x128 S shapeCasts_S1x4x128_S4x128) transposes_S4x128_S128x4_1_0)))

theorem gR_at (X : FVec Ideal S2x2048x512 .f32) (b : Fin 2) (s : Fin 2048) (d : Fin 512) : gR X (ix3 b s d) = SguF.gl (X (ix3 b s d)) := by
  rw [← SguF.gl_order]
  pointwise [gR, geluK, half, c8943, c200000]
  rw [show Ideal.div ((8943 : ℝ) : EReal) ((200000 : ℝ) : EReal) = SguF.C from by rw [Cert.Reals.div_coe _ _ (by norm_num), SguF.C]; norm_num]
  rfl

theorem mR_at (X : FVec Ideal S2x2048x512 .f32) (b : Fin 2) (s : Fin 2048) : mR X (ix3 b s 0) = SguF.mean fun d => X (ix3 b s d) := by
  pointwise [mR, d512]
  rfl

theorem xR_at (X : FVec Ideal S2x2048x512 .f32) (b : Fin 2) (s : Fin 2048) (d : Fin 512) : xR X (ix3 b s d) = SguF.xc (fun d => X (ix3 b s d)) d := by
  unfold SguF.xc
  simp only [← gR_at]
  unfold xR
  rw [← mR_at]
  generalize mR (gR X) = M
  generalize gR X = N
  pointwise

theorem nR_at (X : FVec Ideal S2x2048x512 .f32) (G B : FVec Ideal S1x512 .f32) (b : Fin 2) (s : Fin 2048) (d : Fin 512) :
    nR X G B (ix3 b s d) = SguF.vn (fun d => G (ix2 0 d)) (fun d => B (ix2 0 d)) (fun d => X (ix3 b s d)) d := by
  unfold SguF.vn
  simp only [← xR_at]
  unfold nR
  have h := mR_at (mulf (xR X) (xR X)) b s
  rw [show (SguF.mean fun d => xR X (ix3 b s d) * xR X (ix3 b s d)) = mR (mulf (xR X) (xR X)) (ix3 b s 0) from h.symm]
  generalize mR (mulf (xR X) (xR X)) = M
  generalize xR X = N
  pointwise [Consts.eps]
  rfl

theorem sel_sel (c : BitVec 1) (x y : EReal) : Scalar.select (Scalar.select c 1#1 0#1) x y = Scalar.select c x y := by
  rcases (show c = 0#1 ∨ c = 1#1 by revert c; decide) with rfl | rfl <;> rfl
theorem addi_zero (x : BitVec 32) : IntOp.addi x 0#32 = x := BitVec.add_zero x

theorem wR_at (W : FVec Ideal S1x4x128x128 .f32) (h : Fin 4) (s t : Fin 128) : wR W (ix3 h s t) = if t.val ≤ s.val then W (ix4 0 h s t) else 0 := by
  pointwise [wR]
  rw [sel_sel, addi_zero]
  word_cmp

theorem zR_at (Y : FVec Ideal S2x2048x512 .f32) (Z : FVec Ideal S4x128x128 .f32) (S : FVec Ideal S1x4x128 .f32) (b : Fin 2) (q : Fin 16) (r : Fin 128) (h : Fin 4) (l : Fin 128) (d : Fin 512)
    (hd : d.val = 128 * h.val + l.val) :
    zR Y Z S (ix5 b q r h l) = ∑ t : Fin 128, Z (ix3 h r t) * SguF.chunk Y b q t d + S (ix3 0 h r) := by
  pointwise [zR]
  refine congrArg₂ (· + ·) (Finset.sum_congr rfl fun t _ => ?_) rfl
  rw [mul_comm]
  refine congrArg (Z (ix3 h r t) * ·) (congrArg Y ?_)
  blk_ext []

theorem res (m : (ℓ : Loc nD τ sig) → Buf (Elt Ideal) ℓ) (c : Dev nD) : (res_main_v71 (F := Ideal) m c : FVec Ideal S4096x512 .bf16)
    = Fw.rows (SguF.gated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) := by
  unfold res_main_v71
  generalize (m ((c.tc : Thread nD τ).loc main_arg0)) = U
  generalize (m ((c.tc : Thread nD τ).loc main_arg1)) = X
  generalize (m ((c.tc : Thread nD τ).loc main_arg2)) = G
  generalize (m ((c.tc : Thread nD τ).loc main_arg3)) = B
  generalize (m ((c.tc : Thread nD τ).loc main_arg4)) = W
  generalize (m ((c.tc : Thread nD τ).loc main_arg5)) = S
  change (truncf .bf16 (shapeCast S4096x512 (mulf (gR U) (shapeCast S2x2048x512 (zR (nR X G B) (wR W) S) shapeCasts_S2x16x128x4x128_S2x2048x512)) shapeCasts_S2x2048x512_S4096x512) bitsLt_bf16_f32 : FVec Ideal S4096x512 .bf16) = _
  funext i
  idx_vars i
  obtain ⟨b, q, r, h⟩ : ∃ (b : Fin 2) (q : Fin 16) (r : Fin 128), 2048 * b.val + 128 * q.val + r.val = i0.val :=
    ⟨⟨i0.val / 2048, by omega⟩, ⟨i0.val / 128 % 16, by omega⟩, ⟨i0.val % 128, by omega⟩, by simp only []; omega⟩
  obtain ⟨g, l, hl⟩ : ∃ (g : Fin 4) (l : Fin 128), i1.val = 128 * g.val + l.val := ⟨⟨i1.val / 128, by omega⟩, ⟨i1.val % 128, by omega⟩, by simp only []; omega⟩
  rw [Fw.rows_of _ _ b ⟨128 * q.val + r.val, by omega⟩ i1 (by simp only [ix2_0]; omega) rfl, SguF.gated_at _ _ _ _ _ _ _ _ i1 q g r l rfl hl]
  unfold SguF.part SguF.out
  have hz := zR_at (nR X G B) (wR W) S b q r g l i1 hl
  have hg := gR_at U b ⟨128 * q.val + r.val, by omega⟩ i1
  simp only [wR_at, SguF.chunk, nR_at] at hz
  refine Eq.trans ?_ (congrArg₂ (· * ·) hg hz)
  generalize zR (nR X G B) (wR W) S = Z
  generalize gR U = N
  pointwise
  refine congrArg₂ (· * ·) (congrArg N ?_) (congrArg Z ?_) <;> blk_ext []

end Cert.ReferenceSguFIdeal.Value

end
-- ==== Proof.SguFClaims.lean ====
/- The claims about the spatial gate's forward call. -/
module

public import proofs.«01_k».proof.Defs
public import proofs.«01_k».proof.Proof.SguFValue
public import proofs.«01_k».proof.Proof.SguFReference
public import proofs.«01_k».proof.Proof.Gen.KernelSguF.Frame

@[expose] public section

set_option maxRecDepth 16384

noncomputable section

namespace Cert.Proof.SguF

open Idealize.ShloMosaic Idealize.ShloMosaic.TcCoe Idealize.SL.Sem

theorem frameR : Cert.quiescent_ReferenceSguFIdeal := fun m g _ =>
  (θ_run Cert.ReferenceSguFIdeal.defs _ _).mono (fun r h => ⟨fun c => (h c).2, sem_eq_zero_of_no_sems (by decide) r.2⟩) (Cert.ReferenceSguFIdeal.Value.run m g)

theorem preserves : Cert.preserves_KernelSguF_KernelSguFIdeal :=
  IdealRules.named_const.statement Cert.KernelSguFIdeal.κ "gelu_c" .f32 0x3D372713#32 ((8943 / 200000 : ℝ) : EReal) rfl

open Cert.KernelSguFIdeal Cert.KernelSguFIdeal.Gen in
/-- The kernel's run: its result and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v6) = (Fw.rows (SguF.gated (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) : FVec Ideal S4096x512 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans (Value.final5 m c), (h c).2⟩) (Value.run_blocks m g)

/-- At exact arithmetic the kernel's result is the reference's. -/
theorem algebraic : Cert.algebraic_KernelSguFIdeal_ReferenceSguFIdeal := by
  intro m g m' g' _ hag
  refine ⟨_, run m g, (θ_run Cert.ReferenceSguFIdeal.defs _ _).mono (fun r h c => ⟨(h c).1.trans ?_, (h c).2⟩) (Cert.ReferenceSguFIdeal.Value.run m' g')⟩
  rw [Cert.ReferenceSguFIdeal.Value.res, (hag c).1, (hag c).2.1, (hag c).2.2.1, (hag c).2.2.2.1, (hag c).2.2.2.2.1, (hag c).2.2.2.2.2]

end Cert.Proof.SguF

end
-- ==== Proof.AdaFValue.lean ====
/- The conditioning: silu of the conditioning vectors, their product with the matrix, and the bias, as the pipelined call leaves it. -/
module

public import proofs.«01_k».proof.Proof.Gen.KernelAdaFIdeal.Frame
public import Idealize.ShloMosaic.Lib.Pipeline.ValueKit
public import Idealize.ShloMosaic.Lib.Pointwise

@[expose] public section

set_option maxRecDepth 16384

noncomputable section

namespace Cert.KernelAdaFIdeal.Value

open Cert.KernelAdaFIdeal Cert.KernelAdaFIdeal.Gen Idealize.ShloMosaic Idealize.ShloMosaic.TcCoe Idealize.SL.Sem
open Idealize.ShloMosaic.Pipeline (Dat)

/-- The modulation vectors of an example: silu of its conditioning times the matrix, plus the bias. -/
def mods (C : S16x1024.Idx → EReal) (W : S1024x2304.Idx → EReal) (B : S1x2304.Idx → EReal) (i : S16x2304.Idx) : EReal :=
  (∑ r : Fin 1024, C (ix2 (i 0) r) * Ideal.logistic (C (ix2 (i 0) r)) * W (ix2 r (i 1))) + B (ix2 0 (i 1))

theorem mods_at (C : S16x1024.Idx → EReal) (W : S1024x2304.Idx → EReal) (B : S1x2304.Idx → EReal) (i : S16x2304.Idx) (a : Fin 16) (b : Fin 2304)
    (ha : a.val = (i 0).val) (hb : b.val = (i 1).val) : mods C W B i = (∑ r : Fin 1024, C (ix2 a r) * Ideal.logistic (C (ix2 a r)) * W (ix2 r b)) + B (ix2 0 b) := by
  obtain rfl : a = i 0 := Fin.ext ha
  obtain rfl : b = i 1 := Fin.ext hb
  rfl

variable (m : (ℓ : Loc nD τ sig) → Buf (Elt Ideal) ℓ) (c : Dev nD)

/-- Every window's block index, over all three grid points. -/
theorem idx : ∀ t : Fin cfg0.N, win0_0.index t = ![0, 0] ∧ win0_1.index t = ![0, t.val] ∧ win0_2.index t = ![0, t.val] ∧ win0_3.index t = ![0, t.val] ∧ t.val < 3 :=
  (by decide +kernel : ∀ t : Fin grid0.N, _)

theorem b_c (t : Fin cfg0.N) : (iblk m c 0 t : S16x1024.Idx → EReal) = (m ((c : Thread nD τ).loc main_arg0)) := by
  have e := (idx t).1
  blk_ext! [iblk, e]
theorem b_w (t : Fin cfg0.N) (r : Fin 1024) (j : Fin 768) (b : Fin 2304) (h : b.val = 768 * t.val + j.val) :
    (iblk m c 1 t : S1024x768.Idx → EReal) (ix2 r j) = ((m ((c : Thread nD τ).loc main_arg1)) : S1024x2304.Idx → EReal) (ix2 r b) := by
  have e := (idx t).2.1
  refine congrArg ((m ((c : Thread nD τ).loc main_arg1)) : S1024x2304.Idx → EReal) ?_
  blk_ext [e]
theorem b_b (t : Fin cfg0.N) (j : Fin 768) (b : Fin 2304) (h : b.val = 768 * t.val + j.val) :
    (iblk m c 2 t : S1x768.Idx → EReal) (ix2 0 j) = ((m ((c : Thread nD τ).loc main_arg2)) : S1x2304.Idx → EReal) (ix2 0 b) := by
  have e := (idx t).2.2.1
  refine congrArg ((m ((c : Thread nD τ).loc main_arg2)) : S1x2304.Idx → EReal) ?_
  blk_ext [e]

/-- The block's payload at one of its elements. -/
theorem pay (C : FVec Ideal S16x1024 .f32) (W : FVec Ideal S1024x768 .f32) (B : FVec Ideal S1x768 .f32) (a : Fin 16) (j : Fin 768) :
    k0_pay1 (F := Ideal) C W B (ix2 a j) = (∑ r : Fin 1024, C (ix2 a r) * Ideal.logistic (C (ix2 a r)) * W (ix2 r j)) + B (ix2 0 j) := by
  pointwise [k0_pay1]

theorem final3 : ((dats m 0 c).arrAt 3 cfg0.N : S16x2304.Idx → EReal) = mods (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := (idx t).2.2.2.1
  have h3 := (idx t).2.2.2.2
  idx_vars y
  blk_simp
  rw [after0_3]
  frame_out
  have hb : 768 * t.val + y1.val < 2304 := by omega
  rw [b_c, mods_at _ _ _ _ y0 ⟨768 * t.val + y1.val, hb⟩ (by blk_simp [e]) (by blk_simp [e]; simp only []; omega)]
  refine (pay _ _ _ y0 y1).trans ?_
  rw [b_b m c t y1 ⟨768 * t.val + y1.val, hb⟩ rfl]
  congr 1
  exact Finset.sum_congr rfl fun r _ => congrArg _ (b_w m c t r y1 ⟨768 * t.val + y1.val, hb⟩ rfl)

end Cert.KernelAdaFIdeal.Value

end
-- ==== Proof.AdaFReference.lean ====
/- The conditioning as the reference writes it, read at its elements. -/
module

public import proofs.«01_k».proof.Proof.AdaFValue
public import proofs.«01_k».proof.Proof.Gen.ReferenceAdaFIdeal.Run
public import Idealize.ShloMosaic.Lib.Pipeline.ValueKit

@[expose] public section

set_option maxRecDepth 16384

noncomputable section

namespace Cert.ReferenceAdaFIdeal.Value

open Cert.ReferenceAdaFIdeal Cert.ReferenceAdaFIdeal.Gen Idealize.ShloMosaic Idealize.ShloMosaic.TcCoe Idealize.SL.Sem

theorem mods_eq (C : FVec Ideal S16x1024 .f32) (W : FVec Ideal S1024x2304 .f32) (B : FVec Ideal S1x2304 .f32) :
    (addf (Host.dotGeneral (φ₁ := .f32) (φ₂ := .f32) dot_S16x1024_S1024x2304_S16x2304_1_0_0_1_n_n none (mulf C (Host.divf (broadcastInDim S16x1024 ![] bcast_S_S16x1024 (constant S_ .f32 0x3F800000#32))
      (addf (broadcastInDim S16x1024 ![] bcast_S_S16x1024 (constant S_ .f32 0x3F800000#32)) (Host.exp (Host.negf C))))) W) (broadcastInDim S16x2304 ![0, 1] bcast_S1x2304_S16x2304_0_1 B) : FVec Ideal S16x2304 .f32)
      = Cert.KernelAdaFIdeal.Value.mods C W B := by
  funext i; idx_vars i
  pointwise [Cert.KernelAdaFIdeal.Value.mods]
  rfl

end Cert.ReferenceAdaFIdeal.Value

end
-- ==== Proof.AdaFClaims.lean ====
/- The claims about the conditioning. -/
module

public import proofs.«01_k».proof.Defs
public import proofs.«01_k».proof.Proof.AdaFValue
public import proofs.«01_k».proof.Proof.AdaFReference
public import proofs.«01_k».proof.Proof.Gen.KernelAdaF.Frame
public import proofs.«01_k».proof.Proof.Gen.KernelAdaFIdeal.Value

@[expose] public section

set_option maxRecDepth 16384

noncomputable section

namespace Cert.Proof.AdaF

open Idealize.ShloMosaic Idealize.ShloMosaic.TcCoe Idealize.SL.Sem

theorem frameR : Cert.quiescent_ReferenceAdaFIdeal := fun m g _ =>
  (θ_run Cert.ReferenceAdaFIdeal.defs _ _).mono (fun r h => ⟨fun c => (h c).2, sem_eq_zero_of_no_sems (by decide) r.2⟩) (Cert.ReferenceAdaFIdeal.Value.run m g)

open Cert.KernelAdaFIdeal Cert.KernelAdaFIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0) = (Cert.KernelAdaFIdeal.Value.mods (m ((c.tc : Thread nD τ).loc main_arg0)) (m ((c.tc : Thread nD τ).loc main_arg1)) (m ((c.tc : Thread nD τ).loc main_arg2)) : FVec Ideal S16x2304 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans (Value.final3 m c), (h c).2⟩) (Value.run_blocks m g)

/-- At exact arithmetic the kernel's results are the reference's, for all arguments. -/
theorem algebraic : Cert.algebraic_KernelAdaFIdeal_ReferenceAdaFIdeal := by
  intro m g m' g' hpre hag
  refine ⟨_, run m g, (θ_run Cert.ReferenceAdaFIdeal.defs _ _).mono (fun r h c => ⟨(h c).1.trans ?_, (h c).2⟩)
    (Cert.ReferenceAdaFIdeal.Value.run m' g')⟩
  obtain ⟨a0, a1, a2⟩ := hag c
  refine (Cert.ReferenceAdaFIdeal.Value.mods_eq _ _ _).trans ?_
  rw [a0, a1, a2]

end Cert.Proof.AdaF

end
-- ==== Proof.ProjValue.lean ====
/- The mixers' shared projection: the product's columns in three groups, as the pipelined call leaves them. -/
module

public import proofs.«01_k».proof.Proof.Gen.KernelProjIdeal.Frame
public import Idealize.ShloMosaic.Lib.Pipeline.ValueKit
public import Idealize.ShloMosaic.Lib.Pointwise
public import proofs.«01_k».proof.Proof.FwMath

@[expose] public section

set_option maxRecDepth 16384

noncomputable section

namespace Cert.KernelProjIdeal.Value

open Cert.KernelProjIdeal Cert.KernelProjIdeal.Gen Idealize.ShloMosaic Idealize.ShloMosaic.TcCoe Idealize.SL.Sem
open Idealize.ShloMosaic.Pipeline (Dat)

variable (m : (ℓ : Loc nD τ sig) → Buf (Elt Ideal) ℓ)

/-- Columns of the product from one on. -/
def part (n o : ℕ) (ho : o + n ≤ 3840) (X : Fw.Sq 1024) (W : Fw.Mat 1024 3840) : (⟨2, ![4096, n]⟩ : Shape).Idx → EReal :=
  Fw.rows fun b s (j : Fin n) => Fw.dot X W b s ⟨o + j.val, by omega⟩

/-- A shape cast from sequences to tokens, read at a token. -/
theorem rows_at (X : FVec Ideal S2x2048x1024 .f32) (i : S4096x1024.Idx) (b : Fin 2) (s : Fin 2048) (d : Fin 1024)
    (h : 2048 * b.val + s.val = (i 0).val) (hd : d.val = (i 1).val) : (truncf .bf16 (shapeCast S4096x1024 X shapeCasts_S2x2048x1024_S4096x1024) bitsLt_bf16_f32 : FVec Ideal S4096x1024 .bf16) i = X (ix3 b s d) := by
  idx_vars i
  pointwise
  blk_ext []

/-- The matrix transposed. -/
theorem wt_at (X : FVec Ideal S1024x3840 .f32) (i : S3840x1024.Idx) (k : Fin 3840) (d : Fin 1024) (hk : k.val = (i 0).val) (hd : d.val = (i 1).val) :
    (truncf .bf16 (transpose S3840x1024 [1, 0] X transposes_S1024x3840_S3840x1024_1_0) bitsLt_bf16_f32 : FVec Ideal S3840x1024 .bf16) i = X (ix2 d k) := by
  obtain rfl : k = i 0 := Fin.ext hk
  obtain rfl : d = i 1 := Fin.ext hd
  idx_vars i
  pointwise

/-- Every window's block index, over all grid points. -/
theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ t.val < 8 :=
  (by decide +kernel : ∀ t : Fin grid0.N, _)

theorem V_x (c : Dev nD) : (V m c main_v3 : S4096x1024.Idx → EReal) = (truncf .bf16 (shapeCast S4096x1024 ((m ((c : Thread nD τ).loc main_arg0)) : FVec Ideal S2x2048x1024 .f32) shapeCasts_S2x2048x1024_S4096x1024) bitsLt_bf16_f32 : FVec Ideal S4096x1024 .bf16) := by
  unfold V
  after_results <;> rfl

theorem V_w (c : Dev nD) : (V m c main_v1 : S3840x1024.Idx → EReal) = (truncf .bf16 (transpose S3840x1024 [1, 0] ((m ((c : Thread nD τ).loc main_arg1)) : FVec Ideal S1024x3840 .f32) transposes_S1024x3840_S3840x1024_1_0) bitsLt_bf16_f32 : FVec Ideal S3840x1024 .bf16) := by
  unfold V
  after_results <;> rfl

/-- The block of tokens. -/
theorem blk_x (c : Dev nD) (t : Fin cfg0.N) (r : Fin 512) (d : Fin 1024) (b : Fin 2) (s : Fin 2048) (h : 2048 * b.val + s.val = 512 * t.val + r.val) :
    (iblk m c 0 t : S512x1024.Idx → EReal) (ix2 r d) = ((m ((c : Thread nD τ).loc main_arg0)) : S2x2048x1024.Idx → EReal) (ix3 b s d) := by
  have e0 := (idx t).1
  refine (congrFun (V_x m c) (((cfg0.win 0).blk t).view.emb (ix2 r d))).trans (rows_at _ _ b s d ?_ ?_) <;>
    (blk_simp [e0] <;> (try simp only []) <;> (try omega))

/-- The block of the matrix: all of it. -/
theorem blk_w (c : Dev nD) (t : Fin cfg0.N) (k : Fin 3840) (d : Fin 1024) :
    (iblk m c 1 t : S3840x1024.Idx → EReal) (ix2 k d) = ((m ((c : Thread nD τ).loc main_arg1)) : S1024x3840.Idx → EReal) (ix2 d k) := by
  have e1 := (idx t).2.1
  refine (congrFun (V_w m c) (((cfg0.win 1).blk t).view.emb (ix2 k d))).trans (wt_at _ _ k d ?_ ?_) <;>
    (blk_simp [e1] <;> (try simp only []) <;> (try omega))

/-- A block's row is a token of a sequence. -/
theorem token (t : Fin cfg0.N) (r : Fin 512) : ∃ (b : Fin 2) (s : Fin 2048), 2048 * b.val + s.val = 512 * t.val + r.val := by
  have ht : t.val < 8 := (idx t).2.2.2.2.2
  exact ⟨⟨(512 * t.val + r.val) / 2048, by omega⟩, ⟨(512 * t.val + r.val) % 2048, by omega⟩, by simp only []; omega⟩

theorem pay2 (X : FVec Ideal S512x1024 .bf16) (W : FVec Ideal S1024x1024 .bf16) (r : Fin 512) (j : Fin 1024) :
    (k0_pay2 (F := Ideal) X W (ix2 r j) : EReal) = ∑ d : Fin 1024, (X (ix2 r d) : EReal) * W (ix2 j d) := by
  pointwise [k0_pay2, k0_pay1]

theorem final2 (c : Dev nD) : (dats m 0 c).arrAt 2 cfg0.N = part 1024 0 (by decide) (m ((c : Thread nD τ).loc main_arg0)) (m ((c : Thread nD τ).loc main_arg1)) := by
  refine (dats m 0 c).arrAt_eq_of_covers 2 _ (by decide +kernel) fun t hf y => ?_
  have e := (idx t).2.2.1
  idx_vars y
  blk_simp
  rw [after0_2]
  frame_out
  obtain ⟨b, s, h⟩ := token t y0
  unfold part
  rw [Fw.rows_of _ _ b s y1 (by blk_simp [e]; omega) (by blk_simp [e])]
  refine (pay2 _ _ y0 y1).trans (Finset.sum_congr rfl fun d _ => ?_)
  refine congrArg₂ (· * ·) (blk_x m c t y0 d b s h) (Eq.trans ?_ (blk_w m c t ⟨0 + y1.val, by omega⟩ d))
  refine congrArg (iblk m c 1 t : S3840x1024.Idx → EReal) ?_
  blk_ext [] <;> (simp only [Rect.idx_unit_val] <;> simp [ix2])

theorem pay3 (X : FVec Ideal S512x1024 .bf16) (W : FVec Ideal S768x1024 .bf16) (r : Fin 512) (j : Fin 768) :
    (k0_pay3 (F := Ideal) X W (ix2 r j) : EReal) = ∑ d : Fin 1024, (X (ix2 r d) : EReal) * W (ix2 j d) := by
  pointwise [k0_pay3, k0_pay1]

theorem final3 (c : Dev nD) : (dats m 0 c).arrAt 3 cfg0.N = part 768 1024 (by decide) (m ((c : Thread nD τ).loc main_arg0)) (m ((c : Thread nD τ).loc main_arg1)) := by
  refine (dats m 0 c).arrAt_eq_of_covers 3 _ (by decide +kernel) fun t hf y => ?_
  have e := (idx t).2.2.2.1
  idx_vars y
  blk_simp
  rw [after0_3]
  frame_out
  obtain ⟨b, s, h⟩ := token t y0
  unfold part
  rw [Fw.rows_of _ _ b s y1 (by blk_simp [e]; omega) (by blk_simp [e])]
  refine (pay3 _ _ y0 y1).trans (Finset.sum_congr rfl fun d _ => ?_)
  refine congrArg₂ (· * ·) (blk_x m c t y0 d b s h) (Eq.trans ?_ (blk_w m c t ⟨1024 + y1.val, by omega⟩ d))
  refine congrArg (iblk m c 1 t : S3840x1024.Idx → EReal) ?_
  blk_ext [] <;> (simp only [Rect.idx_unit_val] <;> simp [ix2])

theorem pay4 (X : FVec Ideal S512x1024 .bf16) (W : FVec Ideal S2048x1024 .bf16) (r : Fin 512) (j : Fin 2048) :
    (k0_pay4 (F := Ideal) X W (ix2 r j) : EReal) = ∑ d : Fin 1024, (X (ix2 r d) : EReal) * W (ix2 j d) := by
  pointwise [k0_pay4, k0_pay1]

theorem final4 (c : Dev nD) : (dats m 0 c).arrAt 4 cfg0.N = part 2048 1792 (by decide) (m ((c : Thread nD τ).loc main_arg0)) (m ((c : Thread nD τ).loc main_arg1)) := by
  refine (dats m 0 c).arrAt_eq_of_covers 4 _ (by decide +kernel) fun t hf y => ?_
  have e := (idx t).2.2.2.2.1
  idx_vars y
  blk_simp
  rw [after0_4]
  frame_out
  obtain ⟨b, s, h⟩ := token t y0
  unfold part
  rw [Fw.rows_of _ _ b s y1 (by blk_simp [e]; omega) (by blk_simp [e])]
  refine (pay4 _ _ y0 y1).trans (Finset.sum_congr rfl fun d _ => ?_)
  refine congrArg₂ (· * ·) (blk_x m c t y0 d b s h) (Eq.trans ?_ (blk_w m c t ⟨1792 + y1.val, by omega⟩ d))
  refine congrArg (iblk m c 1 t : S3840x1024.Idx → EReal) ?_
  blk_ext [] <;> (simp only [Rect.idx_unit_val] <;> simp [ix2])

end Cert.KernelProjIdeal.Value

end
-- ==== Proof.ProjReference.lean ====
/- The projection as the reference writes it, read at its elements. -/
module

public import proofs.«01_k».proof.Proof.ProjValue
public import proofs.«01_k».proof.Proof.Gen.ReferenceProjIdeal.Run
public import Idealize.ShloMosaic.Lib.Pipeline.ValueKit

@[expose] public section

set_option maxRecDepth 16384

noncomputable section

namespace Cert.ReferenceProjIdeal.Value

open Cert.ReferenceProjIdeal Cert.ReferenceProjIdeal.Gen Idealize.ShloMosaic Idealize.ShloMosaic.TcCoe Idealize.SL.Sem

theorem f_at (A : FVec Ideal S2x2048x1024 .f32) (W : FVec Ideal S1024x3840 .f32) (b : Fin 2) (s : Fin 2048) (d : Fin 3840) :
    (Host.dotGeneral dot_S2x2048x1024_S1024x3840_S2x2048x3840_2_0_01_1_n_n none A W : FVec Ideal S2x2048x3840 .f32) (ix3 b s d) = Fw.dot A W b s d := by
  unfold Fw.dot
  pointwise

/-- The product's rows one below the other. -/
theorem rows_at (X : FVec Ideal S2x2048x3840 .f32) (i : S4096x3840.Idx) (b : Fin 2) (s : Fin 2048) (d : Fin 3840)
    (h : 2048 * b.val + s.val = (i 0).val) (hd : d.val = (i 1).val) : (truncf .bf16 (shapeCast S4096x3840 X shapeCasts_S2x2048x3840_S4096x3840) bitsLt_bf16_f32 : FVec Ideal S4096x3840 .bf16) i = X (ix3 b s d) := by
  idx_vars i
  pointwise
  blk_ext []

/-- The product as the reference writes it. -/
abbrev prodR (A : FVec Ideal S2x2048x1024 .f32) (W : FVec Ideal S1024x3840 .f32) : FVec Ideal S4096x3840 .bf16 :=
  truncf .bf16 (shapeCast S4096x3840 (Host.dotGeneral dot_S2x2048x1024_S1024x3840_S2x2048x3840_2_0_01_1_n_n none A W : FVec Ideal S2x2048x3840 .f32) shapeCasts_S2x2048x3840_S4096x3840) bitsLt_bf16_f32

theorem part0_eq (A : FVec Ideal S2x2048x1024 .f32) (W : FVec Ideal S1024x3840 .f32) :
    (extractStridedSlice S4096x1024 ![0, 0] (prodR A W) slices_S4096x3840_S4096x1024_0_0 : FVec Ideal S4096x1024 .bf16) = Cert.KernelProjIdeal.Value.part 1024 0 (by decide) A W := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  unfold Cert.KernelProjIdeal.Value.part
  rw [Fw.rows_of _ (ix2 i0 i1) b s i1 h rfl]
  refine Eq.trans ?_ (f_at A W b s ⟨0 + i1.val, by omega⟩)
  unfold prodR
  generalize (Host.dotGeneral dot_S2x2048x1024_S1024x3840_S2x2048x3840_2_0_01_1_n_n none A W : FVec Ideal S2x2048x3840 .f32) = P
  pointwise
  blk_ext []

theorem part1024_eq (A : FVec Ideal S2x2048x1024 .f32) (W : FVec Ideal S1024x3840 .f32) :
    (extractStridedSlice S4096x768 ![0, 1024] (prodR A W) slices_S4096x3840_S4096x768_0_1024 : FVec Ideal S4096x768 .bf16) = Cert.KernelProjIdeal.Value.part 768 1024 (by decide) A W := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  unfold Cert.KernelProjIdeal.Value.part
  rw [Fw.rows_of _ (ix2 i0 i1) b s i1 h rfl]
  refine Eq.trans ?_ (f_at A W b s ⟨1024 + i1.val, by omega⟩)
  unfold prodR
  generalize (Host.dotGeneral dot_S2x2048x1024_S1024x3840_S2x2048x3840_2_0_01_1_n_n none A W : FVec Ideal S2x2048x3840 .f32) = P
  pointwise
  blk_ext []

theorem part1792_eq (A : FVec Ideal S2x2048x1024 .f32) (W : FVec Ideal S1024x3840 .f32) :
    (extractStridedSlice S4096x2048 ![0, 1792] (prodR A W) slices_S4096x3840_S4096x2048_0_1792 : FVec Ideal S4096x2048 .bf16) = Cert.KernelProjIdeal.Value.part 2048 1792 (by decide) A W := by
  funext i
  idx_vars i
  obtain ⟨b, s, h⟩ : ∃ (b : Fin 2) (s : Fin 2048), 2048 * b.val + s.val = i0.val :=
    ⟨⟨i0.val / 2048, by omega⟩, ⟨i0.val % 2048, by omega⟩, by simp only []; omega⟩
  unfold Cert.KernelProjIdeal.Value.part
  rw [Fw.rows_of _ (ix2 i0 i1) b s i1 h rfl]
  refine Eq.trans ?_ (f_at A W b s ⟨1792 + i1.val, by omega⟩)
  unfold prodR
  generalize (Host.dotGeneral dot_S2x2048x1024_S1024x3840_S2x2048x3840_2_0_01_1_n_n none A W : FVec Ideal S2x2048x3840 .f32) = P
  pointwise
  blk_ext []

end Cert.ReferenceProjIdeal.Value

end
-- ==== Proof.ProjClaims.lean ====
/- The claims about the mixers' shared projection. -/
module

public import proofs.«01_k».proof.Defs
public import proofs.«01_k».proof.Proof.ProjValue
public import proofs.«01_k».proof.Proof.ProjReference
public import proofs.«01_k».proof.Proof.Gen.KernelProj.Frame
public import proofs.«01_k».proof.Proof.Gen.KernelProjIdeal.Value

@[expose] public section

set_option maxRecDepth 16384

noncomputable section

namespace Cert.Proof.Proj

open Idealize.ShloMosaic Idealize.ShloMosaic.TcCoe Idealize.SL.Sem

theorem frameR : Cert.quiescent_ReferenceProjIdeal := fun m g _ =>
  (θ_run Cert.ReferenceProjIdeal.defs _ _).mono (fun r h => ⟨fun c => (h c).2.2.2, sem_eq_zero_of_no_sems (by decide) r.2⟩) (Cert.ReferenceProjIdeal.Value.run m g)

open Cert.KernelProjIdeal Cert.KernelProjIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v4_0) = (Cert.KernelProjIdeal.Value.part 1024 0 (by decide) (m ((c.tc : Thread nD τ).loc main_arg0)) (m ((c.tc : Thread nD τ).loc main_arg1)) : FVec Ideal S4096x1024 .bf16)
      ∧ r.2.mem ((c.tc : Thread nD τ).loc main_v4_1) = (Cert.KernelProjIdeal.Value.part 768 1024 (by decide) (m ((c.tc : Thread nD τ).loc main_arg0)) (m ((c.tc : Thread nD τ).loc main_arg1)) : FVec Ideal S4096x768 .bf16)
      ∧ r.2.mem ((c.tc : Thread nD τ).loc main_v4_2) = (Cert.KernelProjIdeal.Value.part 2048 1792 (by decide) (m ((c.tc : Thread nD τ).loc main_arg0)) (m ((c.tc : Thread nD τ).loc main_arg1)) : FVec Ideal S4096x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans (Value.final2 m c), (h c).2.1.trans (Value.final3 m c), (h c).2.2.1.trans (Value.final4 m c), (h c).2.2.2⟩) (Value.run_blocks m g)

/-- At exact arithmetic the kernel's results are the reference's, for all arguments. -/
theorem algebraic : Cert.algebraic_KernelProjIdeal_ReferenceProjIdeal := by
  intro m g m' g' hpre hag
  refine ⟨_, _, _, run m g, (θ_run Cert.ReferenceProjIdeal.defs _ _).mono (fun r h c => ⟨(h c).1.trans ?_, (h c).2.1.trans ?_, (h c).2.2.1.trans ?_, (h c).2.2.2⟩)
    (Cert.ReferenceProjIdeal.Value.run m' g')⟩
  · refine (Cert.ReferenceProjIdeal.Value.part0_eq _ _).trans ?_
    rw [(hag c).1, (hag c).2]
  · refine (Cert.ReferenceProjIdeal.Value.part1024_eq _ _).trans ?_
    rw [(hag c).1, (hag c).2]
  · refine (Cert.ReferenceProjIdeal.Value.part1792_eq _ _).trans ?_
    rw [(hag c).1, (hag c).2]

end Cert.Proof.Proj

end
-- ==== Proof.MmTnValue.lean ====
/- The gradients of the second feed-forward's two first matrices, as the pipelined call leaves them: summed over the two sequences at two points of the grid each. -/
module

public import proofs.«01_k».proof.Proof.Gen.KernelMmTnIdeal.Frame
public import Idealize.ShloMosaic.Lib.Pipeline.ValueKit
public import Idealize.ShloMosaic.Lib.Pointwise
public import Idealize.ShloMosaic.Lib.Pipeline.ReadBack
public import proofs.«01_k».proof.Proof.FwMath

@[expose] public section

set_option maxRecDepth 16384

noncomputable section

namespace Cert.KernelMmTnIdeal.Value

open Cert.KernelMmTnIdeal Cert.KernelMmTnIdeal.Gen Idealize.ShloMosaic Idealize.ShloMosaic.TcCoe Idealize.SL.Sem
open Idealize.ShloMosaic.Pipeline (Dat)

variable (m : (ℓ : Loc nD τ sig) → Buf (Elt Ideal) ℓ)

/-- A weight's gradient: the products of the two rows of every token, its rows in four parts. -/
def dw (G : Fw.Sq 2816) (X : Fw.Sq 1024) (i : S4x704x1024.Idx) : EReal :=
  ∑ b : Fin 2, ∑ s : Fin 2048, G (ix3 b s ⟨704 * (i 0).val + (i 1).val, by have h0 : (i 0).val < 4 := (i 0).isLt; have h1 : (i 1).val < 704 := (i 1).isLt; omega⟩) * X (ix3 b s (i 2))

theorem dw_at (G : Fw.Sq 2816) (X : Fw.Sq 1024) (i : S4x704x1024.Idx) (k : Fin 2816) (d : Fin 1024) (hk : k.val = 704 * (i 0).val + (i 1).val) (hd : d.val = (i 2).val) :
    dw G X i = (∑ s : Fin 2048, G (ix3 0 s k) * X (ix3 0 s d)) + ∑ s : Fin 2048, G (ix3 1 s k) * X (ix3 1 s d) := by
  obtain rfl : d = i 2 := Fin.ext hd
  unfold dw
  rw [Fin.sum_univ_two]
  rw [show (⟨704 * (i 0).val + (i 1).val, by rw [← hk]; exact k.isLt⟩ : Fin 2816) = k from Fin.ext hk.symm]

/-- A shape cast from sequences to tokens, read at a token. -/
theorem rows_at (X : FVec Ideal S2x2048x1024 .f32) (i : S4096x1024.Idx) (b : Fin 2) (s : Fin 2048) (d : Fin 1024)
    (h : 2048 * b.val + s.val = (i 0).val) (hd : d.val = (i 1).val) : (truncf .bf16 (shapeCast S4096x1024 X shapeCasts_S2x2048x1024_S4096x1024) bitsLt_bf16_f32 : FVec Ideal S4096x1024 .bf16) i = X (ix3 b s d) := by
  idx_vars i
  pointwise
  blk_ext []

/-- The hidden axis in four parts, read at a token. -/
theorem parts_at (X : FVec Ideal S2x2048x2816 .f32) (i : S4x4096x704.Idx) (b : Fin 2) (s : Fin 2048) (k : Fin 2816)
    (h : 2048 * b.val + s.val = (i 1).val) (hd : k.val = 704 * (i 0).val + (i 2).val) : (truncf .bf16 (transpose S4x4096x704 [1, 0, 2] (shapeCast S4096x4x704
    X shapeCasts_S2x2048x2816_S4096x4x704) transposes_S4096x4x704_S4x4096x704_1_0_2) bitsLt_bf16_f32 : FVec Ideal S4x4096x704 .bf16) i = X (ix3 b s k) := by
  idx_vars i
  pointwise
  blk_ext []

/-- Every window's block index, over all grid points. -/
theorem idx : ∀ t : Fin cfg0.N, win0_0.index t = ![t.val / 2, t.val % 2, 0] ∧ win0_1.index t = ![t.val % 2, 0] ∧ win0_2.index t = ![t.val / 2, t.val % 2, 0]
    ∧ win0_3.index t = ![t.val / 2, 0, 0] ∧ win0_4.index t = ![t.val / 2, 0, 0] ∧ t.val < 8 :=
  (by decide +kernel : ∀ t : Fin grid0.N, _)

theorem V_x (c : Dev nD) : (V m c main_v1 : S4096x1024.Idx → EReal) = (truncf .bf16 (shapeCast S4096x1024 ((m ((c : Thread nD τ).loc main_arg0)) : FVec Ideal S2x2048x1024 .f32) shapeCasts_S2x2048x1024_S4096x1024) bitsLt_bf16_f32 : FVec Ideal S4096x1024 .bf16) := by
  unfold V
  after_results <;> rfl

/-- The block of activations. -/
theorem blk_x (c : Dev nD) (t : Fin cfg0.N) (s : Fin 2048) (d : Fin 1024) (b : Fin 2) (h : b.val = t.val % 2) :
    (iblk m c 1 t : S2048x1024.Idx → EReal) (ix2 s d) = ((m ((c : Thread nD τ).loc main_arg0)) : S2x2048x1024.Idx → EReal) (ix3 b s d) := by
  have e := (idx t).2.1
  refine (congrFun (V_x m c) (((cfg0.win 1).blk t).view.emb (ix2 s d))).trans (rows_at _ _ b s d ?_ ?_) <;>
    (blk_simp [e] <;> (try simp only []) <;> (try omega))

theorem V_g (c : Dev nD) : (V m c main_v4 : S4x4096x704.Idx → EReal) = (truncf .bf16 (transpose S4x4096x704 [1, 0, 2] (shapeCast S4096x4x704 ((m ((c : Thread nD τ).loc main_arg3)) : FVec Ideal S2x2048x2816 .f32) shapeCasts_S2x2048x2816_S4096x4x704) transposes_S4096x4x704_S4x4096x704_1_0_2) bitsLt_bf16_f32 : FVec Ideal S4x4096x704 .bf16) := by
  unfold V
  after_results <;> rfl

/-- The block of cotangents. -/
theorem blk_g (c : Dev nD) (t : Fin cfg0.N) (s : Fin 2048) (l : Fin 704) (b : Fin 2) (k : Fin 2816) (h : b.val = t.val % 2) (hk : k.val = 704 * (t.val / 2) + l.val) :
    (iblk m c 0 t : S1x2048x704.Idx → EReal) (ix3 0 s l) = ((m ((c : Thread nD τ).loc main_arg3)) : S2x2048x2816.Idx → EReal) (ix3 b s k) := by
  have e := (idx t).1
  refine (congrFun (V_g m c) (((cfg0.win 0).blk t).view.emb (ix3 0 s l))).trans (parts_at _ _ b s k ?_ ?_) <;>
    (blk_simp [e] <;> (try simp only []) <;> (try omega))

theorem V_u (c : Dev nD) : (V m c main_v7 : S4x4096x704.Idx → EReal) = (truncf .bf16 (transpose S4x4096x704 [1, 0, 2] (shapeCast S4096x4x704 ((m ((c : Thread nD τ).loc main_arg4)) : FVec Ideal S2x2048x2816 .f32) shapeCasts_S2x2048x2816_S4096x4x704) transposes_S4096x4x704_S4x4096x704_1_0_2) bitsLt_bf16_f32 : FVec Ideal S4x4096x704 .bf16) := by
  unfold V
  after_results <;> rfl

/-- The block of cotangents. -/
theorem blk_u (c : Dev nD) (t : Fin cfg0.N) (s : Fin 2048) (l : Fin 704) (b : Fin 2) (k : Fin 2816) (h : b.val = t.val % 2) (hk : k.val = 704 * (t.val / 2) + l.val) :
    (iblk m c 2 t : S1x2048x704.Idx → EReal) (ix3 0 s l) = ((m ((c : Thread nD τ).loc main_arg4)) : S2x2048x2816.Idx → EReal) (ix3 b s k) := by
  have e := (idx t).2.2.1
  refine (congrFun (V_u m c) (((cfg0.win 2).blk t).view.emb (ix3 0 s l))).trans (parts_at _ _ b s k ?_ ?_) <;>
    (blk_simp [e] <;> (try simp only []) <;> (try omega))

/-- One sequence's part of the product. -/
theorem pay (A : FVec Ideal S1x2048x704 .bf16) (X : FVec Ideal S2048x1024 .bf16) (l : Fin 704) (d : Fin 1024) :
    k0_pay1 (F := Ideal) A X (ix2 l d) = ∑ s : Fin 2048, (A (ix3 0 s l) : EReal) * X (ix2 s d) := by
  pointwise [k0_pay1]
theorem pay' (A : FVec Ideal S1x2048x704 .bf16) (X : FVec Ideal S2048x1024 .bf16) : k0_pay4 (F := Ideal) A X = k0_pay1 A X := rfl

/-- What is stored at a run's second point: the first sequence's part and the second's. -/
theorem pay_sum (A A' : FVec Ideal S1x2048x704 .bf16) (X X' : FVec Ideal S2048x1024 .bf16) (l : Fin 704) (d : Fin 1024) :
    (k0_pay7 (F := Ideal) (k0_pay3 (F := Ideal) A' X' (k0_pay2 (F := Ideal) A X)) (ix3 0 l d) : EReal) = (∑ s : Fin 2048, (A (ix3 0 s l) : EReal) * X (ix2 s d)) + ∑ s : Fin 2048, (A' (ix3 0 s l) : EReal) * X' (ix2 s d) := by
  rw [← pay A X l d, ← pay A' X' l d]
  unfold k0_pay3 k0_pay2
  generalize k0_pay1 (F := Ideal) A X = Z
  generalize k0_pay1 (F := Ideal) A' X' = Z'
  pointwise [k0_pay7]
theorem pay_sum' (A A' : FVec Ideal S1x2048x704 .bf16) (X X' : FVec Ideal S2048x1024 .bf16) :
    k0_pay8 (F := Ideal) (k0_pay6 (F := Ideal) A' X' (k0_pay5 (F := Ideal) A X)) = k0_pay7 (F := Ideal) (k0_pay3 (F := Ideal) A' X' (k0_pay2 (F := Ideal) A X)) := rfl

/-- A second point of a run and the first point before it. -/
theorem before (t : Fin cfg0.N) (h : t.val % 2 = 1) : ∃ u : Fin cfg0.N, u.val = t.val - 1 ∧ u.val % 2 = 0 ∧ u.val / 2 = t.val / 2 :=
  ⟨⟨t.val - 1, Nat.lt_of_le_of_lt (Nat.sub_le _ _) t.isLt⟩, rfl, by simp only []; omega, by simp only []; omega⟩

theorem fin3 (c : Dev nD) : (dats m 0 c).arrAt 3 cfg0.N = dw (m ((c : Thread nD τ).loc main_arg3)) (m ((c : Thread nD τ).loc main_arg0)) := by
  refine (dats m 0 c).arrAt_eq_of_covers 3 _ (by decide +kernel) fun t hf y => ?_
  have hodd : t.val % 2 = 1 := (flush0_3 t).mp hf
  have e := (idx t).2.2.2.1
  have h8 := (idx t).2.2.2.2.2
  obtain ⟨u, hu, hev, hq⟩ := before t hodd
  have hs : (outsAt0 m c (t.val - 1) (Nat.lt_of_le_of_lt (Nat.sub_le _ _) t.isLt)) = outsAt0 m c u.val u.isLt := by
    congr 1
    exact hu.symm
  idx_vars y
  obtain rfl : y0 = 0 := Subsingleton.elim _ _
  blk_simp
  rw [after0_3, outsAt0_B m c t (by omega) hodd (by omega) hodd hodd, hs, outsAt0_A m c u hev (by omega) hev (by omega) (by omega)]
  frame_out
  rw [read_unread_whole]
  rw [dw_at _ _ _ ⟨704 * (t.val / 2) + y1.val, by omega⟩ y2 (by blk_simp [e]; simp) (by blk_simp [e])]
  refine ((pay_sum _ _ _ _ y1 y2).trans ?_)
  refine congrArg₂ (· + ·) (Finset.sum_congr rfl fun s _ => congrArg₂ (· * ·) (blk_g m c u s y1 0 _ ?_ ?_) (blk_x m c u s y2 0 ?_))
    (Finset.sum_congr rfl fun s _ => congrArg₂ (· * ·) (blk_g m c t s y1 1 _ ?_ ?_) (blk_x m c t s y2 1 ?_)) <;> (simp only [Fin.val_zero, Fin.val_one] <;> omega)

theorem fin4 (c : Dev nD) : (dats m 0 c).arrAt 4 cfg0.N = dw (m ((c : Thread nD τ).loc main_arg4)) (m ((c : Thread nD τ).loc main_arg0)) := by
  refine (dats m 0 c).arrAt_eq_of_covers 4 _ (by decide +kernel) fun t hf y => ?_
  have hodd : t.val % 2 = 1 := (flush0_4 t).mp hf
  have e := (idx t).2.2.2.2.1
  have h8 := (idx t).2.2.2.2.2
  obtain ⟨u, hu, hev, hq⟩ := before t hodd
  have hs : (outsAt0 m c (t.val - 1) (Nat.lt_of_le_of_lt (Nat.sub_le _ _) t.isLt)) = outsAt0 m c u.val u.isLt := by
    congr 1
    exact hu.symm
  idx_vars y
  obtain rfl : y0 = 0 := Subsingleton.elim _ _
  blk_simp
  rw [after0_4, outsAt0_B m c t (by omega) hodd (by omega) hodd hodd, hs, outsAt0_A m c u hev (by omega) hev (by omega) (by omega)]
  frame_out
  rw [read_unread_whole]
  rw [dw_at _ _ _ ⟨704 * (t.val / 2) + y1.val, by omega⟩ y2 (by blk_simp [e]; simp) (by blk_simp [e])]
  refine (congrFun (pay_sum' _ _ _ _) _).trans ((pay_sum _ _ _ _ y1 y2).trans ?_)
  refine congrArg₂ (· + ·) (Finset.sum_congr rfl fun s _ => congrArg₂ (· * ·) (blk_u m c u s y1 0 _ ?_ ?_) (blk_x m c u s y2 0 ?_))
    (Finset.sum_congr rfl fun s _ => congrArg₂ (· * ·) (blk_u m c t s y1 1 _ ?_ ?_) (blk_x m c t s y2 1 ?_)) <;> (simp only [Fin.val_zero, Fin.val_one] <;> omega)

end Cert.KernelMmTnIdeal.Value

end
-- ==== Proof.MmTnReference.lean ====
/- The two matrices' gradients as the reference writes them, read at their elements. -/
module

public import proofs.«01_k».proof.Proof.MmTnValue
public import proofs.«01_k».proof.Proof.Gen.ReferenceMmTnIdeal.Run
public import Idealize.ShloMosaic.Lib.Pipeline.ValueKit

@[expose] public section

set_option maxRecDepth 16384

noncomputable section

namespace Cert.ReferenceMmTnIdeal.Value

open Cert.ReferenceMmTnIdeal Cert.ReferenceMmTnIdeal.Gen Idealize.ShloMosaic Idealize.ShloMosaic.TcCoe Idealize.SL.Sem

theorem dw_eq (A : FVec Ideal S2x2048x2816 .f32) (X : FVec Ideal S2x2048x1024 .f32) :
    (truncf .bf16 (shapeCast S4x704x1024 (transpose S2816x1024 [1, 0] (transpose S1024x2816 [1, 0] (Host.dotGeneral dot_S2x2048x2816_S2x2048x1024_S2816x1024_01_01_2_2_n_n none A X : FVec Ideal S2816x1024 .f32)
      transposes_S2816x1024_S1024x2816_1_0) transposes_S1024x2816_S2816x1024_1_0) shapeCasts_S2816x1024_S4x704x1024) bitsLt_bf16_f32 : FVec Ideal S4x704x1024 .bf16) = Cert.KernelMmTnIdeal.Value.dw A X := by
  funext i
  idx_vars i
  refine Eq.trans (b := (Host.dotGeneral dot_S2x2048x2816_S2x2048x1024_S2816x1024_01_01_2_2_n_n none A X : FVec Ideal S2816x1024 .f32) (ix2 ⟨704 * i0.val + i1.val, by omega⟩ i2)) ?_ ?_
  · generalize (Host.dotGeneral dot_S2x2048x2816_S2x2048x1024_S2816x1024_01_01_2_2_n_n none A X : FVec Ideal S2816x1024 .f32) = P
    pointwise
    blk_ext []
  · pointwise [Cert.KernelMmTnIdeal.Value.dw]

end Cert.ReferenceMmTnIdeal.Value

end
-- ==== Proof.MmTnClaims.lean ====
/- The claims about the gradients of the second feed-forward's two first matrices. -/
module

public import proofs.«01_k».proof.Defs
public import proofs.«01_k».proof.Proof.MmTnValue
public import proofs.«01_k».proof.Proof.MmTnReference
public import proofs.«01_k».proof.Proof.Gen.KernelMmTn.Frame
public import proofs.«01_k».proof.Proof.Gen.KernelMmTnIdeal.Value

@[expose] public section

set_option maxRecDepth 16384

noncomputable section

namespace Cert.Proof.MmTn

open Idealize.ShloMosaic Idealize.ShloMosaic.TcCoe Idealize.SL.Sem

theorem frameR : Cert.quiescent_ReferenceMmTnIdeal := fun m g _ =>
  (θ_run Cert.ReferenceMmTnIdeal.defs _ _).mono (fun r h => ⟨fun c => (h c).2.2, sem_eq_zero_of_no_sems (by decide) r.2⟩) (Cert.ReferenceMmTnIdeal.Value.run m g)

open Cert.KernelMmTnIdeal Cert.KernelMmTnIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v8_0) = (Cert.KernelMmTnIdeal.Value.dw (m ((c.tc : Thread nD τ).loc main_arg3)) (m ((c.tc : Thread nD τ).loc main_arg0)) : FVec Ideal S4x704x1024 .bf16)
      ∧ r.2.mem ((c.tc : Thread nD τ).loc main_v8_1) = (Cert.KernelMmTnIdeal.Value.dw (m ((c.tc : Thread nD τ).loc main_arg4)) (m ((c.tc : Thread nD τ).loc main_arg0)) : FVec Ideal S4x704x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans (Value.fin3 m c), (h c).2.1.trans (Value.fin4 m c), (h c).2.2⟩) (Value.run_blocks m g)

/-- At exact arithmetic the kernel's results are the reference's, for all arguments. -/
theorem algebraic : Cert.algebraic_KernelMmTnIdeal_ReferenceMmTnIdeal := by
  intro m g m' g' hpre hag
  refine ⟨_, _, run m g, (θ_run Cert.ReferenceMmTnIdeal.defs _ _).mono (fun r h c => ⟨(h c).1.trans ?_, (h c).2.1.trans ?_, (h c).2.2⟩)
    (Cert.ReferenceMmTnIdeal.Value.run m' g')⟩
  · obtain ⟨a0, a1, a2, a3, a4⟩ := hag c
    refine (Cert.ReferenceMmTnIdeal.Value.dw_eq _ _).trans ?_
    rw [a3, a0]
  · obtain ⟨a0, a1, a2, a3, a4⟩ := hag c
    refine (Cert.ReferenceMmTnIdeal.Value.dw_eq _ _).trans ?_
    rw [a4, a0]

end Cert.Proof.MmTn

end
-- ==== Proof.AdamWValue.lean ====
/- The optimiser's step of one array of weights, as the pipelined call leaves it. -/
module

public import proofs.«01_k».proof.Proof.Gen.KernelAdamWIdeal.Frame
public import Idealize.ShloMosaic.Lib.Pipeline.ValueKit
public import Idealize.ShloMosaic.Lib.Pointwise

@[expose] public section

set_option maxRecDepth 16384

noncomputable section

namespace Cert.KernelAdamWIdeal.Value

open Cert.KernelAdamWIdeal Cert.KernelAdamWIdeal.Gen Idealize.ShloMosaic Idealize.ShloMosaic.TcCoe Idealize.SL.Sem
open Idealize.ShloMosaic.Pipeline (Dat)

/-- The moments after the step, and the change of a weight: the bias corrections are divisions by `1 - β^10`. -/
def mom (g m : EReal) : EReal := Ideal.ofBits .f32 0x3F666666#32 * m + Ideal.ofBits .f32 0x3DCCCCCD#32 * g
def vel (g v : EReal) : EReal := Ideal.ofBits .f32 0x3F7FBE77#32 * v + Ideal.ofBits .f32 0x3A83126F#32 * (g * g)
def delta (w g m v : EReal) : EReal :=
  Ideal.ofBits .f32 0xBA83126F#32 * (Ideal.div (Ideal.div (mom g m) (Ideal.ofBits .f32 0x3F26BD02#32)) (Ideal.sqrt (Ideal.div (vel g v) (Ideal.ofBits .f32 0x3C231ACC#32)) + Ideal.ofBits .f32 0x322BCC77#32)
    + Ideal.ofBits .f32 0x3C23D70A#32 * w)

/-- Arrays of weights, an axis of length one left out. -/
abbrev Wts : Type := S1x1024x2304.Idx → EReal
def grad (G : Wts) (i : S1024x2304.Idx) : EReal := G (ix3 0 (i 0) (i 1))
def moms (G M : Wts) (i : S1024x2304.Idx) : EReal := mom (G (ix3 0 (i 0) (i 1))) (M (ix3 0 (i 0) (i 1)))
def vels (G V : Wts) (i : S1024x2304.Idx) : EReal := vel (G (ix3 0 (i 0) (i 1))) (V (ix3 0 (i 0) (i 1)))
def deltas (W G M V : Wts) (i : S1024x2304.Idx) : EReal := delta (W (ix3 0 (i 0) (i 1))) (G (ix3 0 (i 0) (i 1))) (M (ix3 0 (i 0) (i 1))) (V (ix3 0 (i 0) (i 1)))

/-- The two denominators, and division by them. -/
theorem f1 : Ideal.ofBits .f32 0x3F26BD02#32 = ((5463681 / 8388608 : ℝ) : EReal) := by
  simp [Ideal.ofBits, Ideal.ieee, -EReal.coe_mul]; norm_num
theorem f2 : Ideal.ofBits .f32 0x3C231ACC#32 = ((2672307 / 268435456 : ℝ) : EReal) := by
  simp [Ideal.ofBits, Ideal.ieee, -EReal.coe_mul]; norm_num
theorem div_f1 (x : EReal) : Ideal.div x (Ideal.ofBits .f32 0x3F26BD02#32) = x * ((8388608 / 5463681 : ℝ) : EReal) := by
  rw [f1, Ideal.div_coe (by norm_num)]
  norm_num
theorem div_f2 (x : EReal) : Ideal.div x (Ideal.ofBits .f32 0x3C231ACC#32) = x * ((268435456 / 2672307 : ℝ) : EReal) := by
  rw [f2, Ideal.div_coe (by norm_num)]
  norm_num
theorem named1 (b : BitVec 32) : Named.named (F := Ideal) (φ := .f32) κ "one_over_f1" b = ((8388608 / 5463681 : ℝ) : EReal) :=
  IdealRules.named_const.ideal_named_scalar (φ := .f32) κ "one_over_f1" b _ rfl
theorem named2 (b : BitVec 32) : Named.named (F := Ideal) (φ := .f32) κ "one_over_f2" b = ((268435456 / 2672307 : ℝ) : EReal) :=
  IdealRules.named_const.ideal_named_scalar (φ := .f32) κ "one_over_f2" b _ rfl

/-- The block's payloads at one of its elements. -/
theorem pay_g (G : FVec Ideal S64x2304 .f32) (a : Fin 64) (b : Fin 2304) : k0_pay2 (F := Ideal) G (ix2 a b) = G (ix2 a b) := by
  pointwise [k0_pay2]
theorem pay_m (G M : FVec Ideal S64x2304 .f32) (a : Fin 64) (b : Fin 2304) : k0_pay3 (F := Ideal) G M (ix2 a b) = mom (G (ix2 a b)) (M (ix2 a b)) := by
  unfold mom
  pointwise [k0_pay3, k0_pay2]
theorem pay_v (G V : FVec Ideal S64x2304 .f32) (a : Fin 64) (b : Fin 2304) : k0_pay4 (F := Ideal) G V (ix2 a b) = vel (G (ix2 a b)) (V (ix2 a b)) := by
  unfold vel
  pointwise [k0_pay4, k0_pay2]
theorem pay_d (G M V W : FVec Ideal S64x2304 .f32) (a : Fin 64) (b : Fin 2304) :
    k0_pay1 (F := Ideal) (k0_pay5 G M V W) (Scalar.ofBits .f32 0xBA83126F#32) (ix2 a b) = delta (W (ix2 a b)) (G (ix2 a b)) (M (ix2 a b)) (V (ix2 a b)) := by
  unfold delta
  rw [div_f1, div_f2, ← pay_m G M a b, ← pay_v G V a b]
  generalize hm : k0_pay3 (F := Ideal) G M = A
  generalize hv : k0_pay4 (F := Ideal) G V = B
  unfold k0_pay1 k0_pay5
  rw [hm, hv, named1, named2]
  pointwise

variable (m : (ℓ : Loc nD τ sig) → Buf (Elt Ideal) ℓ) (c : Dev nD)

/-- Every window's block index, over all sixteen grid points. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] ∧ t.val < 16 :=
  (by decide +kernel : ∀ t : Fin grid0.N, _)

/-- The axis of length one left out, read at an element. -/
theorem cast_at (X : FVec Ideal S1x1024x2304 .f32) (i : S1024x2304.Idx) (a : Fin 1024) (b : Fin 2304) (ha : a.val = (i 0).val) (hb : b.val = (i 1).val) :
    (shapeCast S1024x2304 X shapeCasts_S1x1024x2304_S1024x2304 : FVec Ideal S1024x2304 .f32) i = X (ix3 0 a b) := by
  obtain rfl : a = i 0 := Fin.ext ha
  obtain rfl : b = i 1 := Fin.ext hb
  idx_vars i
  pointwise

theorem V_w : (V m c main_v0 : S1024x2304.Idx → EReal) = (shapeCast S1024x2304 ((m ((c : Thread nD τ).loc main_arg0)) : FVec Ideal S1x1024x2304 .f32) shapeCasts_S1x1024x2304_S1024x2304 : FVec Ideal S1024x2304 .f32) := by
  unfold V
  after_results <;> rfl

theorem b_w (t : Fin cfg0.N) (r : Fin 64) (j : Fin 2304) (a : Fin 1024) (h : a.val = 64 * t.val + r.val) :
    (iblk m c 0 t : S64x2304.Idx → EReal) (ix2 r j) = ((m ((c : Thread nD τ).loc main_arg0)) : S1x1024x2304.Idx → EReal) (ix3 0 a j) := by
  have e := (idx t).1
  refine (congrFun (V_w m c) (((cfg0.win 0).blk t).view.emb (ix2 r j))).trans (cast_at _ _ a j ?_ ?_) <;>
    (blk_simp [e] <;> (try simp only []) <;> (try omega))

theorem V_g : (V m c main_v1 : S1024x2304.Idx → EReal) = (shapeCast S1024x2304 ((m ((c : Thread nD τ).loc main_arg1)) : FVec Ideal S1x1024x2304 .f32) shapeCasts_S1x1024x2304_S1024x2304 : FVec Ideal S1024x2304 .f32) := by
  unfold V
  after_results <;> rfl

theorem b_g (t : Fin cfg0.N) (r : Fin 64) (j : Fin 2304) (a : Fin 1024) (h : a.val = 64 * t.val + r.val) :
    (iblk m c 1 t : S64x2304.Idx → EReal) (ix2 r j) = ((m ((c : Thread nD τ).loc main_arg1)) : S1x1024x2304.Idx → EReal) (ix3 0 a j) := by
  have e := (idx t).2.1
  refine (congrFun (V_g m c) (((cfg0.win 1).blk t).view.emb (ix2 r j))).trans (cast_at _ _ a j ?_ ?_) <;>
    (blk_simp [e] <;> (try simp only []) <;> (try omega))

theorem V_m : (V m c main_v2 : S1024x2304.Idx → EReal) = (shapeCast S1024x2304 ((m ((c : Thread nD τ).loc main_arg2)) : FVec Ideal S1x1024x2304 .f32) shapeCasts_S1x1024x2304_S1024x2304 : FVec Ideal S1024x2304 .f32) := by
  unfold V
  after_results <;> rfl

theorem b_m (t : Fin cfg0.N) (r : Fin 64) (j : Fin 2304) (a : Fin 1024) (h : a.val = 64 * t.val + r.val) :
    (iblk m c 2 t : S64x2304.Idx → EReal) (ix2 r j) = ((m ((c : Thread nD τ).loc main_arg2)) : S1x1024x2304.Idx → EReal) (ix3 0 a j) := by
  have e := (idx t).2.2.1
  refine (congrFun (V_m m c) (((cfg0.win 2).blk t).view.emb (ix2 r j))).trans (cast_at _ _ a j ?_ ?_) <;>
    (blk_simp [e] <;> (try simp only []) <;> (try omega))

theorem V_v : (V m c main_v3 : S1024x2304.Idx → EReal) = (shapeCast S1024x2304 ((m ((c : Thread nD τ).loc main_arg3)) : FVec Ideal S1x1024x2304 .f32) shapeCasts_S1x1024x2304_S1024x2304 : FVec Ideal S1024x2304 .f32) := by
  unfold V
  after_results <;> rfl

theorem b_v (t : Fin cfg0.N) (r : Fin 64) (j : Fin 2304) (a : Fin 1024) (h : a.val = 64 * t.val + r.val) :
    (iblk m c 3 t : S64x2304.Idx → EReal) (ix2 r j) = ((m ((c : Thread nD τ).loc main_arg3)) : S1x1024x2304.Idx → EReal) (ix3 0 a j) := by
  have e := (idx t).2.2.2.1
  refine (congrFun (V_v m c) (((cfg0.win 3).blk t).view.emb (ix2 r j))).trans (cast_at _ _ a j ?_ ?_) <;>
    (blk_simp [e] <;> (try simp only []) <;> (try omega))

theorem final4 : ((dats m 0 c).arrAt 4 cfg0.N : S1024x2304.Idx → EReal) = grad (m ((c : Thread nD τ).loc main_arg1)) := by
  refine (dats m 0 c).arrAt_eq_of_covers 4 _ (by decide +kernel) fun t hf y => ?_
  have e := (idx t).2.2.2.2.1
  have h16 := (idx t).2.2.2.2.2.2.2.2
  idx_vars y
  blk_simp
  rw [after0_4]
  frame_out
  obtain ⟨a, ha⟩ : ∃ a : Fin 1024, a = ⟨64 * t.val + y0.val, by omega⟩ := ⟨_, rfl⟩
  have hv : a.val = 64 * t.val + y0.val := by rw [ha]
  refine (pay_g _ y0 y1).trans ?_
  rw [b_g m c t y0 y1 a hv]
  refine (?_ : grad (m ((c : Thread nD τ).loc main_arg1)) (ix2 a y1) = _)
  refine congrArg (grad (m ((c : Thread nD τ).loc main_arg1))) ?_
  blk_ext [e]

theorem final5 : ((dats m 0 c).arrAt 5 cfg0.N : S1024x2304.Idx → EReal) = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have e := (idx t).2.2.2.2.2.1
  have h16 := (idx t).2.2.2.2.2.2.2.2
  idx_vars y
  blk_simp
  rw [after0_5]
  frame_out
  obtain ⟨a, ha⟩ : ∃ a : Fin 1024, a = ⟨64 * t.val + y0.val, by omega⟩ := ⟨_, rfl⟩
  have hv : a.val = 64 * t.val + y0.val := by rw [ha]
  refine (pay_d _ _ _ _ y0 y1).trans ?_
  rw [b_g m c t y0 y1 a hv, b_m m c t y0 y1 a hv, b_v m c t y0 y1 a hv, b_w m c t y0 y1 a hv]
  refine (?_ : deltas (m ((c : Thread nD τ).loc main_arg0)) (m ((c : Thread nD τ).loc main_arg1)) (m ((c : Thread nD τ).loc main_arg2)) (m ((c : Thread nD τ).loc main_arg3)) (ix2 a y1) = _)
  refine congrArg (deltas (m ((c : Thread nD τ).loc main_arg0)) (m ((c : Thread nD τ).loc main_arg1)) (m ((c : Thread nD τ).loc main_arg2)) (m ((c : Thread nD τ).loc main_arg3))) ?_
  blk_ext [e]

theorem final6 : ((dats m 0 c).arrAt 6 cfg0.N : S1024x2304.Idx → EReal) = moms (m ((c : Thread nD τ).loc main_arg1)) (m ((c : Thread nD τ).loc main_arg2)) := by
  refine (dats m 0 c).arrAt_eq_of_covers 6 _ (by decide +kernel) fun t hf y => ?_
  have e := (idx t).2.2.2.2.2.2.1
  have h16 := (idx t).2.2.2.2.2.2.2.2
  idx_vars y
  blk_simp
  rw [after0_6]
  frame_out
  obtain ⟨a, ha⟩ : ∃ a : Fin 1024, a = ⟨64 * t.val + y0.val, by omega⟩ := ⟨_, rfl⟩
  have hv : a.val = 64 * t.val + y0.val := by rw [ha]
  refine (pay_m _ _ y0 y1).trans ?_
  rw [b_g m c t y0 y1 a hv, b_m m c t y0 y1 a hv]
  refine (?_ : moms (m ((c : Thread nD τ).loc main_arg1)) (m ((c : Thread nD τ).loc main_arg2)) (ix2 a y1) = _)
  refine congrArg (moms (m ((c : Thread nD τ).loc main_arg1)) (m ((c : Thread nD τ).loc main_arg2))) ?_
  blk_ext [e]

theorem final7 : ((dats m 0 c).arrAt 7 cfg0.N : S1024x2304.Idx → EReal) = vels (m ((c : Thread nD τ).loc main_arg1)) (m ((c : Thread nD τ).loc main_arg3)) := by
  refine (dats m 0 c).arrAt_eq_of_covers 7 _ (by decide +kernel) fun t hf y => ?_
  have e := (idx t).2.2.2.2.2.2.2.1
  have h16 := (idx t).2.2.2.2.2.2.2.2
  idx_vars y
  blk_simp
  rw [after0_7]
  frame_out
  obtain ⟨a, ha⟩ : ∃ a : Fin 1024, a = ⟨64 * t.val + y0.val, by omega⟩ := ⟨_, rfl⟩
  have hv : a.val = 64 * t.val + y0.val := by rw [ha]
  refine (pay_v _ _ y0 y1).trans ?_
  rw [b_g m c t y0 y1 a hv, b_v m c t y0 y1 a hv]
  refine (?_ : vels (m ((c : Thread nD τ).loc main_arg1)) (m ((c : Thread nD τ).loc main_arg3)) (ix2 a y1) = _)
  refine congrArg (vels (m ((c : Thread nD τ).loc main_arg1)) (m ((c : Thread nD τ).loc main_arg3))) ?_
  blk_ext [e]

end Cert.KernelAdamWIdeal.Value

end
-- ==== Proof.AdamWReference.lean ====
/- The optimiser's step as the reference writes it, read at its elements. -/
module

public import proofs.«01_k».proof.Proof.AdamWValue
public import proofs.«01_k».proof.Proof.Gen.ReferenceAdamWIdeal.Run
public import Idealize.ShloMosaic.Lib.Pipeline.ValueKit

@[expose] public section

set_option maxRecDepth 16384

noncomputable section

namespace Cert.ReferenceAdamWIdeal.Value

open Cert.ReferenceAdamWIdeal Cert.ReferenceAdamWIdeal.Gen Idealize.ShloMosaic Idealize.ShloMosaic.TcCoe Idealize.SL.Sem

theorem grad_eq (G : FVec Ideal S1x1024x2304 .f32) : (shapeCast S1024x2304 G shapeCasts_S1x1024x2304_S1024x2304 : FVec Ideal S1024x2304 .f32) = Cert.KernelAdamWIdeal.Value.grad G := by
  funext i
  refine (Cert.KernelAdamWIdeal.Value.cast_at _ i (i 0) (i 1) rfl rfl).trans ?_
  idx_vars i
  pointwise [Cert.KernelAdamWIdeal.Value.grad]

theorem moms_eq (G M : FVec Ideal S1x1024x2304 .f32) : (shapeCast S1024x2304 (addf (mulf (broadcastInDim S1x1024x2304 ![] bcast_S_S1x1024x2304 (constant S_ .f32 0x3F666666#32)) M) (mulf (broadcastInDim S1x1024x2304 ![] bcast_S_S1x1024x2304 (constant S_ .f32 0x3DCCCCCD#32)) G)) shapeCasts_S1x1024x2304_S1024x2304 : FVec Ideal S1024x2304 .f32) = Cert.KernelAdamWIdeal.Value.moms G M := by
  funext i
  refine (Cert.KernelAdamWIdeal.Value.cast_at _ i (i 0) (i 1) rfl rfl).trans ?_
  idx_vars i
  pointwise [Cert.KernelAdamWIdeal.Value.moms, Cert.KernelAdamWIdeal.Value.mom]

theorem vels_eq (G V : FVec Ideal S1x1024x2304 .f32) : (shapeCast S1024x2304 (addf (mulf (broadcastInDim S1x1024x2304 ![] bcast_S_S1x1024x2304 (constant S_ .f32 0x3F7FBE77#32)) V) (mulf (broadcastInDim S1x1024x2304 ![] bcast_S_S1x1024x2304 (constant S_ .f32 0x3A83126F#32)) (mulf G G))) shapeCasts_S1x1024x2304_S1024x2304 : FVec Ideal S1024x2304 .f32) = Cert.KernelAdamWIdeal.Value.vels G V := by
  funext i
  refine (Cert.KernelAdamWIdeal.Value.cast_at _ i (i 0) (i 1) rfl rfl).trans ?_
  idx_vars i
  pointwise [Cert.KernelAdamWIdeal.Value.vels, Cert.KernelAdamWIdeal.Value.vel]

theorem deltas_eq (W G M V : FVec Ideal S1x1024x2304 .f32) : (shapeCast S1024x2304 (mulf (broadcastInDim S1x1024x2304 ![] bcast_S_S1x1024x2304 (constant S_ .f32 0xBA83126F#32)) (addf (Host.divf (Host.divf (addf (mulf (broadcastInDim S1x1024x2304 ![] bcast_S_S1x1024x2304 (constant S_ .f32 0x3F666666#32)) M) (mulf (broadcastInDim S1x1024x2304 ![] bcast_S_S1x1024x2304 (constant S_ .f32 0x3DCCCCCD#32)) G)) (broadcastInDim S1x1024x2304 ![] bcast_S_S1x1024x2304 (constant S_ .f32 0x3F26BD02#32))) (addf (Host.sqrt (Host.divf (addf (mulf (broadcastInDim S1x1024x2304 ![] bcast_S_S1x1024x2304 (constant S_ .f32 0x3F7FBE77#32)) V) (mulf (broadcastInDim S1x1024x2304 ![] bcast_S_S1x1024x2304 (constant S_ .f32 0x3A83126F#32)) (mulf G G))) (broadcastInDim S1x1024x2304 ![] bcast_S_S1x1024x2304 (constant S_ .f32 0x3C231ACC#32)))) (broadcastInDim S1x1024x2304 ![] bcast_S_S1x1024x2304 (constant S_ .f32 0x322BCC77#32)))) (mulf (broadcastInDim S1x1024x2304 ![] bcast_S_S1x1024x2304 (constant S_ .f32 0x3C23D70A#32)) W))) shapeCasts_S1x1024x2304_S1024x2304 : FVec Ideal S1024x2304 .f32) = Cert.KernelAdamWIdeal.Value.deltas W G M V := by
  funext i
  refine (Cert.KernelAdamWIdeal.Value.cast_at _ i (i 0) (i 1) rfl rfl).trans ?_
  idx_vars i
  pointwise [Cert.KernelAdamWIdeal.Value.deltas, Cert.KernelAdamWIdeal.Value.delta, Cert.KernelAdamWIdeal.Value.mom, Cert.KernelAdamWIdeal.Value.vel]

end Cert.ReferenceAdamWIdeal.Value

end
-- ==== Proof.AdamWClaims.lean ====
/- The claims about the optimiser's step. -/
module

public import proofs.«01_k».proof.Defs
public import proofs.«01_k».proof.Proof.AdamWValue
public import proofs.«01_k».proof.Proof.AdamWReference
public import proofs.«01_k».proof.Proof.Gen.KernelAdamW.Frame
public import proofs.«01_k».proof.Proof.Gen.KernelAdamWIdeal.Value

@[expose] public section

set_option maxRecDepth 16384

noncomputable section

namespace Cert.Proof.AdamW

open Idealize.ShloMosaic Idealize.ShloMosaic.TcCoe Idealize.SL.Sem

theorem frameR : Cert.quiescent_ReferenceAdamWIdeal := fun m g _ =>
  (θ_run Cert.ReferenceAdamWIdeal.defs _ _).mono (fun r h => ⟨fun c => (h c).2.2.2.2, sem_eq_zero_of_no_sems (by decide) r.2⟩) (Cert.ReferenceAdamWIdeal.Value.run m g)

/-- The two named constants are what they say. -/
theorem preserves : Cert.preserves_KernelAdamW_KernelAdamWIdeal :=
  ⟨IdealRules.named_const.statement Cert.KernelAdamWIdeal.κ "one_over_f1" .f32 0x3FC48605#32 ((8388608 / 5463681 : ℝ) : EReal) rfl,
    IdealRules.named_const.statement Cert.KernelAdamWIdeal.κ "one_over_f2" .f32 0x42C8E6D3#32 ((268435456 / 2672307 : ℝ) : EReal) rfl⟩

open Cert.KernelAdamWIdeal Cert.KernelAdamWIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v4_0) = (Cert.KernelAdamWIdeal.Value.grad (m ((c.tc : Thread nD τ).loc main_arg1)) : FVec Ideal S1024x2304 .f32)
      ∧ r.2.mem ((c.tc : Thread nD τ).loc main_v4_1) = (Cert.KernelAdamWIdeal.Value.deltas (m ((c.tc : Thread nD τ).loc main_arg0)) (m ((c.tc : Thread nD τ).loc main_arg1)) (m ((c.tc : Thread nD τ).loc main_arg2)) (m ((c.tc : Thread nD τ).loc main_arg3)) : FVec Ideal S1024x2304 .f32)
      ∧ r.2.mem ((c.tc : Thread nD τ).loc main_v4_2) = (Cert.KernelAdamWIdeal.Value.moms (m ((c.tc : Thread nD τ).loc main_arg1)) (m ((c.tc : Thread nD τ).loc main_arg2)) : FVec Ideal S1024x2304 .f32)
      ∧ r.2.mem ((c.tc : Thread nD τ).loc main_v4_3) = (Cert.KernelAdamWIdeal.Value.vels (m ((c.tc : Thread nD τ).loc main_arg1)) (m ((c.tc : Thread nD τ).loc main_arg3)) : FVec Ideal S1024x2304 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans (Value.final4 m c), (h c).2.1.trans (Value.final5 m c), (h c).2.2.1.trans (Value.final6 m c), (h c).2.2.2.1.trans (Value.final7 m c), (h c).2.2.2.2⟩) (Value.run_blocks m g)

/-- At exact arithmetic the kernel's results are the reference's, for all arguments. -/
theorem algebraic : Cert.algebraic_KernelAdamWIdeal_ReferenceAdamWIdeal := by
  intro m g m' g' hpre hag
  refine ⟨_, _, _, _, run m g, (θ_run Cert.ReferenceAdamWIdeal.defs _ _).mono (fun r h c => ⟨(h c).1.trans ?_, (h c).2.1.trans ?_, (h c).2.2.1.trans ?_, (h c).2.2.2.1.trans ?_, (h c).2.2.2.2⟩)
    (Cert.ReferenceAdamWIdeal.Value.run m' g')⟩
  · obtain ⟨a0, a1, a2, a3⟩ := hag c
    refine (Cert.ReferenceAdamWIdeal.Value.grad_eq _).trans ?_
    rw [a1]
  · obtain ⟨a0, a1, a2, a3⟩ := hag c
    refine (Cert.ReferenceAdamWIdeal.Value.deltas_eq _ _ _ _).trans ?_
    rw [a0, a1, a2, a3]
  · obtain ⟨a0, a1, a2, a3⟩ := hag c
    refine (Cert.ReferenceAdamWIdeal.Value.moms_eq _ _).trans ?_
    rw [a1, a2]
  · obtain ⟨a0, a1, a2, a3⟩ := hag c
    refine (Cert.ReferenceAdamWIdeal.Value.vels_eq _ _).trans ?_
    rw [a1, a3]

end Cert.Proof.AdamW

end
-- ==== Proof.SumValue.lean ====
/- The sum of the eight devices' rows, as the call leaves it. -/
module

public import proofs.«01_k».proof.Proof.Gen.KernelSumIdeal.Frame
public import Idealize.ShloMosaic.Lib.Pipeline.ValueKit
public import Idealize.ShloMosaic.Lib.Pointwise

@[expose] public section

set_option maxRecDepth 16384

noncomputable section

namespace Cert.KernelSumIdeal.Value

open Cert.KernelSumIdeal Cert.KernelSumIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- The sum over the devices. -/
def total (X : S8x72x1024.Idx → EReal) (i : S72x1024.Idx) : EReal := ∑ d : Fin 8, X (ix3 d (i 0) (i 1))

theorem idx : ∀ t : Fin cfg0.N, win0_0.index t = ![0, 0, 0] ∧ win0_1.index t = ![0, 0] :=
  (by decide +kernel : ∀ t : Fin grid0.N, _)

theorem b_x (t : Fin cfg0.N) : (iblk m c 0 t : S8x72x1024.Idx → EReal) = (m ((c : Thread nD τ).loc main_arg0)) := by
  have e := (idx t).1
  blk_ext! [iblk, e]

theorem pay (X : FVec Ideal S8x72x1024 .f32) (a : Fin 72) (b : Fin 1024) :
    out0_1 (F := Ideal) X (ix2 a b) = total X (ix2 a b) := by
  unfold total
  rw [Fin.sum_univ_eight]
  frame_out
  pointwise [k0_pay1]

theorem final_total : ((dats m 0 c).arrAt 1 cfg0.N : S72x1024.Idx → EReal) = total (m ((c : Thread nD τ).loc main_arg0)) := by
  refine (dats m 0 c).arrAt_eq_of_covers 1 _ (by decide +kernel) fun t hf y => ?_
  have e := (idx t).2
  idx_vars y
  blk_simp
  rw [after0_1, b_x]
  refine (pay _ y0 y1).trans (congrArg (total _) ?_)
  blk_ext [e]

end Cert.KernelSumIdeal.Value

end
-- ==== Proof.SumReference.lean ====
/- The sum over the devices as the reference writes it. -/
module

public import proofs.«01_k».proof.Proof.SumValue
public import proofs.«01_k».proof.Proof.Gen.ReferenceSumIdeal.Run
public import Idealize.ShloMosaic.Lib.Pipeline.ValueKit

@[expose] public section

set_option maxRecDepth 16384

noncomputable section

namespace Cert.ReferenceSumIdeal.Value

open Cert.ReferenceSumIdeal Cert.ReferenceSumIdeal.Gen Idealize.ShloMosaic Idealize.ShloMosaic.TcCoe Idealize.SL.Sem

theorem total_eq (X : FVec Ideal S8x72x1024 .f32) : (Host.reduceAdd X (constant S_ .f32 0x00000000#32) reducesTo_S8x72x1024_S72x1024_d0 h_S_ : FVec Ideal S72x1024 .f32)
    = Cert.KernelSumIdeal.Value.total X := by
  funext i; idx_vars i
  pointwise [Cert.KernelSumIdeal.Value.total]

end Cert.ReferenceSumIdeal.Value

end
-- ==== Proof.SumClaims.lean ====
/- The claims about the sum over the devices. -/
module

public import proofs.«01_k».proof.Defs
public import proofs.«01_k».proof.Proof.SumValue
public import proofs.«01_k».proof.Proof.SumReference
public import proofs.«01_k».proof.Proof.Gen.KernelSum.Frame
public import proofs.«01_k».proof.Proof.Gen.KernelSumIdeal.Value

@[expose] public section

set_option maxRecDepth 16384

noncomputable section

namespace Cert.Proof.Sum

open Idealize.ShloMosaic Idealize.ShloMosaic.TcCoe Idealize.SL.Sem

theorem frameR : Cert.quiescent_ReferenceSumIdeal := fun m g _ =>
  (θ_run Cert.ReferenceSumIdeal.defs _ _).mono (fun r h => ⟨fun c => (h c).2, sem_eq_zero_of_no_sems (by decide) r.2⟩) (Cert.ReferenceSumIdeal.Value.run m g)

open Cert.KernelSumIdeal Cert.KernelSumIdeal.Gen in
/-- The kernel's run: its results and its arguments. -/
theorem run (m : (ℓ : Loc nD τ sig) → Buf (Elt Ideal) ℓ) (g : Dev nD → PrngReg) :
    θ_run defs (onTc (τ := τ) (main (F := Ideal))) ⟨m, fun _ => 0, g⟩ fun r => ∀ c : Dev nD,
      r.2.mem ((c.tc : Thread nD τ).loc main_v0) = (Cert.KernelSumIdeal.Value.total (m ((c.tc : Thread nD τ).loc main_arg0)) : FVec Ideal S72x1024 .f32)
      ∧ r.2.mem ((c.tc : Thread nD τ).loc main_arg0) = m ((c.tc : Thread nD τ).loc main_arg0) :=
  (θ_run defs _ _).mono (fun r h c => ⟨(h c).1.trans (Value.final_total m c), (h c).2⟩) (Value.run_blocks m g)

/-- At exact arithmetic the kernel's results are the reference's, for all arguments. -/
theorem algebraic : Cert.algebraic_KernelSumIdeal_ReferenceSumIdeal := by
  intro m g m' g' hpre hag
  refine ⟨_, run m g, (θ_run Cert.ReferenceSumIdeal.defs _ _).mono (fun r h c => ⟨(h c).1.trans ?_, (h c).2⟩)
    (Cert.ReferenceSumIdeal.Value.run m' g')⟩
  refine (Cert.ReferenceSumIdeal.Value.total_eq _).trans ?_
  rw [hag c]

end Cert.Proof.Sum

end
-- ==== Proof.PairOk.lean ====
/- The pair sums' table holds the number of a half, so every block that it names lies in its array. -/
module

public import proofs.«01_k».proof.Defs
public import proofs.«01_k».proof.Proof.Gen.KernelPair.Frame
public import proofs.«01_k».proof.Proof.Gen.KernelPairIdeal.Frame
public import proofs.«01_k».proof.Proof.Gen.Pre_half_pairs
public import Idealize.ShloMosaic.Lib.StableHlo.Predicate
public import Idealize.ShloMosaic.Lib.Pointwise

@[expose] public section

set_option maxRecDepth 16384

noncomputable section

namespace Cert.Proof.Pair

open Idealize.ShloMosaic Idealize.ShloMosaic.TcCoe Idealize.SL.Sem

/-- An array of one element has one index. -/
theorem one_index (y : (⟨1, ![1]⟩ : Shape).Idx) : y = ix1 0 := funext fun a => by fin_cases a; exact Subsingleton.elim (α := Fin 1) _ _

/-- The half's number, decoded from the precondition. -/
theorem word_of_pre {F : FTy → Type} [FloatOps F] (a : FVec F Cert.Pre_half_pairs.S4x704x1024 .bf16)
    (b : FVec F Cert.Pre_half_pairs.S4x352x1024 .bf16) (h : IVec Cert.Pre_half_pairs.S1 32)
    (e : Cert.Pre_half_pairs.fn a b h = fun _ => 1#1) : h (ix1 0) = 0#32 ∨ h (ix1 0) = 1#32 := by
  have e0 := congrFun e ix0
  simp only [Cert.Pre_half_pairs.fn, ori, cmpi, shapeCast, constantI] at e0
  rw [one_index (Shape.reshapeEquiv _ _)] at e0
  simp only [IntOp.ori, IntOp.cmpi, StableHlo.Predicate.ofBool_eq_one_iff] at e0
  by_cases h0 : h (ix1 0) = 0#32
  · exact .inl h0
  by_cases h1 : h (ix1 0) = 1#32
  · exact .inr h1
  · have g0 : (h (ix1 0) == 0#32) = false := beq_eq_false_iff_ne.mpr h0
    have g1 : (h (ix1 0) == 1#32) = false := beq_eq_false_iff_ne.mpr h1
    rw [g0, g1] at e0
    exact absurd e0 (by decide)

section
open Cert.KernelPairIdeal Cert.KernelPairIdeal.Gen
variable {F : FTy → Type} [FloatOps F] (m : (ℓ : Loc nD τ sig) → Buf (Elt F) ℓ)

/-- The half's number as the table holds it. -/
def half : BitVec 32 := (m ((0 : Dev nD).tc.loc main_arg2) : S1.Idx → BitVec 32) (ix1 0)

theorem at_eq : (tbl m).at 0 (Rect.unit (s := S1) ![0] S1.size Facts₀.inb_S1_S1_0) Facts₀.numel1_S1 = half m := by
  exact congrArg (m ((0 : Dev nD).tc.loc main_arg2) : S1.Idx → BitVec 32) (one_index _)

theorem ok (h : half m = 0#32 ∨ half m = 1#32) : Ok (F := F) m := by
  intro i
  refine ⟨?_, .inr (Affine.block_words_dvd (of_decide_eq_true rfl) (by decide))⟩
  intro a
  unfold cc0_transform_0
  rw [at_eq]
  rcases h with h | h <;> rw [h] <;> revert i a <;> decide +kernel

/-- At exact arithmetic the half's number from the precondition. -/
theorem half_of_pre (m : (ℓ : Loc nD τ sig) → Buf (Elt Ideal) ℓ) (h : Cert.Pre_KernelPairIdeal m) : half m = 0#32 ∨ half m = 1#32 :=
  word_of_pre _ _ _ (h 0)
end

section
open Cert.KernelPair Cert.KernelPair.Gen

/-- The machine's program reads the same table. -/
theorem okP (m : (ℓ : Loc nD τ sig) → Buf (Elt Bits) ℓ) (h : Cert.Pre_KernelPair m) : Ok (F := Bits) m :=
  ok (F := Bits) m (word_of_pre _ _ _ (h 0))
end

end Cert.Proof.Pair

end
-- ==== Proof.PairValue.lean ====
/- What the pair sums' call leaves: the sums of a half's blocks with the blocks received. -/
module

public import proofs.«01_k».proof.Proof.PairOk
public import Idealize.ShloMosaic.Lib.Pipeline.ValueKit

@[expose] public section

set_option maxRecDepth 16384

noncomputable section

namespace Cert.KernelPairIdeal.Value

open Cert.KernelPairIdeal Cert.KernelPairIdeal.Gen Idealize.ShloMosaic Idealize.ShloMosaic.TcCoe Idealize.SL.Sem Cert.Proof.Pair
open Idealize.ShloMosaic.Pipeline (Dat)

variable (m : (ℓ : Loc nD τ sig) → Buf (Elt Ideal) ℓ) (hO : Ok m) (c : Dev nD)

/-- The sums: row `r` of the half `k` with row `r` of what was received. -/
def sums (k : Fin 2) (G : S4x704x1024.Idx → EReal) (X : S4x352x1024.Idx → EReal) (i : S4x352x1024.Idx) : EReal :=
  G (ix3 (i 0) ⟨352 * k.val + (i 1).val, by have := (i 1).isLt; have := k.isLt; simp at *; omega⟩ (i 2)) + X i

theorem idx : ∀ t : Fin grid0.N, (cc0_transform_1 (grid0.coords t) = ![t.val, 0, 0]) ∧ cc0_transform_2 (grid0.coords t) = ![t.val, 0, 0]
    ∧ (BitVec.ofNat 32 ((grid0.coords t) 0).val).toNat = t.val := by decide +kernel

theorem pay (i : grid0.Coords) (m2 m3 m4 : Memref sig .tc .vmem S1x352x1024 .bf16) (h2 h3 h4) (X Y : FVec Ideal S1x352x1024 .bf16) (T)
    (a : Fin 1) (r : Fin 352) (l : Fin 1024) :
    out0_A_2 (F := Ideal) c i m2 h2 m3 h3 m4 h4 X Y T (ix3 a r l) = (X (ix3 a r l) + Y (ix3 a r l) : EReal) := by
  frame_out
  pointwise [k0_pay1]

theorem covers : ((cfgM m hO).win 2).Covers := by
  refine ⟨(by decide : ∀ a : Fin 3, 0 < S1x352x1024.size a), fun β => ?_⟩
  have b0 : (β (0 : Fin 3)).val < (4 + 1 - 1) / 1 := (β (0 : Fin 3)).isLt
  have b1 : (β (1 : Fin 3)).val < (352 + 352 - 1) / 352 := (β (1 : Fin 3)).isLt
  have b2 : (β (2 : Fin 3)).val < (1024 + 1024 - 1) / 1024 := (β (2 : Fin 3)).isLt
  norm_num at b0 b1 b2
  have e := (idx ⟨(β (0 : Fin 3)).val, b0⟩).2.1
  refine ⟨⟨(β (0 : Fin 3)).val, b0⟩, flush0_2 _ _, fun a => ⟨?_, .inl rfl⟩⟩
  refine (congrFun e a).trans ?_
  revert a
  intro (a : Fin 3)
  fin_cases a
  · rfl
  · exact b1.symm
  · exact b2.symm

theorem index (k : Fin 2) (hk : half m = BitVec.ofNat 32 k.val) (i : grid0.Coords) :
    cc0_transform_0 Facts₀.inb_S1_S1_0 Facts₀.numel1_S1 (tbl m) i = ![(BitVec.ofNat 32 (i 0).val).toNat, k.val, 0] := by
  unfold cc0_transform_0
  rw [at_eq, hk]
  fin_cases k <;> rfl

theorem final (k : Fin 2) (hk : half m = BitVec.ofNat 32 k.val) :
    ((dats m hO 0 c).arrAt 2 (cfgM m hO).N : S4x352x1024.Idx → EReal)
      = sums k (m ((c : Thread nD τ).loc main_arg0)) (m ((c : Thread nD τ).loc main_arg1)) := by
  refine (dats m hO 0 c).arrAt_eq_of_covers 2 _ (covers m hO) fun t hf y => ?_
  obtain ⟨e1, e2, e0⟩ := idx t
  have e2 : ((pcfg0 (F := Ideal)).win (adm m hO) 2).index t = ![t.val, 0, 0] := e2
  have e1 : ((pcfg0 (F := Ideal)).win (adm m hO) 1).index t = ![t.val, 0, 0] := e1
  have ek : ((pcfg0 (F := Ideal)).win (adm m hO) 0).index t = ![t.val, k.val, 0] := by
    refine (index m k hk _).trans ?_
    rw [e0]
  change S1x352x1024.Idx at y
  idx_vars y
  blk_simp
  rw [after0_2]
  unfold outsAt0
  refine (pay c _ _ _ _ _ _ _ _ _ _ _ _ _).trans ?_
  unfold sums
  have p0 : ∀ a : Fin 3, ((((cfgM m hO).win 0).blk t).view.emb (ix3 y0 y1 y2) a).val = ![t.val, k.val, 0] a * S1x352x1024.size a + (ix3 y0 y1 y2 a).val := fun a => by
    refine Eq.trans ?_ (congrArg (· * S1x352x1024.size a + (ix3 y0 y1 y2 a).val) (congrFun ek a))
    blk_simp
    rfl
  have p1 : ∀ a : Fin 3, ((((cfgM m hO).win 1).blk t).view.emb (ix3 y0 y1 y2) a).val = ![t.val, 0, 0] a * S1x352x1024.size a + (ix3 y0 y1 y2 a).val := fun a => by
    refine Eq.trans ?_ (congrArg (· * S1x352x1024.size a + (ix3 y0 y1 y2 a).val) (congrFun e1 a))
    blk_simp
    rfl
  have p2 : ∀ a : Fin 3, ((((cfgM m hO).win 2).blk t).view.emb (ix3 y0 y1 y2) a).val = ![t.val, 0, 0] a * S1x352x1024.size a + (ix3 y0 y1 y2 a).val := fun a => by
    refine Eq.trans ?_ (congrArg (· * S1x352x1024.size a + (ix3 y0 y1 y2 a).val) (congrFun e2 a))
    blk_simp
    rfl
  refine congrArg₂ (· + · : EReal → EReal → EReal) ?_ ?_
  · refine congrArg (m ((c : Thread nD τ).loc main_arg0) : S4x704x1024.Idx → EReal) (funext fun (a : Fin 3) => Fin.ext ?_)
    refine (p0 a).trans ?_
    fin_cases a
    · exact (p2 0).symm
    · show k.val * 352 + y1.val = 352 * k.val + ((((cfgM m hO).win 2).blk t).view.emb (ix3 y0 y1 y2) (1 : Fin 3)).val
      rw [p2 1]
      show k.val * 352 + y1.val = 352 * k.val + (0 * 352 + y1.val)
      omega
    · exact (p2 2).symm
  · refine congrArg (m ((c : Thread nD τ).loc main_arg1) : S4x352x1024.Idx → EReal) (funext fun (a : Fin 3) => Fin.ext ?_)
    exact (p1 a).trans (p2 a).symm

end Cert.KernelPairIdeal.Value

end
-- ==== Proof.PairClaims.lean ====
/- The claims about the pair sums. -/
module

public import proofs.«01_k».proof.Proof.PairValue
public import proofs.«01_k».proof.Proof.Gen.ReferencePairIdeal.Run

@[expose] public section

set_option maxRecDepth 16384

noncomputable section

namespace Cert.Proof.Pair

open Idealize.ShloMosaic Idealize.ShloMosaic.TcCoe Idealize.SL.Sem

theorem frameP : Cert.quiescent_KernelPair := fun m g h => Cert.KernelPair.Gen.frame m g (okP m h)

theorem frameI : Cert.quiescent_KernelPairIdeal := fun m g h => Cert.KernelPairIdeal.Gen.frame m g (ok m (half_of_pre m h))

theorem frameR : Cert.quiescent_ReferencePairIdeal := fun m g _ =>
  (θ_run Cert.ReferencePairIdeal.defs _ _).mono (fun r h => ⟨fun c => (h c).2, sem_eq_zero_of_no_sems (by decide) r.2⟩) (Cert.ReferencePairIdeal.Value.run m g)

open Cert.KernelPairIdeal Cert.KernelPairIdeal.Gen in
/-- The kernel's run: its result and its arguments. -/
theorem run (m : (ℓ : Loc nD τ sig) → Buf (Elt Ideal) ℓ) (g : Dev nD → PrngReg) (k : Fin 2) (hk : half m = BitVec.ofNat 32 k.val) (hO : Ok m) :
    θ_run defs (onTc (τ := τ) (main (F := Ideal))) ⟨m, fun _ => 0, g⟩ fun r => ∀ c : Dev nD,
      r.2.mem ((c.tc : Thread nD τ).loc main_v0)
        = (Value.sums k (m ((c.tc : Thread nD τ).loc main_arg0)) (m ((c.tc : Thread nD τ).loc main_arg1)) : FVec Ideal S4x352x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h.1 c).1 2).trans (Value.final m hO c k hk), h.2 c⟩)
    (θ_run_and (run_main m g hO) (unchanged m g hO))

open Cert.ReferencePairIdeal Cert.ReferencePairIdeal.Gen in
/-- The reference's sum of the chosen half with what was received. -/
theorem sums_eq (k : Fin 2) (G : FVec Ideal S4x704x1024 .bf16) (X : FVec Ideal S4x352x1024 .bf16) (h : IVec S1 32) (hk : h (ix1 0) = BitVec.ofNat 32 k.val) :
    (addf (select (broadcastInDim S4x352x1024 ![] bcast_S_S4x352x1024 (cmpi .eq (shapeCast _ h shapeCasts_S1_S_) (constantI S_ 32 0#32)))
      (extractStridedSlice S4x352x1024 ![0, 0, 0] G slices_S4x704x1024_S4x352x1024_0_0_0)
      (extractStridedSlice S4x352x1024 ![0, 352, 0] G slices_S4x704x1024_S4x352x1024_0_352_0)) X : FVec Ideal S4x352x1024 .bf16)
      = Cert.KernelPairIdeal.Value.sums k G X := by
  have e : (shapeCast S_ h shapeCasts_S1_S_) = fun _ => BitVec.ofNat 32 k.val := funext fun _ => (congrArg h (one_index _)).trans hk
  rw [e]
  funext i; idx_vars i
  fin_cases k
  · pointwise [Cert.KernelPairIdeal.Value.sums]
  · pointwise [Cert.KernelPairIdeal.Value.sums]
    rfl

/-- At exact arithmetic the kernel's result is the reference's, where the table names a half. -/
theorem algebraic : Cert.algebraic_KernelPairIdeal_ReferencePairIdeal := by
  intro m g m' g' hpre hag
  obtain ⟨k, hk⟩ : ∃ k : Fin 2, half m = BitVec.ofNat 32 k.val := by
    rcases half_of_pre m hpre with h | h
    · exact ⟨0, h⟩
    · exact ⟨1, h⟩
  refine ⟨_, run m g k hk (ok m (half_of_pre m hpre)), (θ_run Cert.ReferencePairIdeal.defs _ _).mono (fun r h c => ⟨(h c).1.trans ?_, (h c).2⟩)
    (Cert.ReferencePairIdeal.Value.run m' g')⟩
  obtain rfl : c = 0 := Subsingleton.elim _ _
  refine (sums_eq k _ _ _ ((congrFun (hag 0).2.2 (ix1 0)).trans hk)).trans ?_
  rw [(hag 0).1, (hag 0).2.1]

end Cert.Proof.Pair

end
-- ==== Proof.AttBInv.lean ====
/- The loop over blocks of query rows of the attention's backward call: what it reads stays, what it writes is at some
   contents. -/
module

public import proofs.«01_k».proof.Proof.Gen.KernelAttBIdeal.Loops

@[expose] public section

set_option maxRecDepth 16384
set_option maxHeartbeats 40000000

noncomputable section

namespace Cert.KernelAttBIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

set_option warn.classDefReducibility false in
/-- The loop's invariant, the same before every block. -/
@[sl_loop] def loopInv_k0_t2 (𝒱 : Variants) (c : Dev nD) (bd : Option 𝒱.V) (E : Set ℕ) (i : grid0.Coords) (arg1 : Memref sig .tc .vmem S2048x768 .bf16) (harg1 : arg1.IsWhole) (arg2 : Memref sig .tc .vmem S2048x512 .bf16) (harg2 : arg2.IsWhole) (arg3 : Memref sig .tc .vmem S1x512 .f32) (harg3 : arg3.IsWhole) (arg4 : Memref sig .tc .vmem S1x128 .f32) (harg4 : arg4.IsWhole) (arg5 : Memref sig .tc .smem S1x8 .f32) (harg5 : arg5.IsWhole) (arg6 : Memref sig .tc .vmem S2048x768 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S2176x256 .bf16) (harg10 : arg10.IsWhole) (arg11 : Memref sig .tc .vmem S2176x256 .bf16) (harg11 : arg11.IsWhole) (arg12 : Memref sig .tc .vmem S2176x256 .bf16) (harg12 : arg12.IsWhole) (arg13 : Memref sig .tc .vmem S2176x256 .bf16) (harg13 : arg13.IsWhole) (arg14 : Memref sig .tc .vmem S2176x256 .f32) (harg14 : arg14.IsWhole) (arg15 : Memref sig .tc .vmem S2176x256 .f32) (harg15 : arg15.IsWhole) (arg16 : Memref sig .tc .vmem S2176x256 .f32) (harg16 : arg16.IsWhole) (arg17 : Memref sig .tc .vmem S2176x256 .f32) (harg17 : arg17.IsWhole) (arg18 : Memref sig .tc .vmem S1x512 .f32) (harg18 : arg18.IsWhole) (arg19 : Memref sig .tc .vmem S1x128 .f32) (harg19 : arg19.IsWhole) (arg20 : Memref sig .tc .vmem S2x128x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .bf16) (harg23 : arg23.IsWhole) (arg24 : Memref sig .tc .vmem S512x256 .bf16) (harg24 : arg24.IsWhole) (v101 : IVec S512x512 32) (v102 : IVec S512x512 32) (v103 : IVec S512x512 32) (v110 : IVec S1x128 32) (X1 : BufTy.Contents (Elt F) arg1.view.ty) (X2 : BufTy.Contents (Elt F) arg2.view.ty) (X3 : BufTy.Contents (Elt F) arg3.view.ty) (X5 : BufTy.Contents (Elt F) arg5.view.ty) (X10 : BufTy.Contents (Elt F) arg10.view.ty) (X11 : BufTy.Contents (Elt F) arg11.view.ty) (X12 : BufTy.Contents (Elt F) arg12.view.ty) (X13 : BufTy.Contents (Elt F) arg13.view.ty) (X20 : BufTy.Contents (Elt F) arg20.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v101 v102 v103 v110 where
  inv _ _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg5.view.loc (c : Thread nD τ) ↦[arg5.view.set]{fullShare} X5) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg20.view.loc (c : Thread nD τ) ↦[arg20.view.set]{fullShare} X20) ∗ (∃ f, (arg6.view.loc (c : Thread nD τ) ↦[arg6.view.set]{fullShare} f)) ∗ (∃ f, (arg14.view.loc (c : Thread nD τ) ↦[arg14.view.set]{fullShare} f)) ∗ (∃ f, (arg15.view.loc (c : Thread nD τ) ↦[arg15.view.set]{fullShare} f)) ∗ (∃ f, (arg16.view.loc (c : Thread nD τ) ↦[arg16.view.set]{fullShare} f)) ∗ (∃ f, (arg17.view.loc (c : Thread nD τ) ↦[arg17.view.set]{fullShare} f)) ∗ (∃ f, (arg18.view.loc (c : Thread nD τ) ↦[arg18.view.set]{fullShare} f)) ∗ (∃ f, (arg19.view.loc (c : Thread nD τ) ↦[arg19.view.set]{fullShare} f)) ∗ (∃ f, (arg21.view.loc (c : Thread nD τ) ↦[arg21.view.set]{fullShare} f)) ∗ (∃ f, (arg22.view.loc (c : Thread nD τ) ↦[arg22.view.set]{fullShare} f)) ∗ (∃ f, (arg23.view.loc (c : Thread nD τ) ↦[arg23.view.set]{fullShare} f)) ∗ (∃ f, (arg24.view.loc (c : Thread nD τ) ↦[arg24.view.set]{fullShare} f)))
  step k _ := by
    iintro ⟨HR1, HR2, HR3, HR5, HR10, HR11, HR12, HR13, HR20, ⟨%f6, HW6⟩, ⟨%f14, HW14⟩, ⟨%f15, HW15⟩, ⟨%f16, HW16⟩, ⟨%f17, HW17⟩, ⟨%f18, HW18⟩, ⟨%f19, HW19⟩, ⟨%f21, HW21⟩, ⟨%f22, HW22⟩, ⟨%f23, HW23⟩, ⟨%f24, HW24⟩⟩
    have hk : k.val < 16 := Nat.lt_of_lt_of_le k.isLt k0_t2_abs.2.1
    unfold k0_t2_body
    sl_exec_parts
    sl_step
    isplitl [HR1]; · iexact HR1
    isplitl [HR2]; · iexact HR2
    isplitl [HR3]; · iexact HR3
    isplitl [HR5]; · iexact HR5
    isplitl [HR10]; · iexact HR10
    isplitl [HR11]; · iexact HR11
    isplitl [HR12]; · iexact HR12
    isplitl [HR13]; · iexact HR13
    isplitl [HR20]; · iexact HR20
    isplitl [HW6]; · iexists _; iexact HW6
    isplitl [HW14]; · iexists _; iexact HW14
    isplitl [HW15]; · iexists _; iexact HW15
    isplitl [HW16]; · iexists _; iexact HW16
    isplitl [HW17]; · iexists _; iexact HW17
    isplitl [HW18]; · iexists _; iexact HW18
    isplitl [HW19]; · iexists _; iexact HW19
    isplitl [HW21]; · iexists _; iexact HW21
    isplitl [HW22]; · iexists _; iexact HW22
    isplitl [HW23]; · iexists _; iexact HW23
    iexists _; iexact HW24

end Cert.KernelAttBIdeal.Gen

end
-- ==== Proof.AttBIFrame.lean ====
/- The frame of the attention's backward call. -/
module

public import proofs.«01_k».proof.Proof.Gen.KernelAttBIdeal.Frame
public import proofs.«01_k».proof.Proof.Gen.KernelAttBIdeal.Loops
public import proofs.«01_k».proof.Proof.AttBInv
public import Idealize.ShloMosaic.Lib.Claim

@[expose] public section

set_option maxRecDepth 16384

noncomputable section

namespace Cert.Proof.AttBI

open Cert.KernelAttBIdeal Cert.KernelAttBIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The call's body on whole buffers: the inputs at their contents, the results and the scratch at any. It ends with
    the inputs as they were and the rest at some contents. -/
theorem run (c : Dev nD) (i : grid0.Coords) (arg1 : Memref sig .tc .vmem S2048x768 .bf16) (harg1 : arg1.IsWhole) (arg2 : Memref sig .tc .vmem S2048x512 .bf16) (harg2 : arg2.IsWhole) (arg3 : Memref sig .tc .vmem S1x512 .f32) (harg3 : arg3.IsWhole) (arg4 : Memref sig .tc .vmem S1x128 .f32) (harg4 : arg4.IsWhole) (arg5 : Memref sig .tc .smem S1x8 .f32) (harg5 : arg5.IsWhole) (arg6 : Memref sig .tc .vmem S2048x768 .bf16) (harg6 : arg6.IsWhole) (arg7 : Memref sig .tc .vmem S1x512 .f32) (harg7 : arg7.IsWhole) (arg8 : Memref sig .tc .vmem S1x128 .f32) (harg8 : arg8.IsWhole) (arg9 : Memref sig .tc .vmem S8x128 .f32) (harg9 : arg9.IsWhole) (arg10 : Memref sig .tc .vmem S2176x256 .bf16) (harg10 : arg10.IsWhole) (arg11 : Memref sig .tc .vmem S2176x256 .bf16) (harg11 : arg11.IsWhole) (arg12 : Memref sig .tc .vmem S2176x256 .bf16) (harg12 : arg12.IsWhole) (arg13 : Memref sig .tc .vmem S2176x256 .bf16) (harg13 : arg13.IsWhole) (arg14 : Memref sig .tc .vmem S2176x256 .f32) (harg14 : arg14.IsWhole) (arg15 : Memref sig .tc .vmem S2176x256 .f32) (harg15 : arg15.IsWhole) (arg16 : Memref sig .tc .vmem S2176x256 .f32) (harg16 : arg16.IsWhole) (arg17 : Memref sig .tc .vmem S2176x256 .f32) (harg17 : arg17.IsWhole) (arg18 : Memref sig .tc .vmem S1x512 .f32) (harg18 : arg18.IsWhole) (arg19 : Memref sig .tc .vmem S1x128 .f32) (harg19 : arg19.IsWhole) (arg20 : Memref sig .tc .vmem S2x128x256 .f32) (harg20 : arg20.IsWhole) (arg21 : Memref sig .tc .vmem S512x256 .f32) (harg21 : arg21.IsWhole) (arg22 : Memref sig .tc .vmem S512x256 .f32) (harg22 : arg22.IsWhole) (arg23 : Memref sig .tc .vmem S512x256 .bf16) (harg23 : arg23.IsWhole) (arg24 : Memref sig .tc .vmem S512x256 .bf16) (harg24 : arg24.IsWhole)
    (x0 : Vec F S2048x768 .bf16) (x1 : Vec F S2048x512 .bf16) (x2 : Vec F S1x512 .f32) (x3 : Vec F S1x128 .f32) (x4 : Vec F S1x8 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)) -∗ K ⟨⟩))
      ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0_attn_bwd_eq_skeleton]; unfold cc0_attn_bwd_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  iexists _, _; isplitr; swap; · iexact H23
  ipureintro; rfl

/-- A scratch buffer of the call. -/
abbrev sc0 : Memref sig .tc .vmem S2176x256 .bf16 := Memref.whole cc0_scratch0
/-- A scratch buffer of the call. -/
abbrev sc1 : Memref sig .tc .vmem S2176x256 .bf16 := Memref.whole cc0_scratch1
/-- A scratch buffer of the call. -/
abbrev sc2 : Memref sig .tc .vmem S2176x256 .bf16 := Memref.whole cc0_scratch2
/-- A scratch buffer of the call. -/
abbrev sc3 : Memref sig .tc .vmem S2176x256 .bf16 := Memref.whole cc0_scratch3
/-- A scratch buffer of the call. -/
abbrev sc4 : Memref sig .tc .vmem S2176x256 .f32 := Memref.whole cc0_scratch4
/-- A scratch buffer of the call. -/
abbrev sc5 : Memref sig .tc .vmem S2176x256 .f32 := Memref.whole cc0_scratch5
/-- A scratch buffer of the call. -/
abbrev sc6 : Memref sig .tc .vmem S2176x256 .f32 := Memref.whole cc0_scratch6
/-- A scratch buffer of the call. -/
abbrev sc7 : Memref sig .tc .vmem S2176x256 .f32 := Memref.whole cc0_scratch7
/-- A scratch buffer of the call. -/
abbrev sc8 : Memref sig .tc .vmem S1x512 .f32 := Memref.whole cc0_scratch8
/-- A scratch buffer of the call. -/
abbrev sc9 : Memref sig .tc .vmem S1x128 .f32 := Memref.whole cc0_scratch9
/-- A scratch buffer of the call. -/
abbrev sc10 : Memref sig .tc .vmem S2x128x256 .f32 := Memref.whole cc0_scratch10
/-- A scratch buffer of the call. -/
abbrev sc11 : Memref sig .tc .vmem S512x256 .f32 := Memref.whole cc0_scratch11
/-- A scratch buffer of the call. -/
abbrev sc12 : Memref sig .tc .vmem S512x256 .f32 := Memref.whole cc0_scratch12
/-- A scratch buffer of the call. -/
abbrev sc13 : Memref sig .tc .vmem S512x256 .bf16 := Memref.whole cc0_scratch13
/-- A scratch buffer of the call. -/
abbrev sc14 : Memref sig .tc .vmem S512x256 .bf16 := Memref.whole cc0_scratch14

/-- What the region lends the body beside the windows: the scratch at any contents and the generator's register. -/
theorem scratch_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d) ∗ (∃ d, owns (c : Thread nD τ) sc12 fullShare d) ∗ (∃ d, owns (c : Thread nD τ) sc13 fullShare d) ∗ (∃ d, owns (c : Thread nD τ) sc14 fullShare d)) ∗ (∃ r, prngReg c r)) := by
  unfold Pipeline.ΦA; rw [scopedRest0_eq]; simp only [sc0, sc1, sc2, sc3, sc4, sc5, sc6, sc7, sc8, sc9, sc10, sc11, sc12, sc13, sc14, owns_whole]; try rfl

variable (m : (ℓ : Loc nD τ sig) → Buf (Elt F) ℓ) (ρ : Dev nD → PrngReg)

/-- The windows whose contents the frame does not name: the results. -/
def results : Fin 9 → Bool := fun w => w.val == 5 || w.val == 6 || w.val == 7 || w.val == 8

/-- The proof data: the arrays as the region finds them; each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

/-- The arrays are the region's entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]; try rfl
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]; try rfl
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]; try rfl
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]; try rfl
theorem before3 (c : Dev nD) (t : Fin cfg0.N) (d) : (dats m 0 c).before 3 t d = iblk m c 3 t :=
  before0_3_of m (dats m 0 c) (A_eq m c 3) (after3 m c) t d
theorem after4 (c : Dev nD) (t : Fin cfg0.N) : (dats m 0 c).after 4 t = iblk m c 4 t := by dsimp only [dats]; try rfl
theorem before4 (c : Dev nD) (t : Fin cfg0.N) (d) : (dats m 0 c).before 4 t d = iblk m c 4 t :=
  before0_4_of m (dats m 0 c) (A_eq m c 4) (after4 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d)
    ∗ (∃ d, owns (c : Thread nD τ) (st0_6 t) fullShare d)
    ∗ (∃ d, owns (c : Thread nD τ) (st0_7 t) fullShare d)
    ∗ (∃ d, owns (c : Thread nD τ) (st0_8 t) fullShare d))

/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).Φ t.succ = (dats m 0 c).Φ t.castSucc from rfl,
    show (dats m 0 c).owesAt () t.succ = (dats m 0 c).owesAt () t.castSucc from rfl,
    after0, after1, after2, after3, after4]
  rw [show (dats m 0 c).Φ t.castSucc = (Pipeline.ΦA spec0 c : sProp 𝕄) from rfl, scratch_eq]
  iintro ⟨⟨⟨S0, S1, S2, S3, S4, S5, S6, S7, S8, S9, S10, S11, S12, S13, S14⟩, Hr⟩, Ho, ⟨%d0, H0⟩, ⟨%d1, H1⟩, ⟨%d2, H2⟩, ⟨%d3, H3⟩, ⟨%d4, H4⟩, H5, H6, H7, H8⟩
  iapply (run c (grid0.coords t) _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  iintro ⟨H0, H1, H2, H3, H4, H5, H6, H7, H8, S0, S1, S2, S3, S4, S5, S6, S7, S8, S9, S10, S11, S12, S13, S14⟩
  isplitl [S0 S1 S2 S3 S4 S5 S6 S7 S8 S9 S10 S11 S12 S13 S14 Hr]
  · isplitl [S0 S1 S2 S3 S4 S5 S6 S7 S8 S9 S10 S11 S12 S13 S14]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      iexact S14
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body's entry in the table is the body as it is called at a grid point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ results := fun t => by
  rw [bigSep_W0, bigSep_W0, row]
  exact triple_restated (sound_body m c t) rfl .rfl fun _ => .rfl

set_option backward.isDefEq.respectTransparency.types false in
set_option maxHeartbeats 8000000 in
/-- The whole program ends with its input arrays unchanged and every semaphore at zero. -/
theorem quiescent : θ_run defs (onTc (τ := τ) (main (F := F))) (s₀ m ρ) (fun r => (Pipeline.RDat.FramePost (cfgs 0) (fun c => (dats m 0 c).toRForget results) (V m)) r ∧ r.2.sem = fun _ => 0) :=
  Pipeline.θ_run_frame_forget (Q' := _) cfgs (dats m) (0 : Fin 1) launch0 defs₀ Variants.none results m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame claim. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ hh => ⟨fun c => by
    have h := hh.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 4 rfl).trans ((A_eq m c 4).trans (V_main_arg5 m c)),
      ((h c).2 main_arg6 (Pipeline.mem_restRefs_of main_arg6 (by decide) (by decide))).trans (V_main_arg6 m c)⟩, hh.2⟩) (quiescent m ρ)

end Cert.Proof.AttBI

end
-- ==== Proof.AttBIClaims.lean ====
/- The frame of the attention's backward call, as it is printed and idealized. -/
module

public import proofs.«01_k».proof.Defs
public import proofs.«01_k».proof.Proof.AttBIFrame
public import proofs.«01_k».proof.Proof.Gen.KernelAttB

@[expose] public section

set_option maxRecDepth 16384

noncomputable section

namespace Cert.Proof.AttBI

open Idealize.ShloMosaic Idealize.SL Idealize.SL.Sem

/-- The frame of the idealized program. -/
theorem frameI : Cert.quiescent_KernelAttBIdeal (hKernelAttBIdeal := Cert.KernelAttBIdeal.Gen.facts) :=
  fun m ρ _ => frame_claim (F := Ideal) m ρ

/-- The two programs' calls are one. -/
theorem defs_eq : (Cert.KernelAttBIdeal.defs (F := Bits)) = (Cert.KernelAttB.defs (F := Bits)) := by
  sl_kernel_rfl

/-- The two programs' host code is one. -/
theorem main_eq : (Cert.KernelAttBIdeal.main (F := Bits)) = (Cert.KernelAttB.main (F := Bits)) := by
  sl_kernel_rfl

/-- The frame of the program as it is printed: it is the same program, over the machine's numbers. -/
theorem frameK : Cert.quiescent_KernelAttB (hKernelAttB := Cert.KernelAttB.Gen.facts) := fun m ρ _ => by
  have h := frame_claim (F := Bits) m ρ
  rw [defs_eq, main_eq] at h
  exact h

end Cert.Proof.AttBI

end
-- ==== Proof.AttFIFrame.lean ====
/- The frame of the attention's forward call. -/
module

public import proofs.«01_k».proof.Proof.Gen.KernelAttFIdeal.Frame
public import proofs.«01_k».proof.Proof.Gen.KernelAttFIdeal.Loops
public import Idealize.ShloMosaic.Lib.Claim

@[expose] public section

set_option maxRecDepth 16384

noncomputable section

namespace Cert.Proof.AttFI

open Cert.KernelAttFIdeal Cert.KernelAttFIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 40000000 in
/-- The call's body on whole buffers: the inputs at their contents, the results and the scratch at any. It ends with
    the inputs as they were and the rest at some contents. -/
theorem run (c : Dev nD) (i : grid0.Coords) (arg1 : Memref sig .tc .vmem S2048x768 .bf16) (harg1 : arg1.IsWhole) (arg2 : Memref sig .tc .vmem S1x512 .f32) (harg2 : arg2.IsWhole) (arg3 : Memref sig .tc .vmem S1x128 .f32) (harg3 : arg3.IsWhole) (arg4 : Memref sig .tc .smem S1x8 .f32) (harg4 : arg4.IsWhole) (arg5 : Memref sig .tc .vmem S2048x512 .bf16) (harg5 : arg5.IsWhole) (arg6 : Memref sig .tc .vmem S2176x256 .bf16) (harg6 : arg6.IsWhole) (arg7 : Memref sig .tc .vmem S2176x256 .bf16) (harg7 : arg7.IsWhole) (arg8 : Memref sig .tc .vmem S2176x256 .bf16) (harg8 : arg8.IsWhole) (arg9 : Memref sig .tc .vmem S2176x256 .bf16) (harg9 : arg9.IsWhole) (arg10 : Memref sig .tc .vmem S2x128x256 .f32) (harg10 : arg10.IsWhole) (arg11 : Memref sig .tc .vmem S512x256 .f32) (harg11 : arg11.IsWhole) (arg12 : Memref sig .tc .vmem S512x256 .bf16) (harg12 : arg12.IsWhole)
    (x0 : Vec F S2048x768 .bf16) (x1 : Vec F S1x512 .f32) (x2 : Vec F S1x128 .f32) (x3 : Vec F S1x8 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attn_fwd i arg1 harg1 arg2 harg2 arg3 harg3 arg4 harg4 arg5 harg5 arg6 harg6 arg7 harg7 arg8 harg8 arg9 harg9 arg10 harg10 arg11 harg11 arg12 harg12) K := by
  simp only [cc0_attn_fwd_eq_skeleton]; unfold cc0_attn_fwd_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

/-- A scratch buffer of the call. -/
abbrev sc0 : Memref sig .tc .vmem S2176x256 .bf16 := Memref.whole cc0_scratch0
/-- A scratch buffer of the call. -/
abbrev sc1 : Memref sig .tc .vmem S2176x256 .bf16 := Memref.whole cc0_scratch1
/-- A scratch buffer of the call. -/
abbrev sc2 : Memref sig .tc .vmem S2176x256 .bf16 := Memref.whole cc0_scratch2
/-- A scratch buffer of the call. -/
abbrev sc3 : Memref sig .tc .vmem S2176x256 .bf16 := Memref.whole cc0_scratch3
/-- A scratch buffer of the call. -/
abbrev sc4 : Memref sig .tc .vmem S2x128x256 .f32 := Memref.whole cc0_scratch4
/-- A scratch buffer of the call. -/
abbrev sc5 : Memref sig .tc .vmem S512x256 .f32 := Memref.whole cc0_scratch5
/-- A scratch buffer of the call. -/
abbrev sc6 : Memref sig .tc .vmem S512x256 .bf16 := Memref.whole cc0_scratch6

/-- What the region lends the body beside the windows: the scratch at any contents and the generator's register. -/
theorem scratch_eq (c : Dev nD) : (Pipeline.ΦA spec0 c : sProp 𝕄) = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)) := by
  unfold Pipeline.ΦA; rw [scopedRest0_eq]; simp only [sc0, sc1, sc2, sc3, sc4, sc5, sc6, owns_whole]; try rfl

variable (m : (ℓ : Loc nD τ sig) → Buf (Elt F) ℓ) (ρ : Dev nD → PrngReg)

/-- The windows whose contents the frame does not name: the results. -/
def results : Fin 5 → Bool := fun w => w.val == 4

/-- The proof data: the arrays as the region finds them; each input's buffer keeps its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The arrays are the region's entry contents. -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]; try rfl
theorem before0 (c : Dev nD) (t : Fin cfg0.N) (d) : (dats m 0 c).before 0 t d = iblk m c 0 t :=
  before0_0_of m (dats m 0 c) (A_eq m c 0) (after0 m c) t d
theorem after1 (c : Dev nD) (t : Fin cfg0.N) : (dats m 0 c).after 1 t = iblk m c 1 t := by dsimp only [dats]; try rfl
theorem before1 (c : Dev nD) (t : Fin cfg0.N) (d) : (dats m 0 c).before 1 t d = iblk m c 1 t :=
  before0_1_of m (dats m 0 c) (A_eq m c 1) (after1 m c) t d
theorem after2 (c : Dev nD) (t : Fin cfg0.N) : (dats m 0 c).after 2 t = iblk m c 2 t := by dsimp only [dats]; try rfl
theorem before2 (c : Dev nD) (t : Fin cfg0.N) (d) : (dats m 0 c).before 2 t d = iblk m c 2 t :=
  before0_2_of m (dats m 0 c) (A_eq m c 2) (after2 m c) t d
theorem after3 (c : Dev nD) (t : Fin cfg0.N) : (dats m 0 c).after 3 t = iblk m c 3 t := by dsimp only [dats]; try rfl
theorem before3 (c : Dev nD) (t : Fin cfg0.N) (d) : (dats m 0 c).before 3 t d = iblk m c 3 t :=
  before0_3_of m (dats m 0 c) (A_eq m c 3) (after3 m c) t d

/-- What the body is called with at a grid point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d))

/-- The body at a grid point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  rw [show (dats m 0 c).Φ t.castSucc = (Pipeline.ΦA spec0 c : sProp 𝕄) from rfl, scratch_eq]
  iintro ⟨⟨⟨S0, S1, S2, S3, S4, S5, S6⟩, Hr⟩, Ho, ⟨%d0, H0⟩, ⟨%d1, H1⟩, ⟨%d2, H2⟩, ⟨%d3, H3⟩, H4⟩
  iapply (run c (grid0.coords t) _ _ _ _ _ _ _ _ _ _ _ _ _ _ _ _ _ _ _ _ _ _ _ _ (iblk m c 0 t) (iblk m c 1 t) (iblk m c 2 t) (iblk m c 3 t) Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  isplitl [S3]; · iexact S3
  isplitl [S4]; · iexact S4
  isplitl [S5]; · iexact S5
  isplitl [S6]; · iexact S6
  iintro ⟨H0, H1, H2, H3, H4, S0, S1, S2, S3, S4, S5, S6⟩
  isplitl [S0 S1 S2 S3 S4 S5 S6 Hr]
  · isplitl [S0 S1 S2 S3 S4 S5 S6]
    · isplitl [S0]; · iexact S0
      isplitl [S1]; · iexact S1
      isplitl [S2]; · iexact S2
      isplitl [S3]; · iexact S3
      isplitl [S4]; · iexact S4
      isplitl [S5]; · iexact S5
      iexact S6
    iexact Hr
  isplitl [Ho]; · iexact Ho
  isplitl [H0]; · iexact H0
  isplitl [H1]; · iexact H1
  isplitl [H2]; · iexact H2
  isplitl [H3]; · iexact H3
  iexact H4

/-- The body's entry in the table is the body as it is called at a grid point. -/
theorem row (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ results := fun t => by
  rw [bigSep_W0, bigSep_W0, row]
  exact triple_restated (sound_body m c t) rfl .rfl fun _ => .rfl

set_option backward.isDefEq.respectTransparency.types false in
set_option maxHeartbeats 8000000 in
/-- The whole program ends with its input arrays unchanged and every semaphore at zero. -/
theorem quiescent : θ_run defs (onTc (τ := τ) (main (F := F))) (s₀ m ρ) (fun r => (Pipeline.RDat.FramePost (cfgs 0) (fun c => (dats m 0 c).toRForget results) (V m)) r ∧ r.2.sem = fun _ => 0) :=
  Pipeline.θ_run_frame_forget (Q' := _) cfgs (dats m) (0 : Fin 1) launch0 defs₀ Variants.none results m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame claim. -/
theorem frame_claim : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun _ hh => ⟨fun c => by
    have h := hh.1
    exact ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      (Pipeline.RDat.FramePost.arr_in h c 3 rfl).trans ((A_eq m c 3).trans (V_main_arg5 m c))⟩, hh.2⟩) (quiescent m ρ)

end Cert.Proof.AttFI

end
-- ==== Proof.AttFIClaims.lean ====
/- The frame of the attention's forward call, as it is printed and idealized. -/
module

public import proofs.«01_k».proof.Defs
public import proofs.«01_k».proof.Proof.AttFIFrame
public import proofs.«01_k».proof.Proof.Gen.KernelAttF

@[expose] public section

set_option maxRecDepth 16384

noncomputable section

namespace Cert.Proof.AttFI

open Idealize.ShloMosaic Idealize.SL Idealize.SL.Sem

/-- The frame of the idealized program. -/
theorem frameI : Cert.quiescent_KernelAttFIdeal (hKernelAttFIdeal := Cert.KernelAttFIdeal.Gen.facts) :=
  fun m ρ _ => frame_claim (F := Ideal) m ρ

/-- The two programs' calls are one. -/
theorem defs_eq : (Cert.KernelAttFIdeal.defs (F := Bits)) = (Cert.KernelAttF.defs (F := Bits)) := by
  sl_kernel_rfl

/-- The two programs' host code is one. -/
theorem main_eq : (Cert.KernelAttFIdeal.main (F := Bits)) = (Cert.KernelAttF.main (F := Bits)) := by
  sl_kernel_rfl

/-- The frame of the program as it is printed: it is the same program, over the machine's numbers. -/
theorem frameK : Cert.quiescent_KernelAttF (hKernelAttF := Cert.KernelAttF.Gen.facts) := fun m ρ _ => by
  have h := frame_claim (F := Bits) m ρ
  rw [defs_eq, main_eq] at h
  exact h

end Cert.Proof.AttFI

end
-- ==== Proof.lean ====
/- The proof of the certificate's claims: each call's claims stand in a module of their own. -/
module

public import proofs.«01_k».proof.Defs
public import proofs.«01_k».proof.Proof.LossClaims
public import proofs.«01_k».proof.Proof.SguClaims
public import proofs.«01_k».proof.Proof.DxClaims
public import proofs.«01_k».proof.Proof.DxMClaims
public import proofs.«01_k».proof.Proof.MixClaims
public import proofs.«01_k».proof.Proof.FfnClaims
public import proofs.«01_k».proof.Proof.AdaClaims
public import proofs.«01_k».proof.Proof.NormClaims
public import proofs.«01_k».proof.Proof.UpClaims
public import proofs.«01_k».proof.Proof.DownClaims
public import proofs.«01_k».proof.Proof.MixFClaims
public import proofs.«01_k».proof.Proof.SguFClaims
public import proofs.«01_k».proof.Proof.AdaFClaims
public import proofs.«01_k».proof.Proof.ProjClaims
public import proofs.«01_k».proof.Proof.MmTnClaims
public import proofs.«01_k».proof.Proof.AdamWClaims
public import proofs.«01_k».proof.Proof.SumClaims
public import proofs.«01_k».proof.Proof.PairClaims
public import proofs.«01_k».proof.Proof.Gen.KernelLoss.Frame
public import proofs.«01_k».proof.Proof.Gen.KernelLossIdeal.Frame
public import proofs.«01_k».proof.Proof.Gen.ReferenceLossIdeal.Run
public import proofs.«01_k».proof.Proof.Gen.KernelSgu.Frame
public import proofs.«01_k».proof.Proof.Gen.KernelSguIdeal.Frame
public import proofs.«01_k».proof.Proof.Gen.ReferenceSguIdeal.Run
public import proofs.«01_k».proof.Proof.Gen.Pre_finite_sgu
public import proofs.«01_k».proof.Proof.Gen.KernelDx.Frame
public import proofs.«01_k».proof.Proof.Gen.KernelDxIdeal.Frame
public import proofs.«01_k».proof.Proof.Gen.ReferenceDxIdeal.Run
public import proofs.«01_k».proof.Proof.Gen.Pre_finite_dx
public import proofs.«01_k».proof.Proof.Gen.KernelDxM.Frame
public import proofs.«01_k».proof.Proof.Gen.KernelDxMIdeal.Frame
public import proofs.«01_k».proof.Proof.Gen.ReferenceDxMIdeal.Run
public import proofs.«01_k».proof.Proof.Gen.Pre_finite_dxm
public import proofs.«01_k».proof.Proof.Gen.KernelMix.Frame
public import proofs.«01_k».proof.Proof.Gen.KernelMixIdeal.Frame
public import proofs.«01_k».proof.Proof.Gen.ReferenceMixIdeal.Run
public import proofs.«01_k».proof.Proof.Gen.Pre_finite_mix
public import proofs.«01_k».proof.Proof.Gen.KernelFfn.Frame
public import proofs.«01_k».proof.Proof.Gen.KernelFfnIdeal.Frame
public import proofs.«01_k».proof.Proof.Gen.ReferenceFfnIdeal.Run
public import proofs.«01_k».proof.Proof.Gen.Pre_finite_ffn
public import proofs.«01_k».proof.Proof.Gen.KernelAda.Frame
public import proofs.«01_k».proof.Proof.Gen.KernelAdaIdeal.Frame
public import proofs.«01_k».proof.Proof.Gen.ReferenceAdaIdeal.Run
public import proofs.«01_k».proof.Proof.Gen.KernelNorm.Frame
public import proofs.«01_k».proof.Proof.Gen.KernelNormIdeal.Frame
public import proofs.«01_k».proof.Proof.Gen.ReferenceNormIdeal.Run
public import proofs.«01_k».proof.Proof.Gen.KernelUp.Frame
public import proofs.«01_k».proof.Proof.Gen.KernelUpIdeal.Frame
public import proofs.«01_k».proof.Proof.Gen.ReferenceUpIdeal.Run
public import proofs.«01_k».proof.Proof.Gen.Pre_finite_up
public import proofs.«01_k».proof.Proof.Gen.KernelDown.Frame
public import proofs.«01_k».proof.Proof.Gen.KernelDownIdeal.Frame
public import proofs.«01_k».proof.Proof.Gen.ReferenceDownIdeal.Run
public import proofs.«01_k».proof.Proof.Gen.KernelMixF.Frame
public import proofs.«01_k».proof.Proof.Gen.KernelMixFIdeal.Frame
public import proofs.«01_k».proof.Proof.Gen.ReferenceMixFIdeal.Run
public import proofs.«01_k».proof.Proof.Gen.KernelSguF.Frame
public import proofs.«01_k».proof.Proof.Gen.KernelSguFIdeal.Frame
public import proofs.«01_k».proof.Proof.Gen.ReferenceSguFIdeal.Run
public import proofs.«01_k».proof.Proof.Gen.KernelAdaF.Frame
public import proofs.«01_k».proof.Proof.Gen.KernelAdaFIdeal.Frame
public import proofs.«01_k».proof.Proof.Gen.ReferenceAdaFIdeal.Run
public import proofs.«01_k».proof.Proof.Gen.KernelProj.Frame
public import proofs.«01_k».proof.Proof.Gen.KernelProjIdeal.Frame
public import proofs.«01_k».proof.Proof.Gen.ReferenceProjIdeal.Run
public import proofs.«01_k».proof.Proof.Gen.KernelMmTn.Frame
public import proofs.«01_k».proof.Proof.Gen.KernelMmTnIdeal.Frame
public import proofs.«01_k».proof.Proof.Gen.ReferenceMmTnIdeal.Run
public import proofs.«01_k».proof.Proof.Gen.KernelAdamW.Frame
public import proofs.«01_k».proof.Proof.Gen.KernelAdamWIdeal.Frame
public import proofs.«01_k».proof.Proof.Gen.ReferenceAdamWIdeal.Run
public import proofs.«01_k».proof.Proof.Gen.KernelSum.Frame
public import proofs.«01_k».proof.Proof.Gen.KernelSumIdeal.Frame
public import proofs.«01_k».proof.Proof.Gen.ReferenceSumIdeal.Run
public import proofs.«01_k».proof.Proof.Gen.KernelPair.Frame
public import proofs.«01_k».proof.Proof.Gen.KernelPairIdeal.Frame
public import proofs.«01_k».proof.Proof.Gen.ReferencePairIdeal.Run
public import proofs.«01_k».proof.Proof.Gen.Pre_half_pairs
public import proofs.«01_k».proof.Proof.AttBIClaims
public import proofs.«01_k».proof.Proof.AttFIClaims
public import Idealize.ShloMosaic.Adequacy
public import Idealize.ShloMosaic.Init

@[expose] public section

noncomputable section

namespace Cert.Proof

open Idealize.ShloMosaic Idealize.SL.Sem

theorem claim : Cert.Claim :=
  ⟨Cert.KernelLoss.Gen.facts, Cert.KernelLossIdeal.Gen.facts, Cert.ReferenceLossIdeal.Gen.facts,
    Cert.KernelSgu.Gen.facts, Cert.KernelSguIdeal.Gen.facts, Cert.ReferenceSguIdeal.Gen.facts,
    Cert.KernelDx.Gen.facts, Cert.KernelDxIdeal.Gen.facts, Cert.ReferenceDxIdeal.Gen.facts,
    Cert.KernelDxM.Gen.facts, Cert.KernelDxMIdeal.Gen.facts, Cert.ReferenceDxMIdeal.Gen.facts,
    Cert.KernelMix.Gen.facts, Cert.KernelMixIdeal.Gen.facts, Cert.ReferenceMixIdeal.Gen.facts,
    Cert.KernelFfn.Gen.facts, Cert.KernelFfnIdeal.Gen.facts, Cert.ReferenceFfnIdeal.Gen.facts,
    Cert.KernelAda.Gen.facts, Cert.KernelAdaIdeal.Gen.facts, Cert.ReferenceAdaIdeal.Gen.facts,
    Cert.KernelNorm.Gen.facts, Cert.KernelNormIdeal.Gen.facts, Cert.ReferenceNormIdeal.Gen.facts,
    Cert.KernelUp.Gen.facts, Cert.KernelUpIdeal.Gen.facts, Cert.ReferenceUpIdeal.Gen.facts,
    Cert.KernelDown.Gen.facts, Cert.KernelDownIdeal.Gen.facts, Cert.ReferenceDownIdeal.Gen.facts,
    Cert.KernelMixF.Gen.facts, Cert.KernelMixFIdeal.Gen.facts, Cert.ReferenceMixFIdeal.Gen.facts,
    Cert.KernelSguF.Gen.facts, Cert.KernelSguFIdeal.Gen.facts, Cert.ReferenceSguFIdeal.Gen.facts,
    Cert.KernelAdaF.Gen.facts, Cert.KernelAdaFIdeal.Gen.facts, Cert.ReferenceAdaFIdeal.Gen.facts,
    Cert.KernelProj.Gen.facts, Cert.KernelProjIdeal.Gen.facts, Cert.ReferenceProjIdeal.Gen.facts,
    Cert.KernelMmTn.Gen.facts, Cert.KernelMmTnIdeal.Gen.facts, Cert.ReferenceMmTnIdeal.Gen.facts,
    Cert.KernelAdamW.Gen.facts, Cert.KernelAdamWIdeal.Gen.facts, Cert.ReferenceAdamWIdeal.Gen.facts,
    Cert.KernelSum.Gen.facts, Cert.KernelSumIdeal.Gen.facts, Cert.ReferenceSumIdeal.Gen.facts,
    Cert.KernelPair.Gen.facts, Cert.KernelPairIdeal.Gen.facts, Cert.ReferencePairIdeal.Gen.facts,
    Cert.KernelAttB.Gen.facts, Cert.KernelAttBIdeal.Gen.facts,
    Cert.KernelAttF.Gen.facts, Cert.KernelAttFIdeal.Gen.facts,
    Cert.Pre_finite_sgu.Gen.facts, Cert.Pre_finite_dx.Gen.facts, Cert.Pre_finite_dxm.Gen.facts, Cert.Pre_finite_mix.Gen.facts, Cert.Pre_finite_ffn.Gen.facts, Cert.Pre_finite_up.Gen.facts, Cert.Pre_half_pairs.Gen.facts,
    fun m g _ => Cert.KernelLoss.Gen.frame m g, fun m g _ => Cert.KernelLossIdeal.Gen.frame m g, Loss.frameR,
    fun m g _ => Cert.KernelSgu.Gen.frame m g, fun m g _ => Cert.KernelSguIdeal.Gen.frame m g, fun m g _ => Cert.KernelSguIdeal.Gen.frame m g,
    Sgu.frameR, Sgu.frameR_finite,
    fun m g _ => Cert.KernelDx.Gen.frame m g, fun m g _ => Cert.KernelDxIdeal.Gen.frame m g, fun m g _ => Cert.KernelDxIdeal.Gen.frame m g,
    DxFfn.frameR, DxFfn.frameR_finite,
    fun m g _ => Cert.KernelDxM.Gen.frame m g, fun m g _ => Cert.KernelDxMIdeal.Gen.frame m g, fun m g _ => Cert.KernelDxMIdeal.Gen.frame m g,
    DxMix.frameR, DxMix.frameR_finite,
    fun m g _ => Cert.KernelMix.Gen.frame m g, fun m g _ => Cert.KernelMixIdeal.Gen.frame m g, fun m g _ => Cert.KernelMixIdeal.Gen.frame m g,
    Mix.frameR, Mix.frameR_finite,
    fun m g _ => Cert.KernelFfn.Gen.frame m g, fun m g _ => Cert.KernelFfnIdeal.Gen.frame m g, fun m g _ => Cert.KernelFfnIdeal.Gen.frame m g,
    Ffn.frameR, Ffn.frameR_finite,
    fun m g _ => Cert.KernelAda.Gen.frame m g, fun m g _ => Cert.KernelAdaIdeal.Gen.frame m g, Ada.frameR,
    fun m g _ => Cert.KernelNorm.Gen.frame m g, fun m g _ => Cert.KernelNormIdeal.Gen.frame m g, Norm.frameR,
    fun m g _ => Cert.KernelUp.Gen.frame m g, fun m g _ => Cert.KernelUpIdeal.Gen.frame m g, fun m g _ => Cert.KernelUpIdeal.Gen.frame m g,
    Up.frameR, Up.frameR_finite,
    fun m g _ => Cert.KernelDown.Gen.frame m g, fun m g _ => Cert.KernelDownIdeal.Gen.frame m g, Down.frameR,
    fun m g _ => Cert.KernelMixF.Gen.frame m g, fun m g _ => Cert.KernelMixFIdeal.Gen.frame m g, MixF.frameR,
    fun m g _ => Cert.KernelSguF.Gen.frame m g, fun m g _ => Cert.KernelSguFIdeal.Gen.frame m g, SguF.frameR,
    fun m g _ => Cert.KernelAdaF.Gen.frame m g, fun m g _ => Cert.KernelAdaFIdeal.Gen.frame m g, AdaF.frameR,
    fun m g _ => Cert.KernelProj.Gen.frame m g, fun m g _ => Cert.KernelProjIdeal.Gen.frame m g, Proj.frameR,
    fun m g _ => Cert.KernelMmTn.Gen.frame m g, fun m g _ => Cert.KernelMmTnIdeal.Gen.frame m g, MmTn.frameR,
    fun m g _ => Cert.KernelAdamW.Gen.frame m g, fun m g _ => Cert.KernelAdamWIdeal.Gen.frame m g, AdamW.frameR,
    fun m g _ => Cert.KernelSum.Gen.frame m g, fun m g _ => Cert.KernelSumIdeal.Gen.frame m g, Sum.frameR,
    Pair.frameP, Pair.frameI, Pair.frameR,
    AttBI.frameK, AttBI.frameI,
    AttFI.frameK, AttFI.frameI,
    trivial, Loss.algebraic, Sgu.preserves, Sgu.algebraic, trivial, DxFfn.algebraic, trivial, DxMix.algebraic, trivial, Mix.algebraic, trivial, Ffn.algebraic, trivial, Ada.algebraic, trivial, Norm.algebraic, trivial, Up.algebraic, trivial, Down.algebraic, trivial, MixF.algebraic, SguF.preserves, SguF.algebraic, trivial, AdaF.algebraic, trivial, Proj.algebraic, trivial, MmTn.algebraic, AdamW.preserves, AdamW.algebraic, trivial, Sum.algebraic, trivial, Pair.algebraic, trivial, trivial⟩

end Cert.Proof

end
